-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))).1 = (fun _ => 1#1)
    ∧ (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))).2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))).1 = (fun _ => 1#1)
    ∧ (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))).2 = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).2.2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).2.2.2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.2.2.2 = (fun _ => 1#1)

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_InC (m : (ℓ : Loc Cert.InC.nD Cert.InC.τ Cert.InC.sig) → Buf (Elt Bits) ℓ) : Prop :=
  True

def Pre_InCIdeal (m : (ℓ : Loc Cert.InCIdeal.nD Cert.InCIdeal.τ Cert.InCIdeal.sig) → Buf (Elt Ideal) ℓ) : Prop :=
  True

def Pre_InCRefIdeal (m : (ℓ : Loc Cert.InCRefIdeal.nD Cert.InCRefIdeal.τ Cert.InCRefIdeal.sig) → Buf (Elt Ideal) ℓ) : Prop :=
  True

def Pre_InD (m : (ℓ : Loc Cert.InD.nD Cert.InD.τ Cert.InD.sig) → Buf (Elt Bits) ℓ) : Prop :=
  True

def Pre_InDIdeal (m : (ℓ : Loc Cert.InDIdeal.nD Cert.InDIdeal.τ Cert.InDIdeal.sig) → Buf (Elt Ideal) ℓ) : Prop :=
  True

def Pre_InDRefIdeal (m : (ℓ : Loc Cert.InDRefIdeal.nD Cert.InDRefIdeal.τ Cert.InDRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Kvb (m : (ℓ : Loc Cert.Kvb.nD Cert.Kvb.τ Cert.Kvb.sig) → Buf (Elt Bits) ℓ) : Prop :=
  True

def Pre_KvbIdeal (m : (ℓ : Loc Cert.KvbIdeal.nD Cert.KvbIdeal.τ Cert.KvbIdeal.sig) → Buf (Elt Ideal) ℓ) : Prop :=
  True

def Pre_KvbRefIdeal (m : (ℓ : Loc Cert.KvbRefIdeal.nD Cert.KvbRefIdeal.τ Cert.KvbRefIdeal.sig) → Buf (Elt Ideal) ℓ) : Prop :=
  True

def Pre_KvCtx (m : (ℓ : Loc Cert.KvCtx.nD Cert.KvCtx.τ Cert.KvCtx.sig) → Buf (Elt Bits) ℓ) : Prop :=
  True

def Pre_KvCtxIdeal (m : (ℓ : Loc Cert.KvCtxIdeal.nD Cert.KvCtxIdeal.τ Cert.KvCtxIdeal.sig) → Buf (Elt Ideal) ℓ) : Prop :=
  True

def Pre_KvCtxRefIdeal (m : (ℓ : Loc Cert.KvCtxRefIdeal.nD Cert.KvCtxRefIdeal.τ Cert.KvCtxRefIdeal.sig) → Buf (Elt Ideal) ℓ) : Prop :=
  True

def Pre_GdnPrep (m : (ℓ : Loc Cert.GdnPrep.nD Cert.GdnPrep.τ Cert.GdnPrep.sig) → Buf (Elt Bits) ℓ) : Prop :=
  True

def Pre_GdnPrepIdeal (m : (ℓ : Loc Cert.GdnPrepIdeal.nD Cert.GdnPrepIdeal.τ Cert.GdnPrepIdeal.sig) → Buf (Elt Ideal) ℓ) : Prop :=
  True

def Pre_GdnPrepRefIdeal (m : (ℓ : Loc Cert.GdnPrepRefIdeal.nD Cert.GdnPrepRefIdeal.τ Cert.GdnPrepRefIdeal.sig) → Buf (Elt Ideal) ℓ) : Prop :=
  True

def Pre_GdnPost (m : (ℓ : Loc Cert.GdnPost.nD Cert.GdnPost.τ Cert.GdnPost.sig) → Buf (Elt Bits) ℓ) : Prop :=
  True

def Pre_GdnPostIdeal (m : (ℓ : Loc Cert.GdnPostIdeal.nD Cert.GdnPostIdeal.τ Cert.GdnPostIdeal.sig) → Buf (Elt Ideal) ℓ) : Prop :=
  True

def Pre_GdnPostRefIdeal (m : (ℓ : Loc Cert.GdnPostRefIdeal.nD Cert.GdnPostRefIdeal.τ Cert.GdnPostRefIdeal.sig) → Buf (Elt Ideal) ℓ) : Prop :=
  True

def Pre_GdnBg (m : (ℓ : Loc Cert.GdnBg.nD Cert.GdnBg.τ Cert.GdnBg.sig) → Buf (Elt Bits) ℓ) : Prop :=
  True

def Pre_GdnBgIdeal (m : (ℓ : Loc Cert.GdnBgIdeal.nD Cert.GdnBgIdeal.τ Cert.GdnBgIdeal.sig) → Buf (Elt Ideal) ℓ) : Prop :=
  True

def Pre_GdnBgRefIdeal (m : (ℓ : Loc Cert.GdnBgRefIdeal.nD Cert.GdnBgRefIdeal.τ Cert.GdnBgRefIdeal.sig) → Buf (Elt Ideal) ℓ) : Prop :=
  True

def Pre_QkS (m : (ℓ : Loc Cert.QkS.nD Cert.QkS.τ Cert.QkS.sig) → Buf (Elt Bits) ℓ) : Prop :=
  True

def Pre_QkSIdeal (m : (ℓ : Loc Cert.QkSIdeal.nD Cert.QkSIdeal.τ Cert.QkSIdeal.sig) → Buf (Elt Ideal) ℓ) : Prop :=
  True

def Pre_QkSRefIdeal (m : (ℓ : Loc Cert.QkSRefIdeal.nD Cert.QkSRefIdeal.τ Cert.QkSRefIdeal.sig) → Buf (Elt Ideal) ℓ) : Prop :=
  True

def Pre_MlaQk (m : (ℓ : Loc Cert.MlaQk.nD Cert.MlaQk.τ Cert.MlaQk.sig) → Buf (Elt Bits) ℓ) : Prop :=
  True

def Pre_MlaQkIdeal (m : (ℓ : Loc Cert.MlaQkIdeal.nD Cert.MlaQkIdeal.τ Cert.MlaQkIdeal.sig) → Buf (Elt Ideal) ℓ) : Prop :=
  True

def Pre_MlaQkRefIdeal (m : (ℓ : Loc Cert.MlaQkRefIdeal.nD Cert.MlaQkRefIdeal.τ Cert.MlaQkRefIdeal.sig) → Buf (Elt Ideal) ℓ) : Prop :=
  True

def Pre_PeerQ (m : (ℓ : Loc Cert.PeerQ.nD Cert.PeerQ.τ Cert.PeerQ.sig) → Buf (Elt Bits) ℓ) : Prop :=
  True

def Pre_PeerQIdeal (m : (ℓ : Loc Cert.PeerQIdeal.nD Cert.PeerQIdeal.τ Cert.PeerQIdeal.sig) → Buf (Elt Ideal) ℓ) : Prop :=
  True

def Pre_PeerQIdeal_peerq_finite [hPre_peerq_finite : Cert.Pre_peerq_finite.Facts] (m : (ℓ : Loc Cert.PeerQIdeal.nD Cert.PeerQIdeal.τ Cert.PeerQIdeal.sig) → Buf (Elt Ideal) ℓ) : Prop :=
  ∀ c : Dev Cert.PeerQIdeal.nD,
    (Cert.Pre_peerq_finite.fn (F := Ideal) (m ((c.tc : Thread Cert.PeerQIdeal.nD Cert.PeerQIdeal.τ).loc Cert.PeerQIdeal.main_arg0)) (m ((c.tc : Thread Cert.PeerQIdeal.nD Cert.PeerQIdeal.τ).loc Cert.PeerQIdeal.main_arg1)) (m ((c.tc : Thread Cert.PeerQIdeal.nD Cert.PeerQIdeal.τ).loc Cert.PeerQIdeal.main_arg2)) (m ((c.tc : Thread Cert.PeerQIdeal.nD Cert.PeerQIdeal.τ).loc Cert.PeerQIdeal.main_arg3))).1 = (fun _ => 1#1)
    ∧ (Cert.Pre_peerq_finite.fn (F := Ideal) (m ((c.tc : Thread Cert.PeerQIdeal.nD Cert.PeerQIdeal.τ).loc Cert.PeerQIdeal.main_arg0)) (m ((c.tc : Thread Cert.PeerQIdeal.nD Cert.PeerQIdeal.τ).loc Cert.PeerQIdeal.main_arg1)) (m ((c.tc : Thread Cert.PeerQIdeal.nD Cert.PeerQIdeal.τ).loc Cert.PeerQIdeal.main_arg2)) (m ((c.tc : Thread Cert.PeerQIdeal.nD Cert.PeerQIdeal.τ).loc Cert.PeerQIdeal.main_arg3))).2.1 = (fun _ => 1#1)
    ∧ (Cert.Pre_peerq_finite.fn (F := Ideal) (m ((c.tc : Thread Cert.PeerQIdeal.nD Cert.PeerQIdeal.τ).loc Cert.PeerQIdeal.main_arg0)) (m ((c.tc : Thread Cert.PeerQIdeal.nD Cert.PeerQIdeal.τ).loc Cert.PeerQIdeal.main_arg1)) (m ((c.tc : Thread Cert.PeerQIdeal.nD Cert.PeerQIdeal.τ).loc Cert.PeerQIdeal.main_arg2)) (m ((c.tc : Thread Cert.PeerQIdeal.nD Cert.PeerQIdeal.τ).loc Cert.PeerQIdeal.main_arg3))).2.2 = (fun _ => 1#1)

def Pre_PeerQRefIdeal (m : (ℓ : Loc Cert.PeerQRefIdeal.nD Cert.PeerQRefIdeal.τ Cert.PeerQRefIdeal.sig) → Buf (Elt Ideal) ℓ) : Prop :=
  True

def Pre_PeerQRefIdeal_peerq_finite [hPre_peerq_finite : Cert.Pre_peerq_finite.Facts] (m : (ℓ : Loc Cert.PeerQRefIdeal.nD Cert.PeerQRefIdeal.τ Cert.PeerQRefIdeal.sig) → Buf (Elt Ideal) ℓ) : Prop :=
  ∀ c : Dev Cert.PeerQRefIdeal.nD,
    (Cert.Pre_peerq_finite.fn (F := Ideal) (m ((c.tc : Thread Cert.PeerQRefIdeal.nD Cert.PeerQRefIdeal.τ).loc Cert.PeerQRefIdeal.main_arg0)) (m ((c.tc : Thread Cert.PeerQRefIdeal.nD Cert.PeerQRefIdeal.τ).loc Cert.PeerQRefIdeal.main_arg1)) (m ((c.tc : Thread Cert.PeerQRefIdeal.nD Cert.PeerQRefIdeal.τ).loc Cert.PeerQRefIdeal.main_arg2)) (m ((c.tc : Thread Cert.PeerQRefIdeal.nD Cert.PeerQRefIdeal.τ).loc Cert.PeerQRefIdeal.main_arg3))).1 = (fun _ => 1#1)
    ∧ (Cert.Pre_peerq_finite.fn (F := Ideal) (m ((c.tc : Thread Cert.PeerQRefIdeal.nD Cert.PeerQRefIdeal.τ).loc Cert.PeerQRefIdeal.main_arg0)) (m ((c.tc : Thread Cert.PeerQRefIdeal.nD Cert.PeerQRefIdeal.τ).loc Cert.PeerQRefIdeal.main_arg1)) (m ((c.tc : Thread Cert.PeerQRefIdeal.nD Cert.PeerQRefIdeal.τ).loc Cert.PeerQRefIdeal.main_arg2)) (m ((c.tc : Thread Cert.PeerQRefIdeal.nD Cert.PeerQRefIdeal.τ).loc Cert.PeerQRefIdeal.main_arg3))).2.1 = (fun _ => 1#1)
    ∧ (Cert.Pre_peerq_finite.fn (F := Ideal) (m ((c.tc : Thread Cert.PeerQRefIdeal.nD Cert.PeerQRefIdeal.τ).loc Cert.PeerQRefIdeal.main_arg0)) (m ((c.tc : Thread Cert.PeerQRefIdeal.nD Cert.PeerQRefIdeal.τ).loc Cert.PeerQRefIdeal.main_arg1)) (m ((c.tc : Thread Cert.PeerQRefIdeal.nD Cert.PeerQRefIdeal.τ).loc Cert.PeerQRefIdeal.main_arg2)) (m ((c.tc : Thread Cert.PeerQRefIdeal.nD Cert.PeerQRefIdeal.τ).loc Cert.PeerQRefIdeal.main_arg3))).2.2 = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_FinalP (m : (ℓ : Loc Cert.FinalP.nD Cert.FinalP.τ Cert.FinalP.sig) → Buf (Elt Bits) ℓ) : Prop :=
  True

def Pre_FinalPIdeal (m : (ℓ : Loc Cert.FinalPIdeal.nD Cert.FinalPIdeal.τ Cert.FinalPIdeal.sig) → Buf (Elt Ideal) ℓ) : Prop :=
  True

def Pre_FinalPRefIdeal (m : (ℓ : Loc Cert.FinalPRefIdeal.nD Cert.FinalPRefIdeal.τ Cert.FinalPRefIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkRefIdeal (m : (ℓ : Loc Cert.QkRefIdeal.nD Cert.QkRefIdeal.τ Cert.QkRefIdeal.sig) → Buf (Elt Ideal) ℓ) : Prop :=
  True

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1)
      ∧ r.2.mem ((c.tc : Thread Cert.InA.nD Cert.InA.τ).loc Cert.InA.main_arg2) = m ((c.tc : Thread Cert.InA.nD Cert.InA.τ).loc Cert.InA.main_arg2)
      ∧ r.2.mem ((c.tc : Thread Cert.InA.nD Cert.InA.τ).loc Cert.InA.main_arg3) = m ((c.tc : Thread Cert.InA.nD Cert.InA.τ).loc Cert.InA.main_arg3))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
      ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
      ∧ r.2.mem ((c.tc : Thread Cert.InAIdeal.nD Cert.InAIdeal.τ).loc Cert.InAIdeal.main_arg3) = m ((c.tc : Thread Cert.InAIdeal.nD Cert.InAIdeal.τ).loc Cert.InAIdeal.main_arg3))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1)
      ∧ r.2.mem ((c.tc : Thread Cert.InARefIdeal.nD Cert.InARefIdeal.τ).loc Cert.InARefIdeal.main_arg2) = m ((c.tc : Thread Cert.InARefIdeal.nD Cert.InARefIdeal.τ).loc Cert.InARefIdeal.main_arg2)
      ∧ r.2.mem ((c.tc : Thread Cert.InARefIdeal.nD Cert.InARefIdeal.τ).loc Cert.InARefIdeal.main_arg3) = m ((c.tc : Thread Cert.InARefIdeal.nD Cert.InARefIdeal.τ).loc Cert.InARefIdeal.main_arg3))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2)
      ∧ r.2.mem ((c.tc : Thread Cert.InB.nD Cert.InB.τ).loc Cert.InB.main_arg3) = m ((c.tc : Thread Cert.InB.nD Cert.InB.τ).loc Cert.InB.main_arg3))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
      ∧ r.2.mem ((c.tc : Thread Cert.InBIdeal.nD Cert.InBIdeal.τ).loc Cert.InBIdeal.main_arg3) = m ((c.tc : Thread Cert.InBIdeal.nD Cert.InBIdeal.τ).loc Cert.InBIdeal.main_arg3))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2)
      ∧ r.2.mem ((c.tc : Thread Cert.InBRefIdeal.nD Cert.InBRefIdeal.τ).loc Cert.InBRefIdeal.main_arg3) = m ((c.tc : Thread Cert.InBRefIdeal.nD Cert.InBRefIdeal.τ).loc Cert.InBRefIdeal.main_arg3))
      ∧ r.2.sem = fun _ => 0)

def quiescent_InC [hInC : Cert.InC.Facts] : Prop :=
  ∀ (m : (ℓ : Loc Cert.InC.nD Cert.InC.τ Cert.InC.sig) → Buf (Elt Bits) ℓ) (g : Dev Cert.InC.nD → PrngReg), Pre_InC m →
    θ_run (Cert.InC.defs (F := Bits)) (onTc (τ := Cert.InC.τ) (Cert.InC.main (F := Bits))) ⟨m, fun _ => 0, g⟩ (fun r => (∀ c : Dev Cert.InC.nD,
      r.2.mem ((c.tc : Thread Cert.InC.nD Cert.InC.τ).loc Cert.InC.main_arg0) = m ((c.tc : Thread Cert.InC.nD Cert.InC.τ).loc Cert.InC.main_arg0)
      ∧ r.2.mem ((c.tc : Thread Cert.InC.nD Cert.InC.τ).loc Cert.InC.main_arg1) = m ((c.tc : Thread Cert.InC.nD Cert.InC.τ).loc Cert.InC.main_arg1)
      ∧ r.2.mem ((c.tc : Thread Cert.InC.nD Cert.InC.τ).loc Cert.InC.main_arg2) = m ((c.tc : Thread Cert.InC.nD Cert.InC.τ).loc Cert.InC.main_arg2)
      ∧ r.2.mem ((c.tc : Thread Cert.InC.nD Cert.InC.τ).loc Cert.InC.main_arg3) = m ((c.tc : Thread Cert.InC.nD Cert.InC.τ).loc Cert.InC.main_arg3))
      ∧ r.2.sem = fun _ => 0)

def quiescent_InCIdeal [hInCIdeal : Cert.InCIdeal.Facts] : Prop :=
  ∀ (m : (ℓ : Loc Cert.InCIdeal.nD Cert.InCIdeal.τ Cert.InCIdeal.sig) → Buf (Elt Ideal) ℓ) (g : Dev Cert.InCIdeal.nD → PrngReg), Pre_InCIdeal m →
    θ_run (Cert.InCIdeal.defs (F := Ideal)) (onTc (τ := Cert.InCIdeal.τ) (Cert.InCIdeal.main (F := Ideal))) ⟨m, fun _ => 0, g⟩ (fun r => (∀ c : Dev Cert.InCIdeal.nD,
      r.2.mem ((c.tc : Thread Cert.InCIdeal.nD Cert.InCIdeal.τ).loc Cert.InCIdeal.main_arg0) = m ((c.tc : Thread Cert.InCIdeal.nD Cert.InCIdeal.τ).loc Cert.InCIdeal.main_arg0)
      ∧ r.2.mem ((c.tc : Thread Cert.InCIdeal.nD Cert.InCIdeal.τ).loc Cert.InCIdeal.main_arg1) = m ((c.tc : Thread Cert.InCIdeal.nD Cert.InCIdeal.τ).loc Cert.InCIdeal.main_arg1)
      ∧ r.2.mem ((c.tc : Thread Cert.InCIdeal.nD Cert.InCIdeal.τ).loc Cert.InCIdeal.main_arg2) = m ((c.tc : Thread Cert.InCIdeal.nD Cert.InCIdeal.τ).loc Cert.InCIdeal.main_arg2)
      ∧ r.2.mem ((c.tc : Thread Cert.InCIdeal.nD Cert.InCIdeal.τ).loc Cert.InCIdeal.main_arg3) = m ((c.tc : Thread Cert.InCIdeal.nD Cert.InCIdeal.τ).loc Cert.InCIdeal.main_arg3))
      ∧ r.2.sem = fun _ => 0)

def quiescent_InCRefIdeal [hInCRefIdeal : Cert.InCRefIdeal.Facts] : Prop :=
  ∀ (m : (ℓ : Loc Cert.InCRefIdeal.nD Cert.InCRefIdeal.τ Cert.InCRefIdeal.sig) → Buf (Elt Ideal) ℓ) (g : Dev Cert.InCRefIdeal.nD → PrngReg), Pre_InCRefIdeal m →
    θ_run (Cert.InCRefIdeal.defs (F := Ideal)) (onTc (τ := Cert.InCRefIdeal.τ) (Cert.InCRefIdeal.main (F := Ideal))) ⟨m, fun _ => 0, g⟩ (fun r => (∀ c : Dev Cert.InCRefIdeal.nD,
      r.2.mem ((c.tc : Thread Cert.InCRefIdeal.nD Cert.InCRefIdeal.τ).loc Cert.InCRefIdeal.main_arg0) = m ((c.tc : Thread Cert.InCRefIdeal.nD Cert.InCRefIdeal.τ).loc Cert.InCRefIdeal.main_arg0)
      ∧ r.2.mem ((c.tc : Thread Cert.InCRefIdeal.nD Cert.InCRefIdeal.τ).loc Cert.InCRefIdeal.main_arg1) = m ((c.tc : Thread Cert.InCRefIdeal.nD Cert.InCRefIdeal.τ).loc Cert.InCRefIdeal.main_arg1)
      ∧ r.2.mem ((c.tc : Thread Cert.InCRefIdeal.nD Cert.InCRefIdeal.τ).loc Cert.InCRefIdeal.main_arg2) = m ((c.tc : Thread Cert.InCRefIdeal.nD Cert.InCRefIdeal.τ).loc Cert.InCRefIdeal.main_arg2)
      ∧ r.2.mem ((c.tc : Thread Cert.InCRefIdeal.nD Cert.InCRefIdeal.τ).loc Cert.InCRefIdeal.main_arg3) = m ((c.tc : Thread Cert.InCRefIdeal.nD Cert.InCRefIdeal.τ).loc Cert.InCRefIdeal.main_arg3))
      ∧ r.2.sem = fun _ => 0)

def quiescent_InD [hInD : Cert.InD.Facts] : Prop :=
  ∀ (m : (ℓ : Loc Cert.InD.nD Cert.InD.τ Cert.InD.sig) → Buf (Elt Bits) ℓ) (g : Dev Cert.InD.nD → PrngReg), Pre_InD m →
    θ_run (Cert.InD.defs (F := Bits)) (onTc (τ := Cert.InD.τ) (Cert.InD.main (F := Bits))) ⟨m, fun _ => 0, g⟩ (fun r => (∀ c : Dev Cert.InD.nD,
      r.2.mem ((c.tc : Thread Cert.InD.nD Cert.InD.τ).loc Cert.InD.main_arg0) = m ((c.tc : Thread Cert.InD.nD Cert.InD.τ).loc Cert.InD.main_arg0)
      ∧ r.2.mem ((c.tc : Thread Cert.InD.nD Cert.InD.τ).loc Cert.InD.main_arg1) = m ((c.tc : Thread Cert.InD.nD Cert.InD.τ).loc Cert.InD.main_arg1)
      ∧ r.2.mem ((c.tc : Thread Cert.InD.nD Cert.InD.τ).loc Cert.InD.main_arg2) = m ((c.tc : Thread Cert.InD.nD Cert.InD.τ).loc Cert.InD.main_arg2)
      ∧ r.2.mem ((c.tc : Thread Cert.InD.nD Cert.InD.τ).loc Cert.InD.main_arg3) = m ((c.tc : Thread Cert.InD.nD Cert.InD.τ).loc Cert.InD.main_arg3))
      ∧ r.2.sem = fun _ => 0)

def quiescent_InDIdeal [hInDIdeal : Cert.InDIdeal.Facts] : Prop :=
  ∀ (m : (ℓ : Loc Cert.InDIdeal.nD Cert.InDIdeal.τ Cert.InDIdeal.sig) → Buf (Elt Ideal) ℓ) (g : Dev Cert.InDIdeal.nD → PrngReg), Pre_InDIdeal m →
    θ_run (Cert.InDIdeal.defs (F := Ideal)) (onTc (τ := Cert.InDIdeal.τ) (Cert.InDIdeal.main (F := Ideal))) ⟨m, fun _ => 0, g⟩ (fun r => (∀ c : Dev Cert.InDIdeal.nD,
      r.2.mem ((c.tc : Thread Cert.InDIdeal.nD Cert.InDIdeal.τ).loc Cert.InDIdeal.main_arg0) = m ((c.tc : Thread Cert.InDIdeal.nD Cert.InDIdeal.τ).loc Cert.InDIdeal.main_arg0)
      ∧ r.2.mem ((c.tc : Thread Cert.InDIdeal.nD Cert.InDIdeal.τ).loc Cert.InDIdeal.main_arg1) = m ((c.tc : Thread Cert.InDIdeal.nD Cert.InDIdeal.τ).loc Cert.InDIdeal.main_arg1)
      ∧ r.2.mem ((c.tc : Thread Cert.InDIdeal.nD Cert.InDIdeal.τ).loc Cert.InDIdeal.main_arg2) = m ((c.tc : Thread Cert.InDIdeal.nD Cert.InDIdeal.τ).loc Cert.InDIdeal.main_arg2)
      ∧ r.2.mem ((c.tc : Thread Cert.InDIdeal.nD Cert.InDIdeal.τ).loc Cert.InDIdeal.main_arg3) = m ((c.tc : Thread Cert.InDIdeal.nD Cert.InDIdeal.τ).loc Cert.InDIdeal.main_arg3))
      ∧ r.2.sem = fun _ => 0)

def quiescent_InDRefIdeal [hInDRefIdeal : Cert.InDRefIdeal.Facts] : Prop :=
  ∀ (m : (ℓ : Loc Cert.InDRefIdeal.nD Cert.InDRefIdeal.τ Cert.InDRefIdeal.sig) → Buf (Elt Ideal) ℓ) (g : Dev Cert.InDRefIdeal.nD → PrngReg), Pre_InDRefIdeal m →
    θ_run (Cert.InDRefIdeal.defs (F := Ideal)) (onTc (τ := Cert.InDRefIdeal.τ) (Cert.InDRefIdeal.main (F := Ideal))) ⟨m, fun _ => 0, g⟩ (fun r => (∀ c : Dev Cert.InDRefIdeal.nD,
      r.2.mem ((c.tc : Thread Cert.InDRefIdeal.nD Cert.InDRefIdeal.τ).loc Cert.InDRefIdeal.main_arg0) = m ((c.tc : Thread Cert.InDRefIdeal.nD Cert.InDRefIdeal.τ).loc Cert.InDRefIdeal.main_arg0)
      ∧ r.2.mem ((c.tc : Thread Cert.InDRefIdeal.nD Cert.InDRefIdeal.τ).loc Cert.InDRefIdeal.main_arg1) = m ((c.tc : Thread Cert.InDRefIdeal.nD Cert.InDRefIdeal.τ).loc Cert.InDRefIdeal.main_arg1)
      ∧ r.2.mem ((c.tc : Thread Cert.InDRefIdeal.nD Cert.InDRefIdeal.τ).loc Cert.InDRefIdeal.main_arg2) = m ((c.tc : Thread Cert.InDRefIdeal.nD Cert.InDRefIdeal.τ).loc Cert.InDRefIdeal.main_arg2)
      ∧ r.2.mem ((c.tc : Thread Cert.InDRefIdeal.nD Cert.InDRefIdeal.τ).loc Cert.InDRefIdeal.main_arg3) = m ((c.tc : Thread Cert.InDRefIdeal.nD Cert.InDRefIdeal.τ).loc Cert.InDRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Kvb [hKvb : Cert.Kvb.Facts] : Prop :=
  ∀ (m : (ℓ : Loc Cert.Kvb.nD Cert.Kvb.τ Cert.Kvb.sig) → Buf (Elt Bits) ℓ) (g : Dev Cert.Kvb.nD → PrngReg), Pre_Kvb m →
    θ_run (Cert.Kvb.defs (F := Bits)) (onTc (τ := Cert.Kvb.τ) (Cert.Kvb.main (F := Bits))) ⟨m, fun _ => 0, g⟩ (fun r => (∀ c : Dev Cert.Kvb.nD,
      r.2.mem ((c.tc : Thread Cert.Kvb.nD Cert.Kvb.τ).loc Cert.Kvb.main_arg0) = m ((c.tc : Thread Cert.Kvb.nD Cert.Kvb.τ).loc Cert.Kvb.main_arg0)
      ∧ r.2.mem ((c.tc : Thread Cert.Kvb.nD Cert.Kvb.τ).loc Cert.Kvb.main_arg1) = m ((c.tc : Thread Cert.Kvb.nD Cert.Kvb.τ).loc Cert.Kvb.main_arg1)
      ∧ r.2.mem ((c.tc : Thread Cert.Kvb.nD Cert.Kvb.τ).loc Cert.Kvb.main_arg2) = m ((c.tc : Thread Cert.Kvb.nD Cert.Kvb.τ).loc Cert.Kvb.main_arg2))
      ∧ r.2.sem = fun _ => 0)

def quiescent_KvbIdeal [hKvbIdeal : Cert.KvbIdeal.Facts] : Prop :=
  ∀ (m : (ℓ : Loc Cert.KvbIdeal.nD Cert.KvbIdeal.τ Cert.KvbIdeal.sig) → Buf (Elt Ideal) ℓ) (g : Dev Cert.KvbIdeal.nD → PrngReg), Pre_KvbIdeal m →
    θ_run (Cert.KvbIdeal.defs (F := Ideal)) (onTc (τ := Cert.KvbIdeal.τ) (Cert.KvbIdeal.main (F := Ideal))) ⟨m, fun _ => 0, g⟩ (fun r => (∀ c : Dev Cert.KvbIdeal.nD,
      r.2.mem ((c.tc : Thread Cert.KvbIdeal.nD Cert.KvbIdeal.τ).loc Cert.KvbIdeal.main_arg0) = m ((c.tc : Thread Cert.KvbIdeal.nD Cert.KvbIdeal.τ).loc Cert.KvbIdeal.main_arg0)
      ∧ r.2.mem ((c.tc : Thread Cert.KvbIdeal.nD Cert.KvbIdeal.τ).loc Cert.KvbIdeal.main_arg1) = m ((c.tc : Thread Cert.KvbIdeal.nD Cert.KvbIdeal.τ).loc Cert.KvbIdeal.main_arg1)
      ∧ r.2.mem ((c.tc : Thread Cert.KvbIdeal.nD Cert.KvbIdeal.τ).loc Cert.KvbIdeal.main_arg2) = m ((c.tc : Thread Cert.KvbIdeal.nD Cert.KvbIdeal.τ).loc Cert.KvbIdeal.main_arg2))
      ∧ r.2.sem = fun _ => 0)

def quiescent_KvbRefIdeal [hKvbRefIdeal : Cert.KvbRefIdeal.Facts] : Prop :=
  ∀ (m : (ℓ : Loc Cert.KvbRefIdeal.nD Cert.KvbRefIdeal.τ Cert.KvbRefIdeal.sig) → Buf (Elt Ideal) ℓ) (g : Dev Cert.KvbRefIdeal.nD → PrngReg), Pre_KvbRefIdeal m →
    θ_run (Cert.KvbRefIdeal.defs (F := Ideal)) (onTc (τ := Cert.KvbRefIdeal.τ) (Cert.KvbRefIdeal.main (F := Ideal))) ⟨m, fun _ => 0, g⟩ (fun r => (∀ c : Dev Cert.KvbRefIdeal.nD,
      r.2.mem ((c.tc : Thread Cert.KvbRefIdeal.nD Cert.KvbRefIdeal.τ).loc Cert.KvbRefIdeal.main_arg0) = m ((c.tc : Thread Cert.KvbRefIdeal.nD Cert.KvbRefIdeal.τ).loc Cert.KvbRefIdeal.main_arg0)
      ∧ r.2.mem ((c.tc : Thread Cert.KvbRefIdeal.nD Cert.KvbRefIdeal.τ).loc Cert.KvbRefIdeal.main_arg1) = m ((c.tc : Thread Cert.KvbRefIdeal.nD Cert.KvbRefIdeal.τ).loc Cert.KvbRefIdeal.main_arg1)
      ∧ r.2.mem ((c.tc : Thread Cert.KvbRefIdeal.nD Cert.KvbRefIdeal.τ).loc Cert.KvbRefIdeal.main_arg2) = m ((c.tc : Thread Cert.KvbRefIdeal.nD Cert.KvbRefIdeal.τ).loc Cert.KvbRefIdeal.main_arg2))
      ∧ r.2.sem = fun _ => 0)

def quiescent_KvCtx [hKvCtx : Cert.KvCtx.Facts] : Prop :=
  ∀ (m : (ℓ : Loc Cert.KvCtx.nD Cert.KvCtx.τ Cert.KvCtx.sig) → Buf (Elt Bits) ℓ) (g : Dev Cert.KvCtx.nD → PrngReg), Pre_KvCtx m →
    θ_run (Cert.KvCtx.defs (F := Bits)) (onTc (τ := Cert.KvCtx.τ) (Cert.KvCtx.main (F := Bits))) ⟨m, fun _ => 0, g⟩ (fun r => (∀ c : Dev Cert.KvCtx.nD,
      r.2.mem ((c.tc : Thread Cert.KvCtx.nD Cert.KvCtx.τ).loc Cert.KvCtx.main_arg0) = m ((c.tc : Thread Cert.KvCtx.nD Cert.KvCtx.τ).loc Cert.KvCtx.main_arg0)
      ∧ r.2.mem ((c.tc : Thread Cert.KvCtx.nD Cert.KvCtx.τ).loc Cert.KvCtx.main_arg1) = m ((c.tc : Thread Cert.KvCtx.nD Cert.KvCtx.τ).loc Cert.KvCtx.main_arg1))
      ∧ r.2.sem = fun _ => 0)

def quiescent_KvCtxIdeal [hKvCtxIdeal : Cert.KvCtxIdeal.Facts] : Prop :=
  ∀ (m : (ℓ : Loc Cert.KvCtxIdeal.nD Cert.KvCtxIdeal.τ Cert.KvCtxIdeal.sig) → Buf (Elt Ideal) ℓ) (g : Dev Cert.KvCtxIdeal.nD → PrngReg), Pre_KvCtxIdeal m →
    θ_run (Cert.KvCtxIdeal.defs (F := Ideal)) (onTc (τ := Cert.KvCtxIdeal.τ) (Cert.KvCtxIdeal.main (F := Ideal))) ⟨m, fun _ => 0, g⟩ (fun r => (∀ c : Dev Cert.KvCtxIdeal.nD,
      r.2.mem ((c.tc : Thread Cert.KvCtxIdeal.nD Cert.KvCtxIdeal.τ).loc Cert.KvCtxIdeal.main_arg0) = m ((c.tc : Thread Cert.KvCtxIdeal.nD Cert.KvCtxIdeal.τ).loc Cert.KvCtxIdeal.main_arg0)
      ∧ r.2.mem ((c.tc : Thread Cert.KvCtxIdeal.nD Cert.KvCtxIdeal.τ).loc Cert.KvCtxIdeal.main_arg1) = m ((c.tc : Thread Cert.KvCtxIdeal.nD Cert.KvCtxIdeal.τ).loc Cert.KvCtxIdeal.main_arg1))
      ∧ r.2.sem = fun _ => 0)

def quiescent_KvCtxRefIdeal [hKvCtxRefIdeal : Cert.KvCtxRefIdeal.Facts] : Prop :=
  ∀ (m : (ℓ : Loc Cert.KvCtxRefIdeal.nD Cert.KvCtxRefIdeal.τ Cert.KvCtxRefIdeal.sig) → Buf (Elt Ideal) ℓ) (g : Dev Cert.KvCtxRefIdeal.nD → PrngReg), Pre_KvCtxRefIdeal m →
    θ_run (Cert.KvCtxRefIdeal.defs (F := Ideal)) (onTc (τ := Cert.KvCtxRefIdeal.τ) (Cert.KvCtxRefIdeal.main (F := Ideal))) ⟨m, fun _ => 0, g⟩ (fun r => (∀ c : Dev Cert.KvCtxRefIdeal.nD,
      r.2.mem ((c.tc : Thread Cert.KvCtxRefIdeal.nD Cert.KvCtxRefIdeal.τ).loc Cert.KvCtxRefIdeal.main_arg0) = m ((c.tc : Thread Cert.KvCtxRefIdeal.nD Cert.KvCtxRefIdeal.τ).loc Cert.KvCtxRefIdeal.main_arg0)
      ∧ r.2.mem ((c.tc : Thread Cert.KvCtxRefIdeal.nD Cert.KvCtxRefIdeal.τ).loc Cert.KvCtxRefIdeal.main_arg1) = m ((c.tc : Thread Cert.KvCtxRefIdeal.nD Cert.KvCtxRefIdeal.τ).loc Cert.KvCtxRefIdeal.main_arg1))
      ∧ r.2.sem = fun _ => 0)

def quiescent_GdnPrep [hGdnPrep : Cert.GdnPrep.Facts] : Prop :=
  ∀ (m : (ℓ : Loc Cert.GdnPrep.nD Cert.GdnPrep.τ Cert.GdnPrep.sig) → Buf (Elt Bits) ℓ) (g : Dev Cert.GdnPrep.nD → PrngReg), Pre_GdnPrep m →
    θ_run (Cert.GdnPrep.defs (F := Bits)) (onTc (τ := Cert.GdnPrep.τ) (Cert.GdnPrep.main (F := Bits))) ⟨m, fun _ => 0, g⟩ (fun r => (∀ c : Dev Cert.GdnPrep.nD,
      r.2.mem ((c.tc : Thread Cert.GdnPrep.nD Cert.GdnPrep.τ).loc Cert.GdnPrep.main_arg0) = m ((c.tc : Thread Cert.GdnPrep.nD Cert.GdnPrep.τ).loc Cert.GdnPrep.main_arg0)
      ∧ r.2.mem ((c.tc : Thread Cert.GdnPrep.nD Cert.GdnPrep.τ).loc Cert.GdnPrep.main_arg1) = m ((c.tc : Thread Cert.GdnPrep.nD Cert.GdnPrep.τ).loc Cert.GdnPrep.main_arg1))
      ∧ r.2.sem = fun _ => 0)

def quiescent_GdnPrepIdeal [hGdnPrepIdeal : Cert.GdnPrepIdeal.Facts] : Prop :=
  ∀ (m : (ℓ : Loc Cert.GdnPrepIdeal.nD Cert.GdnPrepIdeal.τ Cert.GdnPrepIdeal.sig) → Buf (Elt Ideal) ℓ) (g : Dev Cert.GdnPrepIdeal.nD → PrngReg), Pre_GdnPrepIdeal m →
    θ_run (Cert.GdnPrepIdeal.defs (F := Ideal)) (onTc (τ := Cert.GdnPrepIdeal.τ) (Cert.GdnPrepIdeal.main (F := Ideal))) ⟨m, fun _ => 0, g⟩ (fun r => (∀ c : Dev Cert.GdnPrepIdeal.nD,
      r.2.mem ((c.tc : Thread Cert.GdnPrepIdeal.nD Cert.GdnPrepIdeal.τ).loc Cert.GdnPrepIdeal.main_arg0) = m ((c.tc : Thread Cert.GdnPrepIdeal.nD Cert.GdnPrepIdeal.τ).loc Cert.GdnPrepIdeal.main_arg0)
      ∧ r.2.mem ((c.tc : Thread Cert.GdnPrepIdeal.nD Cert.GdnPrepIdeal.τ).loc Cert.GdnPrepIdeal.main_arg1) = m ((c.tc : Thread Cert.GdnPrepIdeal.nD Cert.GdnPrepIdeal.τ).loc Cert.GdnPrepIdeal.main_arg1))
      ∧ r.2.sem = fun _ => 0)

def quiescent_GdnPrepRefIdeal [hGdnPrepRefIdeal : Cert.GdnPrepRefIdeal.Facts] : Prop :=
  ∀ (m : (ℓ : Loc Cert.GdnPrepRefIdeal.nD Cert.GdnPrepRefIdeal.τ Cert.GdnPrepRefIdeal.sig) → Buf (Elt Ideal) ℓ) (g : Dev Cert.GdnPrepRefIdeal.nD → PrngReg), Pre_GdnPrepRefIdeal m →
    θ_run (Cert.GdnPrepRefIdeal.defs (F := Ideal)) (onTc (τ := Cert.GdnPrepRefIdeal.τ) (Cert.GdnPrepRefIdeal.main (F := Ideal))) ⟨m, fun _ => 0, g⟩ (fun r => (∀ c : Dev Cert.GdnPrepRefIdeal.nD,
      r.2.mem ((c.tc : Thread Cert.GdnPrepRefIdeal.nD Cert.GdnPrepRefIdeal.τ).loc Cert.GdnPrepRefIdeal.main_arg0) = m ((c.tc : Thread Cert.GdnPrepRefIdeal.nD Cert.GdnPrepRefIdeal.τ).loc Cert.GdnPrepRefIdeal.main_arg0)
      ∧ r.2.mem ((c.tc : Thread Cert.GdnPrepRefIdeal.nD Cert.GdnPrepRefIdeal.τ).loc Cert.GdnPrepRefIdeal.main_arg1) = m ((c.tc : Thread Cert.GdnPrepRefIdeal.nD Cert.GdnPrepRefIdeal.τ).loc Cert.GdnPrepRefIdeal.main_arg1))
      ∧ r.2.sem = fun _ => 0)

def quiescent_GdnPost [hGdnPost : Cert.GdnPost.Facts] : Prop :=
  ∀ (m : (ℓ : Loc Cert.GdnPost.nD Cert.GdnPost.τ Cert.GdnPost.sig) → Buf (Elt Bits) ℓ) (g : Dev Cert.GdnPost.nD → PrngReg), Pre_GdnPost m →
    θ_run (Cert.GdnPost.defs (F := Bits)) (onTc (τ := Cert.GdnPost.τ) (Cert.GdnPost.main (F := Bits))) ⟨m, fun _ => 0, g⟩ (fun r => (∀ c : Dev Cert.GdnPost.nD,
      r.2.mem ((c.tc : Thread Cert.GdnPost.nD Cert.GdnPost.τ).loc Cert.GdnPost.main_arg0) = m ((c.tc : Thread Cert.GdnPost.nD Cert.GdnPost.τ).loc Cert.GdnPost.main_arg0)
      ∧ r.2.mem ((c.tc : Thread Cert.GdnPost.nD Cert.GdnPost.τ).loc Cert.GdnPost.main_arg1) = m ((c.tc : Thread Cert.GdnPost.nD Cert.GdnPost.τ).loc Cert.GdnPost.main_arg1)
      ∧ r.2.mem ((c.tc : Thread Cert.GdnPost.nD Cert.GdnPost.τ).loc Cert.GdnPost.main_arg2) = m ((c.tc : Thread Cert.GdnPost.nD Cert.GdnPost.τ).loc Cert.GdnPost.main_arg2)
      ∧ r.2.mem ((c.tc : Thread Cert.GdnPost.nD Cert.GdnPost.τ).loc Cert.GdnPost.main_arg3) = m ((c.tc : Thread Cert.GdnPost.nD Cert.GdnPost.τ).loc Cert.GdnPost.main_arg3))
      ∧ r.2.sem = fun _ => 0)

def quiescent_GdnPostIdeal [hGdnPostIdeal : Cert.GdnPostIdeal.Facts] : Prop :=
  ∀ (m : (ℓ : Loc Cert.GdnPostIdeal.nD Cert.GdnPostIdeal.τ Cert.GdnPostIdeal.sig) → Buf (Elt Ideal) ℓ) (g : Dev Cert.GdnPostIdeal.nD → PrngReg), Pre_GdnPostIdeal m →
    θ_run (Cert.GdnPostIdeal.defs (F := Ideal)) (onTc (τ := Cert.GdnPostIdeal.τ) (Cert.GdnPostIdeal.main (F := Ideal))) ⟨m, fun _ => 0, g⟩ (fun r => (∀ c : Dev Cert.GdnPostIdeal.nD,
      r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
      ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
      ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2)
      ∧ r.2.mem ((c.tc : Thread Cert.GdnPostIdeal.nD Cert.GdnPostIdeal.τ).loc Cert.GdnPostIdeal.main_arg3) = m ((c.tc : Thread Cert.GdnPostIdeal.nD Cert.GdnPostIdeal.τ).loc Cert.GdnPostIdeal.main_arg3))
      ∧ r.2.sem = fun _ => 0)

def quiescent_GdnPostRefIdeal [hGdnPostRefIdeal : Cert.GdnPostRefIdeal.Facts] : Prop :=
  ∀ (m : (ℓ : Loc Cert.GdnPostRefIdeal.nD Cert.GdnPostRefIdeal.τ Cert.GdnPostRefIdeal.sig) → Buf (Elt Ideal) ℓ) (g : Dev Cert.GdnPostRefIdeal.nD → PrngReg), Pre_GdnPostRefIdeal m →
    θ_run (Cert.GdnPostRefIdeal.defs (F := Ideal)) (onTc (τ := Cert.GdnPostRefIdeal.τ) (Cert.GdnPostRefIdeal.main (F := Ideal))) ⟨m, fun _ => 0, g⟩ (fun r => (∀ c : Dev Cert.GdnPostRefIdeal.nD,
      r.2.mem ((c.tc : Thread Cert.GdnPostRefIdeal.nD Cert.GdnPostRefIdeal.τ).loc Cert.GdnPostRefIdeal.main_arg0) = m ((c.tc : Thread Cert.GdnPostRefIdeal.nD Cert.GdnPostRefIdeal.τ).loc Cert.GdnPostRefIdeal.main_arg0)
      ∧ r.2.mem ((c.tc : Thread Cert.GdnPostRefIdeal.nD Cert.GdnPostRefIdeal.τ).loc Cert.GdnPostRefIdeal.main_arg1) = m ((c.tc : Thread Cert.GdnPostRefIdeal.nD Cert.GdnPostRefIdeal.τ).loc Cert.GdnPostRefIdeal.main_arg1)
      ∧ r.2.mem ((c.tc : Thread Cert.GdnPostRefIdeal.nD Cert.GdnPostRefIdeal.τ).loc Cert.GdnPostRefIdeal.main_arg2) = m ((c.tc : Thread Cert.GdnPostRefIdeal.nD Cert.GdnPostRefIdeal.τ).loc Cert.GdnPostRefIdeal.main_arg2)
      ∧ r.2.mem ((c.tc : Thread Cert.GdnPostRefIdeal.nD Cert.GdnPostRefIdeal.τ).loc Cert.GdnPostRefIdeal.main_arg3) = m ((c.tc : Thread Cert.GdnPostRefIdeal.nD Cert.GdnPostRefIdeal.τ).loc Cert.GdnPostRefIdeal.main_arg3))
      ∧ r.2.sem = fun _ => 0)

def quiescent_GdnBg [hGdnBg : Cert.GdnBg.Facts] : Prop :=
  ∀ (m : (ℓ : Loc Cert.GdnBg.nD Cert.GdnBg.τ Cert.GdnBg.sig) → Buf (Elt Bits) ℓ) (g : Dev Cert.GdnBg.nD → PrngReg), Pre_GdnBg m →
    θ_run (Cert.GdnBg.defs (F := Bits)) (onTc (τ := Cert.GdnBg.τ) (Cert.GdnBg.main (F := Bits))) ⟨m, fun _ => 0, g⟩ (fun r => (∀ c : Dev Cert.GdnBg.nD,
      r.2.mem ((c.tc : Thread Cert.GdnBg.nD Cert.GdnBg.τ).loc Cert.GdnBg.main_arg0) = m ((c.tc : Thread Cert.GdnBg.nD Cert.GdnBg.τ).loc Cert.GdnBg.main_arg0)
      ∧ r.2.mem ((c.tc : Thread Cert.GdnBg.nD Cert.GdnBg.τ).loc Cert.GdnBg.main_arg1) = m ((c.tc : Thread Cert.GdnBg.nD Cert.GdnBg.τ).loc Cert.GdnBg.main_arg1)
      ∧ r.2.mem ((c.tc : Thread Cert.GdnBg.nD Cert.GdnBg.τ).loc Cert.GdnBg.main_arg2) = m ((c.tc : Thread Cert.GdnBg.nD Cert.GdnBg.τ).loc Cert.GdnBg.main_arg2))
      ∧ r.2.sem = fun _ => 0)

def quiescent_GdnBgIdeal [hGdnBgIdeal : Cert.GdnBgIdeal.Facts] : Prop :=
  ∀ (m : (ℓ : Loc Cert.GdnBgIdeal.nD Cert.GdnBgIdeal.τ Cert.GdnBgIdeal.sig) → Buf (Elt Ideal) ℓ) (g : Dev Cert.GdnBgIdeal.nD → PrngReg), Pre_GdnBgIdeal m →
    θ_run (Cert.GdnBgIdeal.defs (F := Ideal)) (onTc (τ := Cert.GdnBgIdeal.τ) (Cert.GdnBgIdeal.main (F := Ideal))) ⟨m, fun _ => 0, g⟩ (fun r => (∀ c : Dev Cert.GdnBgIdeal.nD,
      r.2.mem ((c.tc : Thread Cert.GdnBgIdeal.nD Cert.GdnBgIdeal.τ).loc Cert.GdnBgIdeal.main_arg0) = m ((c.tc : Thread Cert.GdnBgIdeal.nD Cert.GdnBgIdeal.τ).loc Cert.GdnBgIdeal.main_arg0)
      ∧ r.2.mem ((c.tc : Thread Cert.GdnBgIdeal.nD Cert.GdnBgIdeal.τ).loc Cert.GdnBgIdeal.main_arg1) = m ((c.tc : Thread Cert.GdnBgIdeal.nD Cert.GdnBgIdeal.τ).loc Cert.GdnBgIdeal.main_arg1)
      ∧ r.2.mem ((c.tc : Thread Cert.GdnBgIdeal.nD Cert.GdnBgIdeal.τ).loc Cert.GdnBgIdeal.main_arg2) = m ((c.tc : Thread Cert.GdnBgIdeal.nD Cert.GdnBgIdeal.τ).loc Cert.GdnBgIdeal.main_arg2))
      ∧ r.2.sem = fun _ => 0)

def quiescent_GdnBgRefIdeal [hGdnBgRefIdeal : Cert.GdnBgRefIdeal.Facts] : Prop :=
  ∀ (m : (ℓ : Loc Cert.GdnBgRefIdeal.nD Cert.GdnBgRefIdeal.τ Cert.GdnBgRefIdeal.sig) → Buf (Elt Ideal) ℓ) (g : Dev Cert.GdnBgRefIdeal.nD → PrngReg), Pre_GdnBgRefIdeal m →
    θ_run (Cert.GdnBgRefIdeal.defs (F := Ideal)) (onTc (τ := Cert.GdnBgRefIdeal.τ) (Cert.GdnBgRefIdeal.main (F := Ideal))) ⟨m, fun _ => 0, g⟩ (fun r => (∀ c : Dev Cert.GdnBgRefIdeal.nD,
      r.2.mem ((c.tc : Thread Cert.GdnBgRefIdeal.nD Cert.GdnBgRefIdeal.τ).loc Cert.GdnBgRefIdeal.main_arg0) = m ((c.tc : Thread Cert.GdnBgRefIdeal.nD Cert.GdnBgRefIdeal.τ).loc Cert.GdnBgRefIdeal.main_arg0)
      ∧ r.2.mem ((c.tc : Thread Cert.GdnBgRefIdeal.nD Cert.GdnBgRefIdeal.τ).loc Cert.GdnBgRefIdeal.main_arg1) = m ((c.tc : Thread Cert.GdnBgRefIdeal.nD Cert.GdnBgRefIdeal.τ).loc Cert.GdnBgRefIdeal.main_arg1)
      ∧ r.2.mem ((c.tc : Thread Cert.GdnBgRefIdeal.nD Cert.GdnBgRefIdeal.τ).loc Cert.GdnBgRefIdeal.main_arg2) = m ((c.tc : Thread Cert.GdnBgRefIdeal.nD Cert.GdnBgRefIdeal.τ).loc Cert.GdnBgRefIdeal.main_arg2))
      ∧ r.2.sem = fun _ => 0)

def quiescent_QkS [hQkS : Cert.QkS.Facts] : Prop :=
  ∀ (m : (ℓ : Loc Cert.QkS.nD Cert.QkS.τ Cert.QkS.sig) → Buf (Elt Bits) ℓ) (g : Dev Cert.QkS.nD → PrngReg), Pre_QkS m →
    θ_run (Cert.QkS.defs (F := Bits)) (onTc (τ := Cert.QkS.τ) (Cert.QkS.main (F := Bits))) ⟨m, fun _ => 0, g⟩ (fun r => (∀ c : Dev Cert.QkS.nD,
      r.2.mem ((c.tc : Thread Cert.QkS.nD Cert.QkS.τ).loc Cert.QkS.main_arg0) = m ((c.tc : Thread Cert.QkS.nD Cert.QkS.τ).loc Cert.QkS.main_arg0)
      ∧ r.2.mem ((c.tc : Thread Cert.QkS.nD Cert.QkS.τ).loc Cert.QkS.main_arg1) = m ((c.tc : Thread Cert.QkS.nD Cert.QkS.τ).loc Cert.QkS.main_arg1)
      ∧ r.2.mem ((c.tc : Thread Cert.QkS.nD Cert.QkS.τ).loc Cert.QkS.main_arg2) = m ((c.tc : Thread Cert.QkS.nD Cert.QkS.τ).loc Cert.QkS.main_arg2))
      ∧ r.2.sem = fun _ => 0)

def quiescent_QkSIdeal [hQkSIdeal : Cert.QkSIdeal.Facts] : Prop :=
  ∀ (m : (ℓ : Loc Cert.QkSIdeal.nD Cert.QkSIdeal.τ Cert.QkSIdeal.sig) → Buf (Elt Ideal) ℓ) (g : Dev Cert.QkSIdeal.nD → PrngReg), Pre_QkSIdeal m →
    θ_run (Cert.QkSIdeal.defs (F := Ideal)) (onTc (τ := Cert.QkSIdeal.τ) (Cert.QkSIdeal.main (F := Ideal))) ⟨m, fun _ => 0, g⟩ (fun r => (∀ c : Dev Cert.QkSIdeal.nD,
      r.2.mem ((c.tc : Thread Cert.QkSIdeal.nD Cert.QkSIdeal.τ).loc Cert.QkSIdeal.main_arg0) = m ((c.tc : Thread Cert.QkSIdeal.nD Cert.QkSIdeal.τ).loc Cert.QkSIdeal.main_arg0)
      ∧ r.2.mem ((c.tc : Thread Cert.QkSIdeal.nD Cert.QkSIdeal.τ).loc Cert.QkSIdeal.main_arg1) = m ((c.tc : Thread Cert.QkSIdeal.nD Cert.QkSIdeal.τ).loc Cert.QkSIdeal.main_arg1)
      ∧ r.2.mem ((c.tc : Thread Cert.QkSIdeal.nD Cert.QkSIdeal.τ).loc Cert.QkSIdeal.main_arg2) = m ((c.tc : Thread Cert.QkSIdeal.nD Cert.QkSIdeal.τ).loc Cert.QkSIdeal.main_arg2))
      ∧ r.2.sem = fun _ => 0)

def quiescent_QkSRefIdeal [hQkSRefIdeal : Cert.QkSRefIdeal.Facts] : Prop :=
  ∀ (m : (ℓ : Loc Cert.QkSRefIdeal.nD Cert.QkSRefIdeal.τ Cert.QkSRefIdeal.sig) → Buf (Elt Ideal) ℓ) (g : Dev Cert.QkSRefIdeal.nD → PrngReg), Pre_QkSRefIdeal m →
    θ_run (Cert.QkSRefIdeal.defs (F := Ideal)) (onTc (τ := Cert.QkSRefIdeal.τ) (Cert.QkSRefIdeal.main (F := Ideal))) ⟨m, fun _ => 0, g⟩ (fun r => (∀ c : Dev Cert.QkSRefIdeal.nD,
      r.2.mem ((c.tc : Thread Cert.QkSRefIdeal.nD Cert.QkSRefIdeal.τ).loc Cert.QkSRefIdeal.main_arg0) = m ((c.tc : Thread Cert.QkSRefIdeal.nD Cert.QkSRefIdeal.τ).loc Cert.QkSRefIdeal.main_arg0)
      ∧ r.2.mem ((c.tc : Thread Cert.QkSRefIdeal.nD Cert.QkSRefIdeal.τ).loc Cert.QkSRefIdeal.main_arg1) = m ((c.tc : Thread Cert.QkSRefIdeal.nD Cert.QkSRefIdeal.τ).loc Cert.QkSRefIdeal.main_arg1)
      ∧ r.2.mem ((c.tc : Thread Cert.QkSRefIdeal.nD Cert.QkSRefIdeal.τ).loc Cert.QkSRefIdeal.main_arg2) = m ((c.tc : Thread Cert.QkSRefIdeal.nD Cert.QkSRefIdeal.τ).loc Cert.QkSRefIdeal.main_arg2))
      ∧ r.2.sem = fun _ => 0)

def quiescent_MlaQk [hMlaQk : Cert.MlaQk.Facts] : Prop :=
  ∀ (m : (ℓ : Loc Cert.MlaQk.nD Cert.MlaQk.τ Cert.MlaQk.sig) → Buf (Elt Bits) ℓ) (g : Dev Cert.MlaQk.nD → PrngReg), Pre_MlaQk m →
    θ_run (Cert.MlaQk.defs (F := Bits)) (onTc (τ := Cert.MlaQk.τ) (Cert.MlaQk.main (F := Bits))) ⟨m, fun _ => 0, g⟩ (fun r => (∀ c : Dev Cert.MlaQk.nD,
      r.2.mem ((c.tc : Thread Cert.MlaQk.nD Cert.MlaQk.τ).loc Cert.MlaQk.main_arg0) = m ((c.tc : Thread Cert.MlaQk.nD Cert.MlaQk.τ).loc Cert.MlaQk.main_arg0))
      ∧ r.2.sem = fun _ => 0)

def quiescent_MlaQkIdeal [hMlaQkIdeal : Cert.MlaQkIdeal.Facts] : Prop :=
  ∀ (m : (ℓ : Loc Cert.MlaQkIdeal.nD Cert.MlaQkIdeal.τ Cert.MlaQkIdeal.sig) → Buf (Elt Ideal) ℓ) (g : Dev Cert.MlaQkIdeal.nD → PrngReg), Pre_MlaQkIdeal m →
    θ_run (Cert.MlaQkIdeal.defs (F := Ideal)) (onTc (τ := Cert.MlaQkIdeal.τ) (Cert.MlaQkIdeal.main (F := Ideal))) ⟨m, fun _ => 0, g⟩ (fun r => (∀ c : Dev Cert.MlaQkIdeal.nD,
      r.2.mem ((c.tc : Thread Cert.MlaQkIdeal.nD Cert.MlaQkIdeal.τ).loc Cert.MlaQkIdeal.main_arg0) = m ((c.tc : Thread Cert.MlaQkIdeal.nD Cert.MlaQkIdeal.τ).loc Cert.MlaQkIdeal.main_arg0))
      ∧ r.2.sem = fun _ => 0)

def quiescent_MlaQkRefIdeal [hMlaQkRefIdeal : Cert.MlaQkRefIdeal.Facts] : Prop :=
  ∀ (m : (ℓ : Loc Cert.MlaQkRefIdeal.nD Cert.MlaQkRefIdeal.τ Cert.MlaQkRefIdeal.sig) → Buf (Elt Ideal) ℓ) (g : Dev Cert.MlaQkRefIdeal.nD → PrngReg), Pre_MlaQkRefIdeal m →
    θ_run (Cert.MlaQkRefIdeal.defs (F := Ideal)) (onTc (τ := Cert.MlaQkRefIdeal.τ) (Cert.MlaQkRefIdeal.main (F := Ideal))) ⟨m, fun _ => 0, g⟩ (fun r => (∀ c : Dev Cert.MlaQkRefIdeal.nD,
      r.2.mem ((c.tc : Thread Cert.MlaQkRefIdeal.nD Cert.MlaQkRefIdeal.τ).loc Cert.MlaQkRefIdeal.main_arg0) = m ((c.tc : Thread Cert.MlaQkRefIdeal.nD Cert.MlaQkRefIdeal.τ).loc Cert.MlaQkRefIdeal.main_arg0))
      ∧ r.2.sem = fun _ => 0)

def quiescent_PeerQ [hPeerQ : Cert.PeerQ.Facts] : Prop :=
  ∀ (m : (ℓ : Loc Cert.PeerQ.nD Cert.PeerQ.τ Cert.PeerQ.sig) → Buf (Elt Bits) ℓ) (g : Dev Cert.PeerQ.nD → PrngReg), Pre_PeerQ m →
    θ_run (Cert.PeerQ.defs (F := Bits)) (onTc (τ := Cert.PeerQ.τ) (Cert.PeerQ.main (F := Bits))) ⟨m, fun _ => 0, g⟩ (fun r => (∀ c : Dev Cert.PeerQ.nD,
      r.2.mem ((c.tc : Thread Cert.PeerQ.nD Cert.PeerQ.τ).loc Cert.PeerQ.main_arg0) = m ((c.tc : Thread Cert.PeerQ.nD Cert.PeerQ.τ).loc Cert.PeerQ.main_arg0)
      ∧ r.2.mem ((c.tc : Thread Cert.PeerQ.nD Cert.PeerQ.τ).loc Cert.PeerQ.main_arg1) = m ((c.tc : Thread Cert.PeerQ.nD Cert.PeerQ.τ).loc Cert.PeerQ.main_arg1)
      ∧ r.2.mem ((c.tc : Thread Cert.PeerQ.nD Cert.PeerQ.τ).loc Cert.PeerQ.main_arg2) = m ((c.tc : Thread Cert.PeerQ.nD Cert.PeerQ.τ).loc Cert.PeerQ.main_arg2)
      ∧ r.2.mem ((c.tc : Thread Cert.PeerQ.nD Cert.PeerQ.τ).loc Cert.PeerQ.main_arg3) = m ((c.tc : Thread Cert.PeerQ.nD Cert.PeerQ.τ).loc Cert.PeerQ.main_arg3))
      ∧ r.2.sem = fun _ => 0)

def quiescent_PeerQIdeal [hPeerQIdeal : Cert.PeerQIdeal.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
      ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2)
      ∧ r.2.mem ((c.tc : Thread Cert.PeerQIdeal.nD Cert.PeerQIdeal.τ).loc Cert.PeerQIdeal.main_arg3) = m ((c.tc : Thread Cert.PeerQIdeal.nD Cert.PeerQIdeal.τ).loc Cert.PeerQIdeal.main_arg3))
      ∧ r.2.sem = fun _ => 0)

def quiescent_PeerQIdeal_pre_peerq_finite [hPeerQIdeal : Cert.PeerQIdeal.Facts] [hPre_peerq_finite : Cert.Pre_peerq_finite.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal_peerq_finite m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
      ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2)
      ∧ r.2.mem ((c.tc : Thread Cert.PeerQIdeal.nD Cert.PeerQIdeal.τ).loc Cert.PeerQIdeal.main_arg3) = m ((c.tc : Thread Cert.PeerQIdeal.nD Cert.PeerQIdeal.τ).loc Cert.PeerQIdeal.main_arg3))
      ∧ r.2.sem = fun _ => 0)

def quiescent_PeerQRefIdeal [hPeerQRefIdeal : Cert.PeerQRefIdeal.Facts] : Prop :=
  ∀ (m : (ℓ : Loc Cert.PeerQRefIdeal.nD Cert.PeerQRefIdeal.τ Cert.PeerQRefIdeal.sig) → Buf (Elt Ideal) ℓ) (g : Dev Cert.PeerQRefIdeal.nD → PrngReg), Pre_PeerQRefIdeal m →
    θ_run (Cert.PeerQRefIdeal.defs (F := Ideal)) (onTc (τ := Cert.PeerQRefIdeal.τ) (Cert.PeerQRefIdeal.main (F := Ideal))) ⟨m, fun _ => 0, g⟩ (fun r => (∀ c : Dev Cert.PeerQRefIdeal.nD,
      r.2.mem ((c.tc : Thread Cert.PeerQRefIdeal.nD Cert.PeerQRefIdeal.τ).loc Cert.PeerQRefIdeal.main_arg0) = m ((c.tc : Thread Cert.PeerQRefIdeal.nD Cert.PeerQRefIdeal.τ).loc Cert.PeerQRefIdeal.main_arg0)
      ∧ r.2.mem ((c.tc : Thread Cert.PeerQRefIdeal.nD Cert.PeerQRefIdeal.τ).loc Cert.PeerQRefIdeal.main_arg1) = m ((c.tc : Thread Cert.PeerQRefIdeal.nD Cert.PeerQRefIdeal.τ).loc Cert.PeerQRefIdeal.main_arg1)
      ∧ r.2.mem ((c.tc : Thread Cert.PeerQRefIdeal.nD Cert.PeerQRefIdeal.τ).loc Cert.PeerQRefIdeal.main_arg2) = m ((c.tc : Thread Cert.PeerQRefIdeal.nD Cert.PeerQRefIdeal.τ).loc Cert.PeerQRefIdeal.main_arg2)
      ∧ r.2.mem ((c.tc : Thread Cert.PeerQRefIdeal.nD Cert.PeerQRefIdeal.τ).loc Cert.PeerQRefIdeal.main_arg3) = m ((c.tc : Thread Cert.PeerQRefIdeal.nD Cert.PeerQRefIdeal.τ).loc Cert.PeerQRefIdeal.main_arg3))
      ∧ r.2.sem = fun _ => 0)

def quiescent_PeerQRefIdeal_pre_peerq_finite [hPeerQRefIdeal : Cert.PeerQRefIdeal.Facts] [hPre_peerq_finite : Cert.Pre_peerq_finite.Facts] : Prop :=
  ∀ (m : (ℓ : Loc Cert.PeerQRefIdeal.nD Cert.PeerQRefIdeal.τ Cert.PeerQRefIdeal.sig) → Buf (Elt Ideal) ℓ) (g : Dev Cert.PeerQRefIdeal.nD → PrngReg), Pre_PeerQRefIdeal_peerq_finite m →
    θ_run (Cert.PeerQRefIdeal.defs (F := Ideal)) (onTc (τ := Cert.PeerQRefIdeal.τ) (Cert.PeerQRefIdeal.main (F := Ideal))) ⟨m, fun _ => 0, g⟩ (fun r => (∀ c : Dev Cert.PeerQRefIdeal.nD,
      r.2.mem ((c.tc : Thread Cert.PeerQRefIdeal.nD Cert.PeerQRefIdeal.τ).loc Cert.PeerQRefIdeal.main_arg0) = m ((c.tc : Thread Cert.PeerQRefIdeal.nD Cert.PeerQRefIdeal.τ).loc Cert.PeerQRefIdeal.main_arg0)
      ∧ r.2.mem ((c.tc : Thread Cert.PeerQRefIdeal.nD Cert.PeerQRefIdeal.τ).loc Cert.PeerQRefIdeal.main_arg1) = m ((c.tc : Thread Cert.PeerQRefIdeal.nD Cert.PeerQRefIdeal.τ).loc Cert.PeerQRefIdeal.main_arg1)
      ∧ r.2.mem ((c.tc : Thread Cert.PeerQRefIdeal.nD Cert.PeerQRefIdeal.τ).loc Cert.PeerQRefIdeal.main_arg2) = m ((c.tc : Thread Cert.PeerQRefIdeal.nD Cert.PeerQRefIdeal.τ).loc Cert.PeerQRefIdeal.main_arg2)
      ∧ r.2.mem ((c.tc : Thread Cert.PeerQRefIdeal.nD Cert.PeerQRefIdeal.τ).loc Cert.PeerQRefIdeal.main_arg3) = m ((c.tc : Thread Cert.PeerQRefIdeal.nD Cert.PeerQRefIdeal.τ).loc Cert.PeerQRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_FinalP [hFinalP : Cert.FinalP.Facts] : Prop :=
  ∀ (m : (ℓ : Loc Cert.FinalP.nD Cert.FinalP.τ Cert.FinalP.sig) → Buf (Elt Bits) ℓ) (g : Dev Cert.FinalP.nD → PrngReg), Pre_FinalP m →
    θ_run (Cert.FinalP.defs (F := Bits)) (onTc (τ := Cert.FinalP.τ) (Cert.FinalP.main (F := Bits))) ⟨m, fun _ => 0, g⟩ (fun r => (∀ c : Dev Cert.FinalP.nD,
      r.2.mem ((c.tc : Thread Cert.FinalP.nD Cert.FinalP.τ).loc Cert.FinalP.main_arg0) = m ((c.tc : Thread Cert.FinalP.nD Cert.FinalP.τ).loc Cert.FinalP.main_arg0)
      ∧ r.2.mem ((c.tc : Thread Cert.FinalP.nD Cert.FinalP.τ).loc Cert.FinalP.main_arg1) = m ((c.tc : Thread Cert.FinalP.nD Cert.FinalP.τ).loc Cert.FinalP.main_arg1))
      ∧ r.2.sem = fun _ => 0)

def quiescent_FinalPIdeal [hFinalPIdeal : Cert.FinalPIdeal.Facts] : Prop :=
  ∀ (m : (ℓ : Loc Cert.FinalPIdeal.nD Cert.FinalPIdeal.τ Cert.FinalPIdeal.sig) → Buf (Elt Ideal) ℓ) (g : Dev Cert.FinalPIdeal.nD → PrngReg), Pre_FinalPIdeal m →
    θ_run (Cert.FinalPIdeal.defs (F := Ideal)) (onTc (τ := Cert.FinalPIdeal.τ) (Cert.FinalPIdeal.main (F := Ideal))) ⟨m, fun _ => 0, g⟩ (fun r => (∀ c : Dev Cert.FinalPIdeal.nD,
      r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
      ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1))
      ∧ r.2.sem = fun _ => 0)

def quiescent_FinalPRefIdeal [hFinalPRefIdeal : Cert.FinalPRefIdeal.Facts] : Prop :=
  ∀ (m : (ℓ : Loc Cert.FinalPRefIdeal.nD Cert.FinalPRefIdeal.τ Cert.FinalPRefIdeal.sig) → Buf (Elt Ideal) ℓ) (g : Dev Cert.FinalPRefIdeal.nD → PrngReg), Pre_FinalPRefIdeal m →
    θ_run (Cert.FinalPRefIdeal.defs (F := Ideal)) (onTc (τ := Cert.FinalPRefIdeal.τ) (Cert.FinalPRefIdeal.main (F := Ideal))) ⟨m, fun _ => 0, g⟩ (fun r => (∀ c : Dev Cert.FinalPRefIdeal.nD,
      r.2.mem ((c.tc : Thread Cert.FinalPRefIdeal.nD Cert.FinalPRefIdeal.τ).loc Cert.FinalPRefIdeal.main_arg0) = m ((c.tc : Thread Cert.FinalPRefIdeal.nD Cert.FinalPRefIdeal.τ).loc Cert.FinalPRefIdeal.main_arg0)
      ∧ r.2.mem ((c.tc : Thread Cert.FinalPRefIdeal.nD Cert.FinalPRefIdeal.τ).loc Cert.FinalPRefIdeal.main_arg1) = m ((c.tc : Thread Cert.FinalPRefIdeal.nD Cert.FinalPRefIdeal.τ).loc Cert.FinalPRefIdeal.main_arg1))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2))
      ∧ r.2.sem = fun _ => 0)

def preserves_Gqa_GqaIdeal : Prop :=
  True

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)) →
    ∃ (v0 : (c : Dev Cert.GqaIdeal.nD) → Buf (Elt Ideal) ((c.tc : Thread Cert.GqaIdeal.nD Cert.GqaIdeal.τ).loc Cert.GqaIdeal.main_v12)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v12) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v28) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3))

def preserves_Mla_MlaIdeal : Prop :=
  True

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v29)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v29) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v36) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)
      ∧ m' ((c.tc : Thread Cert.InARefIdeal.nD Cert.InARefIdeal.τ).loc Cert.InARefIdeal.main_arg2) = m ((c.tc : Thread Cert.InAIdeal.nD Cert.InAIdeal.τ).loc Cert.InAIdeal.main_arg2)
      ∧ m' ((c.tc : Thread Cert.InARefIdeal.nD Cert.InARefIdeal.τ).loc Cert.InARefIdeal.main_arg3) = m ((c.tc : Thread Cert.InAIdeal.nD Cert.InAIdeal.τ).loc Cert.InAIdeal.main_arg3)) →
    ∃ (v0 : (c : Dev Cert.InAIdeal.nD) → Buf (Elt Ideal) ((c.tc : Thread Cert.InAIdeal.nD Cert.InAIdeal.τ).loc Cert.InAIdeal.main_v4)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v4) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
          ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
          ∧ r.2.mem ((c.tc : Thread Cert.InAIdeal.nD Cert.InAIdeal.τ).loc Cert.InAIdeal.main_arg3) = m ((c.tc : Thread Cert.InAIdeal.nD Cert.InAIdeal.τ).loc Cert.InAIdeal.main_arg3))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v29) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1)
          ∧ r.2.mem ((c.tc : Thread Cert.InARefIdeal.nD Cert.InARefIdeal.τ).loc Cert.InARefIdeal.main_arg2) = m' ((c.tc : Thread Cert.InARefIdeal.nD Cert.InARefIdeal.τ).loc Cert.InARefIdeal.main_arg2)
          ∧ r.2.mem ((c.tc : Thread Cert.InARefIdeal.nD Cert.InARefIdeal.τ).loc Cert.InARefIdeal.main_arg3) = m' ((c.tc : Thread Cert.InARefIdeal.nD Cert.InARefIdeal.τ).loc Cert.InARefIdeal.main_arg3))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)
      ∧ m' ((c.tc : Thread Cert.InBRefIdeal.nD Cert.InBRefIdeal.τ).loc Cert.InBRefIdeal.main_arg2) = m ((c.tc : Thread Cert.InBIdeal.nD Cert.InBIdeal.τ).loc Cert.InBIdeal.main_arg2)
      ∧ m' ((c.tc : Thread Cert.InBRefIdeal.nD Cert.InBRefIdeal.τ).loc Cert.InBRefIdeal.main_arg3) = m ((c.tc : Thread Cert.InBIdeal.nD Cert.InBIdeal.τ).loc Cert.InBIdeal.main_arg3)) →
    ∃ (v0 : (c : Dev Cert.InBIdeal.nD) → Buf (Elt Ideal) ((c.tc : Thread Cert.InBIdeal.nD Cert.InBIdeal.τ).loc Cert.InBIdeal.main_v4)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v4) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
          ∧ r.2.mem ((c.tc : Thread Cert.InBIdeal.nD Cert.InBIdeal.τ).loc Cert.InBIdeal.main_arg3) = m ((c.tc : Thread Cert.InBIdeal.nD Cert.InBIdeal.τ).loc Cert.InBIdeal.main_arg3))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v29) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1)
          ∧ r.2.mem ((c.tc : Thread Cert.InBRefIdeal.nD Cert.InBRefIdeal.τ).loc Cert.InBRefIdeal.main_arg2) = m' ((c.tc : Thread Cert.InBRefIdeal.nD Cert.InBRefIdeal.τ).loc Cert.InBRefIdeal.main_arg2)
          ∧ r.2.mem ((c.tc : Thread Cert.InBRefIdeal.nD Cert.InBRefIdeal.τ).loc Cert.InBRefIdeal.main_arg3) = m' ((c.tc : Thread Cert.InBRefIdeal.nD Cert.InBRefIdeal.τ).loc Cert.InBRefIdeal.main_arg3))

def preserves_InC_InCIdeal : Prop :=
  True

def algebraic_InCIdeal_InCRefIdeal [hInCIdeal : Cert.InCIdeal.Facts] [hInCRefIdeal : Cert.InCRefIdeal.Facts] : Prop :=
  ∀ (m : (ℓ : Loc Cert.InCIdeal.nD Cert.InCIdeal.τ Cert.InCIdeal.sig) → Buf (Elt Ideal) ℓ) (g : Dev Cert.InCIdeal.nD → PrngReg)
    (m' : (ℓ : Loc Cert.InCRefIdeal.nD Cert.InCRefIdeal.τ Cert.InCRefIdeal.sig) → Buf (Elt Ideal) ℓ) (g' : Dev Cert.InCRefIdeal.nD → PrngReg), Pre_InCIdeal m →
    (∀ c : Dev Cert.InCIdeal.nD,
      m' ((c.tc : Thread Cert.InCRefIdeal.nD Cert.InCRefIdeal.τ).loc Cert.InCRefIdeal.main_arg0) = m ((c.tc : Thread Cert.InCIdeal.nD Cert.InCIdeal.τ).loc Cert.InCIdeal.main_arg0)
      ∧ m' ((c.tc : Thread Cert.InCRefIdeal.nD Cert.InCRefIdeal.τ).loc Cert.InCRefIdeal.main_arg1) = m ((c.tc : Thread Cert.InCIdeal.nD Cert.InCIdeal.τ).loc Cert.InCIdeal.main_arg1)
      ∧ m' ((c.tc : Thread Cert.InCRefIdeal.nD Cert.InCRefIdeal.τ).loc Cert.InCRefIdeal.main_arg2) = m ((c.tc : Thread Cert.InCIdeal.nD Cert.InCIdeal.τ).loc Cert.InCIdeal.main_arg2)
      ∧ m' ((c.tc : Thread Cert.InCRefIdeal.nD Cert.InCRefIdeal.τ).loc Cert.InCRefIdeal.main_arg3) = m ((c.tc : Thread Cert.InCIdeal.nD Cert.InCIdeal.τ).loc Cert.InCIdeal.main_arg3)) →
    ∃ (v0 : (c : Dev Cert.InCIdeal.nD) → Buf (Elt Ideal) ((c.tc : Thread Cert.InCIdeal.nD Cert.InCIdeal.τ).loc Cert.InCIdeal.main_v6)),
      θ_run (Cert.InCIdeal.defs (F := Ideal)) (onTc (τ := Cert.InCIdeal.τ) (Cert.InCIdeal.main (F := Ideal))) ⟨m, fun _ => 0, g⟩ (fun r => ∀ c : Dev Cert.InCIdeal.nD,
          r.2.mem ((c.tc : Thread Cert.InCIdeal.nD Cert.InCIdeal.τ).loc Cert.InCIdeal.main_v6) = v0 c
          ∧ r.2.mem ((c.tc : Thread Cert.InCIdeal.nD Cert.InCIdeal.τ).loc Cert.InCIdeal.main_arg0) = m ((c.tc : Thread Cert.InCIdeal.nD Cert.InCIdeal.τ).loc Cert.InCIdeal.main_arg0)
          ∧ r.2.mem ((c.tc : Thread Cert.InCIdeal.nD Cert.InCIdeal.τ).loc Cert.InCIdeal.main_arg1) = m ((c.tc : Thread Cert.InCIdeal.nD Cert.InCIdeal.τ).loc Cert.InCIdeal.main_arg1)
          ∧ r.2.mem ((c.tc : Thread Cert.InCIdeal.nD Cert.InCIdeal.τ).loc Cert.InCIdeal.main_arg2) = m ((c.tc : Thread Cert.InCIdeal.nD Cert.InCIdeal.τ).loc Cert.InCIdeal.main_arg2)
          ∧ r.2.mem ((c.tc : Thread Cert.InCIdeal.nD Cert.InCIdeal.τ).loc Cert.InCIdeal.main_arg3) = m ((c.tc : Thread Cert.InCIdeal.nD Cert.InCIdeal.τ).loc Cert.InCIdeal.main_arg3))
      ∧ θ_run (Cert.InCRefIdeal.defs (F := Ideal)) (onTc (τ := Cert.InCRefIdeal.τ) (Cert.InCRefIdeal.main (F := Ideal))) ⟨m', fun _ => 0, g'⟩ (fun r => ∀ c : Dev Cert.InCRefIdeal.nD,
          r.2.mem ((c.tc : Thread Cert.InCRefIdeal.nD Cert.InCRefIdeal.τ).loc Cert.InCRefIdeal.main_v30) = v0 c
          ∧ r.2.mem ((c.tc : Thread Cert.InCRefIdeal.nD Cert.InCRefIdeal.τ).loc Cert.InCRefIdeal.main_arg0) = m' ((c.tc : Thread Cert.InCRefIdeal.nD Cert.InCRefIdeal.τ).loc Cert.InCRefIdeal.main_arg0)
          ∧ r.2.mem ((c.tc : Thread Cert.InCRefIdeal.nD Cert.InCRefIdeal.τ).loc Cert.InCRefIdeal.main_arg1) = m' ((c.tc : Thread Cert.InCRefIdeal.nD Cert.InCRefIdeal.τ).loc Cert.InCRefIdeal.main_arg1)
          ∧ r.2.mem ((c.tc : Thread Cert.InCRefIdeal.nD Cert.InCRefIdeal.τ).loc Cert.InCRefIdeal.main_arg2) = m' ((c.tc : Thread Cert.InCRefIdeal.nD Cert.InCRefIdeal.τ).loc Cert.InCRefIdeal.main_arg2)
          ∧ r.2.mem ((c.tc : Thread Cert.InCRefIdeal.nD Cert.InCRefIdeal.τ).loc Cert.InCRefIdeal.main_arg3) = m' ((c.tc : Thread Cert.InCRefIdeal.nD Cert.InCRefIdeal.τ).loc Cert.InCRefIdeal.main_arg3))

def preserves_InD_InDIdeal : Prop :=
  True

def algebraic_InDIdeal_InDRefIdeal [hInDIdeal : Cert.InDIdeal.Facts] [hInDRefIdeal : Cert.InDRefIdeal.Facts] : Prop :=
  ∀ (m : (ℓ : Loc Cert.InDIdeal.nD Cert.InDIdeal.τ Cert.InDIdeal.sig) → Buf (Elt Ideal) ℓ) (g : Dev Cert.InDIdeal.nD → PrngReg)
    (m' : (ℓ : Loc Cert.InDRefIdeal.nD Cert.InDRefIdeal.τ Cert.InDRefIdeal.sig) → Buf (Elt Ideal) ℓ) (g' : Dev Cert.InDRefIdeal.nD → PrngReg), Pre_InDIdeal m →
    (∀ c : Dev Cert.InDIdeal.nD,
      m' ((c.tc : Thread Cert.InDRefIdeal.nD Cert.InDRefIdeal.τ).loc Cert.InDRefIdeal.main_arg0) = m ((c.tc : Thread Cert.InDIdeal.nD Cert.InDIdeal.τ).loc Cert.InDIdeal.main_arg0)
      ∧ m' ((c.tc : Thread Cert.InDRefIdeal.nD Cert.InDRefIdeal.τ).loc Cert.InDRefIdeal.main_arg1) = m ((c.tc : Thread Cert.InDIdeal.nD Cert.InDIdeal.τ).loc Cert.InDIdeal.main_arg1)
      ∧ m' ((c.tc : Thread Cert.InDRefIdeal.nD Cert.InDRefIdeal.τ).loc Cert.InDRefIdeal.main_arg2) = m ((c.tc : Thread Cert.InDIdeal.nD Cert.InDIdeal.τ).loc Cert.InDIdeal.main_arg2)
      ∧ m' ((c.tc : Thread Cert.InDRefIdeal.nD Cert.InDRefIdeal.τ).loc Cert.InDRefIdeal.main_arg3) = m ((c.tc : Thread Cert.InDIdeal.nD Cert.InDIdeal.τ).loc Cert.InDIdeal.main_arg3)) →
    ∃ (v0 : (c : Dev Cert.InDIdeal.nD) → Buf (Elt Ideal) ((c.tc : Thread Cert.InDIdeal.nD Cert.InDIdeal.τ).loc Cert.InDIdeal.main_v18)),
      θ_run (Cert.InDIdeal.defs (F := Ideal)) (onTc (τ := Cert.InDIdeal.τ) (Cert.InDIdeal.main (F := Ideal))) ⟨m, fun _ => 0, g⟩ (fun r => ∀ c : Dev Cert.InDIdeal.nD,
          r.2.mem ((c.tc : Thread Cert.InDIdeal.nD Cert.InDIdeal.τ).loc Cert.InDIdeal.main_v18) = v0 c
          ∧ r.2.mem ((c.tc : Thread Cert.InDIdeal.nD Cert.InDIdeal.τ).loc Cert.InDIdeal.main_arg0) = m ((c.tc : Thread Cert.InDIdeal.nD Cert.InDIdeal.τ).loc Cert.InDIdeal.main_arg0)
          ∧ r.2.mem ((c.tc : Thread Cert.InDIdeal.nD Cert.InDIdeal.τ).loc Cert.InDIdeal.main_arg1) = m ((c.tc : Thread Cert.InDIdeal.nD Cert.InDIdeal.τ).loc Cert.InDIdeal.main_arg1)
          ∧ r.2.mem ((c.tc : Thread Cert.InDIdeal.nD Cert.InDIdeal.τ).loc Cert.InDIdeal.main_arg2) = m ((c.tc : Thread Cert.InDIdeal.nD Cert.InDIdeal.τ).loc Cert.InDIdeal.main_arg2)
          ∧ r.2.mem ((c.tc : Thread Cert.InDIdeal.nD Cert.InDIdeal.τ).loc Cert.InDIdeal.main_arg3) = m ((c.tc : Thread Cert.InDIdeal.nD Cert.InDIdeal.τ).loc Cert.InDIdeal.main_arg3))
      ∧ θ_run (Cert.InDRefIdeal.defs (F := Ideal)) (onTc (τ := Cert.InDRefIdeal.τ) (Cert.InDRefIdeal.main (F := Ideal))) ⟨m', fun _ => 0, g'⟩ (fun r => ∀ c : Dev Cert.InDRefIdeal.nD,
          r.2.mem ((c.tc : Thread Cert.InDRefIdeal.nD Cert.InDRefIdeal.τ).loc Cert.InDRefIdeal.main_v40) = v0 c
          ∧ r.2.mem ((c.tc : Thread Cert.InDRefIdeal.nD Cert.InDRefIdeal.τ).loc Cert.InDRefIdeal.main_arg0) = m' ((c.tc : Thread Cert.InDRefIdeal.nD Cert.InDRefIdeal.τ).loc Cert.InDRefIdeal.main_arg0)
          ∧ r.2.mem ((c.tc : Thread Cert.InDRefIdeal.nD Cert.InDRefIdeal.τ).loc Cert.InDRefIdeal.main_arg1) = m' ((c.tc : Thread Cert.InDRefIdeal.nD Cert.InDRefIdeal.τ).loc Cert.InDRefIdeal.main_arg1)
          ∧ r.2.mem ((c.tc : Thread Cert.InDRefIdeal.nD Cert.InDRefIdeal.τ).loc Cert.InDRefIdeal.main_arg2) = m' ((c.tc : Thread Cert.InDRefIdeal.nD Cert.InDRefIdeal.τ).loc Cert.InDRefIdeal.main_arg2)
          ∧ r.2.mem ((c.tc : Thread Cert.InDRefIdeal.nD Cert.InDRefIdeal.τ).loc Cert.InDRefIdeal.main_arg3) = m' ((c.tc : Thread Cert.InDRefIdeal.nD Cert.InDRefIdeal.τ).loc Cert.InDRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v16) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Kvb_KvbIdeal : Prop :=
  True

def algebraic_KvbIdeal_KvbRefIdeal [hKvbIdeal : Cert.KvbIdeal.Facts] [hKvbRefIdeal : Cert.KvbRefIdeal.Facts] : Prop :=
  ∀ (m : (ℓ : Loc Cert.KvbIdeal.nD Cert.KvbIdeal.τ Cert.KvbIdeal.sig) → Buf (Elt Ideal) ℓ) (g : Dev Cert.KvbIdeal.nD → PrngReg)
    (m' : (ℓ : Loc Cert.KvbRefIdeal.nD Cert.KvbRefIdeal.τ Cert.KvbRefIdeal.sig) → Buf (Elt Ideal) ℓ) (g' : Dev Cert.KvbRefIdeal.nD → PrngReg), Pre_KvbIdeal m →
    (∀ c : Dev Cert.KvbIdeal.nD,
      m' ((c.tc : Thread Cert.KvbRefIdeal.nD Cert.KvbRefIdeal.τ).loc Cert.KvbRefIdeal.main_arg0) = m ((c.tc : Thread Cert.KvbIdeal.nD Cert.KvbIdeal.τ).loc Cert.KvbIdeal.main_arg0)
      ∧ m' ((c.tc : Thread Cert.KvbRefIdeal.nD Cert.KvbRefIdeal.τ).loc Cert.KvbRefIdeal.main_arg1) = m ((c.tc : Thread Cert.KvbIdeal.nD Cert.KvbIdeal.τ).loc Cert.KvbIdeal.main_arg1)
      ∧ m' ((c.tc : Thread Cert.KvbRefIdeal.nD Cert.KvbRefIdeal.τ).loc Cert.KvbRefIdeal.main_arg2) = m ((c.tc : Thread Cert.KvbIdeal.nD Cert.KvbIdeal.τ).loc Cert.KvbIdeal.main_arg2)) →
    ∃ (v0 : (c : Dev Cert.KvbIdeal.nD) → Buf (Elt Ideal) ((c.tc : Thread Cert.KvbIdeal.nD Cert.KvbIdeal.τ).loc Cert.KvbIdeal.main_v16_0)) (v1 : (c : Dev Cert.KvbIdeal.nD) → Buf (Elt Ideal) ((c.tc : Thread Cert.KvbIdeal.nD Cert.KvbIdeal.τ).loc Cert.KvbIdeal.main_v16_1)),
      θ_run (Cert.KvbIdeal.defs (F := Ideal)) (onTc (τ := Cert.KvbIdeal.τ) (Cert.KvbIdeal.main (F := Ideal))) ⟨m, fun _ => 0, g⟩ (fun r => ∀ c : Dev Cert.KvbIdeal.nD,
          r.2.mem ((c.tc : Thread Cert.KvbIdeal.nD Cert.KvbIdeal.τ).loc Cert.KvbIdeal.main_v16_0) = v0 c
          ∧ r.2.mem ((c.tc : Thread Cert.KvbIdeal.nD Cert.KvbIdeal.τ).loc Cert.KvbIdeal.main_v16_1) = v1 c
          ∧ r.2.mem ((c.tc : Thread Cert.KvbIdeal.nD Cert.KvbIdeal.τ).loc Cert.KvbIdeal.main_arg0) = m ((c.tc : Thread Cert.KvbIdeal.nD Cert.KvbIdeal.τ).loc Cert.KvbIdeal.main_arg0)
          ∧ r.2.mem ((c.tc : Thread Cert.KvbIdeal.nD Cert.KvbIdeal.τ).loc Cert.KvbIdeal.main_arg1) = m ((c.tc : Thread Cert.KvbIdeal.nD Cert.KvbIdeal.τ).loc Cert.KvbIdeal.main_arg1)
          ∧ r.2.mem ((c.tc : Thread Cert.KvbIdeal.nD Cert.KvbIdeal.τ).loc Cert.KvbIdeal.main_arg2) = m ((c.tc : Thread Cert.KvbIdeal.nD Cert.KvbIdeal.τ).loc Cert.KvbIdeal.main_arg2))
      ∧ θ_run (Cert.KvbRefIdeal.defs (F := Ideal)) (onTc (τ := Cert.KvbRefIdeal.τ) (Cert.KvbRefIdeal.main (F := Ideal))) ⟨m', fun _ => 0, g'⟩ (fun r => ∀ c : Dev Cert.KvbRefIdeal.nD,
          r.2.mem ((c.tc : Thread Cert.KvbRefIdeal.nD Cert.KvbRefIdeal.τ).loc Cert.KvbRefIdeal.main_v14) = v0 c
          ∧ r.2.mem ((c.tc : Thread Cert.KvbRefIdeal.nD Cert.KvbRefIdeal.τ).loc Cert.KvbRefIdeal.main_v13) = v1 c
          ∧ r.2.mem ((c.tc : Thread Cert.KvbRefIdeal.nD Cert.KvbRefIdeal.τ).loc Cert.KvbRefIdeal.main_arg0) = m' ((c.tc : Thread Cert.KvbRefIdeal.nD Cert.KvbRefIdeal.τ).loc Cert.KvbRefIdeal.main_arg0)
          ∧ r.2.mem ((c.tc : Thread Cert.KvbRefIdeal.nD Cert.KvbRefIdeal.τ).loc Cert.KvbRefIdeal.main_arg1) = m' ((c.tc : Thread Cert.KvbRefIdeal.nD Cert.KvbRefIdeal.τ).loc Cert.KvbRefIdeal.main_arg1)
          ∧ r.2.mem ((c.tc : Thread Cert.KvbRefIdeal.nD Cert.KvbRefIdeal.τ).loc Cert.KvbRefIdeal.main_arg2) = m' ((c.tc : Thread Cert.KvbRefIdeal.nD Cert.KvbRefIdeal.τ).loc Cert.KvbRefIdeal.main_arg2))

def preserves_KvCtx_KvCtxIdeal : Prop :=
  True

def algebraic_KvCtxIdeal_KvCtxRefIdeal [hKvCtxIdeal : Cert.KvCtxIdeal.Facts] [hKvCtxRefIdeal : Cert.KvCtxRefIdeal.Facts] : Prop :=
  ∀ (m : (ℓ : Loc Cert.KvCtxIdeal.nD Cert.KvCtxIdeal.τ Cert.KvCtxIdeal.sig) → Buf (Elt Ideal) ℓ) (g : Dev Cert.KvCtxIdeal.nD → PrngReg)
    (m' : (ℓ : Loc Cert.KvCtxRefIdeal.nD Cert.KvCtxRefIdeal.τ Cert.KvCtxRefIdeal.sig) → Buf (Elt Ideal) ℓ) (g' : Dev Cert.KvCtxRefIdeal.nD → PrngReg), Pre_KvCtxIdeal m →
    (∀ c : Dev Cert.KvCtxIdeal.nD,
      m' ((c.tc : Thread Cert.KvCtxRefIdeal.nD Cert.KvCtxRefIdeal.τ).loc Cert.KvCtxRefIdeal.main_arg0) = m ((c.tc : Thread Cert.KvCtxIdeal.nD Cert.KvCtxIdeal.τ).loc Cert.KvCtxIdeal.main_arg0)
      ∧ m' ((c.tc : Thread Cert.KvCtxRefIdeal.nD Cert.KvCtxRefIdeal.τ).loc Cert.KvCtxRefIdeal.main_arg1) = m ((c.tc : Thread Cert.KvCtxIdeal.nD Cert.KvCtxIdeal.τ).loc Cert.KvCtxIdeal.main_arg1)) →
    ∃ (v0 : (c : Dev Cert.KvCtxIdeal.nD) → Buf (Elt Ideal) ((c.tc : Thread Cert.KvCtxIdeal.nD Cert.KvCtxIdeal.τ).loc Cert.KvCtxIdeal.main_v2)),
      θ_run (Cert.KvCtxIdeal.defs (F := Ideal)) (onTc (τ := Cert.KvCtxIdeal.τ) (Cert.KvCtxIdeal.main (F := Ideal))) ⟨m, fun _ => 0, g⟩ (fun r => ∀ c : Dev Cert.KvCtxIdeal.nD,
          r.2.mem ((c.tc : Thread Cert.KvCtxIdeal.nD Cert.KvCtxIdeal.τ).loc Cert.KvCtxIdeal.main_v2) = v0 c
          ∧ r.2.mem ((c.tc : Thread Cert.KvCtxIdeal.nD Cert.KvCtxIdeal.τ).loc Cert.KvCtxIdeal.main_arg0) = m ((c.tc : Thread Cert.KvCtxIdeal.nD Cert.KvCtxIdeal.τ).loc Cert.KvCtxIdeal.main_arg0)
          ∧ r.2.mem ((c.tc : Thread Cert.KvCtxIdeal.nD Cert.KvCtxIdeal.τ).loc Cert.KvCtxIdeal.main_arg1) = m ((c.tc : Thread Cert.KvCtxIdeal.nD Cert.KvCtxIdeal.τ).loc Cert.KvCtxIdeal.main_arg1))
      ∧ θ_run (Cert.KvCtxRefIdeal.defs (F := Ideal)) (onTc (τ := Cert.KvCtxRefIdeal.τ) (Cert.KvCtxRefIdeal.main (F := Ideal))) ⟨m', fun _ => 0, g'⟩ (fun r => ∀ c : Dev Cert.KvCtxRefIdeal.nD,
          r.2.mem ((c.tc : Thread Cert.KvCtxRefIdeal.nD Cert.KvCtxRefIdeal.τ).loc Cert.KvCtxRefIdeal.main_v1) = v0 c
          ∧ r.2.mem ((c.tc : Thread Cert.KvCtxRefIdeal.nD Cert.KvCtxRefIdeal.τ).loc Cert.KvCtxRefIdeal.main_arg0) = m' ((c.tc : Thread Cert.KvCtxRefIdeal.nD Cert.KvCtxRefIdeal.τ).loc Cert.KvCtxRefIdeal.main_arg0)
          ∧ r.2.mem ((c.tc : Thread Cert.KvCtxRefIdeal.nD Cert.KvCtxRefIdeal.τ).loc Cert.KvCtxRefIdeal.main_arg1) = m' ((c.tc : Thread Cert.KvCtxRefIdeal.nD Cert.KvCtxRefIdeal.τ).loc Cert.KvCtxRefIdeal.main_arg1))

def preserves_GdnPrep_GdnPrepIdeal : Prop :=
  True

def algebraic_GdnPrepIdeal_GdnPrepRefIdeal [hGdnPrepIdeal : Cert.GdnPrepIdeal.Facts] [hGdnPrepRefIdeal : Cert.GdnPrepRefIdeal.Facts] : Prop :=
  ∀ (m : (ℓ : Loc Cert.GdnPrepIdeal.nD Cert.GdnPrepIdeal.τ Cert.GdnPrepIdeal.sig) → Buf (Elt Ideal) ℓ) (g : Dev Cert.GdnPrepIdeal.nD → PrngReg)
    (m' : (ℓ : Loc Cert.GdnPrepRefIdeal.nD Cert.GdnPrepRefIdeal.τ Cert.GdnPrepRefIdeal.sig) → Buf (Elt Ideal) ℓ) (g' : Dev Cert.GdnPrepRefIdeal.nD → PrngReg), Pre_GdnPrepIdeal m →
    (∀ c : Dev Cert.GdnPrepIdeal.nD,
      m' ((c.tc : Thread Cert.GdnPrepRefIdeal.nD Cert.GdnPrepRefIdeal.τ).loc Cert.GdnPrepRefIdeal.main_arg0) = m ((c.tc : Thread Cert.GdnPrepIdeal.nD Cert.GdnPrepIdeal.τ).loc Cert.GdnPrepIdeal.main_arg0)
      ∧ m' ((c.tc : Thread Cert.GdnPrepRefIdeal.nD Cert.GdnPrepRefIdeal.τ).loc Cert.GdnPrepRefIdeal.main_arg1) = m ((c.tc : Thread Cert.GdnPrepIdeal.nD Cert.GdnPrepIdeal.τ).loc Cert.GdnPrepIdeal.main_arg1)) →
    ∃ (v0 : (c : Dev Cert.GdnPrepIdeal.nD) → Buf (Elt Ideal) ((c.tc : Thread Cert.GdnPrepIdeal.nD Cert.GdnPrepIdeal.τ).loc Cert.GdnPrepIdeal.main_v0)),
      θ_run (Cert.GdnPrepIdeal.defs (F := Ideal)) (onTc (τ := Cert.GdnPrepIdeal.τ) (Cert.GdnPrepIdeal.main (F := Ideal))) ⟨m, fun _ => 0, g⟩ (fun r => ∀ c : Dev Cert.GdnPrepIdeal.nD,
          r.2.mem ((c.tc : Thread Cert.GdnPrepIdeal.nD Cert.GdnPrepIdeal.τ).loc Cert.GdnPrepIdeal.main_v0) = v0 c
          ∧ r.2.mem ((c.tc : Thread Cert.GdnPrepIdeal.nD Cert.GdnPrepIdeal.τ).loc Cert.GdnPrepIdeal.main_arg0) = m ((c.tc : Thread Cert.GdnPrepIdeal.nD Cert.GdnPrepIdeal.τ).loc Cert.GdnPrepIdeal.main_arg0)
          ∧ r.2.mem ((c.tc : Thread Cert.GdnPrepIdeal.nD Cert.GdnPrepIdeal.τ).loc Cert.GdnPrepIdeal.main_arg1) = m ((c.tc : Thread Cert.GdnPrepIdeal.nD Cert.GdnPrepIdeal.τ).loc Cert.GdnPrepIdeal.main_arg1))
      ∧ θ_run (Cert.GdnPrepRefIdeal.defs (F := Ideal)) (onTc (τ := Cert.GdnPrepRefIdeal.τ) (Cert.GdnPrepRefIdeal.main (F := Ideal))) ⟨m', fun _ => 0, g'⟩ (fun r => ∀ c : Dev Cert.GdnPrepRefIdeal.nD,
          r.2.mem ((c.tc : Thread Cert.GdnPrepRefIdeal.nD Cert.GdnPrepRefIdeal.τ).loc Cert.GdnPrepRefIdeal.main_v50) = v0 c
          ∧ r.2.mem ((c.tc : Thread Cert.GdnPrepRefIdeal.nD Cert.GdnPrepRefIdeal.τ).loc Cert.GdnPrepRefIdeal.main_arg0) = m' ((c.tc : Thread Cert.GdnPrepRefIdeal.nD Cert.GdnPrepRefIdeal.τ).loc Cert.GdnPrepRefIdeal.main_arg0)
          ∧ r.2.mem ((c.tc : Thread Cert.GdnPrepRefIdeal.nD Cert.GdnPrepRefIdeal.τ).loc Cert.GdnPrepRefIdeal.main_arg1) = m' ((c.tc : Thread Cert.GdnPrepRefIdeal.nD Cert.GdnPrepRefIdeal.τ).loc Cert.GdnPrepRefIdeal.main_arg1))

def preserves_GdnPost_GdnPostIdeal : Prop :=
  True

def algebraic_GdnPostIdeal_GdnPostRefIdeal [hGdnPostIdeal : Cert.GdnPostIdeal.Facts] [hGdnPostRefIdeal : Cert.GdnPostRefIdeal.Facts] : Prop :=
  ∀ (m : (ℓ : Loc Cert.GdnPostIdeal.nD Cert.GdnPostIdeal.τ Cert.GdnPostIdeal.sig) → Buf (Elt Ideal) ℓ) (g : Dev Cert.GdnPostIdeal.nD → PrngReg)
    (m' : (ℓ : Loc Cert.GdnPostRefIdeal.nD Cert.GdnPostRefIdeal.τ Cert.GdnPostRefIdeal.sig) → Buf (Elt Ideal) ℓ) (g' : Dev Cert.GdnPostRefIdeal.nD → PrngReg), Pre_GdnPostIdeal m →
    (∀ c : Dev Cert.GdnPostIdeal.nD,
      m' ((c.tc : Thread Cert.GdnPostRefIdeal.nD Cert.GdnPostRefIdeal.τ).loc Cert.GdnPostRefIdeal.main_arg0) = m ((c.tc : Thread Cert.GdnPostIdeal.nD Cert.GdnPostIdeal.τ).loc Cert.GdnPostIdeal.main_arg0)
      ∧ m' ((c.tc : Thread Cert.GdnPostRefIdeal.nD Cert.GdnPostRefIdeal.τ).loc Cert.GdnPostRefIdeal.main_arg1) = m ((c.tc : Thread Cert.GdnPostIdeal.nD Cert.GdnPostIdeal.τ).loc Cert.GdnPostIdeal.main_arg1)
      ∧ m' ((c.tc : Thread Cert.GdnPostRefIdeal.nD Cert.GdnPostRefIdeal.τ).loc Cert.GdnPostRefIdeal.main_arg2) = m ((c.tc : Thread Cert.GdnPostIdeal.nD Cert.GdnPostIdeal.τ).loc Cert.GdnPostIdeal.main_arg2)
      ∧ m' ((c.tc : Thread Cert.GdnPostRefIdeal.nD Cert.GdnPostRefIdeal.τ).loc Cert.GdnPostRefIdeal.main_arg3) = m ((c.tc : Thread Cert.GdnPostIdeal.nD Cert.GdnPostIdeal.τ).loc Cert.GdnPostIdeal.main_arg3)) →
    ∃ (v0 : (c : Dev Cert.GdnPostIdeal.nD) → Buf (Elt Ideal) ((c.tc : Thread Cert.GdnPostIdeal.nD Cert.GdnPostIdeal.τ).loc Cert.GdnPostIdeal.main_v1)),
      θ_run (Cert.GdnPostIdeal.defs (F := Ideal)) (onTc (τ := Cert.GdnPostIdeal.τ) (Cert.GdnPostIdeal.main (F := Ideal))) ⟨m, fun _ => 0, g⟩ (fun r => ∀ c : Dev Cert.GdnPostIdeal.nD,
          r.2.mem ((c.tc : Thread Cert.GdnPostIdeal.nD Cert.GdnPostIdeal.τ).loc Cert.GdnPostIdeal.main_v1) = v0 c
          ∧ r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
          ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
          ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2)
          ∧ r.2.mem ((c.tc : Thread Cert.GdnPostIdeal.nD Cert.GdnPostIdeal.τ).loc Cert.GdnPostIdeal.main_arg3) = m ((c.tc : Thread Cert.GdnPostIdeal.nD Cert.GdnPostIdeal.τ).loc Cert.GdnPostIdeal.main_arg3))
      ∧ θ_run (Cert.GdnPostRefIdeal.defs (F := Ideal)) (onTc (τ := Cert.GdnPostRefIdeal.τ) (Cert.GdnPostRefIdeal.main (F := Ideal))) ⟨m', fun _ => 0, g'⟩ (fun r => ∀ c : Dev Cert.GdnPostRefIdeal.nD,
          r.2.mem ((c.tc : Thread Cert.GdnPostRefIdeal.nD Cert.GdnPostRefIdeal.τ).loc Cert.GdnPostRefIdeal.main_v20) = v0 c
          ∧ r.2.mem ((c.tc : Thread Cert.GdnPostRefIdeal.nD Cert.GdnPostRefIdeal.τ).loc Cert.GdnPostRefIdeal.main_arg0) = m' ((c.tc : Thread Cert.GdnPostRefIdeal.nD Cert.GdnPostRefIdeal.τ).loc Cert.GdnPostRefIdeal.main_arg0)
          ∧ r.2.mem ((c.tc : Thread Cert.GdnPostRefIdeal.nD Cert.GdnPostRefIdeal.τ).loc Cert.GdnPostRefIdeal.main_arg1) = m' ((c.tc : Thread Cert.GdnPostRefIdeal.nD Cert.GdnPostRefIdeal.τ).loc Cert.GdnPostRefIdeal.main_arg1)
          ∧ r.2.mem ((c.tc : Thread Cert.GdnPostRefIdeal.nD Cert.GdnPostRefIdeal.τ).loc Cert.GdnPostRefIdeal.main_arg2) = m' ((c.tc : Thread Cert.GdnPostRefIdeal.nD Cert.GdnPostRefIdeal.τ).loc Cert.GdnPostRefIdeal.main_arg2)
          ∧ r.2.mem ((c.tc : Thread Cert.GdnPostRefIdeal.nD Cert.GdnPostRefIdeal.τ).loc Cert.GdnPostRefIdeal.main_arg3) = m' ((c.tc : Thread Cert.GdnPostRefIdeal.nD Cert.GdnPostRefIdeal.τ).loc Cert.GdnPostRefIdeal.main_arg3))

def preserves_GdnBg_GdnBgIdeal : Prop :=
  True

def algebraic_GdnBgIdeal_GdnBgRefIdeal [hGdnBgIdeal : Cert.GdnBgIdeal.Facts] [hGdnBgRefIdeal : Cert.GdnBgRefIdeal.Facts] : Prop :=
  ∀ (m : (ℓ : Loc Cert.GdnBgIdeal.nD Cert.GdnBgIdeal.τ Cert.GdnBgIdeal.sig) → Buf (Elt Ideal) ℓ) (g : Dev Cert.GdnBgIdeal.nD → PrngReg)
    (m' : (ℓ : Loc Cert.GdnBgRefIdeal.nD Cert.GdnBgRefIdeal.τ Cert.GdnBgRefIdeal.sig) → Buf (Elt Ideal) ℓ) (g' : Dev Cert.GdnBgRefIdeal.nD → PrngReg), Pre_GdnBgIdeal m →
    (∀ c : Dev Cert.GdnBgIdeal.nD,
      m' ((c.tc : Thread Cert.GdnBgRefIdeal.nD Cert.GdnBgRefIdeal.τ).loc Cert.GdnBgRefIdeal.main_arg0) = m ((c.tc : Thread Cert.GdnBgIdeal.nD Cert.GdnBgIdeal.τ).loc Cert.GdnBgIdeal.main_arg0)
      ∧ m' ((c.tc : Thread Cert.GdnBgRefIdeal.nD Cert.GdnBgRefIdeal.τ).loc Cert.GdnBgRefIdeal.main_arg1) = m ((c.tc : Thread Cert.GdnBgIdeal.nD Cert.GdnBgIdeal.τ).loc Cert.GdnBgIdeal.main_arg1)
      ∧ m' ((c.tc : Thread Cert.GdnBgRefIdeal.nD Cert.GdnBgRefIdeal.τ).loc Cert.GdnBgRefIdeal.main_arg2) = m ((c.tc : Thread Cert.GdnBgIdeal.nD Cert.GdnBgIdeal.τ).loc Cert.GdnBgIdeal.main_arg2)) →
    ∃ (v0 : (c : Dev Cert.GdnBgIdeal.nD) → Buf (Elt Ideal) ((c.tc : Thread Cert.GdnBgIdeal.nD Cert.GdnBgIdeal.τ).loc Cert.GdnBgIdeal.main_v10)),
      θ_run (Cert.GdnBgIdeal.defs (F := Ideal)) (onTc (τ := Cert.GdnBgIdeal.τ) (Cert.GdnBgIdeal.main (F := Ideal))) ⟨m, fun _ => 0, g⟩ (fun r => ∀ c : Dev Cert.GdnBgIdeal.nD,
          r.2.mem ((c.tc : Thread Cert.GdnBgIdeal.nD Cert.GdnBgIdeal.τ).loc Cert.GdnBgIdeal.main_v10) = v0 c
          ∧ r.2.mem ((c.tc : Thread Cert.GdnBgIdeal.nD Cert.GdnBgIdeal.τ).loc Cert.GdnBgIdeal.main_arg0) = m ((c.tc : Thread Cert.GdnBgIdeal.nD Cert.GdnBgIdeal.τ).loc Cert.GdnBgIdeal.main_arg0)
          ∧ r.2.mem ((c.tc : Thread Cert.GdnBgIdeal.nD Cert.GdnBgIdeal.τ).loc Cert.GdnBgIdeal.main_arg1) = m ((c.tc : Thread Cert.GdnBgIdeal.nD Cert.GdnBgIdeal.τ).loc Cert.GdnBgIdeal.main_arg1)
          ∧ r.2.mem ((c.tc : Thread Cert.GdnBgIdeal.nD Cert.GdnBgIdeal.τ).loc Cert.GdnBgIdeal.main_arg2) = m ((c.tc : Thread Cert.GdnBgIdeal.nD Cert.GdnBgIdeal.τ).loc Cert.GdnBgIdeal.main_arg2))
      ∧ θ_run (Cert.GdnBgRefIdeal.defs (F := Ideal)) (onTc (τ := Cert.GdnBgRefIdeal.τ) (Cert.GdnBgRefIdeal.main (F := Ideal))) ⟨m', fun _ => 0, g'⟩ (fun r => ∀ c : Dev Cert.GdnBgRefIdeal.nD,
          r.2.mem ((c.tc : Thread Cert.GdnBgRefIdeal.nD Cert.GdnBgRefIdeal.τ).loc Cert.GdnBgRefIdeal.main_v25) = v0 c
          ∧ r.2.mem ((c.tc : Thread Cert.GdnBgRefIdeal.nD Cert.GdnBgRefIdeal.τ).loc Cert.GdnBgRefIdeal.main_arg0) = m' ((c.tc : Thread Cert.GdnBgRefIdeal.nD Cert.GdnBgRefIdeal.τ).loc Cert.GdnBgRefIdeal.main_arg0)
          ∧ r.2.mem ((c.tc : Thread Cert.GdnBgRefIdeal.nD Cert.GdnBgRefIdeal.τ).loc Cert.GdnBgRefIdeal.main_arg1) = m' ((c.tc : Thread Cert.GdnBgRefIdeal.nD Cert.GdnBgRefIdeal.τ).loc Cert.GdnBgRefIdeal.main_arg1)
          ∧ r.2.mem ((c.tc : Thread Cert.GdnBgRefIdeal.nD Cert.GdnBgRefIdeal.τ).loc Cert.GdnBgRefIdeal.main_arg2) = m' ((c.tc : Thread Cert.GdnBgRefIdeal.nD Cert.GdnBgRefIdeal.τ).loc Cert.GdnBgRefIdeal.main_arg2))

def preserves_QkS_QkSIdeal : Prop :=
  True

def algebraic_QkSIdeal_QkSRefIdeal [hQkSIdeal : Cert.QkSIdeal.Facts] [hQkSRefIdeal : Cert.QkSRefIdeal.Facts] : Prop :=
  ∀ (m : (ℓ : Loc Cert.QkSIdeal.nD Cert.QkSIdeal.τ Cert.QkSIdeal.sig) → Buf (Elt Ideal) ℓ) (g : Dev Cert.QkSIdeal.nD → PrngReg)
    (m' : (ℓ : Loc Cert.QkSRefIdeal.nD Cert.QkSRefIdeal.τ Cert.QkSRefIdeal.sig) → Buf (Elt Ideal) ℓ) (g' : Dev Cert.QkSRefIdeal.nD → PrngReg), Pre_QkSIdeal m →
    (∀ c : Dev Cert.QkSIdeal.nD,
      m' ((c.tc : Thread Cert.QkSRefIdeal.nD Cert.QkSRefIdeal.τ).loc Cert.QkSRefIdeal.main_arg0) = m ((c.tc : Thread Cert.QkSIdeal.nD Cert.QkSIdeal.τ).loc Cert.QkSIdeal.main_arg0)
      ∧ m' ((c.tc : Thread Cert.QkSRefIdeal.nD Cert.QkSRefIdeal.τ).loc Cert.QkSRefIdeal.main_arg1) = m ((c.tc : Thread Cert.QkSIdeal.nD Cert.QkSIdeal.τ).loc Cert.QkSIdeal.main_arg1)
      ∧ m' ((c.tc : Thread Cert.QkSRefIdeal.nD Cert.QkSRefIdeal.τ).loc Cert.QkSRefIdeal.main_arg2) = m ((c.tc : Thread Cert.QkSIdeal.nD Cert.QkSIdeal.τ).loc Cert.QkSIdeal.main_arg2)) →
    ∃ (v0 : (c : Dev Cert.QkSIdeal.nD) → Buf (Elt Ideal) ((c.tc : Thread Cert.QkSIdeal.nD Cert.QkSIdeal.τ).loc Cert.QkSIdeal.main_v44)),
      θ_run (Cert.QkSIdeal.defs (F := Ideal)) (onTc (τ := Cert.QkSIdeal.τ) (Cert.QkSIdeal.main (F := Ideal))) ⟨m, fun _ => 0, g⟩ (fun r => ∀ c : Dev Cert.QkSIdeal.nD,
          r.2.mem ((c.tc : Thread Cert.QkSIdeal.nD Cert.QkSIdeal.τ).loc Cert.QkSIdeal.main_v44) = v0 c
          ∧ r.2.mem ((c.tc : Thread Cert.QkSIdeal.nD Cert.QkSIdeal.τ).loc Cert.QkSIdeal.main_arg0) = m ((c.tc : Thread Cert.QkSIdeal.nD Cert.QkSIdeal.τ).loc Cert.QkSIdeal.main_arg0)
          ∧ r.2.mem ((c.tc : Thread Cert.QkSIdeal.nD Cert.QkSIdeal.τ).loc Cert.QkSIdeal.main_arg1) = m ((c.tc : Thread Cert.QkSIdeal.nD Cert.QkSIdeal.τ).loc Cert.QkSIdeal.main_arg1)
          ∧ r.2.mem ((c.tc : Thread Cert.QkSIdeal.nD Cert.QkSIdeal.τ).loc Cert.QkSIdeal.main_arg2) = m ((c.tc : Thread Cert.QkSIdeal.nD Cert.QkSIdeal.τ).loc Cert.QkSIdeal.main_arg2))
      ∧ θ_run (Cert.QkSRefIdeal.defs (F := Ideal)) (onTc (τ := Cert.QkSRefIdeal.τ) (Cert.QkSRefIdeal.main (F := Ideal))) ⟨m', fun _ => 0, g'⟩ (fun r => ∀ c : Dev Cert.QkSRefIdeal.nD,
          r.2.mem ((c.tc : Thread Cert.QkSRefIdeal.nD Cert.QkSRefIdeal.τ).loc Cert.QkSRefIdeal.main_v100) = v0 c
          ∧ r.2.mem ((c.tc : Thread Cert.QkSRefIdeal.nD Cert.QkSRefIdeal.τ).loc Cert.QkSRefIdeal.main_arg0) = m' ((c.tc : Thread Cert.QkSRefIdeal.nD Cert.QkSRefIdeal.τ).loc Cert.QkSRefIdeal.main_arg0)
          ∧ r.2.mem ((c.tc : Thread Cert.QkSRefIdeal.nD Cert.QkSRefIdeal.τ).loc Cert.QkSRefIdeal.main_arg1) = m' ((c.tc : Thread Cert.QkSRefIdeal.nD Cert.QkSRefIdeal.τ).loc Cert.QkSRefIdeal.main_arg1)
          ∧ r.2.mem ((c.tc : Thread Cert.QkSRefIdeal.nD Cert.QkSRefIdeal.τ).loc Cert.QkSRefIdeal.main_arg2) = m' ((c.tc : Thread Cert.QkSRefIdeal.nD Cert.QkSRefIdeal.τ).loc Cert.QkSRefIdeal.main_arg2))

def preserves_MlaQk_MlaQkIdeal : Prop :=
  True

def algebraic_MlaQkIdeal_MlaQkRefIdeal [hMlaQkIdeal : Cert.MlaQkIdeal.Facts] [hMlaQkRefIdeal : Cert.MlaQkRefIdeal.Facts] : Prop :=
  ∀ (m : (ℓ : Loc Cert.MlaQkIdeal.nD Cert.MlaQkIdeal.τ Cert.MlaQkIdeal.sig) → Buf (Elt Ideal) ℓ) (g : Dev Cert.MlaQkIdeal.nD → PrngReg)
    (m' : (ℓ : Loc Cert.MlaQkRefIdeal.nD Cert.MlaQkRefIdeal.τ Cert.MlaQkRefIdeal.sig) → Buf (Elt Ideal) ℓ) (g' : Dev Cert.MlaQkRefIdeal.nD → PrngReg), Pre_MlaQkIdeal m →
    (∀ c : Dev Cert.MlaQkIdeal.nD,
      m' ((c.tc : Thread Cert.MlaQkRefIdeal.nD Cert.MlaQkRefIdeal.τ).loc Cert.MlaQkRefIdeal.main_arg0) = m ((c.tc : Thread Cert.MlaQkIdeal.nD Cert.MlaQkIdeal.τ).loc Cert.MlaQkIdeal.main_arg0)) →
    ∃ (v0 : (c : Dev Cert.MlaQkIdeal.nD) → Buf (Elt Ideal) ((c.tc : Thread Cert.MlaQkIdeal.nD Cert.MlaQkIdeal.τ).loc Cert.MlaQkIdeal.main_v40)),
      θ_run (Cert.MlaQkIdeal.defs (F := Ideal)) (onTc (τ := Cert.MlaQkIdeal.τ) (Cert.MlaQkIdeal.main (F := Ideal))) ⟨m, fun _ => 0, g⟩ (fun r => ∀ c : Dev Cert.MlaQkIdeal.nD,
          r.2.mem ((c.tc : Thread Cert.MlaQkIdeal.nD Cert.MlaQkIdeal.τ).loc Cert.MlaQkIdeal.main_v40) = v0 c
          ∧ r.2.mem ((c.tc : Thread Cert.MlaQkIdeal.nD Cert.MlaQkIdeal.τ).loc Cert.MlaQkIdeal.main_arg0) = m ((c.tc : Thread Cert.MlaQkIdeal.nD Cert.MlaQkIdeal.τ).loc Cert.MlaQkIdeal.main_arg0))
      ∧ θ_run (Cert.MlaQkRefIdeal.defs (F := Ideal)) (onTc (τ := Cert.MlaQkRefIdeal.τ) (Cert.MlaQkRefIdeal.main (F := Ideal))) ⟨m', fun _ => 0, g'⟩ (fun r => ∀ c : Dev Cert.MlaQkRefIdeal.nD,
          r.2.mem ((c.tc : Thread Cert.MlaQkRefIdeal.nD Cert.MlaQkRefIdeal.τ).loc Cert.MlaQkRefIdeal.main_v52) = v0 c
          ∧ r.2.mem ((c.tc : Thread Cert.MlaQkRefIdeal.nD Cert.MlaQkRefIdeal.τ).loc Cert.MlaQkRefIdeal.main_arg0) = m' ((c.tc : Thread Cert.MlaQkRefIdeal.nD Cert.MlaQkRefIdeal.τ).loc Cert.MlaQkRefIdeal.main_arg0))

def preserves_PeerQ_PeerQIdeal : Prop :=
  True

def algebraic_PeerQIdeal_PeerQRefIdeal_pre_peerq_finite [hPeerQIdeal : Cert.PeerQIdeal.Facts] [hPeerQRefIdeal : Cert.PeerQRefIdeal.Facts] [hPre_peerq_finite : Cert.Pre_peerq_finite.Facts] : Prop :=
  ∀ (m : (ℓ : Loc Cert.PeerQIdeal.nD Cert.PeerQIdeal.τ Cert.PeerQIdeal.sig) → Buf (Elt Ideal) ℓ) (g : Dev Cert.PeerQIdeal.nD → PrngReg)
    (m' : (ℓ : Loc Cert.PeerQRefIdeal.nD Cert.PeerQRefIdeal.τ Cert.PeerQRefIdeal.sig) → Buf (Elt Ideal) ℓ) (g' : Dev Cert.PeerQRefIdeal.nD → PrngReg), Pre_PeerQIdeal_peerq_finite m →
    (∀ c : Dev Cert.PeerQIdeal.nD,
      m' ((c.tc : Thread Cert.PeerQRefIdeal.nD Cert.PeerQRefIdeal.τ).loc Cert.PeerQRefIdeal.main_arg0) = m ((c.tc : Thread Cert.PeerQIdeal.nD Cert.PeerQIdeal.τ).loc Cert.PeerQIdeal.main_arg0)
      ∧ m' ((c.tc : Thread Cert.PeerQRefIdeal.nD Cert.PeerQRefIdeal.τ).loc Cert.PeerQRefIdeal.main_arg1) = m ((c.tc : Thread Cert.PeerQIdeal.nD Cert.PeerQIdeal.τ).loc Cert.PeerQIdeal.main_arg1)
      ∧ m' ((c.tc : Thread Cert.PeerQRefIdeal.nD Cert.PeerQRefIdeal.τ).loc Cert.PeerQRefIdeal.main_arg2) = m ((c.tc : Thread Cert.PeerQIdeal.nD Cert.PeerQIdeal.τ).loc Cert.PeerQIdeal.main_arg2)
      ∧ m' ((c.tc : Thread Cert.PeerQRefIdeal.nD Cert.PeerQRefIdeal.τ).loc Cert.PeerQRefIdeal.main_arg3) = m ((c.tc : Thread Cert.PeerQIdeal.nD Cert.PeerQIdeal.τ).loc Cert.PeerQIdeal.main_arg3)) →
    ∃ (v0 : (c : Dev Cert.PeerQIdeal.nD) → Buf (Elt Ideal) ((c.tc : Thread Cert.PeerQIdeal.nD Cert.PeerQIdeal.τ).loc Cert.PeerQIdeal.main_v6_0)) (v1 : (c : Dev Cert.PeerQIdeal.nD) → Buf (Elt Ideal) ((c.tc : Thread Cert.PeerQIdeal.nD Cert.PeerQIdeal.τ).loc Cert.PeerQIdeal.main_v6_1)),
      θ_run (Cert.PeerQIdeal.defs (F := Ideal)) (onTc (τ := Cert.PeerQIdeal.τ) (Cert.PeerQIdeal.main (F := Ideal))) ⟨m, fun _ => 0, g⟩ (fun r => ∀ c : Dev Cert.PeerQIdeal.nD,
          r.2.mem ((c.tc : Thread Cert.PeerQIdeal.nD Cert.PeerQIdeal.τ).loc Cert.PeerQIdeal.main_v6_0) = v0 c
          ∧ r.2.mem ((c.tc : Thread Cert.PeerQIdeal.nD Cert.PeerQIdeal.τ).loc Cert.PeerQIdeal.main_v6_1) = v1 c
          ∧ r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
          ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
          ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2)
          ∧ r.2.mem ((c.tc : Thread Cert.PeerQIdeal.nD Cert.PeerQIdeal.τ).loc Cert.PeerQIdeal.main_arg3) = m ((c.tc : Thread Cert.PeerQIdeal.nD Cert.PeerQIdeal.τ).loc Cert.PeerQIdeal.main_arg3))
      ∧ θ_run (Cert.PeerQRefIdeal.defs (F := Ideal)) (onTc (τ := Cert.PeerQRefIdeal.τ) (Cert.PeerQRefIdeal.main (F := Ideal))) ⟨m', fun _ => 0, g'⟩ (fun r => ∀ c : Dev Cert.PeerQRefIdeal.nD,
          r.2.mem ((c.tc : Thread Cert.PeerQRefIdeal.nD Cert.PeerQRefIdeal.τ).loc Cert.PeerQRefIdeal.main_v28) = v0 c
          ∧ r.2.mem ((c.tc : Thread Cert.PeerQRefIdeal.nD Cert.PeerQRefIdeal.τ).loc Cert.PeerQRefIdeal.main_v29) = v1 c
          ∧ r.2.mem ((c.tc : Thread Cert.PeerQRefIdeal.nD Cert.PeerQRefIdeal.τ).loc Cert.PeerQRefIdeal.main_arg0) = m' ((c.tc : Thread Cert.PeerQRefIdeal.nD Cert.PeerQRefIdeal.τ).loc Cert.PeerQRefIdeal.main_arg0)
          ∧ r.2.mem ((c.tc : Thread Cert.PeerQRefIdeal.nD Cert.PeerQRefIdeal.τ).loc Cert.PeerQRefIdeal.main_arg1) = m' ((c.tc : Thread Cert.PeerQRefIdeal.nD Cert.PeerQRefIdeal.τ).loc Cert.PeerQRefIdeal.main_arg1)
          ∧ r.2.mem ((c.tc : Thread Cert.PeerQRefIdeal.nD Cert.PeerQRefIdeal.τ).loc Cert.PeerQRefIdeal.main_arg2) = m' ((c.tc : Thread Cert.PeerQRefIdeal.nD Cert.PeerQRefIdeal.τ).loc Cert.PeerQRefIdeal.main_arg2)
          ∧ r.2.mem ((c.tc : Thread Cert.PeerQRefIdeal.nD Cert.PeerQRefIdeal.τ).loc Cert.PeerQRefIdeal.main_arg3) = m' ((c.tc : Thread Cert.PeerQRefIdeal.nD Cert.PeerQRefIdeal.τ).loc Cert.PeerQRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v14) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_FinalP_FinalPIdeal : Prop :=
  True

def algebraic_FinalPIdeal_FinalPRefIdeal [hFinalPIdeal : Cert.FinalPIdeal.Facts] [hFinalPRefIdeal : Cert.FinalPRefIdeal.Facts] : Prop :=
  ∀ (m : (ℓ : Loc Cert.FinalPIdeal.nD Cert.FinalPIdeal.τ Cert.FinalPIdeal.sig) → Buf (Elt Ideal) ℓ) (g : Dev Cert.FinalPIdeal.nD → PrngReg)
    (m' : (ℓ : Loc Cert.FinalPRefIdeal.nD Cert.FinalPRefIdeal.τ Cert.FinalPRefIdeal.sig) → Buf (Elt Ideal) ℓ) (g' : Dev Cert.FinalPRefIdeal.nD → PrngReg), Pre_FinalPIdeal m →
    (∀ c : Dev Cert.FinalPIdeal.nD,
      m' ((c.tc : Thread Cert.FinalPRefIdeal.nD Cert.FinalPRefIdeal.τ).loc Cert.FinalPRefIdeal.main_arg0) = m ((c.tc : Thread Cert.FinalPIdeal.nD Cert.FinalPIdeal.τ).loc Cert.FinalPIdeal.main_arg0)
      ∧ m' ((c.tc : Thread Cert.FinalPRefIdeal.nD Cert.FinalPRefIdeal.τ).loc Cert.FinalPRefIdeal.main_arg1) = m ((c.tc : Thread Cert.FinalPIdeal.nD Cert.FinalPIdeal.τ).loc Cert.FinalPIdeal.main_arg1)) →
    ∃ (v0 : (c : Dev Cert.FinalPIdeal.nD) → Buf (Elt Ideal) ((c.tc : Thread Cert.FinalPIdeal.nD Cert.FinalPIdeal.τ).loc Cert.FinalPIdeal.main_v1)),
      θ_run (Cert.FinalPIdeal.defs (F := Ideal)) (onTc (τ := Cert.FinalPIdeal.τ) (Cert.FinalPIdeal.main (F := Ideal))) ⟨m, fun _ => 0, g⟩ (fun r => ∀ c : Dev Cert.FinalPIdeal.nD,
          r.2.mem ((c.tc : Thread Cert.FinalPIdeal.nD Cert.FinalPIdeal.τ).loc Cert.FinalPIdeal.main_v1) = v0 c
          ∧ r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
          ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1))
      ∧ θ_run (Cert.FinalPRefIdeal.defs (F := Ideal)) (onTc (τ := Cert.FinalPRefIdeal.τ) (Cert.FinalPRefIdeal.main (F := Ideal))) ⟨m', fun _ => 0, g'⟩ (fun r => ∀ c : Dev Cert.FinalPRefIdeal.nD,
          r.2.mem ((c.tc : Thread Cert.FinalPRefIdeal.nD Cert.FinalPRefIdeal.τ).loc Cert.FinalPRefIdeal.main_v14) = v0 c
          ∧ r.2.mem ((c.tc : Thread Cert.FinalPRefIdeal.nD Cert.FinalPRefIdeal.τ).loc Cert.FinalPRefIdeal.main_arg0) = m' ((c.tc : Thread Cert.FinalPRefIdeal.nD Cert.FinalPRefIdeal.τ).loc Cert.FinalPRefIdeal.main_arg0)
          ∧ r.2.mem ((c.tc : Thread Cert.FinalPRefIdeal.nD Cert.FinalPRefIdeal.τ).loc Cert.FinalPRefIdeal.main_arg1) = m' ((c.tc : Thread Cert.FinalPRefIdeal.nD Cert.FinalPRefIdeal.τ).loc Cert.FinalPRefIdeal.main_arg1))

def preserves_Qk_QkIdeal : Prop :=
  True

def algebraic_QkIdeal_QkRefIdeal [hQkIdeal : Cert.QkIdeal.Facts] [hQkRefIdeal : Cert.QkRefIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)
      ∧ m' ((c.tc : Thread Cert.QkRefIdeal.nD Cert.QkRefIdeal.τ).loc Cert.QkRefIdeal.main_arg2) = m ((c.tc : Thread Cert.QkIdeal.nD Cert.QkIdeal.τ).loc Cert.QkIdeal.main_arg2)) →
    ∃ (v0 : (c : Dev Cert.QkIdeal.nD) → Buf (Elt Ideal) ((c.tc : Thread Cert.QkIdeal.nD Cert.QkIdeal.τ).loc Cert.QkIdeal.main_v8)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v8) = v0 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v32) = v0 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2))

def Claim : Prop :=
  ∃ (hGqa : Cert.Gqa.Facts) (hGqaIdeal : Cert.GqaIdeal.Facts) (hGqaRefIdeal : Cert.GqaRefIdeal.Facts) (hMla : Cert.Mla.Facts) (hMlaIdeal : Cert.MlaIdeal.Facts) (hMlaRefIdeal : Cert.MlaRefIdeal.Facts) (hInA : Cert.InA.Facts) (hInAIdeal : Cert.InAIdeal.Facts) (hInARefIdeal : Cert.InARefIdeal.Facts) (hInB : Cert.InB.Facts) (hInBIdeal : Cert.InBIdeal.Facts) (hInBRefIdeal : Cert.InBRefIdeal.Facts) (hInC : Cert.InC.Facts) (hInCIdeal : Cert.InCIdeal.Facts) (hInCRefIdeal : Cert.InCRefIdeal.Facts) (hInD : Cert.InD.Facts) (hInDIdeal : Cert.InDIdeal.Facts) (hInDRefIdeal : Cert.InDRefIdeal.Facts) (hOut : Cert.Out.Facts) (hOutIdeal : Cert.OutIdeal.Facts) (hOutRefIdeal : Cert.OutRefIdeal.Facts) (hKvb : Cert.Kvb.Facts) (hKvbIdeal : Cert.KvbIdeal.Facts) (hKvbRefIdeal : Cert.KvbRefIdeal.Facts) (hKvCtx : Cert.KvCtx.Facts) (hKvCtxIdeal : Cert.KvCtxIdeal.Facts) (hKvCtxRefIdeal : Cert.KvCtxRefIdeal.Facts) (hGdnPrep : Cert.GdnPrep.Facts) (hGdnPrepIdeal : Cert.GdnPrepIdeal.Facts) (hGdnPrepRefIdeal : Cert.GdnPrepRefIdeal.Facts) (hGdnPost : Cert.GdnPost.Facts) (hGdnPostIdeal : Cert.GdnPostIdeal.Facts) (hGdnPostRefIdeal : Cert.GdnPostRefIdeal.Facts) (hGdnBg : Cert.GdnBg.Facts) (hGdnBgIdeal : Cert.GdnBgIdeal.Facts) (hGdnBgRefIdeal : Cert.GdnBgRefIdeal.Facts) (hQkS : Cert.QkS.Facts) (hQkSIdeal : Cert.QkSIdeal.Facts) (hQkSRefIdeal : Cert.QkSRefIdeal.Facts) (hMlaQk : Cert.MlaQk.Facts) (hMlaQkIdeal : Cert.MlaQkIdeal.Facts) (hMlaQkRefIdeal : Cert.MlaQkRefIdeal.Facts) (hPeerQ : Cert.PeerQ.Facts) (hPeerQIdeal : Cert.PeerQIdeal.Facts) (hPeerQRefIdeal : Cert.PeerQRefIdeal.Facts) (hFinal : Cert.Final.Facts) (hFinalIdeal : Cert.FinalIdeal.Facts) (hFinalRefIdeal : Cert.FinalRefIdeal.Facts) (hFinalP : Cert.FinalP.Facts) (hFinalPIdeal : Cert.FinalPIdeal.Facts) (hFinalPRefIdeal : Cert.FinalPRefIdeal.Facts) (hQk : Cert.Qk.Facts) (hQkIdeal : Cert.QkIdeal.Facts) (hQkRefIdeal : Cert.QkRefIdeal.Facts) (hPre_gqa_finite : Cert.Pre_gqa_finite.Facts) (hPre_mla_finite : Cert.Pre_mla_finite.Facts) (hPre_peerq_finite : Cert.Pre_peerq_finite.Facts),
    quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_InA (hInA := hInA)
    ∧ quiescent_InAIdeal (hInAIdeal := hInAIdeal)
    ∧ quiescent_InARefIdeal (hInARefIdeal := hInARefIdeal)
    ∧ quiescent_InB (hInB := hInB)
    ∧ quiescent_InBIdeal (hInBIdeal := hInBIdeal)
    ∧ quiescent_InBRefIdeal (hInBRefIdeal := hInBRefIdeal)
    ∧ quiescent_InC (hInC := hInC)
    ∧ quiescent_InCIdeal (hInCIdeal := hInCIdeal)
    ∧ quiescent_InCRefIdeal (hInCRefIdeal := hInCRefIdeal)
    ∧ quiescent_InD (hInD := hInD)
    ∧ quiescent_InDIdeal (hInDIdeal := hInDIdeal)
    ∧ quiescent_InDRefIdeal (hInDRefIdeal := hInDRefIdeal)
    ∧ quiescent_Out (hOut := hOut)
    ∧ quiescent_OutIdeal (hOutIdeal := hOutIdeal)
    ∧ quiescent_OutRefIdeal (hOutRefIdeal := hOutRefIdeal)
    ∧ quiescent_Kvb (hKvb := hKvb)
    ∧ quiescent_KvbIdeal (hKvbIdeal := hKvbIdeal)
    ∧ quiescent_KvbRefIdeal (hKvbRefIdeal := hKvbRefIdeal)
    ∧ quiescent_KvCtx (hKvCtx := hKvCtx)
    ∧ quiescent_KvCtxIdeal (hKvCtxIdeal := hKvCtxIdeal)
    ∧ quiescent_KvCtxRefIdeal (hKvCtxRefIdeal := hKvCtxRefIdeal)
    ∧ quiescent_GdnPrep (hGdnPrep := hGdnPrep)
    ∧ quiescent_GdnPrepIdeal (hGdnPrepIdeal := hGdnPrepIdeal)
    ∧ quiescent_GdnPrepRefIdeal (hGdnPrepRefIdeal := hGdnPrepRefIdeal)
    ∧ quiescent_GdnPost (hGdnPost := hGdnPost)
    ∧ quiescent_GdnPostIdeal (hGdnPostIdeal := hGdnPostIdeal)
    ∧ quiescent_GdnPostRefIdeal (hGdnPostRefIdeal := hGdnPostRefIdeal)
    ∧ quiescent_GdnBg (hGdnBg := hGdnBg)
    ∧ quiescent_GdnBgIdeal (hGdnBgIdeal := hGdnBgIdeal)
    ∧ quiescent_GdnBgRefIdeal (hGdnBgRefIdeal := hGdnBgRefIdeal)
    ∧ quiescent_QkS (hQkS := hQkS)
    ∧ quiescent_QkSIdeal (hQkSIdeal := hQkSIdeal)
    ∧ quiescent_QkSRefIdeal (hQkSRefIdeal := hQkSRefIdeal)
    ∧ quiescent_MlaQk (hMlaQk := hMlaQk)
    ∧ quiescent_MlaQkIdeal (hMlaQkIdeal := hMlaQkIdeal)
    ∧ quiescent_MlaQkRefIdeal (hMlaQkRefIdeal := hMlaQkRefIdeal)
    ∧ quiescent_PeerQ (hPeerQ := hPeerQ)
    ∧ quiescent_PeerQIdeal (hPeerQIdeal := hPeerQIdeal)
    ∧ quiescent_PeerQIdeal_pre_peerq_finite (hPeerQIdeal := hPeerQIdeal) (hPre_peerq_finite := hPre_peerq_finite)
    ∧ quiescent_PeerQRefIdeal (hPeerQRefIdeal := hPeerQRefIdeal)
    ∧ quiescent_PeerQRefIdeal_pre_peerq_finite (hPeerQRefIdeal := hPeerQRefIdeal) (hPre_peerq_finite := hPre_peerq_finite)
    ∧ quiescent_Final (hFinal := hFinal)
    ∧ quiescent_FinalIdeal (hFinalIdeal := hFinalIdeal)
    ∧ quiescent_FinalRefIdeal (hFinalRefIdeal := hFinalRefIdeal)
    ∧ quiescent_FinalP (hFinalP := hFinalP)
    ∧ quiescent_FinalPIdeal (hFinalPIdeal := hFinalPIdeal)
    ∧ quiescent_FinalPRefIdeal (hFinalPRefIdeal := hFinalPRefIdeal)
    ∧ quiescent_Qk (hQk := hQk)
    ∧ quiescent_QkIdeal (hQkIdeal := hQkIdeal)
    ∧ quiescent_QkRefIdeal (hQkRefIdeal := hQkRefIdeal)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_InA_InAIdeal
    ∧ algebraic_InAIdeal_InARefIdeal (hInAIdeal := hInAIdeal) (hInARefIdeal := hInARefIdeal)
    ∧ preserves_InB_InBIdeal
    ∧ algebraic_InBIdeal_InBRefIdeal (hInBIdeal := hInBIdeal) (hInBRefIdeal := hInBRefIdeal)
    ∧ preserves_InC_InCIdeal
    ∧ algebraic_InCIdeal_InCRefIdeal (hInCIdeal := hInCIdeal) (hInCRefIdeal := hInCRefIdeal)
    ∧ preserves_InD_InDIdeal
    ∧ algebraic_InDIdeal_InDRefIdeal (hInDIdeal := hInDIdeal) (hInDRefIdeal := hInDRefIdeal)
    ∧ preserves_Out_OutIdeal
    ∧ algebraic_OutIdeal_OutRefIdeal (hOutIdeal := hOutIdeal) (hOutRefIdeal := hOutRefIdeal)
    ∧ preserves_Kvb_KvbIdeal
    ∧ algebraic_KvbIdeal_KvbRefIdeal (hKvbIdeal := hKvbIdeal) (hKvbRefIdeal := hKvbRefIdeal)
    ∧ preserves_KvCtx_KvCtxIdeal
    ∧ algebraic_KvCtxIdeal_KvCtxRefIdeal (hKvCtxIdeal := hKvCtxIdeal) (hKvCtxRefIdeal := hKvCtxRefIdeal)
    ∧ preserves_GdnPrep_GdnPrepIdeal
    ∧ algebraic_GdnPrepIdeal_GdnPrepRefIdeal (hGdnPrepIdeal := hGdnPrepIdeal) (hGdnPrepRefIdeal := hGdnPrepRefIdeal)
    ∧ preserves_GdnPost_GdnPostIdeal
    ∧ algebraic_GdnPostIdeal_GdnPostRefIdeal (hGdnPostIdeal := hGdnPostIdeal) (hGdnPostRefIdeal := hGdnPostRefIdeal)
    ∧ preserves_GdnBg_GdnBgIdeal
    ∧ algebraic_GdnBgIdeal_GdnBgRefIdeal (hGdnBgIdeal := hGdnBgIdeal) (hGdnBgRefIdeal := hGdnBgRefIdeal)
    ∧ preserves_QkS_QkSIdeal
    ∧ algebraic_QkSIdeal_QkSRefIdeal (hQkSIdeal := hQkSIdeal) (hQkSRefIdeal := hQkSRefIdeal)
    ∧ preserves_MlaQk_MlaQkIdeal
    ∧ algebraic_MlaQkIdeal_MlaQkRefIdeal (hMlaQkIdeal := hMlaQkIdeal) (hMlaQkRefIdeal := hMlaQkRefIdeal)
    ∧ preserves_PeerQ_PeerQIdeal
    ∧ algebraic_PeerQIdeal_PeerQRefIdeal_pre_peerq_finite (hPeerQIdeal := hPeerQIdeal) (hPeerQRefIdeal := hPeerQRefIdeal) (hPre_peerq_finite := hPre_peerq_finite)
    ∧ preserves_Final_FinalIdeal
    ∧ algebraic_FinalIdeal_FinalRefIdeal (hFinalIdeal := hFinalIdeal) (hFinalRefIdeal := hFinalRefIdeal)
    ∧ preserves_FinalP_FinalPIdeal
    ∧ algebraic_FinalPIdeal_FinalPRefIdeal (hFinalPIdeal := hFinalPIdeal) (hFinalPRefIdeal := hFinalPRefIdeal)
    ∧ preserves_Qk_QkIdeal
    ∧ algebraic_QkIdeal_QkRefIdeal (hQkIdeal := hQkIdeal) (hQkRefIdeal := hQkRefIdeal)
-- ==== Pre_gqa_finite.lean ====
abbrev S16384x1280 : Shape := ⟨2, ![16384, 1280]⟩
abbrev S16384x1536 : Shape := ⟨2, ![16384, 1536]⟩
abbrev S8x256x2x128 : Shape := ⟨4, ![8, 256, 2, 128]⟩
abbrev S_ : Shape := ⟨0, ![]⟩

class Facts : Prop where
  bcast_S_S16384x1280 : S_.BroadcastsInDim S16384x1280 (![] : Fin 0 → Fin S16384x1280.rank)
  bcast_S_S8x256x2x128 : S_.BroadcastsInDim S8x256x2x128 (![] : Fin 0 → Fin S8x256x2x128.rank)

variable [Facts]

def fn {F : FTy → Type} [FloatOps F] (main_arg0 : FVec F S16384x1280 .f32) (main_arg1 : FVec F S16384x1536 .f32) (main_arg2 : FVec F S8x256x2x128 .f32) (main_arg3 : FVec F S8x256x2x128 .f32) : IVec S16384x1280 1 × IVec S8x256x2x128 1 :=
  let main_v0 : FVec F S16384x1280 .f32 := Host.absf main_arg0
  let main_cst : FVec F S_ .f32 := constant S_ .f32 0x7F800000#32
  let main_v1 : FVec F S16384x1280 .f32 := broadcastInDim S16384x1280 ![] bcast_S_S16384x1280 main_cst
  let main_v2 : IVec S16384x1280 1 := cmpf .olt main_v0 main_v1
  let main_v3 : FVec F S8x256x2x128 .f32 := Host.absf main_arg2
  let main_cst_0 : FVec F S_ .f32 := constant S_ .f32 0x7F800000#32
  let main_v4 : FVec F S8x256x2x128 .f32 := broadcastInDim S8x256x2x128 ![] bcast_S_S8x256x2x128 main_cst_0
  let main_v5 : IVec S8x256x2x128 1 := cmpf .olt main_v3 main_v4
  (main_v2, main_v5)
-- ==== Pre_mla_finite.lean ====
abbrev S16384x1536 : Shape := ⟨2, ![16384, 1536]⟩
abbrev S16384x64 : Shape := ⟨2, ![16384, 64]⟩
abbrev S16384x2048 : Shape := ⟨2, ![16384, 2048]⟩
abbrev S2048x2048 : Shape := ⟨2, ![2048, 2048]⟩
abbrev S8x256x64 : Shape := ⟨3, ![8, 256, 64]⟩
abbrev S16384x8x256 : Shape := ⟨3, ![16384, 8, 256]⟩
abbrev S16384x8x128 : Shape := ⟨3, ![16384, 8, 128]⟩
abbrev S2048x8x256 : Shape := ⟨3, ![2048, 8, 256]⟩
abbrev S2048x8x128 : Shape := ⟨3, ![2048, 8, 128]⟩
abbrev S_ : Shape := ⟨0, ![]⟩

class Facts : Prop where
  shapeCasts_S16384x2048_S16384x8x256 : S16384x2048.ShapeCasts S16384x8x256
  slices_S16384x8x256_S16384x8x128_0_0_0 : S16384x8x256.Slices ![0, 0, 0] S16384x8x128
  shapeCasts_S2048x2048_S2048x8x256 : S2048x2048.ShapeCasts S2048x8x256
  slices_S2048x8x256_S2048x8x128_0_0_0 : S2048x8x256.Slices ![0, 0, 0] S2048x8x128
  bcast_S_S16384x1536 : S_.BroadcastsInDim S16384x1536 (![] : Fin 0 → Fin S16384x1536.rank)
  bcast_S_S16384x64 : S_.BroadcastsInDim S16384x64 (![] : Fin 0 → Fin S16384x64.rank)
  bcast_S_S16384x8x128 : S_.BroadcastsInDim S16384x8x128 (![] : Fin 0 → Fin S16384x8x128.rank)
  bcast_S_S2048x8x128 : S_.BroadcastsInDim S2048x8x128 (![] : Fin 0 → Fin S2048x8x128.rank)
  bcast_S_S8x256x64 : S_.BroadcastsInDim S8x256x64 (![] : Fin 0 → Fin S8x256x64.rank)

variable [Facts]

def fn {F : FTy → Type} [FloatOps F] (main_arg0 : FVec F S16384x1536 .f32) (main_arg1 : FVec F S16384x64 .f32) (main_arg2 : FVec F S16384x2048 .f32) (main_arg3 : FVec F S2048x2048 .f32) (main_arg4 : FVec F S8x256x64 .f32) : IVec S16384x1536 1 × IVec S16384x64 1 × IVec S16384x8x128 1 × IVec S2048x8x128 1 × IVec S8x256x64 1 :=
  let main_v0 : FVec F S16384x8x256 .f32 := shapeCast S16384x8x256 main_arg2 shapeCasts_S16384x2048_S16384x8x256
  let main_v1 : FVec F S16384x8x128 .f32 := (extractStridedSlice S16384x8x128 ![0, 0, 0] · slices_S16384x8x256_S16384x8x128_0_0_0) main_v0
  let main_v2 : FVec F S2048x8x256 .f32 := shapeCast S2048x8x256 main_arg3 shapeCasts_S2048x2048_S2048x8x256
  let main_v3 : FVec F S2048x8x128 .f32 := (extractStridedSlice S2048x8x128 ![0, 0, 0] · slices_S2048x8x256_S2048x8x128_0_0_0) main_v2
  let main_v4 : FVec F S16384x1536 .f32 := Host.absf main_arg0
  let main_cst : FVec F S_ .f32 := constant S_ .f32 0x7F800000#32
  let main_v5 : FVec F S16384x1536 .f32 := broadcastInDim S16384x1536 ![] bcast_S_S16384x1536 main_cst
  let main_v6 : IVec S16384x1536 1 := cmpf .olt main_v4 main_v5
  let main_v7 : FVec F S16384x64 .f32 := Host.absf main_arg1
  let main_cst_0 : FVec F S_ .f32 := constant S_ .f32 0x7F800000#32
  let main_v8 : FVec F S16384x64 .f32 := broadcastInDim S16384x64 ![] bcast_S_S16384x64 main_cst_0
  let main_v9 : IVec S16384x64 1 := cmpf .olt main_v7 main_v8
  let main_v10 : FVec F S16384x8x128 .f32 := Host.absf main_v1
  let main_cst_1 : FVec F S_ .f32 := constant S_ .f32 0x7F800000#32
  let main_v11 : FVec F S16384x8x128 .f32 := broadcastInDim S16384x8x128 ![] bcast_S_S16384x8x128 main_cst_1
  let main_v12 : IVec S16384x8x128 1 := cmpf .olt main_v10 main_v11
  let main_v13 : FVec F S2048x8x128 .f32 := Host.absf main_v3
  let main_cst_2 : FVec F S_ .f32 := constant S_ .f32 0x7F800000#32
  let main_v14 : FVec F S2048x8x128 .f32 := broadcastInDim S2048x8x128 ![] bcast_S_S2048x8x128 main_cst_2
  let main_v15 : IVec S2048x8x128 1 := cmpf .olt main_v13 main_v14
  let main_v16 : FVec F S8x256x64 .f32 := Host.absf main_arg4
  let main_cst_3 : FVec F S_ .f32 := constant S_ .f32 0x7F800000#32
  let main_v17 : FVec F S8x256x64 .f32 := broadcastInDim S8x256x64 ![] bcast_S_S8x256x64 main_cst_3
  let main_v18 : IVec S8x256x64 1 := cmpf .olt main_v16 main_v17
  (main_v6, main_v9, main_v12, main_v15, main_v18)
-- ==== Pre_peerq_finite.lean ====
abbrev S16384x2048 : Shape := ⟨2, ![16384, 2048]⟩
abbrev S2048 : Shape := ⟨1, ![2048]⟩
abbrev S8x12288 : Shape := ⟨2, ![8, 12288]⟩
abbrev S2048x1024 : Shape := ⟨2, ![2048, 1024]⟩
abbrev S_ : Shape := ⟨0, ![]⟩
abbrev S8x4096 : Shape := ⟨2, ![8, 4096]⟩

class Facts : Prop where
  bcast_S_S2048 : S_.BroadcastsInDim S2048 (![] : Fin 0 → Fin S2048.rank)
  slices_S8x12288_S8x4096_0_6144 : S8x12288.Slices ![0, 6144] S8x4096
  bcast_S_S8x4096 : S_.BroadcastsInDim S8x4096 (![] : Fin 0 → Fin S8x4096.rank)
  bcast_S_S2048x1024 : S_.BroadcastsInDim S2048x1024 (![] : Fin 0 → Fin S2048x1024.rank)

variable [Facts]

def fn {F : FTy → Type} [FloatOps F] (main_arg0 : FVec F S16384x2048 .f32) (main_arg1 : FVec F S2048 .f32) (main_arg2 : FVec F S8x12288 .f32) (main_arg3 : FVec F S2048x1024 .f32) : IVec S2048 1 × IVec S8x4096 1 × IVec S2048x1024 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_v3 : FVec F S8x4096 .f32 := (extractStridedSlice S8x4096 ![0, 6144] · slices_S8x12288_S8x4096_0_6144) main_arg2
  let main_v4 : FVec F S8x4096 .f32 := Host.absf main_v3
  let main_cst_0 : FVec F S_ .f32 := constant S_ .f32 0x7F800000#32
  let main_v5 : FVec F S8x4096 .f32 := broadcastInDim S8x4096 ![] bcast_S_S8x4096 main_cst_0
  let main_v6 : IVec S8x4096 1 := cmpf .olt main_v4 main_v5
  let main_v7 : FVec F S2048x1024 .f32 := Host.absf main_arg3
  let main_cst_1 : FVec F S_ .f32 := constant S_ .f32 0x7F800000#32
  let main_v8 : FVec F S2048x1024 .f32 := broadcastInDim S2048x1024 ![] bcast_S_S2048x1024 main_cst_1
  let main_v9 : IVec S2048x1024 1 := cmpf .olt main_v7 main_v8
  (main_v2, main_v6, main_v9)
-- ==== Gqa.lean ====
abbrev S16384x1280 : Shape := ⟨2, ![16384, 1280]⟩
abbrev S16384x1536 : Shape := ⟨2, ![16384, 1536]⟩
abbrev S8x256x2x128 : Shape := ⟨4, ![8, 256, 2, 128]⟩
abbrev S16384x256 : Shape := ⟨2, ![16384, 256]⟩
abbrev S8x2048x256 : Shape := ⟨3, ![8, 2048, 256]⟩
abbrev S8x256x256 : Shape := ⟨3, ![8, 256, 256]⟩
abbrev S8x2304x256 : Shape := ⟨3, ![8, 2304, 256]⟩
abbrev S18432x256 : Shape := ⟨2, ![18432, 256]⟩
abbrev S16384x1024 : Shape := ⟨2, ![16384, 1024]⟩
abbrev S512x512 : Shape := ⟨2, ![512, 512]⟩
abbrev S2304x128 : Shape := ⟨2, ![2304, 128]⟩
abbrev S512x128 : Shape := ⟨2, ![512, 128]⟩
abbrev S512x2304 : Shape := ⟨2, ![512, 2304]⟩
abbrev S512 : Shape := ⟨1, ![512]⟩
abbrev S512x1 : Shape := ⟨2, ![512, 1]⟩

abbrev nBuf : Space → Nat
  | .hbm => 17
  | .vmem => 8
  | .smem => 0
  | _ => 0

abbrev bufTy : (tb : Table) → Fin (tcTables nBuf tb) → BufTy
  | .hbm, ⟨0, _⟩ => ⟨S16384x1280, .f32⟩
  | .hbm, ⟨1, _⟩ => ⟨S16384x1536, .f32⟩
  | .hbm, ⟨2, _⟩ => ⟨S8x256x2x128, .f32⟩
  | .hbm, ⟨3, _⟩ => ⟨S8x256x2x128, .f32⟩
  | .hbm, ⟨4, _⟩ => ⟨S16384x256, .f32⟩
  | .hbm, ⟨5, _⟩ => ⟨S8x2048x256, .f32⟩
  | .hbm, ⟨6, _⟩ => ⟨S8x256x256, .f32⟩
  | .hbm, ⟨7, _⟩ => ⟨S8x2304x256, .f32⟩
  | .hbm, ⟨8, _⟩ => ⟨S16384x256, .f32⟩
  | .hbm, ⟨9, _⟩ => ⟨S8x2048x256, .f32⟩
  | .hbm, ⟨10, _⟩ => ⟨S8x256x256, .f32⟩
  | .hbm, ⟨11, _⟩ => ⟨S8x2304x256, .f32⟩
  | .hbm, ⟨12, _⟩ => ⟨S18432x256, .f32⟩
  | .hbm, ⟨13, _⟩ => ⟨S18432x256, .bf16⟩
  | .hbm, ⟨14, _⟩ => ⟨S18432x256, .f32⟩
  | .hbm, ⟨15, _⟩ => ⟨S18432x256, .bf16⟩
  | .hbm, ⟨16, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S2304x128, .bf16⟩
  | .local _ .vmem, ⟨3, _⟩ => ⟨S2304x128, .bf16⟩
  | .local _ .vmem, ⟨4, _⟩ => ⟨S2304x128, .bf16⟩
  | .local _ .vmem, ⟨5, _⟩ => ⟨S2304x128, .bf16⟩
  | .local _ .vmem, ⟨6, _⟩ => ⟨S512x512, .bf16⟩
  | .local _ .vmem, ⟨7, _⟩ => ⟨S512x512, .bf16⟩
  | _, _ => ⟨S16384x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GqaRefIdeal.lean ====
abbrev S16384x1280 : Shape := ⟨2, ![16384, 1280]⟩
abbrev S16384x1536 : Shape := ⟨2, ![16384, 1536]⟩
abbrev S8x256x2x128 : Shape := ⟨4, ![8, 256, 2, 128]⟩
abbrev S16384x1024 : Shape := ⟨2, ![16384, 1024]⟩
abbrev S8x2048x8x128 : Shape := ⟨4, ![8, 2048, 8, 128]⟩
abbrev S16384x256 : Shape := ⟨2, ![16384, 256]⟩
abbrev S8x2048x2x128 : Shape := ⟨4, ![8, 2048, 2, 128]⟩
abbrev S8x2304x2x128 : Shape := ⟨4, ![8, 2304, 2, 128]⟩
abbrev S8x2048x2x4x128 : Shape := ⟨5, ![8, 2048, 2, 4, 128]⟩
abbrev S8x2x2304x2048x4 : Shape := ⟨5, ![8, 2, 2304, 2048, 4]⟩
abbrev S8x2x4x2048x2304 : Shape := ⟨5, ![8, 2, 4, 2048, 2304]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x128x4x2048 : Shape := ⟨5, ![8, 2, 128, 4, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16384x1280, .f32⟩
  | .hbm, ⟨1, _⟩ => ⟨S16384x1536, .f32⟩
  | .hbm, ⟨2, _⟩ => ⟨S8x256x2x128, .f32⟩
  | .hbm, ⟨3, _⟩ => ⟨S8x256x2x128, .f32⟩
  | .hbm, ⟨4, _⟩ => ⟨S16384x1024, .f32⟩
  | .hbm, ⟨5, _⟩ => ⟨S8x2048x8x128, .f32⟩
  | .hbm, ⟨6, _⟩ => ⟨S16384x256, .f32⟩
  | .hbm, ⟨7, _⟩ => ⟨S8x2048x2x128, .f32⟩
  | .hbm, ⟨8, _⟩ => ⟨S16384x256, .f32⟩
  | .hbm, ⟨9, _⟩ => ⟨S8x2048x2x128, .f32⟩
  | .hbm, ⟨10, _⟩ => ⟨S8x2304x2x128, .f32⟩
  | .hbm, ⟨11, _⟩ => ⟨S8x2304x2x128, .f32⟩
  | .hbm, ⟨12, _⟩ => ⟨S8x2048x2x4x128, .f32⟩
  | .hbm, ⟨13, _⟩ => ⟨S8x2x2304x2048x4, .f32⟩
  | .hbm, ⟨14, _⟩ => ⟨S8x2x4x2048x2304, .f32⟩
  | .hbm, ⟨15, _⟩ => ⟨S_, .f32⟩
  | .hbm, ⟨16, _⟩ => ⟨S8x2x4x2048x2304, .f32⟩
  | .hbm, ⟨17, _⟩ => ⟨S8x2x4x2048x2304, .f32⟩
  | .hbm, ⟨18, _⟩ => ⟨S_, .f32⟩
  | .hbm, ⟨19, _⟩ => ⟨S8x2x4x2048, .f32⟩
  | .hbm, ⟨20, _⟩ => ⟨S_, .f32⟩
  | .hbm, ⟨21, _⟩ => ⟨S8x2x4x2048, .f32⟩
  | .hbm, ⟨22, _⟩ => ⟨S8x2x4x2048, .f32⟩
  | .hbm, ⟨23, _⟩ => ⟨S8x2x4x2048x1, .f32⟩
  | .hbm, ⟨24, _⟩ => ⟨S8x2x4x2048x2304, .f32⟩
  | .hbm, ⟨25, _⟩ => ⟨S8x2x4x2048x2304, .f32⟩
  | .hbm, ⟨26, _⟩ => ⟨S8x2x4x2048x2304, .f32⟩
  | .hbm, ⟨27, _⟩ => ⟨S_, .f32⟩
  | .hbm, ⟨28, _⟩ => ⟨S8x2x4x2048, .f32⟩
  | .hbm, ⟨29, _⟩ => ⟨S8x2x4x2048x1, .f32⟩
  | .hbm, ⟨30, _⟩ => ⟨S8x2x4x2048x2304, .f32⟩
  | .hbm, ⟨31, _⟩ => ⟨S8x2x4x2048x2304, .f32⟩
  | .hbm, ⟨32, _⟩ => ⟨S8x2x128x4x2048, .f32⟩
  | .hbm, ⟨33, _⟩ => ⟨S8x2048x2x4x128, .f32⟩
  | .hbm, ⟨34, _⟩ => ⟨S8x2048x8x128, .f32⟩
  | .hbm, ⟨35, _⟩ => ⟨S16384x1024, .f32⟩
  | .hbm, ⟨36, _⟩ => ⟨S16384x1024, .bf16⟩
  | _, _ => ⟨S16384x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Mla.lean ====
abbrev S16384x1536 : Shape := ⟨2, ![16384, 1536]⟩
abbrev S16384x64 : Shape := ⟨2, ![16384, 64]⟩
abbrev S16384x2048 : Shape := ⟨2, ![16384, 2048]⟩
abbrev S2048x2048 : Shape := ⟨2, ![2048, 2048]⟩
abbrev S8x256x64 : Shape := ⟨3, ![8, 256, 64]⟩
abbrev S_ : Shape := ⟨0, ![]⟩
abbrev S16384x512 : Shape := ⟨2, ![16384, 512]⟩
abbrev S16384x2112 : Shape := ⟨2, ![16384, 2112]⟩
abbrev S16384x8x192 : Shape := ⟨3, ![16384, 8, 192]⟩
abbrev S16384x8x64 : Shape := ⟨3, ![16384, 8, 64]⟩
abbrev S16384x8x128 : Shape := ⟨3, ![16384, 8, 128]⟩
abbrev S16384x1024 : Shape := ⟨2, ![16384, 1024]⟩
abbrev S16384x128 : Shape := ⟨2, ![16384, 128]⟩
abbrev S16384x384 : Shape := ⟨2, ![16384, 384]⟩
abbrev S16384x3072 : Shape := ⟨2, ![16384, 3072]⟩
abbrev S16384x1152 : Shape := ⟨2, ![16384, 1152]⟩
abbrev S8x2048x2048 : Shape := ⟨3, ![8, 2048, 2048]⟩
abbrev S8x256x2048 : Shape := ⟨3, ![8, 256, 2048]⟩
abbrev S8x2304x2048 : Shape := ⟨3, ![8, 2304, 2048]⟩
abbrev S18432x2048 : Shape := ⟨2, ![18432, 2048]⟩
abbrev S8x2048x128 : Shape := ⟨3, ![8, 2048, 128]⟩
abbrev S8x256x128 : Shape := ⟨3, ![8, 256, 128]⟩
abbrev S8x2304x128 : Shape := ⟨3, ![8, 2304, 128]⟩
abbrev S18432x128 : Shape := ⟨2, ![18432, 128]⟩
abbrev S512x512 : Shape := ⟨2, ![512, 512]⟩
abbrev S2304x1024 : Shape := ⟨2, ![2304, 1024]⟩
abbrev S2304x128 : Shape := ⟨2, ![2304, 128]⟩
abbrev S512x128 : Shape := ⟨2, ![512, 128]⟩
abbrev S512x256 : Shape := ⟨2, ![512, 256]⟩
abbrev S2304x256 : Shape := ⟨2, ![2304, 256]⟩
abbrev S512x2304 : Shape := ⟨2, ![512, 2304]⟩
abbrev S512 : Shape := ⟨1, ![512]⟩
abbrev S512x1 : Shape := ⟨2, ![512, 1]⟩

abbrev nBuf : Space → Nat
  | .hbm => 40
  | .vmem => 10
  | .smem => 0
  | _ => 0

abbrev bufTy : (tb : Table) → Fin (tcTables nBuf tb) → BufTy
  | .hbm, ⟨0, _⟩ => ⟨S16384x1536, .f32⟩
  | .hbm, ⟨1, _⟩ => ⟨S16384x64, .f32⟩
  | .hbm, ⟨2, _⟩ => ⟨S16384x2048, .f32⟩
  | .hbm, ⟨3, _⟩ => ⟨S2048x2048, .f32⟩
  | .hbm, ⟨4, _⟩ => ⟨S8x256x64, .f32⟩
  | .hbm, ⟨5, _⟩ => ⟨S_, .f32⟩
  | .hbm, ⟨6, _⟩ => ⟨S16384x512, .f32⟩
  | .hbm, ⟨7, _⟩ => ⟨S16384x2112, .f32⟩
  | .hbm, ⟨8, _⟩ => ⟨S16384x1536, .f32⟩
  | .hbm, ⟨9, _⟩ => ⟨S16384x8x192, .f32⟩
  | .hbm, ⟨10, _⟩ => ⟨S_, .f32⟩
  | .hbm, ⟨11, _⟩ => ⟨S16384x8x64, .f32⟩
  | .hbm, ⟨12, _⟩ => ⟨S16384x8x64, .f32⟩
  | .hbm, ⟨13, _⟩ => ⟨S16384x8x128, .f32⟩
  | .hbm, ⟨14, _⟩ => ⟨S16384x1024, .f32⟩
  | .hbm, ⟨15, _⟩ => ⟨S16384x8x128, .f32⟩
  | .hbm, ⟨16, _⟩ => ⟨S16384x1024, .f32⟩
  | .hbm, ⟨17, _⟩ => ⟨S16384x64, .f32⟩
  | .hbm, ⟨18, _⟩ => ⟨S_, .f32⟩
  | .hbm, ⟨19, _⟩ => ⟨S16384x64, .f32⟩
  | .hbm, ⟨20, _⟩ => ⟨S16384x128, .f32⟩
  | .hbm, ⟨21, _⟩ => ⟨S_, .f32⟩
  | .hbm, ⟨22, _⟩ => ⟨S16384x384, .f32⟩
  | .hbm, ⟨23, _⟩ => ⟨S16384x512, .f32⟩
  | .hbm, ⟨24, _⟩ => ⟨S16384x3072, .f32⟩
  | .hbm, ⟨25, _⟩ => ⟨S16384x1152, .f32⟩
  | .hbm, ⟨26, _⟩ => ⟨S8x2048x2048, .f32⟩
  | .hbm, ⟨27, _⟩ => ⟨S8x256x2048, .f32⟩
  | .hbm, ⟨28, _⟩ => ⟨S8x2304x2048, .f32⟩
  | .hbm, ⟨29, _⟩ => ⟨S18432x2048, .f32⟩
  | .hbm, ⟨30, _⟩ => ⟨S18432x2048, .bf16⟩
  | .hbm, ⟨31, _⟩ => ⟨S16384x128, .f32⟩
  | .hbm, ⟨32, _⟩ => ⟨S8x2048x128, .f32⟩
  | .hbm, ⟨33, _⟩ => ⟨S_, .f32⟩
  | .hbm, ⟨34, _⟩ => ⟨S8x256x64, .f32⟩
  | .hbm, ⟨35, _⟩ => ⟨S8x256x128, .f32⟩
  | .hbm, ⟨36, _⟩ => ⟨S8x2304x128, .f32⟩
  | .hbm, ⟨37, _⟩ => ⟨S18432x128, .f32⟩
  | .hbm, ⟨38, _⟩ => ⟨S18432x128, .bf16⟩
  | .hbm, ⟨39, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S2304x1024, .bf16⟩
  | .local _ .vmem, ⟨5, _⟩ => ⟨S2304x1024, .bf16⟩
  | .local _ .vmem, ⟨6, _⟩ => ⟨S2304x128, .bf16⟩
  | .local _ .vmem, ⟨7, _⟩ => ⟨S2304x128, .bf16⟩
  | .local _ .vmem, ⟨8, _⟩ => ⟨S512x512, .bf16⟩
  | .local _ .vmem, ⟨9, _⟩ => ⟨S512x512, .bf16⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MlaRefIdeal.lean ====
abbrev S16384x1536 : Shape := ⟨2, ![16384, 1536]⟩
abbrev S16384x64 : Shape := ⟨2, ![16384, 64]⟩
abbrev S16384x2048 : Shape := ⟨2, ![16384, 2048]⟩
abbrev S2048x2048 : Shape := ⟨2, ![2048, 2048]⟩
abbrev S8x256x64 : Shape := ⟨3, ![8, 256, 64]⟩
abbrev S8x2048x8x256 : Shape := ⟨4, ![8, 2048, 8, 256]⟩
abbrev S8x2048x64 : Shape := ⟨3, ![8, 2048, 64]⟩
abbrev S8x2048x8x128 : Shape := ⟨4, ![8, 2048, 8, 128]⟩
abbrev S8x2048x1x64 : Shape := ⟨4, ![8, 2048, 1, 64]⟩
abbrev S8x2048x8x64 : Shape := ⟨4, ![8, 2048, 8, 64]⟩
abbrev S8x2048x8x192 : Shape := ⟨4, ![8, 2048, 8, 192]⟩
abbrev S8x256x8x256 : Shape := ⟨4, ![8, 256, 8, 256]⟩
abbrev S8x256x8x128 : Shape := ⟨4, ![8, 256, 8, 128]⟩
abbrev S8x256x1x64 : Shape := ⟨4, ![8, 256, 1, 64]⟩
abbrev S8x256x8x64 : Shape := ⟨4, ![8, 256, 8, 64]⟩
abbrev S8x256x8x192 : Shape := ⟨4, ![8, 256, 8, 192]⟩
abbrev S8x2304x8x192 : Shape := ⟨4, ![8, 2304, 8, 192]⟩
abbrev S8x2304x8x128 : Shape := ⟨4, ![8, 2304, 8, 128]⟩
abbrev S8x2048x8x1x192 : Shape := ⟨5, ![8, 2048, 8, 1, 192]⟩
abbrev S8x8x2304x2048x1 : Shape := ⟨5, ![8, 8, 2304, 2048, 1]⟩
abbrev S8x8x1x2048x2304 : Shape := ⟨5, ![8, 8, 1, 2048, 2304]⟩
abbrev S_ : Shape := ⟨0, ![]⟩
abbrev S8x8x1x2048 : Shape := ⟨4, ![8, 8, 1, 2048]⟩
abbrev S8x8x1x2048x1 : Shape := ⟨5, ![8, 8, 1, 2048, 1]⟩
abbrev S8x8x128x1x2048 : Shape := ⟨5, ![8, 8, 128, 1, 2048]⟩
abbrev S8x2048x8x1x128 : Shape := ⟨5, ![8, 2048, 8, 1, 128]⟩
abbrev S16384x1024 : Shape := ⟨2, ![16384, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S16384x64, .f32⟩
  | .hbm, ⟨2, _⟩ => ⟨S16384x2048, .f32⟩
  | .hbm, ⟨3, _⟩ => ⟨S2048x2048, .f32⟩
  | .hbm, ⟨4, _⟩ => ⟨S8x256x64, .f32⟩
  | .hbm, ⟨5, _⟩ => ⟨S8x2048x8x256, .f32⟩
  | .hbm, ⟨6, _⟩ => ⟨S8x2048x64, .f32⟩
  | .hbm, ⟨7, _⟩ => ⟨S8x2048x8x128, .f32⟩
  | .hbm, ⟨8, _⟩ => ⟨S8x2048x8x128, .f32⟩
  | .hbm, ⟨9, _⟩ => ⟨S8x2048x1x64, .f32⟩
  | .hbm, ⟨10, _⟩ => ⟨S8x2048x8x64, .f32⟩
  | .hbm, ⟨11, _⟩ => ⟨S8x2048x8x192, .f32⟩
  | .hbm, ⟨12, _⟩ => ⟨S8x256x8x256, .f32⟩
  | .hbm, ⟨13, _⟩ => ⟨S8x256x8x128, .f32⟩
  | .hbm, ⟨14, _⟩ => ⟨S8x256x8x128, .f32⟩
  | .hbm, ⟨15, _⟩ => ⟨S8x256x1x64, .f32⟩
  | .hbm, ⟨16, _⟩ => ⟨S8x256x8x64, .f32⟩
  | .hbm, ⟨17, _⟩ => ⟨S8x256x8x192, .f32⟩
  | .hbm, ⟨18, _⟩ => ⟨S8x2048x8x192, .f32⟩
  | .hbm, ⟨19, _⟩ => ⟨S8x2304x8x192, .f32⟩
  | .hbm, ⟨20, _⟩ => ⟨S8x2304x8x128, .f32⟩
  | .hbm, ⟨21, _⟩ => ⟨S8x2048x8x1x192, .f32⟩
  | .hbm, ⟨22, _⟩ => ⟨S8x8x2304x2048x1, .f32⟩
  | .hbm, ⟨23, _⟩ => ⟨S8x8x1x2048x2304, .f32⟩
  | .hbm, ⟨24, _⟩ => ⟨S_, .f32⟩
  | .hbm, ⟨25, _⟩ => ⟨S8x8x1x2048x2304, .f32⟩
  | .hbm, ⟨26, _⟩ => ⟨S8x8x1x2048x2304, .f32⟩
  | .hbm, ⟨27, _⟩ => ⟨S_, .f32⟩
  | .hbm, ⟨28, _⟩ => ⟨S8x8x1x2048, .f32⟩
  | .hbm, ⟨29, _⟩ => ⟨S_, .f32⟩
  | .hbm, ⟨30, _⟩ => ⟨S8x8x1x2048, .f32⟩
  | .hbm, ⟨31, _⟩ => ⟨S8x8x1x2048, .f32⟩
  | .hbm, ⟨32, _⟩ => ⟨S8x8x1x2048x1, .f32⟩
  | .hbm, ⟨33, _⟩ => ⟨S8x8x1x2048x2304, .f32⟩
  | .hbm, ⟨34, _⟩ => ⟨S8x8x1x2048x2304, .f32⟩
  | .hbm, ⟨35, _⟩ => ⟨S8x8x1x2048x2304, .f32⟩
  | .hbm, ⟨36, _⟩ => ⟨S_, .f32⟩
  | .hbm, ⟨37, _⟩ => ⟨S8x8x1x2048, .f32⟩
  | .hbm, ⟨38, _⟩ => ⟨S8x8x1x2048x1, .f32⟩
  | .hbm, ⟨39, _⟩ => ⟨S8x8x1x2048x2304, .f32⟩
  | .hbm, ⟨40, _⟩ => ⟨S8x8x1x2048x2304, .f32⟩
  | .hbm, ⟨41, _⟩ => ⟨S8x8x128x1x2048, .f32⟩
  | .hbm, ⟨42, _⟩ => ⟨S8x2048x8x1x128, .f32⟩
  | .hbm, ⟨43, _⟩ => ⟨S8x2048x8x128, .f32⟩
  | .hbm, ⟨44, _⟩ => ⟨S16384x1024, .f32⟩
  | .hbm, ⟨45, _⟩ => ⟨S16384x1024, .bf16⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== InA.lean ====
abbrev S4096x2048 : Shape := ⟨2, ![4096, 2048]⟩
abbrev S2048 : Shape := ⟨1, ![2048]⟩
abbrev S1x12288 : Shape := ⟨2, ![1, 12288]⟩
abbrev S2048x4992 : Shape := ⟨2, ![2048, 4992]⟩
abbrev S2048x1536 : Shape := ⟨2, ![2048, 1536]⟩
abbrev S1x6x2048 : Shape := ⟨3, ![1, 6, 2048]⟩
abbrev S1x2048 : Shape := ⟨2, ![1, 2048]⟩
abbrev S4096x1536 : Shape := ⟨2, ![4096, 1536]⟩
abbrev S512x2048 : Shape := ⟨2, ![512, 2048]⟩
abbrev S512x1536 : Shape := ⟨2, ![512, 1536]⟩
abbrev S512 : Shape := ⟨1, ![512]⟩
abbrev S512x1 : Shape := ⟨2, ![512, 1]⟩
abbrev S1x1x2048 : Shape := ⟨3, ![1, 1, 2048]⟩

abbrev nBuf : Space → Nat
  | .hbm => 9
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x12288, .f32⟩
  | .hbm, ⟨3, _⟩ => ⟨S2048x4992, .f32⟩
  | .hbm, ⟨4, _⟩ => ⟨S2048x4992, .bf16⟩
  | .hbm, ⟨5, _⟩ => ⟨S2048x1536, .bf16⟩
  | .hbm, ⟨6, _⟩ => ⟨S1x6x2048, .f32⟩
  | .hbm, ⟨7, _⟩ => ⟨S1x2048, .f32⟩
  | .hbm, ⟨8, _⟩ => ⟨S4096x1536, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S2048x1536, .bf16⟩
  | .local _ .vmem, ⟨5, _⟩ => ⟨S512x1536, .f32⟩
  | .local _ .vmem, ⟨6, _⟩ => ⟨S512x1536, .f32⟩
  | .local _ .vmem, ⟨7, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InARefIdeal.lean ====
abbrev S4096x2048 : Shape := ⟨2, ![4096, 2048]⟩
abbrev S2048 : Shape := ⟨1, ![2048]⟩
abbrev S1x12288 : Shape := ⟨2, ![1, 12288]⟩
abbrev S2048x4992 : Shape := ⟨2, ![2048, 4992]⟩
abbrev S1x1x12288 : Shape := ⟨3, ![1, 1, 12288]⟩
abbrev S1x1x2048 : Shape := ⟨3, ![1, 1, 2048]⟩
abbrev S16x256x2048 : Shape := ⟨3, ![16, 256, 2048]⟩
abbrev S_ : Shape := ⟨0, ![]⟩
abbrev S16x256 : Shape := ⟨2, ![16, 256]⟩
abbrev S16x256x1 : Shape := ⟨3, ![16, 256, 1]⟩
abbrev S16x256x4992 : Shape := ⟨3, ![16, 256, 4992]⟩
abbrev S16x256x1536 : Shape := ⟨3, ![16, 256, 1536]⟩
abbrev S4096x1536 : Shape := ⟨2, ![4096, 1536]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x12288, .f32⟩
  | .hbm, ⟨3, _⟩ => ⟨S2048x4992, .f32⟩
  | .hbm, ⟨4, _⟩ => ⟨S1x1x12288, .f32⟩
  | .hbm, ⟨5, _⟩ => ⟨S1x1x2048, .f32⟩
  | .hbm, ⟨6, _⟩ => ⟨S1x1x2048, .f32⟩
  | .hbm, ⟨7, _⟩ => ⟨S1x1x2048, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S16x256x2048, .f32⟩
  | .hbm, ⟨12, _⟩ => ⟨S16x256x2048, .f32⟩
  | .hbm, ⟨13, _⟩ => ⟨S_, .f32⟩
  | .hbm, ⟨14, _⟩ => ⟨S16x256, .f32⟩
  | .hbm, ⟨15, _⟩ => ⟨S16x256x1, .f32⟩
  | .hbm, ⟨16, _⟩ => ⟨S_, .f32⟩
  | .hbm, ⟨17, _⟩ => ⟨S16x256x1, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x1, .f32⟩
  | .hbm, ⟨23, _⟩ => ⟨S16x256x2048, .f32⟩
  | .hbm, ⟨24, _⟩ => ⟨S16x256x2048, .f32⟩
  | .hbm, ⟨25, _⟩ => ⟨S1x1x2048, .f32⟩
  | .hbm, ⟨26, _⟩ => ⟨S16x256x2048, .f32⟩
  | .hbm, ⟨27, _⟩ => ⟨S16x256x2048, .f32⟩
  | .hbm, ⟨28, _⟩ => ⟨S_, .f32⟩
  | .hbm, ⟨29, _⟩ => ⟨S1x1x2048, .f32⟩
  | .hbm, ⟨30, _⟩ => ⟨S1x1x2048, .f32⟩
  | .hbm, ⟨31, _⟩ => ⟨S16x256x2048, .f32⟩
  | .hbm, ⟨32, _⟩ => ⟨S16x256x2048, .f32⟩
  | .hbm, ⟨33, _⟩ => ⟨S16x256x2048, .f32⟩
  | .hbm, ⟨34, _⟩ => ⟨S16x256x2048, .f32⟩
  | .hbm, ⟨35, _⟩ => ⟨S16x256x4992, .f32⟩
  | .hbm, ⟨36, _⟩ => ⟨S16x256x1536, .f32⟩
  | .hbm, ⟨37, _⟩ => ⟨S4096x1536, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== InB.lean ====
abbrev S16384x2048 : Shape := ⟨2, ![16384, 2048]⟩
abbrev S2048 : Shape := ⟨1, ![2048]⟩
abbrev S8x12288 : Shape := ⟨2, ![8, 12288]⟩
abbrev S2048x4992 : Shape := ⟨2, ![2048, 4992]⟩
abbrev S2048x3456 : Shape := ⟨2, ![2048, 3456]⟩
abbrev S8x6x2048 : Shape := ⟨3, ![8, 6, 2048]⟩
abbrev S1x2048 : Shape := ⟨2, ![1, 2048]⟩
abbrev S16384x3456 : Shape := ⟨2, ![16384, 3456]⟩
abbrev S512x2048 : Shape := ⟨2, ![512, 2048]⟩
abbrev S1x6x2048 : Shape := ⟨3, ![1, 6, 2048]⟩
abbrev S2048x1152 : Shape := ⟨2, ![2048, 1152]⟩
abbrev S512x1152 : Shape := ⟨2, ![512, 1152]⟩
abbrev S512 : Shape := ⟨1, ![512]⟩
abbrev S512x1 : Shape := ⟨2, ![512, 1]⟩
abbrev S1x1x2048 : Shape := ⟨3, ![1, 1, 2048]⟩

abbrev nBuf : Space → Nat
  | .hbm => 9
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x12288, .f32⟩
  | .hbm, ⟨3, _⟩ => ⟨S2048x4992, .f32⟩
  | .hbm, ⟨4, _⟩ => ⟨S2048x4992, .bf16⟩
  | .hbm, ⟨5, _⟩ => ⟨S2048x3456, .bf16⟩
  | .hbm, ⟨6, _⟩ => ⟨S8x6x2048, .f32⟩
  | .hbm, ⟨7, _⟩ => ⟨S1x2048, .f32⟩
  | .hbm, ⟨8, _⟩ => ⟨S16384x3456, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S2048x1152, .bf16⟩
  | .local _ .vmem, ⟨6, _⟩ => ⟨S2048x1152, .bf16⟩
  | .local _ .vmem, ⟨7, _⟩ => ⟨S512x1152, .f32⟩
  | .local _ .vmem, ⟨8, _⟩ => ⟨S512x1152, .f32⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InBRefIdeal.lean ====
abbrev S16384x2048 : Shape := ⟨2, ![16384, 2048]⟩
abbrev S2048 : Shape := ⟨1, ![2048]⟩
abbrev S8x12288 : Shape := ⟨2, ![8, 12288]⟩
abbrev S2048x4992 : Shape := ⟨2, ![2048, 4992]⟩
abbrev S8x1x12288 : Shape := ⟨3, ![8, 1, 12288]⟩
abbrev S8x1x2048 : Shape := ⟨3, ![8, 1, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x4992 : Shape := ⟨3, ![8, 2048, 4992]⟩
abbrev S8x2048x3456 : Shape := ⟨3, ![8, 2048, 3456]⟩
abbrev S16384x3456 : Shape := ⟨2, ![16384, 3456]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x12288, .f32⟩
  | .hbm, ⟨3, _⟩ => ⟨S2048x4992, .f32⟩
  | .hbm, ⟨4, _⟩ => ⟨S8x1x12288, .f32⟩
  | .hbm, ⟨5, _⟩ => ⟨S8x1x2048, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S1x1x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x1x2048, .f32⟩
  | .hbm, ⟨30, _⟩ => ⟨S8x1x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x4992, .f32⟩
  | .hbm, ⟨36, _⟩ => ⟨S8x2048x3456, .f32⟩
  | .hbm, ⟨37, _⟩ => ⟨S16384x3456, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== InC.lean ====
abbrev S16384x2048 : Shape := ⟨2, ![16384, 2048]⟩
abbrev S2048 : Shape := ⟨1, ![2048]⟩
abbrev S8x12288 : Shape := ⟨2, ![8, 12288]⟩
abbrev S2048x6240 : Shape := ⟨2, ![2048, 6240]⟩
abbrev S2048x4128 : Shape := ⟨2, ![2048, 4128]⟩
abbrev S_ : Shape := ⟨0, ![]⟩
abbrev S2048x96 : Shape := ⟨2, ![2048, 96]⟩
abbrev S2048x4224 : Shape := ⟨2, ![2048, 4224]⟩
abbrev S8x6x2048 : Shape := ⟨3, ![8, 6, 2048]⟩
abbrev S1x2048 : Shape := ⟨2, ![1, 2048]⟩
abbrev S16384x4224 : Shape := ⟨2, ![16384, 4224]⟩
abbrev S512x2048 : Shape := ⟨2, ![512, 2048]⟩
abbrev S1x6x2048 : Shape := ⟨3, ![1, 6, 2048]⟩
abbrev S2048x1408 : Shape := ⟨2, ![2048, 1408]⟩
abbrev S512x1408 : Shape := ⟨2, ![512, 1408]⟩
abbrev S512 : Shape := ⟨1, ![512]⟩
abbrev S512x1 : Shape := ⟨2, ![512, 1]⟩
abbrev S1x1x2048 : Shape := ⟨3, ![1, 1, 2048]⟩

abbrev nBuf : Space → Nat
  | .hbm => 12
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x12288, .f32⟩
  | .hbm, ⟨3, _⟩ => ⟨S2048x6240, .f32⟩
  | .hbm, ⟨4, _⟩ => ⟨S2048x4128, .f32⟩
  | .hbm, ⟨5, _⟩ => ⟨S_, .f32⟩
  | .hbm, ⟨6, _⟩ => ⟨S2048x96, .f32⟩
  | .hbm, ⟨7, _⟩ => ⟨S2048x4224, .f32⟩
  | .hbm, ⟨8, _⟩ => ⟨S2048x4224, .bf16⟩
  | .hbm, ⟨9, _⟩ => ⟨S8x6x2048, .f32⟩
  | .hbm, ⟨10, _⟩ => ⟨S1x2048, .f32⟩
  | .hbm, ⟨11, _⟩ => ⟨S16384x4224, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S2048x1408, .bf16⟩
  | .local _ .vmem, ⟨6, _⟩ => ⟨S2048x1408, .bf16⟩
  | .local _ .vmem, ⟨7, _⟩ => ⟨S512x1408, .f32⟩
  | .local _ .vmem, ⟨8, _⟩ => ⟨S512x1408, .f32⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InCRefIdeal.lean ====
abbrev S16384x2048 : Shape := ⟨2, ![16384, 2048]⟩
abbrev S2048 : Shape := ⟨1, ![2048]⟩
abbrev S8x12288 : Shape := ⟨2, ![8, 12288]⟩
abbrev S2048x6240 : Shape := ⟨2, ![2048, 6240]⟩
abbrev S8x1x12288 : Shape := ⟨3, ![8, 1, 12288]⟩
abbrev S8x1x2048 : Shape := ⟨3, ![8, 1, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x6240 : Shape := ⟨3, ![8, 2048, 6240]⟩
abbrev S8x2048x4128 : Shape := ⟨3, ![8, 2048, 4128]⟩
abbrev S16384x4128 : Shape := ⟨2, ![16384, 4128]⟩
abbrev S16384x4224 : Shape := ⟨2, ![16384, 4224]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x12288, .f32⟩
  | .hbm, ⟨3, _⟩ => ⟨S2048x6240, .f32⟩
  | .hbm, ⟨4, _⟩ => ⟨S8x1x12288, .f32⟩
  | .hbm, ⟨5, _⟩ => ⟨S8x1x2048, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S1x1x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x1x2048, .f32⟩
  | .hbm, ⟨30, _⟩ => ⟨S8x1x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x6240, .f32⟩
  | .hbm, ⟨36, _⟩ => ⟨S8x2048x4128, .f32⟩
  | .hbm, ⟨37, _⟩ => ⟨S16384x4128, .f32⟩
  | .hbm, ⟨38, _⟩ => ⟨S_, .i32⟩
  | .hbm, ⟨39, _⟩ => ⟨S_, .f32⟩
  | .hbm, ⟨40, _⟩ => ⟨S16384x4224, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_call0_v0 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== InD.lean ====
abbrev S4096x2048 : Shape := ⟨2, ![4096, 2048]⟩
abbrev S2048 : Shape := ⟨1, ![2048]⟩
abbrev S1x12288 : Shape := ⟨2, ![1, 12288]⟩
abbrev S2048x6240 : Shape := ⟨2, ![2048, 6240]⟩
abbrev S2048x2112 : Shape := ⟨2, ![2048, 2112]⟩
abbrev S2048x1536 : Shape := ⟨2, ![2048, 1536]⟩
abbrev S2048x8x192 : Shape := ⟨3, ![2048, 8, 192]⟩
abbrev S_ : Shape := ⟨0, ![]⟩
abbrev S2048x8x64 : Shape := ⟨3, ![2048, 8, 64]⟩
abbrev S2048x8x128 : Shape := ⟨3, ![2048, 8, 128]⟩
abbrev S2048x1024 : Shape := ⟨2, ![2048, 1024]⟩
abbrev S2048x64 : Shape := ⟨2, ![2048, 64]⟩
abbrev S2048x128 : Shape := ⟨2, ![2048, 128]⟩
abbrev S2048x384 : Shape := ⟨2, ![2048, 384]⟩
abbrev S2048x512 : Shape := ⟨2, ![2048, 512]⟩
abbrev S2048x3072 : Shape := ⟨2, ![2048, 3072]⟩
abbrev S1x6x2048 : Shape := ⟨3, ![1, 6, 2048]⟩
abbrev S1x2048 : Shape := ⟨2, ![1, 2048]⟩
abbrev S4096x3072 : Shape := ⟨2, ![4096, 3072]⟩
abbrev S512x2048 : Shape := ⟨2, ![512, 2048]⟩
abbrev S512x1536 : Shape := ⟨2, ![512, 1536]⟩
abbrev S512 : Shape := ⟨1, ![512]⟩
abbrev S512x1 : Shape := ⟨2, ![512, 1]⟩
abbrev S1x1x2048 : Shape := ⟨3, ![1, 1, 2048]⟩

abbrev nBuf : Space → Nat
  | .hbm => 26
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x12288, .f32⟩
  | .hbm, ⟨3, _⟩ => ⟨S2048x6240, .f32⟩
  | .hbm, ⟨4, _⟩ => ⟨S2048x2112, .f32⟩
  | .hbm, ⟨5, _⟩ => ⟨S2048x1536, .f32⟩
  | .hbm, ⟨6, _⟩ => ⟨S2048x8x192, .f32⟩
  | .hbm, ⟨7, _⟩ => ⟨S_, .f32⟩
  | .hbm, ⟨8, _⟩ => ⟨S2048x8x64, .f32⟩
  | .hbm, ⟨9, _⟩ => ⟨S2048x8x64, .f32⟩
  | .hbm, ⟨10, _⟩ => ⟨S2048x8x128, .f32⟩
  | .hbm, ⟨11, _⟩ => ⟨S2048x1024, .f32⟩
  | .hbm, ⟨12, _⟩ => ⟨S2048x8x128, .f32⟩
  | .hbm, ⟨13, _⟩ => ⟨S2048x1024, .f32⟩
  | .hbm, ⟨14, _⟩ => ⟨S2048x64, .f32⟩
  | .hbm, ⟨15, _⟩ => ⟨S_, .f32⟩
  | .hbm, ⟨16, _⟩ => ⟨S2048x64, .f32⟩
  | .hbm, ⟨17, _⟩ => ⟨S2048x128, .f32⟩
  | .hbm, ⟨18, _⟩ => ⟨S_, .f32⟩
  | .hbm, ⟨19, _⟩ => ⟨S2048x384, .f32⟩
  | .hbm, ⟨20, _⟩ => ⟨S2048x512, .f32⟩
  | .hbm, ⟨21, _⟩ => ⟨S2048x3072, .f32⟩
  | .hbm, ⟨22, _⟩ => ⟨S2048x3072, .bf16⟩
  | .hbm, ⟨23, _⟩ => ⟨S1x6x2048, .f32⟩
  | .hbm, ⟨24, _⟩ => ⟨S1x2048, .f32⟩
  | .hbm, ⟨25, _⟩ => ⟨S4096x3072, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S2048x1536, .bf16⟩
  | .local _ .vmem, ⟨5, _⟩ => ⟨S2048x1536, .bf16⟩
  | .local _ .vmem, ⟨6, _⟩ => ⟨S512x1536, .f32⟩
  | .local _ .vmem, ⟨7, _⟩ => ⟨S512x1536, .f32⟩
  | .local _ .vmem, ⟨8, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InDRefIdeal.lean ====
abbrev S4096x2048 : Shape := ⟨2, ![4096, 2048]⟩
abbrev S2048 : Shape := ⟨1, ![2048]⟩
abbrev S1x12288 : Shape := ⟨2, ![1, 12288]⟩
abbrev S2048x6240 : Shape := ⟨2, ![2048, 6240]⟩
abbrev S1x1x12288 : Shape := ⟨3, ![1, 1, 12288]⟩
abbrev S1x1x2048 : Shape := ⟨3, ![1, 1, 2048]⟩
abbrev S16x256x2048 : Shape := ⟨3, ![16, 256, 2048]⟩
abbrev S_ : Shape := ⟨0, ![]⟩
abbrev S16x256 : Shape := ⟨2, ![16, 256]⟩
abbrev S16x256x1 : Shape := ⟨3, ![16, 256, 1]⟩
abbrev S16x256x6240 : Shape := ⟨3, ![16, 256, 6240]⟩
abbrev S16x256x2112 : Shape := ⟨3, ![16, 256, 2112]⟩
abbrev S4096x2112 : Shape := ⟨2, ![4096, 2112]⟩
abbrev S4096x1536 : Shape := ⟨2, ![4096, 1536]⟩
abbrev S4096x8x192 : Shape := ⟨3, ![4096, 8, 192]⟩
abbrev S4096x8x64 : Shape := ⟨3, ![4096, 8, 64]⟩
abbrev S4096x8x128 : Shape := ⟨3, ![4096, 8, 128]⟩
abbrev S4096x1024 : Shape := ⟨2, ![4096, 1024]⟩
abbrev S4096x64 : Shape := ⟨2, ![4096, 64]⟩
abbrev S4096x512 : Shape := ⟨2, ![4096, 512]⟩
abbrev S4096x3072 : Shape := ⟨2, ![4096, 3072]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x12288, .f32⟩
  | .hbm, ⟨3, _⟩ => ⟨S2048x6240, .f32⟩
  | .hbm, ⟨4, _⟩ => ⟨S1x1x12288, .f32⟩
  | .hbm, ⟨5, _⟩ => ⟨S1x1x2048, .f32⟩
  | .hbm, ⟨6, _⟩ => ⟨S1x1x2048, .f32⟩
  | .hbm, ⟨7, _⟩ => ⟨S1x1x2048, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S16x256x2048, .f32⟩
  | .hbm, ⟨12, _⟩ => ⟨S16x256x2048, .f32⟩
  | .hbm, ⟨13, _⟩ => ⟨S_, .f32⟩
  | .hbm, ⟨14, _⟩ => ⟨S16x256, .f32⟩
  | .hbm, ⟨15, _⟩ => ⟨S16x256x1, .f32⟩
  | .hbm, ⟨16, _⟩ => ⟨S_, .f32⟩
  | .hbm, ⟨17, _⟩ => ⟨S16x256x1, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x1, .f32⟩
  | .hbm, ⟨23, _⟩ => ⟨S16x256x2048, .f32⟩
  | .hbm, ⟨24, _⟩ => ⟨S16x256x2048, .f32⟩
  | .hbm, ⟨25, _⟩ => ⟨S1x1x2048, .f32⟩
  | .hbm, ⟨26, _⟩ => ⟨S16x256x2048, .f32⟩
  | .hbm, ⟨27, _⟩ => ⟨S16x256x2048, .f32⟩
  | .hbm, ⟨28, _⟩ => ⟨S_, .f32⟩
  | .hbm, ⟨29, _⟩ => ⟨S1x1x2048, .f32⟩
  | .hbm, ⟨30, _⟩ => ⟨S1x1x2048, .f32⟩
  | .hbm, ⟨31, _⟩ => ⟨S16x256x2048, .f32⟩
  | .hbm, ⟨32, _⟩ => ⟨S16x256x2048, .f32⟩
  | .hbm, ⟨33, _⟩ => ⟨S16x256x2048, .f32⟩
  | .hbm, ⟨34, _⟩ => ⟨S16x256x2048, .f32⟩
  | .hbm, ⟨35, _⟩ => ⟨S16x256x6240, .f32⟩
  | .hbm, ⟨36, _⟩ => ⟨S16x256x2112, .f32⟩
  | .hbm, ⟨37, _⟩ => ⟨S4096x2112, .f32⟩
  | .hbm, ⟨38, _⟩ => ⟨S4096x1536, .f32⟩
  | .hbm, ⟨39, _⟩ => ⟨S4096x8x192, .f32⟩
  | .hbm, ⟨40, _⟩ => ⟨S4096x8x64, .f32⟩
  | .hbm, ⟨41, _⟩ => ⟨S_, .i32⟩
  | .hbm, ⟨42, _⟩ => ⟨S_, .f32⟩
  | .hbm, ⟨43, _⟩ => ⟨S4096x8x128, .f32⟩
  | .hbm, ⟨44, _⟩ => ⟨S4096x1024, .f32⟩
  | .hbm, ⟨45, _⟩ => ⟨S4096x64, .f32⟩
  | .hbm, ⟨46, _⟩ => ⟨S_, .i32⟩
  | .hbm, ⟨47, _⟩ => ⟨S_, .f32⟩
  | .hbm, ⟨48, _⟩ => ⟨S4096x512, .f32⟩
  | .hbm, ⟨49, _⟩ => ⟨S4096x512, .f32⟩
  | .hbm, ⟨50, _⟩ => ⟨S4096x8x128, .f32⟩
  | .hbm, ⟨51, _⟩ => ⟨S4096x1024, .f32⟩
  | .hbm, ⟨52, _⟩ => ⟨S4096x3072, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c : Ref sig .tc := ⟨.hbm, 41, rfl⟩
abbrev main_call0_v0 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_3 : Ref sig .tc := ⟨.hbm, 46, rfl⟩
abbrev main_call1_v0 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Out.lean ====
abbrev S16384x1024 : Shape := ⟨2, ![16384, 1024]⟩
abbrev S2048x2048 : Shape := ⟨2, ![2048, 2048]⟩
abbrev S16384x2048 : Shape := ⟨2, ![16384, 2048]⟩
abbrev S8x12288 : Shape := ⟨2, ![8, 12288]⟩
abbrev S1024x2048 : Shape := ⟨2, ![1024, 2048]⟩
abbrev S8x6x2048 : Shape := ⟨3, ![8, 6, 2048]⟩
abbrev S512x1024 : Shape := ⟨2, ![512, 1024]⟩
abbrev S1024x1024 : Shape := ⟨2, ![1024, 1024]⟩
abbrev S1x6x1024 : Shape := ⟨3, ![1, 6, 1024]⟩
abbrev S1x1x1024 : Shape := ⟨3, ![1, 1, 1024]⟩
abbrev S1x1024 : Shape := ⟨2, ![1, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S8x12288, .f32⟩
  | .hbm, ⟨5, _⟩ => ⟨S2048x2048, .bf16⟩
  | .hbm, ⟨6, _⟩ => ⟨S1024x2048, .bf16⟩
  | .hbm, ⟨7, _⟩ => ⟨S1024x2048, .bf16⟩
  | .hbm, ⟨8, _⟩ => ⟨S8x6x2048, .f32⟩
  | .hbm, ⟨9, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1x6x1024, .f32⟩
  | .local _ .vmem, ⟨11, _⟩ => ⟨S1x6x1024, .f32⟩
  | .local _ .vmem, ⟨12, _⟩ => ⟨S512x1024, .f32⟩
  | .local _ .vmem, ⟨13, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutRefIdeal.lean ====
abbrev S16384x1024 : Shape := ⟨2, ![16384, 1024]⟩
abbrev S2048x2048 : Shape := ⟨2, ![2048, 2048]⟩
abbrev S16384x2048 : Shape := ⟨2, ![16384, 2048]⟩
abbrev S8x12288 : Shape := ⟨2, ![8, 12288]⟩
abbrev S8x1x12288 : Shape := ⟨3, ![8, 1, 12288]⟩
abbrev S8x1x2048 : Shape := ⟨3, ![8, 1, 2048]⟩
abbrev S8x2048x2048 : Shape := ⟨3, ![8, 2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S8x12288, .f32⟩
  | .hbm, ⟨5, _⟩ => ⟨S8x1x12288, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S16384x1024, .f32⟩
  | .hbm, ⟨13, _⟩ => ⟨S16384x1024, .f32⟩
  | .hbm, ⟨14, _⟩ => ⟨S16384x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kvb.lean ====
abbrev S4096x2112 : Shape := ⟨2, ![4096, 2112]⟩
abbrev S512 : Shape := ⟨1, ![512]⟩
abbrev S512x2048 : Shape := ⟨2, ![512, 2048]⟩
abbrev S4096x1536 : Shape := ⟨2, ![4096, 1536]⟩
abbrev S4096x8x192 : Shape := ⟨3, ![4096, 8, 192]⟩
abbrev S_ : Shape := ⟨0, ![]⟩
abbrev S4096x8x64 : Shape := ⟨3, ![4096, 8, 64]⟩
abbrev S4096x8x128 : Shape := ⟨3, ![4096, 8, 128]⟩
abbrev S4096x1024 : Shape := ⟨2, ![4096, 1024]⟩
abbrev S4096x64 : Shape := ⟨2, ![4096, 64]⟩
abbrev S4096x128 : Shape := ⟨2, ![4096, 128]⟩
abbrev S4096x384 : Shape := ⟨2, ![4096, 384]⟩
abbrev S4096x512 : Shape := ⟨2, ![4096, 512]⟩
abbrev S4096x3072 : Shape := ⟨2, ![4096, 3072]⟩
abbrev S1x512 : Shape := ⟨2, ![1, 512]⟩
abbrev S4096x2048 : Shape := ⟨2, ![4096, 2048]⟩
abbrev S512x512 : Shape := ⟨2, ![512, 512]⟩
abbrev S512x1024 : Shape := ⟨2, ![512, 1024]⟩
abbrev S512x1 : Shape := ⟨2, ![512, 1]⟩

abbrev nBuf : Space → Nat
  | .hbm => 24
  | .vmem => 10
  | .smem => 0
  | _ => 0

abbrev bufTy : (tb : Table) → Fin (tcTables nBuf tb) → BufTy
  | .hbm, ⟨0, _⟩ => ⟨S4096x2112, .f32⟩
  | .hbm, ⟨1, _⟩ => ⟨S512, .f32⟩
  | .hbm, ⟨2, _⟩ => ⟨S512x2048, .f32⟩
  | .hbm, ⟨3, _⟩ => ⟨S4096x1536, .f32⟩
  | .hbm, ⟨4, _⟩ => ⟨S4096x8x192, .f32⟩
  | .hbm, ⟨5, _⟩ => ⟨S_, .f32⟩
  | .hbm, ⟨6, _⟩ => ⟨S4096x8x64, .f32⟩
  | .hbm, ⟨7, _⟩ => ⟨S4096x8x64, .f32⟩
  | .hbm, ⟨8, _⟩ => ⟨S4096x8x128, .f32⟩
  | .hbm, ⟨9, _⟩ => ⟨S4096x1024, .f32⟩
  | .hbm, ⟨10, _⟩ => ⟨S4096x8x128, .f32⟩
  | .hbm, ⟨11, _⟩ => ⟨S4096x1024, .f32⟩
  | .hbm, ⟨12, _⟩ => ⟨S4096x64, .f32⟩
  | .hbm, ⟨13, _⟩ => ⟨S_, .f32⟩
  | .hbm, ⟨14, _⟩ => ⟨S4096x64, .f32⟩
  | .hbm, ⟨15, _⟩ => ⟨S4096x128, .f32⟩
  | .hbm, ⟨16, _⟩ => ⟨S_, .f32⟩
  | .hbm, ⟨17, _⟩ => ⟨S4096x384, .f32⟩
  | .hbm, ⟨18, _⟩ => ⟨S4096x512, .f32⟩
  | .hbm, ⟨19, _⟩ => ⟨S4096x3072, .f32⟩
  | .hbm, ⟨20, _⟩ => ⟨S512x2048, .bf16⟩
  | .hbm, ⟨21, _⟩ => ⟨S1x512, .f32⟩
  | .hbm, ⟨22, _⟩ => ⟨S4096x2048, .f32⟩
  | .hbm, ⟨23, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | _, _ => ⟨S4096x2112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KvbRefIdeal.lean ====
abbrev S4096x2112 : Shape := ⟨2, ![4096, 2112]⟩
abbrev S512 : Shape := ⟨1, ![512]⟩
abbrev S512x2048 : Shape := ⟨2, ![512, 2048]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S4096x2048 : Shape := ⟨2, ![4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4096x2112, .f32⟩
  | .hbm, ⟨1, _⟩ => ⟨S512, .f32⟩
  | .hbm, ⟨2, _⟩ => ⟨S512x2048, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x512, .f32⟩
  | .hbm, ⟨16, _⟩ => ⟨S4096x512, .f32⟩
  | .hbm, ⟨17, _⟩ => ⟨S1x512, .f32⟩
  | .hbm, ⟨18, _⟩ => ⟨S4096x512, .f32⟩
  | .hbm, ⟨19, _⟩ => ⟨S4096x512, .f32⟩
  | .hbm, ⟨20, _⟩ => ⟨S4096x2048, .f32⟩
  | _, _ => ⟨S4096x2112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KvCtx.lean ====
abbrev S8x256x512 : Shape := ⟨3, ![8, 256, 512]⟩
abbrev S512x2048 : Shape := ⟨2, ![512, 2048]⟩
abbrev S2048x512 : Shape := ⟨2, ![2048, 512]⟩
abbrev S2048x2048 : Shape := ⟨2, ![2048, 2048]⟩
abbrev S512x512 : Shape := ⟨2, ![512, 512]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x256x512, .f32⟩
  | .hbm, ⟨1, _⟩ => ⟨S512x2048, .f32⟩
  | .hbm, ⟨2, _⟩ => ⟨S2048x512, .f32⟩
  | .hbm, ⟨3, _⟩ => ⟨S512x2048, .bf16⟩
  | .hbm, ⟨4, _⟩ => ⟨S2048x2048, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvCtxRefIdeal.lean ====
abbrev S8x256x512 : Shape := ⟨3, ![8, 256, 512]⟩
abbrev S512x2048 : Shape := ⟨2, ![512, 2048]⟩
abbrev S8x256x2048 : Shape := ⟨3, ![8, 256, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S512x2048, .f32⟩
  | .hbm, ⟨2, _⟩ => ⟨S8x256x2048, .f32⟩
  | .hbm, ⟨3, _⟩ => ⟨S2048x2048, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GdnPrep.lean ====
abbrev S16384x4224 : Shape := ⟨2, ![16384, 4224]⟩
abbrev S3x3072 : Shape := ⟨2, ![3, 3072]⟩
abbrev S16384x3072 : Shape := ⟨2, ![16384, 3072]⟩
abbrev S256x1024 : Shape := ⟨2, ![256, 1024]⟩
abbrev S8x1024 : Shape := ⟨2, ![8, 1024]⟩
abbrev S3x1024 : Shape := ⟨2, ![3, 1024]⟩
abbrev S1x1024 : Shape := ⟨2, ![1, 1024]⟩
abbrev S256x128 : Shape := ⟨2, ![256, 128]⟩
abbrev S256 : Shape := ⟨1, ![256]⟩
abbrev S256x1 : Shape := ⟨2, ![256, 1]⟩

abbrev nBuf : Space → Nat
  | .hbm => 3
  | .vmem => 10
  | .smem => 0
  | _ => 0

abbrev bufTy : (tb : Table) → Fin (tcTables nBuf tb) → BufTy
  | .hbm, ⟨0, _⟩ => ⟨S16384x4224, .f32⟩
  | .hbm, ⟨1, _⟩ => ⟨S3x3072, .f32⟩
  | .hbm, ⟨2, _⟩ => ⟨S16384x3072, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S3x1024, .f32⟩
  | .local _ .vmem, ⟨7, _⟩ => ⟨S3x1024, .f32⟩
  | .local _ .vmem, ⟨8, _⟩ => ⟨S256x1024, .f32⟩
  | .local _ .vmem, ⟨9, _⟩ => ⟨S256x1024, .f32⟩
  | _, _ => ⟨S16384x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 3], ![false, false]⟩

def k0_cond1 (i : grid0.Coords) : BitVec 1 :=
  let arg1 : BitVec 32 := BitVec.ofNat 32 (i 1).val
  let c2_i32 : BitVec 32 := 2#32
  let v64 : BitVec 1 := Scalar.cmpi .eq arg1 c2_i32
  let v65 : BitVec 32 := Scalar.extui v64
  let c0_i32_28 : BitVec 32 := 0#32
  let v66 : BitVec 1 := Scalar.cmpi .ne v65 c0_i32_28
  v66

def k0_cond2 (i : grid0.Coords) : BitVec 1 :=
  let arg1 : BitVec 32 := BitVec.ofNat 32 (i 1).val
  let c2_i32_29 : BitVec 32 := 2#32
  let v67 : BitVec 1 := Scalar.cmpi .slt arg1 c2_i32_29
  let v68 : BitVec 32 := Scalar.extui v67
  let c0_i32_30 : BitVec 32 := 0#32
  let v69 : BitVec 1 := Scalar.cmpi .ne v68 c0_i32_30
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GdnPrepRefIdeal.lean ====
abbrev S16384x4224 : Shape := ⟨2, ![16384, 4224]⟩
abbrev S3x3072 : Shape := ⟨2, ![3, 3072]⟩
abbrev S8x2048x4224 : Shape := ⟨3, ![8, 2048, 4224]⟩
abbrev S8x2048x3072 : Shape := ⟨3, ![8, 2048, 3072]⟩
abbrev S1x3072 : Shape := ⟨2, ![1, 3072]⟩
abbrev S3072 : Shape := ⟨1, ![3072]⟩
abbrev S_ : Shape := ⟨0, ![]⟩
abbrev S8x2049x3072 : Shape := ⟨3, ![8, 2049, 3072]⟩
abbrev S1x1x3072 : Shape := ⟨3, ![1, 1, 3072]⟩
abbrev S8x2048x1024 : Shape := ⟨3, ![8, 2048, 1024]⟩
abbrev S8x2048x8x128 : Shape := ⟨4, ![8, 2048, 8, 128]⟩
abbrev S8x2048x8 : Shape := ⟨3, ![8, 2048, 8]⟩
abbrev S8x2048x8x1 : Shape := ⟨4, ![8, 2048, 8, 1]⟩
abbrev S16384x1024 : Shape := ⟨2, ![16384, 1024]⟩
abbrev S16384x3072 : Shape := ⟨2, ![16384, 3072]⟩

abbrev nBuf : Space → Nat
  | .hbm => 70
  | .vmem => 0
  | .smem => 0
  | _ => 0

abbrev bufTy : (tb : Table) → Fin (tcTables nBuf tb) → BufTy
  | .hbm, ⟨0, _⟩ => ⟨S16384x4224, .f32⟩
  | .hbm, ⟨1, _⟩ => ⟨S3x3072, .f32⟩
  | .hbm, ⟨2, _⟩ => ⟨S8x2048x4224, .f32⟩
  | .hbm, ⟨3, _⟩ => ⟨S8x2048x3072, .f32⟩
  | .hbm, ⟨4, _⟩ => ⟨S1x3072, .f32⟩
  | .hbm, ⟨5, _⟩ => ⟨S3072, .f32⟩
  | .hbm, ⟨6, _⟩ => ⟨S_, .i32⟩
  | .hbm, ⟨7, _⟩ => ⟨S_, .f32⟩
  | .hbm, ⟨8, _⟩ => ⟨S8x2049x3072, .f32⟩
  | .hbm, ⟨9, _⟩ => ⟨S8x2048x3072, .f32⟩
  | .hbm, ⟨10, _⟩ => ⟨S1x1x3072, .f32⟩
  | .hbm, ⟨11, _⟩ => ⟨S8x2048x3072, .f32⟩
  | .hbm, ⟨12, _⟩ => ⟨S8x2048x3072, .f32⟩
  | .hbm, ⟨13, _⟩ => ⟨S1x3072, .f32⟩
  | .hbm, ⟨14, _⟩ => ⟨S3072, .f32⟩
  | .hbm, ⟨15, _⟩ => ⟨S1x1x3072, .f32⟩
  | .hbm, ⟨16, _⟩ => ⟨S8x2048x3072, .f32⟩
  | .hbm, ⟨17, _⟩ => ⟨S8x2048x3072, .f32⟩
  | .hbm, ⟨18, _⟩ => ⟨S8x2048x3072, .f32⟩
  | .hbm, ⟨19, _⟩ => ⟨S1x3072, .f32⟩
  | .hbm, ⟨20, _⟩ => ⟨S3072, .f32⟩
  | .hbm, ⟨21, _⟩ => ⟨S_, .i32⟩
  | .hbm, ⟨22, _⟩ => ⟨S_, .f32⟩
  | .hbm, ⟨23, _⟩ => ⟨S8x2049x3072, .f32⟩
  | .hbm, ⟨24, _⟩ => ⟨S8x2048x3072, .f32⟩
  | .hbm, ⟨25, _⟩ => ⟨S1x1x3072, .f32⟩
  | .hbm, ⟨26, _⟩ => ⟨S8x2048x3072, .f32⟩
  | .hbm, ⟨27, _⟩ => ⟨S8x2048x3072, .f32⟩
  | .hbm, ⟨28, _⟩ => ⟨S8x2048x3072, .f32⟩
  | .hbm, ⟨29, _⟩ => ⟨S8x2048x3072, .f32⟩
  | .hbm, ⟨30, _⟩ => ⟨S8x2048x3072, .f32⟩
  | .hbm, ⟨31, _⟩ => ⟨S_, .f32⟩
  | .hbm, ⟨32, _⟩ => ⟨S8x2048x3072, .f32⟩
  | .hbm, ⟨33, _⟩ => ⟨S8x2048x3072, .f32⟩
  | .hbm, ⟨34, _⟩ => ⟨S_, .f32⟩
  | .hbm, ⟨35, _⟩ => ⟨S8x2048x3072, .f32⟩
  | .hbm, ⟨36, _⟩ => ⟨S8x2048x3072, .f32⟩
  | .hbm, ⟨37, _⟩ => ⟨S8x2048x3072, .f32⟩
  | .hbm, ⟨38, _⟩ => ⟨S8x2048x1024, .f32⟩
  | .hbm, ⟨39, _⟩ => ⟨S8x2048x8x128, .f32⟩
  | .hbm, ⟨40, _⟩ => ⟨S8x2048x8x128, .f32⟩
  | .hbm, ⟨41, _⟩ => ⟨S_, .f32⟩
  | .hbm, ⟨42, _⟩ => ⟨S8x2048x8, .f32⟩
  | .hbm, ⟨43, _⟩ => ⟨S8x2048x8x1, .f32⟩
  | .hbm, ⟨44, _⟩ => ⟨S_, .f32⟩
  | .hbm, ⟨45, _⟩ => ⟨S8x2048x8x1, .f32⟩
  | .hbm, ⟨46, _⟩ => ⟨S8x2048x8x1, .f32⟩
  | .hbm, ⟨47, _⟩ => ⟨S8x2048x8x1, .f32⟩
  | .hbm, ⟨48, _⟩ => ⟨S8x2048x8x128, .f32⟩
  | .hbm, ⟨49, _⟩ => ⟨S8x2048x8x128, .f32⟩
  | .hbm, ⟨50, _⟩ => ⟨S_, .f32⟩
  | .hbm, ⟨51, _⟩ => ⟨S8x2048x8x128, .f32⟩
  | .hbm, ⟨52, _⟩ => ⟨S8x2048x8x128, .f32⟩
  | .hbm, ⟨53, _⟩ => ⟨S8x2048x1024, .f32⟩
  | .hbm, ⟨54, _⟩ => ⟨S8x2048x8x128, .f32⟩
  | .hbm, ⟨55, _⟩ => ⟨S8x2048x8x128, .f32⟩
  | .hbm, ⟨56, _⟩ => ⟨S_, .f32⟩
  | .hbm, ⟨57, _⟩ => ⟨S8x2048x8, .f32⟩
  | .hbm, ⟨58, _⟩ => ⟨S8x2048x8x1, .f32⟩
  | .hbm, ⟨59, _⟩ => ⟨S_, .f32⟩
  | .hbm, ⟨60, _⟩ => ⟨S8x2048x8x1, .f32⟩
  | .hbm, ⟨61, _⟩ => ⟨S8x2048x8x1, .f32⟩
  | .hbm, ⟨62, _⟩ => ⟨S8x2048x8x1, .f32⟩
  | .hbm, ⟨63, _⟩ => ⟨S8x2048x8x128, .f32⟩
  | .hbm, ⟨64, _⟩ => ⟨S8x2048x8x128, .f32⟩
  | .hbm, ⟨65, _⟩ => ⟨S16384x1024, .f32⟩
  | .hbm, ⟨66, _⟩ => ⟨S16384x1024, .f32⟩
  | .hbm, ⟨67, _⟩ => ⟨S8x2048x1024, .f32⟩
  | .hbm, ⟨68, _⟩ => ⟨S16384x1024, .f32⟩
  | .hbm, ⟨69, _⟩ => ⟨S16384x3072, .f32⟩
  | _, _ => ⟨S16384x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_call1_v0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call2_v0 : Ref sig .tc := ⟨.hbm, 29, rfl⟩
abbrev main_call2_v1 : Ref sig .tc := ⟨.hbm, 30, rfl⟩
abbrev main_call2_cst : Ref sig .tc := ⟨.hbm, 31, rfl⟩
abbrev main_call2_v2 : Ref sig .tc := ⟨.hbm, 32, rfl⟩
abbrev main_call2_v3 : Ref sig .tc := ⟨.hbm, 33, rfl⟩
abbrev main_call2_cst_0 : Ref sig .tc := ⟨.hbm, 34, rfl⟩
abbrev main_call2_v4 : Ref sig .tc := ⟨.hbm, 35, rfl⟩
abbrev main_call2_v5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_cst_1 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== GdnPost.lean ====
abbrev S16384x1024 : Shape := ⟨2, ![16384, 1024]⟩
abbrev S16384x4224 : Shape := ⟨2, ![16384, 4224]⟩
abbrev S128 : Shape := ⟨1, ![128]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x4224, .f32⟩
  | .hbm, ⟨3, _⟩ => ⟨S128, .f32⟩
  | .hbm, ⟨4, _⟩ => ⟨S1x128, .f32⟩
  | .hbm, ⟨5, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | .local _ .vmem, ⟨7, _⟩ => ⟨S256x1024, .bf16⟩
  | .local _ .vmem, ⟨8, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GdnPostRefIdeal.lean ====
abbrev S16384x1024 : Shape := ⟨2, ![16384, 1024]⟩
abbrev S16384x4224 : Shape := ⟨2, ![16384, 4224]⟩
abbrev S128 : Shape := ⟨1, ![128]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x4224, .f32⟩
  | .hbm, ⟨3, _⟩ => ⟨S128, .f32⟩
  | .hbm, ⟨4, _⟩ => ⟨S16384x1024, .f32⟩
  | .hbm, ⟨5, _⟩ => ⟨S16384x8x128, .f32⟩
  | .hbm, ⟨6, _⟩ => ⟨S16384x1024, .f32⟩
  | .hbm, ⟨7, _⟩ => ⟨S16384x8x128, .f32⟩
  | .hbm, ⟨8, _⟩ => ⟨S16384x8x128, .f32⟩
  | .hbm, ⟨9, _⟩ => ⟨S_, .f32⟩
  | .hbm, ⟨10, _⟩ => ⟨S16384x8, .f32⟩
  | .hbm, ⟨11, _⟩ => ⟨S16384x8x1, .f32⟩
  | .hbm, ⟨12, _⟩ => ⟨S_, .f32⟩
  | .hbm, ⟨13, _⟩ => ⟨S16384x8x1, .f32⟩
  | .hbm, ⟨14, _⟩ => ⟨S16384x8x1, .f32⟩
  | .hbm, ⟨15, _⟩ => ⟨S_, .f32⟩
  | .hbm, ⟨16, _⟩ => ⟨S16384x8x1, .f32⟩
  | .hbm, ⟨17, _⟩ => ⟨S16384x8x1, .f32⟩
  | .hbm, ⟨18, _⟩ => ⟨S16384x8x1, .f32⟩
  | .hbm, ⟨19, _⟩ => ⟨S16384x8x128, .f32⟩
  | .hbm, ⟨20, _⟩ => ⟨S16384x8x128, .f32⟩
  | .hbm, ⟨21, _⟩ => ⟨S1x1x128, .f32⟩
  | .hbm, ⟨22, _⟩ => ⟨S16384x8x128, .f32⟩
  | .hbm, ⟨23, _⟩ => ⟨S16384x8x128, .f32⟩
  | .hbm, ⟨24, _⟩ => ⟨S16384x8x128, .f32⟩
  | .hbm, ⟨25, _⟩ => ⟨S16384x8x128, .f32⟩
  | .hbm, ⟨26, _⟩ => ⟨S_, .f32⟩
  | .hbm, ⟨27, _⟩ => ⟨S16384x8x128, .f32⟩
  | .hbm, ⟨28, _⟩ => ⟨S16384x8x128, .f32⟩
  | .hbm, ⟨29, _⟩ => ⟨S_, .f32⟩
  | .hbm, ⟨30, _⟩ => ⟨S16384x8x128, .f32⟩
  | .hbm, ⟨31, _⟩ => ⟨S16384x8x128, .f32⟩
  | .hbm, ⟨32, _⟩ => ⟨S16384x8x128, .f32⟩
  | .hbm, ⟨33, _⟩ => ⟨S16384x8x128, .f32⟩
  | .hbm, ⟨34, _⟩ => ⟨S16384x1024, .f32⟩
  | .hbm, ⟨35, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== GdnBg.lean ====
abbrev S16384x4224 : Shape := ⟨2, ![16384, 4224]⟩
abbrev S2x8 : Shape := ⟨2, ![2, 8]⟩
abbrev S_ : Shape := ⟨0, ![]⟩
abbrev S16 : Shape := ⟨1, ![16]⟩
abbrev S96 : Shape := ⟨1, ![96]⟩
abbrev S128 : Shape := ⟨1, ![128]⟩
abbrev S1x128 : Shape := ⟨2, ![1, 128]⟩
abbrev S16384x128 : Shape := ⟨2, ![16384, 128]⟩
abbrev S512x128 : Shape := ⟨2, ![512, 128]⟩

abbrev nBuf : Space → Nat
  | .hbm => 18
  | .vmem => 6
  | .smem => 0
  | _ => 0

abbrev bufTy : (tb : Table) → Fin (tcTables nBuf tb) → BufTy
  | .hbm, ⟨0, _⟩ => ⟨S16384x4224, .f32⟩
  | .hbm, ⟨1, _⟩ => ⟨S2x8, .f32⟩
  | .hbm, ⟨2, _⟩ => ⟨S2x8, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S96, .f32⟩
  | .hbm, ⟨8, _⟩ => ⟨S128, .f32⟩
  | .hbm, ⟨9, _⟩ => ⟨S1x128, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S96, .f32⟩
  | .hbm, ⟨15, _⟩ => ⟨S128, .f32⟩
  | .hbm, ⟨16, _⟩ => ⟨S1x128, .f32⟩
  | .hbm, ⟨17, _⟩ => ⟨S16384x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | _, _ => ⟨S16384x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GdnBgRefIdeal.lean ====
abbrev S16384x4224 : Shape := ⟨2, ![16384, 4224]⟩
abbrev S2x8 : Shape := ⟨2, ![2, 8]⟩
abbrev S8x2048x4224 : Shape := ⟨3, ![8, 2048, 4224]⟩
abbrev S8x2048x16 : Shape := ⟨3, ![8, 2048, 16]⟩
abbrev S8x2048x2x8 : Shape := ⟨4, ![8, 2048, 2, 8]⟩
abbrev S_ : Shape := ⟨0, ![]⟩
abbrev S1x1x2x8 : Shape := ⟨4, ![1, 1, 2, 8]⟩
abbrev S16384x96 : Shape := ⟨2, ![16384, 96]⟩
abbrev S16384x16 : Shape := ⟨2, ![16384, 16]⟩
abbrev S16384x128 : Shape := ⟨2, ![16384, 128]⟩

abbrev nBuf : Space → Nat
  | .hbm => 57
  | .vmem => 0
  | .smem => 0
  | _ => 0

abbrev bufTy : (tb : Table) → Fin (tcTables nBuf tb) → BufTy
  | .hbm, ⟨0, _⟩ => ⟨S16384x4224, .f32⟩
  | .hbm, ⟨1, _⟩ => ⟨S2x8, .f32⟩
  | .hbm, ⟨2, _⟩ => ⟨S2x8, .f32⟩
  | .hbm, ⟨3, _⟩ => ⟨S8x2048x4224, .f32⟩
  | .hbm, ⟨4, _⟩ => ⟨S8x2048x16, .f32⟩
  | .hbm, ⟨5, _⟩ => ⟨S8x2048x2x8, .f32⟩
  | .hbm, ⟨6, _⟩ => ⟨S8x2048x2x8, .f32⟩
  | .hbm, ⟨7, _⟩ => ⟨S8x2048x2x8, .f32⟩
  | .hbm, ⟨8, _⟩ => ⟨S_, .f32⟩
  | .hbm, ⟨9, _⟩ => ⟨S8x2048x2x8, .f32⟩
  | .hbm, ⟨10, _⟩ => ⟨S8x2048x2x8, .f32⟩
  | .hbm, ⟨11, _⟩ => ⟨S_, .f32⟩
  | .hbm, ⟨12, _⟩ => ⟨S8x2048x2x8, .f32⟩
  | .hbm, ⟨13, _⟩ => ⟨S8x2048x2x8, .f32⟩
  | .hbm, ⟨14, _⟩ => ⟨S2x8, .f32⟩
  | .hbm, ⟨15, _⟩ => ⟨S2x8, .f32⟩
  | .hbm, ⟨16, _⟩ => ⟨S8x2048x16, .f32⟩
  | .hbm, ⟨17, _⟩ => ⟨S8x2048x2x8, .f32⟩
  | .hbm, ⟨18, _⟩ => ⟨S1x1x2x8, .f32⟩
  | .hbm, ⟨19, _⟩ => ⟨S8x2048x2x8, .f32⟩
  | .hbm, ⟨20, _⟩ => ⟨S8x2048x2x8, .f32⟩
  | .hbm, ⟨21, _⟩ => ⟨S_, .f32⟩
  | .hbm, ⟨22, _⟩ => ⟨S8x2048x2x8, .f32⟩
  | .hbm, ⟨23, _⟩ => ⟨S8x2048x2x8, .f32⟩
  | .hbm, ⟨24, _⟩ => ⟨S8x2048x2x8, .f32⟩
  | .hbm, ⟨25, _⟩ => ⟨S8x2048x2x8, .f32⟩
  | .hbm, ⟨26, _⟩ => ⟨S8x2048x2x8, .i1⟩
  | .hbm, ⟨27, _⟩ => ⟨S8x2048x2x8, .f32⟩
  | .hbm, ⟨28, _⟩ => ⟨S8x2048x2x8, .f32⟩
  | .hbm, ⟨29, _⟩ => ⟨S8x2048x2x8, .f32⟩
  | .hbm, ⟨30, _⟩ => ⟨S8x2048x2x8, .f32⟩
  | .hbm, ⟨31, _⟩ => ⟨S8x2048x2x8, .f32⟩
  | .hbm, ⟨32, _⟩ => ⟨S8x2048x2x8, .f32⟩
  | .hbm, ⟨33, _⟩ => ⟨S8x2048x2x8, .f32⟩
  | .hbm, ⟨34, _⟩ => ⟨S8x2048x2x8, .f32⟩
  | .hbm, ⟨35, _⟩ => ⟨S1x1x2x8, .f32⟩
  | .hbm, ⟨36, _⟩ => ⟨S8x2048x2x8, .f32⟩
  | .hbm, ⟨37, _⟩ => ⟨S8x2048x2x8, .f32⟩
  | .hbm, ⟨38, _⟩ => ⟨S16384x96, .f32⟩
  | .hbm, ⟨39, _⟩ => ⟨S_, .f32⟩
  | .hbm, ⟨40, _⟩ => ⟨S16384x96, .f32⟩
  | .hbm, ⟨41, _⟩ => ⟨S16384x96, .f32⟩
  | .hbm, ⟨42, _⟩ => ⟨S16384x96, .f32⟩
  | .hbm, ⟨43, _⟩ => ⟨S16384x96, .f32⟩
  | .hbm, ⟨44, _⟩ => ⟨S16384x96, .i1⟩
  | .hbm, ⟨45, _⟩ => ⟨S16384x96, .f32⟩
  | .hbm, ⟨46, _⟩ => ⟨S16384x96, .f32⟩
  | .hbm, ⟨47, _⟩ => ⟨S16384x96, .f32⟩
  | .hbm, ⟨48, _⟩ => ⟨S16384x96, .f32⟩
  | .hbm, ⟨49, _⟩ => ⟨S16384x96, .f32⟩
  | .hbm, ⟨50, _⟩ => ⟨S16384x96, .f32⟩
  | .hbm, ⟨51, _⟩ => ⟨S16384x96, .f32⟩
  | .hbm, ⟨52, _⟩ => ⟨S16384x96, .f32⟩
  | .hbm, ⟨53, _⟩ => ⟨S16384x96, .f32⟩
  | .hbm, ⟨54, _⟩ => ⟨S16384x16, .f32⟩
  | .hbm, ⟨55, _⟩ => ⟨S16384x16, .f32⟩
  | .hbm, ⟨56, _⟩ => ⟨S16384x128, .f32⟩
  | _, _ => ⟨S16384x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩

abbrev nD : Nat := 1
abbrev τ : Topo := Topo.v7x

variable {F : FTy → Type} [FloatOps F]
-- ==== QkS.lean ====
abbrev S16384x1536 : Shape := ⟨2, ![16384, 1536]⟩
abbrev S128 : Shape := ⟨1, ![128]⟩
abbrev S2 : Shape := ⟨1, ![2]⟩
abbrev S1x128 : Shape := ⟨2, ![1, 128]⟩
abbrev S8x128 : Shape := ⟨2, ![8, 128]⟩
abbrev S1024 : Shape := ⟨1, ![1024]⟩
abbrev S2x128 : Shape := ⟨2, ![2, 128]⟩
abbrev S256 : Shape := ⟨1, ![256]⟩
abbrev S1280 : Shape := ⟨1, ![1280]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x64x2 : Shape := ⟨3, ![2048, 64, 2]⟩
abbrev S2048x128 : Shape := ⟨2, ![2048, 128]⟩
abbrev S1x2 : Shape := ⟨2, ![1, 2]⟩
abbrev S64x2 : Shape := ⟨2, ![64, 2]⟩
abbrev S1x1280 : Shape := ⟨2, ![1, 1280]⟩
abbrev S16384x1280 : Shape := ⟨2, ![16384, 1280]⟩
abbrev S256x1280 : Shape := ⟨2, ![256, 1280]⟩
abbrev S256x128 : Shape := ⟨2, ![256, 128]⟩
abbrev S256x1 : Shape := ⟨2, ![256, 1]⟩

abbrev nBuf : Space → Nat
  | .hbm => 51
  | .vmem => 9
  | .smem => 0
  | _ => 0

abbrev bufTy : (tb : Table) → Fin (tcTables nBuf tb) → BufTy
  | .hbm, ⟨0, _⟩ => ⟨S16384x1536, .f32⟩
  | .hbm, ⟨1, _⟩ => ⟨S128, .f32⟩
  | .hbm, ⟨2, _⟩ => ⟨S128, .f32⟩
  | .hbm, ⟨3, _⟩ => ⟨S2, .f32⟩
  | .hbm, ⟨4, _⟩ => ⟨S1x128, .f32⟩
  | .hbm, ⟨5, _⟩ => ⟨S8x128, .f32⟩
  | .hbm, ⟨6, _⟩ => ⟨S1024, .f32⟩
  | .hbm, ⟨7, _⟩ => ⟨S1x128, .f32⟩
  | .hbm, ⟨8, _⟩ => ⟨S2x128, .f32⟩
  | .hbm, ⟨9, _⟩ => ⟨S256, .f32⟩
  | .hbm, ⟨10, _⟩ => ⟨S1280, .f32⟩
  | .hbm, ⟨11, _⟩ => ⟨S32, .f32⟩
  | .hbm, ⟨12, _⟩ => ⟨S32x64, .f32⟩
  | .hbm, ⟨13, _⟩ => ⟨S2048, .f32⟩
  | .hbm, ⟨14, _⟩ => ⟨S64, .f32⟩
  | .hbm, ⟨15, _⟩ => ⟨S1x64, .f32⟩
  | .hbm, ⟨16, _⟩ => ⟨S32x64, .f32⟩
  | .hbm, ⟨17, _⟩ => ⟨S2048, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S2048x1, .f32⟩
  | .hbm, ⟨27, _⟩ => ⟨S1x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x1, .f32⟩
  | .hbm, ⟨32, _⟩ => ⟨S1x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x64, .f32⟩
  | .hbm, ⟨37, _⟩ => ⟨S2048x64, .f32⟩
  | .hbm, ⟨38, _⟩ => ⟨S2048x64x2, .f32⟩
  | .hbm, ⟨39, _⟩ => ⟨S2048x128, .f32⟩
  | .hbm, ⟨40, _⟩ => ⟨S2048x64, .f32⟩
  | .hbm, ⟨41, _⟩ => ⟨S2048x64x2, .f32⟩
  | .hbm, ⟨42, _⟩ => ⟨S2048x128, .f32⟩
  | .hbm, ⟨43, _⟩ => ⟨S1x2, .f32⟩
  | .hbm, ⟨44, _⟩ => ⟨S64x2, .f32⟩
  | .hbm, ⟨45, _⟩ => ⟨S128, .f32⟩
  | .hbm, ⟨46, _⟩ => ⟨S1x128, .f32⟩
  | .hbm, ⟨47, _⟩ => ⟨S2048x128, .f32⟩
  | .hbm, ⟨48, _⟩ => ⟨S2048x128, .f32⟩
  | .hbm, ⟨49, _⟩ => ⟨S1x1280, .f32⟩
  | .hbm, ⟨50, _⟩ => ⟨S16384x1280, .f32⟩
  | .local _ .vmem, ⟨0, _⟩ => ⟨S256x1280, .f32⟩
  | .local _ .vmem, ⟨1, _⟩ => ⟨S256x1280, .f32⟩
  | .local _ .vmem, ⟨2, _⟩ => ⟨S1x1280, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x1280, .f32⟩
  | .local _ .vmem, ⟨8, _⟩ => ⟨S256x1280, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QkSRefIdeal.lean ====
abbrev S16384x1536 : Shape := ⟨2, ![16384, 1536]⟩
abbrev S128 : Shape := ⟨1, ![128]⟩
abbrev S16384x1024 : Shape := ⟨2, ![16384, 1024]⟩
abbrev S8x2048x8x128 : Shape := ⟨4, ![8, 2048, 8, 128]⟩
abbrev S_ : Shape := ⟨0, ![]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S16384x256 : Shape := ⟨2, ![16384, 256]⟩
abbrev S8x2048x2x128 : Shape := ⟨4, ![8, 2048, 2, 128]⟩
abbrev S8x2048x2 : Shape := ⟨3, ![8, 2048, 2]⟩
abbrev S8x2048x2x1 : Shape := ⟨4, ![8, 2048, 2, 1]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S8x2048x8x64x2 : Shape := ⟨5, ![8, 2048, 8, 64, 2]⟩
abbrev S8x2048x8x64x1 : Shape := ⟨5, ![8, 2048, 8, 64, 1]⟩
abbrev S8x2048x8x64 : Shape := ⟨4, ![8, 2048, 8, 64]⟩
abbrev S1x2048x1x64 : Shape := ⟨4, ![1, 2048, 1, 64]⟩
abbrev S8x2048x2x64x2 : Shape := ⟨5, ![8, 2048, 2, 64, 2]⟩
abbrev S8x2048x2x64x1 : Shape := ⟨5, ![8, 2048, 2, 64, 1]⟩
abbrev S8x2048x2x64 : Shape := ⟨4, ![8, 2048, 2, 64]⟩
abbrev S16384x1280 : Shape := ⟨2, ![16384, 1280]⟩

abbrev nBuf : Space → Nat
  | .hbm => 112
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S128, .f32⟩
  | .hbm, ⟨2, _⟩ => ⟨S128, .f32⟩
  | .hbm, ⟨3, _⟩ => ⟨S16384x1024, .f32⟩
  | .hbm, ⟨4, _⟩ => ⟨S8x2048x8x128, .f32⟩
  | .hbm, ⟨5, _⟩ => ⟨S8x2048x8x128, .f32⟩
  | .hbm, ⟨6, _⟩ => ⟨S_, .f32⟩
  | .hbm, ⟨7, _⟩ => ⟨S8x2048x8, .f32⟩
  | .hbm, ⟨8, _⟩ => ⟨S8x2048x8x1, .f32⟩
  | .hbm, ⟨9, _⟩ => ⟨S_, .f32⟩
  | .hbm, ⟨10, _⟩ => ⟨S8x2048x8x1, .f32⟩
  | .hbm, ⟨11, _⟩ => ⟨S8x2048x8x1, .f32⟩
  | .hbm, ⟨12, _⟩ => ⟨S_, .f32⟩
  | .hbm, ⟨13, _⟩ => ⟨S8x2048x8x1, .f32⟩
  | .hbm, ⟨14, _⟩ => ⟨S8x2048x8x1, .f32⟩
  | .hbm, ⟨15, _⟩ => ⟨S8x2048x8x1, .f32⟩
  | .hbm, ⟨16, _⟩ => ⟨S8x2048x8x128, .f32⟩
  | .hbm, ⟨17, _⟩ => ⟨S8x2048x8x128, .f32⟩
  | .hbm, ⟨18, _⟩ => ⟨S1x1x1x128, .f32⟩
  | .hbm, ⟨19, _⟩ => ⟨S8x2048x8x128, .f32⟩
  | .hbm, ⟨20, _⟩ => ⟨S8x2048x8x128, .f32⟩
  | .hbm, ⟨21, _⟩ => ⟨S16384x256, .f32⟩
  | .hbm, ⟨22, _⟩ => ⟨S8x2048x2x128, .f32⟩
  | .hbm, ⟨23, _⟩ => ⟨S8x2048x2x128, .f32⟩
  | .hbm, ⟨24, _⟩ => ⟨S_, .f32⟩
  | .hbm, ⟨25, _⟩ => ⟨S8x2048x2, .f32⟩
  | .hbm, ⟨26, _⟩ => ⟨S8x2048x2x1, .f32⟩
  | .hbm, ⟨27, _⟩ => ⟨S_, .f32⟩
  | .hbm, ⟨28, _⟩ => ⟨S8x2048x2x1, .f32⟩
  | .hbm, ⟨29, _⟩ => ⟨S8x2048x2x1, .f32⟩
  | .hbm, ⟨30, _⟩ => ⟨S_, .f32⟩
  | .hbm, ⟨31, _⟩ => ⟨S8x2048x2x1, .f32⟩
  | .hbm, ⟨32, _⟩ => ⟨S8x2048x2x1, .f32⟩
  | .hbm, ⟨33, _⟩ => ⟨S8x2048x2x1, .f32⟩
  | .hbm, ⟨34, _⟩ => ⟨S8x2048x2x128, .f32⟩
  | .hbm, ⟨35, _⟩ => ⟨S8x2048x2x128, .f32⟩
  | .hbm, ⟨36, _⟩ => ⟨S1x1x1x128, .f32⟩
  | .hbm, ⟨37, _⟩ => ⟨S8x2048x2x128, .f32⟩
  | .hbm, ⟨38, _⟩ => ⟨S8x2048x2x128, .f32⟩
  | .hbm, ⟨39, _⟩ => ⟨S32, .f32⟩
  | .hbm, ⟨40, _⟩ => ⟨S32x64, .f32⟩
  | .hbm, ⟨41, _⟩ => ⟨S2048, .f32⟩
  | .hbm, ⟨42, _⟩ => ⟨S64, .f32⟩
  | .hbm, ⟨43, _⟩ => ⟨S1x64, .f32⟩
  | .hbm, ⟨44, _⟩ => ⟨S32x64, .f32⟩
  | .hbm, ⟨45, _⟩ => ⟨S2048, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S2048x1, .f32⟩
  | .hbm, ⟨55, _⟩ => ⟨S1x32, .f32⟩
  | .hbm, ⟨56, _⟩ => ⟨S2048x32, .f32⟩
  | .hbm, ⟨57, _⟩ => ⟨S2048x32, .f32⟩
  | .hbm, ⟨58, _⟩ => ⟨S2048x32, .f32⟩
  | .hbm, ⟨59, _⟩ => ⟨S2048x1, .f32⟩
  | .hbm, ⟨60, _⟩ => ⟨S1x32, .f32⟩
  | .hbm, ⟨61, _⟩ => ⟨S2048x32, .f32⟩
  | .hbm, ⟨62, _⟩ => ⟨S2048x32, .f32⟩
  | .hbm, ⟨63, _⟩ => ⟨S2048x32, .f32⟩
  | .hbm, ⟨64, _⟩ => ⟨S2048x64, .f32⟩
  | .hbm, ⟨65, _⟩ => ⟨S2048x64, .f32⟩
  | .hbm, ⟨66, _⟩ => ⟨S2048x64, .f32⟩
  | .hbm, ⟨67, _⟩ => ⟨S8x2048x8x64x2, .f32⟩
  | .hbm, ⟨68, _⟩ => ⟨S8x2048x8x64x1, .f32⟩
  | .hbm, ⟨69, _⟩ => ⟨S8x2048x8x64, .f32⟩
  | .hbm, ⟨70, _⟩ => ⟨S8x2048x8x64x1, .f32⟩
  | .hbm, ⟨71, _⟩ => ⟨S8x2048x8x64, .f32⟩
  | .hbm, ⟨72, _⟩ => ⟨S1x2048x1x64, .f32⟩
  | .hbm, ⟨73, _⟩ => ⟨S1x2048x1x64, .f32⟩
  | .hbm, ⟨74, _⟩ => ⟨S8x2048x8x64, .f32⟩
  | .hbm, ⟨75, _⟩ => ⟨S8x2048x8x64, .f32⟩
  | .hbm, ⟨76, _⟩ => ⟨S8x2048x8x64, .f32⟩
  | .hbm, ⟨77, _⟩ => ⟨S8x2048x8x64, .f32⟩
  | .hbm, ⟨78, _⟩ => ⟨S8x2048x8x64, .f32⟩
  | .hbm, ⟨79, _⟩ => ⟨S8x2048x8x64, .f32⟩
  | .hbm, ⟨80, _⟩ => ⟨S8x2048x8x64, .f32⟩
  | .hbm, ⟨81, _⟩ => ⟨S8x2048x8x64, .f32⟩
  | .hbm, ⟨82, _⟩ => ⟨S8x2048x8x64, .f32⟩
  | .hbm, ⟨83, _⟩ => ⟨S8x2048x8x64, .f32⟩
  | .hbm, ⟨84, _⟩ => ⟨S8x2048x8x64x1, .f32⟩
  | .hbm, ⟨85, _⟩ => ⟨S8x2048x8x64x1, .f32⟩
  | .hbm, ⟨86, _⟩ => ⟨S8x2048x8x64x2, .f32⟩
  | .hbm, ⟨87, _⟩ => ⟨S8x2048x8x128, .f32⟩
  | .hbm, ⟨88, _⟩ => ⟨S8x2048x2x64x2, .f32⟩
  | .hbm, ⟨89, _⟩ => ⟨S8x2048x2x64x1, .f32⟩
  | .hbm, ⟨90, _⟩ => ⟨S8x2048x2x64, .f32⟩
  | .hbm, ⟨91, _⟩ => ⟨S8x2048x2x64x1, .f32⟩
  | .hbm, ⟨92, _⟩ => ⟨S8x2048x2x64, .f32⟩
  | .hbm, ⟨93, _⟩ => ⟨S1x2048x1x64, .f32⟩
  | .hbm, ⟨94, _⟩ => ⟨S1x2048x1x64, .f32⟩
  | .hbm, ⟨95, _⟩ => ⟨S8x2048x2x64, .f32⟩
  | .hbm, ⟨96, _⟩ => ⟨S8x2048x2x64, .f32⟩
  | .hbm, ⟨97, _⟩ => ⟨S8x2048x2x64, .f32⟩
  | .hbm, ⟨98, _⟩ => ⟨S8x2048x2x64, .f32⟩
  | .hbm, ⟨99, _⟩ => ⟨S8x2048x2x64, .f32⟩
  | .hbm, ⟨100, _⟩ => ⟨S8x2048x2x64, .f32⟩
  | .hbm, ⟨101, _⟩ => ⟨S8x2048x2x64, .f32⟩
  | .hbm, ⟨102, _⟩ => ⟨S8x2048x2x64, .f32⟩
  | .hbm, ⟨103, _⟩ => ⟨S8x2048x2x64, .f32⟩
  | .hbm, ⟨104, _⟩ => ⟨S8x2048x2x64, .f32⟩
  | .hbm, ⟨105, _⟩ => ⟨S8x2048x2x64x1, .f32⟩
  | .hbm, ⟨106, _⟩ => ⟨S8x2048x2x64x1, .f32⟩
  | .hbm, ⟨107, _⟩ => ⟨S8x2048x2x64x2, .f32⟩
  | .hbm, ⟨108, _⟩ => ⟨S8x2048x2x128, .f32⟩
  | .hbm, ⟨109, _⟩ => ⟨S16384x1024, .f32⟩
  | .hbm, ⟨110, _⟩ => ⟨S16384x256, .f32⟩
  | .hbm, ⟨111, _⟩ => ⟨S16384x1280, .f32⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩

abbrev nD : Nat := 1
abbrev τ : Topo := Topo.v7x

variable {F : FTy → Type} [FloatOps F]
-- ==== MlaQk.lean ====
abbrev S16384x3072 : Shape := ⟨2, ![16384, 3072]⟩
abbrev S2 : Shape := ⟨1, ![2]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x32x2 : Shape := ⟨3, ![2048, 32, 2]⟩
abbrev S2048x64 : Shape := ⟨2, ![2048, 64]⟩
abbrev S1x2 : Shape := ⟨2, ![1, 2]⟩
abbrev S32x2 : Shape := ⟨2, ![32, 2]⟩
abbrev S2048x128 : Shape := ⟨2, ![2048, 128]⟩
abbrev S16384x1152 : Shape := ⟨2, ![16384, 1152]⟩
abbrev S256x1152 : Shape := ⟨2, ![256, 1152]⟩
abbrev S256x128 : Shape := ⟨2, ![256, 128]⟩

abbrev nBuf : Space → Nat
  | .hbm => 47
  | .vmem => 8
  | .smem => 0
  | _ => 0

abbrev bufTy : (tb : Table) → Fin (tcTables nBuf tb) → BufTy
  | .hbm, ⟨0, _⟩ => ⟨S16384x3072, .f32⟩
  | .hbm, ⟨1, _⟩ => ⟨S2, .f32⟩
  | .hbm, ⟨2, _⟩ => ⟨S32, .f32⟩
  | .hbm, ⟨3, _⟩ => ⟨S32x64, .f32⟩
  | .hbm, ⟨4, _⟩ => ⟨S2048, .f32⟩
  | .hbm, ⟨5, _⟩ => ⟨S64, .f32⟩
  | .hbm, ⟨6, _⟩ => ⟨S1x64, .f32⟩
  | .hbm, ⟨7, _⟩ => ⟨S32x64, .f32⟩
  | .hbm, ⟨8, _⟩ => ⟨S2048, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048x1, .f32⟩
  | .hbm, ⟨18, _⟩ => ⟨S1x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x32, .f32⟩
  | .hbm, ⟨28, _⟩ => ⟨S2048x32, .f32⟩
  | .hbm, ⟨29, _⟩ => ⟨S2048x32x2, .f32⟩
  | .hbm, ⟨30, _⟩ => ⟨S2048x64, .f32⟩
  | .hbm, ⟨31, _⟩ => ⟨S2048x32, .f32⟩
  | .hbm, ⟨32, _⟩ => ⟨S2048x32x2, .f32⟩
  | .hbm, ⟨33, _⟩ => ⟨S2048x64, .f32⟩
  | .hbm, ⟨34, _⟩ => ⟨S1x2, .f32⟩
  | .hbm, ⟨35, _⟩ => ⟨S32x2, .f32⟩
  | .hbm, ⟨36, _⟩ => ⟨S64, .f32⟩
  | .hbm, ⟨37, _⟩ => ⟨S1x64, .f32⟩
  | .hbm, ⟨38, _⟩ => ⟨S2048x64, .f32⟩
  | .hbm, ⟨39, _⟩ => ⟨S2048x64, .f32⟩
  | .hbm, ⟨40, _⟩ => ⟨S_, .f32⟩
  | .hbm, ⟨41, _⟩ => ⟨S2048x64, .f32⟩
  | .hbm, ⟨42, _⟩ => ⟨S2048x128, .f32⟩
  | .hbm, ⟨43, _⟩ => ⟨S_, .f32⟩
  | .hbm, ⟨44, _⟩ => ⟨S2048x64, .f32⟩
  | .hbm, ⟨45, _⟩ => ⟨S2048x128, .f32⟩
  | .hbm, ⟨46, _⟩ => ⟨S16384x1152, .f32⟩
  | .local _ .vmem, ⟨0, _⟩ => ⟨S256x1152, .f32⟩
  | .local _ .vmem, ⟨1, _⟩ => ⟨S256x1152, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x1152, .f32⟩
  | .local _ .vmem, ⟨7, _⟩ => ⟨S256x1152, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst_2 : Ref sig .tc := ⟨.hbm, 40, rfl⟩
abbrev main_v36 : Ref sig .tc := ⟨.hbm, 41, rfl⟩
abbrev main_v37 : Ref sig .tc := ⟨.hbm, 42, rfl⟩
abbrev main_cst_3 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MlaQkRefIdeal.lean ====
abbrev S16384x3072 : Shape := ⟨2, ![16384, 3072]⟩
abbrev S16384x1152 : Shape := ⟨2, ![16384, 1152]⟩
abbrev S8x2048x9x128 : Shape := ⟨4, ![8, 2048, 9, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S8x2048x9x64 : Shape := ⟨4, ![8, 2048, 9, 64]⟩
abbrev S8x2048x9x32x2 : Shape := ⟨5, ![8, 2048, 9, 32, 2]⟩
abbrev S8x2048x9x32x1 : Shape := ⟨5, ![8, 2048, 9, 32, 1]⟩
abbrev S8x2048x9x32 : Shape := ⟨4, ![8, 2048, 9, 32]⟩
abbrev S1x2048x1x32 : Shape := ⟨4, ![1, 2048, 1, 32]⟩

abbrev nBuf : Space → Nat
  | .hbm => 56
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1152, .f32⟩
  | .hbm, ⟨2, _⟩ => ⟨S8x2048x9x128, .f32⟩
  | .hbm, ⟨3, _⟩ => ⟨S32, .f32⟩
  | .hbm, ⟨4, _⟩ => ⟨S32x64, .f32⟩
  | .hbm, ⟨5, _⟩ => ⟨S2048, .f32⟩
  | .hbm, ⟨6, _⟩ => ⟨S64, .f32⟩
  | .hbm, ⟨7, _⟩ => ⟨S1x64, .f32⟩
  | .hbm, ⟨8, _⟩ => ⟨S32x64, .f32⟩
  | .hbm, ⟨9, _⟩ => ⟨S2048, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S2048x1, .f32⟩
  | .hbm, ⟨19, _⟩ => ⟨S1x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x1, .f32⟩
  | .hbm, ⟨24, _⟩ => ⟨S1x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S8x2048x9x64, .f32⟩
  | .hbm, ⟨32, _⟩ => ⟨S8x2048x9x32x2, .f32⟩
  | .hbm, ⟨33, _⟩ => ⟨S8x2048x9x32x1, .f32⟩
  | .hbm, ⟨34, _⟩ => ⟨S8x2048x9x32, .f32⟩
  | .hbm, ⟨35, _⟩ => ⟨S8x2048x9x32x1, .f32⟩
  | .hbm, ⟨36, _⟩ => ⟨S8x2048x9x32, .f32⟩
  | .hbm, ⟨37, _⟩ => ⟨S1x2048x1x32, .f32⟩
  | .hbm, ⟨38, _⟩ => ⟨S1x2048x1x32, .f32⟩
  | .hbm, ⟨39, _⟩ => ⟨S8x2048x9x32, .f32⟩
  | .hbm, ⟨40, _⟩ => ⟨S8x2048x9x32, .f32⟩
  | .hbm, ⟨41, _⟩ => ⟨S8x2048x9x32, .f32⟩
  | .hbm, ⟨42, _⟩ => ⟨S8x2048x9x32, .f32⟩
  | .hbm, ⟨43, _⟩ => ⟨S8x2048x9x32, .f32⟩
  | .hbm, ⟨44, _⟩ => ⟨S8x2048x9x32, .f32⟩
  | .hbm, ⟨45, _⟩ => ⟨S8x2048x9x32, .f32⟩
  | .hbm, ⟨46, _⟩ => ⟨S8x2048x9x32, .f32⟩
  | .hbm, ⟨47, _⟩ => ⟨S8x2048x9x32, .f32⟩
  | .hbm, ⟨48, _⟩ => ⟨S8x2048x9x32, .f32⟩
  | .hbm, ⟨49, _⟩ => ⟨S8x2048x9x32x1, .f32⟩
  | .hbm, ⟨50, _⟩ => ⟨S8x2048x9x32x1, .f32⟩
  | .hbm, ⟨51, _⟩ => ⟨S8x2048x9x32x2, .f32⟩
  | .hbm, ⟨52, _⟩ => ⟨S8x2048x9x64, .f32⟩
  | .hbm, ⟨53, _⟩ => ⟨S8x2048x9x64, .f32⟩
  | .hbm, ⟨54, _⟩ => ⟨S8x2048x9x128, .f32⟩
  | .hbm, ⟨55, _⟩ => ⟨S16384x1152, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩

abbrev nD : Nat := 1
abbrev τ : Topo := Topo.v7x

variable {F : FTy → Type} [FloatOps F]
-- ==== PeerQ.lean ====
abbrev S16384x2048 : Shape := ⟨2, ![16384, 2048]⟩
abbrev S2048 : Shape := ⟨1, ![2048]⟩
abbrev S8x12288 : Shape := ⟨2, ![8, 12288]⟩
abbrev S2048x1024 : Shape := ⟨2, ![2048, 1024]⟩
abbrev S8x6x2048 : Shape := ⟨3, ![8, 6, 2048]⟩
abbrev S1x2048 : Shape := ⟨2, ![1, 2048]⟩
abbrev S16384x1024 : Shape := ⟨2, ![16384, 1024]⟩
abbrev S512x2048 : Shape := ⟨2, ![512, 2048]⟩
abbrev S1x6x2048 : Shape := ⟨3, ![1, 6, 2048]⟩
abbrev S512x1024 : Shape := ⟨2, ![512, 1024]⟩
abbrev S512 : Shape := ⟨1, ![512]⟩
abbrev S512x1 : Shape := ⟨2, ![512, 1]⟩
abbrev S1x1x2048 : Shape := ⟨3, ![1, 1, 2048]⟩

abbrev nBuf : Space → Nat
  | .hbm => 12
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x12288, .f32⟩
  | .hbm, ⟨3, _⟩ => ⟨S2048x1024, .f32⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S8x6x2048, .f32⟩
  | .hbm, ⟨9, _⟩ => ⟨S1x2048, .f32⟩
  | .hbm, ⟨10, _⟩ => ⟨S16384x1024, .f32⟩
  | .hbm, ⟨11, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S2048x1024, .bf16⟩
  | .local _ .vmem, ⟨6, _⟩ => ⟨S2048x1024, .bf16⟩
  | .local _ .vmem, ⟨7, _⟩ => ⟨S512x1024, .f32⟩
  | .local _ .vmem, ⟨8, _⟩ => ⟨S512x1024, .f32⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PeerQRefIdeal.lean ====
abbrev S16384x2048 : Shape := ⟨2, ![16384, 2048]⟩
abbrev S2048 : Shape := ⟨1, ![2048]⟩
abbrev S8x12288 : Shape := ⟨2, ![8, 12288]⟩
abbrev S2048x1024 : Shape := ⟨2, ![2048, 1024]⟩
abbrev S8x1x12288 : Shape := ⟨3, ![8, 1, 12288]⟩
abbrev S8x1x2048 : Shape := ⟨3, ![8, 1, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x1024 : Shape := ⟨2, ![16384, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x12288, .f32⟩
  | .hbm, ⟨3, _⟩ => ⟨S2048x1024, .f32⟩
  | .hbm, ⟨4, _⟩ => ⟨S8x1x12288, .f32⟩
  | .hbm, ⟨5, _⟩ => ⟨S8x1x2048, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S1x1x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x1x2048, .f32⟩
  | .hbm, ⟨30, _⟩ => ⟨S8x1x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S16384x2048, .f32⟩
  | .hbm, ⟨36, _⟩ => ⟨S16384x1024, .f32⟩
  | .hbm, ⟨37, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Final.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S16384x2048 : Shape := ⟨2, ![16384, 2048]⟩
abbrev S2048 : Shape := ⟨1, ![2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x2048x2048, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S1x1x2048, .f32⟩
  | .hbm, ⟨17, _⟩ => ⟨S8x2048x2048, .f32⟩
  | .hbm, ⟨18, _⟩ => ⟨S8x2048x2048, .f32⟩
  | .hbm, ⟨19, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== FinalP.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalPRefIdeal.lean ====
abbrev S4096x2048 : Shape := ⟨2, ![4096, 2048]⟩
abbrev S2048 : Shape := ⟨1, ![2048]⟩
abbrev S16x256x2048 : Shape := ⟨3, ![16, 256, 2048]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S16x256x2048, .f32⟩
  | .hbm, ⟨3, _⟩ => ⟨S16x256x2048, .f32⟩
  | .hbm, ⟨4, _⟩ => ⟨S_, .f32⟩
  | .hbm, ⟨5, _⟩ => ⟨S16x256, .f32⟩
  | .hbm, ⟨6, _⟩ => ⟨S16x256x1, .f32⟩
  | .hbm, ⟨7, _⟩ => ⟨S_, .f32⟩
  | .hbm, ⟨8, _⟩ => ⟨S16x256x1, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1, .f32⟩
  | .hbm, ⟨14, _⟩ => ⟨S16x256x2048, .f32⟩
  | .hbm, ⟨15, _⟩ => ⟨S16x256x2048, .f32⟩
  | .hbm, ⟨16, _⟩ => ⟨S1x1x2048, .f32⟩
  | .hbm, ⟨17, _⟩ => ⟨S16x256x2048, .f32⟩
  | .hbm, ⟨18, _⟩ => ⟨S16x256x2048, .f32⟩
  | .hbm, ⟨19, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Qk.lean ====
abbrev S4096x1536 : Shape := ⟨2, ![4096, 1536]⟩
abbrev S128 : Shape := ⟨1, ![128]⟩
abbrev S1x128 : Shape := ⟨2, ![1, 128]⟩
abbrev S8x128 : Shape := ⟨2, ![8, 128]⟩
abbrev S1024 : Shape := ⟨1, ![1024]⟩
abbrev S2x128 : Shape := ⟨2, ![2, 128]⟩
abbrev S256 : Shape := ⟨1, ![256]⟩
abbrev S1280 : Shape := ⟨1, ![1280]⟩
abbrev S1x1280 : Shape := ⟨2, ![1, 1280]⟩
abbrev S4096x1280 : Shape := ⟨2, ![4096, 1280]⟩
abbrev S256x1280 : Shape := ⟨2, ![256, 1280]⟩
abbrev S256x128 : Shape := ⟨2, ![256, 128]⟩
abbrev S256x1 : Shape := ⟨2, ![256, 1]⟩

abbrev nBuf : Space → Nat
  | .hbm => 12
  | .vmem => 5
  | .smem => 0
  | _ => 0

abbrev bufTy : (tb : Table) → Fin (tcTables nBuf tb) → BufTy
  | .hbm, ⟨0, _⟩ => ⟨S4096x1536, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S8x128, .f32⟩
  | .hbm, ⟨5, _⟩ => ⟨S1024, .f32⟩
  | .hbm, ⟨6, _⟩ => ⟨S1x128, .f32⟩
  | .hbm, ⟨7, _⟩ => ⟨S2x128, .f32⟩
  | .hbm, ⟨8, _⟩ => ⟨S256, .f32⟩
  | .hbm, ⟨9, _⟩ => ⟨S1280, .f32⟩
  | .hbm, ⟨10, _⟩ => ⟨S1x1280, .f32⟩
  | .hbm, ⟨11, _⟩ => ⟨S4096x1280, .f32⟩
  | .local _ .vmem, ⟨0, _⟩ => ⟨S256x1280, .f32⟩
  | .local _ .vmem, ⟨1, _⟩ => ⟨S256x1280, .f32⟩
  | .local _ .vmem, ⟨2, _⟩ => ⟨S1x1280, .f32⟩
  | .local _ .vmem, ⟨3, _⟩ => ⟨S256x1280, .f32⟩
  | .local _ .vmem, ⟨4, _⟩ => ⟨S256x1280, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QkRefIdeal.lean ====
abbrev S4096x1536 : Shape := ⟨2, ![4096, 1536]⟩
abbrev S128 : Shape := ⟨1, ![128]⟩
abbrev S4096x1024 : Shape := ⟨2, ![4096, 1024]⟩
abbrev S16x256x8x128 : Shape := ⟨4, ![16, 256, 8, 128]⟩
abbrev S_ : Shape := ⟨0, ![]⟩
abbrev S16x256x8 : Shape := ⟨3, ![16, 256, 8]⟩
abbrev S16x256x8x1 : Shape := ⟨4, ![16, 256, 8, 1]⟩
abbrev S1x1x1x128 : Shape := ⟨4, ![1, 1, 1, 128]⟩
abbrev S4096x256 : Shape := ⟨2, ![4096, 256]⟩
abbrev S16x256x2x128 : Shape := ⟨4, ![16, 256, 2, 128]⟩
abbrev S16x256x2 : Shape := ⟨3, ![16, 256, 2]⟩
abbrev S16x256x2x1 : Shape := ⟨4, ![16, 256, 2, 1]⟩
abbrev S4096x1280 : Shape := ⟨2, ![4096, 1280]⟩

abbrev nBuf : Space → Nat
  | .hbm => 42
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S128, .f32⟩
  | .hbm, ⟨2, _⟩ => ⟨S128, .f32⟩
  | .hbm, ⟨3, _⟩ => ⟨S4096x1024, .f32⟩
  | .hbm, ⟨4, _⟩ => ⟨S16x256x8x128, .f32⟩
  | .hbm, ⟨5, _⟩ => ⟨S16x256x8x128, .f32⟩
  | .hbm, ⟨6, _⟩ => ⟨S_, .f32⟩
  | .hbm, ⟨7, _⟩ => ⟨S16x256x8, .f32⟩
  | .hbm, ⟨8, _⟩ => ⟨S16x256x8x1, .f32⟩
  | .hbm, ⟨9, _⟩ => ⟨S_, .f32⟩
  | .hbm, ⟨10, _⟩ => ⟨S16x256x8x1, .f32⟩
  | .hbm, ⟨11, _⟩ => ⟨S16x256x8x1, .f32⟩
  | .hbm, ⟨12, _⟩ => ⟨S_, .f32⟩
  | .hbm, ⟨13, _⟩ => ⟨S16x256x8x1, .f32⟩
  | .hbm, ⟨14, _⟩ => ⟨S16x256x8x1, .f32⟩
  | .hbm, ⟨15, _⟩ => ⟨S16x256x8x1, .f32⟩
  | .hbm, ⟨16, _⟩ => ⟨S16x256x8x128, .f32⟩
  | .hbm, ⟨17, _⟩ => ⟨S16x256x8x128, .f32⟩
  | .hbm, ⟨18, _⟩ => ⟨S1x1x1x128, .f32⟩
  | .hbm, ⟨19, _⟩ => ⟨S16x256x8x128, .f32⟩
  | .hbm, ⟨20, _⟩ => ⟨S16x256x8x128, .f32⟩
  | .hbm, ⟨21, _⟩ => ⟨S4096x256, .f32⟩
  | .hbm, ⟨22, _⟩ => ⟨S16x256x2x128, .f32⟩
  | .hbm, ⟨23, _⟩ => ⟨S16x256x2x128, .f32⟩
  | .hbm, ⟨24, _⟩ => ⟨S_, .f32⟩
  | .hbm, ⟨25, _⟩ => ⟨S16x256x2, .f32⟩
  | .hbm, ⟨26, _⟩ => ⟨S16x256x2x1, .f32⟩
  | .hbm, ⟨27, _⟩ => ⟨S_, .f32⟩
  | .hbm, ⟨28, _⟩ => ⟨S16x256x2x1, .f32⟩
  | .hbm, ⟨29, _⟩ => ⟨S16x256x2x1, .f32⟩
  | .hbm, ⟨30, _⟩ => ⟨S_, .f32⟩
  | .hbm, ⟨31, _⟩ => ⟨S16x256x2x1, .f32⟩
  | .hbm, ⟨32, _⟩ => ⟨S16x256x2x1, .f32⟩
  | .hbm, ⟨33, _⟩ => ⟨S16x256x2x1, .f32⟩
  | .hbm, ⟨34, _⟩ => ⟨S16x256x2x128, .f32⟩
  | .hbm, ⟨35, _⟩ => ⟨S16x256x2x128, .f32⟩
  | .hbm, ⟨36, _⟩ => ⟨S1x1x1x128, .f32⟩
  | .hbm, ⟨37, _⟩ => ⟨S16x256x2x128, .f32⟩
  | .hbm, ⟨38, _⟩ => ⟨S16x256x2x128, .f32⟩
  | .hbm, ⟨39, _⟩ => ⟨S4096x1024, .f32⟩
  | .hbm, ⟨40, _⟩ => ⟨S4096x256, .f32⟩
  | .hbm, ⟨41, _⟩ => ⟨S4096x1280, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Proof.Softmax.lean ====
/- The arithmetic of a softmax over finite scores on the extended reals: a weighted mean computed by dividing once at
   the end is the weighted mean computed by dividing every weight. -/
module

public import Idealize.ShloMosaic.Lib.Pointwise
public import Idealize.ShloMosaic.Lib.Pipeline.ValueKit

@[expose] public section

noncomputable section

namespace Cert.Softmax

open Idealize.ShloMosaic
open scoped BigOperators

/-- A finite extended real. -/
def IsReal (x : EReal) : Prop := ∃ r : ℝ, x = (r : EReal)

theorem fin_mul {x y : EReal} (hx : IsReal x) (hy : IsReal y) : IsReal (x * y) := by
  obtain ⟨a, rfl⟩ := hx; obtain ⟨b, rfl⟩ := hy
  exact ⟨a * b, (EReal.coe_mul a b).symm⟩

theorem fin_add {x y : EReal} (hx : IsReal x) (hy : IsReal y) : IsReal (x + y) := by
  obtain ⟨a, rfl⟩ := hx; obtain ⟨b, rfl⟩ := hy
  exact ⟨a + b, (EReal.coe_add a b).symm⟩

theorem fin_sub {x y : EReal} (hx : IsReal x) (hy : IsReal y) : IsReal (x - y) := by
  obtain ⟨a, rfl⟩ := hx; obtain ⟨b, rfl⟩ := hy
  exact ⟨a - b, (EReal.coe_sub a b).symm⟩

theorem fin_zero : IsReal 0 := ⟨0, rfl⟩

theorem fin_sum {ι : Type} (s : Finset ι) (f : ι → EReal) (h : ∀ i ∈ s, IsReal (f i)) : IsReal (∑ i ∈ s, f i) := by
  classical
  induction s using Finset.induction_on with
  | empty => simpa using fin_zero
  | insert a s ha ih =>
    rw [Finset.sum_insert ha]
    exact fin_add (h a (Finset.mem_insert_self _ _)) (ih fun i hi => h i (Finset.mem_insert_of_mem hi))

/-- A nonnegative finite factor moves out of a sum of any extended reals. -/
theorem sum_mul_fin {ι : Type} (s : Finset ι) (f : ι → EReal) (c : EReal) (h0 : 0 ≤ c) (ht : c ≠ ⊤) :
    ∑ i ∈ s, f i * c = (∑ i ∈ s, f i) * c := by
  classical
  induction s using Finset.induction_on with
  | empty => simp
  | insert a s ha ih => rw [Finset.sum_insert ha, Finset.sum_insert ha, ih, EReal.right_distrib_of_nonneg_of_ne_top h0 ht]

/-- The running maximum of finite values, from −∞: finite as soon as there is one. -/
theorem fold_max_fin {n : ℕ} (hn : 0 < n) (s : Fin n → EReal) (hs : ∀ k, IsReal (s k)) :
    IsReal (Finset.univ.fold max ⊥ s) := by
  classical
  have key : ∀ t : Finset (Fin n), t.Nonempty → IsReal (t.fold max ⊥ s) := by
    intro t
    induction t using Finset.induction_on with
    | empty => intro h; exact absurd h (by simp)
    | insert a t ha ih =>
      intro _
      rw [Finset.fold_insert ha]
      rcases t.eq_empty_or_nonempty with rfl | ht
      · simpa using hs a
      · rcases max_choice (s a) (t.fold max ⊥ s) with h | h <;> rw [h]
        · exact hs a
        · exact ih ht
  exact key _ ⟨⟨0, hn⟩, Finset.mem_univ _⟩

/-- THE MEAN: with finite scores, dividing the weighted sum by the sum of the weights is weighting by the quotients. The
    values `v` are any extended reals. -/
theorem mean_eq {n : ℕ} (hn : 0 < n) (s v : Fin n → EReal) (M : EReal) (hs : ∀ k, IsReal (s k)) (hM : IsReal M) :
    Ideal.div (∑ k, Ideal.exp (s k - M) * v k) (∑ k, Ideal.exp (s k - M))
      = ∑ k, v k * Ideal.div (Ideal.exp (s k - M)) (∑ k, Ideal.exp (s k - M)) := by
  have hp : ∀ k, ∃ r : ℝ, 0 < r ∧ Ideal.exp (s k - M) = (r : EReal) := fun k => by
    obtain ⟨a, ha⟩ := fin_sub (hs k) hM
    exact ⟨Real.exp a, Real.exp_pos a, by rw [ha]; rfl⟩
  choose r hr0 hr using hp
  have hl : ∑ k, Ideal.exp (s k - M) = ((∑ k, r k : ℝ) : EReal) := by
    rw [Finset.sum_congr rfl fun k _ => hr k]
    exact (map_sum (⟨⟨Real.toEReal, EReal.coe_zero⟩, EReal.coe_add⟩ : ℝ →+ EReal) r Finset.univ).symm
  have hpos : 0 < ∑ k, r k := Finset.sum_pos (fun k _ => hr0 k) ⟨⟨0, hn⟩, Finset.mem_univ _⟩
  have hne : ((∑ k, r k : ℝ) : EReal) ≠ 0 := by
    intro h; exact hpos.ne' (EReal.coe_eq_zero.mp h)
  have hdiv : ∀ x : EReal, Ideal.div x ((∑ k, r k : ℝ) : EReal) = x * (((∑ k, r k)⁻¹ : ℝ) : EReal) := fun x => by
    rw [Ideal.div, if_neg hne, EReal.coe_inv]
  rw [hl, hdiv]
  simp only [hdiv]
  rw [← sum_mul_fin _ _ _ (by exact_mod_cast (inv_pos.mpr hpos).le) (EReal.coe_ne_top _)]
  exact Finset.sum_congr rfl fun k _ => by rw [mul_comm (Ideal.exp _), mul_assoc]

/-- A positive finite factor on one side of each product is a factor of the sum of products. -/
theorem score_eq {n : ℕ} (q k : Fin n → EReal) (c : ℝ) (hc : 0 ≤ c) :
    ∑ d, q d * (c : EReal) * k d = (∑ d, k d * q d) * (c : EReal) := by
  rw [← sum_mul_fin _ _ _ (by exact_mod_cast hc) (EReal.coe_ne_top _)]
  exact Finset.sum_congr rfl fun d _ => by rw [mul_right_comm, mul_comm (q d)]

/-- One attention value as the kernels compute it: the query scaled by `c` before the scores, one division at the end. -/
def attK {n e : ℕ} (c : EReal) (q : Fin e → EReal) (k : Fin n → Fin e → EReal) (v : Fin n → EReal) : EReal :=
  Ideal.div
    (∑ s, Ideal.exp ((∑ d, q d * c * k s d) - Finset.univ.fold max ⊥ fun s => ∑ d, q d * c * k s d) * v s)
    (∑ s, Ideal.exp ((∑ d, q d * c * k s d) - Finset.univ.fold max ⊥ fun s => ∑ d, q d * c * k s d))

/-- One attention value as the softmax defines it: the scores scaled by `c`, every weight divided by the weights' sum. -/
def attR {n e : ℕ} (c : EReal) (q : Fin e → EReal) (k : Fin n → Fin e → EReal) (v : Fin n → EReal) : EReal :=
  ∑ s, v s * Ideal.div
    (Ideal.exp ((∑ d, k s d * q d) * c - max ⊥ (Finset.univ.fold max ⊥ fun s => (∑ d, k s d * q d) * c)))
    (∑ s, Ideal.exp ((∑ d, k s d * q d) * c - max ⊥ (Finset.univ.fold max ⊥ fun s => (∑ d, k s d * q d) * c)))

/-- ATTENTION at one query and one column of the values: the two forms agree on finite queries and keys, for any values. -/
theorem attention_eq {n e : ℕ} (hn : 0 < n) (q : Fin e → EReal) (k : Fin n → Fin e → EReal) (v : Fin n → EReal)
    (c : ℝ) (hc : 0 ≤ c) (hq : ∀ d, IsReal (q d)) (hk : ∀ s d, IsReal (k s d)) :
    attK (c : EReal) q k v = attR (c : EReal) q k v := by
  have hs : ∀ s, ∑ d, q d * (c : EReal) * k s d = (∑ d, k s d * q d) * (c : EReal) := fun s => score_eq q (k s) c hc
  unfold attK attR
  simp only [hs, bot_le, sup_of_le_right]
  have hf : ∀ s, IsReal ((∑ d, k s d * q d) * (c : EReal)) := fun s =>
    fin_mul (fin_sum _ _ fun d _ => fin_mul (hk s d) (hq d)) ⟨c, rfl⟩
  exact mean_eq hn _ v _ hf (fold_max_fin hn _ hf)

end Cert.Softmax

end
-- ==== Proof.GqaPay.lean ====
/- What the grouped-query attention's body stores for each head of a group, read at an index. -/
module

public import proofs.«01_k».proof.Proof.Softmax
public import proofs.«01_k».proof.Proof.Gen.GqaIdeal.Skeleton

@[expose] public section

set_option maxRecDepth 16384

noncomputable section

namespace Cert.GqaIdeal.Pay

open Cert.GqaIdeal Cert.GqaIdeal.Gen Idealize.ShloMosaic Cert.Softmax

/-- The word the running maximum starts from is −∞. -/
theorem ninf : Ideal.ofBits .f32 0xFF800000#32 = ⊥ := by simp [Ideal.ofBits, Ideal.ieee]

/-- The scale of the scores, the float32 nearest to `128 ^ (-1/2)`. -/
abbrev sc : EReal := Ideal.ofBits .f32 0x3DB504F3#32

theorem sc_real : ∃ c : ℝ, 0 ≤ c ∧ sc = (c : EReal) := by
  refine ⟨_, ?_, by simp [sc, Ideal.ofBits, Ideal.ieee]; rfl⟩
  positivity

/-- The first head of the group: one attention value. -/
theorem pay7_at (q : Vec Ideal S512x128 .f32) (k v : Vec Ideal S2304x128 .bf16) (r : Fin 512) (d : Fin 128) :
    k0_pay7 (F := Ideal) (k0_pay2 v) (k0_pay5 q k) (ix2 r d)
      = attK sc (fun e : Fin 128 => q (ix2 r e)) (fun (s : Fin 2304) e => k (ix2 s e)) (fun s => v (ix2 s d)) := by
  pointwise [k0_pay7, k0_pay5, k0_pay1, k0_pay2]
  rw [ninf]; rfl

/-- The second head of the group: one attention value. -/
theorem pay8_at (q : Vec Ideal S512x128 .f32) (k v : Vec Ideal S2304x128 .bf16) (r : Fin 512) (d : Fin 128) :
    k0_pay8 (F := Ideal) (k0_pay2 v) (k0_pay6 q k) (ix2 r d)
      = attK sc (fun e : Fin 128 => q (ix2 r e)) (fun (s : Fin 2304) e => k (ix2 s e)) (fun s => v (ix2 s d)) := by
  pointwise [k0_pay8, k0_pay6, k0_pay1, k0_pay2]
  rw [ninf]; rfl

/-- The third head of the group: one attention value. -/
theorem pay9_at (q : Vec Ideal S512x128 .f32) (k v : Vec Ideal S2304x128 .bf16) (r : Fin 512) (d : Fin 128) :
    k0_pay9 (F := Ideal) (k0_pay2 v) (k0_pay3 q k) (ix2 r d)
      = attK sc (fun e : Fin 128 => q (ix2 r e)) (fun (s : Fin 2304) e => k (ix2 s e)) (fun s => v (ix2 s d)) := by
  pointwise [k0_pay9, k0_pay3, k0_pay1, k0_pay2]
  rw [ninf]; rfl

/-- The fourth head of the group: one attention value. -/
theorem pay10_at (q : Vec Ideal S512x128 .f32) (k v : Vec Ideal S2304x128 .bf16) (r : Fin 512) (d : Fin 128) :
    k0_pay10 (F := Ideal) (k0_pay2 v) (k0_pay4 q k) (ix2 r d)
      = attK sc (fun e : Fin 128 => q (ix2 r e)) (fun (s : Fin 2304) e => k (ix2 s e)) (fun s => v (ix2 s d)) := by
  pointwise [k0_pay10, k0_pay4, k0_pay1, k0_pay2]
  rw [ninf]; rfl

end Cert.GqaIdeal.Pay

end
-- ==== Proof.Real.lean ====
/- Extended reals below infinity in absolute value are real numbers. -/
module

public import proofs.«01_k».proof.Proof.Softmax

@[expose] public section

noncomputable section

namespace Cert.Softmax

open Idealize.ShloMosaic

/-- The word of plus infinity. -/
theorem pinf : Ideal.ofBits .f32 0x7F800000#32 = ⊤ := by simp [Ideal.ofBits, Ideal.ieee]

/-- A number whose absolute value a comparison finds below plus infinity is real. -/
theorem real_of_abs {x : EReal}
    (h : BitVec.ofBool (decide ((FloatOps.absf (F := Ideal) (φ := .f32) x : EReal) < Ideal.ofBits .f32 0x7F800000#32)) = 1#1) : IsReal x := by
  rw [pinf] at h
  have h' : (FloatOps.absf (F := Ideal) (φ := .f32) x : EReal) < ⊤ := by
    by_contra hn
    simp [hn] at h
  change max x (-x) < ⊤ at h'
  rcases max_lt_iff.mp h' with ⟨h1, h2⟩
  induction x with
  | bot => simp at h2
  | top => simp at h1
  | coe r => exact ⟨r, rfl⟩

/-- Equal functions at equal arguments. -/
theorem congrArg₃ {α β γ δ : Sort*} (f : α → β → γ → δ) {a a' : α} {b b' : β} {c c' : γ} (ha : a = a') (hb : b = b')
    (hc : c = c') : f a b c = f a' b' c' := by subst ha hb hc; rfl

end Cert.Softmax

end
-- ==== Proof.GqaRef.lean ====
/- The reference's grouped-query attention, stage by stage, and read at an index. -/
module

public import proofs.«01_k».proof.Proof.GqaPay
public import proofs.«01_k».proof.Proof.Gen.GqaRefIdeal.Run

@[expose] public section

set_option maxRecDepth 16384

noncomputable section

namespace Cert.GqaRefIdeal.At

open Cert.GqaRefIdeal Cert.GqaRefIdeal.Gen Idealize.ShloMosaic Idealize.ShloMosaic.TcCoe Cert.Softmax

/-- The keys (from columns 1024… of the normed activations) or values (from columns 1280… of the projections) of the
    latents, then those of the cached context. -/
def kAll (a0 : FVec Ideal S16384x1280 .f32) (a2 : FVec Ideal S8x256x2x128 .f32) : FVec Ideal S8x2304x2x128 .f32 :=
  concatenate S8x2304x2x128 1 [⟨S8x2048x2x128, (shapeCast _ (extractStridedSlice S16384x256 ![0, 1024] a0 slices_S16384x1280_S16384x256_0_1024) shapeCasts_S16384x256_S8x2048x2x128)⟩, ⟨S8x256x2x128, a2⟩] concatenates_S8x2048x2x128_S8x256x2x128_S8x2304x2x128_d1

@[inherit_doc kAll]
def vAll (a1 : FVec Ideal S16384x1536 .f32) (a3 : FVec Ideal S8x256x2x128 .f32) : FVec Ideal S8x2304x2x128 .f32 :=
  concatenate S8x2304x2x128 1 [⟨S8x2048x2x128, (shapeCast _ (extractStridedSlice S16384x256 ![0, 1280] a1 slices_S16384x1536_S16384x256_0_1280) shapeCasts_S16384x256_S8x2048x2x128)⟩, ⟨S8x256x2x128, a3⟩] concatenates_S8x2048x2x128_S8x256x2x128_S8x2304x2x128_d1

/-- The queries, four heads to a group. -/
def qs (a0 : FVec Ideal S16384x1280 .f32) : FVec Ideal S8x2048x2x4x128 .f32 :=
  shapeCast _ (shapeCast _ (extractStridedSlice S16384x1024 ![0, 0] a0 slices_S16384x1280_S16384x1024_0_0) shapeCasts_S16384x1024_S8x2048x8x128) shapeCasts_S8x2048x8x128_S8x2048x2x4x128

/-- The scaled scores. -/
def scores (K : FVec Ideal S8x2304x2x128 .f32) (Q : FVec Ideal S8x2048x2x4x128 .f32) : FVec Ideal S8x2x4x2048x2304 .f32 :=
  mulf (transpose S8x2x4x2048x2304 [0, 1, 4, 3, 2] (Host.dotGeneral dot_S8x2304x2x128_S8x2048x2x4x128_S8x2x2304x2048x4_3_4_1_13_02_02 none K Q) transposes_S8x2x2304x2048x4_S8x2x4x2048x2304_0_1_4_3_2) (broadcastInDim S8x2x4x2048x2304 ![] bcast_S_S8x2x4x2048x2304 (constant S_ .f32 0x3DB504F3#32))

/-- Each row's maximum. -/
def rmax (S : FVec Ideal S8x2x4x2048x2304 .f32) : FVec Ideal S8x2x4x2048 .f32 :=
  Host.reduce FloatOps.maximumf S (constant S_ .f32 0xFF800000#32) reducesTo_S8x2x4x2048x2304_S8x2x4x2048_d4 h_S_

/-- The larger of `-∞` and a row's maximum. -/
def top (M : FVec Ideal S8x2x4x2048 .f32) : FVec Ideal S8x2x4x2048 .f32 :=
  maximumf (broadcastInDim S8x2x4x2048 ![] bcast_S_S8x2x4x2048 (constant S_ .f32 0xFF800000#32)) M

/-- The exponentials of the scores less their row's maximum. -/
def expo (S : FVec Ideal S8x2x4x2048x2304 .f32) (M : FVec Ideal S8x2x4x2048 .f32) : FVec Ideal S8x2x4x2048x2304 .f32 :=
  Host.exp (subf S (broadcastInDim S8x2x4x2048x2304 ![0, 1, 2, 3, 4] bcast_S8x2x4x2048x1_S8x2x4x2048x2304_0_1_2_3_4 (broadcastInDim S8x2x4x2048x1 ![0, 1, 2, 3] bcast_S8x2x4x2048_S8x2x4x2048x1_0_1_2_3 M)))

/-- The weights: each exponential over its row's sum. -/
def soft (E : FVec Ideal S8x2x4x2048x2304 .f32) : FVec Ideal S8x2x4x2048x2304 .f32 :=
  Host.divf E (broadcastInDim S8x2x4x2048x2304 ![0, 1, 2, 3, 4] bcast_S8x2x4x2048x1_S8x2x4x2048x2304_0_1_2_3_4 (broadcastInDim S8x2x4x2048x1 ![0, 1, 2, 3] bcast_S8x2x4x2048_S8x2x4x2048x1_0_1_2_3 (Host.reduceAdd E (constant S_ .f32 0x00000000#32) reducesTo_S8x2x4x2048x2304_S8x2x4x2048_d4 h_S_)))

/-- The weighted means, heads side by side. -/
def mean (V : FVec Ideal S8x2304x2x128 .f32) (P : FVec Ideal S8x2x4x2048x2304 .f32) : FVec Ideal S16384x1024 .bf16 :=
  truncf .bf16 (shapeCast _ (shapeCast _ (transpose S8x2048x2x4x128 [0, 4, 1, 3, 2] (Host.dotGeneral dot_S8x2304x2x128_S8x2x4x2048x2304_S8x2x128x4x2048_1_4_3_23_02_01 none V P) transposes_S8x2x128x4x2048_S8x2048x2x4x128_0_4_1_3_2) shapeCasts_S8x2048x2x4x128_S8x2048x8x128) shapeCasts_S8x2048x8x128_S16384x1024) bitsLt_bf16_f32

/-- The whole reference. -/
def REF (a0 : FVec Ideal S16384x1280 .f32) (a1 : FVec Ideal S16384x1536 .f32) (a2 a3 : FVec Ideal S8x256x2x128 .f32) :
    FVec Ideal S16384x1024 .bf16 :=
  mean (vAll a1 a3) (soft (expo (scores (kAll a0 a2) (qs a0)) (top (rmax (scores (kAll a0 a2) (qs a0))))))

theorem scores_at (K : FVec Ideal S8x2304x2x128 .f32) (Q : FVec Ideal S8x2048x2x4x128 .f32) (b : Fin 8) (h : Fin 2)
    (g : Fin 4) (q : Fin 2048) (s : Fin 2304) :
    scores K Q (ix5 b h g q s) = (∑ e : Fin 128, K (ix4 b s h e) * Q (ix5 b q h g e)) * Ideal.ofBits .f32 0x3DB504F3#32 := by
  pointwise [scores]

theorem rmax_at (S : FVec Ideal S8x2x4x2048x2304 .f32) (b : Fin 8) (h : Fin 2) (g : Fin 4) (q : Fin 2048) :
    rmax S (ix4 b h g q)
      = Finset.univ.fold max (Ideal.ofBits .f32 0xFF800000#32) fun s : Fin 2304 => S (ix5 b h g q s) := by
  pointwise [rmax]

theorem top_at (M : FVec Ideal S8x2x4x2048 .f32) (b : Fin 8) (h : Fin 2) (g : Fin 4) (q : Fin 2048) :
    top M (ix4 b h g q) = max (Ideal.ofBits .f32 0xFF800000#32) (M (ix4 b h g q)) := by
  pointwise [top]

theorem expo_at (S : FVec Ideal S8x2x4x2048x2304 .f32) (M : FVec Ideal S8x2x4x2048 .f32) (b : Fin 8) (h : Fin 2) (g : Fin 4)
    (q : Fin 2048) (s : Fin 2304) : expo S M (ix5 b h g q s) = Ideal.exp (S (ix5 b h g q s) - M (ix4 b h g q)) := by
  pointwise [expo]

theorem soft_at (E : FVec Ideal S8x2x4x2048x2304 .f32) (b : Fin 8) (h : Fin 2) (g : Fin 4) (q : Fin 2048) (s : Fin 2304) :
    soft E (ix5 b h g q s) = Ideal.div (E (ix5 b h g q s)) (∑ s : Fin 2304, E (ix5 b h g q s)) := by
  pointwise [soft]

theorem mean_at (V : FVec Ideal S8x2304x2x128 .f32) (P : FVec Ideal S8x2x4x2048x2304 .f32) (i : Fin 16384) (j : Fin 1024) :
    mean V P (ix2 i j) = ∑ s : Fin 2304, V (ix4 ⟨i.val / 2048, by omega⟩ s ⟨j.val / 512, by omega⟩ ⟨j.val % 128, by omega⟩)
      * P (ix5 ⟨i.val / 2048, by omega⟩ ⟨j.val / 512, by omega⟩ ⟨j.val / 128 % 4, by omega⟩ ⟨i.val % 2048, by omega⟩ s) := by
  pointwise [mean]

theorem qs_at (a0 : FVec Ideal S16384x1280 .f32) (b : Fin 8) (q : Fin 2048) (h : Fin 2) (g : Fin 4) (e : Fin 128) :
    qs a0 (ix5 b q h g e) = a0 (ix2 ⟨b.val * 2048 + q.val, by omega⟩ ⟨h.val * 512 + g.val * 128 + e.val, by omega⟩) := by
  pointwise [qs]
  blk_ext []

theorem kAll_at (a0 : FVec Ideal S16384x1280 .f32) (a2 : FVec Ideal S8x256x2x128 .f32) (b : Fin 8) (s : Fin 2304) (h : Fin 2)
    (e : Fin 128) :
    kAll a0 a2 (ix4 b s h e) = if hs : s.val < 2048 then a0 (ix2 ⟨b.val * 2048 + s.val, by omega⟩ ⟨1024 + h.val * 128 + e.val, by omega⟩)
      else a2 (ix4 b ⟨s.val - 2048, by omega⟩ h e) := by
  pointwise [kAll]
  blk_point []

theorem vAll_at (a1 : FVec Ideal S16384x1536 .f32) (a3 : FVec Ideal S8x256x2x128 .f32) (b : Fin 8) (s : Fin 2304) (h : Fin 2)
    (e : Fin 128) :
    vAll a1 a3 (ix4 b s h e) = if hs : s.val < 2048 then a1 (ix2 ⟨b.val * 2048 + s.val, by omega⟩ ⟨1280 + h.val * 128 + e.val, by omega⟩)
      else a3 (ix4 b ⟨s.val - 2048, by omega⟩ h e) := by
  pointwise [vAll]
  blk_point []

/-- THE REFERENCE AT AN INDEX: one attention value, of the batch, the head and the query the index names. -/
theorem ref_at (a0 : FVec Ideal S16384x1280 .f32) (a1 : FVec Ideal S16384x1536 .f32) (a2 a3 : FVec Ideal S8x256x2x128 .f32)
    (i : Fin 16384) (j : Fin 1024) :
    REF a0 a1 a2 a3 (ix2 i j) = attR Cert.GqaIdeal.Pay.sc (fun e : Fin 128 => a0 (ix2 i ⟨j.val / 128 * 128 + e.val, by omega⟩))
      (fun (s : Fin 2304) e => kAll a0 a2 (ix4 ⟨i.val / 2048, by omega⟩ s ⟨j.val / 512, by omega⟩ e))
      (fun s : Fin 2304 => vAll a1 a3 (ix4 ⟨i.val / 2048, by omega⟩ s ⟨j.val / 512, by omega⟩ ⟨j.val % 128, by omega⟩)) := by
  have hq : ∀ e : Fin 128, qs a0 (ix5 (⟨i.val / 2048, by omega⟩ : Fin 8) (⟨i.val % 2048, by omega⟩ : Fin 2048)
      (⟨j.val / 512, by omega⟩ : Fin 2) (⟨j.val / 128 % 4, by omega⟩ : Fin 4) e)
        = a0 (ix2 i ⟨j.val / 128 * 128 + e.val, by omega⟩) := fun e => by
    rw [qs_at]; blk_ext []
  unfold REF attR
  rw [mean_at]
  simp only [soft_at, expo_at, top_at, rmax_at, scores_at, hq, Cert.GqaIdeal.Pay.ninf]

end Cert.GqaRefIdeal.At

end
-- ==== Proof.GqaFin.lean ====
/- The kernel's grouped-query attention: what its output array holds, index by index. -/
module

public import proofs.«01_k».proof.Proof.GqaPay
public import proofs.«01_k».proof.Proof.Real
public import proofs.«01_k».proof.Proof.GqaRef
public import proofs.«01_k».proof.Proof.Gen.GqaIdeal.Value

@[expose] public section

set_option maxRecDepth 16384

noncomputable section

namespace Cert.GqaIdeal.Fin

open Cert.GqaIdeal Cert.GqaIdeal.Gen Cert.GqaIdeal.Pay Idealize.ShloMosaic Idealize.ShloMosaic.TcCoe Cert.Softmax

variable (m : (ℓ : Loc nD τ sig) → Buf (Elt Ideal) ℓ)

/-- The windows' block indices at a grid point: batch, key-value head, block of queries. -/
theorem idx : ∀ t : Fin cfg0.N, win0_0.index t = ![(t.val / 8) * 4 + (t.val % 4), t.val / 4 % 2]
    ∧ win0_1.index t = ![t.val / 8, t.val / 4 % 2]
    ∧ win0_2.index t = ![t.val / 8, t.val / 4 % 2]
    ∧ win0_3.index t = ![(t.val / 8) * 4 + (t.val % 4), t.val / 4 % 2] :=
  (by decide +kernel : ∀ t : Fin grid0.N, _)

theorem t_lt (t : Fin cfg0.N) : t.val < 64 := lt_of_lt_of_eq t.isLt N_0

/-- The block of queries a grid point reads. -/
theorem x0_at (c : Dev nD) (t : Fin cfg0.N) (r : Fin 512) (d : Fin 512) :
    X0_0 m c t (ix2 r d) = m ((c.tc : Thread nD τ).loc main_arg0)
      (ix2 (⟨(t.val / 8 * 4 + t.val % 4) * 512 + r.val, by have := t_lt t; omega⟩ : Fin 16384)
        (⟨t.val / 4 % 2 * 512 + d.val, by omega⟩ : Fin 1280)) := by
  have := t_lt t
  obtain ⟨e0, e1, e2, e3⟩ := idx t
  unfold X0_0 Pipeline.Window.fill
  rw [dif_pos (moved0_0 t _)]
  blk_ext [iblk, V, e0]

/-- The array of all keys, made on the host: batches one after the other, heads side by side. -/
theorem v9_at (c : Dev nD) (i : Fin 18432) (j : Fin 256) :
    V m c main_v9 (ix2 i j) = Cert.GqaRefIdeal.At.kAll (m ((c.tc : Thread nD τ).loc main_arg0)) (m ((c.tc : Thread nD τ).loc main_arg2))
      (ix4 (⟨i.val / 2304, by omega⟩ : Fin 8) (⟨i.val % 2304, by omega⟩ : Fin 2304) (⟨j.val / 128, by omega⟩ : Fin 2)
        (⟨j.val % 128, by omega⟩ : Fin 128)) := by
  rw [Cert.GqaRefIdeal.At.kAll_at]
  entry_read
  pointwise
  blk_point []

/-- The array of all values, made on the host: batches one after the other, heads side by side. -/
theorem v11_at (c : Dev nD) (i : Fin 18432) (j : Fin 256) :
    V m c main_v11 (ix2 i j) = Cert.GqaRefIdeal.At.vAll (m ((c.tc : Thread nD τ).loc main_arg1)) (m ((c.tc : Thread nD τ).loc main_arg3))
      (ix4 (⟨i.val / 2304, by omega⟩ : Fin 8) (⟨i.val % 2304, by omega⟩ : Fin 2304) (⟨j.val / 128, by omega⟩ : Fin 2)
        (⟨j.val % 128, by omega⟩ : Fin 128)) := by
  rw [Cert.GqaRefIdeal.At.vAll_at]
  entry_read
  pointwise
  blk_point []

/-- The block of keys a grid point reads. -/
theorem k_at (c : Dev nD) (t : Fin cfg0.N) (s : Fin 2304) (e : Fin 128) :
    iblk m c 1 t (ix2 s e) = Cert.GqaRefIdeal.At.kAll (m ((c.tc : Thread nD τ).loc main_arg0)) (m ((c.tc : Thread nD τ).loc main_arg2))
      (ix4 (⟨t.val / 8, by have := t_lt t; omega⟩ : Fin 8) s (⟨t.val / 4 % 2, by omega⟩ : Fin 2) e) := by
  have := t_lt t
  obtain ⟨e0, e1, e2, e3⟩ := idx t
  have h : iblk m c 1 t (ix2 s e) = V m c main_v9 (ix2 (⟨t.val / 8 * 2304 + s.val, by omega⟩ : Fin 18432)
      (⟨t.val / 4 % 2 * 128 + e.val, by omega⟩ : Fin 256)) := by
    blk_ext [iblk, e1]
  rw [h, v9_at]
  blk_ext []

/-- The block of values a grid point reads. -/
theorem v_at (c : Dev nD) (t : Fin cfg0.N) (s : Fin 2304) (e : Fin 128) :
    iblk m c 2 t (ix2 s e) = Cert.GqaRefIdeal.At.vAll (m ((c.tc : Thread nD τ).loc main_arg1)) (m ((c.tc : Thread nD τ).loc main_arg3))
      (ix4 (⟨t.val / 8, by have := t_lt t; omega⟩ : Fin 8) s (⟨t.val / 4 % 2, by omega⟩ : Fin 2) e) := by
  have := t_lt t
  obtain ⟨e0, e1, e2, e3⟩ := idx t
  have h : iblk m c 2 t (ix2 s e) = V m c main_v11 (ix2 (⟨t.val / 8 * 2304 + s.val, by omega⟩ : Fin 18432)
      (⟨t.val / 4 % 2 * 128 + e.val, by omega⟩ : Fin 256)) := by
    blk_ext [iblk, e2]
  rw [h, v11_at]
  blk_ext []

/-- What a grid point leaves at an index of its output block. -/
theorem out_at (c : Dev nD) (t : Fin cfg0.N) (y : S512x512.Idx) (y0 y1 : Fin 512) (hy0 : y0.val = (y 0).val) (hy1 : y1.val = (y 1).val) :
    outsAt0 m c t y = attK sc (fun e : Fin 128 => X0_0 m c t (ix2 y0 (⟨y1.val / 128 * 128 + e.val, by omega⟩ : Fin 512)))
      (fun (s : Fin 2304) e => iblk m c 1 t (ix2 s e))
      (fun s => iblk m c 2 t (ix2 s (⟨y1.val % 128, by omega⟩ : Fin 128))) := by
  unfold outsAt0; frame_out
  canon_tiles x h
  case piece0 =>
    obtain ⟨a, b, rfl⟩ : ∃ (a : Fin 512) (b : Fin 128), x = ix2 a b := ⟨x 0, x 1, by blk_ext []⟩
    have h0 : (y 0).val = a.val := h0
    have h1 : (y 1).val = 384 + b.val := h1
    rw [pay10_at]
    refine congrArg₂ (fun q v => attK sc q (fun (s : Fin 2304) e => iblk m c 1 t (ix2 s e)) v) ?_ ?_
    · funext e; pointwise; blk_ext []
    · funext s; blk_ext []
  case piece1 =>
    obtain ⟨a, b, rfl⟩ : ∃ (a : Fin 512) (b : Fin 128), x = ix2 a b := ⟨x 0, x 1, by blk_ext []⟩
    have h0 : (y 0).val = a.val := h0
    have h1 : (y 1).val = 256 + b.val := h1
    rw [pay9_at]
    refine congrArg₂ (fun q v => attK sc q (fun (s : Fin 2304) e => iblk m c 1 t (ix2 s e)) v) ?_ ?_
    · funext e; pointwise; blk_ext []
    · funext s; blk_ext []
  case piece2 =>
    obtain ⟨a, b, rfl⟩ : ∃ (a : Fin 512) (b : Fin 128), x = ix2 a b := ⟨x 0, x 1, by blk_ext []⟩
    have h0 : (y 0).val = a.val := h0
    have h1 : (y 1).val = 128 + b.val := h1
    rw [pay8_at]
    refine congrArg₂ (fun q v => attK sc q (fun (s : Fin 2304) e => iblk m c 1 t (ix2 s e)) v) ?_ ?_
    · funext e; pointwise; blk_ext []
    · funext s; blk_ext []
  case piece3 =>
    obtain ⟨a, b, rfl⟩ : ∃ (a : Fin 512) (b : Fin 128), x = ix2 a b := ⟨x 0, x 1, by blk_ext []⟩
    have h0 : (y 0).val = a.val := h0
    have h1 : (y 1).val = b.val := h1
    rw [pay7_at]
    refine congrArg₂ (fun q v => attK sc q (fun (s : Fin 2304) e => iblk m c 1 t (ix2 s e)) v) ?_ ?_
    · funext e; pointwise; blk_ext []
    · funext s; blk_ext []

/-- The same, at the index's two coordinates. -/
theorem out_at2 (c : Dev nD) (t : Fin cfg0.N) (a b : Fin 512) :
    outsAt0 m c t (ix2 a b) = attK sc (fun e : Fin 128 => X0_0 m c t (ix2 a (⟨b.val / 128 * 128 + e.val, by omega⟩ : Fin 512)))
      (fun (s : Fin 2304) e => iblk m c 1 t (ix2 s e))
      (fun s => iblk m c 2 t (ix2 s (⟨b.val % 128, by omega⟩ : Fin 128))) :=
  out_at m c t (ix2 a b) a b rfl rfl

/-- THE OUTPUT ARRAY after the run is the reference's term, where queries and keys are real numbers. -/
theorem final (c : Dev nD)
    (hq : ∀ (i : Fin 16384) (j : Fin 1280), IsReal (m ((c.tc : Thread nD τ).loc main_arg0) (ix2 i j)))
    (hk : ∀ (b : Fin 8) (s : Fin 256) (h : Fin 2) (e : Fin 128), IsReal (m ((c.tc : Thread nD τ).loc main_arg2) (ix4 b s h e))) :
    (dats m 0 c).arrAt 3 cfg0.N = Cert.GqaRefIdeal.At.REF (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 3 _ (by decide +kernel) fun t hf y => ?_
  have ht := t_lt t
  obtain ⟨e0, e1, e2, e3⟩ := idx t
  obtain ⟨a, b, rfl⟩ : ∃ (a b : Fin 512), y = ix2 a b := ⟨y 0, y 1, by blk_ext []⟩
  have hemb : ((cfg0.win 3).blk t).view.emb (ix2 a b) = ix2 (⟨(t.val / 8 * 4 + t.val % 4) * 512 + a.val, by omega⟩ : Fin 16384)
      (⟨t.val / 4 % 2 * 512 + b.val, by omega⟩ : Fin 1024) := by
    blk_ext [e3]
  obtain ⟨r, hr, hsc⟩ := sc_real
  have hk' : ∀ b s h e, IsReal (Cert.GqaRefIdeal.At.kAll (m ((c.tc : Thread nD τ).loc main_arg0)) (m ((c.tc : Thread nD τ).loc main_arg2)) (ix4 b s h e)) := by
    intro b s h e
    rw [Cert.GqaRefIdeal.At.kAll_at]
    split
    · exact hq _ _
    · exact hk _ _ _ _
  blk_simp
  rw [after0_3, hemb, Cert.GqaRefIdeal.At.ref_at]
  refine (out_at2 m c t a b).trans ?_
  refine (congrArg₃ (attK sc) (funext fun e => x0_at m c t _ _) (funext fun s => funext fun e => k_at m c t s e)
    (funext fun s => v_at m c t s _)).trans ?_
  rw [hsc]
  refine (attention_eq (by omega) _ _ _ r hr (fun d => hq _ _) (fun s d => hk' _ _ _ _)).trans ?_
  exact congrArg₃ (attR (r : EReal)) (funext fun e => by blk_ext []) (funext fun s => funext fun e => by blk_ext [])
    (funext fun s => by blk_ext [])

end Cert.GqaIdeal.Fin

end
-- ==== Proof.GqaRes.lean ====
/- The reference's run ends in the term `REF`. -/
module

public import proofs.«01_k».proof.Proof.GqaRef

@[expose] public section

set_option maxRecDepth 16384

noncomputable section

namespace Cert.GqaRefIdeal.At

open Cert.GqaRefIdeal Cert.GqaRefIdeal.Gen Idealize.ShloMosaic Idealize.ShloMosaic.TcCoe

/-- `REF` is the term the reference's run leaves in its result. -/
theorem res_eq (m : (ℓ : Loc nD τ sig) → Buf (Elt Ideal) ℓ) (c : Dev nD) :
    Value.res_out0 (F := Ideal) m c = REF (m ((c.tc : Thread nD τ).loc main_arg0)) (m ((c.tc : Thread nD τ).loc main_arg1))
      (m ((c.tc : Thread nD τ).loc main_arg2)) (m ((c.tc : Thread nD τ).loc main_arg3)) := by
  unfold Value.res_out0 Value.res_main_v28 REF mean vAll soft expo top rmax scores kAll qs
  rfl

end Cert.GqaRefIdeal.At

end
-- ==== Proof.GqaMain.lean ====
/- Grouped-query attention: the kernel's program and the reference's end with the same result. -/
module

public import proofs.«01_k».proof.Defs
public import proofs.«01_k».proof.Proof.GqaFin
public import proofs.«01_k».proof.Proof.GqaRes
public import proofs.«01_k».proof.Proof.Gen.Pre_gqa_finite

@[expose] public section

set_option maxRecDepth 16384

noncomputable section

namespace Cert.Proof

open Idealize.ShloMosaic Idealize.SL.Sem Cert.Softmax

/-- Where the precondition holds of the normed queries and keys, they are real. -/
theorem gqa_real0 (a0 : FVec Ideal Cert.Pre_gqa_finite.S16384x1280 .f32) (a1 : FVec Ideal Cert.Pre_gqa_finite.S16384x1536 .f32)
    (a2 a3 : FVec Ideal Cert.Pre_gqa_finite.S8x256x2x128 .f32)
    (h : (Cert.Pre_gqa_finite.fn (F := Ideal) a0 a1 a2 a3).1 = fun _ => 1#1) (i : Fin 16384) (j : Fin 1280) : IsReal (a0 (ix2 i j)) := by
  have h' := congrFun h (ix2 i j)
  pointwise [Cert.Pre_gqa_finite.fn] at h'
  exact real_of_abs h'

/-- Where it holds of the cached keys, they are real. -/
theorem gqa_real2 (a0 : FVec Ideal Cert.Pre_gqa_finite.S16384x1280 .f32) (a1 : FVec Ideal Cert.Pre_gqa_finite.S16384x1536 .f32)
    (a2 a3 : FVec Ideal Cert.Pre_gqa_finite.S8x256x2x128 .f32)
    (h : (Cert.Pre_gqa_finite.fn (F := Ideal) a0 a1 a2 a3).2 = fun _ => 1#1) (b : Fin 8) (s : Fin 256) (g : Fin 2) (e : Fin 128) :
    IsReal (a2 (ix4 b s g e)) := by
  have h' := congrFun h (ix4 b s g e)
  pointwise [Cert.Pre_gqa_finite.fn] at h'
  exact real_of_abs h'

/-- The kernel's attention and the reference's end with the same array, where queries and keys are finite. -/
theorem algebraic_gqa : Cert.algebraic_GqaIdeal_GqaRefIdeal_pre_gqa_finite := by
  pair_intro
  · run_from Cert.GqaIdeal.Value.run_blocks m g
  · run_from Cert.GqaRefIdeal.Value.run m' g'
    refine Eq.trans ?_ (Cert.GqaIdeal.Fin.final m c (fun i j => gqa_real0 _ _ _ _ (hpre c).1 i j)
      (fun b s h e => gqa_real2 _ _ _ _ (hpre c).2 b s h e)).symm
    refine (Cert.GqaRefIdeal.At.res_eq m' c).trans ?_
    obtain ⟨h0, h1, h2, h3⟩ := hagree c
    rw [h0, h1, h2, h3]

end Cert.Proof

end
-- ==== Proof.MlaHost.lean ====
/- The arrays the host lays out for the latent attention, read at an index. -/
module

public import Idealize.ShloMosaic.Lib.Pointwise
public import Idealize.ShloMosaic.Lib.Pipeline.ValueKit
public import proofs.«01_k».proof.Proof.Gen.MlaIdeal.Value

@[expose] public section

set_option maxRecDepth 16384

noncomputable section

namespace Cert.MlaIdeal.Host

open Cert.MlaIdeal Cert.MlaIdeal.Gen Idealize.ShloMosaic Idealize.ShloMosaic.TcCoe

variable (m : (ℓ : Loc nD τ sig) → Buf (Elt Ideal) ℓ)

/-- The projections' columns: queries, a latent that is not read, the rotary key. -/
def join (a0 : FVec Ideal S16384x1536 .f32) (a1 : FVec Ideal S16384x64 .f32) : FVec Ideal S16384x2112 .f32 :=
  concatenate S16384x2112 1 [⟨S16384x1536, a0⟩, ⟨S16384x512, (broadcastInDim S16384x512 ![] bcast_S_S16384x512 (constant S_ .f32 0x00000000#32))⟩, ⟨S16384x64, a1⟩] concatenates_S16384x1536_S16384x512_S16384x64_S16384x2112_d1

/-- The queries by heads. -/
def byHead (L : FVec Ideal S16384x2112 .f32) : FVec Ideal S16384x8x192 .f32 :=
  shapeCast _ (extractStridedSlice S16384x1536 ![0, 0] L slices_S16384x2112_S16384x1536_0_0) shapeCasts_S16384x1536_S16384x8x192

/-- Each head's rotary part, filled up to 128 lanes. -/
def ropes (Q : FVec Ideal S16384x8x192 .f32) : FVec Ideal S16384x1024 .f32 :=
  shapeCast _ (concatenate S16384x8x128 2 [⟨S16384x8x64, extractStridedSlice S16384x8x64 ![0, 0, 128] Q slices_S16384x8x192_S16384x8x64_0_0_128⟩, ⟨S16384x8x64, (broadcastInDim S16384x8x64 ![] bcast_S_S16384x8x64 (constant S_ .f32 0x00000000#32))⟩] concatenates_S16384x8x64_S16384x8x64_S16384x8x128_d2) shapeCasts_S16384x8x128_S16384x1024

/-- Each head's other part. -/
def nopes (Q : FVec Ideal S16384x8x192 .f32) : FVec Ideal S16384x1024 .f32 :=
  shapeCast _ (extractStridedSlice S16384x8x128 ![0, 0, 0] Q slices_S16384x8x192_S16384x8x128_0_0_0) shapeCasts_S16384x8x128_S16384x1024

/-- The rotary key, filled up to 128 lanes. -/
def kropes (L : FVec Ideal S16384x2112 .f32) : FVec Ideal S16384x128 .f32 :=
  concatenate S16384x128 1 [⟨S16384x64, extractStridedSlice S16384x64 ![0, 2048] L slices_S16384x2112_S16384x64_0_2048⟩, ⟨S16384x64, (broadcastInDim S16384x64 ![] bcast_S_S16384x64 (constant S_ .f32 0x00000000#32))⟩] concatenates_S16384x64_S16384x64_S16384x128_d1

/-- The projections' columns in the order the call takes them. -/
def lay (R : FVec Ideal S16384x1024 .f32) (K : FVec Ideal S16384x128 .f32) (L : FVec Ideal S16384x2112 .f32) (N : FVec Ideal S16384x1024 .f32) :
    FVec Ideal S16384x3072 .f32 :=
  concatenate S16384x3072 1 [⟨S16384x1024, R⟩, ⟨S16384x128, K⟩, ⟨S16384x384, (broadcastInDim S16384x384 ![] bcast_S_S16384x384 (constant S_ .f32 0x00000000#32))⟩, ⟨S16384x512, extractStridedSlice S16384x512 ![0, 1536] L slices_S16384x2112_S16384x512_0_1536⟩, ⟨S16384x1024, N⟩] concatenates_S16384x1024_S16384x128_S16384x384_S16384x512_S16384x1024_S16384x3072_d1

/-- The array of the queries' other parts, among the columns. -/
def arr (a0 : FVec Ideal S16384x1536 .f32) (a1 : FVec Ideal S16384x64 .f32) : FVec Ideal S16384x3072 .f32 :=
  lay (ropes (byHead (join a0 a1))) (kropes (join a0 a1)) (join a0 a1) (nopes (byHead (join a0 a1)))

/-- The first 1152 columns: the rotary parts. -/
def rot (A : FVec Ideal S16384x3072 .f32) : FVec Ideal S16384x1152 .f32 :=
  extractStridedSlice S16384x1152 ![0, 0] A slices_S16384x3072_S16384x1152_0_0

/-- All keys and values, batches one after the other. -/
def kvs (a2 : FVec Ideal S16384x2048 .f32) (a3 : FVec Ideal S2048x2048 .f32) : FVec Ideal S18432x2048 .bf16 :=
  truncf .bf16 (shapeCast _ (concatenate S8x2304x2048 1 [⟨S8x2048x2048, (shapeCast _ a2 shapeCasts_S16384x2048_S8x2048x2048)⟩, ⟨S8x256x2048, (shapeCast _ a3 shapeCasts_S2048x2048_S8x256x2048)⟩] concatenates_S8x2048x2048_S8x256x2048_S8x2304x2048_d1) shapeCasts_S8x2304x2048_S18432x2048) bitsLt_bf16_f32

/-- All rotary keys, batches one after the other. -/
def krs (R : FVec Ideal S16384x1152 .f32) (a4 : FVec Ideal S8x256x64 .f32) : FVec Ideal S18432x128 .bf16 :=
  truncf .bf16 (shapeCast _ (concatenate S8x2304x128 1 [⟨S8x2048x128, (shapeCast _ (extractStridedSlice S16384x128 ![0, 1024] R slices_S16384x1152_S16384x128_0_1024) shapeCasts_S16384x128_S8x2048x128)⟩, ⟨S8x256x128, concatenate S8x256x128 2 [⟨S8x256x64, a4⟩, ⟨S8x256x64, (broadcastInDim S8x256x64 ![] bcast_S_S8x256x64 (constant S_ .f32 0x00000000#32))⟩] concatenates_S8x256x64_S8x256x64_S8x256x128_d2⟩] concatenates_S8x2048x128_S8x256x128_S8x2304x128_d1) shapeCasts_S8x2304x128_S18432x128) bitsLt_bf16_f32

theorem join_q (a0 : FVec Ideal S16384x1536 .f32) (a1 : FVec Ideal S16384x64 .f32) (i : Fin 16384) (j : Fin 2112) (h : j.val < 1536) :
    join a0 a1 (ix2 i j) = a0 (ix2 i (⟨j.val, h⟩ : Fin 1536)) := by
  pointwise [join] <;> (repeat' split) <;> first | (exfalso; omega) | rfl | blk_ext []

theorem join_k (a0 : FVec Ideal S16384x1536 .f32) (a1 : FVec Ideal S16384x64 .f32) (i : Fin 16384) (j : Fin 2112) (h : 2048 ≤ j.val) :
    join a0 a1 (ix2 i j) = a1 (ix2 i (⟨j.val - 2048, by omega⟩ : Fin 64)) := by
  pointwise [join] <;> (repeat' split) <;> first | (exfalso; omega) | rfl | blk_ext []

theorem byHead_at (L : FVec Ideal S16384x2112 .f32) (i : Fin 16384) (h : Fin 8) (e : Fin 192) :
    byHead L (ix3 i h e) = L (ix2 i (⟨h.val * 192 + e.val, by omega⟩ : Fin 2112)) := by
  pointwise [byHead] <;> blk_ext []

theorem ropes_at (Q : FVec Ideal S16384x8x192 .f32) (i : Fin 16384) (j : Fin 1024) :
    ropes Q (ix2 i j) = if h : j.val % 128 < 64 then Q (ix3 i (⟨j.val / 128, by omega⟩ : Fin 8) (⟨128 + j.val % 128, by omega⟩ : Fin 192)) else 0 := by
  pointwise [ropes] <;> (repeat' split) <;> first | (exfalso; omega) | rfl | blk_ext []

theorem nopes_at (Q : FVec Ideal S16384x8x192 .f32) (i : Fin 16384) (j : Fin 1024) :
    nopes Q (ix2 i j) = Q (ix3 i (⟨j.val / 128, by omega⟩ : Fin 8) (⟨j.val % 128, by omega⟩ : Fin 192)) := by
  pointwise [nopes] <;> blk_ext []

theorem kropes_at (L : FVec Ideal S16384x2112 .f32) (i : Fin 16384) (j : Fin 128) (h : j.val < 64) :
    kropes L (ix2 i j) = L (ix2 i (⟨2048 + j.val, by omega⟩ : Fin 2112)) := by
  pointwise [kropes] <;> (repeat' split) <;> first | (exfalso; omega) | rfl | blk_ext []

theorem lay_r (R : FVec Ideal S16384x1024 .f32) (K : FVec Ideal S16384x128 .f32) (L : FVec Ideal S16384x2112 .f32) (N : FVec Ideal S16384x1024 .f32)
    (i : Fin 16384) (j : Fin 3072) (h : j.val < 1024) : lay R K L N (ix2 i j) = R (ix2 i (⟨j.val, h⟩ : Fin 1024)) := by
  pointwise [lay] <;> (repeat' split) <;> first | (exfalso; omega) | rfl | blk_ext []

theorem lay_k (R : FVec Ideal S16384x1024 .f32) (K : FVec Ideal S16384x128 .f32) (L : FVec Ideal S16384x2112 .f32) (N : FVec Ideal S16384x1024 .f32)
    (i : Fin 16384) (j : Fin 3072) (h : 1024 ≤ j.val) (h' : j.val < 1152) : lay R K L N (ix2 i j) = K (ix2 i (⟨j.val - 1024, by omega⟩ : Fin 128)) := by
  pointwise [lay] <;> (repeat' split) <;> first | (exfalso; omega) | rfl | blk_ext []

theorem lay_n (R : FVec Ideal S16384x1024 .f32) (K : FVec Ideal S16384x128 .f32) (L : FVec Ideal S16384x2112 .f32) (N : FVec Ideal S16384x1024 .f32)
    (i : Fin 16384) (j : Fin 3072) (h : 2048 ≤ j.val) : lay R K L N (ix2 i j) = N (ix2 i (⟨j.val - 2048, by omega⟩ : Fin 1024)) := by
  pointwise [lay] <;> (repeat' split) <;> first | (exfalso; omega) | rfl | blk_ext []

theorem rot_at (A : FVec Ideal S16384x3072 .f32) (i : Fin 16384) (j : Fin 1152) : rot A (ix2 i j) = A (ix2 i (⟨j.val, by omega⟩ : Fin 3072)) := by
  pointwise [rot] <;> blk_ext []

/-- Keys and values: of the latents, then of the cached context. -/
theorem kvs_at (a2 : FVec Ideal S16384x2048 .f32) (a3 : FVec Ideal S2048x2048 .f32) (b : Fin 8) (s : Fin 2304) (j : Fin 2048) :
    kvs a2 a3 (ix2 (⟨b.val * 2304 + s.val, by omega⟩ : Fin 18432) j) = if hs : s.val < 2048 then a2 (ix2 (⟨b.val * 2048 + s.val, by omega⟩ : Fin 16384) j)
      else a3 (ix2 (⟨b.val * 256 + (s.val - 2048), by omega⟩ : Fin 2048) j) := by
  pointwise [kvs] <;> (repeat' split) <;> first | (exfalso; omega) | rfl | blk_ext []

/-- Rotary keys: of the latents, then of the cached context. -/
theorem krs_at (R : FVec Ideal S16384x1152 .f32) (a4 : FVec Ideal S8x256x64 .f32) (b : Fin 8) (s : Fin 2304) (j : Fin 128) (h : j.val < 64) :
    krs R a4 (ix2 (⟨b.val * 2304 + s.val, by omega⟩ : Fin 18432) j) = if hs : s.val < 2048 then
        R (ix2 (⟨b.val * 2048 + s.val, by omega⟩ : Fin 16384) (⟨1024 + j.val, by omega⟩ : Fin 1152))
      else a4 (ix3 b (⟨s.val - 2048, by omega⟩ : Fin 256) (⟨j.val, h⟩ : Fin 64)) := by
  pointwise [krs] <;> (repeat' split) <;> first | (exfalso; omega) | rfl | blk_ext []

/-- A query's other part stands in the last 1024 columns. -/
theorem arr_n (a0 : FVec Ideal S16384x1536 .f32) (a1 : FVec Ideal S16384x64 .f32) (i : Fin 16384) (j : Fin 3072) (h : 2048 ≤ j.val) :
    arr a0 a1 (ix2 i j) = a0 (ix2 i (⟨(j.val - 2048) / 128 * 192 + (j.val - 2048) % 128, by omega⟩ : Fin 1536)) := by
  unfold arr
  rw [lay_n _ _ _ _ i j h, nopes_at, byHead_at, join_q _ _ _ _ (by dsimp only; omega)]

/-- A query's rotary part stands in the first 1024 columns. -/
theorem rot_r (a0 : FVec Ideal S16384x1536 .f32) (a1 : FVec Ideal S16384x64 .f32) (i : Fin 16384) (j : Fin 1152) (h : j.val < 1024) :
    rot (arr a0 a1) (ix2 i j) = if h : j.val % 128 < 64 then a0 (ix2 i (⟨j.val / 128 * 192 + (128 + j.val % 128), by omega⟩ : Fin 1536)) else 0 := by
  rw [rot_at]
  unfold arr
  rw [lay_r _ _ _ _ i _ (by dsimp only; omega), ropes_at]
  dsimp only
  split
  · rw [byHead_at, join_q _ _ _ _ (by dsimp only; omega)]
  · rfl

/-- The rotary key stands in the next columns. -/
theorem rot_k (a0 : FVec Ideal S16384x1536 .f32) (a1 : FVec Ideal S16384x64 .f32) (i : Fin 16384) (j : Fin 64) :
    rot (arr a0 a1) (ix2 i (⟨1024 + j.val, by omega⟩ : Fin 1152)) = a1 (ix2 i j) := by
  rw [rot_at]
  unfold arr
  rw [lay_k _ _ _ _ i _ (by dsimp only; omega) (by dsimp only; omega), kropes_at _ _ _ (by dsimp only; omega), join_k _ _ _ _ (by dsimp only; omega)]
  blk_ext []

/-- The arrays the host makes of the arguments. -/
theorem v15_eq (c : Dev nD) : V m c main_v15 = arr (m ((c.tc : Thread nD τ).loc main_arg0)) (m ((c.tc : Thread nD τ).loc main_arg1)) := by
  unfold V hostOps0
  simp only [StableHlo.TRef.binary, StableHlo.TRef.unary, StableHlo.TRef.toBuf, StableHlo.TRef.ofBuf, cast_eq]
  after_results_simp <;> (try dsimp only [Matrix.cons_val]) <;> (try after_results_simp)
  rfl

@[inherit_doc v15_eq]
theorem v16_eq (c : Dev nD) : V m c main_v16 = rot (arr (m ((c.tc : Thread nD τ).loc main_arg0)) (m ((c.tc : Thread nD τ).loc main_arg1))) := by
  unfold V hostOps0
  simp only [StableHlo.TRef.binary, StableHlo.TRef.unary, StableHlo.TRef.toBuf, StableHlo.TRef.ofBuf, cast_eq]
  after_results_simp <;> (try dsimp only [Matrix.cons_val]) <;> (try after_results_simp)
  rfl

@[inherit_doc v15_eq]
theorem v21_eq (c : Dev nD) : V m c main_v21 = kvs (m ((c.tc : Thread nD τ).loc main_arg2)) (m ((c.tc : Thread nD τ).loc main_arg3)) := by
  unfold V hostOps0
  simp only [StableHlo.TRef.binary, StableHlo.TRef.unary, StableHlo.TRef.toBuf, StableHlo.TRef.ofBuf, cast_eq]
  after_results_simp <;> (try dsimp only [Matrix.cons_val]) <;> (try after_results_simp)
  rfl

set_option maxHeartbeats 1000000 in
@[inherit_doc v15_eq]
theorem v28_eq (c : Dev nD) : V m c main_v28 = krs (rot (arr (m ((c.tc : Thread nD τ).loc main_arg0)) (m ((c.tc : Thread nD τ).loc main_arg1))))
    (m ((c.tc : Thread nD τ).loc main_arg4)) := by
  unfold V hostOps0
  simp only [StableHlo.TRef.binary, StableHlo.TRef.unary, StableHlo.TRef.toBuf, StableHlo.TRef.ofBuf, cast_eq]
  after_results_simp <;> (try dsimp only [Matrix.cons_val]) <;> (try after_results_simp)
  unfold krs
  refine congrArg₂ (fun (a : FVec Ideal S8x2048x128 .f32) (b : FVec Ideal S8x256x128 .f32) => truncf (F := Ideal) .bf16 (shapeCast S18432x128
    (concatenate S8x2304x128 1 [⟨S8x2048x128, a⟩, ⟨S8x256x128, b⟩] concatenates_S8x2048x128_S8x256x128_S8x2304x128_d1) shapeCasts_S8x2304x128_S18432x128) bitsLt_bf16_f32) ?_ ?_
  · after_results_simp <;> (try dsimp only [Matrix.cons_val]) <;> (try after_results_simp)
    rfl
  · after_results_simp
    rfl

end Cert.MlaIdeal.Host

end
-- ==== Proof.MlaPay.lean ====
/- What the latent attention's body stores for each head of a group, read at an index. -/
module

public import proofs.«01_k».proof.Proof.Softmax
public import proofs.«01_k».proof.Proof.Gen.MlaIdeal.Skeleton

@[expose] public section

set_option maxRecDepth 16384

noncomputable section

namespace Cert.MlaIdeal.Pay

open Cert.MlaIdeal Cert.MlaIdeal.Gen Idealize.ShloMosaic Cert.Softmax

/-- The word the running maximum starts from is −∞. -/
theorem ninf : Ideal.ofBits .f32 0xFF800000#32 = ⊥ := by simp [Ideal.ofBits, Ideal.ieee]

/-- The scale of the scores, the float32 nearest to `192 ^ (-1/2)`. -/
abbrev sc : EReal := Ideal.ofBits .f32 0x3D93CD3A#32

theorem sc_real : ∃ c : ℝ, 0 ≤ c ∧ sc = (c : EReal) := by
  refine ⟨_, ?_, by simp [sc, Ideal.ofBits, Ideal.ieee]; rfl⟩
  positivity

/-- 128 entries and then 128 others. -/
def two (A B : Fin 128 → EReal) (e : Fin 256) : EReal := if h : e.val < 128 then A ⟨e.val, h⟩ else B ⟨e.val - 128, by omega⟩

theorem two_congr {A A' B B' : Fin 128 → EReal} (h : ∀ e, A e = A' e) (h' : ∀ e, B e = B' e) (e : Fin 256) : two A B e = two A' B' e := by
  rw [show A = A' from funext h, show B = B' from funext h']

/-- Lanes in which the query is zero do not count. -/
theorem attK_pad {n : ℕ} (c : EReal) (q : Fin 256 → EReal) (k : Fin n → Fin 256 → EReal) (v : Fin n → EReal)
    (hq : ∀ e : Fin 256, 192 ≤ e.val → q e = 0) :
    attK c q k v = attK c (fun e : Fin 192 => q ⟨e.val, by omega⟩) (fun s (e : Fin 192) => k s ⟨e.val, by omega⟩) v := by
  have hs : ∀ s, ∑ d, q d * c * k s d = ∑ e : Fin 192, q ⟨e.val, by omega⟩ * c * k s ⟨e.val, by omega⟩ := fun s => by
    have h := Fin.sum_univ_add (a := 192) (b := 64) fun d : Fin (192 + 64) => q d * c * k s d
    refine h.trans ?_
    have h0 : ∀ e : Fin 64, q (Fin.natAdd 192 e) * c * k s (Fin.natAdd 192 e) = 0 := fun e => by
      rw [hq (Fin.natAdd 192 e) (by simp), zero_mul, zero_mul]
    rw [Finset.sum_eq_zero fun e _ => h0 e, add_zero]
    rfl
  unfold attK
  simp only [hs]

theorem q2_at (q q2 : Vec Ideal S512x128 .f32) (r : Fin 512) (e : Fin 256) :
    k0_pay2 (F := Ideal) q q2 (ix2 r e) = two (fun e => q (ix2 r e)) (fun e => q2 (ix2 r e)) e * sc := by
  unfold two
  pointwise [k0_pay2]

theorem q3_at (q q2 : Vec Ideal S512x128 .f32) (r : Fin 512) (e : Fin 256) :
    k0_pay3 (F := Ideal) q q2 (ix2 r e) = two (fun e => q (ix2 r e)) (fun e => q2 (ix2 r e)) e * sc := by
  unfold two
  pointwise [k0_pay3]

theorem q4_at (q q2 : Vec Ideal S512x128 .f32) (r : Fin 512) (e : Fin 256) :
    k0_pay4 (F := Ideal) q q2 (ix2 r e) = two (fun e => q (ix2 r e)) (fun e => q2 (ix2 r e)) e * sc := by
  unfold two
  pointwise [k0_pay4]

theorem q5_at (q q2 : Vec Ideal S512x128 .f32) (r : Fin 512) (e : Fin 256) :
    k0_pay5 (F := Ideal) q q2 (ix2 r e) = two (fun e => q (ix2 r e)) (fun e => q2 (ix2 r e)) e * sc := by
  unfold two
  pointwise [k0_pay5]

theorem k6_at (k2 k : Vec Ideal S2304x128 .bf16) (s : Fin 2304) (e : Fin 256) :
    k0_pay6 (F := Ideal) k2 k (ix2 s e) = two (fun e => k (ix2 s e)) (fun e => k2 (ix2 s e)) e := by
  unfold two
  pointwise [k0_pay6, k0_pay1]

/-- The first head of the group: one attention value. -/
theorem pay15_at (q q2 : Vec Ideal S512x128 .f32) (k k2 v : Vec Ideal S2304x128 .bf16) (r : Fin 512) (d : Fin 128) :
    k0_pay15 (F := Ideal) (k0_pay7 v) (k0_pay12 (k0_pay2 q q2) (k0_pay6 k2 k)) (ix2 r d)
      = attK sc (two (fun e => q (ix2 r e)) (fun e => q2 (ix2 r e)))
          (fun (s : Fin 2304) => two (fun e => k (ix2 s e)) (fun e => k2 (ix2 s e))) (fun s => v (ix2 s d)) := by
  have h : ∀ (A : FVec Ideal S512x256 .f32) (B : FVec Ideal S2304x256 .bf16), k0_pay15 (F := Ideal) (k0_pay7 v) (k0_pay12 A B) (ix2 r d)
      = Ideal.div
          (∑ s : Fin 2304, Ideal.exp ((∑ e : Fin 256, A (ix2 r e) * B (ix2 s e)) - Finset.univ.fold max (Ideal.ofBits .f32 0xFF800000#32) fun s : Fin 2304 => ∑ e : Fin 256, A (ix2 r e) * B (ix2 s e)) * v (ix2 s d))
          (∑ s : Fin 2304, Ideal.exp ((∑ e : Fin 256, A (ix2 r e) * B (ix2 s e)) - Finset.univ.fold max (Ideal.ofBits .f32 0xFF800000#32) fun s : Fin 2304 => ∑ e : Fin 256, A (ix2 r e) * B (ix2 s e))) := fun A B => by
    pointwise [k0_pay15, k0_pay7, k0_pay12]
  rw [h]
  simp only [q2_at, k6_at, ninf]
  rfl

/-- The second head of the group: one attention value. -/
theorem pay16_at (q q2 : Vec Ideal S512x128 .f32) (k k2 v : Vec Ideal S2304x128 .bf16) (r : Fin 512) (d : Fin 128) :
    k0_pay16 (F := Ideal) (k0_pay8 v) (k0_pay13 (k0_pay1 k2) (k0_pay3 q q2) k) (ix2 r d)
      = attK sc (two (fun e => q (ix2 r e)) (fun e => q2 (ix2 r e)))
          (fun (s : Fin 2304) => two (fun e => k (ix2 s e)) (fun e => k2 (ix2 s e))) (fun s => v (ix2 s d)) := by
  refine Eq.trans ?_ (pay15_at q q2 k k2 v r d)
  have hq : k0_pay3 (F := Ideal) q q2 = k0_pay2 q q2 := rfl
  have hv : k0_pay8 (F := Ideal) v = k0_pay7 v := rfl
  rw [hq, hv]
  rfl

/-- The third head of the group: one attention value. -/
theorem pay17_at (q q2 : Vec Ideal S512x128 .f32) (k k2 v : Vec Ideal S2304x128 .bf16) (r : Fin 512) (d : Fin 128) :
    k0_pay17 (F := Ideal) (k0_pay9 v) (k0_pay14 (k0_pay1 k2) (k0_pay4 q q2) k) (ix2 r d)
      = attK sc (two (fun e => q (ix2 r e)) (fun e => q2 (ix2 r e)))
          (fun (s : Fin 2304) => two (fun e => k (ix2 s e)) (fun e => k2 (ix2 s e))) (fun s => v (ix2 s d)) := by
  refine Eq.trans ?_ (pay15_at q q2 k k2 v r d)
  have hq : k0_pay4 (F := Ideal) q q2 = k0_pay2 q q2 := rfl
  have hv : k0_pay9 (F := Ideal) v = k0_pay7 v := rfl
  rw [hq, hv]
  rfl

/-- The fourth head of the group: one attention value. -/
theorem pay18_at (q q2 : Vec Ideal S512x128 .f32) (k k2 v : Vec Ideal S2304x128 .bf16) (r : Fin 512) (d : Fin 128) :
    k0_pay18 (F := Ideal) (k0_pay10 v) (k0_pay11 (k0_pay1 k2) (k0_pay5 q q2) k) (ix2 r d)
      = attK sc (two (fun e => q (ix2 r e)) (fun e => q2 (ix2 r e)))
          (fun (s : Fin 2304) => two (fun e => k (ix2 s e)) (fun e => k2 (ix2 s e))) (fun s => v (ix2 s d)) := by
  refine Eq.trans ?_ (pay15_at q q2 k k2 v r d)
  have hq : k0_pay5 (F := Ideal) q q2 = k0_pay2 q q2 := rfl
  have hv : k0_pay10 (F := Ideal) v = k0_pay7 v := rfl
  rw [hq, hv]
  rfl

end Cert.MlaIdeal.Pay

end
-- ==== Proof.MlaRef.lean ====
/- The reference's latent attention, stage by stage, and read at an index. -/
module

public import proofs.«01_k».proof.Proof.MlaPay
public import proofs.«01_k».proof.Proof.Gen.MlaRefIdeal.Run

@[expose] public section

set_option maxRecDepth 16384

noncomputable section

namespace Cert.MlaRefIdeal.At

open Cert.MlaRefIdeal Cert.MlaRefIdeal.Gen Idealize.ShloMosaic Idealize.ShloMosaic.TcCoe Cert.Softmax

/-- The keys of the latents: each head's own part, then the rotary part all heads share. -/
def kLat (a1 : FVec Ideal S16384x64 .f32) (a2 : FVec Ideal S16384x2048 .f32) : FVec Ideal S8x2048x8x192 .f32 :=
  concatenate S8x2048x8x192 3 [⟨S8x2048x8x128, (extractStridedSlice S8x2048x8x128 ![0, 0, 0, 0] (shapeCast _ a2 shapeCasts_S16384x2048_S8x2048x8x256) slices_S8x2048x8x256_S8x2048x8x128_0_0_0_0)⟩, ⟨S8x2048x8x64, (broadcastInDim S8x2048x8x64 ![0, 1, 2, 3] bcast_S8x2048x1x64_S8x2048x8x64_0_1_2_3 (broadcastInDim S8x2048x1x64 ![0, 1, 3] bcast_S8x2048x64_S8x2048x1x64_0_1_3 (shapeCast _ a1 shapeCasts_S16384x64_S8x2048x64)))⟩] concatenates_S8x2048x8x128_S8x2048x8x64_S8x2048x8x192_d3

/-- The keys of the cached context. -/
def kCtx (a3 : FVec Ideal S2048x2048 .f32) (a4 : FVec Ideal S8x256x64 .f32) : FVec Ideal S8x256x8x192 .f32 :=
  concatenate S8x256x8x192 3 [⟨S8x256x8x128, (extractStridedSlice S8x256x8x128 ![0, 0, 0, 0] (shapeCast _ a3 shapeCasts_S2048x2048_S8x256x8x256) slices_S8x256x8x256_S8x256x8x128_0_0_0_0)⟩, ⟨S8x256x8x64, (broadcastInDim S8x256x8x64 ![0, 1, 2, 3] bcast_S8x256x1x64_S8x256x8x64_0_1_2_3 (broadcastInDim S8x256x1x64 ![0, 1, 3] bcast_S8x256x64_S8x256x1x64_0_1_3 a4))⟩] concatenates_S8x256x8x128_S8x256x8x64_S8x256x8x192_d3

/-- Both, one after the other. -/
def kJoin (K : FVec Ideal S8x2048x8x192 .f32) (C : FVec Ideal S8x256x8x192 .f32) : FVec Ideal S8x2304x8x192 .f32 :=
  concatenate S8x2304x8x192 1 [⟨S8x2048x8x192, K⟩, ⟨S8x256x8x192, C⟩] concatenates_S8x2048x8x192_S8x256x8x192_S8x2304x8x192_d1

/-- All keys. -/
def kAll (a1 : FVec Ideal S16384x64 .f32) (a2 : FVec Ideal S16384x2048 .f32) (a3 : FVec Ideal S2048x2048 .f32) (a4 : FVec Ideal S8x256x64 .f32) :
    FVec Ideal S8x2304x8x192 .f32 :=
  kJoin (kLat a1 a2) (kCtx a3 a4)

/-- All values. -/
def vAll (a2 : FVec Ideal S16384x2048 .f32) (a3 : FVec Ideal S2048x2048 .f32) : FVec Ideal S8x2304x8x128 .f32 :=
  concatenate S8x2304x8x128 1 [⟨S8x2048x8x128, (extractStridedSlice S8x2048x8x128 ![0, 0, 0, 128] (shapeCast _ a2 shapeCasts_S16384x2048_S8x2048x8x256) slices_S8x2048x8x256_S8x2048x8x128_0_0_0_128)⟩, ⟨S8x256x8x128, (extractStridedSlice S8x256x8x128 ![0, 0, 0, 128] (shapeCast _ a3 shapeCasts_S2048x2048_S8x256x8x256) slices_S8x256x8x256_S8x256x8x128_0_0_0_128)⟩] concatenates_S8x2048x8x128_S8x256x8x128_S8x2304x8x128_d1

/-- The queries, one head to a group. -/
def qs (a0 : FVec Ideal S16384x1536 .f32) : FVec Ideal S8x2048x8x1x192 .f32 :=
  shapeCast _ (shapeCast _ a0 shapeCasts_S16384x1536_S8x2048x8x192) shapeCasts_S8x2048x8x192_S8x2048x8x1x192

/-- The scaled scores. -/
def scores (K : FVec Ideal S8x2304x8x192 .f32) (Q : FVec Ideal S8x2048x8x1x192 .f32) : FVec Ideal S8x8x1x2048x2304 .f32 :=
  mulf (transpose S8x8x1x2048x2304 [0, 1, 4, 3, 2] (Host.dotGeneral dot_S8x2304x8x192_S8x2048x8x1x192_S8x8x2304x2048x1_3_4_1_13_02_02 none K Q) transposes_S8x8x2304x2048x1_S8x8x1x2048x2304_0_1_4_3_2) (broadcastInDim S8x8x1x2048x2304 ![] bcast_S_S8x8x1x2048x2304 (constant S_ .f32 0x3D93CD3A#32))

/-- Each row's maximum. -/
def rmax (S : FVec Ideal S8x8x1x2048x2304 .f32) : FVec Ideal S8x8x1x2048 .f32 :=
  Host.reduce FloatOps.maximumf S (constant S_ .f32 0xFF800000#32) reducesTo_S8x8x1x2048x2304_S8x8x1x2048_d4 h_S_

/-- The larger of `-∞` and a row's maximum. -/
def top (M : FVec Ideal S8x8x1x2048 .f32) : FVec Ideal S8x8x1x2048 .f32 :=
  maximumf (broadcastInDim S8x8x1x2048 ![] bcast_S_S8x8x1x2048 (constant S_ .f32 0xFF800000#32)) M

/-- The exponentials of the scores less their row's maximum. -/
def expo (S : FVec Ideal S8x8x1x2048x2304 .f32) (M : FVec Ideal S8x8x1x2048 .f32) : FVec Ideal S8x8x1x2048x2304 .f32 :=
  Host.exp (subf S (broadcastInDim S8x8x1x2048x2304 ![0, 1, 2, 3, 4] bcast_S8x8x1x2048x1_S8x8x1x2048x2304_0_1_2_3_4 (broadcastInDim S8x8x1x2048x1 ![0, 1, 2, 3] bcast_S8x8x1x2048_S8x8x1x2048x1_0_1_2_3 M)))

/-- The weights: each exponential over its row's sum. -/
def soft (E : FVec Ideal S8x8x1x2048x2304 .f32) : FVec Ideal S8x8x1x2048x2304 .f32 :=
  Host.divf E (broadcastInDim S8x8x1x2048x2304 ![0, 1, 2, 3, 4] bcast_S8x8x1x2048x1_S8x8x1x2048x2304_0_1_2_3_4 (broadcastInDim S8x8x1x2048x1 ![0, 1, 2, 3] bcast_S8x8x1x2048_S8x8x1x2048x1_0_1_2_3 (Host.reduceAdd E (constant S_ .f32 0x00000000#32) reducesTo_S8x8x1x2048x2304_S8x8x1x2048_d4 h_S_)))

/-- The weighted means, heads side by side. -/
def mean (V : FVec Ideal S8x2304x8x128 .f32) (P : FVec Ideal S8x8x1x2048x2304 .f32) : FVec Ideal S16384x1024 .bf16 :=
  truncf .bf16 (shapeCast _ (shapeCast _ (transpose S8x2048x8x1x128 [0, 4, 1, 3, 2] (Host.dotGeneral dot_S8x2304x8x128_S8x8x1x2048x2304_S8x8x128x1x2048_1_4_3_23_02_01 none V P) transposes_S8x8x128x1x2048_S8x2048x8x1x128_0_4_1_3_2) shapeCasts_S8x2048x8x1x128_S8x2048x8x128) shapeCasts_S8x2048x8x128_S16384x1024) bitsLt_bf16_f32

/-- The whole reference. -/
def REF (a0 : FVec Ideal S16384x1536 .f32) (a1 : FVec Ideal S16384x64 .f32) (a2 : FVec Ideal S16384x2048 .f32) (a3 : FVec Ideal S2048x2048 .f32)
    (a4 : FVec Ideal S8x256x64 .f32) : FVec Ideal S16384x1024 .bf16 :=
  mean (vAll a2 a3) (soft (expo (scores (kAll a1 a2 a3 a4) (qs a0)) (top (rmax (scores (kAll a1 a2 a3 a4) (qs a0))))))

theorem scores_at (K : FVec Ideal S8x2304x8x192 .f32) (Q : FVec Ideal S8x2048x8x1x192 .f32) (b h : Fin 8) (q : Fin 2048) (s : Fin 2304) :
    scores K Q (ix5 b h (0 : Fin 1) q s) = (∑ e : Fin 192, K (ix4 b s h e) * Q (ix5 b q h (0 : Fin 1) e)) * Ideal.ofBits .f32 0x3D93CD3A#32 := by
  pointwise [scores]

theorem rmax_at (S : FVec Ideal S8x8x1x2048x2304 .f32) (b h : Fin 8) (q : Fin 2048) :
    rmax S (ix4 b h (0 : Fin 1) q)
      = Finset.univ.fold max (Ideal.ofBits .f32 0xFF800000#32) fun s : Fin 2304 => S (ix5 b h (0 : Fin 1) q s) := by
  pointwise [rmax]

theorem top_at (M : FVec Ideal S8x8x1x2048 .f32) (b h : Fin 8) (q : Fin 2048) :
    top M (ix4 b h (0 : Fin 1) q) = max (Ideal.ofBits .f32 0xFF800000#32) (M (ix4 b h (0 : Fin 1) q)) := by
  pointwise [top]

theorem expo_at (S : FVec Ideal S8x8x1x2048x2304 .f32) (M : FVec Ideal S8x8x1x2048 .f32) (b h : Fin 8)
    (q : Fin 2048) (s : Fin 2304) : expo S M (ix5 b h (0 : Fin 1) q s) = Ideal.exp (S (ix5 b h (0 : Fin 1) q s) - M (ix4 b h (0 : Fin 1) q)) := by
  pointwise [expo]

theorem soft_at (E : FVec Ideal S8x8x1x2048x2304 .f32) (b h : Fin 8) (q : Fin 2048) (s : Fin 2304) :
    soft E (ix5 b h (0 : Fin 1) q s) = Ideal.div (E (ix5 b h (0 : Fin 1) q s)) (∑ s : Fin 2304, E (ix5 b h (0 : Fin 1) q s)) := by
  pointwise [soft]

theorem mean_at (V : FVec Ideal S8x2304x8x128 .f32) (P : FVec Ideal S8x8x1x2048x2304 .f32) (i : Fin 16384) (j : Fin 1024) :
    mean V P (ix2 i j) = ∑ s : Fin 2304, V (ix4 (⟨i.val / 2048, by omega⟩ : Fin 8) s (⟨j.val / 128, by omega⟩ : Fin 8) (⟨j.val % 128, by omega⟩ : Fin 128))
      * P (ix5 (⟨i.val / 2048, by omega⟩ : Fin 8) (⟨j.val / 128, by omega⟩ : Fin 8) (0 : Fin 1) (⟨i.val % 2048, by omega⟩ : Fin 2048) s) := by
  pointwise [mean]

theorem qs_at (a0 : FVec Ideal S16384x1536 .f32) (b : Fin 8) (q : Fin 2048) (h : Fin 8) (e : Fin 192) :
    qs a0 (ix5 b q h (0 : Fin 1) e) = a0 (ix2 (⟨b.val * 2048 + q.val, by omega⟩ : Fin 16384) (⟨h.val * 192 + e.val, by omega⟩ : Fin 1536)) := by
  pointwise [qs] <;> blk_ext []

theorem kLat_at (a1 : FVec Ideal S16384x64 .f32) (a2 : FVec Ideal S16384x2048 .f32) (b : Fin 8) (s : Fin 2048) (h : Fin 8) (e : Fin 192) :
    kLat a1 a2 (ix4 b s h e) = if he : e.val < 128 then a2 (ix2 (⟨b.val * 2048 + s.val, by omega⟩ : Fin 16384) (⟨h.val * 256 + e.val, by omega⟩ : Fin 2048))
      else a1 (ix2 (⟨b.val * 2048 + s.val, by omega⟩ : Fin 16384) (⟨e.val - 128, by omega⟩ : Fin 64)) := by
  pointwise [kLat] <;> (repeat' split) <;> first | (exfalso; omega) | rfl | blk_ext []

theorem kCtx_at (a3 : FVec Ideal S2048x2048 .f32) (a4 : FVec Ideal S8x256x64 .f32) (b : Fin 8) (s : Fin 256) (h : Fin 8) (e : Fin 192) :
    kCtx a3 a4 (ix4 b s h e) = if he : e.val < 128 then a3 (ix2 (⟨b.val * 256 + s.val, by omega⟩ : Fin 2048) (⟨h.val * 256 + e.val, by omega⟩ : Fin 2048))
      else a4 (ix3 b s (⟨e.val - 128, by omega⟩ : Fin 64)) := by
  pointwise [kCtx] <;> (repeat' split) <;> first | (exfalso; omega) | rfl | blk_ext []

theorem kJoin_at (K : FVec Ideal S8x2048x8x192 .f32) (C : FVec Ideal S8x256x8x192 .f32) (b : Fin 8) (s : Fin 2304) (h : Fin 8) (e : Fin 192) :
    kJoin K C (ix4 b s h e) = if hs : s.val < 2048 then K (ix4 b (⟨s.val, hs⟩ : Fin 2048) h e) else C (ix4 b (⟨s.val - 2048, by omega⟩ : Fin 256) h e) := by
  pointwise [kJoin] <;> (repeat' split) <;> first | (exfalso; omega) | rfl | blk_ext []

/-- A key's entry: of the latents' keys and values or the context's, or of the shared rotary part. -/
theorem kAll_at (a1 : FVec Ideal S16384x64 .f32) (a2 : FVec Ideal S16384x2048 .f32) (a3 : FVec Ideal S2048x2048 .f32) (a4 : FVec Ideal S8x256x64 .f32)
    (b : Fin 8) (s : Fin 2304) (h : Fin 8) (e : Fin 192) :
    kAll a1 a2 a3 a4 (ix4 b s h e) = if hs : s.val < 2048 then
        (if he : e.val < 128 then a2 (ix2 (⟨b.val * 2048 + s.val, by omega⟩ : Fin 16384) (⟨h.val * 256 + e.val, by omega⟩ : Fin 2048))
          else a1 (ix2 (⟨b.val * 2048 + s.val, by omega⟩ : Fin 16384) (⟨e.val - 128, by omega⟩ : Fin 64)))
      else
        (if he : e.val < 128 then a3 (ix2 (⟨b.val * 256 + (s.val - 2048), by omega⟩ : Fin 2048) (⟨h.val * 256 + e.val, by omega⟩ : Fin 2048))
          else a4 (ix3 b (⟨s.val - 2048, by omega⟩ : Fin 256) (⟨e.val - 128, by omega⟩ : Fin 64))) := by
  unfold kAll
  rw [kJoin_at]
  split
  · rw [kLat_at]
  · rw [kCtx_at]

theorem vAll_at (a2 : FVec Ideal S16384x2048 .f32) (a3 : FVec Ideal S2048x2048 .f32) (b : Fin 8) (s : Fin 2304) (h : Fin 8) (d : Fin 128) :
    vAll a2 a3 (ix4 b s h d) = if hs : s.val < 2048 then a2 (ix2 (⟨b.val * 2048 + s.val, by omega⟩ : Fin 16384) (⟨h.val * 256 + 128 + d.val, by omega⟩ : Fin 2048))
      else a3 (ix2 (⟨b.val * 256 + (s.val - 2048), by omega⟩ : Fin 2048) (⟨h.val * 256 + 128 + d.val, by omega⟩ : Fin 2048)) := by
  pointwise [vAll] <;> (repeat' split) <;> first | (exfalso; omega) | rfl | blk_ext []

/-- THE REFERENCE AT AN INDEX: one attention value, of the batch, the head and the query the index names. -/
theorem ref_at (a0 : FVec Ideal S16384x1536 .f32) (a1 : FVec Ideal S16384x64 .f32) (a2 : FVec Ideal S16384x2048 .f32) (a3 : FVec Ideal S2048x2048 .f32)
    (a4 : FVec Ideal S8x256x64 .f32) (i : Fin 16384) (j : Fin 1024) :
    REF a0 a1 a2 a3 a4 (ix2 i j) = attR Cert.MlaIdeal.Pay.sc (fun e : Fin 192 => a0 (ix2 i (⟨j.val / 128 * 192 + e.val, by omega⟩ : Fin 1536)))
      (fun (s : Fin 2304) e => kAll a1 a2 a3 a4 (ix4 (⟨i.val / 2048, by omega⟩ : Fin 8) s (⟨j.val / 128, by omega⟩ : Fin 8) e))
      (fun s : Fin 2304 => vAll a2 a3 (ix4 (⟨i.val / 2048, by omega⟩ : Fin 8) s (⟨j.val / 128, by omega⟩ : Fin 8) (⟨j.val % 128, by omega⟩ : Fin 128))) := by
  have hq : ∀ e : Fin 192, qs a0 (ix5 (⟨i.val / 2048, by omega⟩ : Fin 8) (⟨i.val % 2048, by omega⟩ : Fin 2048)
      (⟨j.val / 128, by omega⟩ : Fin 8) (0 : Fin 1) e) = a0 (ix2 i (⟨j.val / 128 * 192 + e.val, by omega⟩ : Fin 1536)) := fun e => by
    rw [qs_at]; blk_ext []
  unfold REF attR
  rw [mean_at]
  simp only [soft_at, expo_at, top_at, rmax_at, scores_at, hq, Cert.MlaIdeal.Pay.ninf]

end Cert.MlaRefIdeal.At

end
-- ==== Proof.MlaFin.lean ====
/- The kernel's latent attention: what its output array holds, index by index. -/
module

public import proofs.«01_k».proof.Proof.MlaHost
public import proofs.«01_k».proof.Proof.Real
public import proofs.«01_k».proof.Proof.MlaRef

@[expose] public section

set_option maxRecDepth 16384

noncomputable section

namespace Cert.MlaIdeal.Fin

open Cert.MlaIdeal Cert.MlaIdeal.Gen Cert.MlaIdeal.Pay Cert.MlaIdeal.Host Idealize.ShloMosaic Idealize.ShloMosaic.TcCoe Cert.Softmax

variable (m : (ℓ : Loc nD τ sig) → Buf (Elt Ideal) ℓ)

/-- The windows' block indices at a grid point: batch, group of heads, block of queries. -/
theorem idx : ∀ t : Fin cfg0.N, win0_0.index t = ![(t.val / 8) * 4 + (t.val % 4), 4 + t.val / 4 % 2]
    ∧ win0_1.index t = ![(t.val / 8) * 4 + (t.val % 4), t.val / 4 % 2]
    ∧ win0_2.index t = ![t.val / 8, t.val / 4 % 2]
    ∧ win0_3.index t = ![t.val / 8, 0]
    ∧ win0_4.index t = ![(t.val / 8) * 4 + (t.val % 4), t.val / 4 % 2] :=
  (by decide +kernel : ∀ t : Fin grid0.N, _)

theorem t_lt (t : Fin cfg0.N) : t.val < 64 := lt_of_lt_of_eq t.isLt N_0

/-- The row of the arguments at which a row of a grid point's blocks stands. -/
def row (t : Fin cfg0.N) (r : Fin 512) : Fin 16384 := ⟨(t.val / 8 * 4 + t.val % 4) * 512 + r.val, by have := t_lt t; omega⟩

/-- The queries' parts without rotation in a grid point's block. -/
theorem x0_at (c : Dev nD) (t : Fin cfg0.N) (r : Fin 512) (h : Fin 4) (e : Fin 128) :
    iblk m c 0 t (ix2 r (⟨h.val * 128 + e.val, by omega⟩ : Fin 512)) = (m ((c.tc : Thread nD τ).loc main_arg0))
      (ix2 (row t r) (⟨(t.val / 4 % 2 * 4 + h.val) * 192 + e.val, by omega⟩ : Fin 1536)) := by
  have := t_lt t
  obtain ⟨e0, e1, e2, e3, e4⟩ := idx t
  have h' : iblk m c 0 t (ix2 r (⟨h.val * 128 + e.val, by omega⟩ : Fin 512)) = V m c main_v15 (ix2 (row t r)
      (⟨2048 + (t.val / 4 % 2 * 512 + (h.val * 128 + e.val)), by omega⟩ : Fin 3072)) := by
    unfold row
    blk_ext [iblk, e0]
  refine h'.trans ((congrFun (v15_eq m c) _).trans ((arr_n _ _ _ _ (by dsimp only; omega)).trans ?_))
  blk_ext []

/-- The queries' rotary parts in a grid point's block. -/
theorem x1_at (c : Dev nD) (t : Fin cfg0.N) (r : Fin 512) (h : Fin 4) (e : Fin 128) :
    X0_1 m c t (ix2 r (⟨h.val * 128 + e.val, by omega⟩ : Fin 512)) = (if he : e.val < 64 then ((m ((c.tc : Thread nD τ).loc main_arg0))
      (ix2 (row t r) (⟨(t.val / 4 % 2 * 4 + h.val) * 192 + (128 + e.val), by omega⟩ : Fin 1536)) : EReal) else (0 : EReal) : EReal) := by
  have := t_lt t
  obtain ⟨e0, e1, e2, e3, e4⟩ := idx t
  have h' : X0_1 m c t (ix2 r (⟨h.val * 128 + e.val, by omega⟩ : Fin 512)) = V m c main_v16 (ix2 (row t r)
      (⟨t.val / 4 % 2 * 512 + (h.val * 128 + e.val), by omega⟩ : Fin 1152)) := by
    unfold row X0_1 Pipeline.Window.fill
    rw [dif_pos (moved0_1 t _)]
    blk_ext [iblk, e1]
  refine h'.trans ((congrFun (v16_eq m c) _).trans ((rot_r _ _ _ _ (by dsimp only; omega)).trans ?_))
  have hm : (t.val / 4 % 2 * 512 + (h.val * 128 + e.val)) % 128 = e.val := by omega
  have hd : (t.val / 4 % 2 * 512 + (h.val * 128 + e.val)) / 128 = t.val / 4 % 2 * 4 + h.val := by omega
  simp only [hm, hd]

/-- The keys and values in a grid point's block. -/
theorem kv_at (c : Dev nD) (t : Fin cfg0.N) (s : Fin 2304) (j : Fin 1024) :
    iblk m c 2 t (ix2 s j) = if hs : s.val < 2048 then (m ((c.tc : Thread nD τ).loc main_arg2))
        (ix2 (⟨t.val / 8 * 2048 + s.val, by have := t_lt t; omega⟩ : Fin 16384) (⟨t.val / 4 % 2 * 1024 + j.val, by omega⟩ : Fin 2048))
      else (m ((c.tc : Thread nD τ).loc main_arg3))
        (ix2 (⟨t.val / 8 * 256 + (s.val - 2048), by have := t_lt t; omega⟩ : Fin 2048) (⟨t.val / 4 % 2 * 1024 + j.val, by omega⟩ : Fin 2048)) := by
  have := t_lt t
  obtain ⟨e0, e1, e2, e3, e4⟩ := idx t
  have h' : iblk m c 2 t (ix2 s j) = V m c main_v21 (ix2 (⟨t.val / 8 * 2304 + s.val, by omega⟩ : Fin 18432)
      (⟨t.val / 4 % 2 * 1024 + j.val, by omega⟩ : Fin 2048)) := by
    blk_ext [iblk, e2]
  exact h'.trans ((congrFun (v21_eq m c) _).trans (kvs_at _ _ (⟨t.val / 8, by omega⟩ : Fin 8) s _))

/-- The rotary keys in a grid point's block. -/
theorem kr_at (c : Dev nD) (t : Fin cfg0.N) (s : Fin 2304) (j : Fin 64) :
    iblk m c 3 t (ix2 s (⟨j.val, by omega⟩ : Fin 128)) = if hs : s.val < 2048 then (m ((c.tc : Thread nD τ).loc main_arg1))
        (ix2 (⟨t.val / 8 * 2048 + s.val, by have := t_lt t; omega⟩ : Fin 16384) j)
      else (m ((c.tc : Thread nD τ).loc main_arg4)) (ix3 (⟨t.val / 8, by have := t_lt t; omega⟩ : Fin 8) (⟨s.val - 2048, by omega⟩ : Fin 256) j) := by
  have := t_lt t
  obtain ⟨e0, e1, e2, e3, e4⟩ := idx t
  have h' : iblk m c 3 t (ix2 s (⟨j.val, by omega⟩ : Fin 128)) = V m c main_v28 (ix2 (⟨t.val / 8 * 2304 + s.val, by omega⟩ : Fin 18432)
      (⟨j.val, by omega⟩ : Fin 128)) := by
    blk_ext [iblk, e3]
  refine h'.trans ((congrFun (v28_eq m c) _).trans ((krs_at _ _ (⟨t.val / 8, by omega⟩ : Fin 8) s _ j.isLt).trans ?_))
  split
  · exact rot_k _ _ _ j
  · rfl

/-- What a grid point leaves at an index of its output block. -/
theorem out_at (c : Dev nD) (t : Fin cfg0.N) (y : S512x512.Idx) (y0 y1 : Fin 512) (hy0 : y0.val = (y 0).val) (hy1 : y1.val = (y 1).val) :
    outsAt0 m c t y = attK sc (two (fun e : Fin 128 => iblk m c 0 t (ix2 y0 (⟨y1.val / 128 * 128 + e.val, by omega⟩ : Fin 512)))
        (fun e : Fin 128 => X0_1 m c t (ix2 y0 (⟨y1.val / 128 * 128 + e.val, by omega⟩ : Fin 512))))
      (fun (s : Fin 2304) => two (fun e : Fin 128 => iblk m c 2 t (ix2 s (⟨y1.val / 128 * 256 + e.val, by omega⟩ : Fin 1024))) (fun e : Fin 128 => iblk m c 3 t (ix2 s e)))
      (fun s => iblk m c 2 t (ix2 s (⟨y1.val / 128 * 256 + 128 + y1.val % 128, by omega⟩ : Fin 1024))) := by
  unfold outsAt0; frame_out
  canon_tiles x h
  case piece0 =>
    obtain ⟨a, b, rfl⟩ : ∃ (a : Fin 512) (b : Fin 128), x = ix2 a b := ⟨x 0, x 1, by blk_ext []⟩
    have h0 : (y 0).val = a.val := h0
    have h1 : (y 1).val = 384 + b.val := h1
    rw [pay18_at]
    refine congrArg₃ (attK sc) (funext fun e => two_congr (fun e => ?_) (fun e => ?_) e) (funext fun s => funext fun e => two_congr (fun e => ?_) (fun e => ?_) e)
      (funext fun s => ?_)
    · generalize iblk m c 0 t = X; pointwise; blk_ext []
    · generalize X0_1 m c t = X; pointwise; blk_ext []
    · generalize iblk m c 2 t = X; pointwise; blk_ext []
    · with_reducible rfl
    · generalize iblk m c 2 t = X; pointwise; blk_ext []
  case piece1 =>
    obtain ⟨a, b, rfl⟩ : ∃ (a : Fin 512) (b : Fin 128), x = ix2 a b := ⟨x 0, x 1, by blk_ext []⟩
    have h0 : (y 0).val = a.val := h0
    have h1 : (y 1).val = 256 + b.val := h1
    rw [pay17_at]
    refine congrArg₃ (attK sc) (funext fun e => two_congr (fun e => ?_) (fun e => ?_) e) (funext fun s => funext fun e => two_congr (fun e => ?_) (fun e => ?_) e)
      (funext fun s => ?_)
    · generalize iblk m c 0 t = X; pointwise; blk_ext []
    · generalize X0_1 m c t = X; pointwise; blk_ext []
    · generalize iblk m c 2 t = X; pointwise; blk_ext []
    · with_reducible rfl
    · generalize iblk m c 2 t = X; pointwise; blk_ext []
  case piece2 =>
    obtain ⟨a, b, rfl⟩ : ∃ (a : Fin 512) (b : Fin 128), x = ix2 a b := ⟨x 0, x 1, by blk_ext []⟩
    have h0 : (y 0).val = a.val := h0
    have h1 : (y 1).val = 128 + b.val := h1
    rw [pay16_at]
    refine congrArg₃ (attK sc) (funext fun e => two_congr (fun e => ?_) (fun e => ?_) e) (funext fun s => funext fun e => two_congr (fun e => ?_) (fun e => ?_) e)
      (funext fun s => ?_)
    · generalize iblk m c 0 t = X; pointwise; blk_ext []
    · generalize X0_1 m c t = X; pointwise; blk_ext []
    · generalize iblk m c 2 t = X; pointwise; blk_ext []
    · with_reducible rfl
    · generalize iblk m c 2 t = X; pointwise; blk_ext []
  case piece3 =>
    obtain ⟨a, b, rfl⟩ : ∃ (a : Fin 512) (b : Fin 128), x = ix2 a b := ⟨x 0, x 1, by blk_ext []⟩
    have h0 : (y 0).val = a.val := h0
    have h1 : (y 1).val = b.val := h1
    rw [pay15_at]
    refine congrArg₃ (attK sc) (funext fun e => two_congr (fun e => ?_) (fun e => ?_) e) (funext fun s => funext fun e => two_congr (fun e => ?_) (fun e => ?_) e)
      (funext fun s => ?_)
    · generalize iblk m c 0 t = X; pointwise; blk_ext []
    · generalize X0_1 m c t = X; pointwise; blk_ext []
    · generalize iblk m c 2 t = X; pointwise; blk_ext []
    · with_reducible rfl
    · generalize iblk m c 2 t = X; pointwise; blk_ext []

/-- An entry of a query over all its 192 lanes. -/
theorem q_at (c : Dev nD) (t : Fin cfg0.N) (r : Fin 512) (h : Fin 4) (e : Fin 192) :
    two (fun e : Fin 128 => iblk m c 0 t (ix2 r (⟨h.val * 128 + e.val, by omega⟩ : Fin 512)))
        (fun e : Fin 128 => X0_1 m c t (ix2 r (⟨h.val * 128 + e.val, by omega⟩ : Fin 512))) (⟨e.val, by omega⟩ : Fin 256)
      = (m ((c.tc : Thread nD τ).loc main_arg0)) (ix2 (row t r) (⟨(t.val / 4 % 2 * 4 + h.val) * 192 + e.val, by omega⟩ : Fin 1536)) := by
  unfold two
  split
  next he => exact x0_at m c t r h (⟨e.val, he⟩ : Fin 128)
  next he =>
    have he' : ¬e.val < 128 := he
    refine (x1_at m c t r h (⟨e.val - 128, by omega⟩ : Fin 128)).trans ?_
    rw [dif_pos (by show e.val - 128 < 64; omega)]
    refine congrArg (fun z : Fin 1536 => (m ((c.tc : Thread nD τ).loc main_arg0)) (ix2 (row t r) z)) (Fin.ext ?_)
    show (t.val / 4 % 2 * 4 + h.val) * 192 + (128 + (e.val - 128)) = (t.val / 4 % 2 * 4 + h.val) * 192 + e.val
    omega

/-- The lanes after those hold zero. -/
theorem q_zero (c : Dev nD) (t : Fin cfg0.N) (r : Fin 512) (h : Fin 4) (e : Fin 256) (h' : 192 ≤ e.val) :
    two (fun e : Fin 128 => iblk m c 0 t (ix2 r (⟨h.val * 128 + e.val, by omega⟩ : Fin 512)))
        (fun e : Fin 128 => X0_1 m c t (ix2 r (⟨h.val * 128 + e.val, by omega⟩ : Fin 512))) e = 0 := by
  unfold two
  rw [dif_neg (by omega)]
  refine (x1_at m c t r h (⟨e.val - 128, by omega⟩ : Fin 128)).trans ?_
  rw [dif_neg (by show ¬e.val - 128 < 64; omega)]

/-- An entry of a key over all its 192 lanes. -/
theorem k_at (c : Dev nD) (t : Fin cfg0.N) (s : Fin 2304) (h : Fin 4) (e : Fin 192) :
    two (fun e : Fin 128 => iblk m c 2 t (ix2 s (⟨h.val * 256 + e.val, by omega⟩ : Fin 1024))) (fun e : Fin 128 => iblk m c 3 t (ix2 s e))
        (⟨e.val, by omega⟩ : Fin 256)
      = Cert.MlaRefIdeal.At.kAll (m ((c.tc : Thread nD τ).loc main_arg1)) (m ((c.tc : Thread nD τ).loc main_arg2)) (m ((c.tc : Thread nD τ).loc main_arg3)) (m ((c.tc : Thread nD τ).loc main_arg4))
          (ix4 (⟨t.val / 8, by have := t_lt t; omega⟩ : Fin 8) s (⟨t.val / 4 % 2 * 4 + h.val, by omega⟩ : Fin 8) e) := by
  have ht := t_lt t
  rw [Cert.MlaRefIdeal.At.kAll_at]
  unfold two
  split
  next he =>
    have he' : e.val < 128 := he
    refine (kv_at m c t s _).trans ?_
    split
    · blk_ext []
    · blk_ext []
  next he =>
    have he' : ¬e.val < 128 := he
    refine (kr_at m c t s (⟨e.val - 128, by omega⟩ : Fin 64)).trans ?_
    split
    · rfl
    · rfl

/-- An entry of a value. -/
theorem v_at (c : Dev nD) (t : Fin cfg0.N) (s : Fin 2304) (h : Fin 4) (d : Fin 128) :
    iblk m c 2 t (ix2 s (⟨h.val * 256 + 128 + d.val, by omega⟩ : Fin 1024))
      = Cert.MlaRefIdeal.At.vAll (m ((c.tc : Thread nD τ).loc main_arg2)) (m ((c.tc : Thread nD τ).loc main_arg3))
          (ix4 (⟨t.val / 8, by have := t_lt t; omega⟩ : Fin 8) s (⟨t.val / 4 % 2 * 4 + h.val, by omega⟩ : Fin 8) d) := by
  have ht := t_lt t
  rw [Cert.MlaRefIdeal.At.vAll_at]
  refine (kv_at m c t s _).trans ?_
  split <;> blk_ext []

/-- What a grid point leaves at an index of its output block, in terms of the arguments. -/
theorem out_args (c : Dev nD) (t : Fin cfg0.N) (a b : Fin 512) :
    outsAt0 m c t (ix2 a b) = attK sc (fun e : Fin 192 => (m ((c.tc : Thread nD τ).loc main_arg0)) (ix2 (row t a) (⟨(t.val / 4 % 2 * 4 + b.val / 128) * 192 + e.val, by omega⟩ : Fin 1536)))
      (fun (s : Fin 2304) (e : Fin 192) => Cert.MlaRefIdeal.At.kAll (m ((c.tc : Thread nD τ).loc main_arg1)) (m ((c.tc : Thread nD τ).loc main_arg2)) (m ((c.tc : Thread nD τ).loc main_arg3)) (m ((c.tc : Thread nD τ).loc main_arg4))
          (ix4 (⟨t.val / 8, by have := t_lt t; omega⟩ : Fin 8) s (⟨t.val / 4 % 2 * 4 + b.val / 128, by omega⟩ : Fin 8) e))
      (fun s => Cert.MlaRefIdeal.At.vAll (m ((c.tc : Thread nD τ).loc main_arg2)) (m ((c.tc : Thread nD τ).loc main_arg3))
          (ix4 (⟨t.val / 8, by have := t_lt t; omega⟩ : Fin 8) s (⟨t.val / 4 % 2 * 4 + b.val / 128, by omega⟩ : Fin 8) (⟨b.val % 128, by omega⟩ : Fin 128))) := by
  refine (out_at m c t (ix2 a b) a b rfl rfl).trans ?_
  refine (attK_pad sc _ _ _ (fun e he => q_zero m c t a (⟨b.val / 128, by omega⟩ : Fin 4) e he)).trans ?_
  exact congrArg₃ (attK sc) (funext fun e => q_at m c t a (⟨b.val / 128, by omega⟩ : Fin 4) e)
    (funext fun s => funext fun e => k_at m c t s (⟨b.val / 128, by omega⟩ : Fin 4) e)
    (funext fun s => v_at m c t s (⟨b.val / 128, by omega⟩ : Fin 4) (⟨b.val % 128, by omega⟩ : Fin 128))

/-- THE OUTPUT ARRAY after the run is the reference's term, where queries and keys are real numbers. -/
theorem final (c : Dev nD)
    (hq : ∀ (i : Fin 16384) (j : Fin 1536), IsReal ((m ((c.tc : Thread nD τ).loc main_arg0)) (ix2 i j)))
    (hr : ∀ (i : Fin 16384) (j : Fin 64), IsReal ((m ((c.tc : Thread nD τ).loc main_arg1)) (ix2 i j)))
    (hk : ∀ (i : Fin 16384) (h : Fin 8) (e : Fin 128), IsReal ((m ((c.tc : Thread nD τ).loc main_arg2)) (ix2 i (⟨h.val * 256 + e.val, by omega⟩ : Fin 2048))))
    (hkc : ∀ (i : Fin 2048) (h : Fin 8) (e : Fin 128), IsReal ((m ((c.tc : Thread nD τ).loc main_arg3)) (ix2 i (⟨h.val * 256 + e.val, by omega⟩ : Fin 2048))))
    (hrc : ∀ (b : Fin 8) (s : Fin 256) (e : Fin 64), IsReal ((m ((c.tc : Thread nD τ).loc main_arg4)) (ix3 b s e))) :
    (dats m 0 c).arrAt 4 cfg0.N = Cert.MlaRefIdeal.At.REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 4 _ (by decide +kernel) fun t hf y => ?_
  have ht := t_lt t
  obtain ⟨e0, e1, e2, e3, e4⟩ := idx t
  obtain ⟨a, b, rfl⟩ : ∃ (a b : Fin 512), y = ix2 a b := ⟨y 0, y 1, by blk_ext []⟩
  have hemb : ((cfg0.win 4).blk t).view.emb (ix2 a b) = ix2 (row t a) (⟨t.val / 4 % 2 * 512 + b.val, by omega⟩ : Fin 1024) := by
    unfold row
    blk_ext [e4]
  obtain ⟨r, hr0, hsc⟩ := sc_real
  have hk' : ∀ b s h e, IsReal (Cert.MlaRefIdeal.At.kAll (m ((c.tc : Thread nD τ).loc main_arg1)) (m ((c.tc : Thread nD τ).loc main_arg2)) (m ((c.tc : Thread nD τ).loc main_arg3)) (m ((c.tc : Thread nD τ).loc main_arg4)) (ix4 b s h e)) := by
    intro b s h e
    rw [Cert.MlaRefIdeal.At.kAll_at]
    split
    · split
      next he => exact hk _ h (⟨e.val, he⟩ : Fin 128)
      next he => exact hr _ _
    · split
      next he => exact hkc _ h (⟨e.val, he⟩ : Fin 128)
      next he => exact hrc _ _ _
  blk_simp
  rw [after0_4, hemb, Cert.MlaRefIdeal.At.ref_at]
  refine (out_args m c t a b).trans ?_
  rw [hsc]
  refine (attention_eq (by omega) _ _ _ r hr0 (fun d => hq _ _) (fun s d => hk' _ _ _ _)).trans ?_
  have hb : (⟨t.val / 8, by omega⟩ : Fin 8) = ⟨(row t a).val / 2048, by omega⟩ := Fin.ext (by
    show t.val / 8 = ((t.val / 8 * 4 + t.val % 4) * 512 + a.val) / 2048; omega)
  have hh : (⟨t.val / 4 % 2 * 4 + b.val / 128, by omega⟩ : Fin 8) = ⟨(t.val / 4 % 2 * 512 + b.val) / 128, by omega⟩ := Fin.ext (by
    show t.val / 4 % 2 * 4 + b.val / 128 = (t.val / 4 % 2 * 512 + b.val) / 128; omega)
  have hd : (⟨b.val % 128, by omega⟩ : Fin 128) = ⟨(t.val / 4 % 2 * 512 + b.val) % 128, by omega⟩ := Fin.ext (by
    show b.val % 128 = (t.val / 4 % 2 * 512 + b.val) % 128; omega)
  rw [hb, hh, hd]
  refine congrArg (fun q => attR (r : EReal) q _ _) (funext fun e => ?_)
  refine congrArg (fun z : Fin 1536 => (m ((c.tc : Thread nD τ).loc main_arg0)) (ix2 (row t a) z)) (Fin.ext ?_)
  show (t.val / 4 % 2 * 4 + b.val / 128) * 192 + e.val = (t.val / 4 % 2 * 512 + b.val) / 128 * 192 + e.val
  omega

end Cert.MlaIdeal.Fin

end
-- ==== Proof.MlaRes.lean ====
/- The reference's run ends in the term `REF`. -/
module

public import proofs.«01_k».proof.Proof.MlaRef

@[expose] public section

set_option maxRecDepth 16384

noncomputable section

namespace Cert.MlaRefIdeal.At

open Cert.MlaRefIdeal Cert.MlaRefIdeal.Gen Idealize.ShloMosaic Idealize.ShloMosaic.TcCoe

/-- `REF` is the term the reference's run leaves in its result. -/
theorem res_eq (m : (ℓ : Loc nD τ sig) → Buf (Elt Ideal) ℓ) (c : Dev nD) :
    Value.res_out0 (F := Ideal) m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v36 REF mean vAll soft expo top rmax scores kAll kJoin kLat kCtx qs
  rfl

end Cert.MlaRefIdeal.At

end
-- ==== Proof.MlaMain.lean ====
/- Latent attention: the kernel's program and the reference's end with the same result. -/
module

public import proofs.«01_k».proof.Defs
public import proofs.«01_k».proof.Proof.Real
public import proofs.«01_k».proof.Proof.MlaFin
public import proofs.«01_k».proof.Proof.MlaRes
public import proofs.«01_k».proof.Proof.Gen.Pre_mla_finite

@[expose] public section

set_option maxRecDepth 16384

noncomputable section

namespace Cert.Proof

open Idealize.ShloMosaic Idealize.SL.Sem Cert.Softmax

section
open Cert.Pre_mla_finite

variable (a0 : FVec Ideal S16384x1536 .f32) (a1 : FVec Ideal S16384x64 .f32) (a2 : FVec Ideal S16384x2048 .f32) (a3 : FVec Ideal S2048x2048 .f32) (a4 : FVec Ideal S8x256x64 .f32)

/-- Where the precondition holds of the queries, they are real. -/
theorem mla_real0 (h : (fn (F := Ideal) a0 a1 a2 a3 a4).1 = fun _ => 1#1) (i : Fin 16384) (j : Fin 1536) : IsReal (a0 (ix2 i j)) := by
  have h' := congrFun h (ix2 i j)
  pointwise [fn] at h'
  exact real_of_abs h'

/-- Where it holds of the rotary keys, they are real. -/
theorem mla_real1 (h : (fn (F := Ideal) a0 a1 a2 a3 a4).2.1 = fun _ => 1#1) (i : Fin 16384) (j : Fin 64) : IsReal (a1 (ix2 i j)) := by
  have h' := congrFun h (ix2 i j)
  pointwise [fn] at h'
  exact real_of_abs h'

/-- Where it holds of the latents' keys, they are real. -/
theorem mla_real2 (h : (fn (F := Ideal) a0 a1 a2 a3 a4).2.2.1 = fun _ => 1#1) (i : Fin 16384) (g : Fin 8) (e : Fin 128) :
    IsReal (a2 (ix2 i (⟨g.val * 256 + e.val, by omega⟩ : Fin 2048))) := by
  have h' := congrFun h (ix3 i g e)
  pointwise [fn] at h'
  exact real_of_abs h'

/-- Where it holds of the cached context's keys, they are real. -/
theorem mla_real3 (h : (fn (F := Ideal) a0 a1 a2 a3 a4).2.2.2.1 = fun _ => 1#1) (i : Fin 2048) (g : Fin 8) (e : Fin 128) :
    IsReal (a3 (ix2 i (⟨g.val * 256 + e.val, by omega⟩ : Fin 2048))) := by
  have h' := congrFun h (ix3 i g e)
  pointwise [fn] at h'
  exact real_of_abs h'

/-- Where it holds of the cached context's rotary keys, they are real. -/
theorem mla_real4 (h : (fn (F := Ideal) a0 a1 a2 a3 a4).2.2.2.2 = fun _ => 1#1) (b : Fin 8) (s : Fin 256) (e : Fin 64) : IsReal (a4 (ix3 b s e)) := by
  have h' := congrFun h (ix3 b s e)
  pointwise [fn] at h'
  exact real_of_abs h'

end

/-- The kernel's latent attention and the reference's end with the same array, where queries and keys are finite. -/
theorem algebraic_mla : Cert.algebraic_MlaIdeal_MlaRefIdeal_pre_mla_finite := by
  pair_intro
  · run_from Cert.MlaIdeal.Value.run_blocks m g
  · run_from Cert.MlaRefIdeal.Value.run m' g'
    refine Eq.trans ?_ (Cert.MlaIdeal.Fin.final m c (fun i j => mla_real0 _ _ _ _ _ (hpre c).1 i j) (fun i j => mla_real1 _ _ _ _ _ (hpre c).2.1 i j)
      (fun i g e => mla_real2 _ _ _ _ _ (hpre c).2.2.1 i g e) (fun i g e => mla_real3 _ _ _ _ _ (hpre c).2.2.2.1 i g e)
      (fun b s e => mla_real4 _ _ _ _ _ (hpre c).2.2.2.2 b s e)).symm
    refine (Cert.MlaRefIdeal.At.res_eq m' c).trans ?_
    obtain ⟨h0, h1, h2, h3, h4⟩ := hagree c
    rw [h0, h1, h2, h3, h4]

end Cert.Proof

end
-- ==== Proof.Lin.lean ====
/- A row's modulated norm and its product with a column, on ideal numbers. -/
module

public import proofs.«01_k».proof.Proof.Softmax

@[expose] public section

set_option maxRecDepth 16384

noncomputable section

namespace Cert.Lin

open Idealize.ShloMosaic

/-- An entry of a row normed by its root mean square, times the gain, times one more than the scale, plus the shift. -/
def modn (x g s h : Fin 2048 → EReal) (k : Fin 2048) : EReal :=
  x k * Ideal.rsqrt (Ideal.div (∑ e, x e * x e) (Ideal.ofBits .f32 0x45000000#32) + Ideal.ofBits .f32 0x358637BD#32) * g k * (1 + s k) + h k

/-- The product of such a row with a column of the weights. -/
def lin (x g s h w : Fin 2048 → EReal) : EReal := ∑ k, modn x g s h k * w k

theorem lin_congr {x x' g g' s s' h h' w w' : Fin 2048 → EReal} (hx : ∀ k, x k = x' k) (hg : ∀ k, g k = g' k) (hs : ∀ k, s k = s' k)
    (hh : ∀ k, h k = h' k) (hw : ∀ k, w k = w' k) : lin x g s h w = lin x' g' s' h' w' := by
  rw [funext hx, funext hg, funext hs, funext hh, funext hw]

theorem modn_congr {x x' g g' s s' h h' : Fin 2048 → EReal} (hx : ∀ k, x k = x' k) (hg : ∀ k, g k = g' k) (hs : ∀ k, s k = s' k)
    (hh : ∀ k, h k = h' k) (k : Fin 2048) : modn x g s h k = modn x' g' s' h' k := by
  rw [funext hx, funext hg, funext hs, funext hh]

/-- A column of zeros gives zero. -/
theorem lin_zero (x g s h : Fin 2048 → EReal) : lin x g s h (fun _ => 0) = 0 := by
  unfold lin
  simp

/-- An entry of a row normed by its root mean square, times the gain. -/
def rms (x g : Fin 2048 → EReal) (k : Fin 2048) : EReal :=
  x k * Ideal.rsqrt (Ideal.div (∑ e, x e * x e) (Ideal.ofBits .f32 0x45000000#32) + Ideal.ofBits .f32 0x358637BD#32) * g k

/-- An entry of a row of 128 normed by its root mean square, times the gain. -/
def rmsh (x g : Fin 128 → EReal) (k : Fin 128) : EReal :=
  x k * Ideal.rsqrt (Ideal.div (∑ e, x e * x e) (Ideal.ofBits .f32 0x43000000#32) + Ideal.ofBits .f32 0x358637BD#32) * g k

/-- A sum over 2048 is the sum over the first 1024 plus that over the others. -/
theorem sum_halves (f : Fin 2048 → EReal) :
    ∑ k, f k = ∑ k : Fin 1024, f ⟨k.val, by omega⟩ + ∑ k : Fin 1024, f ⟨1024 + k.val, by omega⟩ :=
  Fin.sum_univ_add (a := 1024) (b := 1024) f

/-- The integer zero is the number zero. -/
theorem sitofp_zero : FloatOps.sitofp (F := Ideal) .f32 (0#32) = (0 : EReal) := by
  show (((0#32 : BitVec 32).toInt : ℝ) : EReal) = 0
  simp

end Cert.Lin

end
-- ==== Proof.InARef.lean ====
/- The reference's input projection, stage by stage, and read at an index. -/
module

public import proofs.«01_k».proof.Proof.Lin
public import proofs.«01_k».proof.Proof.Gen.InARefIdeal.Run

@[expose] public section

set_option maxRecDepth 16384

noncomputable section

namespace Cert.InARefIdeal.At

open Cert.InARefIdeal Cert.InARefIdeal.Gen Idealize.ShloMosaic Idealize.ShloMosaic.TcCoe Cert.Lin

/-- The rows normed and modulated. -/
def nrm (a0 : FVec Ideal S4096x2048 .f32) (a1 : FVec Ideal S2048 .f32) (a2 : FVec Ideal S1x12288 .f32) : FVec Ideal S16x256x2048 .f32 :=
  (addf (mulf (mulf (mulf (shapeCast _ a0 shapeCasts_S4096x2048_S16x256x2048) (broadcastInDim S16x256x2048 ![0, 1, 2] bcast_S16x256x1_S16x256x2048_0_1_2 (Host.rsqrt (addf (Host.divf (broadcastInDim S16x256x1 ![0, 1] bcast_S16x256_S16x256x1_0_1 (Host.reduceAdd (mulf (shapeCast _ a0 shapeCasts_S4096x2048_S16x256x2048) (shapeCast _ a0 shapeCasts_S4096x2048_S16x256x2048)) (constant S_ .f32 0x00000000#32) reducesTo_S16x256x2048_S16x256_d2 h_S_)) (broadcastInDim S16x256x1 ![] bcast_S_S16x256x1 (constant S_ .f32 0x45000000#32))) (broadcastInDim S16x256x1 ![] bcast_S_S16x256x1 (constant S_ .f32 0x358637BD#32)))))) (broadcastInDim S16x256x2048 ![0, 1, 2] bcast_S1x1x2048_S16x256x2048_0_1_2 (broadcastInDim S1x1x2048 ![2] bcast_S2048_S1x1x2048_2 a1))) (broadcastInDim S16x256x2048 ![0, 1, 2] bcast_S1x1x2048_S16x256x2048_0_1_2 (addf (broadcastInDim S1x1x2048 ![] bcast_S_S1x1x2048 (constant S_ .f32 0x3F800000#32)) (extractStridedSlice S1x1x2048 ![0, 0, 2048] (broadcastInDim S1x1x12288 ![0, 2] bcast_S1x12288_S1x1x12288_0_2 a2) slices_S1x1x12288_S1x1x2048_0_0_2048)))) (broadcastInDim S16x256x2048 ![0, 1, 2] bcast_S1x1x2048_S16x256x2048_0_1_2 (extractStridedSlice S1x1x2048 ![0, 0, 0] (broadcastInDim S1x1x12288 ![0, 2] bcast_S1x12288_S1x1x12288_0_2 a2) slices_S1x1x12288_S1x1x2048_0_0_0)))

/-- The product's first columns, rows one after the other. -/
def cols (N : FVec Ideal S16x256x2048 .f32) (a3 : FVec Ideal S2048x4992 .f32) : FVec Ideal S4096x1536 .f32 :=
  shapeCast _ (extractStridedSlice S16x256x1536 ![0, 0, 0] (Host.dotGeneral dot_S16x256x2048_S2048x4992_S16x256x4992_2_0_01_1_n_n none N a3) slices_S16x256x4992_S16x256x1536_0_0_0) shapeCasts_S16x256x1536_S4096x1536

/-- The weights' column that gives a column of the result. -/
def wcol (a3 : FVec Ideal S2048x4992 .f32) (j : Fin 1536) (k : Fin 2048) : EReal := a3 (ix2 k (⟨j.val, by omega⟩ : Fin 4992))

/-- The whole reference. -/
def REF (a0 : FVec Ideal S4096x2048 .f32) (a1 : FVec Ideal S2048 .f32) (a2 : FVec Ideal S1x12288 .f32) (a3 : FVec Ideal S2048x4992 .f32) :
    FVec Ideal S4096x1536 .f32 :=
  cols (nrm a0 a1 a2) a3

theorem nrm_at (a0 : FVec Ideal S4096x2048 .f32) (a1 : FVec Ideal S2048 .f32) (a2 : FVec Ideal S1x12288 .f32) (b : Fin 16) (s : Fin 256) (k : Fin 2048) :
    nrm a0 a1 a2 (ix3 b s k) = modn (fun e => a0 (ix2 (⟨b.val * 256 + s.val, by omega⟩ : Fin 4096) e)) (fun e => a1 (ix1 e))
      (fun e => a2 (ix2 0 (⟨2048 + e.val, by omega⟩ : Fin 12288))) (fun e => a2 (ix2 0 (⟨e.val, by omega⟩ : Fin 12288))) k := by
  pointwise [nrm]
  rfl

theorem cols_at (N : FVec Ideal S16x256x2048 .f32) (a3 : FVec Ideal S2048x4992 .f32) (r : Fin 4096) (j : Fin 1536) :
    cols N a3 (ix2 r j) = ∑ k, N (ix3 (⟨r.val / 256, by omega⟩ : Fin 16) (⟨r.val % 256, by omega⟩ : Fin 256) k) * wcol a3 j k := by
  pointwise [cols]
  rfl

/-- The reference at an index: the product of the row's modulated norm with its column. -/
theorem ref_at (a0 : FVec Ideal S4096x2048 .f32) (a1 : FVec Ideal S2048 .f32) (a2 : FVec Ideal S1x12288 .f32) (a3 : FVec Ideal S2048x4992 .f32)
    (r : Fin 4096) (j : Fin 1536) :
    REF a0 a1 a2 a3 (ix2 r j) = lin (fun e => a0 (ix2 r e)) (fun e => a1 (ix1 e))
      (fun e => a2 (ix2 (0 : Fin 1) (⟨2048 + e.val, by omega⟩ : Fin 12288)))
      (fun e => a2 (ix2 (0 : Fin 1) (⟨e.val, by omega⟩ : Fin 12288))) (wcol a3 j) := by
  unfold REF lin
  refine (cols_at _ a3 r j).trans (Finset.sum_congr rfl fun k _ => congrArg (· * wcol a3 j k) ?_)
  refine (nrm_at a0 a1 a2 _ _ k).trans (modn_congr (fun e => ?_) (fun e => rfl) (fun e => rfl) (fun e => rfl) k)
  blk_ext []

end Cert.InARefIdeal.At

end
-- ==== Proof.InAFin.lean ====
/- The kernel's input projection: what its output array holds, index by index. -/
module

public import proofs.«01_k».proof.Proof.InARef
public import proofs.«01_k».proof.Proof.Gen.InAIdeal.Value

@[expose] public section

set_option maxRecDepth 16384

noncomputable section

namespace Cert.InAIdeal.Fin

open Cert.InAIdeal Cert.InAIdeal.Gen Idealize.ShloMosaic Idealize.ShloMosaic.TcCoe Cert.Lin

variable (m : (ℓ : Loc nD τ sig) → Buf (Elt Ideal) ℓ)

theorem pay1_at (X : Vec Ideal S512x2048 .f32) (G : Vec Ideal S1x2048 .f32) (A B : Vec Ideal S1x1x2048 .f32) (r : Fin 512) (k : Fin 2048) :
    k0_pay1 (F := Ideal) X G A B (ix2 r k)
      = modn (fun e => X (ix2 r e)) (fun e => G (ix2 0 e)) (fun e => A (ix3 0 0 e)) (fun e => B (ix3 0 0 e)) k := by
  pointwise [k0_pay1]
  rfl

theorem pay2_at (X : Vec Ideal S512x2048 .bf16) (U : Vec Ideal S2048x1536 .bf16) (r : Fin 512) (j : Fin 1536) :
    k0_pay2 (F := Ideal) X U (ix2 r j) = ∑ k, X (ix2 r k) * U (ix2 k j) := by
  pointwise [k0_pay2]

/-- The windows' block indices at a grid point. -/
theorem idx : ∀ t : Fin cfg0.N, win0_0.index t = ![t.val, 0]
    ∧ win0_1.index t = ![0, 0]
    ∧ win0_2.index t = ![0, 0, 0]
    ∧ win0_3.index t = ![0, 0]
    ∧ win0_4.index t = ![t.val, 0] :=
  (by decide +kernel : ∀ t : Fin grid0.N, _)

theorem t_lt (t : Fin cfg0.N) : t.val < 8 := lt_of_lt_of_eq t.isLt N_0

/-- The block of rows a grid point reads. -/
theorem x_at (c : Dev nD) (t : Fin cfg0.N) (r : Fin 512) (k : Fin 2048) :
    iblk m c 0 t (ix2 r k) = m ((c.tc : Thread nD τ).loc main_arg0)
      (ix2 (⟨t.val * 512 + r.val, by have := t_lt t; omega⟩ : Fin 4096) k) := by
  obtain ⟨e0, e1, e2, e3, e4⟩ := idx t
  blk_ext [iblk, V, e0]

theorem gain_at (c : Dev nD) (i : Fin 1) (k : Fin 2048) :
    V m c main_v3 (ix2 i k) = m ((c.tc : Thread nD τ).loc main_arg1) (ix1 k) := by
  entry_read
  pointwise <;> blk_point []

/-- The gain a grid point reads. -/
theorem g_at (c : Dev nD) (t : Fin cfg0.N) (k : Fin 2048) :
    iblk m c 1 t (ix2 (0 : Fin 1) k) = m ((c.tc : Thread nD τ).loc main_arg1) (ix1 k) := by
  obtain ⟨e0, e1, e2, e3, e4⟩ := idx t
  have h : iblk m c 1 t (ix2 (0 : Fin 1) k) = V m c main_v3 (ix2 (0 : Fin 1) k) := by
    blk_ext [iblk, e1]
  exact h.trans (gain_at m c _ k)

theorem mods_at (c : Dev nD) (b : Fin 1) (i : Fin 6) (k : Fin 2048) :
    V m c main_v2 (ix3 b i k) = m ((c.tc : Thread nD τ).loc main_arg2) (ix2 b (⟨i.val * 2048 + k.val, by omega⟩ : Fin 12288)) := by
  entry_read
  pointwise <;> blk_point []

/-- The modulation a grid point reads. -/
theorem s_at (c : Dev nD) (t : Fin cfg0.N) (i : Fin 6) (k : Fin 2048) :
    iblk m c 2 t (ix3 (0 : Fin 1) i k) = m ((c.tc : Thread nD τ).loc main_arg2)
      (ix2 (0 : Fin 1) (⟨i.val * 2048 + k.val, by omega⟩ : Fin 12288)) := by
  obtain ⟨e0, e1, e2, e3, e4⟩ := idx t
  have := t_lt t
  have h : iblk m c 2 t (ix3 (0 : Fin 1) i k) = V m c main_v2 (ix3 (0 : Fin 1) i k) := by
    blk_ext [iblk, e2]
  exact h.trans (mods_at m c _ i k)

/-- The weights the call is given are the reference's columns. -/
theorem weights_at (c : Dev nD) (k : Fin 2048) (j : Fin 1536) :
    V m c main_v1 (ix2 k j) = Cert.InARefIdeal.At.wcol (m ((c.tc : Thread nD τ).loc main_arg3)) j k := by
  unfold Cert.InARefIdeal.At.wcol
  entry_read
  pointwise <;> blk_point []

/-- The block of weights a grid point reads. -/
theorem w_at (c : Dev nD) (t : Fin cfg0.N) (k : Fin 2048) (j : Fin 1536) :
    iblk m c 3 t (ix2 k j) = Cert.InARefIdeal.At.wcol (m ((c.tc : Thread nD τ).loc main_arg3))
      (⟨0 * 1536 + j.val, by omega⟩ : Fin 1536) k := by
  obtain ⟨e0, e1, e2, e3, e4⟩ := idx t
  have h : iblk m c 3 t (ix2 k j) = V m c main_v1 (ix2 k (⟨0 * 1536 + j.val, by omega⟩ : Fin 1536)) := by
    blk_ext [iblk, e3]
  exact h.trans (weights_at m c k _)

/-- The normed rows of a grid point's block. -/
def rows (c : Dev nD) (t : Fin cfg0.N) (r : Fin 512) (k : Fin 2048) : EReal :=
  modn (fun e => m ((c.tc : Thread nD τ).loc main_arg0) (ix2 (⟨t.val * 512 + r.val, by have := t_lt t; omega⟩ : Fin 4096) e))
    (fun e => m ((c.tc : Thread nD τ).loc main_arg1) (ix1 e))
    (fun e => m ((c.tc : Thread nD τ).loc main_arg2) (ix2 (0 : Fin 1) (⟨2048 + e.val, by omega⟩ : Fin 12288)))
    (fun e => m ((c.tc : Thread nD τ).loc main_arg2) (ix2 (0 : Fin 1) (⟨e.val, by omega⟩ : Fin 12288))) k

theorem scale_at (X : Vec Ideal S1x6x2048 .f32) (e : Fin 2048) :
    View.ld X (Rect.unit ![0, 1, 0] ![1, 1, 2048] inb_S1x6x2048_S1x1x2048_0_1_0) (ix3 (0 : Fin 1) (0 : Fin 1) e) = X (ix3 (0 : Fin 1) (1 : Fin 6) e) := by
  pointwise

theorem shift_at (X : Vec Ideal S1x6x2048 .f32) (e : Fin 2048) :
    View.ld X (Rect.unit ![0, 0, 0] ![1, 1, 2048] inb_S1x6x2048_S1x1x2048_0_0_0) (ix3 (0 : Fin 1) (0 : Fin 1) e) = X (ix3 (0 : Fin 1) (0 : Fin 6) e) := by
  pointwise

/-- The normed rows, from a grid point's blocks. -/
theorem norm_at (c : Dev nD) (t : Fin cfg0.N) (r : Fin 512) (k : Fin 2048) :
    k0_pay1 (F := Ideal) (iblk m c 0 t) (iblk m c 1 t)
      (View.ld (iblk m c 2 t) (Rect.unit ![0, 1, 0] ![1, 1, 2048] inb_S1x6x2048_S1x1x2048_0_1_0))
      (View.ld (iblk m c 2 t) (Rect.unit ![0, 0, 0] ![1, 1, 2048] inb_S1x6x2048_S1x1x2048_0_0_0)) (ix2 r k) = rows m c t r k := by
  refine (pay1_at _ _ _ _ r k).trans (modn_congr (fun e => ?_) (fun e => ?_) (fun e => ?_) (fun e => ?_) k)
  · exact x_at m c t r e
  · exact g_at m c t e
  · exact (scale_at _ e).trans (s_at m c t 1 e)
  · refine (shift_at _ e).trans ((s_at m c t 0 e).trans ?_)
    blk_ext []

/-- What a grid point leaves at an index of its output block. -/
theorem out_at (c : Dev nD) (t : Fin cfg0.N) (r : Fin 512) (j : Fin 1536) :
    outsAt0 m c t (ix2 r j) = ∑ k, rows m c t r k * iblk m c 3 t (ix2 k j) := by
  unfold outsAt0; frame_out
  refine (pay2_at _ _ r j).trans ?_
  refine Finset.sum_congr rfl fun k _ => ?_
  refine congrArg (fun z : EReal => z * iblk m c 3 t (ix2 k j)) ?_
  exact norm_at m c t r k

/-- THE OUTPUT ARRAY after the run is the reference's term. -/
theorem final (c : Dev nD) :
    (dats m 0 c).arrAt 4 cfg0.N = Cert.InARefIdeal.At.REF (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  have ht := t_lt t
  obtain ⟨e0, e1, e2, e3, e4⟩ := idx t
  obtain ⟨a, b, rfl⟩ : ∃ (a : Fin 512) (b : Fin 1536), y = ix2 a b := ⟨y 0, y 1, by blk_ext []⟩
  have hemb : ((cfg0.win 4).blk t).view.emb (ix2 a b) = ix2 (⟨t.val * 512 + a.val, by omega⟩ : Fin 4096)
      (⟨0 * 1536 + b.val, by omega⟩ : Fin 1536) := by
    blk_ext [e4]
  blk_simp
  rw [after0_4, hemb, Cert.InARefIdeal.At.ref_at]
  refine (out_at m c t a b).trans ?_
  unfold lin rows
  refine Finset.sum_congr rfl fun k _ => congrArg₂ (· * ·) (modn_congr (fun e => rfl) (fun e => rfl) (fun e => ?_) (fun e => ?_) k) (w_at m c t k b)
  all_goals blk_ext []

end Cert.InAIdeal.Fin

end
-- ==== Proof.InARes.lean ====
/- The reference's result is the stages' composition. -/
module

public import proofs.«01_k».proof.Proof.InARef

@[expose] public section

set_option maxRecDepth 16384

noncomputable section

namespace Cert.InARefIdeal.At

open Cert.InARefIdeal Cert.InARefIdeal.Gen Idealize.ShloMosaic Idealize.ShloMosaic.TcCoe Idealize.SL.Sem

/-- What the reference's run leaves is the stages' composition of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = REF (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold REF cols nrm
  exact (θ_run _ _ _).mono (fun r h c => h c) (Cert.InARefIdeal.Value.run (F := Ideal) m ρ)

end Cert.InARefIdeal.At

end
-- ==== Proof.InAMain.lean ====
/- The input projection: the kernel's program and the reference's end with the same result. -/
module

public import proofs.«01_k».proof.Defs
public import proofs.«01_k».proof.Proof.InAFin
public import proofs.«01_k».proof.Proof.InARes

@[expose] public section

set_option maxRecDepth 16384

noncomputable section

namespace Cert.Proof

open Idealize.ShloMosaic Idealize.SL.Sem

/-- The kernel's product of the modulated norm with its weights and the reference's end with the same array. -/
theorem algebraic_ina : Cert.algebraic_InAIdeal_InARefIdeal := by
  pair_intro
  · run_from Cert.InAIdeal.Value.run_blocks m g
  · run_from Cert.InARefIdeal.At.run m' g'
    exact (Cert.InAIdeal.Fin.final m c).symm

end Cert.Proof

end
-- ==== Proof.InBRef.lean ====
/- The reference's input projection, stage by stage, and read at an index. -/
module

public import proofs.«01_k».proof.Proof.Lin
public import proofs.«01_k».proof.Proof.Gen.InBRefIdeal.Run

@[expose] public section

set_option maxRecDepth 16384

noncomputable section

namespace Cert.InBRefIdeal.At

open Cert.InBRefIdeal Cert.InBRefIdeal.Gen Idealize.ShloMosaic Idealize.ShloMosaic.TcCoe Cert.Lin

/-- The rows normed and modulated. -/
def nrm (a0 : FVec Ideal S16384x2048 .f32) (a1 : FVec Ideal S2048 .f32) (a2 : FVec Ideal S8x12288 .f32) : FVec Ideal S8x2048x2048 .f32 :=
  (addf (mulf (mulf (mulf (shapeCast _ a0 shapeCasts_S16384x2048_S8x2048x2048) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (shapeCast _ a0 shapeCasts_S16384x2048_S8x2048x2048) (shapeCast _ a0 shapeCasts_S16384x2048_S8x2048x2048)) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 a1))) (broadcastInDim S8x2048x2048 ![0, 1, 2] bcast_S8x1x2048_S8x2048x2048_0_1_2 (addf (broadcastInDim S8x1x2048 ![] bcast_S_S8x1x2048 (constant S_ .f32 0x3F800000#32)) (extractStridedSlice S8x1x2048 ![0, 0, 2048] (broadcastInDim S8x1x12288 ![0, 2] bcast_S8x12288_S8x1x12288_0_2 a2) slices_S8x1x12288_S8x1x2048_0_0_2048)))) (broadcastInDim S8x2048x2048 ![0, 1, 2] bcast_S8x1x2048_S8x2048x2048_0_1_2 (extractStridedSlice S8x1x2048 ![0, 0, 0] (broadcastInDim S8x1x12288 ![0, 2] bcast_S8x12288_S8x1x12288_0_2 a2) slices_S8x1x12288_S8x1x2048_0_0_0)))

/-- The product's columns after the first 1536, rows one after the other. -/
def cols (N : FVec Ideal S8x2048x2048 .f32) (a3 : FVec Ideal S2048x4992 .f32) : FVec Ideal S16384x3456 .f32 :=
  shapeCast _ (extractStridedSlice S8x2048x3456 ![0, 0, 1536] (Host.dotGeneral dot_S8x2048x2048_S2048x4992_S8x2048x4992_2_0_01_1_n_n none N a3) slices_S8x2048x4992_S8x2048x3456_0_0_1536) shapeCasts_S8x2048x3456_S16384x3456

/-- The weights' column that gives a column of the result. -/
def wcol (a3 : FVec Ideal S2048x4992 .f32) (j : Fin 3456) (k : Fin 2048) : EReal := a3 (ix2 k (⟨1536 + j.val, by omega⟩ : Fin 4992))

/-- The whole reference. -/
def REF (a0 : FVec Ideal S16384x2048 .f32) (a1 : FVec Ideal S2048 .f32) (a2 : FVec Ideal S8x12288 .f32) (a3 : FVec Ideal S2048x4992 .f32) :
    FVec Ideal S16384x3456 .f32 :=
  cols (nrm a0 a1 a2) a3

theorem nrm_at (a0 : FVec Ideal S16384x2048 .f32) (a1 : FVec Ideal S2048 .f32) (a2 : FVec Ideal S8x12288 .f32) (b : Fin 8) (s : Fin 2048) (k : Fin 2048) :
    nrm a0 a1 a2 (ix3 b s k) = modn (fun e => a0 (ix2 (⟨b.val * 2048 + s.val, by omega⟩ : Fin 16384) e)) (fun e => a1 (ix1 e))
      (fun e => a2 (ix2 b (⟨2048 + e.val, by omega⟩ : Fin 12288))) (fun e => a2 (ix2 b (⟨e.val, by omega⟩ : Fin 12288))) k := by
  pointwise [nrm]
  rfl

theorem cols_at (N : FVec Ideal S8x2048x2048 .f32) (a3 : FVec Ideal S2048x4992 .f32) (r : Fin 16384) (j : Fin 3456) :
    cols N a3 (ix2 r j) = ∑ k, N (ix3 (⟨r.val / 2048, by omega⟩ : Fin 8) (⟨r.val % 2048, by omega⟩ : Fin 2048) k) * wcol a3 j k := by
  pointwise [cols]
  rfl

/-- The reference at an index: the product of the row's modulated norm with its column. -/
theorem ref_at (a0 : FVec Ideal S16384x2048 .f32) (a1 : FVec Ideal S2048 .f32) (a2 : FVec Ideal S8x12288 .f32) (a3 : FVec Ideal S2048x4992 .f32)
    (r : Fin 16384) (j : Fin 3456) :
    REF a0 a1 a2 a3 (ix2 r j) = lin (fun e => a0 (ix2 r e)) (fun e => a1 (ix1 e))
      (fun e => a2 (ix2 (⟨r.val / 2048, by omega⟩ : Fin 8) (⟨2048 + e.val, by omega⟩ : Fin 12288)))
      (fun e => a2 (ix2 (⟨r.val / 2048, by omega⟩ : Fin 8) (⟨e.val, by omega⟩ : Fin 12288))) (wcol a3 j) := by
  unfold REF lin
  refine (cols_at _ a3 r j).trans (Finset.sum_congr rfl fun k _ => congrArg (· * wcol a3 j k) ?_)
  refine (nrm_at a0 a1 a2 _ _ k).trans (modn_congr (fun e => ?_) (fun e => rfl) (fun e => rfl) (fun e => rfl) k)
  blk_ext []

end Cert.InBRefIdeal.At

end
-- ==== Proof.InBFin.lean ====
/- The kernel's input projection: what its output array holds, index by index. -/
module

public import proofs.«01_k».proof.Proof.InBRef
public import proofs.«01_k».proof.Proof.Gen.InBIdeal.Value

@[expose] public section

set_option maxRecDepth 16384

noncomputable section

namespace Cert.InBIdeal.Fin

open Cert.InBIdeal Cert.InBIdeal.Gen Idealize.ShloMosaic Idealize.ShloMosaic.TcCoe Cert.Lin

variable (m : (ℓ : Loc nD τ sig) → Buf (Elt Ideal) ℓ)

theorem pay1_at (X : Vec Ideal S512x2048 .f32) (G : Vec Ideal S1x2048 .f32) (A B : Vec Ideal S1x1x2048 .f32) (r : Fin 512) (k : Fin 2048) :
    k0_pay1 (F := Ideal) X G A B (ix2 r k)
      = modn (fun e => X (ix2 r e)) (fun e => G (ix2 0 e)) (fun e => A (ix3 0 0 e)) (fun e => B (ix3 0 0 e)) k := by
  pointwise [k0_pay1]
  rfl

theorem pay2_at (X : Vec Ideal S512x2048 .bf16) (U : Vec Ideal S2048x1152 .bf16) (r : Fin 512) (j : Fin 1152) :
    k0_pay2 (F := Ideal) X U (ix2 r j) = ∑ k, X (ix2 r k) * U (ix2 k j) := by
  pointwise [k0_pay2]

/-- The windows' block indices at a grid point. -/
theorem idx : ∀ t : Fin cfg0.N, win0_0.index t = ![t.val / 3, 0]
    ∧ win0_1.index t = ![0, 0]
    ∧ win0_2.index t = ![t.val / 12, 0, 0]
    ∧ win0_3.index t = ![0, t.val % 3]
    ∧ win0_4.index t = ![t.val / 3, t.val % 3] :=
  (by decide +kernel : ∀ t : Fin grid0.N, _)

theorem t_lt (t : Fin cfg0.N) : t.val < 96 := lt_of_lt_of_eq t.isLt N_0

/-- The block of rows a grid point reads. -/
theorem x_at (c : Dev nD) (t : Fin cfg0.N) (r : Fin 512) (k : Fin 2048) :
    iblk m c 0 t (ix2 r k) = m ((c.tc : Thread nD τ).loc main_arg0)
      (ix2 (⟨t.val / 3 * 512 + r.val, by have := t_lt t; omega⟩ : Fin 16384) k) := by
  obtain ⟨e0, e1, e2, e3, e4⟩ := idx t
  blk_ext [iblk, V, e0]

theorem gain_at (c : Dev nD) (i : Fin 1) (k : Fin 2048) :
    V m c main_v3 (ix2 i k) = m ((c.tc : Thread nD τ).loc main_arg1) (ix1 k) := by
  entry_read
  pointwise <;> blk_point []

/-- The gain a grid point reads. -/
theorem g_at (c : Dev nD) (t : Fin cfg0.N) (k : Fin 2048) :
    iblk m c 1 t (ix2 (0 : Fin 1) k) = m ((c.tc : Thread nD τ).loc main_arg1) (ix1 k) := by
  obtain ⟨e0, e1, e2, e3, e4⟩ := idx t
  have h : iblk m c 1 t (ix2 (0 : Fin 1) k) = V m c main_v3 (ix2 (0 : Fin 1) k) := by
    blk_ext [iblk, e1]
  exact h.trans (gain_at m c _ k)

theorem mods_at (c : Dev nD) (b : Fin 8) (i : Fin 6) (k : Fin 2048) :
    V m c main_v2 (ix3 b i k) = m ((c.tc : Thread nD τ).loc main_arg2) (ix2 b (⟨i.val * 2048 + k.val, by omega⟩ : Fin 12288)) := by
  entry_read
  pointwise <;> blk_point []

/-- The modulation a grid point reads. -/
theorem s_at (c : Dev nD) (t : Fin cfg0.N) (i : Fin 6) (k : Fin 2048) :
    iblk m c 2 t (ix3 (0 : Fin 1) i k) = m ((c.tc : Thread nD τ).loc main_arg2)
      (ix2 (⟨t.val / 12, by have := t_lt t; omega⟩ : Fin 8) (⟨i.val * 2048 + k.val, by omega⟩ : Fin 12288)) := by
  obtain ⟨e0, e1, e2, e3, e4⟩ := idx t
  have := t_lt t
  have h : iblk m c 2 t (ix3 (0 : Fin 1) i k) = V m c main_v2 (ix3 (⟨t.val / 12, by have := t_lt t; omega⟩ : Fin 8) i k) := by
    blk_ext [iblk, e2]
  exact h.trans (mods_at m c _ i k)

/-- The weights the call is given are the reference's columns. -/
theorem weights_at (c : Dev nD) (k : Fin 2048) (j : Fin 3456) :
    V m c main_v1 (ix2 k j) = Cert.InBRefIdeal.At.wcol (m ((c.tc : Thread nD τ).loc main_arg3)) j k := by
  unfold Cert.InBRefIdeal.At.wcol
  entry_read
  pointwise <;> blk_point []

/-- The block of weights a grid point reads. -/
theorem w_at (c : Dev nD) (t : Fin cfg0.N) (k : Fin 2048) (j : Fin 1152) :
    iblk m c 3 t (ix2 k j) = Cert.InBRefIdeal.At.wcol (m ((c.tc : Thread nD τ).loc main_arg3))
      (⟨t.val % 3 * 1152 + j.val, by omega⟩ : Fin 3456) k := by
  obtain ⟨e0, e1, e2, e3, e4⟩ := idx t
  have h : iblk m c 3 t (ix2 k j) = V m c main_v1 (ix2 k (⟨t.val % 3 * 1152 + j.val, by omega⟩ : Fin 3456)) := by
    blk_ext [iblk, e3]
  exact h.trans (weights_at m c k _)

/-- The normed rows of a grid point's block. -/
def rows (c : Dev nD) (t : Fin cfg0.N) (r : Fin 512) (k : Fin 2048) : EReal :=
  modn (fun e => m ((c.tc : Thread nD τ).loc main_arg0) (ix2 (⟨t.val / 3 * 512 + r.val, by have := t_lt t; omega⟩ : Fin 16384) e))
    (fun e => m ((c.tc : Thread nD τ).loc main_arg1) (ix1 e))
    (fun e => m ((c.tc : Thread nD τ).loc main_arg2) (ix2 (⟨t.val / 12, by have := t_lt t; omega⟩ : Fin 8) (⟨2048 + e.val, by omega⟩ : Fin 12288)))
    (fun e => m ((c.tc : Thread nD τ).loc main_arg2) (ix2 (⟨t.val / 12, by have := t_lt t; omega⟩ : Fin 8) (⟨e.val, by omega⟩ : Fin 12288))) k

theorem scale_at (X : Vec Ideal S1x6x2048 .f32) (e : Fin 2048) :
    View.ld X (Rect.unit ![0, 1, 0] ![1, 1, 2048] inb_S1x6x2048_S1x1x2048_0_1_0) (ix3 (0 : Fin 1) (0 : Fin 1) e) = X (ix3 (0 : Fin 1) (1 : Fin 6) e) := by
  pointwise

theorem shift_at (X : Vec Ideal S1x6x2048 .f32) (e : Fin 2048) :
    View.ld X (Rect.unit ![0, 0, 0] ![1, 1, 2048] inb_S1x6x2048_S1x1x2048_0_0_0) (ix3 (0 : Fin 1) (0 : Fin 1) e) = X (ix3 (0 : Fin 1) (0 : Fin 6) e) := by
  pointwise

/-- The normed rows, from a grid point's blocks. -/
theorem norm_at (c : Dev nD) (t : Fin cfg0.N) (r : Fin 512) (k : Fin 2048) :
    k0_pay1 (F := Ideal) (iblk m c 0 t) (iblk m c 1 t)
      (View.ld (iblk m c 2 t) (Rect.unit ![0, 1, 0] ![1, 1, 2048] inb_S1x6x2048_S1x1x2048_0_1_0))
      (View.ld (iblk m c 2 t) (Rect.unit ![0, 0, 0] ![1, 1, 2048] inb_S1x6x2048_S1x1x2048_0_0_0)) (ix2 r k) = rows m c t r k := by
  refine (pay1_at _ _ _ _ r k).trans (modn_congr (fun e => ?_) (fun e => ?_) (fun e => ?_) (fun e => ?_) k)
  · exact x_at m c t r e
  · exact g_at m c t e
  · exact (scale_at _ e).trans (s_at m c t 1 e)
  · refine (shift_at _ e).trans ((s_at m c t 0 e).trans ?_)
    blk_ext []

/-- At a point that norms its rows: in the carried rows the normed rows of its block, at an index of its output block
    their product with the block of weights. -/
theorem step_A (c : Dev nD) (t : Fin cfg0.N) (h : t.val % 3 = 0) :
    (∀ (r : Fin 512) (k : Fin 2048), (outsAt0 m c t.val t.isLt).2 (ix2 r k) = rows m c t r k)
    ∧ ∀ (r : Fin 512) (j : Fin 1152), (outsAt0 m c t.val t.isLt).1 (ix2 r j) = ∑ k, rows m c t r k * iblk m c 3 t (ix2 k j) := by
  rw [outsAt0_A m c t h]
  constructor
  · intro r k
    dsimp only
    frame_out
    exact norm_at m c t r k
  · intro r j
    dsimp only
    frame_out
    refine (pay2_at _ _ r j).trans ?_
    refine Finset.sum_congr rfl fun k _ => ?_
    refine congrArg (fun z : EReal => z * iblk m c 3 t (ix2 k j)) ?_
    exact norm_at m c t r k

/-- At a point that finds the rows normed: it keeps them and leaves their product with its block of weights. -/
theorem step_B (c : Dev nD) (t : Fin cfg0.N) (h : ¬t.val % 3 = 0)
    (hs : ∀ (r : Fin 512) (k : Fin 2048), (outsAt0 m c (t.val - 1) (Nat.lt_of_le_of_lt (Nat.sub_le _ _) t.isLt)).2 (ix2 r k) = rows m c t r k) :
    (∀ (r : Fin 512) (k : Fin 2048), (outsAt0 m c t.val t.isLt).2 (ix2 r k) = rows m c t r k)
    ∧ ∀ (r : Fin 512) (j : Fin 1152), (outsAt0 m c t.val t.isLt).1 (ix2 r j) = ∑ k, rows m c t r k * iblk m c 3 t (ix2 k j) := by
  rw [outsAt0_B m c t h]
  constructor
  · intro r k
    exact hs r k
  · intro r j
    dsimp only
    frame_out
    refine (pay2_at _ _ r j).trans ?_
    refine Finset.sum_congr rfl fun k _ => ?_
    refine congrArg (fun z : EReal => z * iblk m c 3 t (ix2 k j)) ?_
    exact (congrFun (Memref.IsWhole.read_unread _ _) (ix2 r k)).trans (hs r k)

/-- What a grid point leaves: in the carried rows the normed rows of its block, at an index of its output block their
    product with the block of weights. -/
theorem step (c : Dev nD) : ∀ (n : Nat) (hn : n < cfg0.N),
    (∀ (r : Fin 512) (k : Fin 2048), (outsAt0 m c n hn).2 (ix2 r k) = rows m c ⟨n, hn⟩ r k)
    ∧ ∀ (r : Fin 512) (j : Fin 1152), (outsAt0 m c n hn).1 (ix2 r j) = ∑ k, rows m c ⟨n, hn⟩ r k * iblk m c 3 ⟨n, hn⟩ (ix2 k j) := by
  intro n
  induction n with
  | zero => exact fun hn => step_A m c ⟨0, hn⟩ rfl
  | succ n ih =>
    intro hn
    by_cases h : (n + 1) % 3 = 0
    · exact step_A m c ⟨n + 1, hn⟩ h
    · refine step_B m c ⟨n + 1, hn⟩ h ?_
      intro r k
      have hn' : n < cfg0.N := by omega
      refine ((ih hn').1 r k).trans ?_
      have h1 := t_lt ⟨n, hn'⟩
      have h2 := t_lt ⟨n + 1, hn⟩
      unfold rows
      refine modn_congr (fun e => ?_) (fun e => rfl) (fun e => ?_) (fun e => ?_) k
      all_goals blk_ext []

/-- THE OUTPUT ARRAY after the run is the reference's term. -/
theorem final (c : Dev nD) :
    (dats m 0 c).arrAt 4 cfg0.N = Cert.InBRefIdeal.At.REF (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  have ht := t_lt t
  obtain ⟨e0, e1, e2, e3, e4⟩ := idx t
  obtain ⟨a, b, rfl⟩ : ∃ (a : Fin 512) (b : Fin 1152), y = ix2 a b := ⟨y 0, y 1, by blk_ext []⟩
  have hemb : ((cfg0.win 4).blk t).view.emb (ix2 a b) = ix2 (⟨t.val / 3 * 512 + a.val, by omega⟩ : Fin 16384)
      (⟨t.val % 3 * 1152 + b.val, by omega⟩ : Fin 3456) := by
    blk_ext [e4]
  blk_simp
  rw [after0_4, hemb, Cert.InBRefIdeal.At.ref_at]
  refine ((step m c t.val t.isLt).2 a b).trans ?_
  unfold lin rows
  refine Finset.sum_congr rfl fun k _ => congrArg₂ (· * ·) (modn_congr (fun e => rfl) (fun e => rfl) (fun e => ?_) (fun e => ?_) k) (w_at m c t k b)
  all_goals blk_ext []

end Cert.InBIdeal.Fin

end
-- ==== Proof.InBRes.lean ====
/- The reference's result is the stages' composition. -/
module

public import proofs.«01_k».proof.Proof.InBRef

@[expose] public section

set_option maxRecDepth 16384

noncomputable section

namespace Cert.InBRefIdeal.At

open Cert.InBRefIdeal Cert.InBRefIdeal.Gen Idealize.ShloMosaic Idealize.ShloMosaic.TcCoe Idealize.SL.Sem

/-- What the reference's run leaves is the stages' composition of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = REF (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold REF cols nrm
  exact (θ_run _ _ _).mono (fun r h c => h c) (Cert.InBRefIdeal.Value.run (F := Ideal) m ρ)

end Cert.InBRefIdeal.At

end
-- ==== Proof.InBMain.lean ====
/- The input projection: the kernel's program and the reference's end with the same result. -/
module

public import proofs.«01_k».proof.Defs
public import proofs.«01_k».proof.Proof.InBFin
public import proofs.«01_k».proof.Proof.InBRes

@[expose] public section

set_option maxRecDepth 16384

noncomputable section

namespace Cert.Proof

open Idealize.ShloMosaic Idealize.SL.Sem

/-- The kernel's product of the modulated norm with its weights and the reference's end with the same array. -/
theorem algebraic_inb : Cert.algebraic_InBIdeal_InBRefIdeal := by
  pair_intro
  · run_from Cert.InBIdeal.Value.run_blocks m g
  · run_from Cert.InBRefIdeal.At.run m' g'
    exact (Cert.InBIdeal.Fin.final m c).symm

end Cert.Proof

end
-- ==== Proof.InCRef.lean ====
/- The reference's input projection, stage by stage, and read at an index. -/
module

public import proofs.«01_k».proof.Proof.Lin
public import proofs.«01_k».proof.Proof.Gen.InCRefIdeal.Run

@[expose] public section

set_option maxRecDepth 16384

noncomputable section

namespace Cert.InCRefIdeal.At

open Cert.InCRefIdeal Cert.InCRefIdeal.Gen Idealize.ShloMosaic Idealize.ShloMosaic.TcCoe Cert.Lin

/-- The rows normed and modulated. -/
def nrm (a0 : FVec Ideal S16384x2048 .f32) (a1 : FVec Ideal S2048 .f32) (a2 : FVec Ideal S8x12288 .f32) : FVec Ideal S8x2048x2048 .f32 :=
  (addf (mulf (mulf (mulf (shapeCast _ a0 shapeCasts_S16384x2048_S8x2048x2048) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (shapeCast _ a0 shapeCasts_S16384x2048_S8x2048x2048) (shapeCast _ a0 shapeCasts_S16384x2048_S8x2048x2048)) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 a1))) (broadcastInDim S8x2048x2048 ![0, 1, 2] bcast_S8x1x2048_S8x2048x2048_0_1_2 (addf (broadcastInDim S8x1x2048 ![] bcast_S_S8x1x2048 (constant S_ .f32 0x3F800000#32)) (extractStridedSlice S8x1x2048 ![0, 0, 2048] (broadcastInDim S8x1x12288 ![0, 2] bcast_S8x12288_S8x1x12288_0_2 a2) slices_S8x1x12288_S8x1x2048_0_0_2048)))) (broadcastInDim S8x2048x2048 ![0, 1, 2] bcast_S8x1x2048_S8x2048x2048_0_1_2 (extractStridedSlice S8x1x2048 ![0, 0, 0] (broadcastInDim S8x1x12288 ![0, 2] bcast_S8x12288_S8x1x12288_0_2 a2) slices_S8x1x12288_S8x1x2048_0_0_0)))

/-- The product's first 4128 columns, rows one after the other, and 96 columns of zeros. -/
def cols (N : FVec Ideal S8x2048x2048 .f32) (a3 : FVec Ideal S2048x6240 .f32) : FVec Ideal S16384x4224 .f32 :=
  pad S16384x4224 ![0, 0] ![0, 96] ![0, 0] (shapeCast _ (extractStridedSlice S8x2048x4128 ![0, 0, 0] (Host.dotGeneral dot_S8x2048x2048_S2048x6240_S8x2048x6240_2_0_01_1_n_n none N a3) slices_S8x2048x6240_S8x2048x4128_0_0_0) shapeCasts_S8x2048x4128_S16384x4128) (sitofp .f32 (constantI S_ 32 0#32)) pads_S16384x4128_S16384x4224_000_0960 h_S_

/-- The weights' column that gives a column of the result: none, where the result is padded. -/
def wcol (a3 : FVec Ideal S2048x6240 .f32) (j : Fin 4224) (k : Fin 2048) : EReal :=
  if h : j.val < 4128 then a3 (ix2 k (⟨j.val, by omega⟩ : Fin 6240)) else 0

/-- The whole reference. -/
def REF (a0 : FVec Ideal S16384x2048 .f32) (a1 : FVec Ideal S2048 .f32) (a2 : FVec Ideal S8x12288 .f32) (a3 : FVec Ideal S2048x6240 .f32) :
    FVec Ideal S16384x4224 .f32 :=
  cols (nrm a0 a1 a2) a3

theorem nrm_at (a0 : FVec Ideal S16384x2048 .f32) (a1 : FVec Ideal S2048 .f32) (a2 : FVec Ideal S8x12288 .f32) (b : Fin 8) (s : Fin 2048) (k : Fin 2048) :
    nrm a0 a1 a2 (ix3 b s k) = modn (fun e => a0 (ix2 (⟨b.val * 2048 + s.val, by omega⟩ : Fin 16384) e)) (fun e => a1 (ix1 e))
      (fun e => a2 (ix2 b (⟨2048 + e.val, by omega⟩ : Fin 12288))) (fun e => a2 (ix2 b (⟨e.val, by omega⟩ : Fin 12288))) k := by
  pointwise [nrm]
  rfl

theorem cols_at (N : FVec Ideal S8x2048x2048 .f32) (a3 : FVec Ideal S2048x6240 .f32) (r : Fin 16384) (j : Fin 4224) :
    cols N a3 (ix2 r j) = ∑ k, N (ix3 (⟨r.val / 2048, by omega⟩ : Fin 8) (⟨r.val % 2048, by omega⟩ : Fin 2048) k) * wcol a3 j k := by
  unfold wcol
  split
  · rename_i h
    pointwise [cols]
    rw [dif_pos h]
  · rename_i h
    simp only [mul_zero, Finset.sum_const_zero]
    pointwise [cols]
    rw [dif_neg h]
    exact sitofp_zero

/-- The reference at an index: the product of the row's modulated norm with its column. -/
theorem ref_at (a0 : FVec Ideal S16384x2048 .f32) (a1 : FVec Ideal S2048 .f32) (a2 : FVec Ideal S8x12288 .f32) (a3 : FVec Ideal S2048x6240 .f32)
    (r : Fin 16384) (j : Fin 4224) :
    REF a0 a1 a2 a3 (ix2 r j) = lin (fun e => a0 (ix2 r e)) (fun e => a1 (ix1 e))
      (fun e => a2 (ix2 (⟨r.val / 2048, by omega⟩ : Fin 8) (⟨2048 + e.val, by omega⟩ : Fin 12288)))
      (fun e => a2 (ix2 (⟨r.val / 2048, by omega⟩ : Fin 8) (⟨e.val, by omega⟩ : Fin 12288))) (wcol a3 j) := by
  unfold REF lin
  refine (cols_at _ a3 r j).trans (Finset.sum_congr rfl fun k _ => congrArg (· * wcol a3 j k) ?_)
  refine (nrm_at a0 a1 a2 _ _ k).trans (modn_congr (fun e => ?_) (fun e => rfl) (fun e => rfl) (fun e => rfl) k)
  blk_ext []

end Cert.InCRefIdeal.At

end
-- ==== Proof.InCFin.lean ====
/- The kernel's input projection: what its output array holds, index by index. -/
module

public import proofs.«01_k».proof.Proof.InCRef
public import proofs.«01_k».proof.Proof.Gen.InCIdeal.Value

@[expose] public section

set_option maxRecDepth 16384

noncomputable section

namespace Cert.InCIdeal.Fin

open Cert.InCIdeal Cert.InCIdeal.Gen Idealize.ShloMosaic Idealize.ShloMosaic.TcCoe Cert.Lin

variable (m : (ℓ : Loc nD τ sig) → Buf (Elt Ideal) ℓ)

theorem pay1_at (X : Vec Ideal S512x2048 .f32) (G : Vec Ideal S1x2048 .f32) (A B : Vec Ideal S1x1x2048 .f32) (r : Fin 512) (k : Fin 2048) :
    k0_pay1 (F := Ideal) X G A B (ix2 r k)
      = modn (fun e => X (ix2 r e)) (fun e => G (ix2 0 e)) (fun e => A (ix3 0 0 e)) (fun e => B (ix3 0 0 e)) k := by
  pointwise [k0_pay1]
  rfl

theorem pay2_at (X : Vec Ideal S512x2048 .bf16) (U : Vec Ideal S2048x1408 .bf16) (r : Fin 512) (j : Fin 1408) :
    k0_pay2 (F := Ideal) X U (ix2 r j) = ∑ k, X (ix2 r k) * U (ix2 k j) := by
  pointwise [k0_pay2]

/-- The windows' block indices at a grid point. -/
theorem idx : ∀ t : Fin cfg0.N, win0_0.index t = ![t.val / 3, 0]
    ∧ win0_1.index t = ![0, 0]
    ∧ win0_2.index t = ![t.val / 12, 0, 0]
    ∧ win0_3.index t = ![0, t.val % 3]
    ∧ win0_4.index t = ![t.val / 3, t.val % 3] :=
  (by decide +kernel : ∀ t : Fin grid0.N, _)

theorem t_lt (t : Fin cfg0.N) : t.val < 96 := lt_of_lt_of_eq t.isLt N_0

/-- The block of rows a grid point reads. -/
theorem x_at (c : Dev nD) (t : Fin cfg0.N) (r : Fin 512) (k : Fin 2048) :
    iblk m c 0 t (ix2 r k) = m ((c.tc : Thread nD τ).loc main_arg0)
      (ix2 (⟨t.val / 3 * 512 + r.val, by have := t_lt t; omega⟩ : Fin 16384) k) := by
  obtain ⟨e0, e1, e2, e3, e4⟩ := idx t
  blk_ext [iblk, V, e0]

theorem gain_at (c : Dev nD) (i : Fin 1) (k : Fin 2048) :
    V m c main_v5 (ix2 i k) = m ((c.tc : Thread nD τ).loc main_arg1) (ix1 k) := by
  entry_read
  pointwise <;> blk_point []

/-- The gain a grid point reads. -/
theorem g_at (c : Dev nD) (t : Fin cfg0.N) (k : Fin 2048) :
    iblk m c 1 t (ix2 (0 : Fin 1) k) = m ((c.tc : Thread nD τ).loc main_arg1) (ix1 k) := by
  obtain ⟨e0, e1, e2, e3, e4⟩ := idx t
  have h : iblk m c 1 t (ix2 (0 : Fin 1) k) = V m c main_v5 (ix2 (0 : Fin 1) k) := by
    blk_ext [iblk, e1]
  exact h.trans (gain_at m c _ k)

theorem mods_at (c : Dev nD) (b : Fin 8) (i : Fin 6) (k : Fin 2048) :
    V m c main_v4 (ix3 b i k) = m ((c.tc : Thread nD τ).loc main_arg2) (ix2 b (⟨i.val * 2048 + k.val, by omega⟩ : Fin 12288)) := by
  entry_read
  pointwise <;> blk_point []

/-- The modulation a grid point reads. -/
theorem s_at (c : Dev nD) (t : Fin cfg0.N) (i : Fin 6) (k : Fin 2048) :
    iblk m c 2 t (ix3 (0 : Fin 1) i k) = m ((c.tc : Thread nD τ).loc main_arg2)
      (ix2 (⟨t.val / 12, by have := t_lt t; omega⟩ : Fin 8) (⟨i.val * 2048 + k.val, by omega⟩ : Fin 12288)) := by
  obtain ⟨e0, e1, e2, e3, e4⟩ := idx t
  have := t_lt t
  have h : iblk m c 2 t (ix3 (0 : Fin 1) i k) = V m c main_v4 (ix3 (⟨t.val / 12, by have := t_lt t; omega⟩ : Fin 8) i k) := by
    blk_ext [iblk, e2]
  exact h.trans (mods_at m c _ i k)

/-- The weights the call is given are the reference's columns. -/
theorem weights_at (c : Dev nD) (k : Fin 2048) (j : Fin 4224) :
    V m c main_v3 (ix2 k j) = Cert.InCRefIdeal.At.wcol (m ((c.tc : Thread nD τ).loc main_arg3)) j k := by
  unfold Cert.InCRefIdeal.At.wcol
  entry_read
  pointwise <;> blk_point []

/-- The block of weights a grid point reads. -/
theorem w_at (c : Dev nD) (t : Fin cfg0.N) (k : Fin 2048) (j : Fin 1408) :
    iblk m c 3 t (ix2 k j) = Cert.InCRefIdeal.At.wcol (m ((c.tc : Thread nD τ).loc main_arg3))
      (⟨t.val % 3 * 1408 + j.val, by omega⟩ : Fin 4224) k := by
  obtain ⟨e0, e1, e2, e3, e4⟩ := idx t
  have h : iblk m c 3 t (ix2 k j) = V m c main_v3 (ix2 k (⟨t.val % 3 * 1408 + j.val, by omega⟩ : Fin 4224)) := by
    blk_ext [iblk, e3]
  exact h.trans (weights_at m c k _)

/-- The normed rows of a grid point's block. -/
def rows (c : Dev nD) (t : Fin cfg0.N) (r : Fin 512) (k : Fin 2048) : EReal :=
  modn (fun e => m ((c.tc : Thread nD τ).loc main_arg0) (ix2 (⟨t.val / 3 * 512 + r.val, by have := t_lt t; omega⟩ : Fin 16384) e))
    (fun e => m ((c.tc : Thread nD τ).loc main_arg1) (ix1 e))
    (fun e => m ((c.tc : Thread nD τ).loc main_arg2) (ix2 (⟨t.val / 12, by have := t_lt t; omega⟩ : Fin 8) (⟨2048 + e.val, by omega⟩ : Fin 12288)))
    (fun e => m ((c.tc : Thread nD τ).loc main_arg2) (ix2 (⟨t.val / 12, by have := t_lt t; omega⟩ : Fin 8) (⟨e.val, by omega⟩ : Fin 12288))) k

theorem scale_at (X : Vec Ideal S1x6x2048 .f32) (e : Fin 2048) :
    View.ld X (Rect.unit ![0, 1, 0] ![1, 1, 2048] inb_S1x6x2048_S1x1x2048_0_1_0) (ix3 (0 : Fin 1) (0 : Fin 1) e) = X (ix3 (0 : Fin 1) (1 : Fin 6) e) := by
  pointwise

theorem shift_at (X : Vec Ideal S1x6x2048 .f32) (e : Fin 2048) :
    View.ld X (Rect.unit ![0, 0, 0] ![1, 1, 2048] inb_S1x6x2048_S1x1x2048_0_0_0) (ix3 (0 : Fin 1) (0 : Fin 1) e) = X (ix3 (0 : Fin 1) (0 : Fin 6) e) := by
  pointwise

/-- The normed rows, from a grid point's blocks. -/
theorem norm_at (c : Dev nD) (t : Fin cfg0.N) (r : Fin 512) (k : Fin 2048) :
    k0_pay1 (F := Ideal) (iblk m c 0 t) (iblk m c 1 t)
      (View.ld (iblk m c 2 t) (Rect.unit ![0, 1, 0] ![1, 1, 2048] inb_S1x6x2048_S1x1x2048_0_1_0))
      (View.ld (iblk m c 2 t) (Rect.unit ![0, 0, 0] ![1, 1, 2048] inb_S1x6x2048_S1x1x2048_0_0_0)) (ix2 r k) = rows m c t r k := by
  refine (pay1_at _ _ _ _ r k).trans (modn_congr (fun e => ?_) (fun e => ?_) (fun e => ?_) (fun e => ?_) k)
  · exact x_at m c t r e
  · exact g_at m c t e
  · exact (scale_at _ e).trans (s_at m c t 1 e)
  · refine (shift_at _ e).trans ((s_at m c t 0 e).trans ?_)
    blk_ext []

/-- At a point that norms its rows: in the carried rows the normed rows of its block, at an index of its output block
    their product with the block of weights. -/
theorem step_A (c : Dev nD) (t : Fin cfg0.N) (h : t.val % 3 = 0) :
    (∀ (r : Fin 512) (k : Fin 2048), (outsAt0 m c t.val t.isLt).2 (ix2 r k) = rows m c t r k)
    ∧ ∀ (r : Fin 512) (j : Fin 1408), (outsAt0 m c t.val t.isLt).1 (ix2 r j) = ∑ k, rows m c t r k * iblk m c 3 t (ix2 k j) := by
  rw [outsAt0_A m c t h]
  constructor
  · intro r k
    dsimp only
    frame_out
    exact norm_at m c t r k
  · intro r j
    dsimp only
    frame_out
    refine (pay2_at _ _ r j).trans ?_
    refine Finset.sum_congr rfl fun k _ => ?_
    refine congrArg (fun z : EReal => z * iblk m c 3 t (ix2 k j)) ?_
    exact norm_at m c t r k

/-- At a point that finds the rows normed: it keeps them and leaves their product with its block of weights. -/
theorem step_B (c : Dev nD) (t : Fin cfg0.N) (h : ¬t.val % 3 = 0)
    (hs : ∀ (r : Fin 512) (k : Fin 2048), (outsAt0 m c (t.val - 1) (Nat.lt_of_le_of_lt (Nat.sub_le _ _) t.isLt)).2 (ix2 r k) = rows m c t r k) :
    (∀ (r : Fin 512) (k : Fin 2048), (outsAt0 m c t.val t.isLt).2 (ix2 r k) = rows m c t r k)
    ∧ ∀ (r : Fin 512) (j : Fin 1408), (outsAt0 m c t.val t.isLt).1 (ix2 r j) = ∑ k, rows m c t r k * iblk m c 3 t (ix2 k j) := by
  rw [outsAt0_B m c t h]
  constructor
  · intro r k
    exact hs r k
  · intro r j
    dsimp only
    frame_out
    refine (pay2_at _ _ r j).trans ?_
    refine Finset.sum_congr rfl fun k _ => ?_
    refine congrArg (fun z : EReal => z * iblk m c 3 t (ix2 k j)) ?_
    exact (congrFun (Memref.IsWhole.read_unread _ _) (ix2 r k)).trans (hs r k)

/-- What a grid point leaves: in the carried rows the normed rows of its block, at an index of its output block their
    product with the block of weights. -/
theorem step (c : Dev nD) : ∀ (n : Nat) (hn : n < cfg0.N),
    (∀ (r : Fin 512) (k : Fin 2048), (outsAt0 m c n hn).2 (ix2 r k) = rows m c ⟨n, hn⟩ r k)
    ∧ ∀ (r : Fin 512) (j : Fin 1408), (outsAt0 m c n hn).1 (ix2 r j) = ∑ k, rows m c ⟨n, hn⟩ r k * iblk m c 3 ⟨n, hn⟩ (ix2 k j) := by
  intro n
  induction n with
  | zero => exact fun hn => step_A m c ⟨0, hn⟩ rfl
  | succ n ih =>
    intro hn
    by_cases h : (n + 1) % 3 = 0
    · exact step_A m c ⟨n + 1, hn⟩ h
    · refine step_B m c ⟨n + 1, hn⟩ h ?_
      intro r k
      have hn' : n < cfg0.N := by omega
      refine ((ih hn').1 r k).trans ?_
      have h1 := t_lt ⟨n, hn'⟩
      have h2 := t_lt ⟨n + 1, hn⟩
      unfold rows
      refine modn_congr (fun e => ?_) (fun e => rfl) (fun e => ?_) (fun e => ?_) k
      all_goals blk_ext []

/-- THE OUTPUT ARRAY after the run is the reference's term. -/
theorem final (c : Dev nD) :
    (dats m 0 c).arrAt 4 cfg0.N = Cert.InCRefIdeal.At.REF (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  have ht := t_lt t
  obtain ⟨e0, e1, e2, e3, e4⟩ := idx t
  obtain ⟨a, b, rfl⟩ : ∃ (a : Fin 512) (b : Fin 1408), y = ix2 a b := ⟨y 0, y 1, by blk_ext []⟩
  have hemb : ((cfg0.win 4).blk t).view.emb (ix2 a b) = ix2 (⟨t.val / 3 * 512 + a.val, by omega⟩ : Fin 16384)
      (⟨t.val % 3 * 1408 + b.val, by omega⟩ : Fin 4224) := by
    blk_ext [e4]
  blk_simp
  rw [after0_4, hemb, Cert.InCRefIdeal.At.ref_at]
  refine ((step m c t.val t.isLt).2 a b).trans ?_
  unfold lin rows
  refine Finset.sum_congr rfl fun k _ => congrArg₂ (· * ·) (modn_congr (fun e => rfl) (fun e => rfl) (fun e => ?_) (fun e => ?_) k) (w_at m c t k b)
  all_goals blk_ext []

end Cert.InCIdeal.Fin

end
-- ==== Proof.InCRes.lean ====
/- The reference's result is the stages' composition. -/
module

public import proofs.«01_k».proof.Proof.InCRef

@[expose] public section

set_option maxRecDepth 16384

noncomputable section

namespace Cert.InCRefIdeal.At

open Cert.InCRefIdeal Cert.InCRefIdeal.Gen Idealize.ShloMosaic Idealize.ShloMosaic.TcCoe Idealize.SL.Sem

/-- What the reference's run leaves is the stages' composition of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = REF (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold REF cols nrm
  exact (θ_run _ _ _).mono (fun r h c => h c) (Cert.InCRefIdeal.Value.run (F := Ideal) m ρ)

end Cert.InCRefIdeal.At

end
-- ==== Proof.InCMain.lean ====
/- The input projection: the kernel's program and the reference's end with the same result. -/
module

public import proofs.«01_k».proof.Defs
public import proofs.«01_k».proof.Proof.InCFin
public import proofs.«01_k».proof.Proof.InCRes

@[expose] public section

set_option maxRecDepth 16384

noncomputable section

namespace Cert.Proof

open Idealize.ShloMosaic Idealize.SL.Sem

/-- The kernel's product of the modulated norm with its weights and the reference's end with the same array. -/
theorem algebraic_inc : Cert.algebraic_InCIdeal_InCRefIdeal := by
  pair_intro
  · run_from Cert.InCIdeal.Value.run_blocks m g
  · run_from Cert.InCRefIdeal.At.run m' g'
    exact (Cert.InCIdeal.Fin.final m c).symm

end Cert.Proof

end
-- ==== Proof.InDRef.lean ====
/- The reference's input projection, stage by stage, and read at an index. -/
module

public import proofs.«01_k».proof.Proof.Lin
public import proofs.«01_k».proof.Proof.Gen.InDRefIdeal.Run

@[expose] public section

set_option maxRecDepth 16384

noncomputable section

namespace Cert.InDRefIdeal.At

open Cert.InDRefIdeal Cert.InDRefIdeal.Gen Idealize.ShloMosaic Idealize.ShloMosaic.TcCoe Cert.Lin

/-- The rows normed and modulated. -/
def nrm (a0 : FVec Ideal S4096x2048 .f32) (a1 : FVec Ideal S2048 .f32) (a2 : FVec Ideal S1x12288 .f32) : FVec Ideal S16x256x2048 .f32 :=
  (addf (mulf (mulf (mulf (shapeCast _ a0 shapeCasts_S4096x2048_S16x256x2048) (broadcastInDim S16x256x2048 ![0, 1, 2] bcast_S16x256x1_S16x256x2048_0_1_2 (Host.rsqrt (addf (Host.divf (broadcastInDim S16x256x1 ![0, 1] bcast_S16x256_S16x256x1_0_1 (Host.reduceAdd (mulf (shapeCast _ a0 shapeCasts_S4096x2048_S16x256x2048) (shapeCast _ a0 shapeCasts_S4096x2048_S16x256x2048)) (constant S_ .f32 0x00000000#32) reducesTo_S16x256x2048_S16x256_d2 h_S_)) (broadcastInDim S16x256x1 ![] bcast_S_S16x256x1 (constant S_ .f32 0x45000000#32))) (broadcastInDim S16x256x1 ![] bcast_S_S16x256x1 (constant S_ .f32 0x358637BD#32)))))) (broadcastInDim S16x256x2048 ![0, 1, 2] bcast_S1x1x2048_S16x256x2048_0_1_2 (broadcastInDim S1x1x2048 ![2] bcast_S2048_S1x1x2048_2 a1))) (broadcastInDim S16x256x2048 ![0, 1, 2] bcast_S1x1x2048_S16x256x2048_0_1_2 (addf (broadcastInDim S1x1x2048 ![] bcast_S_S1x1x2048 (constant S_ .f32 0x3F800000#32)) (extractStridedSlice S1x1x2048 ![0, 0, 2048] (broadcastInDim S1x1x12288 ![0, 2] bcast_S1x12288_S1x1x12288_0_2 a2) slices_S1x1x12288_S1x1x2048_0_0_2048)))) (broadcastInDim S16x256x2048 ![0, 1, 2] bcast_S1x1x2048_S16x256x2048_0_1_2 (extractStridedSlice S1x1x2048 ![0, 0, 0] (broadcastInDim S1x1x12288 ![0, 2] bcast_S1x12288_S1x1x12288_0_2 a2) slices_S1x1x12288_S1x1x2048_0_0_0)))

/-- The product's columns after the first 4128, rows one after the other. -/
def lat (N : FVec Ideal S16x256x2048 .f32) (a3 : FVec Ideal S2048x6240 .f32) : FVec Ideal S4096x2112 .f32 :=
  shapeCast _ (extractStridedSlice S16x256x2112 ![0, 0, 4128] (Host.dotGeneral dot_S16x256x2048_S2048x6240_S16x256x6240_2_0_01_1_n_n none N a3) slices_S16x256x6240_S16x256x2112_0_0_4128) shapeCasts_S16x256x2112_S4096x2112

/-- Those columns in the order of the result: queries' rotary parts, rotary key, latent, queries' other parts. -/
def arr (L : FVec Ideal S4096x2112 .f32) : FVec Ideal S4096x3072 .f32 :=
  concatenate S4096x3072 1 [⟨S4096x1024, (shapeCast _ (pad S4096x8x128 ![0, 0, 0] ![0, 0, 64] ![0, 0, 0] (extractStridedSlice S4096x8x64 ![0, 0, 128] (shapeCast _ (extractStridedSlice S4096x1536 ![0, 0] L slices_S4096x2112_S4096x1536_0_0) shapeCasts_S4096x1536_S4096x8x192) slices_S4096x8x192_S4096x8x64_0_0_128) (sitofp .f32 (constantI S_ 32 0#32)) pads_S4096x8x64_S4096x8x128_000_000_0640 h_S_) shapeCasts_S4096x8x128_S4096x1024)⟩, ⟨S4096x512, (pad S4096x512 ![0, 0] ![0, 448] ![0, 0] (extractStridedSlice S4096x64 ![0, 2048] L slices_S4096x2112_S4096x64_0_2048) (sitofp .f32 (constantI S_ 32 0#32)) pads_S4096x64_S4096x512_000_04480 h_S_)⟩, ⟨S4096x512, (extractStridedSlice S4096x512 ![0, 1536] L slices_S4096x2112_S4096x512_0_1536)⟩, ⟨S4096x1024, (shapeCast _ (extractStridedSlice S4096x8x128 ![0, 0, 0] (shapeCast _ (extractStridedSlice S4096x1536 ![0, 0] L slices_S4096x2112_S4096x1536_0_0) shapeCasts_S4096x1536_S4096x8x192) slices_S4096x8x192_S4096x8x128_0_0_0) shapeCasts_S4096x8x128_S4096x1024)⟩] concatenates_S4096x1024_S4096x512_S4096x512_S4096x1024_S4096x3072_d1

def cols (N : FVec Ideal S16x256x2048 .f32) (a3 : FVec Ideal S2048x6240 .f32) : FVec Ideal S4096x3072 .f32 := arr (lat N a3)

/-- Which of the 2112 columns stands at a column of the result: none, where the result is padded. -/
def pick (L : Fin 2112 → EReal) (j : Fin 3072) : EReal :=
  if h0 : j.val < 1024 then
    if h : j.val % 128 < 64 then L ⟨j.val / 128 * 192 + 128 + j.val % 128, by omega⟩ else 0
  else if h1 : j.val < 1536 then
    if h : j.val < 1088 then L ⟨1024 + j.val, by omega⟩ else 0
  else if h2 : j.val < 2048 then L ⟨j.val, by omega⟩
  else L ⟨(j.val - 2048) / 128 * 192 + (j.val - 2048) % 128, by omega⟩

/-- The weights' column that gives a column of the result. -/
def wcol (a3 : FVec Ideal S2048x6240 .f32) (j : Fin 3072) (k : Fin 2048) : EReal :=
  pick (fun l => a3 (ix2 k (⟨4128 + l.val, by omega⟩ : Fin 6240))) j

theorem arr_at (L : FVec Ideal S4096x2112 .f32) (r : Fin 4096) (j : Fin 3072) :
    arr L (ix2 r j) = pick (fun l => L (ix2 r l)) j := by
  unfold pick
  pointwise [arr]
  (repeat' split) <;> first | (exfalso; omega) | exact sitofp_zero | rfl | blk_ext []

/-- A sum of picked columns is the picked column of sums. -/
theorem pick_sum (x : Fin 2048 → EReal) (w : Fin 2048 → Fin 2112 → EReal) (j : Fin 3072) :
    pick (fun l => ∑ k, x k * w k l) j = ∑ k, x k * pick (w k) j := by
  unfold pick
  split_ifs <;> simp

theorem lat_at (N : FVec Ideal S16x256x2048 .f32) (a3 : FVec Ideal S2048x6240 .f32) (r : Fin 4096) (l : Fin 2112) :
    lat N a3 (ix2 r l) = ∑ k, N (ix3 (⟨r.val / 256, by omega⟩ : Fin 16) (⟨r.val % 256, by omega⟩ : Fin 256) k) * a3 (ix2 k (⟨4128 + l.val, by omega⟩ : Fin 6240)) := by
  pointwise [lat]

/-- The whole reference. -/
def REF (a0 : FVec Ideal S4096x2048 .f32) (a1 : FVec Ideal S2048 .f32) (a2 : FVec Ideal S1x12288 .f32) (a3 : FVec Ideal S2048x6240 .f32) :
    FVec Ideal S4096x3072 .f32 :=
  cols (nrm a0 a1 a2) a3

theorem nrm_at (a0 : FVec Ideal S4096x2048 .f32) (a1 : FVec Ideal S2048 .f32) (a2 : FVec Ideal S1x12288 .f32) (b : Fin 16) (s : Fin 256) (k : Fin 2048) :
    nrm a0 a1 a2 (ix3 b s k) = modn (fun e => a0 (ix2 (⟨b.val * 256 + s.val, by omega⟩ : Fin 4096) e)) (fun e => a1 (ix1 e))
      (fun e => a2 (ix2 0 (⟨2048 + e.val, by omega⟩ : Fin 12288))) (fun e => a2 (ix2 0 (⟨e.val, by omega⟩ : Fin 12288))) k := by
  pointwise [nrm]
  rfl

theorem cols_at (N : FVec Ideal S16x256x2048 .f32) (a3 : FVec Ideal S2048x6240 .f32) (r : Fin 4096) (j : Fin 3072) :
    cols N a3 (ix2 r j) = ∑ k, N (ix3 (⟨r.val / 256, by omega⟩ : Fin 16) (⟨r.val % 256, by omega⟩ : Fin 256) k) * wcol a3 j k := by
  unfold cols
  refine (arr_at _ r j).trans ?_
  refine (congrArg (fun L => pick L j) (funext fun l => lat_at N a3 r l)).trans ?_
  exact pick_sum _ _ j

/-- The reference at an index: the product of the row's modulated norm with its column. -/
theorem ref_at (a0 : FVec Ideal S4096x2048 .f32) (a1 : FVec Ideal S2048 .f32) (a2 : FVec Ideal S1x12288 .f32) (a3 : FVec Ideal S2048x6240 .f32)
    (r : Fin 4096) (j : Fin 3072) :
    REF a0 a1 a2 a3 (ix2 r j) = lin (fun e => a0 (ix2 r e)) (fun e => a1 (ix1 e))
      (fun e => a2 (ix2 (0 : Fin 1) (⟨2048 + e.val, by omega⟩ : Fin 12288)))
      (fun e => a2 (ix2 (0 : Fin 1) (⟨e.val, by omega⟩ : Fin 12288))) (wcol a3 j) := by
  unfold REF lin
  refine (cols_at _ a3 r j).trans (Finset.sum_congr rfl fun k _ => congrArg (· * wcol a3 j k) ?_)
  refine (nrm_at a0 a1 a2 _ _ k).trans (modn_congr (fun e => ?_) (fun e => rfl) (fun e => rfl) (fun e => rfl) k)
  blk_ext []

end Cert.InDRefIdeal.At

end
-- ==== Proof.InDFin.lean ====
/- The kernel's input projection: what its output array holds, index by index. -/
module

public import proofs.«01_k».proof.Proof.InDRef
public import proofs.«01_k».proof.Proof.Gen.InDIdeal.Value

@[expose] public section

set_option maxRecDepth 16384

noncomputable section

namespace Cert.InDIdeal.Fin

open Cert.InDIdeal Cert.InDIdeal.Gen Idealize.ShloMosaic Idealize.ShloMosaic.TcCoe Cert.Lin

variable (m : (ℓ : Loc nD τ sig) → Buf (Elt Ideal) ℓ)

theorem pay1_at (X : Vec Ideal S512x2048 .f32) (G : Vec Ideal S1x2048 .f32) (A B : Vec Ideal S1x1x2048 .f32) (r : Fin 512) (k : Fin 2048) :
    k0_pay1 (F := Ideal) X G A B (ix2 r k)
      = modn (fun e => X (ix2 r e)) (fun e => G (ix2 0 e)) (fun e => A (ix3 0 0 e)) (fun e => B (ix3 0 0 e)) k := by
  pointwise [k0_pay1]
  rfl

theorem pay2_at (X : Vec Ideal S512x2048 .bf16) (U : Vec Ideal S2048x1536 .bf16) (r : Fin 512) (j : Fin 1536) :
    k0_pay2 (F := Ideal) X U (ix2 r j) = ∑ k, X (ix2 r k) * U (ix2 k j) := by
  pointwise [k0_pay2]

/-- The windows' block indices at a grid point. -/
theorem idx : ∀ t : Fin cfg0.N, win0_0.index t = ![t.val / 2, 0]
    ∧ win0_1.index t = ![0, 0]
    ∧ win0_2.index t = ![0, 0, 0]
    ∧ win0_3.index t = ![0, t.val % 2]
    ∧ win0_4.index t = ![t.val / 2, t.val % 2] :=
  (by decide +kernel : ∀ t : Fin grid0.N, _)

theorem t_lt (t : Fin cfg0.N) : t.val < 16 := lt_of_lt_of_eq t.isLt N_0

/-- The block of rows a grid point reads. -/
theorem x_at (c : Dev nD) (t : Fin cfg0.N) (r : Fin 512) (k : Fin 2048) :
    iblk m c 0 t (ix2 r k) = m ((c.tc : Thread nD τ).loc main_arg0)
      (ix2 (⟨t.val / 2 * 512 + r.val, by have := t_lt t; omega⟩ : Fin 4096) k) := by
  obtain ⟨e0, e1, e2, e3, e4⟩ := idx t
  blk_ext [iblk, V, e0]

theorem gain_at (c : Dev nD) (i : Fin 1) (k : Fin 2048) :
    V m c main_v17 (ix2 i k) = m ((c.tc : Thread nD τ).loc main_arg1) (ix1 k) := by
  entry_read
  pointwise <;> blk_point []

/-- The gain a grid point reads. -/
theorem g_at (c : Dev nD) (t : Fin cfg0.N) (k : Fin 2048) :
    iblk m c 1 t (ix2 (0 : Fin 1) k) = m ((c.tc : Thread nD τ).loc main_arg1) (ix1 k) := by
  obtain ⟨e0, e1, e2, e3, e4⟩ := idx t
  have h : iblk m c 1 t (ix2 (0 : Fin 1) k) = V m c main_v17 (ix2 (0 : Fin 1) k) := by
    blk_ext [iblk, e1]
  exact h.trans (gain_at m c _ k)

theorem mods_at (c : Dev nD) (b : Fin 1) (i : Fin 6) (k : Fin 2048) :
    V m c main_v16 (ix3 b i k) = m ((c.tc : Thread nD τ).loc main_arg2) (ix2 b (⟨i.val * 2048 + k.val, by omega⟩ : Fin 12288)) := by
  entry_read
  pointwise <;> blk_point []

/-- The modulation a grid point reads. -/
theorem s_at (c : Dev nD) (t : Fin cfg0.N) (i : Fin 6) (k : Fin 2048) :
    iblk m c 2 t (ix3 (0 : Fin 1) i k) = m ((c.tc : Thread nD τ).loc main_arg2)
      (ix2 (0 : Fin 1) (⟨i.val * 2048 + k.val, by omega⟩ : Fin 12288)) := by
  obtain ⟨e0, e1, e2, e3, e4⟩ := idx t
  have := t_lt t
  have h : iblk m c 2 t (ix3 (0 : Fin 1) i k) = V m c main_v16 (ix3 (0 : Fin 1) i k) := by
    blk_ext [iblk, e2]
  exact h.trans (mods_at m c _ i k)

/-- The weights as the host lays them out. -/
def wArr (a3 : FVec Ideal S2048x6240 .f32) : FVec Ideal S2048x3072 .bf16 := truncf .bf16 (concatenate S2048x3072 1 [⟨S2048x1024, (shapeCast _ (concatenate S2048x8x128 2 [⟨S2048x8x64, (extractStridedSlice S2048x8x64 ![0, 0, 128] (shapeCast _ (extractStridedSlice S2048x1536 ![0, 0] (extractStridedSlice S2048x2112 ![0, 4128] a3 slices_S2048x6240_S2048x2112_0_4128) slices_S2048x2112_S2048x1536_0_0) shapeCasts_S2048x1536_S2048x8x192) slices_S2048x8x192_S2048x8x64_0_0_128)⟩, ⟨S2048x8x64, (broadcastInDim S2048x8x64 ![] bcast_S_S2048x8x64 (constant S_ .f32 0x00000000#32))⟩] concatenates_S2048x8x64_S2048x8x64_S2048x8x128_d2) shapeCasts_S2048x8x128_S2048x1024)⟩, ⟨S2048x128, concatenate S2048x128 1 [⟨S2048x64, (extractStridedSlice S2048x64 ![0, 2048] (extractStridedSlice S2048x2112 ![0, 4128] a3 slices_S2048x6240_S2048x2112_0_4128) slices_S2048x2112_S2048x64_0_2048)⟩, ⟨S2048x64, (broadcastInDim S2048x64 ![] bcast_S_S2048x64 (constant S_ .f32 0x00000000#32))⟩] concatenates_S2048x64_S2048x64_S2048x128_d1⟩, ⟨S2048x384, (broadcastInDim S2048x384 ![] bcast_S_S2048x384 (constant S_ .f32 0x00000000#32))⟩, ⟨S2048x512, (extractStridedSlice S2048x512 ![0, 1536] (extractStridedSlice S2048x2112 ![0, 4128] a3 slices_S2048x6240_S2048x2112_0_4128) slices_S2048x2112_S2048x512_0_1536)⟩, ⟨S2048x1024, (shapeCast _ (extractStridedSlice S2048x8x128 ![0, 0, 0] (shapeCast _ (extractStridedSlice S2048x1536 ![0, 0] (extractStridedSlice S2048x2112 ![0, 4128] a3 slices_S2048x6240_S2048x2112_0_4128) slices_S2048x2112_S2048x1536_0_0) shapeCasts_S2048x1536_S2048x8x192) slices_S2048x8x192_S2048x8x128_0_0_0) shapeCasts_S2048x8x128_S2048x1024)⟩] concatenates_S2048x1024_S2048x128_S2048x384_S2048x512_S2048x1024_S2048x3072_d1) bitsLt_bf16_f32

theorem wArr_at (a3 : FVec Ideal S2048x6240 .f32) (k : Fin 2048) (j : Fin 3072) :
    wArr a3 (ix2 k j) = Cert.InDRefIdeal.At.wcol a3 j k := by
  unfold Cert.InDRefIdeal.At.wcol Cert.InDRefIdeal.At.pick
  pointwise [wArr]
  (repeat' split) <;> first | (exfalso; omega) | rfl | blk_ext []

/-- The weights' array, made on the host. -/
theorem weights_eq (c : Dev nD) : V m c main_v15 = wArr (m ((c.tc : Thread nD τ).loc main_arg3)) := by
  unfold V hostOps0
  simp only [StableHlo.TRef.binary, StableHlo.TRef.unary, StableHlo.TRef.toBuf, StableHlo.TRef.ofBuf, cast_eq]
  after_results_simp <;> (try dsimp only [Matrix.cons_val]) <;> (try after_results_simp)
  rfl
/-- The weights the call is given are the reference's columns. -/
theorem weights_at (c : Dev nD) (k : Fin 2048) (j : Fin 3072) :
    V m c main_v15 (ix2 k j) = Cert.InDRefIdeal.At.wcol (m ((c.tc : Thread nD τ).loc main_arg3)) j k := by
  exact (congrFun (weights_eq m c) (ix2 k j)).trans (wArr_at _ k j)

/-- The block of weights a grid point reads. -/
theorem w_at (c : Dev nD) (t : Fin cfg0.N) (k : Fin 2048) (j : Fin 1536) :
    iblk m c 3 t (ix2 k j) = Cert.InDRefIdeal.At.wcol (m ((c.tc : Thread nD τ).loc main_arg3))
      (⟨t.val % 2 * 1536 + j.val, by omega⟩ : Fin 3072) k := by
  obtain ⟨e0, e1, e2, e3, e4⟩ := idx t
  have h : iblk m c 3 t (ix2 k j) = V m c main_v15 (ix2 k (⟨t.val % 2 * 1536 + j.val, by omega⟩ : Fin 3072)) := by
    blk_ext [iblk, e3]
  exact h.trans (weights_at m c k _)

/-- The normed rows of a grid point's block. -/
def rows (c : Dev nD) (t : Fin cfg0.N) (r : Fin 512) (k : Fin 2048) : EReal :=
  modn (fun e => m ((c.tc : Thread nD τ).loc main_arg0) (ix2 (⟨t.val / 2 * 512 + r.val, by have := t_lt t; omega⟩ : Fin 4096) e))
    (fun e => m ((c.tc : Thread nD τ).loc main_arg1) (ix1 e))
    (fun e => m ((c.tc : Thread nD τ).loc main_arg2) (ix2 (0 : Fin 1) (⟨2048 + e.val, by omega⟩ : Fin 12288)))
    (fun e => m ((c.tc : Thread nD τ).loc main_arg2) (ix2 (0 : Fin 1) (⟨e.val, by omega⟩ : Fin 12288))) k

theorem scale_at (X : Vec Ideal S1x6x2048 .f32) (e : Fin 2048) :
    View.ld X (Rect.unit ![0, 1, 0] ![1, 1, 2048] inb_S1x6x2048_S1x1x2048_0_1_0) (ix3 (0 : Fin 1) (0 : Fin 1) e) = X (ix3 (0 : Fin 1) (1 : Fin 6) e) := by
  pointwise

theorem shift_at (X : Vec Ideal S1x6x2048 .f32) (e : Fin 2048) :
    View.ld X (Rect.unit ![0, 0, 0] ![1, 1, 2048] inb_S1x6x2048_S1x1x2048_0_0_0) (ix3 (0 : Fin 1) (0 : Fin 1) e) = X (ix3 (0 : Fin 1) (0 : Fin 6) e) := by
  pointwise

/-- The normed rows, from a grid point's blocks. -/
theorem norm_at (c : Dev nD) (t : Fin cfg0.N) (r : Fin 512) (k : Fin 2048) :
    k0_pay1 (F := Ideal) (iblk m c 0 t) (iblk m c 1 t)
      (View.ld (iblk m c 2 t) (Rect.unit ![0, 1, 0] ![1, 1, 2048] inb_S1x6x2048_S1x1x2048_0_1_0))
      (View.ld (iblk m c 2 t) (Rect.unit ![0, 0, 0] ![1, 1, 2048] inb_S1x6x2048_S1x1x2048_0_0_0)) (ix2 r k) = rows m c t r k := by
  refine (pay1_at _ _ _ _ r k).trans (modn_congr (fun e => ?_) (fun e => ?_) (fun e => ?_) (fun e => ?_) k)
  · exact x_at m c t r e
  · exact g_at m c t e
  · exact (scale_at _ e).trans (s_at m c t 1 e)
  · refine (shift_at _ e).trans ((s_at m c t 0 e).trans ?_)
    blk_ext []

/-- At a point that norms its rows: in the carried rows the normed rows of its block, at an index of its output block
    their product with the block of weights. -/
theorem step_A (c : Dev nD) (t : Fin cfg0.N) (h : t.val % 2 = 0) :
    (∀ (r : Fin 512) (k : Fin 2048), (outsAt0 m c t.val t.isLt).2 (ix2 r k) = rows m c t r k)
    ∧ ∀ (r : Fin 512) (j : Fin 1536), (outsAt0 m c t.val t.isLt).1 (ix2 r j) = ∑ k, rows m c t r k * iblk m c 3 t (ix2 k j) := by
  rw [outsAt0_A m c t h]
  constructor
  · intro r k
    dsimp only
    frame_out
    exact norm_at m c t r k
  · intro r j
    dsimp only
    frame_out
    refine (pay2_at _ _ r j).trans ?_
    refine Finset.sum_congr rfl fun k _ => ?_
    refine congrArg (fun z : EReal => z * iblk m c 3 t (ix2 k j)) ?_
    exact norm_at m c t r k

/-- At a point that finds the rows normed: it keeps them and leaves their product with its block of weights. -/
theorem step_B (c : Dev nD) (t : Fin cfg0.N) (h : ¬t.val % 2 = 0)
    (hs : ∀ (r : Fin 512) (k : Fin 2048), (outsAt0 m c (t.val - 1) (Nat.lt_of_le_of_lt (Nat.sub_le _ _) t.isLt)).2 (ix2 r k) = rows m c t r k) :
    (∀ (r : Fin 512) (k : Fin 2048), (outsAt0 m c t.val t.isLt).2 (ix2 r k) = rows m c t r k)
    ∧ ∀ (r : Fin 512) (j : Fin 1536), (outsAt0 m c t.val t.isLt).1 (ix2 r j) = ∑ k, rows m c t r k * iblk m c 3 t (ix2 k j) := by
  rw [outsAt0_B m c t h]
  constructor
  · intro r k
    exact hs r k
  · intro r j
    dsimp only
    frame_out
    refine (pay2_at _ _ r j).trans ?_
    refine Finset.sum_congr rfl fun k _ => ?_
    refine congrArg (fun z : EReal => z * iblk m c 3 t (ix2 k j)) ?_
    exact (congrFun (Memref.IsWhole.read_unread _ _) (ix2 r k)).trans (hs r k)

/-- What a grid point leaves: in the carried rows the normed rows of its block, at an index of its output block their
    product with the block of weights. -/
theorem step (c : Dev nD) : ∀ (n : Nat) (hn : n < cfg0.N),
    (∀ (r : Fin 512) (k : Fin 2048), (outsAt0 m c n hn).2 (ix2 r k) = rows m c ⟨n, hn⟩ r k)
    ∧ ∀ (r : Fin 512) (j : Fin 1536), (outsAt0 m c n hn).1 (ix2 r j) = ∑ k, rows m c ⟨n, hn⟩ r k * iblk m c 3 ⟨n, hn⟩ (ix2 k j) := by
  intro n
  induction n with
  | zero => exact fun hn => step_A m c ⟨0, hn⟩ rfl
  | succ n ih =>
    intro hn
    by_cases h : (n + 1) % 2 = 0
    · exact step_A m c ⟨n + 1, hn⟩ h
    · refine step_B m c ⟨n + 1, hn⟩ h ?_
      intro r k
      have hn' : n < cfg0.N := by omega
      refine ((ih hn').1 r k).trans ?_
      have h1 := t_lt ⟨n, hn'⟩
      have h2 := t_lt ⟨n + 1, hn⟩
      unfold rows
      refine modn_congr (fun e => ?_) (fun e => rfl) (fun e => ?_) (fun e => ?_) k
      all_goals blk_ext []

/-- THE OUTPUT ARRAY after the run is the reference's term. -/
theorem final (c : Dev nD) :
    (dats m 0 c).arrAt 4 cfg0.N = Cert.InDRefIdeal.At.REF (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  have ht := t_lt t
  obtain ⟨e0, e1, e2, e3, e4⟩ := idx t
  obtain ⟨a, b, rfl⟩ : ∃ (a : Fin 512) (b : Fin 1536), y = ix2 a b := ⟨y 0, y 1, by blk_ext []⟩
  have hemb : ((cfg0.win 4).blk t).view.emb (ix2 a b) = ix2 (⟨t.val / 2 * 512 + a.val, by omega⟩ : Fin 4096)
      (⟨t.val % 2 * 1536 + b.val, by omega⟩ : Fin 3072) := by
    blk_ext [e4]
  blk_simp
  rw [after0_4, hemb, Cert.InDRefIdeal.At.ref_at]
  refine ((step m c t.val t.isLt).2 a b).trans ?_
  unfold lin rows
  refine Finset.sum_congr rfl fun k _ => congrArg₂ (· * ·) (modn_congr (fun e => rfl) (fun e => rfl) (fun e => ?_) (fun e => ?_) k) (w_at m c t k b)
  all_goals blk_ext []

end Cert.InDIdeal.Fin

end
-- ==== Proof.InDRes.lean ====
/- The reference's result is the stages' composition. -/
module

public import proofs.«01_k».proof.Proof.InDRef

@[expose] public section

set_option maxRecDepth 16384

noncomputable section

namespace Cert.InDRefIdeal.At

open Cert.InDRefIdeal Cert.InDRefIdeal.Gen Idealize.ShloMosaic Idealize.ShloMosaic.TcCoe Idealize.SL.Sem

theorem res_eq (m : (ℓ : Loc nD τ sig) → Buf (Elt Ideal) ℓ) (c : Dev nD) :
    Value.res_main_v40 (F := Ideal) m c = REF (m ((c.tc : Thread nD τ).loc main_arg0)) (m ((c.tc : Thread nD τ).loc main_arg1))
        (m ((c.tc : Thread nD τ).loc main_arg2)) (m ((c.tc : Thread nD τ).loc main_arg3)) := by
  unfold Value.res_main_v40 REF cols arr lat nrm
  rfl

/-- What the reference's run leaves is the stages' composition of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = REF (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (res_eq m c), (h c).2⟩) (Cert.InDRefIdeal.Value.run (F := Ideal) m ρ)

end Cert.InDRefIdeal.At

end
-- ==== Proof.InDMain.lean ====
/- The input projection: the kernel's program and the reference's end with the same result. -/
module

public import proofs.«01_k».proof.Defs
public import proofs.«01_k».proof.Proof.InDFin
public import proofs.«01_k».proof.Proof.InDRes

@[expose] public section

set_option maxRecDepth 16384

noncomputable section

namespace Cert.Proof

open Idealize.ShloMosaic Idealize.SL.Sem

/-- The kernel's product of the modulated norm with its weights and the reference's end with the same array. -/
theorem algebraic_ind : Cert.algebraic_InDIdeal_InDRefIdeal := by
  pair_intro
  · run_from Cert.InDIdeal.Value.run_blocks m g
  · run_from Cert.InDRefIdeal.At.run m' g'
    exact (Cert.InDIdeal.Fin.final m c).symm

end Cert.Proof

end
-- ==== Proof.OutRef.lean ====
/- The reference's output projection, read at an index. -/
module

public import proofs.«01_k».proof.Proof.Lin
public import proofs.«01_k».proof.Proof.Gen.OutRefIdeal.Run

@[expose] public section

set_option maxRecDepth 16384

noncomputable section

namespace Cert.OutRefIdeal.At

open Cert.OutRefIdeal Cert.OutRefIdeal.Gen Idealize.ShloMosaic Idealize.ShloMosaic.TcCoe Cert.Lin

/-- The two mixers' results side by side. -/
def mixed (a0 a1 : FVec Ideal S16384x1024 .bf16) : FVec Ideal S8x2048x2048 .f32 :=
  shapeCast _ (concatenate S16384x2048 1 [⟨S16384x1024, (extf .f32 a0 bitsLt_bf16_f32)⟩, ⟨S16384x1024, (extf .f32 a1 bitsLt_bf16_f32)⟩] concatenates_S16384x1024_S16384x1024_S16384x2048_d1) shapeCasts_S16384x2048_S8x2048x2048

/-- The residual plus the gated product. -/
def gated (M : FVec Ideal S8x2048x2048 .f32) (a2 : FVec Ideal S2048x2048 .f32) (a3 : FVec Ideal S16384x2048 .f32) (a4 : FVec Ideal S8x12288 .f32) :
    FVec Ideal S16384x2048 .f32 :=
  shapeCast _ (addf (shapeCast _ a3 shapeCasts_S16384x2048_S8x2048x2048) (mulf (broadcastInDim S8x2048x2048 ![0, 1, 2] bcast_S8x1x2048_S8x2048x2048_0_1_2 (extractStridedSlice S8x1x2048 ![0, 0, 4096] (broadcastInDim S8x1x12288 ![0, 2] bcast_S8x12288_S8x1x12288_0_2 a4) slices_S8x1x12288_S8x1x2048_0_0_4096)) (Host.dotGeneral dot_S8x2048x2048_S2048x2048_S8x2048x2048_2_0_01_1_n_n none M a2))) shapeCasts_S8x2048x2048_S16384x2048

/-- The whole reference. -/
def REF (a0 a1 : FVec Ideal S16384x1024 .bf16) (a2 : FVec Ideal S2048x2048 .f32) (a3 : FVec Ideal S16384x2048 .f32) (a4 : FVec Ideal S8x12288 .f32) :
    FVec Ideal S16384x2048 .f32 :=
  gated (mixed a0 a1) a2 a3 a4

theorem mixed_lo (a0 a1 : FVec Ideal S16384x1024 .bf16) (b : Fin 8) (s : Fin 2048) (k : Fin 1024) :
    mixed a0 a1 (ix3 b s (⟨k.val, by omega⟩ : Fin 2048)) = a0 (ix2 (⟨b.val * 2048 + s.val, by omega⟩ : Fin 16384) k) := by
  pointwise [mixed]

theorem mixed_hi (a0 a1 : FVec Ideal S16384x1024 .bf16) (b : Fin 8) (s : Fin 2048) (k : Fin 1024) :
    mixed a0 a1 (ix3 b s (⟨1024 + k.val, by omega⟩ : Fin 2048)) = a1 (ix2 (⟨b.val * 2048 + s.val, by omega⟩ : Fin 16384) k) := by
  pointwise [mixed]

theorem gated_at (M : FVec Ideal S8x2048x2048 .f32) (a2 : FVec Ideal S2048x2048 .f32) (a3 : FVec Ideal S16384x2048 .f32) (a4 : FVec Ideal S8x12288 .f32)
    (r : Fin 16384) (j : Fin 2048) :
    gated M a2 a3 a4 (ix2 r j) = a3 (ix2 r j)
      + a4 (ix2 (⟨r.val / 2048, by omega⟩ : Fin 8) (⟨4096 + j.val, by omega⟩ : Fin 12288))
        * ∑ k : Fin 2048, M (ix3 (⟨r.val / 2048, by omega⟩ : Fin 8) (⟨r.val % 2048, by omega⟩ : Fin 2048) k) * a2 (ix2 k j) := by
  pointwise [gated]

/-- The reference at an index: the product's two halves, one per mixer. -/
theorem ref_at (a0 a1 : FVec Ideal S16384x1024 .bf16) (a2 : FVec Ideal S2048x2048 .f32) (a3 : FVec Ideal S16384x2048 .f32) (a4 : FVec Ideal S8x12288 .f32)
    (r : Fin 16384) (j : Fin 2048) :
    REF a0 a1 a2 a3 a4 (ix2 r j) = a3 (ix2 r j)
      + a4 (ix2 (⟨r.val / 2048, by omega⟩ : Fin 8) (⟨4096 + j.val, by omega⟩ : Fin 12288))
        * (∑ k : Fin 1024, a0 (ix2 r k) * a2 (ix2 (⟨k.val, by omega⟩ : Fin 2048) j)
            + ∑ k : Fin 1024, a1 (ix2 r k) * a2 (ix2 (⟨1024 + k.val, by omega⟩ : Fin 2048) j)) := by
  unfold REF
  have hr : (⟨r.val / 2048 * 2048 + r.val % 2048, by omega⟩ : Fin 16384) = r := Fin.ext (by show r.val / 2048 * 2048 + r.val % 2048 = r.val; omega)
  refine (gated_at _ _ _ _ r j).trans ?_
  rw [sum_halves]
  refine congrArg₂ (fun p q : EReal => a3 (ix2 r j) + a4 (ix2 (⟨r.val / 2048, by omega⟩ : Fin 8) (⟨4096 + j.val, by omega⟩ : Fin 12288)) * (p + q)) ?_ ?_
  · refine Finset.sum_congr rfl fun k _ => ?_
    refine congrArg (fun z : EReal => z * a2 (ix2 (⟨k.val, by omega⟩ : Fin 2048) j)) ((mixed_lo a0 a1 _ _ k).trans ?_)
    exact congrArg (fun i : Fin 16384 => a0 (ix2 i k)) hr
  · refine Finset.sum_congr rfl fun k _ => ?_
    refine congrArg (fun z : EReal => z * a2 (ix2 (⟨1024 + k.val, by omega⟩ : Fin 2048) j)) ((mixed_hi a0 a1 _ _ k).trans ?_)
    exact congrArg (fun i : Fin 16384 => a1 (ix2 i k)) hr

end Cert.OutRefIdeal.At

end
-- ==== Proof.OutFin.lean ====
/- The kernel's output projection: what its output array holds, index by index. -/
module

public import proofs.«01_k».proof.Proof.OutRef
public import proofs.«01_k».proof.Proof.Gen.OutIdeal.Value

@[expose] public section

set_option maxRecDepth 16384

noncomputable section

namespace Cert.OutIdeal.Fin

open Cert.OutIdeal Cert.OutIdeal.Gen Idealize.ShloMosaic Idealize.ShloMosaic.TcCoe Cert.Lin

variable (m : (ℓ : Loc nD τ sig) → Buf (Elt Ideal) ℓ)

theorem pay1_at (X : Vec Ideal S512x1024 .bf16) (U : Vec Ideal S1024x1024 .bf16) (Y : Vec Ideal S512x1024 .bf16) (W : Vec Ideal S1024x1024 .bf16)
    (R : Vec Ideal S512x1024 .f32) (G : Vec Ideal S1x1x1024 .f32) (r : Fin 512) (j : Fin 1024) :
    k0_pay1 (F := Ideal) X U Y W R G (ix2 r j)
      = R (ix2 r j) + G (ix3 0 0 j) * (∑ k : Fin 1024, X (ix2 r k) * U (ix2 k j) + ∑ k : Fin 1024, Y (ix2 r k) * W (ix2 k j)) := by
  pointwise [k0_pay1]

/-- The windows' block indices at a grid point. -/
theorem idx : ∀ t : Fin cfg0.N, win0_0.index t = ![t.val / 2, 0]
    ∧ win0_1.index t = ![t.val / 2, 0]
    ∧ win0_2.index t = ![0, t.val % 2]
    ∧ win0_3.index t = ![0, t.val % 2]
    ∧ win0_4.index t = ![t.val / 2, t.val % 2]
    ∧ win0_5.index t = ![t.val / 8, 0, t.val % 2]
    ∧ win0_6.index t = ![t.val / 2, t.val % 2] :=
  (by decide +kernel : ∀ t : Fin grid0.N, _)

theorem t_lt (t : Fin cfg0.N) : t.val < 64 := lt_of_lt_of_eq t.isLt N_0

/-- The block of the first mixer's rows a grid point reads. -/
theorem x_at (c : Dev nD) (t : Fin cfg0.N) (r : Fin 512) (k : Fin 1024) :
    iblk m c 0 t (ix2 r k) = m ((c.tc : Thread nD τ).loc main_arg0)
      (ix2 (⟨t.val / 2 * 512 + r.val, by have := t_lt t; omega⟩ : Fin 16384) k) := by
  obtain ⟨e0, e1, e2, e3, e4, e5, e6⟩ := idx t
  blk_ext [iblk, V, e0]

/-- The block of the second mixer's rows a grid point reads. -/
theorem y_at (c : Dev nD) (t : Fin cfg0.N) (r : Fin 512) (k : Fin 1024) :
    iblk m c 1 t (ix2 r k) = m ((c.tc : Thread nD τ).loc main_arg1)
      (ix2 (⟨t.val / 2 * 512 + r.val, by have := t_lt t; omega⟩ : Fin 16384) k) := by
  obtain ⟨e0, e1, e2, e3, e4, e5, e6⟩ := idx t
  blk_ext [iblk, V, e1]

/-- The block of the residual a grid point reads. -/
theorem r_at (c : Dev nD) (t : Fin cfg0.N) (r : Fin 512) (j : Fin 1024) :
    iblk m c 4 t (ix2 r j) = m ((c.tc : Thread nD τ).loc main_arg3)
      (ix2 (⟨t.val / 2 * 512 + r.val, by have := t_lt t; omega⟩ : Fin 16384) (⟨t.val % 2 * 1024 + j.val, by omega⟩ : Fin 2048)) := by
  obtain ⟨e0, e1, e2, e3, e4, e5, e6⟩ := idx t
  blk_ext [iblk, V, e4]

theorem lo_at (c : Dev nD) (k : Fin 1024) (j : Fin 2048) :
    V m c main_v1 (ix2 k j) = m ((c.tc : Thread nD τ).loc main_arg2) (ix2 (⟨k.val, by omega⟩ : Fin 2048) j) := by
  entry_read
  pointwise <;> blk_point []

theorem hi_at (c : Dev nD) (k : Fin 1024) (j : Fin 2048) :
    V m c main_v2 (ix2 k j) = m ((c.tc : Thread nD τ).loc main_arg2) (ix2 (⟨1024 + k.val, by omega⟩ : Fin 2048) j) := by
  entry_read
  pointwise <;> blk_point []

theorem mods_at (c : Dev nD) (b : Fin 8) (i : Fin 6) (k : Fin 2048) :
    V m c main_v3 (ix3 b i k) = m ((c.tc : Thread nD τ).loc main_arg4) (ix2 b (⟨i.val * 2048 + k.val, by omega⟩ : Fin 12288)) := by
  entry_read
  pointwise <;> blk_point []

/-- The blocks of weights a grid point reads. -/
theorem u_at (c : Dev nD) (t : Fin cfg0.N) (k j : Fin 1024) :
    iblk m c 2 t (ix2 k j) = m ((c.tc : Thread nD τ).loc main_arg2)
      (ix2 (⟨k.val, by omega⟩ : Fin 2048) (⟨t.val % 2 * 1024 + j.val, by omega⟩ : Fin 2048)) := by
  obtain ⟨e0, e1, e2, e3, e4, e5, e6⟩ := idx t
  have h : iblk m c 2 t (ix2 k j) = V m c main_v1 (ix2 k (⟨t.val % 2 * 1024 + j.val, by omega⟩ : Fin 2048)) := by
    blk_ext [iblk, e2]
  exact h.trans (lo_at m c k _)

@[inherit_doc u_at]
theorem w_at (c : Dev nD) (t : Fin cfg0.N) (k j : Fin 1024) :
    iblk m c 3 t (ix2 k j) = m ((c.tc : Thread nD τ).loc main_arg2)
      (ix2 (⟨1024 + k.val, by omega⟩ : Fin 2048) (⟨t.val % 2 * 1024 + j.val, by omega⟩ : Fin 2048)) := by
  obtain ⟨e0, e1, e2, e3, e4, e5, e6⟩ := idx t
  have h : iblk m c 3 t (ix2 k j) = V m c main_v2 (ix2 k (⟨t.val % 2 * 1024 + j.val, by omega⟩ : Fin 2048)) := by
    blk_ext [iblk, e3]
  exact h.trans (hi_at m c k _)

/-- The gate a grid point reads. -/
theorem g_at (c : Dev nD) (t : Fin cfg0.N) (j : Fin 1024) :
    iblk m c 5 t (ix3 (0 : Fin 1) (2 : Fin 6) j) = m ((c.tc : Thread nD τ).loc main_arg4)
      (ix2 (⟨t.val / 8, by have := t_lt t; omega⟩ : Fin 8) (⟨4096 + (t.val % 2 * 1024 + j.val), by omega⟩ : Fin 12288)) := by
  obtain ⟨e0, e1, e2, e3, e4, e5, e6⟩ := idx t
  have := t_lt t
  have h : iblk m c 5 t (ix3 (0 : Fin 1) (2 : Fin 6) j)
      = V m c main_v3 (ix3 (⟨t.val / 8, by omega⟩ : Fin 8) (2 : Fin 6) (⟨t.val % 2 * 1024 + j.val, by omega⟩ : Fin 2048)) := by
    blk_ext [iblk, e5]
  refine h.trans ((mods_at m c _ _ _).trans ?_)
  blk_ext []

theorem gate_at (X : Vec Ideal S1x6x1024 .f32) (e : Fin 1024) :
    View.ld X r0_2 (ix3 (0 : Fin 1) (0 : Fin 1) e) = X (ix3 (0 : Fin 1) (2 : Fin 6) e) := by
  pointwise

/-- THE OUTPUT ARRAY after the run is the reference's term. -/
theorem final (c : Dev nD) :
    (dats m 0 c).arrAt 6 cfg0.N = Cert.OutRefIdeal.At.REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have ht := t_lt t
  obtain ⟨e0, e1, e2, e3, e4, e5, e6⟩ := idx t
  obtain ⟨a, b, rfl⟩ : ∃ (a : Fin 512) (b : Fin 1024), y = ix2 a b := ⟨y 0, y 1, by blk_ext []⟩
  have hemb : ((cfg0.win 6).blk t).view.emb (ix2 a b) = ix2 (⟨t.val / 2 * 512 + a.val, by omega⟩ : Fin 16384)
      (⟨t.val % 2 * 1024 + b.val, by omega⟩ : Fin 2048) := by
    blk_ext [e6]
  blk_simp
  rw [after0_6, hemb, Cert.OutRefIdeal.At.ref_at]
  frame_out
  refine (pay1_at _ _ _ _ _ _ a b).trans ?_
  refine congrArg₂ (fun p q : EReal => p + q) (r_at m c t a b) (congrArg₂ (fun p q : EReal => p * q) ?_ (congrArg₂ (fun p q : EReal => p + q) ?_ ?_))
  · refine (gate_at _ b).trans ((g_at m c t b).trans ?_)
    blk_ext []
  · exact Finset.sum_congr rfl fun k _ => congrArg₂ (fun p q : EReal => p * q) (x_at m c t a k) (u_at m c t k b)
  · exact Finset.sum_congr rfl fun k _ => congrArg₂ (fun p q : EReal => p * q) (y_at m c t a k) (w_at m c t k b)

end Cert.OutIdeal.Fin

end
-- ==== Proof.OutRes.lean ====
/- The reference's result is the stages' composition. -/
module

public import proofs.«01_k».proof.Proof.OutRef

@[expose] public section

set_option maxRecDepth 16384

noncomputable section

namespace Cert.OutRefIdeal.At

open Cert.OutRefIdeal Cert.OutRefIdeal.Gen Idealize.ShloMosaic Idealize.ShloMosaic.TcCoe Idealize.SL.Sem

/-- What the reference's run leaves is the stages' composition of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  unfold REF gated mixed
  exact (θ_run _ _ _).mono (fun r h c => h c) (Cert.OutRefIdeal.Value.run (F := Ideal) m ρ)

end Cert.OutRefIdeal.At

end
-- ==== Proof.OutMain.lean ====
/- The output projection: the kernel's program and the reference's end with the same result. -/
module

public import proofs.«01_k».proof.Defs
public import proofs.«01_k».proof.Proof.OutFin
public import proofs.«01_k».proof.Proof.OutRes

@[expose] public section

set_option maxRecDepth 16384

noncomputable section

namespace Cert.Proof

open Idealize.ShloMosaic Idealize.SL.Sem

/-- The kernel's gated output projection and the reference's end with the same array. -/
theorem algebraic_out : Cert.algebraic_OutIdeal_OutRefIdeal := by
  pair_intro
  · run_from Cert.OutIdeal.Value.run_blocks m g
  · run_from Cert.OutRefIdeal.At.run m' g'
    exact (Cert.OutIdeal.Fin.final m c).symm

end Cert.Proof

end
-- ==== Proof.FinalRef.lean ====
/- The reference's last norm, read at an index. -/
module

public import proofs.«01_k».proof.Proof.Lin
public import proofs.«01_k».proof.Proof.Gen.FinalRefIdeal.Run

@[expose] public section

set_option maxRecDepth 16384

noncomputable section

namespace Cert.FinalRefIdeal.At

open Cert.FinalRefIdeal Cert.FinalRefIdeal.Gen Idealize.ShloMosaic Idealize.ShloMosaic.TcCoe Cert.Lin

/-- The whole reference: each row over its root mean square, times the gain. -/
def REF (a0 : FVec Ideal S16384x2048 .f32) (a1 : FVec Ideal S2048 .f32) : FVec Ideal S16384x2048 .f32 :=
  shapeCast _ (mulf (mulf (shapeCast _ a0 shapeCasts_S16384x2048_S8x2048x2048) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (shapeCast _ a0 shapeCasts_S16384x2048_S8x2048x2048) (shapeCast _ a0 shapeCasts_S16384x2048_S8x2048x2048)) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 a1))) shapeCasts_S8x2048x2048_S16384x2048

/-- The reference at an index. -/
theorem ref_at (a0 : FVec Ideal S16384x2048 .f32) (a1 : FVec Ideal S2048 .f32) (r : Fin 16384) (j : Fin 2048) :
    REF a0 a1 (ix2 r j) = rms (fun e => a0 (ix2 r e)) (fun e => a1 (ix1 e)) j := by
  pointwise [REF]
  rfl

end Cert.FinalRefIdeal.At

end
-- ==== Proof.FinalFin.lean ====
/- The kernel's last norm: what its output array holds, index by index. -/
module

public import proofs.«01_k».proof.Proof.FinalRef
public import proofs.«01_k».proof.Proof.Gen.FinalIdeal.Value

@[expose] public section

set_option maxRecDepth 16384

noncomputable section

namespace Cert.FinalIdeal.Fin

open Cert.FinalIdeal Cert.FinalIdeal.Gen Idealize.ShloMosaic Idealize.ShloMosaic.TcCoe Cert.Lin

variable (m : (ℓ : Loc nD τ sig) → Buf (Elt Ideal) ℓ)

theorem pay1_at (X : Vec Ideal S512x2048 .f32) (G : Vec Ideal S1x2048 .f32) (r : Fin 512) (k : Fin 2048) :
    k0_pay1 (F := Ideal) X G (ix2 r k) = rms (fun e => X (ix2 r e)) (fun e => G (ix2 0 e)) k := by
  pointwise [k0_pay1]
  rfl

/-- The windows' block indices at a grid point. -/
theorem idx : ∀ t : Fin cfg0.N, win0_0.index t = ![t.val, 0]
    ∧ win0_1.index t = ![0, 0]
    ∧ win0_2.index t = ![t.val, 0] :=
  (by decide +kernel : ∀ t : Fin grid0.N, _)

theorem t_lt (t : Fin cfg0.N) : t.val < 32 := lt_of_lt_of_eq t.isLt N_0

/-- The block of rows a grid point reads. -/
theorem x_at (c : Dev nD) (t : Fin cfg0.N) (r : Fin 512) (k : Fin 2048) :
    iblk m c 0 t (ix2 r k) = m ((c.tc : Thread nD τ).loc main_arg0)
      (ix2 (⟨t.val * 512 + r.val, by have := t_lt t; omega⟩ : Fin 16384) k) := by
  obtain ⟨e0, e1, e2⟩ := idx t
  blk_ext [iblk, V, e0]

theorem gain_at (c : Dev nD) (i : Fin 1) (k : Fin 2048) :
    V m c main_v0 (ix2 i k) = m ((c.tc : Thread nD τ).loc main_arg1) (ix1 k) := by
  entry_read
  pointwise <;> blk_point []

/-- The gain a grid point reads. -/
theorem g_at (c : Dev nD) (t : Fin cfg0.N) (k : Fin 2048) :
    iblk m c 1 t (ix2 (0 : Fin 1) k) = m ((c.tc : Thread nD τ).loc main_arg1) (ix1 k) := by
  obtain ⟨e0, e1, e2⟩ := idx t
  have h : iblk m c 1 t (ix2 (0 : Fin 1) k) = V m c main_v0 (ix2 (0 : Fin 1) k) := by
    blk_ext [iblk, e1]
  exact h.trans (gain_at m c _ k)

/-- THE OUTPUT ARRAY after the run is the reference's term. -/
theorem final (c : Dev nD) :
    (dats m 0 c).arrAt 2 cfg0.N = Cert.FinalRefIdeal.At.REF (m ((c.tc : Thread nD τ).loc main_arg0)) (m ((c.tc : Thread nD τ).loc main_arg1)) := by
  refine (dats m 0 c).arrAt_eq_of_covers 2 _ (by decide +kernel) fun t hf y => ?_
  have ht := t_lt t
  obtain ⟨e0, e1, e2⟩ := idx t
  obtain ⟨a, b, rfl⟩ : ∃ (a : Fin 512) (b : Fin 2048), y = ix2 a b := ⟨y 0, y 1, by blk_ext []⟩
  have hemb : ((cfg0.win 2).blk t).view.emb (ix2 a b) = ix2 (⟨t.val * 512 + a.val, by omega⟩ : Fin 16384) b := by
    blk_ext [e2]
  blk_simp
  rw [after0_2, hemb, Cert.FinalRefIdeal.At.ref_at]
  frame_out
  refine (pay1_at _ _ a b).trans ?_
  exact congrArg₂ (fun f g => rms f g b) (funext fun e => x_at m c t a e) (funext fun e => g_at m c t e)

end Cert.FinalIdeal.Fin

end
-- ==== Proof.FinalRes.lean ====
/- The reference's result is the stages' composition. -/
module

public import proofs.«01_k».proof.Proof.FinalRef

@[expose] public section

set_option maxRecDepth 16384

noncomputable section

namespace Cert.FinalRefIdeal.At

open Cert.FinalRefIdeal Cert.FinalRefIdeal.Gen Idealize.ShloMosaic Idealize.ShloMosaic.TcCoe Idealize.SL.Sem

/-- What the reference's run leaves is the stages' composition of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = REF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold REF
  exact (θ_run _ _ _).mono (fun r h c => h c) (Cert.FinalRefIdeal.Value.run (F := Ideal) m ρ)

end Cert.FinalRefIdeal.At

end
-- ==== Proof.FinalMain.lean ====
/- The last norm: the kernel's program and the reference's end with the same result. -/
module

public import proofs.«01_k».proof.Defs
public import proofs.«01_k».proof.Proof.FinalFin
public import proofs.«01_k».proof.Proof.FinalRes

@[expose] public section

set_option maxRecDepth 16384

noncomputable section

namespace Cert.Proof

open Idealize.ShloMosaic Idealize.SL.Sem

/-- The kernel's last norm and the reference's end with the same array. -/
theorem algebraic_final : Cert.algebraic_FinalIdeal_FinalRefIdeal := by
  pair_intro
  · run_from Cert.FinalIdeal.Value.run_blocks m g
  · run_from Cert.FinalRefIdeal.At.run m' g'
    exact (Cert.FinalIdeal.Fin.final m c).symm

end Cert.Proof

end
-- ==== Proof.FinalPRef.lean ====
/- The reference's last norm, read at an index. -/
module

public import proofs.«01_k».proof.Proof.Lin
public import proofs.«01_k».proof.Proof.Gen.FinalPRefIdeal.Run

@[expose] public section

set_option maxRecDepth 16384

noncomputable section

namespace Cert.FinalPRefIdeal.At

open Cert.FinalPRefIdeal Cert.FinalPRefIdeal.Gen Idealize.ShloMosaic Idealize.ShloMosaic.TcCoe Cert.Lin

/-- The whole reference: each row over its root mean square, times the gain. -/
def REF (a0 : FVec Ideal S4096x2048 .f32) (a1 : FVec Ideal S2048 .f32) : FVec Ideal S4096x2048 .f32 :=
  shapeCast _ (mulf (mulf (shapeCast _ a0 shapeCasts_S4096x2048_S16x256x2048) (broadcastInDim S16x256x2048 ![0, 1, 2] bcast_S16x256x1_S16x256x2048_0_1_2 (Host.rsqrt (addf (Host.divf (broadcastInDim S16x256x1 ![0, 1] bcast_S16x256_S16x256x1_0_1 (Host.reduceAdd (mulf (shapeCast _ a0 shapeCasts_S4096x2048_S16x256x2048) (shapeCast _ a0 shapeCasts_S4096x2048_S16x256x2048)) (constant S_ .f32 0x00000000#32) reducesTo_S16x256x2048_S16x256_d2 h_S_)) (broadcastInDim S16x256x1 ![] bcast_S_S16x256x1 (constant S_ .f32 0x45000000#32))) (broadcastInDim S16x256x1 ![] bcast_S_S16x256x1 (constant S_ .f32 0x358637BD#32)))))) (broadcastInDim S16x256x2048 ![0, 1, 2] bcast_S1x1x2048_S16x256x2048_0_1_2 (broadcastInDim S1x1x2048 ![2] bcast_S2048_S1x1x2048_2 a1))) shapeCasts_S16x256x2048_S4096x2048

/-- The reference at an index. -/
theorem ref_at (a0 : FVec Ideal S4096x2048 .f32) (a1 : FVec Ideal S2048 .f32) (r : Fin 4096) (j : Fin 2048) :
    REF a0 a1 (ix2 r j) = rms (fun e => a0 (ix2 r e)) (fun e => a1 (ix1 e)) j := by
  pointwise [REF]
  rfl

end Cert.FinalPRefIdeal.At

end
-- ==== Proof.FinalPFin.lean ====
/- The kernel's last norm of the context: what its output array holds, index by index. -/
module

public import proofs.«01_k».proof.Proof.FinalPRef
public import proofs.«01_k».proof.Proof.Gen.FinalPIdeal.Value

@[expose] public section

set_option maxRecDepth 16384

noncomputable section

namespace Cert.FinalPIdeal.Fin

open Cert.FinalPIdeal Cert.FinalPIdeal.Gen Idealize.ShloMosaic Idealize.ShloMosaic.TcCoe Cert.Lin

variable (m : (ℓ : Loc nD τ sig) → Buf (Elt Ideal) ℓ)

theorem pay1_at (X : Vec Ideal S512x2048 .f32) (G : Vec Ideal S1x2048 .f32) (r : Fin 512) (k : Fin 2048) :
    k0_pay1 (F := Ideal) X G (ix2 r k) = rms (fun e => X (ix2 r e)) (fun e => G (ix2 0 e)) k := by
  pointwise [k0_pay1]
  rfl

/-- The windows' block indices at a grid point. -/
theorem idx : ∀ t : Fin cfg0.N, win0_0.index t = ![t.val, 0]
    ∧ win0_1.index t = ![0, 0]
    ∧ win0_2.index t = ![t.val, 0] :=
  (by decide +kernel : ∀ t : Fin grid0.N, _)

theorem t_lt (t : Fin cfg0.N) : t.val < 8 := lt_of_lt_of_eq t.isLt N_0

/-- The block of rows a grid point reads. -/
theorem x_at (c : Dev nD) (t : Fin cfg0.N) (r : Fin 512) (k : Fin 2048) :
    iblk m c 0 t (ix2 r k) = m ((c.tc : Thread nD τ).loc main_arg0)
      (ix2 (⟨t.val * 512 + r.val, by have := t_lt t; omega⟩ : Fin 4096) k) := by
  obtain ⟨e0, e1, e2⟩ := idx t
  blk_ext [iblk, V, e0]

theorem gain_at (c : Dev nD) (i : Fin 1) (k : Fin 2048) :
    V m c main_v0 (ix2 i k) = m ((c.tc : Thread nD τ).loc main_arg1) (ix1 k) := by
  entry_read
  pointwise <;> blk_point []

/-- The gain a grid point reads. -/
theorem g_at (c : Dev nD) (t : Fin cfg0.N) (k : Fin 2048) :
    iblk m c 1 t (ix2 (0 : Fin 1) k) = m ((c.tc : Thread nD τ).loc main_arg1) (ix1 k) := by
  obtain ⟨e0, e1, e2⟩ := idx t
  have h : iblk m c 1 t (ix2 (0 : Fin 1) k) = V m c main_v0 (ix2 (0 : Fin 1) k) := by
    blk_ext [iblk, e1]
  exact h.trans (gain_at m c _ k)

/-- THE OUTPUT ARRAY after the run is the reference's term. -/
theorem final (c : Dev nD) :
    (dats m 0 c).arrAt 2 cfg0.N = Cert.FinalPRefIdeal.At.REF (m ((c.tc : Thread nD τ).loc main_arg0)) (m ((c.tc : Thread nD τ).loc main_arg1)) := by
  refine (dats m 0 c).arrAt_eq_of_covers 2 _ (by decide +kernel) fun t hf y => ?_
  have ht := t_lt t
  obtain ⟨e0, e1, e2⟩ := idx t
  obtain ⟨a, b, rfl⟩ : ∃ (a : Fin 512) (b : Fin 2048), y = ix2 a b := ⟨y 0, y 1, by blk_ext []⟩
  have hemb : ((cfg0.win 2).blk t).view.emb (ix2 a b) = ix2 (⟨t.val * 512 + a.val, by omega⟩ : Fin 4096) b := by
    blk_ext [e2]
  blk_simp
  rw [after0_2, hemb, Cert.FinalPRefIdeal.At.ref_at]
  frame_out
  refine (pay1_at _ _ a b).trans ?_
  exact congrArg₂ (fun f g => rms f g b) (funext fun e => x_at m c t a e) (funext fun e => g_at m c t e)

end Cert.FinalPIdeal.Fin

end
-- ==== Proof.FinalPRes.lean ====
/- The reference's result is the stages' composition. -/
module

public import proofs.«01_k».proof.Proof.FinalPRef

@[expose] public section

set_option maxRecDepth 16384

noncomputable section

namespace Cert.FinalPRefIdeal.At

open Cert.FinalPRefIdeal Cert.FinalPRefIdeal.Gen Idealize.ShloMosaic Idealize.ShloMosaic.TcCoe Idealize.SL.Sem

/-- What the reference's run leaves is the stages' composition of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = REF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold REF
  exact (θ_run _ _ _).mono (fun r h c => h c) (Cert.FinalPRefIdeal.Value.run (F := Ideal) m ρ)

end Cert.FinalPRefIdeal.At

end
-- ==== Proof.FinalPMain.lean ====
/- The context's last norm: the kernel's program and the reference's end with the same result. -/
module

public import proofs.«01_k».proof.Defs
public import proofs.«01_k».proof.Proof.FinalPFin
public import proofs.«01_k».proof.Proof.FinalPRes

@[expose] public section

set_option maxRecDepth 16384

noncomputable section

namespace Cert.Proof

open Idealize.ShloMosaic Idealize.SL.Sem

/-- The kernel's last norm of the context and the reference's end with the same array. -/
theorem algebraic_finalp : Cert.algebraic_FinalPIdeal_FinalPRefIdeal := by
  pair_intro
  · run_from Cert.FinalPIdeal.Value.run_blocks m g
  · run_from Cert.FinalPRefIdeal.At.run m' g'
    exact (Cert.FinalPIdeal.Fin.final m c).symm

end Cert.Proof

end
-- ==== Proof.QkRef.lean ====
/- The reference's normed queries and keys, read at an index. -/
module

public import proofs.«01_k».proof.Proof.Lin
public import proofs.«01_k».proof.Proof.Gen.QkRefIdeal.Run

@[expose] public section

set_option maxRecDepth 16384

noncomputable section

namespace Cert.QkRefIdeal.At

open Cert.QkRefIdeal Cert.QkRefIdeal.Gen Idealize.ShloMosaic Idealize.ShloMosaic.TcCoe Cert.Lin

/-- The normed queries. -/
def qn (a0 : FVec Ideal S4096x1536 .f32) (a1 : FVec Ideal S128 .f32) : FVec Ideal S4096x1024 .f32 :=
  shapeCast _ (mulf (mulf (shapeCast _ (extractStridedSlice S4096x1024 ![0, 0] a0 slices_S4096x1536_S4096x1024_0_0) shapeCasts_S4096x1024_S16x256x8x128) (broadcastInDim S16x256x8x128 ![0, 1, 2, 3] bcast_S16x256x8x1_S16x256x8x128_0_1_2_3 (Host.rsqrt (addf (Host.divf (broadcastInDim S16x256x8x1 ![0, 1, 2] bcast_S16x256x8_S16x256x8x1_0_1_2 (Host.reduceAdd (mulf (shapeCast _ (extractStridedSlice S4096x1024 ![0, 0] a0 slices_S4096x1536_S4096x1024_0_0) shapeCasts_S4096x1024_S16x256x8x128) (shapeCast _ (extractStridedSlice S4096x1024 ![0, 0] a0 slices_S4096x1536_S4096x1024_0_0) shapeCasts_S4096x1024_S16x256x8x128)) (constant S_ .f32 0x00000000#32) reducesTo_S16x256x8x128_S16x256x8_d3 h_S_)) (broadcastInDim S16x256x8x1 ![] bcast_S_S16x256x8x1 (constant S_ .f32 0x43000000#32))) (broadcastInDim S16x256x8x1 ![] bcast_S_S16x256x8x1 (constant S_ .f32 0x358637BD#32)))))) (broadcastInDim S16x256x8x128 ![0, 1, 2, 3] bcast_S1x1x1x128_S16x256x8x128_0_1_2_3 (broadcastInDim S1x1x1x128 ![3] bcast_S128_S1x1x1x128_3 a1))) shapeCasts_S16x256x8x128_S4096x1024

/-- The normed keys. -/
def kn (a0 : FVec Ideal S4096x1536 .f32) (a2 : FVec Ideal S128 .f32) : FVec Ideal S4096x256 .f32 :=
  shapeCast _ (mulf (mulf (shapeCast _ (extractStridedSlice S4096x256 ![0, 1024] a0 slices_S4096x1536_S4096x256_0_1024) shapeCasts_S4096x256_S16x256x2x128) (broadcastInDim S16x256x2x128 ![0, 1, 2, 3] bcast_S16x256x2x1_S16x256x2x128_0_1_2_3 (Host.rsqrt (addf (Host.divf (broadcastInDim S16x256x2x1 ![0, 1, 2] bcast_S16x256x2_S16x256x2x1_0_1_2 (Host.reduceAdd (mulf (shapeCast _ (extractStridedSlice S4096x256 ![0, 1024] a0 slices_S4096x1536_S4096x256_0_1024) shapeCasts_S4096x256_S16x256x2x128) (shapeCast _ (extractStridedSlice S4096x256 ![0, 1024] a0 slices_S4096x1536_S4096x256_0_1024) shapeCasts_S4096x256_S16x256x2x128)) (constant S_ .f32 0x00000000#32) reducesTo_S16x256x2x128_S16x256x2_d3 h_S_)) (broadcastInDim S16x256x2x1 ![] bcast_S_S16x256x2x1 (constant S_ .f32 0x43000000#32))) (broadcastInDim S16x256x2x1 ![] bcast_S_S16x256x2x1 (constant S_ .f32 0x358637BD#32)))))) (broadcastInDim S16x256x2x128 ![0, 1, 2, 3] bcast_S1x1x1x128_S16x256x2x128_0_1_2_3 (broadcastInDim S1x1x1x128 ![3] bcast_S128_S1x1x1x128_3 a2))) shapeCasts_S16x256x2x128_S4096x256

/-- Queries and keys side by side. -/
def side (q : FVec Ideal S4096x1024 .f32) (k : FVec Ideal S4096x256 .f32) : FVec Ideal S4096x1280 .f32 :=
  concatenate S4096x1280 1 [⟨S4096x1024, q⟩, ⟨S4096x256, k⟩] concatenates_S4096x1024_S4096x256_S4096x1280_d1

/-- The whole reference. -/
def REF (a0 : FVec Ideal S4096x1536 .f32) (a1 a2 : FVec Ideal S128 .f32) : FVec Ideal S4096x1280 .f32 :=
  side (qn a0 a1) (kn a0 a2)

theorem qn_at (a0 : FVec Ideal S4096x1536 .f32) (a1 : FVec Ideal S128 .f32) (r : Fin 4096) (j : Fin 1024) :
    qn a0 a1 (ix2 r j) = rmsh (fun e => a0 (ix2 r (⟨j.val / 128 * 128 + e.val, by omega⟩ : Fin 1536))) (fun e => a1 (ix1 e)) ⟨j.val % 128, by omega⟩ := by
  pointwise [qn]
  simp only [rmsh, Nat.add_assoc, Nat.div_add_mod']

theorem kn_at (a0 : FVec Ideal S4096x1536 .f32) (a2 : FVec Ideal S128 .f32) (r : Fin 4096) (j : Fin 256) :
    kn a0 a2 (ix2 r j) = rmsh (fun e => a0 (ix2 r (⟨1024 + j.val / 128 * 128 + e.val, by omega⟩ : Fin 1536))) (fun e => a2 (ix1 e)) ⟨j.val % 128, by omega⟩ := by
  pointwise [kn]
  simp only [rmsh, Nat.add_assoc, Nat.div_add_mod']

theorem side_at (q : FVec Ideal S4096x1024 .f32) (k : FVec Ideal S4096x256 .f32) (r : Fin 4096) (j : Fin 1280) :
    side q k (ix2 r j) = if h : j.val < 1024 then q (ix2 r ⟨j.val, h⟩) else k (ix2 r ⟨j.val - 1024, by omega⟩) := by
  pointwise [side]

/-- The reference at an index. -/
theorem ref_at (a0 : FVec Ideal S4096x1536 .f32) (a1 a2 : FVec Ideal S128 .f32) (r : Fin 4096) (j : Fin 1280) :
    REF a0 a1 a2 (ix2 r j) = rmsh (fun e => a0 (ix2 r (⟨j.val / 128 * 128 + e.val, by omega⟩ : Fin 1536)))
      (fun e => if j.val < 1024 then a1 (ix1 e) else a2 (ix1 e)) ⟨j.val % 128, by omega⟩ := by
  refine (side_at _ _ r j).trans ?_
  split
  · rename_i h
    refine (qn_at a0 a1 r _).trans ?_
    simp only [h, if_true]
  · rename_i h
    refine (kn_at a0 a2 r _).trans ?_
    simp only [h, if_false]
    refine congrArg₂ (fun f k => rmsh f (fun e => a2 (ix1 e)) k) (funext fun e => ?_) ?_
    · exact congrArg (fun k => a0 (ix2 r k)) (Fin.ext (by show 1024 + (j.val - 1024) / 128 * 128 + e.val = j.val / 128 * 128 + e.val; omega))
    · exact Fin.ext (by show (j.val - 1024) % 128 = j.val % 128; omega)

end Cert.QkRefIdeal.At

end
-- ==== Proof.QkFin.lean ====
/- The kernel's normed queries and keys: what its output array holds, index by index. -/
module

public import proofs.«01_k».proof.Proof.QkRef
public import proofs.«01_k».proof.Proof.Gen.QkIdeal.Value

@[expose] public section

set_option maxRecDepth 16384

noncomputable section

namespace Cert.QkIdeal.Fin

open Cert.QkIdeal Cert.QkIdeal.Gen Idealize.ShloMosaic Idealize.ShloMosaic.TcCoe Cert.Lin

variable (m : (ℓ : Loc nD τ sig) → Buf (Elt Ideal) ℓ)

/-- The first head. -/
theorem h0_at (X : Vec Ideal S256x128 .f32) (G : Vec Ideal S1x128 .f32) (r : Fin 256) (k : Fin 128) :
    k0_pay2 (F := Ideal) X G (ix2 r k) = rmsh (fun e => X (ix2 r e)) (fun e => G (ix2 0 e)) k := by
  pointwise [k0_pay2]
  rfl

/-- The second head. -/
theorem h1_at (X : Vec Ideal S256x128 .f32) (G : Vec Ideal S1x128 .f32) (r : Fin 256) (k : Fin 128) :
    k0_pay3 (F := Ideal) X G (ix2 r k) = rmsh (fun e => X (ix2 r e)) (fun e => G (ix2 0 e)) k := by
  pointwise [k0_pay3]
  rfl

/-- The third head. -/
theorem h2_at (X : Vec Ideal S256x128 .f32) (G : Vec Ideal S1x128 .f32) (r : Fin 256) (k : Fin 128) :
    k0_pay5 (F := Ideal) X (k0_pay4 X) G (ix2 r k) = rmsh (fun e => X (ix2 r e)) (fun e => G (ix2 0 e)) k := by
  pointwise [k0_pay5, k0_pay4]
  rfl

/-- The fourth head. -/
theorem h3_at (X : Vec Ideal S256x128 .f32) (G : Vec Ideal S1x128 .f32) (r : Fin 256) (k : Fin 128) :
    k0_pay6 (F := Ideal) X G (ix2 r k) = rmsh (fun e => X (ix2 r e)) (fun e => G (ix2 0 e)) k := by
  pointwise [k0_pay6]
  rfl

/-- The fifth head. -/
theorem h4_at (X : Vec Ideal S256x128 .f32) (G : Vec Ideal S1x128 .f32) (r : Fin 256) (k : Fin 128) :
    k0_pay8 (F := Ideal) X (k0_pay7 X) G (ix2 r k) = rmsh (fun e => X (ix2 r e)) (fun e => G (ix2 0 e)) k := by
  pointwise [k0_pay8, k0_pay7]
  rfl

/-- The sixth head. -/
theorem h5_at (X : Vec Ideal S256x128 .f32) (G : Vec Ideal S1x128 .f32) (r : Fin 256) (k : Fin 128) :
    k0_pay9 (F := Ideal) X G (ix2 r k) = rmsh (fun e => X (ix2 r e)) (fun e => G (ix2 0 e)) k := by
  pointwise [k0_pay9]
  rfl

/-- The seventh head. -/
theorem h6_at (X : Vec Ideal S256x128 .f32) (G : Vec Ideal S1x128 .f32) (r : Fin 256) (k : Fin 128) :
    k0_pay10 (F := Ideal) X G (ix2 r k) = rmsh (fun e => X (ix2 r e)) (fun e => G (ix2 0 e)) k := by
  pointwise [k0_pay10]
  rfl

/-- The eighth head. -/
theorem h7_at (X : Vec Ideal S256x128 .f32) (G : Vec Ideal S1x128 .f32) (r : Fin 256) (k : Fin 128) :
    k0_pay11 (F := Ideal) X G (ix2 r k) = rmsh (fun e => X (ix2 r e)) (fun e => G (ix2 0 e)) k := by
  pointwise [k0_pay11]
  rfl

/-- The ninth head. -/
theorem h8_at (X : Vec Ideal S256x128 .f32) (G : Vec Ideal S1x128 .f32) (r : Fin 256) (k : Fin 128) :
    k0_pay12 (F := Ideal) X G (ix2 r k) = rmsh (fun e => X (ix2 r e)) (fun e => G (ix2 0 e)) k := by
  pointwise [k0_pay12]
  rfl

/-- The tenth head. -/
theorem h9_at (X : Vec Ideal S256x128 .f32) (G : Vec Ideal S1x128 .f32) (r : Fin 256) (k : Fin 128) :
    k0_pay1 (F := Ideal) X (k0_pay13 X) G (ix2 r k) = rmsh (fun e => X (ix2 r e)) (fun e => G (ix2 0 e)) k := by
  pointwise [k0_pay1, k0_pay13]
  rfl

theorem rmsh_congr {x x' g g' : Fin 128 → EReal} {k k' : Fin 128} (hx : ∀ e, x e = x' e) (hg : ∀ e, g e = g' e) (hk : k.val = k'.val) :
    rmsh x g k = rmsh x' g' k' := by
  rw [funext hx, funext hg, Fin.ext hk]

/-- The windows' block indices at a grid point. -/
theorem idx : ∀ t : Fin cfg0.N, win0_0.index t = ![t.val, 0]
    ∧ win0_1.index t = ![0, 0]
    ∧ win0_2.index t = ![t.val, 0] :=
  (by decide +kernel : ∀ t : Fin grid0.N, _)

theorem t_lt (t : Fin cfg0.N) : t.val < 16 := lt_of_lt_of_eq t.isLt N_0

/-- The block of rows a grid point reads. -/
theorem x_at (c : Dev nD) (t : Fin cfg0.N) (r : Fin 256) (k : Fin 1280) :
    X0_0 m c t (ix2 r k) = m ((c.tc : Thread nD τ).loc main_arg0)
      (ix2 (⟨t.val * 256 + r.val, by have := t_lt t; omega⟩ : Fin 4096) (⟨k.val, by omega⟩ : Fin 1536)) := by
  have := t_lt t
  obtain ⟨e0, e1, e2⟩ := idx t
  unfold X0_0 Pipeline.Window.fill
  rw [dif_pos (moved0_0 t _)]
  blk_ext [iblk, V, e0]

/-- The gains of all heads, made on the host. -/
theorem v7_at (c : Dev nD) (i : Fin 1) (k : Fin 1280) :
    V m c main_v7 (ix2 i k) = if k.val < 1024 then m ((c.tc : Thread nD τ).loc main_arg1) (ix1 ⟨k.val % 128, by omega⟩)
      else m ((c.tc : Thread nD τ).loc main_arg2) (ix1 ⟨k.val % 128, by omega⟩) := by
  entry_read
  pointwise
  (repeat' split) <;> first | (exfalso; omega) | blk_ext []

/-- The gains a grid point reads. -/
theorem g_at (c : Dev nD) (t : Fin cfg0.N) (k : Fin 1280) :
    iblk m c 1 t (ix2 (0 : Fin 1) k) = if k.val < 1024 then m ((c.tc : Thread nD τ).loc main_arg1) (ix1 ⟨k.val % 128, by omega⟩)
      else m ((c.tc : Thread nD τ).loc main_arg2) (ix1 ⟨k.val % 128, by omega⟩) := by
  obtain ⟨e0, e1, e2⟩ := idx t
  have h : iblk m c 1 t (ix2 (0 : Fin 1) k) = V m c main_v7 (ix2 (0 : Fin 1) k) := by
    blk_ext [iblk, e1]
  exact h.trans (v7_at m c _ k)

/-- What a grid point leaves at an index of its output block. -/
theorem out_at (c : Dev nD) (t : Fin cfg0.N) (y : S256x1280.Idx) (y0 : Fin 256) (y1 : Fin 1280) (hy0 : y0.val = (y 0).val) (hy1 : y1.val = (y 1).val) :
    outsAt0 m c t y = rmsh (fun e : Fin 128 => X0_0 m c t (ix2 y0 (⟨y1.val / 128 * 128 + e.val, by omega⟩ : Fin 1280)))
      (fun e : Fin 128 => iblk m c 1 t (ix2 0 (⟨y1.val / 128 * 128 + e.val, by omega⟩ : Fin 1280))) ⟨y1.val % 128, by omega⟩ := by
  unfold outsAt0; frame_out
  canon_tiles x h
  case piece0 =>
    obtain ⟨a, b, rfl⟩ : ∃ (a : Fin 256) (b : Fin 128), x = ix2 a b := ⟨x 0, x 1, by blk_ext []⟩
    have h0 : (y 0).val = a.val := h0
    have h1 : (y 1).val = 1152 + b.val := h1
    refine (h9_at _ _ a b).trans (rmsh_congr ?_ ?_ ?_)
    · intro e; pointwise; blk_ext []
    · intro e; pointwise; blk_ext []
    · show b.val = y1.val % 128; omega
  case piece1 =>
    obtain ⟨a, b, rfl⟩ : ∃ (a : Fin 256) (b : Fin 128), x = ix2 a b := ⟨x 0, x 1, by blk_ext []⟩
    have h0 : (y 0).val = a.val := h0
    have h1 : (y 1).val = 1024 + b.val := h1
    refine (h8_at _ _ a b).trans (rmsh_congr ?_ ?_ ?_)
    · intro e; pointwise; blk_ext []
    · intro e; pointwise; blk_ext []
    · show b.val = y1.val % 128; omega
  case piece2 =>
    obtain ⟨a, b, rfl⟩ : ∃ (a : Fin 256) (b : Fin 128), x = ix2 a b := ⟨x 0, x 1, by blk_ext []⟩
    have h0 : (y 0).val = a.val := h0
    have h1 : (y 1).val = 896 + b.val := h1
    refine (h7_at _ _ a b).trans (rmsh_congr ?_ ?_ ?_)
    · intro e; pointwise; blk_ext []
    · intro e; pointwise; blk_ext []
    · show b.val = y1.val % 128; omega
  case piece3 =>
    obtain ⟨a, b, rfl⟩ : ∃ (a : Fin 256) (b : Fin 128), x = ix2 a b := ⟨x 0, x 1, by blk_ext []⟩
    have h0 : (y 0).val = a.val := h0
    have h1 : (y 1).val = 768 + b.val := h1
    refine (h6_at _ _ a b).trans (rmsh_congr ?_ ?_ ?_)
    · intro e; pointwise; blk_ext []
    · intro e; pointwise; blk_ext []
    · show b.val = y1.val % 128; omega
  case piece4 =>
    obtain ⟨a, b, rfl⟩ : ∃ (a : Fin 256) (b : Fin 128), x = ix2 a b := ⟨x 0, x 1, by blk_ext []⟩
    have h0 : (y 0).val = a.val := h0
    have h1 : (y 1).val = 640 + b.val := h1
    refine (h5_at _ _ a b).trans (rmsh_congr ?_ ?_ ?_)
    · intro e; pointwise; blk_ext []
    · intro e; pointwise; blk_ext []
    · show b.val = y1.val % 128; omega
  case piece5 =>
    obtain ⟨a, b, rfl⟩ : ∃ (a : Fin 256) (b : Fin 128), x = ix2 a b := ⟨x 0, x 1, by blk_ext []⟩
    have h0 : (y 0).val = a.val := h0
    have h1 : (y 1).val = 512 + b.val := h1
    refine (h4_at _ _ a b).trans (rmsh_congr ?_ ?_ ?_)
    · intro e; pointwise; blk_ext []
    · intro e; pointwise; blk_ext []
    · show b.val = y1.val % 128; omega
  case piece6 =>
    obtain ⟨a, b, rfl⟩ : ∃ (a : Fin 256) (b : Fin 128), x = ix2 a b := ⟨x 0, x 1, by blk_ext []⟩
    have h0 : (y 0).val = a.val := h0
    have h1 : (y 1).val = 384 + b.val := h1
    refine (h3_at _ _ a b).trans (rmsh_congr ?_ ?_ ?_)
    · intro e; pointwise; blk_ext []
    · intro e; pointwise; blk_ext []
    · show b.val = y1.val % 128; omega
  case piece7 =>
    obtain ⟨a, b, rfl⟩ : ∃ (a : Fin 256) (b : Fin 128), x = ix2 a b := ⟨x 0, x 1, by blk_ext []⟩
    have h0 : (y 0).val = a.val := h0
    have h1 : (y 1).val = 256 + b.val := h1
    refine (h2_at _ _ a b).trans (rmsh_congr ?_ ?_ ?_)
    · intro e; pointwise; blk_ext []
    · intro e; pointwise; blk_ext []
    · show b.val = y1.val % 128; omega
  case piece8 =>
    obtain ⟨a, b, rfl⟩ : ∃ (a : Fin 256) (b : Fin 128), x = ix2 a b := ⟨x 0, x 1, by blk_ext []⟩
    have h0 : (y 0).val = a.val := h0
    have h1 : (y 1).val = 128 + b.val := h1
    refine (h1_at _ _ a b).trans (rmsh_congr ?_ ?_ ?_)
    · intro e; pointwise; blk_ext []
    · intro e; pointwise; blk_ext []
    · show b.val = y1.val % 128; omega
  case piece9 =>
    obtain ⟨a, b, rfl⟩ : ∃ (a : Fin 256) (b : Fin 128), x = ix2 a b := ⟨x 0, x 1, by blk_ext []⟩
    have h0 : (y 0).val = a.val := h0
    have h1 : (y 1).val = b.val := h1
    refine (h0_at _ _ a b).trans (rmsh_congr ?_ ?_ ?_)
    · intro e; pointwise; blk_ext []
    · intro e; pointwise; blk_ext []
    · show b.val = y1.val % 128; omega

/-- The same, at the index's two coordinates. -/
theorem out_at2 (c : Dev nD) (t : Fin cfg0.N) (a : Fin 256) (b : Fin 1280) :
    outsAt0 m c t (ix2 a b) = rmsh (fun e : Fin 128 => X0_0 m c t (ix2 a (⟨b.val / 128 * 128 + e.val, by omega⟩ : Fin 1280)))
      (fun e : Fin 128 => iblk m c 1 t (ix2 0 (⟨b.val / 128 * 128 + e.val, by omega⟩ : Fin 1280))) ⟨b.val % 128, by omega⟩ :=
  out_at m c t (ix2 a b) a b rfl rfl

/-- THE OUTPUT ARRAY after the run is the reference's term. -/
theorem final (c : Dev nD) :
    (dats m 0 c).arrAt 2 cfg0.N = Cert.QkRefIdeal.At.REF (m ((c.tc : Thread nD τ).loc main_arg0)) (m ((c.tc : Thread nD τ).loc main_arg1))
      (m ((c.tc : Thread nD τ).loc main_arg2)) := by
  refine (dats m 0 c).arrAt_eq_of_covers 2 _ (by decide +kernel) fun t hf y => ?_
  have ht := t_lt t
  obtain ⟨e0, e1, e2⟩ := idx t
  obtain ⟨a, b, rfl⟩ : ∃ (a : Fin 256) (b : Fin 1280), y = ix2 a b := ⟨y 0, y 1, by blk_ext []⟩
  have hemb : ((cfg0.win 2).blk t).view.emb (ix2 a b) = ix2 (⟨t.val * 256 + a.val, by omega⟩ : Fin 4096) b := by
    blk_ext [e2]
  blk_simp
  rw [after0_2, hemb, Cert.QkRefIdeal.At.ref_at]
  refine (out_at2 m c t a b).trans (rmsh_congr (fun e => x_at m c t a _) (fun e => (g_at m c t _).trans ?_) rfl)
  have hc : (b.val / 128 * 128 + e.val < 1024) ↔ b.val < 1024 := by omega
  have he : (b.val / 128 * 128 + e.val) % 128 = e.val := by omega
  simp only [hc, he]

end Cert.QkIdeal.Fin

end
-- ==== Proof.QkRes.lean ====
/- The reference's result is the stages' composition. -/
module

public import proofs.«01_k».proof.Proof.QkRef

@[expose] public section

set_option maxRecDepth 16384

noncomputable section

namespace Cert.QkRefIdeal.At

open Cert.QkRefIdeal Cert.QkRefIdeal.Gen Idealize.ShloMosaic Idealize.ShloMosaic.TcCoe Idealize.SL.Sem

/-- What the reference's run leaves is the stages' composition of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold REF side qn kn
  exact (θ_run _ _ _).mono (fun r h c => h c) (Cert.QkRefIdeal.Value.run (F := Ideal) m ρ)

end Cert.QkRefIdeal.At

end
-- ==== Proof.QkMain.lean ====
/- Normed queries and keys: the kernel's program and the reference's end with the same result. -/
module

public import proofs.«01_k».proof.Defs
public import proofs.«01_k».proof.Proof.QkFin
public import proofs.«01_k».proof.Proof.QkRes

@[expose] public section

set_option maxRecDepth 16384

noncomputable section

namespace Cert.Proof

open Idealize.ShloMosaic Idealize.SL.Sem

/-- The kernel's normed queries and keys and the reference's end with the same array. -/
theorem algebraic_qk : Cert.algebraic_QkIdeal_QkRefIdeal := by
  pair_intro
  · run_from Cert.QkIdeal.Value.run_blocks m g
  · run_from Cert.QkRefIdeal.At.run m' g'
    exact (Cert.QkIdeal.Fin.final m c).symm

end Cert.Proof

end
-- ==== Proof.Nrm.lean ====
/- A row over its root mean square has real entries, whatever the row. -/
module

public import proofs.«01_k».proof.Proof.Lin
public import proofs.«01_k».proof.Proof.Softmax

@[expose] public section

set_option maxRecDepth 16384

noncomputable section

namespace Cert.Nrm

open Idealize.ShloMosaic Cert.Lin Cert.Softmax

theorem width_real : ∃ d : ℝ, 0 < d ∧ Ideal.ofBits .f32 0x45000000#32 = (d : EReal) := by
  refine ⟨_, ?_, by simp [Ideal.ofBits, Ideal.ieee]; rfl⟩
  positivity

theorem eps_real : ∃ d : ℝ, 0 < d ∧ Ideal.ofBits .f32 0x358637BD#32 = (d : EReal) := by
  refine ⟨_, ?_, by simp [Ideal.ofBits, Ideal.ieee]; rfl⟩
  positivity

theorem sq_nonneg (x : EReal) : 0 ≤ x * x := by
  induction x with
  | bot => simp
  | top => simp
  | coe r => rw [← EReal.coe_mul]; exact_mod_cast mul_self_nonneg r

/-- Where the sum of the squares is a real number, so is every entry. -/
theorem real_of_sum {n : ℕ} (x : Fin n → EReal) (h : ∑ e, x e * x e ≠ ⊤) (k : Fin n) : IsReal (x k) := by
  have hk : x k * x k ≤ ∑ e, x e * x e :=
    Finset.single_le_sum (f := fun e => x e * x e) (fun e _ => sq_nonneg (x e)) (Finset.mem_univ k)
  have hlt : x k * x k < ⊤ := lt_of_le_of_lt hk (lt_top_iff_ne_top.mpr h)
  generalize x k = y at hlt
  induction y with
  | bot => simp at hlt
  | top => simp at hlt
  | coe r => exact ⟨r, rfl⟩

/-- An entry over the row's root mean square is real: with an infinite entry the root mean square is infinite and the
    quotient zero. -/
theorem over_rms (x : Fin 2048 → EReal) (k : Fin 2048) :
    IsReal (x k * Ideal.rsqrt (Ideal.div (∑ e, x e * x e) (Ideal.ofBits .f32 0x45000000#32) + Ideal.ofBits .f32 0x358637BD#32)) := by
  obtain ⟨d, hd, hd'⟩ := width_real
  obtain ⟨p, hp, hp'⟩ := eps_real
  have hne : (d : EReal) ≠ 0 := by exact_mod_cast hd.ne'
  rw [hd', hp', Ideal.div, if_neg hne, ← EReal.coe_inv]
  by_cases h : ∑ e, x e * x e = ⊤
  · rw [h, EReal.top_mul_of_pos (by exact_mod_cast inv_pos.mpr hd), EReal.top_add_coe]
    exact ⟨0, by show x k * 0 = _; simp⟩
  · obtain ⟨r, hr⟩ := real_of_sum x h k
    have h0 : 0 ≤ ∑ e, x e * x e := Finset.sum_nonneg fun e _ => sq_nonneg (x e)
    obtain ⟨s, hs⟩ : IsReal (∑ e, x e * x e) := fin_sum _ _ fun e _ => fin_mul (real_of_sum x h e) (real_of_sum x h e)
    rw [hs] at h0 ⊢
    have hs0 : 0 ≤ s := by exact_mod_cast h0
    have hpos : 0 < s * d⁻¹ + p := by positivity
    rw [← EReal.coe_mul, ← EReal.coe_add]
    refine fin_mul ⟨r, hr⟩ ⟨(Real.sqrt (s * d⁻¹ + p))⁻¹, ?_⟩
    show (if s * d⁻¹ + p < 0 then (⊥ : EReal) else if s * d⁻¹ + p = 0 then ⊤ else ((Real.sqrt (s * d⁻¹ + p))⁻¹ : ℝ)) = _
    rw [if_neg (by linarith), if_neg hpos.ne']

/-- A modulated row has real entries where gain, scale and shift do. -/
theorem modn_real (x g s h : Fin 2048 → EReal) (hg : ∀ k, IsReal (g k)) (hs : ∀ k, IsReal (s k)) (hh : ∀ k, IsReal (h k)) (k : Fin 2048) :
    IsReal (modn x g s h k) :=
  fin_add (fin_mul (fin_mul (over_rms x k) (hg k)) (fin_add ⟨1, rfl⟩ (hs k))) (hh k)

/-- What a rounding that changes nothing leaves of a number. -/
def rest (x : EReal) : EReal := x - x

/-- A real number less itself is zero. -/
theorem sub_self_real {x : EReal} (h : IsReal x) : x - x = 0 := by
  obtain ⟨r, rfl⟩ := h
  rw [← EReal.coe_sub, sub_self]; rfl

/-- The product of two splits, the rest times the rest left out, is the product: of real numbers the rests are zero. -/
theorem split_eq (x w : Fin 2048 → EReal) (hx : ∀ k, IsReal (x k)) (hw : ∀ k, IsReal (w k)) :
    ∑ k, x k * w k + (∑ k, x k * rest (w k) + ∑ k, (x k - x k) * w k) = ∑ k, x k * w k := by
  have h1 : ∀ k, rest (w k) = 0 := fun k => sub_self_real (hw k)
  have h2 : ∀ k, x k - x k = 0 := fun k => sub_self_real (hx k)
  simp only [h1, h2, mul_zero, zero_mul, Finset.sum_const_zero, add_zero]

end Cert.Nrm

end
-- ==== Proof.PeerQRef.lean ====
/- The reference's expert queries, read at an index. -/
module

public import proofs.«01_k».proof.Proof.Lin
public import proofs.«01_k».proof.Proof.Gen.PeerQRefIdeal.Run

@[expose] public section

set_option maxRecDepth 16384

noncomputable section

namespace Cert.PeerQRefIdeal.At

open Cert.PeerQRefIdeal Cert.PeerQRefIdeal.Gen Idealize.ShloMosaic Idealize.ShloMosaic.TcCoe Cert.Lin

/-- The rows normed and modulated. -/
def nrm (a0 : FVec Ideal S16384x2048 .f32) (a1 : FVec Ideal S2048 .f32) (a2 : FVec Ideal S8x12288 .f32) : FVec Ideal S16384x2048 .f32 :=
  shapeCast _ (addf (mulf (mulf (mulf (shapeCast _ a0 shapeCasts_S16384x2048_S8x2048x2048) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (shapeCast _ a0 shapeCasts_S16384x2048_S8x2048x2048) (shapeCast _ a0 shapeCasts_S16384x2048_S8x2048x2048)) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 a1))) (broadcastInDim S8x2048x2048 ![0, 1, 2] bcast_S8x1x2048_S8x2048x2048_0_1_2 (addf (broadcastInDim S8x1x2048 ![] bcast_S_S8x1x2048 (constant S_ .f32 0x3F800000#32)) (extractStridedSlice S8x1x2048 ![0, 0, 8192] (broadcastInDim S8x1x12288 ![0, 2] bcast_S8x12288_S8x1x12288_0_2 a2) slices_S8x1x12288_S8x1x2048_0_0_8192)))) (broadcastInDim S8x2048x2048 ![0, 1, 2] bcast_S8x1x2048_S8x2048x2048_0_1_2 (extractStridedSlice S8x1x2048 ![0, 0, 6144] (broadcastInDim S8x1x12288 ![0, 2] bcast_S8x12288_S8x1x12288_0_2 a2) slices_S8x1x12288_S8x1x2048_0_0_6144))) shapeCasts_S8x2048x2048_S16384x2048

/-- The queries: the product of such rows with the weights. -/
def prod (N : FVec Ideal S16384x2048 .f32) (a3 : FVec Ideal S2048x1024 .f32) : FVec Ideal S16384x1024 .f32 :=
  Host.dotGeneral dot_S16384x2048_S2048x1024_S16384x1024_1_0_0_1_n_n none N a3

/-- The rows, as the experts take them. -/
def cast (N : FVec Ideal S16384x2048 .f32) : FVec Ideal S16384x2048 .bf16 :=
  truncf .bf16 N bitsLt_bf16_f32

/-- The whole reference's first result. -/
def REF (a0 : FVec Ideal S16384x2048 .f32) (a1 : FVec Ideal S2048 .f32) (a2 : FVec Ideal S8x12288 .f32) (a3 : FVec Ideal S2048x1024 .f32) :
    FVec Ideal S16384x1024 .f32 :=
  prod (nrm a0 a1 a2) a3

/-- The whole reference's second result. -/
def REFN (a0 : FVec Ideal S16384x2048 .f32) (a1 : FVec Ideal S2048 .f32) (a2 : FVec Ideal S8x12288 .f32) : FVec Ideal S16384x2048 .bf16 :=
  cast (nrm a0 a1 a2)

/-- A row's normed and modulated entries. -/
def row (a0 : FVec Ideal S16384x2048 .f32) (a1 : FVec Ideal S2048 .f32) (a2 : FVec Ideal S8x12288 .f32) (r : Fin 16384) (k : Fin 2048) : EReal :=
  modn (fun e => a0 (ix2 r e)) (fun e => a1 (ix1 e))
    (fun e => a2 (ix2 (⟨r.val / 2048, by omega⟩ : Fin 8) (⟨8192 + e.val, by omega⟩ : Fin 12288)))
    (fun e => a2 (ix2 (⟨r.val / 2048, by omega⟩ : Fin 8) (⟨6144 + e.val, by omega⟩ : Fin 12288))) k

theorem nrm_at (a0 : FVec Ideal S16384x2048 .f32) (a1 : FVec Ideal S2048 .f32) (a2 : FVec Ideal S8x12288 .f32) (r : Fin 16384) (k : Fin 2048) :
    nrm a0 a1 a2 (ix2 r k) = row a0 a1 a2 r k := by
  unfold row
  pointwise [nrm]
  rfl

theorem prod_at (N : FVec Ideal S16384x2048 .f32) (a3 : FVec Ideal S2048x1024 .f32) (r : Fin 16384) (j : Fin 1024) :
    prod N a3 (ix2 r j) = ∑ k : Fin 2048, N (ix2 r k) * a3 (ix2 k j) := by
  pointwise [prod]

theorem cast_at (N : FVec Ideal S16384x2048 .f32) (r : Fin 16384) (k : Fin 2048) : cast N (ix2 r k) = N (ix2 r k) := by
  pointwise [cast]

/-- The reference's first result at an index. -/
theorem ref_at (a0 : FVec Ideal S16384x2048 .f32) (a1 : FVec Ideal S2048 .f32) (a2 : FVec Ideal S8x12288 .f32) (a3 : FVec Ideal S2048x1024 .f32)
    (r : Fin 16384) (j : Fin 1024) :
    REF a0 a1 a2 a3 (ix2 r j) = ∑ k : Fin 2048, row a0 a1 a2 r k * a3 (ix2 k j) := by
  unfold REF
  exact (prod_at _ a3 r j).trans (Finset.sum_congr rfl fun k _ => congrArg (fun z : EReal => z * a3 (ix2 k j)) (nrm_at a0 a1 a2 r k))

/-- The reference's second result at an index. -/
theorem refn_at (a0 : FVec Ideal S16384x2048 .f32) (a1 : FVec Ideal S2048 .f32) (a2 : FVec Ideal S8x12288 .f32) (r : Fin 16384) (k : Fin 2048) :
    REFN a0 a1 a2 (ix2 r k) = row a0 a1 a2 r k := by
  unfold REFN
  exact (cast_at _ r k).trans (nrm_at a0 a1 a2 r k)

end Cert.PeerQRefIdeal.At

end
-- ==== Proof.PeerQFin.lean ====
/- The kernel's expert queries: what its output arrays hold, index by index. -/
module

public import proofs.«01_k».proof.Proof.Nrm
public import proofs.«01_k».proof.Proof.PeerQRef
public import proofs.«01_k».proof.Proof.Gen.PeerQIdeal.Value

@[expose] public section

set_option maxRecDepth 16384

noncomputable section

namespace Cert.PeerQIdeal.Fin

open Cert.PeerQIdeal Cert.PeerQIdeal.Gen Idealize.ShloMosaic Idealize.ShloMosaic.TcCoe Cert.Lin Cert.Softmax Cert.PeerQRefIdeal.At

variable (m : (ℓ : Loc nD τ sig) → Buf (Elt Ideal) ℓ)

theorem pay2_at (X : Vec Ideal S512x2048 .f32) (G : Vec Ideal S1x2048 .f32) (A B : Vec Ideal S1x1x2048 .f32) (r : Fin 512) (k : Fin 2048) :
    k0_pay2 (F := Ideal) X G A B (ix2 r k)
      = modn (fun e => X (ix2 r e)) (fun e => G (ix2 0 e)) (fun e => A (ix3 0 0 e)) (fun e => B (ix3 0 0 e)) k := by
  pointwise [k0_pay2]
  rfl

theorem pay4_at (X : Vec Ideal S512x2048 .f32) (G : Vec Ideal S1x2048 .f32) (A B : Vec Ideal S1x1x2048 .f32) (r : Fin 512) (k : Fin 2048) :
    k0_pay4 (F := Ideal) X G A B (ix2 r k)
      = modn (fun e => X (ix2 r e)) (fun e => G (ix2 0 e)) (fun e => A (ix3 0 0 e)) (fun e => B (ix3 0 0 e)) k := by
  refine Eq.trans ?_ (pay2_at X G A B r k)
  pointwise [k0_pay4, k0_pay3]

theorem pay5_at (X : Vec Ideal S512x2048 .f32) (G : Vec Ideal S1x2048 .f32) (A B : Vec Ideal S1x1x2048 .f32) (r : Fin 512) (k : Fin 2048) :
    k0_pay5 (F := Ideal) X G A B (ix2 r k)
      = modn (fun e => X (ix2 r e)) (fun e => G (ix2 0 e)) (fun e => A (ix3 0 0 e)) (fun e => B (ix3 0 0 e)) k
        - modn (fun e => X (ix2 r e)) (fun e => G (ix2 0 e)) (fun e => A (ix3 0 0 e)) (fun e => B (ix3 0 0 e)) k := by
  rw [← pay2_at X G A B r k]
  pointwise [k0_pay5, k0_pay3]

theorem pay6_at (X : Vec Ideal S512x2048 .f32) (G : Vec Ideal S1x2048 .f32) (A B : Vec Ideal S1x1x2048 .f32) (r : Fin 512) (k : Fin 2048) :
    k0_pay6 (F := Ideal) X G A B (ix2 r k)
      = modn (fun e => X (ix2 r e)) (fun e => G (ix2 0 e)) (fun e => A (ix3 0 0 e)) (fun e => B (ix3 0 0 e)) k := by
  refine Eq.trans ?_ (pay2_at X G A B r k)
  pointwise [k0_pay6]

theorem pay1_at (X : Vec Ideal S512x2048 .bf16) (U : Vec Ideal S2048x1024 .bf16) (X' : Vec Ideal S512x2048 .bf16) (W : Vec Ideal S2048x1024 .bf16)
    (Y : Vec Ideal S512x2048 .bf16) (U' : Vec Ideal S2048x1024 .bf16) (r : Fin 512) (j : Fin 1024) :
    k0_pay1 (F := Ideal) X U X' W Y U' (ix2 r j) = ∑ k, X (ix2 r k) * U (ix2 k j)
      + (∑ k, X' (ix2 r k) * W (ix2 k j) + ∑ k, Y (ix2 r k) * U' (ix2 k j)) := by
  pointwise [k0_pay1]

/-- The windows' block indices at a grid point. -/
theorem idx : ∀ t : Fin cfg0.N, win0_0.index t = ![t.val, 0]
    ∧ win0_1.index t = ![0, 0]
    ∧ win0_2.index t = ![t.val / 4, 0, 0]
    ∧ win0_3.index t = ![0, 0]
    ∧ win0_4.index t = ![0, 0]
    ∧ win0_5.index t = ![t.val, 0]
    ∧ win0_6.index t = ![t.val, 0] :=
  (by decide +kernel : ∀ t : Fin grid0.N, _)

theorem t_lt (t : Fin cfg0.N) : t.val < 32 := lt_of_lt_of_eq t.isLt N_0

/-- The block of rows a grid point reads. -/
theorem x_at (c : Dev nD) (t : Fin cfg0.N) (r : Fin 512) (k : Fin 2048) :
    iblk m c 0 t (ix2 r k) = m ((c.tc : Thread nD τ).loc main_arg0)
      (ix2 (⟨t.val * 512 + r.val, by have := t_lt t; omega⟩ : Fin 16384) k) := by
  obtain ⟨e0, e1, e2, e3, e4, e5, e6⟩ := idx t
  blk_ext [iblk, V, e0]

theorem gain_at (c : Dev nD) (i : Fin 1) (k : Fin 2048) :
    V m c main_v5 (ix2 i k) = m ((c.tc : Thread nD τ).loc main_arg1) (ix1 k) := by
  entry_read
  pointwise <;> blk_point []

/-- The gain a grid point reads. -/
theorem g_at (c : Dev nD) (t : Fin cfg0.N) (k : Fin 2048) :
    iblk m c 1 t (ix2 (0 : Fin 1) k) = m ((c.tc : Thread nD τ).loc main_arg1) (ix1 k) := by
  obtain ⟨e0, e1, e2, e3, e4, e5, e6⟩ := idx t
  have h : iblk m c 1 t (ix2 (0 : Fin 1) k) = V m c main_v5 (ix2 (0 : Fin 1) k) := by
    blk_ext [iblk, e1]
  exact h.trans (gain_at m c _ k)

theorem mods_at (c : Dev nD) (b : Fin 8) (i : Fin 6) (k : Fin 2048) :
    V m c main_v4 (ix3 b i k) = m ((c.tc : Thread nD τ).loc main_arg2) (ix2 b (⟨i.val * 2048 + k.val, by omega⟩ : Fin 12288)) := by
  entry_read
  pointwise <;> blk_point []

/-- The modulation a grid point reads. -/
theorem s_at (c : Dev nD) (t : Fin cfg0.N) (i : Fin 6) (k : Fin 2048) :
    iblk m c 2 t (ix3 (0 : Fin 1) i k) = m ((c.tc : Thread nD τ).loc main_arg2)
      (ix2 (⟨t.val / 4, by have := t_lt t; omega⟩ : Fin 8) (⟨i.val * 2048 + k.val, by omega⟩ : Fin 12288)) := by
  obtain ⟨e0, e1, e2, e3, e4, e5, e6⟩ := idx t
  have := t_lt t
  have h : iblk m c 2 t (ix3 (0 : Fin 1) i k) = V m c main_v4 (ix3 (⟨t.val / 4, by omega⟩ : Fin 8) i k) := by
    blk_ext [iblk, e2]
  exact h.trans (mods_at m c _ i k)

theorem hi_at (c : Dev nD) (k : Fin 2048) (j : Fin 1024) :
    V m c main_v0 (ix2 k j) = m ((c.tc : Thread nD τ).loc main_arg3) (ix2 k j) := by
  entry_read
  pointwise <;> blk_point []

theorem lo_at (c : Dev nD) (k : Fin 2048) (j : Fin 1024) :
    V m c main_v3 (ix2 k j) = Cert.Nrm.rest (m ((c.tc : Thread nD τ).loc main_arg3) (ix2 k j)) := by
  unfold Cert.Nrm.rest
  entry_read
  pointwise <;> blk_point []

/-- The weights a grid point reads. -/
theorem u_at (c : Dev nD) (t : Fin cfg0.N) (k : Fin 2048) (j : Fin 1024) :
    iblk m c 3 t (ix2 k j) = m ((c.tc : Thread nD τ).loc main_arg3) (ix2 k j) := by
  obtain ⟨e0, e1, e2, e3, e4, e5, e6⟩ := idx t
  have h : iblk m c 3 t (ix2 k j) = V m c main_v0 (ix2 k j) := by
    blk_ext [iblk, e3]
  exact h.trans (hi_at m c k j)

/-- What the split left of the weights. -/
theorem w_at (c : Dev nD) (t : Fin cfg0.N) (k : Fin 2048) (j : Fin 1024) :
    iblk m c 4 t (ix2 k j) = Cert.Nrm.rest (m ((c.tc : Thread nD τ).loc main_arg3) (ix2 k j)) := by
  obtain ⟨e0, e1, e2, e3, e4, e5, e6⟩ := idx t
  have h : iblk m c 4 t (ix2 k j) = V m c main_v3 (ix2 k j) := by
    blk_ext [iblk, e4]
  exact h.trans (lo_at m c k j)

theorem scale_at (X : Vec Ideal S1x6x2048 .f32) (e : Fin 2048) :
    View.ld X (Rect.unit ![0, 4, 0] ![1, 1, 2048] inb_S1x6x2048_S1x1x2048_0_4_0) (ix3 (0 : Fin 1) (0 : Fin 1) e) = X (ix3 (0 : Fin 1) (4 : Fin 6) e) := by
  pointwise

theorem shift_at (X : Vec Ideal S1x6x2048 .f32) (e : Fin 2048) :
    View.ld X (Rect.unit ![0, 3, 0] ![1, 1, 2048] inb_S1x6x2048_S1x1x2048_0_3_0) (ix3 (0 : Fin 1) (0 : Fin 1) e) = X (ix3 (0 : Fin 1) (3 : Fin 6) e) := by
  pointwise

/-- The normed rows of a grid point's block are the reference's. -/
theorem norm_at (c : Dev nD) (t : Fin cfg0.N) (r : Fin 512) (k : Fin 2048) :
    modn (fun e => iblk m c 0 t (ix2 r e)) (fun e => iblk m c 1 t (ix2 (0 : Fin 1) e))
      (fun e => View.ld (iblk m c 2 t) (Rect.unit ![0, 4, 0] ![1, 1, 2048] inb_S1x6x2048_S1x1x2048_0_4_0) (ix3 (0 : Fin 1) (0 : Fin 1) e))
      (fun e => View.ld (iblk m c 2 t) (Rect.unit ![0, 3, 0] ![1, 1, 2048] inb_S1x6x2048_S1x1x2048_0_3_0) (ix3 (0 : Fin 1) (0 : Fin 1) e)) k
    = row (m ((c.tc : Thread nD τ).loc main_arg0)) (m ((c.tc : Thread nD τ).loc main_arg1)) (m ((c.tc : Thread nD τ).loc main_arg2)) (⟨t.val * 512 + r.val, by have := t_lt t; omega⟩ : Fin 16384) k := by
  have := t_lt t
  have hb : (⟨t.val / 4, by omega⟩ : Fin 8) = ⟨(t.val * 512 + r.val) / 2048, by omega⟩ :=
    Fin.ext (by show t.val / 4 = (t.val * 512 + r.val) / 2048; omega)
  unfold row
  refine modn_congr (fun e => x_at m c t r e) (fun e => g_at m c t e) (fun e => ?_) (fun e => ?_) k
  · refine (scale_at _ e).trans ((s_at m c t 4 e).trans ?_)
    rw [hb]
    exact congrArg (fun i : Fin 12288 => m ((c.tc : Thread nD τ).loc main_arg2) (ix2 (⟨(t.val * 512 + r.val) / 2048, by omega⟩ : Fin 8) i)) (Fin.ext rfl)
  · refine (shift_at _ e).trans ((s_at m c t 3 e).trans ?_)
    rw [hb]
    exact congrArg (fun i : Fin 12288 => m ((c.tc : Thread nD τ).loc main_arg2) (ix2 (⟨(t.val * 512 + r.val) / 2048, by omega⟩ : Fin 8) i)) (Fin.ext rfl)

/-- What a grid point leaves of its queries: the product of two splits. -/
theorem out_at (c : Dev nD) (t : Fin cfg0.N) (r : Fin 512) (j : Fin 1024) :
    (outsAt0 m c t).1 (ix2 r j) =
      ∑ k, row (m ((c.tc : Thread nD τ).loc main_arg0)) (m ((c.tc : Thread nD τ).loc main_arg1)) (m ((c.tc : Thread nD τ).loc main_arg2)) (⟨t.val * 512 + r.val, by have := t_lt t; omega⟩ : Fin 16384) k * m ((c.tc : Thread nD τ).loc main_arg3) (ix2 k j)
      + (∑ k, row (m ((c.tc : Thread nD τ).loc main_arg0)) (m ((c.tc : Thread nD τ).loc main_arg1)) (m ((c.tc : Thread nD τ).loc main_arg2)) (⟨t.val * 512 + r.val, by have := t_lt t; omega⟩ : Fin 16384) k
            * Cert.Nrm.rest (m ((c.tc : Thread nD τ).loc main_arg3) (ix2 k j))
        + ∑ k, (row (m ((c.tc : Thread nD τ).loc main_arg0)) (m ((c.tc : Thread nD τ).loc main_arg1)) (m ((c.tc : Thread nD τ).loc main_arg2)) (⟨t.val * 512 + r.val, by have := t_lt t; omega⟩ : Fin 16384) k
              - row (m ((c.tc : Thread nD τ).loc main_arg0)) (m ((c.tc : Thread nD τ).loc main_arg1)) (m ((c.tc : Thread nD τ).loc main_arg2)) (⟨t.val * 512 + r.val, by have := t_lt t; omega⟩ : Fin 16384) k)
            * m ((c.tc : Thread nD τ).loc main_arg3) (ix2 k j)) := by
  unfold outsAt0; dsimp only; frame_out
  refine (pay1_at _ _ _ _ _ _ r j).trans ?_
  refine congrArg₂ (fun p q : EReal => p + q) ?_ (congrArg₂ (fun p q : EReal => p + q) ?_ ?_)
  · exact Finset.sum_congr rfl fun k _ => congrArg₂ (fun p q : EReal => p * q) ((pay4_at _ _ _ _ r k).trans (norm_at m c t r k)) (u_at m c t k j)
  · exact Finset.sum_congr rfl fun k _ => congrArg₂ (fun p q : EReal => p * q) ((pay4_at _ _ _ _ r k).trans (norm_at m c t r k)) (w_at m c t k j)
  · refine Finset.sum_congr rfl fun k _ => congrArg₂ (fun p q : EReal => p * q) ((pay5_at _ _ _ _ r k).trans ?_) (u_at m c t k j)
    exact congrArg₂ (fun p q : EReal => p - q) (norm_at m c t r k) (norm_at m c t r k)

/-- What a grid point leaves of its normed rows. -/
theorem outn_at (c : Dev nD) (t : Fin cfg0.N) (r : Fin 512) (k : Fin 2048) :
    (outsAt0 m c t).2 (ix2 r k) = row (m ((c.tc : Thread nD τ).loc main_arg0)) (m ((c.tc : Thread nD τ).loc main_arg1)) (m ((c.tc : Thread nD τ).loc main_arg2)) (⟨t.val * 512 + r.val, by have := t_lt t; omega⟩ : Fin 16384) k := by
  unfold outsAt0; dsimp only; frame_out
  exact (pay6_at _ _ _ _ r k).trans (norm_at m c t r k)

/-- THE QUERIES' ARRAY after the run is the reference's term, where gain, modulation and weights are real numbers. -/
theorem final5 (c : Dev nD)
    (hg : ∀ k : Fin 2048, IsReal (m ((c.tc : Thread nD τ).loc main_arg1) (ix1 k)))
    (hm : ∀ (b : Fin 8) (k : Fin 4096), IsReal (m ((c.tc : Thread nD τ).loc main_arg2) (ix2 b (⟨6144 + k.val, by omega⟩ : Fin 12288))))
    (hw : ∀ (k : Fin 2048) (j : Fin 1024), IsReal (m ((c.tc : Thread nD τ).loc main_arg3) (ix2 k j))) :
    (dats m 0 c).arrAt 5 cfg0.N = REF (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  have ht := t_lt t
  obtain ⟨e0, e1, e2, e3, e4, e5, e6⟩ := idx t
  obtain ⟨a, b, rfl⟩ : ∃ (a : Fin 512) (b : Fin 1024), y = ix2 a b := ⟨y 0, y 1, by blk_ext []⟩
  have hemb : ((cfg0.win 5).blk t).view.emb (ix2 a b) = ix2 (⟨t.val * 512 + a.val, by omega⟩ : Fin 16384) b := by
    blk_ext [e5]
  blk_simp
  rw [after0_5, hemb, ref_at]
  refine (out_at m c t a b).trans (Cert.Nrm.split_eq _ _ (fun k => ?_) (fun k => hw k b))
  unfold row
  refine Cert.Nrm.modn_real _ _ _ _ hg (fun e => ?_) (fun e => ?_) k
  · have h := hm (⟨(t.val * 512 + a.val) / 2048, by omega⟩ : Fin 8) (⟨2048 + e.val, by omega⟩ : Fin 4096)
    have he : (⟨6144 + (2048 + e.val), by omega⟩ : Fin 12288) = ⟨8192 + e.val, by omega⟩ := Fin.ext (by show 6144 + (2048 + e.val) = 8192 + e.val; omega)
    rw [← he]
    exact h
  · exact hm (⟨(t.val * 512 + a.val) / 2048, by omega⟩ : Fin 8) (⟨e.val, by omega⟩ : Fin 4096)

/-- THE NORMED ROWS' ARRAY after the run is the reference's term. -/
theorem final6 (c : Dev nD) :
    (dats m 0 c).arrAt 6 cfg0.N = REFN (m ((c.tc : Thread nD τ).loc main_arg0)) (m ((c.tc : Thread nD τ).loc main_arg1)) (m ((c.tc : Thread nD τ).loc main_arg2)) := by
  refine (dats m 0 c).arrAt_eq_of_covers 6 _ (by decide +kernel) fun t hf y => ?_
  have ht := t_lt t
  obtain ⟨e0, e1, e2, e3, e4, e5, e6⟩ := idx t
  obtain ⟨a, b, rfl⟩ : ∃ (a : Fin 512) (b : Fin 2048), y = ix2 a b := ⟨y 0, y 1, by blk_ext []⟩
  have hemb : ((cfg0.win 6).blk t).view.emb (ix2 a b) = ix2 (⟨t.val * 512 + a.val, by omega⟩ : Fin 16384) b := by
    blk_ext [e6]
  blk_simp
  rw [after0_6, hemb, refn_at]
  exact outn_at m c t a b

end Cert.PeerQIdeal.Fin

end
-- ==== Proof.PeerQRes.lean ====
/- The reference's results are the stages' compositions. -/
module

public import proofs.«01_k».proof.Proof.PeerQRef

@[expose] public section

set_option maxRecDepth 16384

noncomputable section

namespace Cert.PeerQRefIdeal.At

open Cert.PeerQRefIdeal Cert.PeerQRefIdeal.Gen Idealize.ShloMosaic Idealize.ShloMosaic.TcCoe Idealize.SL.Sem

/-- What the reference's run leaves are the stages' compositions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = REF (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v29) = REFN (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold REF REFN prod cast nrm
  exact (θ_run _ _ _).mono (fun r h c => h c) (Cert.PeerQRefIdeal.Value.run (F := Ideal) m ρ)

end Cert.PeerQRefIdeal.At

end
-- ==== Proof.PeerQMain.lean ====
/- The expert queries: the kernel's program and the reference's end with the same results. -/
module

public import proofs.«01_k».proof.Defs
public import proofs.«01_k».proof.Proof.Real
public import proofs.«01_k».proof.Proof.PeerQFin
public import proofs.«01_k».proof.Proof.PeerQRes
public import proofs.«01_k».proof.Proof.Gen.Pre_peerq_finite

@[expose] public section

set_option maxRecDepth 16384

noncomputable section

namespace Cert.Proof

open Idealize.ShloMosaic Idealize.SL.Sem Cert.Softmax

section
open Cert.Pre_peerq_finite

variable (a0 : FVec Ideal S16384x2048 .f32) (a1 : FVec Ideal S2048 .f32) (a2 : FVec Ideal S8x12288 .f32) (a3 : FVec Ideal S2048x1024 .f32)

/-- Where the precondition holds of the gain, it is real. -/
theorem peerq_real1 (h : (fn (F := Ideal) a0 a1 a2 a3).1 = fun _ => 1#1) (k : Fin 2048) : IsReal (a1 (ix1 k)) := by
  have h' := congrFun h (ix1 k)
  pointwise [fn] at h'
  exact real_of_abs h'

/-- Where it holds of the modulation's scale and shift, they are real. -/
theorem peerq_real2 (h : (fn (F := Ideal) a0 a1 a2 a3).2.1 = fun _ => 1#1) (b : Fin 8) (k : Fin 4096) :
    IsReal (a2 (ix2 b (⟨6144 + k.val, by omega⟩ : Fin 12288))) := by
  have h' := congrFun h (ix2 b k)
  pointwise [fn] at h'
  exact real_of_abs h'

/-- Where it holds of the weights, they are real. -/
theorem peerq_real3 (h : (fn (F := Ideal) a0 a1 a2 a3).2.2 = fun _ => 1#1) (k : Fin 2048) (j : Fin 1024) : IsReal (a3 (ix2 k j)) := by
  have h' := congrFun h (ix2 k j)
  pointwise [fn] at h'
  exact real_of_abs h'

end

/-- The kernel's expert queries and normed rows and the reference's end the same, where gain, modulation and weights are finite. -/
theorem algebraic_peerq : Cert.algebraic_PeerQIdeal_PeerQRefIdeal_pre_peerq_finite := by
  pair_intro
  · run_from Cert.PeerQIdeal.Value.run_blocks m g
  · run_from Cert.PeerQRefIdeal.At.run m' g'
    all_goals first
      | exact (Cert.PeerQIdeal.Fin.final6 m c).symm
      | exact (Cert.PeerQIdeal.Fin.final5 m c (fun k => peerq_real1 _ _ _ _ (hpre c).1 k) (fun b k => peerq_real2 _ _ _ _ (hpre c).2.1 b k)
          (fun k j => peerq_real3 _ _ _ _ (hpre c).2.2 k j)).symm

end Cert.Proof

end
-- ==== Proof.KvbRef.lean ====
/- The reference's keys and values of mixer D, read at an index. -/
module

public import proofs.«01_k».proof.Proof.Lin
public import proofs.«01_k».proof.Proof.Gen.KvbRefIdeal.Run

@[expose] public section

set_option maxRecDepth 16384

noncomputable section

namespace Cert.KvbRefIdeal.At

open Cert.KvbRefIdeal Cert.KvbRefIdeal.Gen Idealize.ShloMosaic Idealize.ShloMosaic.TcCoe Idealize.SL.Sem

/-- An entry of a row of 512 normed by its root mean square, times the gain. -/
def rmsc (x g : Fin 512 → EReal) (k : Fin 512) : EReal :=
  x k * Ideal.rsqrt (Ideal.div (∑ e, x e * x e) (Ideal.ofBits .f32 0x44000000#32) + Ideal.ofBits .f32 0x358637BD#32) * g k

theorem rmsc_congr {x x' g g' : Fin 512 → EReal} (hx : ∀ k, x k = x' k) (hg : ∀ k, g k = g' k) (k : Fin 512) : rmsc x g k = rmsc x' g' k := by
  rw [funext hx, funext hg]

/-- The compressed rows, normed. -/
def REFN (a0 : FVec Ideal S4096x2112 .f32) (a1 : FVec Ideal S512 .f32) : FVec Ideal S4096x512 .f32 :=
  mulf (mulf (extractStridedSlice S4096x512 ![0, 1536] a0 slices_S4096x2112_S4096x512_0_1536) (broadcastInDim S4096x512 ![0, 1] bcast_S4096x1_S4096x512_0_1 (Host.rsqrt (addf (Host.divf (broadcastInDim S4096x1 ![0] bcast_S4096_S4096x1_0 (Host.reduceAdd (mulf (extractStridedSlice S4096x512 ![0, 1536] a0 slices_S4096x2112_S4096x512_0_1536) (extractStridedSlice S4096x512 ![0, 1536] a0 slices_S4096x2112_S4096x512_0_1536)) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 (broadcastInDim S1x512 ![1] bcast_S512_S1x512_1 a1))

/-- The keys and values: the product of such rows with the weights. -/
def prod (N : FVec Ideal S4096x512 .f32) (a2 : FVec Ideal S512x2048 .f32) : FVec Ideal S4096x2048 .f32 :=
  Host.dotGeneral dot_S4096x512_S512x2048_S4096x2048_1_0_0_1_n_n none N a2

/-- The reference's first result. -/
def REF (a0 : FVec Ideal S4096x2112 .f32) (a1 : FVec Ideal S512 .f32) (a2 : FVec Ideal S512x2048 .f32) : FVec Ideal S4096x2048 .f32 :=
  prod (REFN a0 a1) a2

/-- A compressed row's normed entries. -/
def row (a0 : FVec Ideal S4096x2112 .f32) (a1 : FVec Ideal S512 .f32) (r : Fin 4096) (k : Fin 512) : EReal :=
  rmsc (fun e => a0 (ix2 r (⟨1536 + e.val, by omega⟩ : Fin 2112))) (fun e => a1 (ix1 e)) k

/-- The reference's second result at an index. -/
theorem refn_at (a0 : FVec Ideal S4096x2112 .f32) (a1 : FVec Ideal S512 .f32) (r : Fin 4096) (k : Fin 512) : REFN a0 a1 (ix2 r k) = row a0 a1 r k := by
  unfold row
  pointwise [REFN]
  rfl

theorem prod_at (N : FVec Ideal S4096x512 .f32) (a2 : FVec Ideal S512x2048 .f32) (r : Fin 4096) (j : Fin 2048) :
    prod N a2 (ix2 r j) = ∑ k : Fin 512, N (ix2 r k) * a2 (ix2 k j) := by
  pointwise [prod]

/-- The reference's first result at an index. -/
theorem ref_at (a0 : FVec Ideal S4096x2112 .f32) (a1 : FVec Ideal S512 .f32) (a2 : FVec Ideal S512x2048 .f32) (r : Fin 4096) (j : Fin 2048) :
    REF a0 a1 a2 (ix2 r j) = ∑ k : Fin 512, row a0 a1 r k * a2 (ix2 k j) := by
  unfold REF
  exact (prod_at _ a2 r j).trans (Finset.sum_congr rfl fun k _ => congrArg (fun z : EReal => z * a2 (ix2 k j)) (refn_at a0 a1 r k))

/-- What the reference's run leaves are these two terms of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = REF (m ((c.tc : Thread nD τ).loc main_arg0)) (m ((c.tc : Thread nD τ).loc main_arg1)) (m ((c.tc : Thread nD τ).loc main_arg2))
      ∧ r.2.mem ((c.tc : Thread nD τ).loc main_v13) = REFN (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold REF prod REFN
  exact (θ_run _ _ _).mono (fun r h c => h c) (Cert.KvbRefIdeal.Value.run (F := Ideal) m ρ)

end Cert.KvbRefIdeal.At

end
-- ==== Proof.KvbIdealRun.lean ====
/- The keys and values of mixer D, in ideal floats: at each point of its grid what the body leaves, and the run of the whole program. -/
module

public import proofs.«01_k».proof.Proof.Gen.KvbIdeal.Skeleton
public import proofs.«01_k».proof.Proof.Gen.KvbIdeal.Frame
public import Idealize.ShloMosaic.Lib.Claim

@[expose] public section

set_option maxRecDepth 16384

noncomputable section

namespace Cert.KvbIdeal.Hand

open Cert.KvbIdeal Cert.KvbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two kinds of grid points -/

/-- The body's condition: the point is the first of its block of rows. -/
abbrev first (i : grid0.Coords) : Prop := (Scalar.cmpi .ne (Scalar.extui (Scalar.cmpi .eq (BitVec.ofNat 32 (i 1).val) 0#32)) 0#32) = 1#1

/-- It holds at the even points. -/
theorem first_iff (t : Fin cfg0.N) : first (grid0.coords t) ↔ t.val % 2 = 0 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [first, e0, e1]
    word_cmp
   : ∀ t : Fin grid0.N, first (grid0.coords t) ↔ t.val % 2 = 0) t

/-- The block of normed rows is written at the even points, and handed on at the odd ones. -/
theorem kept_false (t : Fin cfg0.N) (h : t.val % 2 = 0) : cfg0.idle 4 (cfg0.grid.coords t) = false := by
  show (!(k0_cond1 (grid0.coords t) == 1#1)) = false
  rw [show k0_cond1 (grid0.coords t) = 1#1 from (first_iff t).mpr h]
  rfl

theorem kept_true (t : Fin cfg0.N) (h : ¬t.val % 2 = 0) : cfg0.idle 4 (cfg0.grid.coords t) = true := by
  show (!(k0_cond1 (grid0.coords t) == 1#1)) = true
  rw [beq_eq_false_iff_ne.mpr (show k0_cond1 (grid0.coords t) ≠ 1#1 from fun k => h ((first_iff t).mp k))]
  rfl

/-- The staging buffers through which the outputs' contents are stated, and the carried rows. -/
abbrev view3 : View sig .tc .vmem S512x1024 .f32 := (Memref.whole cc0_stg3_0 : Memref sig .tc .vmem S512x1024 .f32).view
abbrev view4 : View sig .tc .vmem S512x512 .f32 := (Memref.whole cc0_stg4_0 : Memref sig .tc .vmem S512x512 .f32).view
abbrev carried : Memref sig .tc .vmem S512x512 .bf16 := Memref.whole cc0_scratch0
abbrev viewS : View sig .tc .vmem S512x512 .bf16 := carried.view

/-- Each window's buffer at a point, and that it is a whole buffer. -/
abbrev b0 (t : Fin cfg0.N) : Memref sig .tc .vmem S512x512 .f32 := win0_0.stage (cfg0.slots t 0)
abbrev w0 (t : Fin cfg0.N) : (b0 t).IsWhole := hstage0_0 ((cfg0.slots t 0).cast nbuf0_0)
abbrev b1 (t : Fin cfg0.N) : Memref sig .tc .vmem S1x512 .f32 := win0_1.stage (cfg0.slots t 1)
abbrev w1 (t : Fin cfg0.N) : (b1 t).IsWhole := hstage0_1 ((cfg0.slots t 1).cast nbuf0_1)
abbrev b2 (t : Fin cfg0.N) : Memref sig .tc .vmem S512x1024 .bf16 := win0_2.stage (cfg0.slots t 2)
abbrev w2 (t : Fin cfg0.N) : (b2 t).IsWhole := hstage0_2 ((cfg0.slots t 2).cast nbuf0_2)
abbrev b3 (t : Fin cfg0.N) : Memref sig .tc .vmem S512x1024 .f32 := win0_3.stage (cfg0.slots t 3)
abbrev w3 (t : Fin cfg0.N) : (b3 t).IsWhole := hstage0_3 ((cfg0.slots t 3).cast nbuf0_3)
abbrev b4 (t : Fin cfg0.N) : Memref sig .tc .vmem S512x512 .f32 := win0_4.stage (cfg0.slots t 4)
abbrev w4 (t : Fin cfg0.N) : (b4 t).IsWhole := hstage0_4 ((cfg0.slots t 4).cast nbuf0_4)

/-- The scratch is the carried rows' buffer at some contents. -/
theorem scratch_eq (c : Dev nD) :
    (Pipeline.ΦA spec0 c : sProp 𝕄) = iprop(iprop((∃ d, owns (c : Thread nD τ) carried fullShare d)) ∗ (∃ r, prngReg c r)) := by
  unfold Pipeline.ΦA; rw [scopedRest0_eq]; simp only [carried, owns_whole]; try rfl

/-! ## The body's runs -/

set_option maxHeartbeats 1000000 in
/-- At a point that is the first of its rows: the pieces which the body writes into the product's block, the block of normed
    rows and the carried rows, and that it runs from any contents of these three. -/
noncomputable def runA (c : Dev nD) (i : grid0.Coords) (arg2 : Memref sig .tc .vmem S512x512 .f32) (harg2 : arg2.IsWhole) (arg3 : Memref sig .tc .vmem S1x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .bf16) (harg7 : arg7.IsWhole) (h : first i)
    (x0 : Vec F S512x512 .f32) (x1 : Vec F S1x512 .f32) (x2 : Vec F S512x1024 .bf16) :
    Σ' (L3 : List (View.Piece (Elt F) S512x1024 .f32)) (L4 : List (View.Piece (Elt F) S512x512 .f32)), { LS : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__mm_norm_kernel i arg2 harg2 arg3 harg3 arg4 harg4 arg5 harg5 arg6 harg6 arg7 harg7) K } := by
  refine ⟨?_, ?_, ?_, fun E K => ?run⟩
  case run =>
    simp only [cc0__mm_norm_kernel_eq_skeleton]; unfold cc0__mm_norm_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
    obtain rfl := harg2.eq_unread hf0; obtain rfl := harg3.eq_unread hf1; obtain rfl := harg4.eq_unread hf2
    sl_exec (disch := first | sl_exact h)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS

set_option maxHeartbeats 1000000 in
/-- At a point that is not the first of its rows: the pieces which the body writes into the product's block, and that it runs
    with the normed rows and the carried rows at given contents and leaves them as they are. -/
noncomputable def runB (c : Dev nD) (i : grid0.Coords) (arg2 : Memref sig .tc .vmem S512x512 .f32) (harg2 : arg2.IsWhole) (arg3 : Memref sig .tc .vmem S1x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .bf16) (harg7 : arg7.IsWhole) (h : ¬first i)
    (x0 : Vec F S512x512 .f32) (x1 : Vec F S1x512 .f32) (x2 : Vec F S512x1024 .bf16) (xs : Vec F S512x512 .bf16) :
    { L3 : List (View.Piece (Elt F) S512x1024 .f32) //
      ∀ (y : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y ∗ owns (c : Thread nD τ) arg7 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare y ∗ owns (c : Thread nD τ) arg7 fullShare xs) -∗ K ⟨⟩))
          ⊢ wp frame (wpE (defs₀ (F := F)) Variants.none c none) E (cc0__mm_norm_kernel i arg2 harg2 arg3 harg3 arg4 harg4 arg5 harg5 arg6 harg6 arg7 harg7) K } := by
  refine ⟨?_, fun y E K => ?run⟩
  case run =>
    simp only [cc0__mm_norm_kernel_eq_skeleton]; unfold cc0__mm_norm_kernel_skel
    unfold owns
    iintro ⟨⟨%f0, %hf0, H0⟩, ⟨%f1, %hf1, H1⟩, ⟨%f2, %hf2, H2⟩, ⟨%d3, %f3, -, H3⟩, H4, ⟨%fs, %hfs, HS⟩, Hk⟩
    obtain rfl := harg2.eq_unread hf0; obtain rfl := harg3.eq_unread hf1; obtain rfl := harg4.eq_unread hf2; obtain rfl := harg7.eq_unread hfs
    sl_exec (disch := first | sl_exact h)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexact H4
    iexists _; isplitr; · ipureintro; exact harg7.read_unread _
    iexact HS

/-- The pieces written cover the blocks: each is stored whole. -/
theorem coverA3 (c : Dev nD) (i : grid0.Coords) (arg2 : Memref sig .tc .vmem S512x512 .f32) (harg2 : arg2.IsWhole) (arg3 : Memref sig .tc .vmem S1x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .bf16) (harg7 : arg7.IsWhole) (h : first i)
    (x0 : Vec F S512x512 .f32) (x1 : Vec F S1x512 .f32) (x2 : Vec F S512x1024 .bf16) (y : S512x1024.Idx) :
    ∃ pc ∈ (runA c i arg2 harg2 arg3 harg3 arg4 harg4 arg5 harg5 arg6 harg6 arg7 harg7 h x0 x1 x2).1, y ∈ pc.1.set :=
  View.cover_of_tiledL (runA c i arg2 harg2 arg3 harg3 arg4 harg4 arg5 harg5 arg6 harg6 arg7 harg7 h x0 x1 x2).1 S512x1024.size (by sl_kernel_rfl) y

theorem coverA4 (c : Dev nD) (i : grid0.Coords) (arg2 : Memref sig .tc .vmem S512x512 .f32) (harg2 : arg2.IsWhole) (arg3 : Memref sig .tc .vmem S1x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .bf16) (harg7 : arg7.IsWhole) (h : first i)
    (x0 : Vec F S512x512 .f32) (x1 : Vec F S1x512 .f32) (x2 : Vec F S512x1024 .bf16) (y : S512x512.Idx) :
    ∃ pc ∈ (runA c i arg2 harg2 arg3 harg3 arg4 harg4 arg5 harg5 arg6 harg6 arg7 harg7 h x0 x1 x2).2.1, y ∈ pc.1.set :=
  View.cover_of_tiledL (runA c i arg2 harg2 arg3 harg3 arg4 harg4 arg5 harg5 arg6 harg6 arg7 harg7 h x0 x1 x2).2.1 S512x512.size (by sl_kernel_rfl) y

theorem coverAS (c : Dev nD) (i : grid0.Coords) (arg2 : Memref sig .tc .vmem S512x512 .f32) (harg2 : arg2.IsWhole) (arg3 : Memref sig .tc .vmem S1x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .bf16) (harg7 : arg7.IsWhole) (h : first i)
    (x0 : Vec F S512x512 .f32) (x1 : Vec F S1x512 .f32) (x2 : Vec F S512x1024 .bf16) (y : S512x512.Idx) :
    ∃ pc ∈ (runA c i arg2 harg2 arg3 harg3 arg4 harg4 arg5 harg5 arg6 harg6 arg7 harg7 h x0 x1 x2).2.2.1, y ∈ pc.1.set :=
  View.cover_of_tiledL (runA c i arg2 harg2 arg3 harg3 arg4 harg4 arg5 harg5 arg6 harg6 arg7 harg7 h x0 x1 x2).2.2.1 S512x512.size (by sl_kernel_rfl) y

theorem coverB3 (c : Dev nD) (i : grid0.Coords) (arg2 : Memref sig .tc .vmem S512x512 .f32) (harg2 : arg2.IsWhole) (arg3 : Memref sig .tc .vmem S1x512 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .bf16) (harg7 : arg7.IsWhole) (h : ¬first i)
    (x0 : Vec F S512x512 .f32) (x1 : Vec F S1x512 .f32) (x2 : Vec F S512x1024 .bf16) (xs : Vec F S512x512 .bf16) (y : S512x1024.Idx) :
    ∃ pc ∈ (runB c i arg2 harg2 arg3 harg3 arg4 harg4 arg5 harg5 arg6 harg6 arg7 harg7 h x0 x1 x2 xs).1, y ∈ pc.1.set :=
  View.cover_of_tiledL (runB c i arg2 harg2 arg3 harg3 arg4 harg4 arg5 harg5 arg6 harg6 arg7 harg7 h x0 x1 x2 xs).1 S512x1024.size (by sl_kernel_rfl) y

/-! ## What each point leaves -/

/-- What an even point leaves of the product, of the normed rows and of the carried rows. -/
def outA3 (c : Dev nD) (t : Fin cfg0.N) (h : t.val % 2 = 0) : Vec F S512x1024 .f32 :=
  view3.read (Elt F) (view3.writes (Elt F) view3.junk (runA c (grid0.coords t) (b0 t) (w0 t) (b1 t) (w1 t) (b2 t) (w2 t) (b3 t) (w3 t) (b4 t) (w4 t) carried (Memref.isWhole_whole _) ((first_iff t).mpr h) (iblk m c 0 t) (iblk m c 1 t) (iblk m c 2 t)).1)

def outA4 (c : Dev nD) (t : Fin cfg0.N) (h : t.val % 2 = 0) : Vec F S512x512 .f32 :=
  view4.read (Elt F) (view4.writes (Elt F) view4.junk (runA c (grid0.coords t) (b0 t) (w0 t) (b1 t) (w1 t) (b2 t) (w2 t) (b3 t) (w3 t) (b4 t) (w4 t) carried (Memref.isWhole_whole _) ((first_iff t).mpr h) (iblk m c 0 t) (iblk m c 1 t) (iblk m c 2 t)).2.1)

def outAS (c : Dev nD) (t : Fin cfg0.N) (h : t.val % 2 = 0) : Vec F S512x512 .bf16 :=
  viewS.read (Elt F) (viewS.writes (Elt F) viewS.junk (runA c (grid0.coords t) (b0 t) (w0 t) (b1 t) (w1 t) (b2 t) (w2 t) (b3 t) (w3 t) (b4 t) (w4 t) carried (Memref.isWhole_whole _) ((first_iff t).mpr h) (iblk m c 0 t) (iblk m c 1 t) (iblk m c 2 t)).2.2.1)

/-- What an odd point leaves of the product, from the carried rows `xs`. -/
def outB3 (c : Dev nD) (t : Fin cfg0.N) (h : ¬t.val % 2 = 0) (xs : Vec F S512x512 .bf16) : Vec F S512x1024 .f32 :=
  view3.read (Elt F) (view3.writes (Elt F) view3.junk (runB c (grid0.coords t) (b0 t) (w0 t) (b1 t) (w1 t) (b2 t) (w2 t) (b3 t) (w3 t) (b4 t) (w4 t) carried (Memref.isWhole_whole _) (fun k => h ((first_iff t).mp k)) (iblk m c 0 t) (iblk m c 1 t) (iblk m c 2 t) xs).1)

/-- What the product's block, the block of normed rows and the carried rows hold after a point: an even point writes all three,
    an odd one the product alone. -/
def left (c : Dev nD) : (n : ℕ) → n < cfg0.N → Vec F S512x1024 .f32 × Vec F S512x512 .f32 × Vec F S512x512 .bf16
  | 0, hn => (outA3 m c ⟨0, hn⟩ (Nat.zero_mod _), outA4 m c ⟨0, hn⟩ (Nat.zero_mod _), outAS m c ⟨0, hn⟩ (Nat.zero_mod _))
  | n + 1, hn =>
    if h : (n + 1) % 2 = 0 then (outA3 m c ⟨n + 1, hn⟩ h, outA4 m c ⟨n + 1, hn⟩ h, outAS m c ⟨n + 1, hn⟩ h)
    else (outB3 m c ⟨n + 1, hn⟩ h (left c n (Nat.lt_of_succ_lt hn)).2.2, (left c n (Nat.lt_of_succ_lt hn)).2)

/-- The point before. -/
theorem lt_pred (t : Fin cfg0.N) : t.val - 1 < cfg0.N := Nat.lt_of_le_of_lt (Nat.sub_le _ _) t.isLt

theorem left_even (c : Dev nD) (t : Fin cfg0.N) (h : t.val % 2 = 0) :
    left m c t.val t.isLt = (outA3 m c t h, outA4 m c t h, outAS m c t h) := by
  obtain ⟨n, hn⟩ := t
  cases n with
  | zero => exact rfl
  | succ n => exact (dif_pos h).trans rfl

theorem left_odd (c : Dev nD) (t : Fin cfg0.N) (h : ¬t.val % 2 = 0) :
    left m c t.val t.isLt = (outB3 m c t h (left m c (t.val - 1) (lt_pred t)).2.2, (left m c (t.val - 1) (lt_pred t)).2) := by
  obtain ⟨n, hn⟩ := t
  cases n with
  | zero => exact absurd (Nat.zero_mod _) h
  | succ n => exact (dif_neg h).trans rfl

/-- Between the points: before the first the scratch at anything, after it the carried rows at what the last point left. -/
def between (c : Dev nD) : (n : ℕ) → n ≤ cfg0.N → sProp 𝕄
  | 0, _ => Pipeline.ΦA spec0 c
  | n + 1, hn => iprop(iprop(owns (c : Thread nD τ) carried fullShare ((left m c n hn).2.2)) ∗ (∃ r, prngReg c r))

theorem between_zero (c : Dev nD) (n : ℕ) (h : n ≤ cfg0.N) (hz : n = 0) : between m c n h = Pipeline.ΦA spec0 c := by
  subst hz; rfl

theorem between_succ (c : Dev nD) (n : ℕ) (hn : n < cfg0.N) :
    between m c (n + 1) hn = iprop(iprop(owns (c : Thread nD τ) carried fullShare ((left m c n hn).2.2)) ∗ (∃ r, prngReg c r)) := rfl

theorem between_pos (c : Dev nD) (n : ℕ) (h : n ≤ cfg0.N) (hz : n ≠ 0) :
    between m c n h = iprop(iprop(owns (c : Thread nD τ) carried fullShare ((left m c (n - 1) (by omega)).2.2)) ∗ (∃ r, prngReg c r)) := by
  cases n with
  | zero => exact absurd rfl hz
  | succ n => rfl

/-! ## The proof data of the pipeline -/

/-- The arrays as the call finds them; after each point the inputs' buffers at their blocks and the outputs' at what was left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (left m c t.val t.isLt).1
    | ⟨4, _⟩ => (left m c t.val t.isLt).2.1
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem start_eq (c : Dev nD) (t : Fin cfg0.N) :
    (dats m 0 c).Φ t.castSucc = between m c t.val (Nat.le_of_lt t.isLt) := by
  dsimp only [dats]; exact Pipeline.Dat.Φ_castSucc (between m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (left m c t.val t.isLt).1 := by dsimp only [dats]
theorem after4 (c : Dev nD) (t : Fin cfg0.N) : (dats m 0 c).after 4 t = (left m c t.val t.isLt).2.1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- An odd point finds the block of normed rows as the point before left it: it was not written back between. -/
theorem before4 (c : Dev nD) (t : Fin cfg0.N) (h : ¬t.val % 2 = 0) (d) :
    (dats m 0 c).before 4 t d = (left m c (t.val - 1) (lt_pred t)).2.1 := by
  have hz : t.val ≠ 0 := fun hz => h (by rw [hz])
  have hp : (t.val - 1) % 2 = 0 := by omega
  rw [(dats m 0 c).before_of_pos 4 t hz ((cfg0.win 4).fetch_out rfl t), if_neg]
  · unfold Dat.left
    rw [kept_false ⟨t.val - 1, lt_pred t⟩ hp]
    unfold Dat.kept
    exact (congrArg _ (after4 m c ⟨t.val - 1, lt_pred t⟩)).trans
      ((Pipeline.fill_of_clip_none (4 : Fin cfg0.W) _ (fun _ => rfl) d _ _).trans ((cfg0.win 4).fill_cut _ _))
  · intro hf
    have h2 : (t.val - 1) % 2 = 1 := (flush0_4 ⟨t.val - 1, lt_pred t⟩).mp hf
    omega

/-! ## The body at a point -/

/-- What the body finds at a point, -/
def bodyPre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d)))

/-- and what it leaves. -/
def bodyPost (c : Dev nD) (t : Fin cfg0.N) : sProp 𝕄 :=
  iprop((dats m 0 c).Φ t.succ ∗ (dats m 0 c).owesAt () t.succ
    ∗ owns (c : Thread nD τ) (b0 t) fullShare ((dats m 0 c).after 0 t)
    ∗ owns (c : Thread nD τ) (b1 t) fullShare ((dats m 0 c).after 1 t)
    ∗ owns (c : Thread nD τ) (b2 t) fullShare ((dats m 0 c).after 2 t)
    ∗ owns (c : Thread nD τ) (b3 t) fullShare ((dats m 0 c).after 3 t)
    ∗ owns (c : Thread nD τ) (b4 t) fullShare ((dats m 0 c).after 4 t))

set_option maxHeartbeats 3200000 in
/-- The body takes the one to the other, at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl, after0, after1, after2, after3, after4]
  rw [show (dats m 0 c).Φ t.succ = between m c (t.val + 1) t.isLt from rfl, between_succ]
  by_cases h : t.val % 2 = 0
  · rw [left_even m c t h]
    unfold outA3 outA4 outAS; (try dsimp only)
    by_cases hz : t.val = 0
    · rw [start_eq m c t, between_zero m c _ _ hz, scratch_eq]
      iintro ⟨⟨HS, Hg⟩, Ho, ⟨%d0, H0⟩, ⟨%d1, H1⟩, ⟨%d2, H2⟩, ⟨%d3, H3⟩, ⟨%d4, H4⟩⟩
      iapply ((runA c (grid0.coords t) (b0 t) (w0 t) (b1 t) (w1 t) (b2 t) (w2 t) (b3 t) (w3 t) (b4 t) (w4 t) carried (Memref.isWhole_whole _) ((first_iff t).mpr h) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, ⟨%e3, H3⟩, ⟨%e4, H4⟩, ⟨%es, HS⟩⟩
      isplitl [HS Hg]
      · isplitl [HS]
        · unfold owns; iexists _; isplitr
          swap; · iexact HS
          ipureintro; exact View.read_writes_of_cover _ _ _ _ _ (coverAS c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverA3 c _ _ _ _ _ _ _ _ _ _ _ _ _ _ _ _ _)
      unfold owns; iexists _; isplitr
      swap; · iexact H4
      ipureintro; exact View.read_writes_of_cover _ _ _ _ _ (coverA4 c _ _ _ _ _ _ _ _ _ _ _ _ _ _ _ _ _)
    · rw [start_eq m c t, between_pos m c _ _ hz]
      iintro ⟨⟨HS, Hg⟩, Ho, ⟨%d0, H0⟩, ⟨%d1, H1⟩, ⟨%d2, H2⟩, ⟨%d3, H3⟩, ⟨%d4, H4⟩⟩
      iapply ((runA c (grid0.coords t) (b0 t) (w0 t) (b1 t) (w1 t) (b2 t) (w2 t) (b3 t) (w3 t) (b4 t) (w4 t) carried (Memref.isWhole_whole _) ((first_iff t).mpr h) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS]; · iexists _; iexact HS
      iintro ⟨H0, H1, H2, ⟨%e3, H3⟩, ⟨%e4, H4⟩, ⟨%es, HS⟩⟩
      isplitl [HS Hg]
      · isplitl [HS]
        · unfold owns; iexists _; isplitr
          swap; · iexact HS
          ipureintro; exact View.read_writes_of_cover _ _ _ _ _ (coverAS c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverA3 c _ _ _ _ _ _ _ _ _ _ _ _ _ _ _ _ _)
      unfold owns; iexists _; isplitr
      swap; · iexact H4
      ipureintro; exact View.read_writes_of_cover _ _ _ _ _ (coverA4 c _ _ _ _ _ _ _ _ _ _ _ _ _ _ _ _ _)
  · have hz : t.val ≠ 0 := fun hz => h (by rw [hz])
    rw [start_eq m c t, between_pos m c _ _ hz, left_odd m c t h]
    simp only [before4 m c t h]
    unfold outB3; (try dsimp only)
    iintro ⟨⟨HS, Hg⟩, Ho, ⟨%d0, H0⟩, ⟨%d1, H1⟩, ⟨%d2, H2⟩, ⟨%d3, H3⟩, ⟨%d4, H4⟩⟩
    iapply ((runB c (grid0.coords t) (b0 t) (w0 t) (b1 t) (w1 t) (b2 t) (w2 t) (b3 t) (w3 t) (b4 t) (w4 t) carried (Memref.isWhole_whole _) (fun k => h ((first_iff t).mp k)) (iblk m c 0 t) (iblk m c 1 t) (iblk m c 2 t) _).2 _ Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, ⟨%e3, H3⟩, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB3 c _ _ _ _ _ _ _ _ _ _ _ _ _ _ _ _ _ _)
    iexact H4

/-- The body which the pipeline calls at a point. -/
theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  refine triple_restated (sound_body m c t) rfl .rfl fun _ => ?_
  by_cases h : t.val % 2 = 0
  · rw [kept_false t h]; exact .rfl
  · rw [kept_true t h, show (cfg0.win 4).flush t = true from (flush0_4 t).mpr (by omega)]; exact .rfl

/-- The scratch as the call finds it is what the first point takes, -/
theorem enter (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

/-- and what the last point leaves is given back at some contents. -/
theorem leave (c : Dev nD) : (dats m 0 c).Φ (Fin.last cfg0.N) ⊢ Pipeline.ΦA spec0 c := by
  have hN : (Fin.last cfg0.N).val ≠ 0 := by rw [Fin.val_last]; have : cfg0.N = 16 := N_0; omega
  rw [show (dats m 0 c).Φ (Fin.last cfg0.N) = between m c (Fin.last cfg0.N).val (Nat.le_of_lt_succ (Fin.last cfg0.N).isLt) from rfl,
    between_pos m c _ _ hN, scratch_eq]
  iintro ⟨HS, Hg⟩
  isplitl [HS]
  · iexists _; iexact HS
  iexact Hg

/-! ## The run -/

set_option backward.isDefEq.respectTransparency.types false in
/-- Every execution ends, with every array at what the points wrote back into it and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_arrays : θ_run defs (onTc (τ := τ) (main (F := F))) (s₀ m ρ) (Pipeline.FramePost cfgs (dats m) 0 (V m)) :=
  (θ_run defs _ _).mono (fun _ h => h.1) (run_all m ρ)

/-- THE FRAME: every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_arrays m ρ)) ((θ_run defs _ _).mono (fun _ h => h.2) (run_all m ρ))

/-- The run with the two results' arrays named, and the arguments unchanged. -/
theorem run_blocks : θ_run defs (onTc (τ := τ) (main (F := F))) ⟨m, fun _ => 0, ρ⟩ fun r => ∀ c : Dev nD,
      r.2.mem ((c : Thread nD τ).loc main_v16_0) = (dats m 0 c).arrAt 3 cfg0.N
      ∧ r.2.mem ((c : Thread nD τ).loc main_v16_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_arrays m ρ)

end Cert.KvbIdeal.Hand

end
-- ==== Proof.KvbFin.lean ====
/- The kernel's keys and values of mixer D: what its output arrays hold, index by index. -/
module

public import proofs.«01_k».proof.Proof.KvbRef
public import proofs.«01_k».proof.Proof.KvbIdealRun
public import Idealize.ShloMosaic.Lib.Pipeline.Value

@[expose] public section

set_option maxRecDepth 16384

noncomputable section

namespace Cert.KvbIdeal.Fin

open Cert.KvbIdeal Cert.KvbIdeal.Gen Cert.KvbIdeal.Hand Idealize.ShloMosaic Idealize.ShloMosaic.TcCoe Cert.KvbRefIdeal.At

variable (m : (ℓ : Loc nD τ sig) → Buf (Elt Ideal) ℓ)

theorem pay1_at (X : Vec Ideal S512x512 .f32) (G : Vec Ideal S1x512 .f32) (r : Fin 512) (k : Fin 512) :
    k0_pay1 (F := Ideal) X G (ix2 r k) = rmsc (fun e => X (ix2 r e)) (fun e => G (ix2 0 e)) k := by
  pointwise [k0_pay1]
  rfl

theorem pay2_at (X : Vec Ideal S512x512 .f32) (G : Vec Ideal S1x512 .f32) (r : Fin 512) (k : Fin 512) :
    k0_pay2 (F := Ideal) X G (ix2 r k) = rmsc (fun e => X (ix2 r e)) (fun e => G (ix2 0 e)) k := by
  refine Eq.trans ?_ (pay1_at X G r k)
  pointwise [k0_pay2]

theorem pay3_at (X : Vec Ideal S512x512 .bf16) (U : Vec Ideal S512x1024 .bf16) (r : Fin 512) (j : Fin 1024) :
    k0_pay3 (F := Ideal) X U (ix2 r j) = ∑ k, X (ix2 r k) * U (ix2 k j) := by
  pointwise [k0_pay3]

/-- The windows' block indices at a grid point. -/
theorem idx : ∀ t : Fin cfg0.N, win0_0.index t = ![t.val / 2, 3]
    ∧ win0_1.index t = ![0, 0]
    ∧ win0_2.index t = ![0, t.val % 2]
    ∧ win0_3.index t = ![t.val / 2, t.val % 2]
    ∧ win0_4.index t = ![t.val / 2, 0] :=
  (by decide +kernel : ∀ t : Fin grid0.N, _)

theorem t_lt (t : Fin cfg0.N) : t.val < 16 := lt_of_lt_of_eq t.isLt N_0

/-- The projections as the host lays them out. -/
def xArr (a0 : FVec Ideal S4096x2112 .f32) : FVec Ideal S4096x3072 .f32 :=
  concatenate S4096x3072 1 [⟨S4096x1024, (shapeCast _ (concatenate S4096x8x128 2 [⟨S4096x8x64, (extractStridedSlice S4096x8x64 ![0, 0, 128] (shapeCast _ (extractStridedSlice S4096x1536 ![0, 0] a0 slices_S4096x2112_S4096x1536_0_0) shapeCasts_S4096x1536_S4096x8x192) slices_S4096x8x192_S4096x8x64_0_0_128)⟩, ⟨S4096x8x64, (broadcastInDim S4096x8x64 ![] bcast_S_S4096x8x64 (constant S_ .f32 0x00000000#32))⟩] concatenates_S4096x8x64_S4096x8x64_S4096x8x128_d2) shapeCasts_S4096x8x128_S4096x1024)⟩, ⟨S4096x128, concatenate S4096x128 1 [⟨S4096x64, (extractStridedSlice S4096x64 ![0, 2048] a0 slices_S4096x2112_S4096x64_0_2048)⟩, ⟨S4096x64, (broadcastInDim S4096x64 ![] bcast_S_S4096x64 (constant S_ .f32 0x00000000#32))⟩] concatenates_S4096x64_S4096x64_S4096x128_d1⟩, ⟨S4096x384, (broadcastInDim S4096x384 ![] bcast_S_S4096x384 (constant S_ .f32 0x00000000#32))⟩, ⟨S4096x512, (extractStridedSlice S4096x512 ![0, 1536] a0 slices_S4096x2112_S4096x512_0_1536)⟩, ⟨S4096x1024, (shapeCast _ (extractStridedSlice S4096x8x128 ![0, 0, 0] (shapeCast _ (extractStridedSlice S4096x1536 ![0, 0] a0 slices_S4096x2112_S4096x1536_0_0) shapeCasts_S4096x1536_S4096x8x192) slices_S4096x8x192_S4096x8x128_0_0_0) shapeCasts_S4096x8x128_S4096x1024)⟩] concatenates_S4096x1024_S4096x128_S4096x384_S4096x512_S4096x1024_S4096x3072_d1

/-- Its columns from 1536 on are the projections' own. -/
theorem xArr_at (a0 : FVec Ideal S4096x2112 .f32) (r : Fin 4096) (k : Fin 512) :
    xArr a0 (ix2 r (⟨3 * 512 + k.val, by omega⟩ : Fin 3072)) = a0 (ix2 r (⟨1536 + k.val, by omega⟩ : Fin 2112)) := by
  pointwise [xArr]
  (repeat' split) <;> first | (exfalso; omega) | rfl | blk_ext []

/-- The projections' array, made on the host. -/
theorem x_eq (c : Dev nD) : V m c main_v13 = xArr (m ((c.tc : Thread nD τ).loc main_arg0)) := by
  unfold V hostOps0
  simp only [StableHlo.TRef.binary, StableHlo.TRef.unary, StableHlo.TRef.toBuf, StableHlo.TRef.ofBuf, cast_eq]
  after_results_simp <;> (try dsimp only [Matrix.cons_val]) <;> (try after_results_simp)
  rfl

/-- The block of compressed rows a grid point reads. -/
theorem x_at (c : Dev nD) (t : Fin cfg0.N) (r : Fin 512) (k : Fin 512) :
    iblk m c 0 t (ix2 r k) = m ((c.tc : Thread nD τ).loc main_arg0)
      (ix2 (⟨t.val / 2 * 512 + r.val, by have := t_lt t; omega⟩ : Fin 4096) (⟨1536 + k.val, by omega⟩ : Fin 2112)) := by
  obtain ⟨e0, e1, e2, e3, e4⟩ := idx t
  have := t_lt t
  have h : iblk m c 0 t (ix2 r k) = V m c main_v13 (ix2 (⟨t.val / 2 * 512 + r.val, by omega⟩ : Fin 4096) (⟨3 * 512 + k.val, by omega⟩ : Fin 3072)) := by
    blk_ext [iblk, e0]
  exact h.trans ((congrFun (x_eq m c) _).trans (xArr_at _ _ k))

theorem gain_at (c : Dev nD) (i : Fin 1) (k : Fin 512) :
    V m c main_v15 (ix2 i k) = m ((c.tc : Thread nD τ).loc main_arg1) (ix1 k) := by
  entry_read
  pointwise <;> blk_point []

/-- The gain a grid point reads. -/
theorem g_at (c : Dev nD) (t : Fin cfg0.N) (k : Fin 512) :
    iblk m c 1 t (ix2 (0 : Fin 1) k) = m ((c.tc : Thread nD τ).loc main_arg1) (ix1 k) := by
  obtain ⟨e0, e1, e2, e3, e4⟩ := idx t
  have h : iblk m c 1 t (ix2 (0 : Fin 1) k) = V m c main_v15 (ix2 (0 : Fin 1) k) := by
    blk_ext [iblk, e1]
  exact h.trans (gain_at m c _ k)

theorem weights_at (c : Dev nD) (k : Fin 512) (j : Fin 2048) :
    V m c main_v14 (ix2 k j) = m ((c.tc : Thread nD τ).loc main_arg2) (ix2 k j) := by
  entry_read
  pointwise <;> blk_point []

/-- The block of weights a grid point reads. -/
theorem w_at (c : Dev nD) (t : Fin cfg0.N) (k : Fin 512) (j : Fin 1024) :
    iblk m c 2 t (ix2 k j) = m ((c.tc : Thread nD τ).loc main_arg2) (ix2 k (⟨t.val % 2 * 1024 + j.val, by omega⟩ : Fin 2048)) := by
  obtain ⟨e0, e1, e2, e3, e4⟩ := idx t
  have h : iblk m c 2 t (ix2 k j) = V m c main_v14 (ix2 k (⟨t.val % 2 * 1024 + j.val, by omega⟩ : Fin 2048)) := by
    blk_ext [iblk, e2]
  exact h.trans (weights_at m c k _)

/-- The reference's normed rows of a grid point's block. -/
def rows (c : Dev nD) (t : Fin cfg0.N) (r : Fin 512) (k : Fin 512) : EReal :=
  row (m ((c.tc : Thread nD τ).loc main_arg0)) (m ((c.tc : Thread nD τ).loc main_arg1)) (⟨t.val / 2 * 512 + r.val, by have := t_lt t; omega⟩ : Fin 4096) k

/-- The normed rows, from a grid point's blocks. -/
theorem norm_at (c : Dev nD) (t : Fin cfg0.N) (r : Fin 512) (k : Fin 512) :
    rmsc (fun e => iblk m c 0 t (ix2 r e)) (fun e => iblk m c 1 t (ix2 (0 : Fin 1) e)) k = rows m c t r k := by
  unfold rows row
  exact rmsc_congr (fun e => x_at m c t r e) (fun e => g_at m c t e) k

/-- What a point is to leave: in the block of normed rows and in the carried rows the normed rows of its block, in its block of
    the product their product with its block of weights. -/
def Right (c : Dev nD) (t : Fin cfg0.N) (o : Vec Ideal S512x1024 .f32 × Vec Ideal S512x512 .f32 × Vec Ideal S512x512 .bf16) : Prop :=
  (∀ (r : Fin 512) (j : Fin 1024), o.1 (ix2 r j) = ∑ k, rows m c t r k * iblk m c 2 t (ix2 k j))
  ∧ (∀ (r : Fin 512) (k : Fin 512), o.2.1 (ix2 r k) = rows m c t r k)
  ∧ ∀ (r : Fin 512) (k : Fin 512), o.2.2 (ix2 r k) = rows m c t r k

/-- An even point leaves it. -/
theorem step_A (c : Dev nD) (t : Fin cfg0.N) (h : t.val % 2 = 0) : Right m c t (left m c t.val t.isLt) := by
  rw [left_even m c t h]
  refine ⟨fun r j => ?_, fun r k => ?_, fun r k => ?_⟩
  · dsimp only
    frame_out
    refine (pay3_at _ _ r j).trans (Finset.sum_congr rfl fun k _ => ?_)
    exact congrArg (fun z : EReal => z * iblk m c 2 t (ix2 k j)) ((pay2_at _ _ r k).trans (norm_at m c t r k))
  · dsimp only
    frame_out
    exact (pay1_at _ _ r k).trans (norm_at m c t r k)
  · dsimp only
    frame_out
    exact (pay2_at _ _ r k).trans (norm_at m c t r k)

/-- An odd point leaves it, where the point before left the rows of its block. -/
theorem step_B (c : Dev nD) (t : Fin cfg0.N) (h : ¬t.val % 2 = 0)
    (h1 : ∀ (r : Fin 512) (k : Fin 512), (left m c (t.val - 1) (lt_pred t)).2.1 (ix2 r k) = rows m c t r k)
    (h2 : ∀ (r : Fin 512) (k : Fin 512), (left m c (t.val - 1) (lt_pred t)).2.2 (ix2 r k) = rows m c t r k) :
    Right m c t (left m c t.val t.isLt) := by
  rw [left_odd m c t h]
  refine ⟨fun r j => ?_, h1, h2⟩
  dsimp only
  frame_out
  refine (pay3_at _ _ r j).trans (Finset.sum_congr rfl fun k _ => ?_)
  refine congrArg (fun z : EReal => z * iblk m c 2 t (ix2 k j)) ?_
  exact (congrFun (Memref.IsWhole.read_unread _ _) (ix2 r k)).trans (h2 r k)

/-- Every point leaves it. -/
theorem step (c : Dev nD) (t : Fin cfg0.N) : Right m c t (left m c t.val t.isLt) := by
  by_cases h : t.val % 2 = 0
  · exact step_A m c t h
  · have ht := t_lt t
    have hp := step_A m c ⟨t.val - 1, lt_pred t⟩ (by show (t.val - 1) % 2 = 0; omega)
    have he : ∀ (r : Fin 512) (k : Fin 512), rows m c ⟨t.val - 1, lt_pred t⟩ r k = rows m c t r k := by
      intro r k
      unfold rows
      refine congrArg (fun i : Fin 4096 => row (m ((c.tc : Thread nD τ).loc main_arg0)) (m ((c.tc : Thread nD τ).loc main_arg1)) i k) (Fin.ext ?_)
      show (t.val - 1) / 2 * 512 + r.val = t.val / 2 * 512 + r.val
      omega
    exact step_B m c t h (fun r k => (hp.2.1 r k).trans (he r k)) (fun r k => (hp.2.2 r k).trans (he r k))

/-- THE PRODUCT'S ARRAY after the run is the reference's term. -/
theorem final3 (c : Dev nD) : (dats m 0 c).arrAt 3 cfg0.N = REF (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht := t_lt t
  obtain ⟨e0, e1, e2, e3, e4⟩ := idx t
  obtain ⟨a, b, rfl⟩ : ∃ (a : Fin 512) (b : Fin 1024), y = ix2 a b := ⟨y 0, y 1, by blk_ext []⟩
  have hemb : ((cfg0.win 3).blk t).view.emb (ix2 a b) = ix2 (⟨t.val / 2 * 512 + a.val, by omega⟩ : Fin 4096)
      (⟨t.val % 2 * 1024 + b.val, by omega⟩ : Fin 2048) := by
    blk_ext [e3]
  blk_simp
  rw [after3, hemb, ref_at]
  refine ((step m c t).1 a b).trans ?_
  unfold rows
  exact Finset.sum_congr rfl fun k _ => congrArg (fun z : EReal => row (m ((c.tc : Thread nD τ).loc main_arg0)) (m ((c.tc : Thread nD τ).loc main_arg1)) (⟨t.val / 2 * 512 + a.val, by omega⟩ : Fin 4096) k * z) (w_at m c t k b)

/-- THE NORMED ROWS' ARRAY after the run is the reference's term. -/
theorem final4 (c : Dev nD) : (dats m 0 c).arrAt 4 cfg0.N = REFN (m ((c.tc : Thread nD τ).loc main_arg0)) (m ((c.tc : Thread nD τ).loc main_arg1)) := by
  refine (dats m 0 c).arrAt_eq_of_covers 4 _ (by decide +kernel) fun t hf y => ?_
  have ht := t_lt t
  obtain ⟨e0, e1, e2, e3, e4⟩ := idx t
  obtain ⟨a, b, rfl⟩ : ∃ (a : Fin 512) (b : Fin 512), y = ix2 a b := ⟨y 0, y 1, by blk_ext []⟩
  have hemb : ((cfg0.win 4).blk t).view.emb (ix2 a b) = ix2 (⟨t.val / 2 * 512 + a.val, by omega⟩ : Fin 4096) b := by
    blk_ext [e4]
  blk_simp
  rw [after4, hemb, refn_at]
  exact (step m c t).2.1 a b

end Cert.KvbIdeal.Fin

end
-- ==== Proof.KvbMain.lean ====
/- The keys and values of mixer D: the kernel's program and the reference's end with the same results. -/
module

public import proofs.«01_k».proof.Defs
public import proofs.«01_k».proof.Proof.KvbFin

@[expose] public section

set_option maxRecDepth 16384

noncomputable section

namespace Cert.Proof

open Idealize.ShloMosaic Idealize.SL.Sem

/-- The kernel's keys and values and compressed rows and the reference's end the same. -/
theorem algebraic_kvb : Cert.algebraic_KvbIdeal_KvbRefIdeal := by
  pair_intro
  · run_from Cert.KvbIdeal.Hand.run_blocks m g
  · run_from Cert.KvbRefIdeal.At.run m' g'
    all_goals first
      | exact (Cert.KvbIdeal.Fin.final3 m c).symm
      | exact (Cert.KvbIdeal.Fin.final4 m c).symm

end Cert.Proof

end
-- ==== Proof.KvCtxRef.lean ====
/- The reference's keys and values of the cached context, and their run. -/
module

public import proofs.«01_k».proof.Proof.Lin
public import proofs.«01_k».proof.Proof.Gen.KvCtxRefIdeal.Run

@[expose] public section

set_option maxRecDepth 16384

noncomputable section

namespace Cert.KvCtxRefIdeal.At

open Cert.KvCtxRefIdeal Cert.KvCtxRefIdeal.Gen Idealize.ShloMosaic Idealize.ShloMosaic.TcCoe Idealize.SL.Sem

/-- The product, rows one after the other. -/
def REF (a0 : FVec Ideal S8x256x512 .f32) (a1 : FVec Ideal S512x2048 .f32) : FVec Ideal S2048x2048 .f32 :=
  shapeCast _ (Host.dotGeneral dot_S8x256x512_S512x2048_S8x256x2048_2_0_01_1_n_n none a0 a1) shapeCasts_S8x256x2048_S2048x2048

/-- The reference at an index: the product of the row with its column. -/
theorem ref_at (a0 : FVec Ideal S8x256x512 .f32) (a1 : FVec Ideal S512x2048 .f32) (r j : Fin 2048) :
    REF a0 a1 (ix2 r j) = ∑ k : Fin 512, a0 (ix3 (⟨r.val / 256, by omega⟩ : Fin 8) (⟨r.val % 256, by omega⟩ : Fin 256) k) * a1 (ix2 k j) := by
  pointwise [REF]

/-- What the reference's run leaves is that product of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = REF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold REF
  exact (θ_run _ _ _).mono (fun r h c => h c) (Cert.KvCtxRefIdeal.Value.run (F := Ideal) m ρ)

end Cert.KvCtxRefIdeal.At

end
-- ==== Proof.KvCtxFin.lean ====
/- The kernel's keys and values of the cached context: what its output array holds, index by index. -/
module

public import proofs.«01_k».proof.Proof.KvCtxRef
public import proofs.«01_k».proof.Proof.Gen.KvCtxIdeal.Value

@[expose] public section

set_option maxRecDepth 16384

noncomputable section

namespace Cert.KvCtxIdeal.Fin

open Cert.KvCtxIdeal Cert.KvCtxIdeal.Gen Idealize.ShloMosaic Idealize.ShloMosaic.TcCoe Cert.Lin

variable (m : (ℓ : Loc nD τ sig) → Buf (Elt Ideal) ℓ)

theorem pay1_at (X : Vec Ideal S512x512 .f32) (r k : Fin 512) : k0_pay1 (F := Ideal) X (ix2 r k) = X (ix2 r k) := by
  pointwise [k0_pay1]

theorem pay2_at (X : Vec Ideal S512x512 .bf16) (U : Vec Ideal S512x1024 .bf16) (r : Fin 512) (j : Fin 1024) :
    k0_pay2 (F := Ideal) X U (ix2 r j) = ∑ k, X (ix2 r k) * U (ix2 k j) := by
  pointwise [k0_pay2]

/-- The windows' block indices at a grid point. -/
theorem idx : ∀ t : Fin cfg0.N, win0_0.index t = ![t.val / 2, 0]
    ∧ win0_1.index t = ![0, t.val % 2]
    ∧ win0_2.index t = ![t.val / 2, t.val % 2] :=
  (by decide +kernel : ∀ t : Fin grid0.N, _)

theorem t_lt (t : Fin cfg0.N) : t.val < 8 := lt_of_lt_of_eq t.isLt N_0

/-- The context's rows, one after the other. -/
theorem flat_at (c : Dev nD) (r : Fin 2048) (k : Fin 512) :
    V m c main_v0 (ix2 r k) = m ((c.tc : Thread nD τ).loc main_arg0)
      (ix3 (⟨r.val / 256, by omega⟩ : Fin 8) (⟨r.val % 256, by omega⟩ : Fin 256) k) := by
  entry_read
  pointwise <;> blk_point []

/-- A row of the block a grid point reads. -/
def rows (c : Dev nD) (t : Fin cfg0.N) (r k : Fin 512) : EReal :=
  V m c main_v0 (ix2 (⟨t.val / 2 * 512 + r.val, by have := t_lt t; omega⟩ : Fin 2048) k)

theorem x_at (c : Dev nD) (t : Fin cfg0.N) (r k : Fin 512) : iblk m c 0 t (ix2 r k) = rows m c t r k := by
  obtain ⟨e0, e1, e2⟩ := idx t
  unfold rows
  blk_ext [iblk, e0]

theorem weights_at (c : Dev nD) (k : Fin 512) (j : Fin 2048) :
    V m c main_v1 (ix2 k j) = m ((c.tc : Thread nD τ).loc main_arg1) (ix2 k j) := by
  entry_read
  pointwise

/-- The block of weights a grid point reads. -/
theorem w_at (c : Dev nD) (t : Fin cfg0.N) (k : Fin 512) (j : Fin 1024) :
    iblk m c 1 t (ix2 k j) = m ((c.tc : Thread nD τ).loc main_arg1) (ix2 k (⟨t.val % 2 * 1024 + j.val, by omega⟩ : Fin 2048)) := by
  obtain ⟨e0, e1, e2⟩ := idx t
  have h : iblk m c 1 t (ix2 k j) = V m c main_v1 (ix2 k (⟨t.val % 2 * 1024 + j.val, by omega⟩ : Fin 2048)) := by
    blk_ext [iblk, e1]
  exact h.trans (weights_at m c k _)

/-- At a point that reads its rows: in the carried rows those of its block, at an index of its output block their
    product with the block of weights. -/
theorem step_A (c : Dev nD) (t : Fin cfg0.N) (h : t.val % 2 = 0) :
    (∀ r k : Fin 512, (outsAt0 m c t.val t.isLt).2 (ix2 r k) = rows m c t r k)
    ∧ ∀ (r : Fin 512) (j : Fin 1024), (outsAt0 m c t.val t.isLt).1 (ix2 r j) = ∑ k, rows m c t r k * iblk m c 1 t (ix2 k j) := by
  rw [outsAt0_A m c t h]
  constructor
  · intro r k
    dsimp only
    frame_out
    exact (pay1_at _ r k).trans (x_at m c t r k)
  · intro r j
    dsimp only
    frame_out
    refine (pay2_at _ _ r j).trans ?_
    refine Finset.sum_congr rfl fun k _ => ?_
    refine congrArg (fun z : EReal => z * iblk m c 1 t (ix2 k j)) ?_
    exact (pay1_at _ r k).trans (x_at m c t r k)

/-- At the other points: they keep the carried rows and leave their product with the block of weights. -/
theorem step_B (c : Dev nD) (t : Fin cfg0.N) (h : ¬t.val % 2 = 0)
    (hs : ∀ r k : Fin 512, (outsAt0 m c (t.val - 1) (Nat.lt_of_le_of_lt (Nat.sub_le _ _) t.isLt)).2 (ix2 r k) = rows m c t r k) :
    (∀ r k : Fin 512, (outsAt0 m c t.val t.isLt).2 (ix2 r k) = rows m c t r k)
    ∧ ∀ (r : Fin 512) (j : Fin 1024), (outsAt0 m c t.val t.isLt).1 (ix2 r j) = ∑ k, rows m c t r k * iblk m c 1 t (ix2 k j) := by
  rw [outsAt0_B m c t h]
  constructor
  · intro r k
    exact hs r k
  · intro r j
    dsimp only
    frame_out
    refine (pay2_at _ _ r j).trans ?_
    refine Finset.sum_congr rfl fun k _ => ?_
    refine congrArg (fun z : EReal => z * iblk m c 1 t (ix2 k j)) ?_
    exact (congrFun (Memref.IsWhole.read_unread _ _) (ix2 r k)).trans (hs r k)

/-- What a grid point leaves: in the carried rows those of its block, at an index of its output block their product
    with the block of weights. -/
theorem step (c : Dev nD) : ∀ (n : Nat) (hn : n < cfg0.N),
    (∀ r k : Fin 512, (outsAt0 m c n hn).2 (ix2 r k) = rows m c ⟨n, hn⟩ r k)
    ∧ ∀ (r : Fin 512) (j : Fin 1024), (outsAt0 m c n hn).1 (ix2 r j) = ∑ k, rows m c ⟨n, hn⟩ r k * iblk m c 1 ⟨n, hn⟩ (ix2 k j) := by
  intro n
  induction n with
  | zero => exact fun hn => step_A m c ⟨0, hn⟩ rfl
  | succ n ih =>
    intro hn
    by_cases h : (n + 1) % 2 = 0
    · exact step_A m c ⟨n + 1, hn⟩ h
    · refine step_B m c ⟨n + 1, hn⟩ h ?_
      intro r k
      have hn' : n < cfg0.N := by omega
      refine ((ih hn').1 r k).trans ?_
      have h1 := t_lt ⟨n, hn'⟩
      have h2 := t_lt ⟨n + 1, hn⟩
      unfold rows
      blk_ext []

/-- THE OUTPUT ARRAY after the run is the reference's term. -/
theorem final (c : Dev nD) :
    (dats m 0 c).arrAt 2 cfg0.N = Cert.KvCtxRefIdeal.At.REF (m ((c.tc : Thread nD τ).loc main_arg0)) (m ((c.tc : Thread nD τ).loc main_arg1)) := by
  refine (dats m 0 c).arrAt_eq_of_covers 2 _ (by decide +kernel) fun t hf y => ?_
  have ht := t_lt t
  obtain ⟨e0, e1, e2⟩ := idx t
  obtain ⟨a, b, rfl⟩ : ∃ (a : Fin 512) (b : Fin 1024), y = ix2 a b := ⟨y 0, y 1, by blk_ext []⟩
  have hemb : ((cfg0.win 2).blk t).view.emb (ix2 a b) = ix2 (⟨t.val / 2 * 512 + a.val, by omega⟩ : Fin 2048)
      (⟨t.val % 2 * 1024 + b.val, by omega⟩ : Fin 2048) := by
    blk_ext [e2]
  blk_simp
  rw [after0_2, hemb, Cert.KvCtxRefIdeal.At.ref_at]
  refine ((step m c t.val t.isLt).2 a b).trans ?_
  unfold rows
  exact Finset.sum_congr rfl fun k _ => congrArg₂ (· * ·) (flat_at m c _ k) (w_at m c t k b)

end Cert.KvCtxIdeal.Fin

end
-- ==== Proof.KvCtxMain.lean ====
/- The keys and values of the cached context: the kernel's program and the reference's end with the same result. -/
module

public import proofs.«01_k».proof.Defs
public import proofs.«01_k».proof.Proof.KvCtxFin

@[expose] public section

set_option maxRecDepth 16384

noncomputable section

namespace Cert.Proof

open Idealize.ShloMosaic Idealize.SL.Sem

/-- The kernel's product of the cached context with the weights and the reference's end with the same array. -/
theorem algebraic_kvctx : Cert.algebraic_KvCtxIdeal_KvCtxRefIdeal := by
  pair_intro
  · run_from Cert.KvCtxIdeal.Value.run_blocks m g
  · run_from Cert.KvCtxRefIdeal.At.run m' g'
    exact (Cert.KvCtxIdeal.Fin.final m c).symm

end Cert.Proof

end
-- ==== Proof.Gate.lean ====
/- A number times its logistic value, and a head's normed and gated entry. -/
module

public import proofs.«01_k».proof.Proof.Lin

@[expose] public section

set_option maxRecDepth 16384

noncomputable section

namespace Cert.Lin

open Idealize.ShloMosaic

/-- A number times its logistic value. -/
def silu (z : EReal) : EReal := z * Ideal.div 1 (1 + Ideal.exp (-z))

/-- An entry of a head normed by its root mean square, times the gain, times the gate. -/
def gated (x g : Fin 128 → EReal) (z : EReal) (k : Fin 128) : EReal := rmsh x g k * silu z

theorem gated_congr {x x' g g' : Fin 128 → EReal} {z z' : EReal} {k k' : Fin 128} (hx : ∀ e, x e = x' e) (hg : ∀ e, g e = g' e) (hz : z = z')
    (hk : k.val = k'.val) : gated x g z k = gated x' g' z' k' := by
  rw [funext hx, funext hg, hz, Fin.ext hk]

end Cert.Lin

end
-- ==== Proof.GdnPostRef.lean ====
/- The reference's norm and gate after the recurrence, read at an index, and its run. -/
module

public import proofs.«01_k».proof.Proof.Gate
public import proofs.«01_k».proof.Proof.Gen.GdnPostRefIdeal.Run

@[expose] public section

set_option maxRecDepth 16384

noncomputable section

namespace Cert.GdnPostRefIdeal.At

open Cert.GdnPostRefIdeal Cert.GdnPostRefIdeal.Gen Idealize.ShloMosaic Idealize.ShloMosaic.TcCoe Idealize.SL.Sem Cert.Lin

/-- The whole reference. -/
def REF (a0 a1 : FVec Ideal S16384x1024 .f32) (a2 : FVec Ideal S16384x4224 .f32) (a3 : FVec Ideal S128 .f32) : FVec Ideal S16384x1024 .bf16 :=
  truncf .bf16 (shapeCast _ (mulf (mulf (mulf (shapeCast _ (addf a0 a1) shapeCasts_S16384x1024_S16384x8x128) (broadcastInDim S16384x8x128 ![0, 1, 2] bcast_S16384x8x1_S16384x8x128_0_1_2 (Host.rsqrt (addf (Host.divf (broadcastInDim S16384x8x1 ![0, 1] bcast_S16384x8_S16384x8x1_0_1 (Host.reduceAdd (mulf (shapeCast _ (addf a0 a1) shapeCasts_S16384x1024_S16384x8x128) (shapeCast _ (addf a0 a1) shapeCasts_S16384x1024_S16384x8x128)) (constant S_ .f32 0x00000000#32) reducesTo_S16384x8x128_S16384x8_d2 h_S_)) (broadcastInDim S16384x8x1 ![] bcast_S_S16384x8x1 (constant S_ .f32 0x43000000#32))) (broadcastInDim S16384x8x1 ![] bcast_S_S16384x8x1 (constant S_ .f32 0x358637BD#32)))))) (broadcastInDim S16384x8x128 ![0, 1, 2] bcast_S1x1x128_S16384x8x128_0_1_2 (broadcastInDim S1x1x128 ![2] bcast_S128_S1x1x128_2 a3))) (mulf (shapeCast _ (extractStridedSlice S16384x1024 ![0, 3072] a2 slices_S16384x4224_S16384x1024_0_3072) shapeCasts_S16384x1024_S16384x8x128) (Host.divf (broadcastInDim S16384x8x128 ![] bcast_S_S16384x8x128 (constant S_ .f32 0x3F800000#32)) (addf (broadcastInDim S16384x8x128 ![] bcast_S_S16384x8x128 (constant S_ .f32 0x3F800000#32)) (Host.exp (Host.negf (shapeCast _ (extractStridedSlice S16384x1024 ![0, 3072] a2 slices_S16384x4224_S16384x1024_0_3072) shapeCasts_S16384x1024_S16384x8x128))))))) shapeCasts_S16384x8x128_S16384x1024) bitsLt_bf16_f32

/-- The reference at an index: the entry of the two directions' sum, normed over its head, times the gate. -/
theorem ref_at (a0 a1 : FVec Ideal S16384x1024 .f32) (a2 : FVec Ideal S16384x4224 .f32) (a3 : FVec Ideal S128 .f32) (r : Fin 16384) (j : Fin 1024) :
    REF a0 a1 a2 a3 (ix2 r j) = gated (fun e : Fin 128 => a0 (ix2 r (⟨j.val / 128 * 128 + e.val, by omega⟩ : Fin 1024)) + a1 (ix2 r (⟨j.val / 128 * 128 + e.val, by omega⟩ : Fin 1024)))
      (fun e => a3 (ix1 e)) (a2 (ix2 r (⟨3072 + j.val, by omega⟩ : Fin 4224))) ⟨j.val % 128, by omega⟩ := by
  pointwise [REF]
  unfold gated rmsh silu
  dsimp only
  have hj : (⟨j.val / 128 * 128 + j.val % 128, by omega⟩ : Fin 1024) = j := Fin.ext (by show j.val / 128 * 128 + j.val % 128 = j.val; omega)
  rw [hj]

/-- What the reference's run leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = REF (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold REF
  exact (θ_run _ _ _).mono (fun r h c => h c) (Cert.GdnPostRefIdeal.Value.run (F := Ideal) m ρ)

end Cert.GdnPostRefIdeal.At

end
-- ==== Proof.GdnPostFin.lean ====
/- The kernel's norm and gate after the recurrence: what its output array holds, index by index. -/
module

public import proofs.«01_k».proof.Proof.GdnPostRef
public import proofs.«01_k».proof.Proof.Gen.GdnPostIdeal.Value

@[expose] public section

set_option maxRecDepth 16384

noncomputable section

namespace Cert.GdnPostIdeal.Fin

open Cert.GdnPostIdeal Cert.GdnPostIdeal.Gen Idealize.ShloMosaic Idealize.ShloMosaic.TcCoe Cert.Lin

variable (m : (ℓ : Loc nD τ sig) → Buf (Elt Ideal) ℓ)

/-- The first head. -/
theorem h0_at (A B Z : Vec Ideal S256x128 .f32) (G : Vec Ideal S1x128 .f32) (r : Fin 256) (k : Fin 128) :
    k0_pay2 (F := Ideal) A B G Z (ix2 r k) = gated (fun e => A (ix2 r e) + B (ix2 r e)) (fun e => G (ix2 0 e)) (Z (ix2 r k)) k := by
  pointwise [k0_pay2]
  unfold gated rmsh silu
  first | rfl | simp only [zero_sub]

/-- The second head. -/
theorem h1_at (A B Z : Vec Ideal S256x128 .f32) (G : Vec Ideal S1x128 .f32) (r : Fin 256) (k : Fin 128) :
    k0_pay6 (F := Ideal) (k0_pay3 A B) (k0_pay4 A B) k0_pay5 G Z (ix2 r k) = gated (fun e => A (ix2 r e) + B (ix2 r e)) (fun e => G (ix2 0 e)) (Z (ix2 r k)) k := by
  pointwise [k0_pay6, k0_pay3, k0_pay4, k0_pay5]
  unfold gated rmsh silu
  first | rfl | simp only [zero_sub]

/-- The third head. -/
theorem h2_at (A B Z : Vec Ideal S256x128 .f32) (G : Vec Ideal S1x128 .f32) (r : Fin 256) (k : Fin 128) :
    k0_pay8 (F := Ideal) (k0_pay7 A B G) Z (ix2 r k) = gated (fun e => A (ix2 r e) + B (ix2 r e)) (fun e => G (ix2 0 e)) (Z (ix2 r k)) k := by
  pointwise [k0_pay8, k0_pay7]
  unfold gated rmsh silu
  first | rfl | simp only [zero_sub]

/-- The fourth head. -/
theorem h3_at (A B Z : Vec Ideal S256x128 .f32) (G : Vec Ideal S1x128 .f32) (r : Fin 256) (k : Fin 128) :
    k0_pay10 (F := Ideal) (k0_pay9 A B G Z) (ix2 r k) = gated (fun e => A (ix2 r e) + B (ix2 r e)) (fun e => G (ix2 0 e)) (Z (ix2 r k)) k := by
  pointwise [k0_pay10, k0_pay9]
  unfold gated rmsh silu
  first | rfl | simp only [zero_sub]

/-- The fifth head. -/
theorem h4_at (A B Z : Vec Ideal S256x128 .f32) (G : Vec Ideal S1x128 .f32) (r : Fin 256) (k : Fin 128) :
    k0_pay11 (F := Ideal) A B G Z (ix2 r k) = gated (fun e => A (ix2 r e) + B (ix2 r e)) (fun e => G (ix2 0 e)) (Z (ix2 r k)) k := by
  pointwise [k0_pay11]
  unfold gated rmsh silu
  first | rfl | simp only [zero_sub]

/-- The sixth head. -/
theorem h5_at (A B Z : Vec Ideal S256x128 .f32) (G : Vec Ideal S1x128 .f32) (r : Fin 256) (k : Fin 128) :
    k0_pay14 (F := Ideal) (k0_pay12 A B) (k0_pay13 A B) G Z (ix2 r k) = gated (fun e => A (ix2 r e) + B (ix2 r e)) (fun e => G (ix2 0 e)) (Z (ix2 r k)) k := by
  pointwise [k0_pay14, k0_pay12, k0_pay13]
  unfold gated rmsh silu
  first | rfl | simp only [zero_sub]

/-- The seventh head. -/
theorem h6_at (A B Z : Vec Ideal S256x128 .f32) (G : Vec Ideal S1x128 .f32) (r : Fin 256) (k : Fin 128) :
    k0_pay16 (F := Ideal) (k0_pay15 A B) G Z (ix2 r k) = gated (fun e => A (ix2 r e) + B (ix2 r e)) (fun e => G (ix2 0 e)) (Z (ix2 r k)) k := by
  pointwise [k0_pay16, k0_pay15]
  unfold gated rmsh silu
  first | rfl | simp only [zero_sub]

/-- The eighth head. -/
theorem h7_at (A B Z : Vec Ideal S256x128 .f32) (G : Vec Ideal S1x128 .f32) (r : Fin 256) (k : Fin 128) :
    k0_pay1 (F := Ideal) (k0_pay17 A B G) Z (k0_pay18 Z) (Scalar.ofBits .f32 0x3F800000#32) (ix2 r k) = gated (fun e => A (ix2 r e) + B (ix2 r e)) (fun e => G (ix2 0 e)) (Z (ix2 r k)) k := by
  pointwise [k0_pay1, k0_pay17, k0_pay18]
  unfold gated rmsh silu
  first | rfl | simp only [zero_sub]

/-- The windows' block indices at a grid point. -/
theorem idx : ∀ t : Fin cfg0.N, win0_0.index t = ![t.val, 0]
    ∧ win0_1.index t = ![t.val, 0]
    ∧ win0_2.index t = ![t.val, 3]
    ∧ win0_3.index t = ![0, 0]
    ∧ win0_4.index t = ![t.val, 0] :=
  (by decide +kernel : ∀ t : Fin grid0.N, _)

theorem t_lt (t : Fin cfg0.N) : t.val < 64 := lt_of_lt_of_eq t.isLt N_0

/-- The block of the first direction's rows a grid point reads. -/
theorem x_at (c : Dev nD) (t : Fin cfg0.N) (r : Fin 256) (k : Fin 1024) :
    iblk m c 0 t (ix2 r k) = m ((c.tc : Thread nD τ).loc main_arg0) (ix2 (⟨t.val * 256 + r.val, by have := t_lt t; omega⟩ : Fin 16384) k) := by
  obtain ⟨e0, e1, e2, e3, e4⟩ := idx t
  blk_ext [iblk, V, e0]

/-- The block of the second direction's. -/
theorem y_at (c : Dev nD) (t : Fin cfg0.N) (r : Fin 256) (k : Fin 1024) :
    iblk m c 1 t (ix2 r k) = m ((c.tc : Thread nD τ).loc main_arg1) (ix2 (⟨t.val * 256 + r.val, by have := t_lt t; omega⟩ : Fin 16384) k) := by
  obtain ⟨e0, e1, e2, e3, e4⟩ := idx t
  blk_ext [iblk, V, e1]

/-- The block of the projection's columns that hold the gate. -/
theorem z_at (c : Dev nD) (t : Fin cfg0.N) (r : Fin 256) (k : Fin 1024) :
    X0_2 m c t (ix2 r k) = m ((c.tc : Thread nD τ).loc main_arg2)
      (ix2 (⟨t.val * 256 + r.val, by have := t_lt t; omega⟩ : Fin 16384) (⟨3072 + k.val, by omega⟩ : Fin 4224)) := by
  have := t_lt t
  obtain ⟨e0, e1, e2, e3, e4⟩ := idx t
  unfold X0_2 Pipeline.Window.fill
  rw [dif_pos (moved0_2 t _)]
  blk_ext [iblk, V, e2]

theorem gain_at (c : Dev nD) (i : Fin 1) (k : Fin 128) : V m c main_v0 (ix2 i k) = m ((c.tc : Thread nD τ).loc main_arg3) (ix1 k) := by
  entry_read
  pointwise <;> blk_point []

/-- The gain a grid point reads. -/
theorem g_at (c : Dev nD) (t : Fin cfg0.N) (k : Fin 128) : iblk m c 3 t (ix2 (0 : Fin 1) k) = m ((c.tc : Thread nD τ).loc main_arg3) (ix1 k) := by
  obtain ⟨e0, e1, e2, e3, e4⟩ := idx t
  have h : iblk m c 3 t (ix2 (0 : Fin 1) k) = V m c main_v0 (ix2 (0 : Fin 1) k) := by
    blk_ext [iblk, e3]
  exact h.trans (gain_at m c _ k)

/-- The sum of two blocks at an index. -/
def both (A B : Vec Ideal S256x1024 .f32) (r : Fin 256) (k : Fin 1024) : EReal := A (ix2 r k) + B (ix2 r k)

/-- What a grid point leaves at an index of its output block. -/
theorem out_at (c : Dev nD) (t : Fin cfg0.N) (y : S256x1024.Idx) (y0 : Fin 256) (y1 : Fin 1024) (hy0 : y0.val = (y 0).val) (hy1 : y1.val = (y 1).val) :
    outsAt0 m c t y = gated (fun e : Fin 128 => both (iblk m c 0 t) (iblk m c 1 t) y0 (⟨y1.val / 128 * 128 + e.val, by omega⟩ : Fin 1024))
      (fun e : Fin 128 => iblk m c 3 t (ix2 0 e)) (X0_2 m c t (ix2 y0 y1)) ⟨y1.val % 128, by omega⟩ := by
  unfold outsAt0; frame_out
  canon_tiles x h
  case piece0 =>
    obtain ⟨a, b, rfl⟩ : ∃ (a : Fin 256) (b : Fin 128), x = ix2 a b := ⟨x 0, x 1, by blk_ext []⟩
    have h0 : (y 0).val = a.val := h0
    have h1 : (y 1).val = 896 + b.val := h1
    refine (h7_at _ _ _ _ a b).trans (gated_congr ?_ ?_ ?_ ?_)
    · intro e; refine congrArg₂ (fun u v : EReal => u + v) ?_ ?_ <;> (pointwise; blk_ext [])
    · intro e; rfl
    · pointwise; blk_ext []
    · show b.val = y1.val % 128; omega
  case piece1 =>
    obtain ⟨a, b, rfl⟩ : ∃ (a : Fin 256) (b : Fin 128), x = ix2 a b := ⟨x 0, x 1, by blk_ext []⟩
    have h0 : (y 0).val = a.val := h0
    have h1 : (y 1).val = 768 + b.val := h1
    refine (h6_at _ _ _ _ a b).trans (gated_congr ?_ ?_ ?_ ?_)
    · intro e; refine congrArg₂ (fun u v : EReal => u + v) ?_ ?_ <;> (pointwise; blk_ext [])
    · intro e; rfl
    · pointwise; blk_ext []
    · show b.val = y1.val % 128; omega
  case piece2 =>
    obtain ⟨a, b, rfl⟩ : ∃ (a : Fin 256) (b : Fin 128), x = ix2 a b := ⟨x 0, x 1, by blk_ext []⟩
    have h0 : (y 0).val = a.val := h0
    have h1 : (y 1).val = 640 + b.val := h1
    refine (h5_at _ _ _ _ a b).trans (gated_congr ?_ ?_ ?_ ?_)
    · intro e; refine congrArg₂ (fun u v : EReal => u + v) ?_ ?_ <;> (pointwise; blk_ext [])
    · intro e; rfl
    · pointwise; blk_ext []
    · show b.val = y1.val % 128; omega
  case piece3 =>
    obtain ⟨a, b, rfl⟩ : ∃ (a : Fin 256) (b : Fin 128), x = ix2 a b := ⟨x 0, x 1, by blk_ext []⟩
    have h0 : (y 0).val = a.val := h0
    have h1 : (y 1).val = 512 + b.val := h1
    refine (h4_at _ _ _ _ a b).trans (gated_congr ?_ ?_ ?_ ?_)
    · intro e; refine congrArg₂ (fun u v : EReal => u + v) ?_ ?_ <;> (pointwise; blk_ext [])
    · intro e; rfl
    · pointwise; blk_ext []
    · show b.val = y1.val % 128; omega
  case piece4 =>
    obtain ⟨a, b, rfl⟩ : ∃ (a : Fin 256) (b : Fin 128), x = ix2 a b := ⟨x 0, x 1, by blk_ext []⟩
    have h0 : (y 0).val = a.val := h0
    have h1 : (y 1).val = 384 + b.val := h1
    refine (h3_at _ _ _ _ a b).trans (gated_congr ?_ ?_ ?_ ?_)
    · intro e; refine congrArg₂ (fun u v : EReal => u + v) ?_ ?_ <;> (pointwise; blk_ext [])
    · intro e; rfl
    · pointwise; blk_ext []
    · show b.val = y1.val % 128; omega
  case piece5 =>
    obtain ⟨a, b, rfl⟩ : ∃ (a : Fin 256) (b : Fin 128), x = ix2 a b := ⟨x 0, x 1, by blk_ext []⟩
    have h0 : (y 0).val = a.val := h0
    have h1 : (y 1).val = 256 + b.val := h1
    refine (h2_at _ _ _ _ a b).trans (gated_congr ?_ ?_ ?_ ?_)
    · intro e; refine congrArg₂ (fun u v : EReal => u + v) ?_ ?_ <;> (pointwise; blk_ext [])
    · intro e; rfl
    · pointwise; blk_ext []
    · show b.val = y1.val % 128; omega
  case piece6 =>
    obtain ⟨a, b, rfl⟩ : ∃ (a : Fin 256) (b : Fin 128), x = ix2 a b := ⟨x 0, x 1, by blk_ext []⟩
    have h0 : (y 0).val = a.val := h0
    have h1 : (y 1).val = 128 + b.val := h1
    refine (h1_at _ _ _ _ a b).trans (gated_congr ?_ ?_ ?_ ?_)
    · intro e; refine congrArg₂ (fun u v : EReal => u + v) ?_ ?_ <;> (pointwise; blk_ext [])
    · intro e; rfl
    · pointwise; blk_ext []
    · show b.val = y1.val % 128; omega
  case piece7 =>
    obtain ⟨a, b, rfl⟩ : ∃ (a : Fin 256) (b : Fin 128), x = ix2 a b := ⟨x 0, x 1, by blk_ext []⟩
    have h0 : (y 0).val = a.val := h0
    have h1 : (y 1).val = b.val := h1
    refine (h0_at _ _ _ _ a b).trans (gated_congr ?_ ?_ ?_ ?_)
    · intro e; refine congrArg₂ (fun u v : EReal => u + v) ?_ ?_ <;> (pointwise; blk_ext [])
    · intro e; rfl
    · pointwise; blk_ext []
    · show b.val = y1.val % 128; omega

/-- The same, at the index's two coordinates. -/
theorem out_at2 (c : Dev nD) (t : Fin cfg0.N) (a : Fin 256) (b : Fin 1024) :
    outsAt0 m c t (ix2 a b) = gated (fun e : Fin 128 => both (iblk m c 0 t) (iblk m c 1 t) a (⟨b.val / 128 * 128 + e.val, by omega⟩ : Fin 1024))
      (fun e : Fin 128 => iblk m c 3 t (ix2 0 e)) (X0_2 m c t (ix2 a b)) ⟨b.val % 128, by omega⟩ :=
  out_at m c t (ix2 a b) a b rfl rfl

/-- THE OUTPUT ARRAY after the run is the reference's term. -/
theorem final (c : Dev nD) :
    (dats m 0 c).arrAt 4 cfg0.N = Cert.GdnPostRefIdeal.At.REF (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  have ht := t_lt t
  obtain ⟨e0, e1, e2, e3, e4⟩ := idx t
  obtain ⟨a, b, rfl⟩ : ∃ (a : Fin 256) (b : Fin 1024), y = ix2 a b := ⟨y 0, y 1, by blk_ext []⟩
  have hemb : ((cfg0.win 4).blk t).view.emb (ix2 a b) = ix2 (⟨t.val * 256 + a.val, by omega⟩ : Fin 16384) b := by
    blk_ext [e4]
  blk_simp
  rw [after0_4, hemb, Cert.GdnPostRefIdeal.At.ref_at]
  exact (out_at2 m c t a b).trans (gated_congr (fun e => congrArg₂ (fun u v : EReal => u + v) (x_at m c t a _) (y_at m c t a _))
    (fun e => g_at m c t e) (z_at m c t a b) rfl)

end Cert.GdnPostIdeal.Fin

end
-- ==== Proof.GdnPostMain.lean ====
/- The norm and gate after mixer C's recurrence: the kernel's program and the reference's end with the same result. -/
module

public import proofs.«01_k».proof.Defs
public import proofs.«01_k».proof.Proof.GdnPostFin

@[expose] public section

set_option maxRecDepth 16384

noncomputable section

namespace Cert.Proof

open Idealize.ShloMosaic Idealize.SL.Sem

/-- The kernel's normed and gated heads and the reference's end with the same array. -/
theorem algebraic_gdnpost : Cert.algebraic_GdnPostIdeal_GdnPostRefIdeal := by
  pair_intro
  · run_from Cert.GdnPostIdeal.Value.run_blocks m g
  · run_from Cert.GdnPostRefIdeal.At.run m' g'
    exact (Cert.GdnPostIdeal.Fin.final m c).symm

end Cert.Proof

end
-- ==== Proof.Conv.lean ====
/- A convolution over three neighbouring rows of a sequence, and a head divided by its norm, on ideal numbers. -/
module

public import proofs.«01_k».proof.Proof.Gate

@[expose] public section

set_option maxRecDepth 16384

noncomputable section

namespace Cert.Lin

open Idealize.ShloMosaic

/-- The entry of the row before, nothing before a sequence's first row (sequences of 2048 rows, one after the other). -/
def before (x : Fin 16384 → EReal) (r : Fin 16384) : EReal := if r.val % 2048 = 0 then 0 else x ⟨r.val - 1, by omega⟩

/-- The entry of the row after, nothing after a sequence's last row. -/
def after (x : Fin 16384 → EReal) (r : Fin 16384) : EReal := if h : r.val % 2048 = 2047 then 0 else x ⟨r.val + 1, by omega⟩

/-- The three weights' combination of the row before, the row and the row after. -/
def mix (p x n u v w : EReal) : EReal := u * p + v * x + w * n

/-- An entry of a head divided by the head's norm. -/
def unit (x : Fin 128 → EReal) (k : Fin 128) : EReal := x k * Ideal.rsqrt (∑ e, x e * x e + Ideal.ofBits .f32 0x358637BD#32)

theorem unit_congr {x x' : Fin 128 → EReal} {k k' : Fin 128} (hx : ∀ e, x e = x' e) (hk : k.val = k'.val) : unit x k = unit x' k' := by
  rw [funext hx, Fin.ext hk]

end Cert.Lin

end
-- ==== Proof.GdnPrepRef.lean ====
/- The reference's convolution, gate and head norms before the recurrence, read at an index, and its run. -/
module

public import proofs.«01_k».proof.Proof.Conv
public import proofs.«01_k».proof.Proof.Gen.GdnPrepRefIdeal.Run

@[expose] public section

set_option maxRecDepth 16384

noncomputable section

namespace Cert.GdnPrepRefIdeal.At

open Cert.GdnPrepRefIdeal Cert.GdnPrepRefIdeal.Gen Idealize.ShloMosaic Idealize.ShloMosaic.TcCoe Idealize.SL.Sem Cert.Lin

/-- The convolution of the projection's first 3072 columns. -/
def conv (a0 : FVec Ideal S16384x4224 .f32) (a1 : FVec Ideal S3x3072 .f32) : FVec Ideal S8x2048x3072 .f32 :=
  (addf (addf (mulf (broadcastInDim S8x2048x3072 ![0, 1, 2] bcast_S1x1x3072_S8x2048x3072_0_1_2 (broadcastInDim S1x1x3072 ![2] bcast_S3072_S1x1x3072_2 (shapeCast _ (extractStridedSlice S1x3072 ![0, 0] a1 slices_S3x3072_S1x3072_0_0) shapeCasts_S1x3072_S3072))) (extractStridedSlice S8x2048x3072 ![0, 0, 0] (pad S8x2049x3072 ![0, 1, 0] ![0, 0, 0] ![0, 0, 0] (extractStridedSlice S8x2048x3072 ![0, 0, 0] (shapeCast _ a0 shapeCasts_S16384x4224_S8x2048x4224) slices_S8x2048x4224_S8x2048x3072_0_0_0) (sitofp .f32 (constantI S_ 32 0#32)) pads_S8x2048x3072_S8x2049x3072_000_100_000 h_S_) slices_S8x2049x3072_S8x2048x3072_0_0_0)) (mulf (broadcastInDim S8x2048x3072 ![0, 1, 2] bcast_S1x1x3072_S8x2048x3072_0_1_2 (broadcastInDim S1x1x3072 ![2] bcast_S3072_S1x1x3072_2 (shapeCast _ (extractStridedSlice S1x3072 ![1, 0] a1 slices_S3x3072_S1x3072_1_0) shapeCasts_S1x3072_S3072))) (extractStridedSlice S8x2048x3072 ![0, 0, 0] (shapeCast _ a0 shapeCasts_S16384x4224_S8x2048x4224) slices_S8x2048x4224_S8x2048x3072_0_0_0))) (mulf (broadcastInDim S8x2048x3072 ![0, 1, 2] bcast_S1x1x3072_S8x2048x3072_0_1_2 (broadcastInDim S1x1x3072 ![2] bcast_S3072_S1x1x3072_2 (shapeCast _ (extractStridedSlice S1x3072 ![2, 0] a1 slices_S3x3072_S1x3072_2_0) shapeCasts_S1x3072_S3072))) (extractStridedSlice S8x2048x3072 ![0, 1, 0] (pad S8x2049x3072 ![0, 0, 0] ![0, 1, 0] ![0, 0, 0] (extractStridedSlice S8x2048x3072 ![0, 0, 0] (shapeCast _ a0 shapeCasts_S16384x4224_S8x2048x4224) slices_S8x2048x4224_S8x2048x3072_0_0_0) (sitofp .f32 (constantI S_ 32 0#32)) pads_S8x2048x3072_S8x2049x3072_000_010_000 h_S_) slices_S8x2049x3072_S8x2048x3072_0_1_0)))

/-- Each entry times its logistic value. -/
def act (Y : FVec Ideal S8x2048x3072 .f32) : FVec Ideal S8x2048x3072 .f32 :=
  (mulf Y (Host.divf (broadcastInDim S8x2048x3072 ![] bcast_S_S8x2048x3072 (constant S_ .f32 0x3F800000#32)) (addf (broadcastInDim S8x2048x3072 ![] bcast_S_S8x2048x3072 (constant S_ .f32 0x3F800000#32)) (Host.exp (Host.negf Y)))))

/-- The queries: each head divided by its norm, times the scale. -/
def qs (A : FVec Ideal S8x2048x3072 .f32) : FVec Ideal S16384x1024 .f32 :=
  (shapeCast _ (mulf (mulf (shapeCast _ (extractStridedSlice S8x2048x1024 ![0, 0, 0] A slices_S8x2048x3072_S8x2048x1024_0_0_0) shapeCasts_S8x2048x1024_S8x2048x8x128) (broadcastInDim S8x2048x8x128 ![0, 1, 2, 3] bcast_S8x2048x8x1_S8x2048x8x128_0_1_2_3 (Host.rsqrt (addf (broadcastInDim S8x2048x8x1 ![0, 1, 2] bcast_S8x2048x8_S8x2048x8x1_0_1_2 (Host.reduceAdd (mulf (shapeCast _ (extractStridedSlice S8x2048x1024 ![0, 0, 0] A slices_S8x2048x3072_S8x2048x1024_0_0_0) shapeCasts_S8x2048x1024_S8x2048x8x128) (shapeCast _ (extractStridedSlice S8x2048x1024 ![0, 0, 0] A slices_S8x2048x3072_S8x2048x1024_0_0_0) shapeCasts_S8x2048x1024_S8x2048x8x128)) (constant S_ .f32 0x00000000#32) reducesTo_S8x2048x8x128_S8x2048x8_d3 h_S_)) (broadcastInDim S8x2048x8x1 ![] bcast_S_S8x2048x8x1 (constant S_ .f32 0x358637BD#32)))))) (broadcastInDim S8x2048x8x128 ![] bcast_S_S8x2048x8x128 (constant S_ .f32 0x3DB504F3#32))) shapeCasts_S8x2048x8x128_S16384x1024)

/-- The keys: each head divided by its norm. -/
def ks (A : FVec Ideal S8x2048x3072 .f32) : FVec Ideal S16384x1024 .f32 :=
  (shapeCast _ (mulf (shapeCast _ (extractStridedSlice S8x2048x1024 ![0, 0, 1024] A slices_S8x2048x3072_S8x2048x1024_0_0_1024) shapeCasts_S8x2048x1024_S8x2048x8x128) (broadcastInDim S8x2048x8x128 ![0, 1, 2, 3] bcast_S8x2048x8x1_S8x2048x8x128_0_1_2_3 (Host.rsqrt (addf (broadcastInDim S8x2048x8x1 ![0, 1, 2] bcast_S8x2048x8_S8x2048x8x1_0_1_2 (Host.reduceAdd (mulf (shapeCast _ (extractStridedSlice S8x2048x1024 ![0, 0, 1024] A slices_S8x2048x3072_S8x2048x1024_0_0_1024) shapeCasts_S8x2048x1024_S8x2048x8x128) (shapeCast _ (extractStridedSlice S8x2048x1024 ![0, 0, 1024] A slices_S8x2048x3072_S8x2048x1024_0_0_1024) shapeCasts_S8x2048x1024_S8x2048x8x128)) (constant S_ .f32 0x00000000#32) reducesTo_S8x2048x8x128_S8x2048x8_d3 h_S_)) (broadcastInDim S8x2048x8x1 ![] bcast_S_S8x2048x8x1 (constant S_ .f32 0x358637BD#32)))))) shapeCasts_S8x2048x8x128_S16384x1024)

/-- The values. -/
def vs (A : FVec Ideal S8x2048x3072 .f32) : FVec Ideal S16384x1024 .f32 :=
  (shapeCast _ (extractStridedSlice S8x2048x1024 ![0, 0, 2048] A slices_S8x2048x3072_S8x2048x1024_0_0_2048) shapeCasts_S8x2048x1024_S16384x1024)

/-- The three side by side. -/
def side (q k v : FVec Ideal S16384x1024 .f32) : FVec Ideal S16384x3072 .f32 :=
  concatenate S16384x3072 1 [⟨S16384x1024, q⟩, ⟨S16384x1024, k⟩, ⟨S16384x1024, v⟩] concatenates_S16384x1024_S16384x1024_S16384x1024_S16384x3072_d1

/-- The whole reference. -/
def REF (a0 : FVec Ideal S16384x4224 .f32) (a1 : FVec Ideal S3x3072 .f32) : FVec Ideal S16384x3072 .f32 :=
  side (qs (act (conv a0 a1))) (ks (act (conv a0 a1))) (vs (act (conv a0 a1)))

/-- A convolved and gated entry, from the projection's rows and the three weights of its column. -/
def entry (a0 : FVec Ideal S16384x4224 .f32) (a1 : FVec Ideal S3x3072 .f32) (r : Fin 16384) (k : Fin 3072) : EReal :=
  silu (mix (before (fun i => a0 (ix2 i (⟨k.val, by omega⟩ : Fin 4224))) r) (a0 (ix2 r (⟨k.val, by omega⟩ : Fin 4224)))
    (after (fun i => a0 (ix2 i (⟨k.val, by omega⟩ : Fin 4224))) r) (a1 (ix2 0 k)) (a1 (ix2 1 k)) (a1 (ix2 2 k)))

theorem act_at (Y : FVec Ideal S8x2048x3072 .f32) (b : Fin 8) (s : Fin 2048) (k : Fin 3072) : act Y (ix3 b s k) = silu (Y (ix3 b s k)) := by
  pointwise [act]
  rfl

theorem conv_at (a0 : FVec Ideal S16384x4224 .f32) (a1 : FVec Ideal S3x3072 .f32) (b : Fin 8) (s : Fin 2048) (k : Fin 3072) :
    conv a0 a1 (ix3 b s k) = mix (before (fun i => a0 (ix2 i (⟨k.val, by omega⟩ : Fin 4224))) (⟨b.val * 2048 + s.val, by omega⟩ : Fin 16384))
      (a0 (ix2 (⟨b.val * 2048 + s.val, by omega⟩ : Fin 16384) (⟨k.val, by omega⟩ : Fin 4224)))
      (after (fun i => a0 (ix2 i (⟨k.val, by omega⟩ : Fin 4224))) (⟨b.val * 2048 + s.val, by omega⟩ : Fin 16384)) (a1 (ix2 0 k)) (a1 (ix2 1 k)) (a1 (ix2 2 k)) := by
  pointwise [conv]
  unfold mix before after
  refine congrArg₂ (fun x y : EReal => x + y) (congrArg (fun x : EReal => x + a1 (ix2 1 k) * a0 (ix2 (⟨b.val * 2048 + s.val, by omega⟩ : Fin 16384) (⟨k.val, by omega⟩ : Fin 4224)))
    (congrArg (fun x : EReal => a1 (ix2 0 k) * x) ?_)) (congrArg (fun x : EReal => a1 (ix2 2 k) * x) ?_)
  · have hs := s.isLt
    dsimp only
    split <;> split <;> first | (exfalso; omega) | exact sitofp_zero | blk_ext []
  · have hs := s.isLt
    dsimp only
    split <;> split <;> first | (exfalso; omega) | exact sitofp_zero | blk_ext []

theorem entry_at (a0 : FVec Ideal S16384x4224 .f32) (a1 : FVec Ideal S3x3072 .f32) (b : Fin 8) (s : Fin 2048) (k : Fin 3072) :
    act (conv a0 a1) (ix3 b s k) = entry a0 a1 (⟨b.val * 2048 + s.val, by omega⟩ : Fin 16384) k :=
  (act_at _ b s k).trans (congrArg silu (conv_at a0 a1 b s k))

theorem entry_row (a0 : FVec Ideal S16384x4224 .f32) (a1 : FVec Ideal S3x3072 .f32) (r : Fin 16384) (k : Fin 3072) :
    act (conv a0 a1) (ix3 (⟨r.val / 2048, by omega⟩ : Fin 8) (⟨r.val % 2048, by omega⟩ : Fin 2048) k) = entry a0 a1 r k :=
  (entry_at a0 a1 _ _ k).trans (congrArg (fun r => entry a0 a1 r k) (Fin.ext (by show r.val / 2048 * 2048 + r.val % 2048 = r.val; omega)))

theorem qs_at (A : FVec Ideal S8x2048x3072 .f32) (r : Fin 16384) (j : Fin 1024) :
    qs A (ix2 r j) = unit (fun e => A (ix3 (⟨r.val / 2048, by omega⟩ : Fin 8) (⟨r.val % 2048, by omega⟩ : Fin 2048) (⟨j.val / 128 * 128 + e.val, by omega⟩ : Fin 3072)))
      ⟨j.val % 128, by omega⟩ * Ideal.ofBits .f32 0x3DB504F3#32 := by
  pointwise [qs]
  unfold unit
  simp only [Nat.add_assoc, Nat.div_add_mod']

theorem ks_at (A : FVec Ideal S8x2048x3072 .f32) (r : Fin 16384) (j : Fin 1024) :
    ks A (ix2 r j) = unit (fun e => A (ix3 (⟨r.val / 2048, by omega⟩ : Fin 8) (⟨r.val % 2048, by omega⟩ : Fin 2048) (⟨1024 + (j.val / 128 * 128 + e.val), by omega⟩ : Fin 3072)))
      ⟨j.val % 128, by omega⟩ := by
  pointwise [ks]
  unfold unit
  simp only [Nat.add_assoc, Nat.div_add_mod']

theorem vs_at (A : FVec Ideal S8x2048x3072 .f32) (r : Fin 16384) (j : Fin 1024) :
    vs A (ix2 r j) = A (ix3 (⟨r.val / 2048, by omega⟩ : Fin 8) (⟨r.val % 2048, by omega⟩ : Fin 2048) (⟨2048 + j.val, by omega⟩ : Fin 3072)) := by
  pointwise [vs]

theorem side_at (q k v : FVec Ideal S16384x1024 .f32) (r : Fin 16384) (j : Fin 3072) :
    side q k v (ix2 r j) = if h : j.val < 1024 then q (ix2 r ⟨j.val, h⟩) else if h' : j.val < 2048 then k (ix2 r ⟨j.val - 1024, by omega⟩)
      else v (ix2 r ⟨j.val - 2048, by omega⟩) := by
  pointwise [side]
  have hj := j.isLt
  (repeat' split) <;> first | (exfalso; omega) | rfl | blk_ext []

/-- An entry of the result: a query's, a key's or a value's. -/
def out (A : Fin 3072 → EReal) (j : Fin 3072) : EReal :=
  if j.val < 1024 then unit (fun e => A (⟨j.val / 128 * 128 + e.val, by omega⟩ : Fin 3072)) ⟨j.val % 128, by omega⟩ * Ideal.ofBits .f32 0x3DB504F3#32
  else if j.val < 2048 then unit (fun e => A (⟨j.val / 128 * 128 + e.val, by omega⟩ : Fin 3072)) ⟨j.val % 128, by omega⟩
  else A j

/-- The reference at an index. -/
theorem ref_at (a0 : FVec Ideal S16384x4224 .f32) (a1 : FVec Ideal S3x3072 .f32) (r : Fin 16384) (j : Fin 3072) :
    REF a0 a1 (ix2 r j) = out (entry a0 a1 r) j := by
  refine (side_at _ _ _ r j).trans ?_
  have hj := j.isLt
  unfold out
  split
  · refine (qs_at _ r _).trans (congrArg (fun x : EReal => x * Ideal.ofBits .f32 0x3DB504F3#32) (unit_congr (fun e => ?_) rfl))
    exact entry_row a0 a1 r _
  · split
    · refine (ks_at _ r _).trans (unit_congr (fun e => ?_) ?_)
      · refine (entry_row a0 a1 r _).trans (congrArg (entry a0 a1 r) (Fin.ext ?_))
        show 1024 + ((j.val - 1024) / 128 * 128 + e.val) = j.val / 128 * 128 + e.val
        omega
      · show (j.val - 1024) % 128 = j.val % 128
        omega
    · refine (vs_at _ r _).trans ((entry_row a0 a1 r _).trans (congrArg (entry a0 a1 r) (Fin.ext ?_)))
      show 2048 + (j.val - 2048) = j.val
      omega

/-- What the reference's run leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = REF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold REF side qs ks vs act conv
  exact (θ_run _ _ _).mono (fun r h c => h c) (Cert.GdnPrepRefIdeal.Value.run (F := Ideal) m ρ)

end Cert.GdnPrepRefIdeal.At

end
-- ==== Proof.GdnPrepFin.lean ====
/- The kernel's convolution, gate and head norms before the recurrence: what its output array holds, index by index. -/
module

public import proofs.«01_k».proof.Proof.GdnPrepRef
public import proofs.«01_k».proof.Proof.Gen.GdnPrepIdeal.Value

@[expose] public section

set_option maxRecDepth 16384

noncomputable section

namespace Cert.GdnPrepIdeal.Fin

open Cert.GdnPrepIdeal Cert.GdnPrepIdeal.Gen Idealize.ShloMosaic Idealize.ShloMosaic.TcCoe Cert.Lin

variable (m : (ℓ : Loc nD τ sig) → Buf (Elt Ideal) ℓ)

/-- Is the point's block the first of its sequence? -/
def first (i : grid0.Coords) : BitVec 1 :=
  let arg0 : BitVec 32 := BitVec.ofNat 32 (i 0).val
  let v1 : BitVec 32 := Scalar.muli arg0 256#32
  let v2 : BitVec 1 := Scalar.cmpi .eq 2048#32 0#32
  let v3 : BitVec 32 := Scalar.select v2 1#32 2048#32
  let v4 : BitVec 32 := Scalar.remsi v1 v3
  let v5 : BitVec 1 := Scalar.cmpi .ne v4 0#32
  let v6 : BitVec 1 := Scalar.cmpi .slt v4 0#32
  let v7 : BitVec 1 := Scalar.cmpi .slt v3 0#32
  let v8 : BitVec 1 := Scalar.xori v6 v7
  let v9 : BitVec 1 := Scalar.andi v8 v5
  let v10 : BitVec 32 := Scalar.addi v4 v3
  let v11 : BitVec 32 := Scalar.select v9 v10 v4
  let v12 : BitVec 1 := Scalar.cmpi .eq v11 0#32
  v12

/-- Is the point's block the last of its sequence? -/
def last (i : grid0.Coords) : BitVec 1 :=
  let arg0 : BitVec 32 := BitVec.ofNat 32 (i 0).val
  let v13 : BitVec 32 := Scalar.addi arg0 1#32
  let v14 : BitVec 32 := Scalar.muli v13 256#32
  let v15 : BitVec 1 := Scalar.cmpi .eq 2048#32 0#32
  let v16 : BitVec 32 := Scalar.select v15 1#32 2048#32
  let v17 : BitVec 32 := Scalar.remsi v14 v16
  let v18 : BitVec 1 := Scalar.cmpi .ne v17 0#32
  let v19 : BitVec 1 := Scalar.cmpi .slt v17 0#32
  let v20 : BitVec 1 := Scalar.cmpi .slt v16 0#32
  let v21 : BitVec 1 := Scalar.xori v19 v20
  let v22 : BitVec 1 := Scalar.andi v21 v18
  let v23 : BitVec 32 := Scalar.addi v17 v16
  let v24 : BitVec 32 := Scalar.select v22 v23 v17
  let v25 : BitVec 1 := Scalar.cmpi .eq v24 0#32
  v25

theorem t_lt (t : Fin cfg0.N) : t.val < 192 := lt_of_lt_of_eq t.isLt N_0

theorem first_eq : ∀ t : Fin cfg0.N, first (grid0.coords t) = if t.val / 3 % 8 = 0 then 1#1 else 0#1 :=
  (by decide +kernel : ∀ t : Fin grid0.N, _)

theorem last_eq : ∀ t : Fin cfg0.N, last (grid0.coords t) = if t.val / 3 % 8 = 7 then 1#1 else 0#1 :=
  (by decide +kernel : ∀ t : Fin grid0.N, _)

theorem col_eq : ∀ t : Fin cfg0.N, BitVec.ofNat 32 (grid0.coords t 1).val = BitVec.ofNat 32 (t.val % 3) :=
  (by decide +kernel : ∀ t : Fin grid0.N, _)

/-- The row before the block, nothing at a sequence's first. -/
theorem prev_at (t : Fin cfg0.N) (P : Vec Ideal S1x1024 .f32) (k : Fin 1024) :
    k0_pay13 (F := Ideal) (grid0.coords t) P (ix2 0 k) = if t.val / 3 % 8 = 0 then (0 : EReal) else P (ix2 0 k) := by
  have h : k0_pay13 (F := Ideal) (grid0.coords t) P = Scalar.select (first (grid0.coords t)) (broadcast S1x1024 (Scalar.ofBits .f32 0x00000000#32)) P := rfl
  rw [h, first_eq t]
  split
  · pointwise
  · pointwise

/-- The row after the block, nothing at a sequence's last. -/
theorem next_at (t : Fin cfg0.N) (P : Vec Ideal S1x1024 .f32) (k : Fin 1024) :
    k0_pay14 (F := Ideal) (grid0.coords t) P (ix2 0 k) = if t.val / 3 % 8 = 7 then (0 : EReal) else P (ix2 0 k) := by
  have h : k0_pay14 (F := Ideal) (grid0.coords t) P = Scalar.select (last (grid0.coords t)) (broadcast S1x1024 (Scalar.ofBits .f32 0x00000000#32)) P := rfl
  rw [h, last_eq t]
  split
  · pointwise
  · pointwise

/-- The scale of the queries' columns. -/
theorem scale_q (t : Fin cfg0.N) (h : t.val % 3 = 0) : k0_pay3 (F := Ideal) (BitVec.ofNat 32 (grid0.coords t 1).val) = Ideal.ofBits .f32 0x3DB504F3#32 := by
  rw [col_eq t, h]
  rfl

/-- The scale of the keys' columns. -/
theorem scale_k (t : Fin cfg0.N) (h : t.val % 3 = 1) : k0_pay3 (F := Ideal) (BitVec.ofNat 32 (grid0.coords t 1).val) = (1 : EReal) := by
  rw [col_eq t, h]
  have e : k0_pay3 (F := Ideal) 1#32 = Ideal.ofBits .f32 0x3F800000#32 := rfl
  exact e.trans (by simp)

/-- The convolved and gated block. -/
theorem pay1_at (X : Vec Ideal S256x1024 .f32) (P N : FVec Ideal S1x1024 .f32) (U V W : Vec Ideal S1x1024 .f32) (r : Fin 256) (k : Fin 1024) :
    k0_pay1 (F := Ideal) X P N (iota .tc S256x1024 32 [0] iota_S256x1024_d0_w32) U V W (ix2 r k)
      = silu (mix (if r.val = 0 then P (ix2 0 k) else X (ix2 (⟨r.val - 1, by omega⟩ : Fin 256) k)) (X (ix2 r k))
        (if h : r.val = 255 then N (ix2 0 k) else X (ix2 (⟨r.val + 1, by omega⟩ : Fin 256) k)) (U (ix2 0 k)) (V (ix2 0 k)) (W (ix2 0 k))) := by
  pointwise [k0_pay1]
  have e0 : ∀ r : Fin 256, IntOp.cmpi CmpIPredicate.eq (BitVec.ofNat 32 r.val) 0#32 = if r.val = 0 then 1#1 else 0#1 := by decide +kernel
  have e1 : ∀ r : Fin 256, IntOp.cmpi CmpIPredicate.eq (BitVec.ofNat 32 r.val) 255#32 = if r.val = 255 then 1#1 else 0#1 := by decide +kernel
  have hr := r.isLt
  have hp : Scalar.select (IntOp.cmpi CmpIPredicate.eq (BitVec.ofNat 32 r.val) 0#32) (P (ix2 0 k)) (X (ix2 (⟨(r.val + 256 - 1) % 256, by omega⟩ : Fin 256) k))
      = if r.val = 0 then P (ix2 0 k) else X (ix2 (⟨r.val - 1, by omega⟩ : Fin 256) k) := by
    rw [e0 r]
    split
    · rfl
    · show X _ = X _
      blk_ext []
  have hn : Scalar.select (IntOp.cmpi CmpIPredicate.eq (BitVec.ofNat 32 r.val) 255#32) (N (ix2 0 k)) (X (ix2 (⟨(r.val + 256 - 255) % 256, by omega⟩ : Fin 256) k))
      = if h : r.val = 255 then N (ix2 0 k) else X (ix2 (⟨r.val + 1, by omega⟩ : Fin 256) k) := by
    rw [e1 r]
    split
    · rfl
    · show X _ = X _
      blk_ext []
  rw [hp, hn]
  unfold silu mix
  rw [zero_sub]

/-- The first head. -/
theorem h0_at (i : BitVec 32) (Y : FVec Ideal S256x1024 .f32) (r : Fin 256) (k : Fin 128) :
    k0_pay4 (F := Ideal) i Y (ix2 r k) = unit (fun e => Y (ix2 r (⟨e.val, by omega⟩ : Fin 1024))) k * (k0_pay3 (F := Ideal) i) := by
  pointwise [k0_pay4]
  unfold unit
  rfl

/-- The second head. -/
theorem h1_at (i : BitVec 32) (Y : FVec Ideal S256x1024 .f32) (r : Fin 256) (k : Fin 128) :
    k0_pay5 (F := Ideal) i Y (ix2 r k) = unit (fun e => Y (ix2 r (⟨128 + e.val, by omega⟩ : Fin 1024))) k * (k0_pay3 (F := Ideal) i) := by
  pointwise [k0_pay5]
  unfold unit
  rfl

/-- The third head. -/
theorem h2_at (i : BitVec 32) (Y : FVec Ideal S256x1024 .f32) (r : Fin 256) (k : Fin 128) :
    k0_pay6 (F := Ideal) i Y (ix2 r k) = unit (fun e => Y (ix2 r (⟨256 + e.val, by omega⟩ : Fin 1024))) k * (k0_pay3 (F := Ideal) i) := by
  pointwise [k0_pay6]
  unfold unit
  rfl

/-- The fourth head. -/
theorem h3_at (q : EReal) (Y : FVec Ideal S256x1024 .f32) (r : Fin 256) (k : Fin 128) :
    k0_pay9 (F := Ideal) q (k0_pay7 Y) (k0_pay8 Y) (ix2 r k) = unit (fun e => Y (ix2 r (⟨384 + e.val, by omega⟩ : Fin 1024))) k * q := by
  pointwise [k0_pay9, k0_pay7, k0_pay8]
  unfold unit
  rfl

/-- The fifth head. -/
theorem h4_at (q : EReal) (Y : FVec Ideal S256x1024 .f32) (r : Fin 256) (k : Fin 128) :
    k0_pay10 (F := Ideal) Y q (ix2 r k) = unit (fun e => Y (ix2 r (⟨512 + e.val, by omega⟩ : Fin 1024))) k * q := by
  pointwise [k0_pay10]
  unfold unit
  rfl

/-- The sixth head. -/
theorem h5_at (q : EReal) (Y : FVec Ideal S256x1024 .f32) (r : Fin 256) (k : Fin 128) :
    k0_pay11 (F := Ideal) Y q (ix2 r k) = unit (fun e => Y (ix2 r (⟨640 + e.val, by omega⟩ : Fin 1024))) k * q := by
  pointwise [k0_pay11]
  unfold unit
  rfl

/-- The seventh head. -/
theorem h6_at (q : EReal) (Y : FVec Ideal S256x1024 .f32) (r : Fin 256) (k : Fin 128) :
    k0_pay12 (F := Ideal) Y q (ix2 r k) = unit (fun e => Y (ix2 r (⟨768 + e.val, by omega⟩ : Fin 1024))) k * q := by
  pointwise [k0_pay12]
  unfold unit
  rfl

/-- The eighth head. -/
theorem h7_at (X : Vec Ideal S256x1024 .f32) (P N : FVec Ideal S1x1024 .f32) (I : IVec S256x1024 32) (U V W : Vec Ideal S1x1024 .f32) (q : EReal)
    (r : Fin 256) (k : Fin 128) :
    k0_pay2 (F := Ideal) X P N I U V W q (ix2 r k) = unit (fun e => k0_pay1 (F := Ideal) X P N I U V W (ix2 r (⟨896 + e.val, by omega⟩ : Fin 1024))) k * q := by
  pointwise [k0_pay2]
  unfold unit
  rfl

/-- The windows' block indices at a grid point. -/
theorem idx : ∀ t : Fin cfg0.N, win0_0.index t = ![t.val / 3, t.val % 3]
    ∧ win0_1.index t = ![t.val / 3 * 32 - 1, t.val % 3]
    ∧ win0_2.index t = ![min ((t.val / 3 + 1) * 32) 2047, t.val % 3]
    ∧ win0_3.index t = ![0, t.val % 3]
    ∧ win0_4.index t = ![t.val / 3, t.val % 3] :=
  (by decide +kernel : ∀ t : Fin grid0.N, _)

/-- The block of rows a grid point reads. -/
theorem x_at (c : Dev nD) (t : Fin cfg0.N) (r : Fin 256) (k : Fin 1024) :
    X0_0 m c t (ix2 r k) = m ((c.tc : Thread nD τ).loc main_arg0)
      (ix2 (⟨t.val / 3 * 256 + r.val, by have := t_lt t; omega⟩ : Fin 16384) (⟨t.val % 3 * 1024 + k.val, by omega⟩ : Fin 4224)) := by
  have := t_lt t
  obtain ⟨e0, e1, e2, e3, e4⟩ := idx t
  unfold X0_0 Pipeline.Window.fill
  rw [dif_pos (moved0_0 t _)]
  blk_ext [iblk, V, e0]

/-- The eight rows before it. -/
theorem p_at (c : Dev nD) (t : Fin cfg0.N) (r : Fin 8) (k : Fin 1024) :
    X0_1 m c t (ix2 r k) = m ((c.tc : Thread nD τ).loc main_arg0)
      (ix2 (⟨(t.val / 3 * 32 - 1) * 8 + r.val, by have := t_lt t; omega⟩ : Fin 16384) (⟨t.val % 3 * 1024 + k.val, by omega⟩ : Fin 4224)) := by
  have := t_lt t
  obtain ⟨e0, e1, e2, e3, e4⟩ := idx t
  unfold X0_1 Pipeline.Window.fill
  rw [dif_pos (moved0_1 t _)]
  blk_ext [iblk, V, e1]

/-- The eight rows after it. -/
theorem n_at (c : Dev nD) (t : Fin cfg0.N) (r : Fin 8) (k : Fin 1024) :
    X0_2 m c t (ix2 r k) = m ((c.tc : Thread nD τ).loc main_arg0)
      (ix2 (⟨min ((t.val / 3 + 1) * 32) 2047 * 8 + r.val, by have := t_lt t; omega⟩ : Fin 16384) (⟨t.val % 3 * 1024 + k.val, by omega⟩ : Fin 4224)) := by
  have := t_lt t
  obtain ⟨e0, e1, e2, e3, e4⟩ := idx t
  unfold X0_2 Pipeline.Window.fill
  rw [dif_pos (moved0_2 t _)]
  blk_ext [iblk, V, e2]

/-- The block of the convolution's weights. -/
theorem w_at (c : Dev nD) (t : Fin cfg0.N) (i : Fin 3) (k : Fin 1024) :
    iblk m c 3 t (ix2 i k) = m ((c.tc : Thread nD τ).loc main_arg1) (ix2 i (⟨t.val % 3 * 1024 + k.val, by omega⟩ : Fin 3072)) := by
  obtain ⟨e0, e1, e2, e3, e4⟩ := idx t
  blk_ext [iblk, V, e3]

/-- The convolved and gated block of a grid point. -/
def acts (c : Dev nD) (t : Fin cfg0.N) : FVec Ideal S256x1024 .f32 :=
  k0_pay1 (F := Ideal) (X0_0 m c t)
    (k0_pay13 (grid0.coords t) (View.ld (X0_1 m c t) (Rect.unit ![7, 0] ![1, 1024] inb_S8x1024_S1x1024_7_0)))
    (k0_pay14 (grid0.coords t) (View.ld (X0_2 m c t) (Rect.unit ![0, 0] ![1, 1024] inb_S8x1024_S1x1024_0_0)))
    (iota .tc S256x1024 32 [0] iota_S256x1024_d0_w32)
    (View.ld (iblk m c 3 t) (Rect.unit ![0, 0] ![1, 1024] inb_S3x1024_S1x1024_0_0))
    (View.ld (iblk m c 3 t) (Rect.unit ![1, 0] ![1, 1024] inb_S3x1024_S1x1024_1_0))
    (View.ld (iblk m c 3 t) (Rect.unit ![2, 0] ![1, 1024] inb_S3x1024_S1x1024_2_0))

theorem row7_at (X : Vec Ideal S8x1024 .f32) (k : Fin 1024) :
    View.ld X (Rect.unit ![7, 0] ![1, 1024] inb_S8x1024_S1x1024_7_0) (ix2 (0 : Fin 1) k) = X (ix2 (7 : Fin 8) k) := by
  pointwise

theorem row0_at (X : Vec Ideal S8x1024 .f32) (k : Fin 1024) :
    View.ld X (Rect.unit ![0, 0] ![1, 1024] inb_S8x1024_S1x1024_0_0) (ix2 (0 : Fin 1) k) = X (ix2 (0 : Fin 8) k) := by
  pointwise

theorem w0_at (X : Vec Ideal S3x1024 .f32) (k : Fin 1024) :
    View.ld X (Rect.unit ![0, 0] ![1, 1024] inb_S3x1024_S1x1024_0_0) (ix2 (0 : Fin 1) k) = X (ix2 (0 : Fin 3) k) := by
  pointwise

theorem w1_at (X : Vec Ideal S3x1024 .f32) (k : Fin 1024) :
    View.ld X (Rect.unit ![1, 0] ![1, 1024] inb_S3x1024_S1x1024_1_0) (ix2 (0 : Fin 1) k) = X (ix2 (1 : Fin 3) k) := by
  pointwise

theorem w2_at (X : Vec Ideal S3x1024 .f32) (k : Fin 1024) :
    View.ld X (Rect.unit ![2, 0] ![1, 1024] inb_S3x1024_S1x1024_2_0) (ix2 (0 : Fin 1) k) = X (ix2 (2 : Fin 3) k) := by
  pointwise

theorem mix_congr {p p' x x' n n' u u' v v' w w' : EReal} (hp : p = p') (hx : x = x') (hn : n = n') (hu : u = u') (hv : v = v') (hw : w = w') :
    mix p x n u v w = mix p' x' n' u' v' w' := by
  rw [hp, hx, hn, hu, hv, hw]

/-- It holds the reference's convolved and gated entries. -/
theorem acts_at (c : Dev nD) (t : Fin cfg0.N) (r : Fin 256) (k : Fin 1024) :
    acts m c t (ix2 r k) = Cert.GdnPrepRefIdeal.At.entry (m ((c.tc : Thread nD τ).loc main_arg0)) (m ((c.tc : Thread nD τ).loc main_arg1))
      (⟨t.val / 3 * 256 + r.val, by have := t_lt t; omega⟩ : Fin 16384) (⟨t.val % 3 * 1024 + k.val, by omega⟩ : Fin 3072) := by
  have ht := t_lt t
  have hr := r.isLt
  unfold acts Cert.GdnPrepRefIdeal.At.entry
  refine (pay1_at _ _ _ _ _ _ r k).trans (congrArg silu (mix_congr ?_ (x_at m c t r k) ?_ ((w0_at _ k).trans (w_at m c t 0 k))
    ((w1_at _ k).trans (w_at m c t 1 k)) ((w2_at _ k).trans (w_at m c t 2 k))))
  · unfold before
    by_cases h : r.val = 0
    · rw [if_pos h, prev_at]
      by_cases h' : t.val / 3 % 8 = 0
      · rw [if_pos h', if_pos (by show (t.val / 3 * 256 + r.val) % 2048 = 0; omega)]
      · rw [if_neg h', if_neg (by show ¬(t.val / 3 * 256 + r.val) % 2048 = 0; omega)]
        refine (row7_at _ k).trans ((p_at m c t 7 k).trans ?_)
        dsimp only
        blk_ext []
    · rw [if_neg h, if_neg (by show ¬(t.val / 3 * 256 + r.val) % 2048 = 0; omega)]
      refine (x_at m c t _ k).trans ?_
      dsimp only
      blk_ext []
  · unfold after
    by_cases h : r.val = 255
    · rw [dif_pos h, next_at]
      by_cases h' : t.val / 3 % 8 = 7
      · rw [if_pos h', dif_pos (by show (t.val / 3 * 256 + r.val) % 2048 = 2047; omega)]
      · rw [if_neg h', dif_neg (by show ¬(t.val / 3 * 256 + r.val) % 2048 = 2047; omega)]
        refine (row0_at _ k).trans ((n_at m c t 0 k).trans ?_)
        dsimp only
        blk_ext []
    · rw [dif_neg h, dif_neg (by show ¬(t.val / 3 * 256 + r.val) % 2048 = 2047; omega)]
      refine (x_at m c t _ k).trans ?_
      dsimp only
      blk_ext []

/-- At a point of the queries' or the keys' columns: each head divided by its norm, times the scale. -/
theorem out_A (c : Dev nD) (t : Fin cfg0.N) (h0 : ¬t.val % 3 = 2) (h1 : t.val % 3 ≤ 1) (y : S256x1024.Idx) (y0 : Fin 256) (y1 : Fin 1024)
    (hy0 : y0.val = (y 0).val) (hy1 : y1.val = (y 1).val) :
    outsAt0 m c t.val t.isLt y = unit (fun e : Fin 128 => acts m c t (ix2 y0 (⟨y1.val / 128 * 128 + e.val, by omega⟩ : Fin 1024))) ⟨y1.val % 128, by omega⟩
      * k0_pay3 (F := Ideal) (BitVec.ofNat 32 (grid0.coords t 1).val) := by
  rw [outsAt0_A m c t h0 h1]
  frame_out
  canon_tiles x h
  case piece0 =>
    obtain ⟨a, b, rfl⟩ : ∃ (a : Fin 256) (b : Fin 128), x = ix2 a b := ⟨x 0, x 1, by blk_ext []⟩
    have h0 : (y 0).val = a.val := h0
    have h1 : (y 1).val = 896 + b.val := h1
    refine (h7_at _ _ _ _ _ _ _ _ a b).trans (congrArg (fun z : EReal => z * k0_pay3 (F := Ideal) (BitVec.ofNat 32 (grid0.coords t 1).val)) (unit_congr (fun e => congrArg (acts m c t) ?_) ?_))
    · blk_ext []
    · show b.val = y1.val % 128; omega
  case piece1 =>
    obtain ⟨a, b, rfl⟩ : ∃ (a : Fin 256) (b : Fin 128), x = ix2 a b := ⟨x 0, x 1, by blk_ext []⟩
    have h0 : (y 0).val = a.val := h0
    have h1 : (y 1).val = 768 + b.val := h1
    refine (h6_at _ _ a b).trans (congrArg (fun z : EReal => z * k0_pay3 (F := Ideal) (BitVec.ofNat 32 (grid0.coords t 1).val)) (unit_congr (fun e => congrArg (acts m c t) ?_) ?_))
    · blk_ext []
    · show b.val = y1.val % 128; omega
  case piece2 =>
    obtain ⟨a, b, rfl⟩ : ∃ (a : Fin 256) (b : Fin 128), x = ix2 a b := ⟨x 0, x 1, by blk_ext []⟩
    have h0 : (y 0).val = a.val := h0
    have h1 : (y 1).val = 640 + b.val := h1
    refine (h5_at _ _ a b).trans (congrArg (fun z : EReal => z * k0_pay3 (F := Ideal) (BitVec.ofNat 32 (grid0.coords t 1).val)) (unit_congr (fun e => congrArg (acts m c t) ?_) ?_))
    · blk_ext []
    · show b.val = y1.val % 128; omega
  case piece3 =>
    obtain ⟨a, b, rfl⟩ : ∃ (a : Fin 256) (b : Fin 128), x = ix2 a b := ⟨x 0, x 1, by blk_ext []⟩
    have h0 : (y 0).val = a.val := h0
    have h1 : (y 1).val = 512 + b.val := h1
    refine (h4_at _ _ a b).trans (congrArg (fun z : EReal => z * k0_pay3 (F := Ideal) (BitVec.ofNat 32 (grid0.coords t 1).val)) (unit_congr (fun e => congrArg (acts m c t) ?_) ?_))
    · blk_ext []
    · show b.val = y1.val % 128; omega
  case piece4 =>
    obtain ⟨a, b, rfl⟩ : ∃ (a : Fin 256) (b : Fin 128), x = ix2 a b := ⟨x 0, x 1, by blk_ext []⟩
    have h0 : (y 0).val = a.val := h0
    have h1 : (y 1).val = 384 + b.val := h1
    refine (h3_at _ _ a b).trans (congrArg (fun z : EReal => z * k0_pay3 (F := Ideal) (BitVec.ofNat 32 (grid0.coords t 1).val)) (unit_congr (fun e => congrArg (acts m c t) ?_) ?_))
    · blk_ext []
    · show b.val = y1.val % 128; omega
  case piece5 =>
    obtain ⟨a, b, rfl⟩ : ∃ (a : Fin 256) (b : Fin 128), x = ix2 a b := ⟨x 0, x 1, by blk_ext []⟩
    have h0 : (y 0).val = a.val := h0
    have h1 : (y 1).val = 256 + b.val := h1
    refine (h2_at _ _ a b).trans (congrArg (fun z : EReal => z * k0_pay3 (F := Ideal) (BitVec.ofNat 32 (grid0.coords t 1).val)) (unit_congr (fun e => congrArg (acts m c t) ?_) ?_))
    · blk_ext []
    · show b.val = y1.val % 128; omega
  case piece6 =>
    obtain ⟨a, b, rfl⟩ : ∃ (a : Fin 256) (b : Fin 128), x = ix2 a b := ⟨x 0, x 1, by blk_ext []⟩
    have h0 : (y 0).val = a.val := h0
    have h1 : (y 1).val = 128 + b.val := h1
    refine (h1_at _ _ a b).trans (congrArg (fun z : EReal => z * k0_pay3 (F := Ideal) (BitVec.ofNat 32 (grid0.coords t 1).val)) (unit_congr (fun e => congrArg (acts m c t) ?_) ?_))
    · blk_ext []
    · show b.val = y1.val % 128; omega
  case piece7 =>
    obtain ⟨a, b, rfl⟩ : ∃ (a : Fin 256) (b : Fin 128), x = ix2 a b := ⟨x 0, x 1, by blk_ext []⟩
    have h0 : (y 0).val = a.val := h0
    have h1 : (y 1).val = b.val := h1
    refine (h0_at _ _ a b).trans (congrArg (fun z : EReal => z * k0_pay3 (F := Ideal) (BitVec.ofNat 32 (grid0.coords t 1).val)) (unit_congr (fun e => congrArg (acts m c t) ?_) ?_))
    · blk_ext []
    · show b.val = y1.val % 128; omega

/-- At a point of the values' columns: the convolved and gated block. -/
theorem out_B (c : Dev nD) (t : Fin cfg0.N) (h0 : t.val % 3 = 2) (h1 : ¬t.val % 3 ≤ 1) (y : S256x1024.Idx) :
    outsAt0 m c t.val t.isLt y = acts m c t y := by
  rw [outsAt0_B m c t h0 h1]
  frame_out
  rfl

/-- THE OUTPUT ARRAY after the run is the reference's term. -/
theorem final (c : Dev nD) :
    (dats m 0 c).arrAt 4 cfg0.N = Cert.GdnPrepRefIdeal.At.REF (m ((c.tc : Thread nD τ).loc main_arg0)) (m ((c.tc : Thread nD τ).loc main_arg1)) := by
  refine (dats m 0 c).arrAt_eq_of_covers 4 _ (by decide +kernel) fun t hf y => ?_
  have ht := t_lt t
  obtain ⟨e0, e1, e2, e3, e4⟩ := idx t
  obtain ⟨a, b, rfl⟩ : ∃ (a : Fin 256) (b : Fin 1024), y = ix2 a b := ⟨y 0, y 1, by blk_ext []⟩
  have hb := b.isLt
  have hemb : ((cfg0.win 4).blk t).view.emb (ix2 a b) = ix2 (⟨t.val / 3 * 256 + a.val, by omega⟩ : Fin 16384) (⟨t.val % 3 * 1024 + b.val, by omega⟩ : Fin 3072) := by
    blk_ext [e4]
  blk_simp
  rw [after0_4, hemb, Cert.GdnPrepRefIdeal.At.ref_at]
  unfold Cert.GdnPrepRefIdeal.At.out
  dsimp only
  have hu : unit (fun e : Fin 128 => acts m c t (ix2 a (⟨b.val / 128 * 128 + e.val, by omega⟩ : Fin 1024))) ⟨b.val % 128, by omega⟩
      = unit (fun e : Fin 128 => Cert.GdnPrepRefIdeal.At.entry (m ((c.tc : Thread nD τ).loc main_arg0)) (m ((c.tc : Thread nD τ).loc main_arg1))
          (⟨t.val / 3 * 256 + a.val, by omega⟩ : Fin 16384) (⟨(t.val % 3 * 1024 + b.val) / 128 * 128 + e.val, by omega⟩ : Fin 3072)) ⟨(t.val % 3 * 1024 + b.val) % 128, by omega⟩ := by
    refine unit_congr (fun e => (acts_at m c t a _).trans (congrArg (Cert.GdnPrepRefIdeal.At.entry _ _ _) (Fin.ext ?_))) ?_
    · show t.val % 3 * 1024 + (b.val / 128 * 128 + e.val) = (t.val % 3 * 1024 + b.val) / 128 * 128 + e.val
      omega
    · show b.val % 128 = (t.val % 3 * 1024 + b.val) % 128
      omega
  by_cases h2 : t.val % 3 = 2
  · rw [if_neg (by omega), if_neg (by omega)]
    exact (out_B m c t h2 (by omega) (ix2 a b)).trans (acts_at m c t a b)
  · refine (out_A m c t h2 (by omega) (ix2 a b) a b rfl rfl).trans ?_
    rw [hu]
    by_cases h3 : t.val % 3 = 0
    · rw [if_pos (by omega), scale_q t h3]
    · rw [if_neg (by omega), if_pos (by omega), scale_k t (by omega)]
      exact mul_one _

end Cert.GdnPrepIdeal.Fin

end
-- ==== Proof.GdnPrepMain.lean ====
/- What is done before mixer C's recurrence: the kernel's program and the reference's end with the same result. -/
module

public import proofs.«01_k».proof.Defs
public import proofs.«01_k».proof.Proof.GdnPrepFin

@[expose] public section

set_option maxRecDepth 16384

noncomputable section

namespace Cert.Proof

open Idealize.ShloMosaic Idealize.SL.Sem

/-- The kernel's convolved, gated and normed queries, keys and values and the reference's end with the same array. -/
theorem algebraic_gdnprep : Cert.algebraic_GdnPrepIdeal_GdnPrepRefIdeal := by
  pair_intro
  · run_from Cert.GdnPrepIdeal.Value.run_blocks m g
  · run_from Cert.GdnPrepRefIdeal.At.run m' g'
    exact (Cert.GdnPrepIdeal.Fin.final m c).symm

end Cert.Proof

end
-- ==== Proof.Soft.lean ====
/- The logistic function and the logarithm of one plus an exponential, as the rates and decays of the recurrence use them. -/
module

public import proofs.«01_k».proof.Proof.Lin

@[expose] public section

set_option maxRecDepth 16384

noncomputable section

namespace Cert.Lin

open Idealize.ShloMosaic

/-- The logistic function. -/
def logi (x : EReal) : EReal := Ideal.div 1 (1 + Ideal.exp (-x))

/-- The logarithm of one plus the exponential, written so that the exponential never grows. -/
def soft (x : EReal) : EReal := max x 0 + Ideal.log (1 + Ideal.exp (-(max x (-x))))

/-- The decay: minus the exponential of the rate, times the softened input. -/
def decay (x a d : EReal) : EReal := -(Ideal.exp a) * soft (x + d)

/-- No number differs from itself, so the guard against that case never fires. -/
theorem soft_guard (x : EReal) :
    Scalar.select (Ideal.cmp .une (x - 0) (x - 0)) (x + 0) (max x 0 + Ideal.log1p (Ideal.exp (-(max (x - 0) (-(x - 0)))))) = soft x := by
  unfold soft Ideal.log1p
  simp [Scalar.select, Ideal.cmp]

theorem decay_congr {x x' a a' d d' : EReal} (hx : x = x') (ha : a = a') (hd : d = d') : decay x a d = decay x' a' d' := by
  rw [hx, ha, hd]

theorem exp_zero : Ideal.exp 0 = 1 := by
  show ((Real.exp 0 : ℝ) : EReal) = 1
  simp

end Cert.Lin

end
-- ==== Proof.GdnBgRef.lean ====
/- The reference's rates and decays of the recurrence, read at an index, and its run. -/
module

public import proofs.«01_k».proof.Proof.Soft
public import proofs.«01_k».proof.Proof.Gen.GdnBgRefIdeal.Run

@[expose] public section

set_option maxRecDepth 16384

noncomputable section

namespace Cert.GdnBgRefIdeal.At

open Cert.GdnBgRefIdeal Cert.GdnBgRefIdeal.Gen Idealize.ShloMosaic Idealize.ShloMosaic.TcCoe Idealize.SL.Sem Cert.Lin

/-- The softened inputs, by batch, row, direction and head. -/
def soft4 (x : FVec Ideal S8x2048x2x8 .f32) : FVec Ideal S8x2048x2x8 .f32 :=
  (select (cmpf .une (subf x (broadcastInDim S8x2048x2x8 ![] bcast_S_S8x2048x2x8 (constant S_ .f32 0x00000000#32))) (subf x (broadcastInDim S8x2048x2x8 ![] bcast_S_S8x2048x2x8 (constant S_ .f32 0x00000000#32)))) (addf x (broadcastInDim S8x2048x2x8 ![] bcast_S_S8x2048x2x8 (constant S_ .f32 0x00000000#32))) (addf (maximumf x (broadcastInDim S8x2048x2x8 ![] bcast_S_S8x2048x2x8 (constant S_ .f32 0x00000000#32))) (Host.log1p (Host.exp (Host.negf (Host.absf (subf x (broadcastInDim S8x2048x2x8 ![] bcast_S_S8x2048x2x8 (constant S_ .f32 0x00000000#32)))))))))

/-- The inputs of the decays, by batch, row, direction and head. -/
def pre (a0 : FVec Ideal S16384x4224 .f32) (a2 : FVec Ideal S2x8 .f32) : FVec Ideal S8x2048x2x8 .f32 :=
  (addf (shapeCast _ (extractStridedSlice S8x2048x16 ![0, 0, 4112] (shapeCast _ a0 shapeCasts_S16384x4224_S8x2048x4224) slices_S8x2048x4224_S8x2048x16_0_0_4112) shapeCasts_S8x2048x16_S8x2048x2x8) (broadcastInDim S8x2048x2x8 ![0, 1, 2, 3] bcast_S1x1x2x8_S8x2048x2x8_0_1_2_3 (broadcastInDim S1x1x2x8 ![2, 3] bcast_S2x8_S1x1x2x8_2_3 a2)))

/-- The rates. -/
def rates (a0 : FVec Ideal S16384x4224 .f32) : FVec Ideal S16384x16 .f32 :=
  shapeCast _ (Host.divf (broadcastInDim S8x2048x2x8 ![] bcast_S_S8x2048x2x8 (constant S_ .f32 0x3F800000#32)) (addf (broadcastInDim S8x2048x2x8 ![] bcast_S_S8x2048x2x8 (constant S_ .f32 0x3F800000#32)) (Host.exp (Host.negf (shapeCast _ (extractStridedSlice S8x2048x16 ![0, 0, 4096] (shapeCast _ a0 shapeCasts_S16384x4224_S8x2048x4224) slices_S8x2048x4224_S8x2048x16_0_0_4096) shapeCasts_S8x2048x16_S8x2048x2x8))))) shapeCasts_S8x2048x2x8_S16384x16

/-- The decays. -/
def decays (a0 : FVec Ideal S16384x4224 .f32) (a1 a2 : FVec Ideal S2x8 .f32) : FVec Ideal S16384x16 .f32 :=
  shapeCast _ (mulf (broadcastInDim S8x2048x2x8 ![0, 1, 2, 3] bcast_S1x1x2x8_S8x2048x2x8_0_1_2_3 (broadcastInDim S1x1x2x8 ![2, 3] bcast_S2x8_S1x1x2x8_2_3 (Host.negf (Host.exp a1)))) (soft4 (pre a0 a2))) shapeCasts_S8x2048x2x8_S16384x16

/-- The columns behind them. -/
def rest (a0 : FVec Ideal S16384x4224 .f32) : FVec Ideal S16384x96 .f32 :=
  Host.negf (select (cmpf .une (subf (extractStridedSlice S16384x96 ![0, 4128] a0 slices_S16384x4224_S16384x96_0_4128) (broadcastInDim S16384x96 ![] bcast_S_S16384x96 (constant S_ .f32 0x00000000#32))) (subf (extractStridedSlice S16384x96 ![0, 4128] a0 slices_S16384x4224_S16384x96_0_4128) (broadcastInDim S16384x96 ![] bcast_S_S16384x96 (constant S_ .f32 0x00000000#32)))) (addf (extractStridedSlice S16384x96 ![0, 4128] a0 slices_S16384x4224_S16384x96_0_4128) (broadcastInDim S16384x96 ![] bcast_S_S16384x96 (constant S_ .f32 0x00000000#32))) (addf (maximumf (extractStridedSlice S16384x96 ![0, 4128] a0 slices_S16384x4224_S16384x96_0_4128) (broadcastInDim S16384x96 ![] bcast_S_S16384x96 (constant S_ .f32 0x00000000#32))) (Host.log1p (Host.exp (Host.negf (Host.absf (subf (extractStridedSlice S16384x96 ![0, 4128] a0 slices_S16384x4224_S16384x96_0_4128) (broadcastInDim S16384x96 ![] bcast_S_S16384x96 (constant S_ .f32 0x00000000#32)))))))))

/-- The whole reference. -/
def REF (a0 : FVec Ideal S16384x4224 .f32) (a1 a2 : FVec Ideal S2x8 .f32) : FVec Ideal S16384x128 .f32 :=
  (concatenate S16384x128 1 [⟨S16384x16, rates a0⟩, ⟨S16384x16, decays a0 a1 a2⟩, ⟨S16384x96, rest a0⟩] concatenates_S16384x16_S16384x16_S16384x96_S16384x128_d1 : (⟨S16384x128, .f32⟩ : BufTy).Contents (Elt Ideal))

theorem soft4_at (x : FVec Ideal S8x2048x2x8 .f32) (b : Fin 8) (s : Fin 2048) (d : Fin 2) (h : Fin 8) :
    soft4 x (ix4 b s d h) = soft (x (ix4 b s d h)) := by
  refine Eq.trans ?_ (soft_guard _)
  pointwise [soft4]
  rfl

theorem pre_at (a0 : FVec Ideal S16384x4224 .f32) (a2 : FVec Ideal S2x8 .f32) (b : Fin 8) (s : Fin 2048) (d : Fin 2) (h : Fin 8) :
    pre a0 a2 (ix4 b s d h) = a0 (ix2 (⟨b.val * 2048 + s.val, by omega⟩ : Fin 16384) (⟨4112 + (d.val * 8 + h.val), by omega⟩ : Fin 4224)) + a2 (ix2 d h) := by
  pointwise [pre]
  all_goals blk_ext []

theorem rates_at (a0 : FVec Ideal S16384x4224 .f32) (r : Fin 16384) (j : Fin 16) :
    rates a0 (ix2 r j) = logi (a0 (ix2 r (⟨4096 + j.val, by omega⟩ : Fin 4224))) := by
  pointwise [rates]
  unfold logi
  all_goals blk_ext []

theorem decays_at (a0 : FVec Ideal S16384x4224 .f32) (a1 a2 : FVec Ideal S2x8 .f32) (r : Fin 16384) (j : Fin 16) :
    decays a0 a1 a2 (ix2 r j) = decay (a0 (ix2 r (⟨4112 + j.val, by omega⟩ : Fin 4224)))
      (a1 (ix2 (⟨j.val / 8, by omega⟩ : Fin 2) (⟨j.val % 8, by omega⟩ : Fin 8))) (a2 (ix2 (⟨j.val / 8, by omega⟩ : Fin 2) (⟨j.val % 8, by omega⟩ : Fin 8))) := by
  pointwise [decays]
  rw [soft4_at, pre_at]
  refine congrArg (fun x => -(Ideal.exp _) * soft (x + _)) ?_
  blk_ext []

theorem rest_at (a0 : FVec Ideal S16384x4224 .f32) (r : Fin 16384) (j : Fin 96) :
    rest a0 (ix2 r j) = -(soft (a0 (ix2 r (⟨4128 + j.val, by omega⟩ : Fin 4224)))) := by
  rw [← soft_guard]
  pointwise [rest]
  rfl

/-- The reference at an index: a rate in the first sixteen columns, a decay in the next sixteen, minus a softened input behind them. -/
theorem ref_at (a0 : FVec Ideal S16384x4224 .f32) (a1 a2 : FVec Ideal S2x8 .f32) (r : Fin 16384) (j : Fin 128) :
    REF a0 a1 a2 (ix2 r j) = if j.val < 16 then logi (a0 (ix2 r (⟨4096 + j.val, by omega⟩ : Fin 4224)))
      else if j.val < 32 then decay (a0 (ix2 r (⟨4096 + j.val, by omega⟩ : Fin 4224)))
        (a1 (ix2 (⟨(j.val - 16) / 8 % 2, by omega⟩ : Fin 2) (⟨(j.val - 16) % 8, by omega⟩ : Fin 8)))
        (a2 (ix2 (⟨(j.val - 16) / 8 % 2, by omega⟩ : Fin 2) (⟨(j.val - 16) % 8, by omega⟩ : Fin 8)))
      else -(soft (a0 (ix2 r (⟨4096 + j.val, by omega⟩ : Fin 4224)))) := by
  pointwise [REF]
  (repeat' split) <;> first | (exfalso; omega) | skip
  · rw [rates_at]
  · rw [decays_at]
    refine decay_congr ?_ ?_ ?_ <;> blk_ext []
  · rw [rest_at]
    refine congrArg (fun x => -(soft x)) ?_
    blk_ext []

/-- What the reference's run leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  exact (θ_run _ _ _).mono (fun r h c => h c) (Cert.GdnBgRefIdeal.Value.run (F := Ideal) m ρ)

end Cert.GdnBgRefIdeal.At

end
-- ==== Proof.GdnBgFin.lean ====
/- The kernel's rates and decays of the recurrence: what its output array holds, index by index. -/
module

public import proofs.«01_k».proof.Proof.GdnBgRef
public import proofs.«01_k».proof.Proof.Gen.GdnBgIdeal.Value

@[expose] public section

set_option maxRecDepth 16384

noncomputable section

namespace Cert.GdnBgIdeal.Fin

open Cert.GdnBgIdeal Cert.GdnBgIdeal.Gen Idealize.ShloMosaic Idealize.ShloMosaic.TcCoe Cert.Lin

variable (m : (ℓ : Loc nD τ sig) → Buf (Elt Ideal) ℓ)

/-- Which lanes come before the sixteenth. -/
theorem lane : ∀ k : Fin 128, IntOp.cmpi .slt (BitVec.ofNat 32 k.val) 16#32 = if k.val < 16 then 1#1 else 0#1 := by decide +kernel

theorem pay1_at (X : Vec Ideal S512x128 .f32) (A B : Vec Ideal S1x128 .f32) (r : Fin 512) (k : Fin 128) :
    k0_pay1 (F := Ideal) X A B (ix2 r k) = if k.val < 16 then logi (X (ix2 r k)) else decay (X (ix2 r k)) (A (ix2 0 k)) (B (ix2 0 k)) := by
  pointwise [k0_pay1]
  rw [lane]
  unfold logi decay soft
  simp only [zero_sub]
  split <;> rfl

/-- The windows' block indices at a grid point. -/
theorem idx : ∀ t : Fin cfg0.N, win0_0.index t = ![t.val, 32]
    ∧ win0_1.index t = ![0, 0]
    ∧ win0_2.index t = ![0, 0]
    ∧ win0_3.index t = ![t.val, 0] :=
  (by decide +kernel : ∀ t : Fin grid0.N, _)

theorem t_lt (t : Fin cfg0.N) : t.val < 32 := lt_of_lt_of_eq t.isLt N_0

/-- The block a grid point reads. -/
theorem x_at (c : Dev nD) (t : Fin cfg0.N) (r : Fin 512) (k : Fin 128) :
    iblk m c 0 t (ix2 r k) = m ((c.tc : Thread nD τ).loc main_arg0)
      (ix2 (⟨t.val * 512 + r.val, by have := t_lt t; omega⟩ : Fin 16384) (⟨4096 + k.val, by omega⟩ : Fin 4224)) := by
  obtain ⟨e0, e1, e2, e3⟩ := idx t
  blk_ext [iblk, V, e0]

theorem v4_eq (c : Dev nD) : V m c main_v4 = shapeCast _ (concatenate S128 0 [⟨S16, (broadcastInDim S16 ![] bcast_S_S16 (constant S_ .f32 0x00000000#32) : FVec Ideal S16 .f32)⟩, ⟨S16, (shapeCast _ (m ((c.tc : Thread nD τ).loc main_arg1)) shapeCasts_S2x8_S16 : FVec Ideal S16 .f32)⟩,
      ⟨S96, (broadcastInDim S96 ![] bcast_S_S96 (constant S_ .f32 0x00000000#32) : FVec Ideal S96 .f32)⟩] concatenates_S16_S16_S96_S128_d0) shapeCasts_S128_S1x128 := by
  show StableHlo.after hostOps0 (fun b => m (c, b)) main_v4 = _
  unfold hostOps0
  after_results_simp
  rfl

/-- A row of sixteen numbers among zeros, made on the host from the first small argument. -/
theorem v4_at (c : Dev nD) (i : Fin 1) (k : Fin 128) :
    V m c main_v4 (ix2 i k) = if k.val < 16 then (0 : EReal) else if k.val < 32 then
      (m ((c.tc : Thread nD τ).loc main_arg1) (ix2 (⟨(k.val - 16) / 8 % 2, by omega⟩ : Fin 2) (⟨(k.val - 16) % 8, by omega⟩ : Fin 8)) : EReal) else 0 := by
  rw [v4_eq]
  pointwise
  (repeat' split) <;> first | (exfalso; omega) | rfl | blk_ext []

theorem v9_eq (c : Dev nD) : V m c main_v9 = shapeCast _ (concatenate S128 0 [⟨S16, (broadcastInDim S16 ![] bcast_S_S16 (constant S_ .f32 0x00000000#32) : FVec Ideal S16 .f32)⟩, ⟨S16, (shapeCast _ (m ((c.tc : Thread nD τ).loc main_arg2)) shapeCasts_S2x8_S16 : FVec Ideal S16 .f32)⟩,
      ⟨S96, (broadcastInDim S96 ![] bcast_S_S96 (constant S_ .f32 0x00000000#32) : FVec Ideal S96 .f32)⟩] concatenates_S16_S16_S96_S128_d0) shapeCasts_S128_S1x128 := by
  show StableHlo.after hostOps0 (fun b => m (c, b)) main_v9 = _
  unfold hostOps0
  after_results_simp
  rfl

/-- The same of the second small argument. -/
theorem v9_at (c : Dev nD) (i : Fin 1) (k : Fin 128) :
    V m c main_v9 (ix2 i k) = if k.val < 16 then (0 : EReal) else if k.val < 32 then
      (m ((c.tc : Thread nD τ).loc main_arg2) (ix2 (⟨(k.val - 16) / 8 % 2, by omega⟩ : Fin 2) (⟨(k.val - 16) % 8, by omega⟩ : Fin 8)) : EReal) else 0 := by
  rw [v9_eq]
  pointwise
  (repeat' split) <;> first | (exfalso; omega) | rfl | blk_ext []

theorem a_at (c : Dev nD) (t : Fin cfg0.N) (k : Fin 128) : iblk m c 1 t (ix2 (0 : Fin 1) k) = V m c main_v4 (ix2 (0 : Fin 1) k) := by
  obtain ⟨e0, e1, e2, e3⟩ := idx t
  blk_ext [iblk, e1]

theorem b_at (c : Dev nD) (t : Fin cfg0.N) (k : Fin 128) : iblk m c 2 t (ix2 (0 : Fin 1) k) = V m c main_v9 (ix2 (0 : Fin 1) k) := by
  obtain ⟨e0, e1, e2, e3⟩ := idx t
  blk_ext [iblk, e2]

theorem decay_zero (x : EReal) : decay x 0 0 = -(soft x) := by
  unfold decay
  rw [exp_zero, add_zero, neg_one_mul]

/-- THE OUTPUT ARRAY after the run is the reference's term. -/
theorem final (c : Dev nD) :
    (dats m 0 c).arrAt 3 cfg0.N = Cert.GdnBgRefIdeal.At.REF (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht := t_lt t
  obtain ⟨e0, e1, e2, e3⟩ := idx t
  obtain ⟨a, b, rfl⟩ : ∃ (a : Fin 512) (b : Fin 128), y = ix2 a b := ⟨y 0, y 1, by blk_ext []⟩
  have hemb : ((cfg0.win 3).blk t).view.emb (ix2 a b) = ix2 (⟨t.val * 512 + a.val, by omega⟩ : Fin 16384) b := by
    blk_ext [e3]
  blk_simp
  rw [after0_3, hemb, Cert.GdnBgRefIdeal.At.ref_at]
  frame_out
  refine (pay1_at _ _ _ a b).trans ?_
  rw [x_at, a_at, b_at, v4_at, v9_at]
  split
  · rfl
  · split
    · rfl
    · exact decay_zero _

end Cert.GdnBgIdeal.Fin

end
-- ==== Proof.GdnBgMain.lean ====
/- The rates and decays: the kernel's program and the reference's end with the same result. -/
module

public import proofs.«01_k».proof.Defs
public import proofs.«01_k».proof.Proof.GdnBgFin
public import proofs.«01_k».proof.Proof.GdnBgRef

@[expose] public section

set_option maxRecDepth 16384

noncomputable section

namespace Cert.Proof

open Idealize.ShloMosaic Idealize.SL.Sem

/-- The kernel's rates and decays and the reference's end with the same array. -/
theorem algebraic_gdnbg : Cert.algebraic_GdnBgIdeal_GdnBgRefIdeal := by
  pair_intro
  · run_from Cert.GdnBgIdeal.Value.run_blocks m g
  · run_from Cert.GdnBgRefIdeal.At.run m' g'
    exact (Cert.GdnBgIdeal.Fin.final m c).symm

end Cert.Proof

end
-- ==== Proof.Turn.lean ====
/- A head's rotary embedding: entries in pairs, each pair turned by an angle. -/
module

public import proofs.«01_k».proof.Proof.Lin

@[expose] public section

set_option maxRecDepth 16384

noncomputable section

namespace Cert.Lin

open Idealize.ShloMosaic

/-- A head turned pair by pair, given the cosines and sines of the pairs' angles. -/
def turn (y : Fin 128 → EReal) (c s : Fin 64 → EReal) (k : Fin 128) : EReal :=
  if k.val % 2 = 0 then y k * c ⟨k.val / 2, by omega⟩ - y ⟨(k.val + 1) % 128, by omega⟩ * s ⟨k.val / 2, by omega⟩
  else y ⟨k.val - 1, by omega⟩ * s ⟨k.val / 2, by omega⟩ + y k * c ⟨k.val / 2, by omega⟩

theorem turn_congr {y y' : Fin 128 → EReal} {c c' s s' : Fin 64 → EReal} {k k' : Fin 128} (hy : ∀ e, y e = y' e) (hc : ∀ e, c e = c' e)
    (hs : ∀ e, s e = s' e) (hk : k.val = k'.val) : turn y c s k = turn y' c' s' k' := by
  rw [funext hy, funext hc, funext hs, Fin.ext hk]

/-- A pair's two entries, each at its place. -/
theorem turn_pair (y : Fin 128 → EReal) (c s : Fin 64 → EReal) (k a b : Fin 128) (i : Fin 64) (p : Prop) [Decidable p]
    (ha : a.val = k.val / 2 * 2) (hb : b.val = k.val / 2 * 2 + 1) (hi : i.val = k.val / 2) (hp : p ↔ k.val % 2 = 0) :
    (if h : p then y a * c i - y b * s i else y a * s i + y b * c i) = turn y c s k := by
  have ei : i = ⟨k.val / 2, by omega⟩ := Fin.ext hi
  by_cases h : p
  · have h' := hp.1 h
    have ea : a = k := Fin.ext (by omega)
    have eb : b = ⟨(k.val + 1) % 128, by omega⟩ := Fin.ext (by show b.val = (k.val + 1) % 128; omega)
    rw [dif_pos h, turn, if_pos h', ea, eb, ← ei]
  · have h' : ¬ k.val % 2 = 0 := fun e => h (hp.2 e)
    have ea : a = ⟨k.val - 1, by omega⟩ := Fin.ext (by show a.val = k.val - 1; omega)
    have eb : b = k := Fin.ext (by omega)
    rw [dif_neg h, turn, if_neg h', ea, eb, ← ei]

/-- The same with whole rows of cosines and sines, and the neighbour in the pair taken from two shifted copies of the head. -/
def shifted (y c s : Fin 128 → EReal) (k : Fin 128) : EReal :=
  y k * c k + Scalar.select (IntOp.cmpi .eq (IntOp.andi (BitVec.ofNat 32 k.val) 1#32) 0#32)
    (y ⟨(k.val + 128 - 127) % 128, by omega⟩) (y ⟨(k.val + 128 - 1) % 128, by omega⟩) * s k

theorem shifted_congr {y y' c c' s s' : Fin 128 → EReal} {k k' : Fin 128} (hy : ∀ e, y e = y' e) (hc : ∀ e, c e = c' e)
    (hs : ∀ e, s e = s' e) (hk : k.val = k'.val) : shifted y c s k = shifted y' c' s' k' := by
  rw [funext hy, funext hc, funext hs, Fin.ext hk]

/-- The word of minus one. -/
theorem minus_one : Ideal.ofBits .f32 0xBF800000#32 = (-1 : EReal) := by
  rw [show (-1 : EReal) = ((-(1 : ℝ)) : EReal) from rfl]
  simp [Ideal.ofBits, Ideal.ieee, -EReal.coe_mul, -EReal.coe_neg]
  norm_num

/-- Which lanes are even. -/
theorem even_lane : ∀ k : Fin 128, IntOp.cmpi .eq (IntOp.andi (BitVec.ofNat 32 k.val) 1#32) 0#32 = if k.val % 2 = 0 then 1#1 else 0#1 := by
  decide +kernel

/-- The two agree when the sine rows carry the sign of the pair's first or second entry. -/
theorem shifted_turn (y c s : Fin 128 → EReal) (C S : Fin 64 → EReal) (k : Fin 128) (hc : c k = C ⟨k.val / 2, by omega⟩)
    (hs : s k = S ⟨k.val / 2, by omega⟩ * (if k.val % 2 = 0 then -1 else 1)) : shifted y c s k = turn y C S k := by
  unfold shifted turn
  rw [even_lane, hc, hs]
  split
  · have e : (⟨(k.val + 128 - 127) % 128, by omega⟩ : Fin 128) = ⟨(k.val + 1) % 128, by omega⟩ := Fin.ext (by show (k.val + 128 - 127) % 128 = (k.val + 1) % 128; omega)
    rw [e, mul_neg_one, mul_neg, sub_eq_add_neg]
    rfl
  · have e : (⟨(k.val + 128 - 1) % 128, by omega⟩ : Fin 128) = ⟨k.val - 1, by omega⟩ := Fin.ext (by show (k.val + 128 - 1) % 128 = k.val - 1; omega)
    rw [e, mul_one, add_comm]
    rfl

end Cert.Lin

end
-- ==== Proof.QkSRef.lean ====
/- The reference's normed and turned queries and keys of the denoising step, read at an index. -/
module

public import proofs.«01_k».proof.Proof.Turn
public import proofs.«01_k».proof.Proof.Gen.QkSRefIdeal.Run

@[expose] public section

set_option maxRecDepth 16384

noncomputable section

namespace Cert.QkSRefIdeal.At

open Cert.QkSRefIdeal Cert.QkSRefIdeal.Gen Idealize.ShloMosaic Idealize.ShloMosaic.TcCoe Idealize.SL.Sem Cert.Lin

/-- The angles: by position and pair, the row's in the first half and the column's in the second. -/
def ang : FVec Ideal S2048x64 .f32 :=
  (concatenate S2048x64 1 [⟨S2048x32, (mulf (broadcastInDim S2048x32 ![0, 1] bcast_S2048x1_S2048x32_0_1 (broadcastInDim S2048x1 ![0] bcast_S2048_S2048x1_0 (shapeCast _ (broadcastInDim S32x64 ![0] bcast_S32_S32x64_0 (sitofp .f32 (iotaInDim S32 32 0))) shapeCasts_S32x64_S2048))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))⟩, ⟨S2048x32, (mulf (broadcastInDim S2048x32 ![0, 1] bcast_S2048x1_S2048x32_0_1 (broadcastInDim S2048x1 ![0] bcast_S2048_S2048x1_0 (shapeCast _ (broadcastInDim S32x64 ![0, 1] bcast_S1x64_S32x64_0_1 (shapeCast _ (sitofp .f32 (iotaInDim S64 32 0)) shapeCasts_S64_S1x64)) shapeCasts_S32x64_S2048))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))⟩] concatenates_S2048x32_S2048x32_S2048x64_d1)

/-- The normed queries by head. -/
def nq (a0 : FVec Ideal S16384x1536 .f32) (a1 : FVec Ideal S128 .f32) : FVec Ideal S8x2048x8x128 .f32 :=
  (mulf (mulf (shapeCast _ (extractStridedSlice S16384x1024 ![0, 0] a0 slices_S16384x1536_S16384x1024_0_0) shapeCasts_S16384x1024_S8x2048x8x128) (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf (shapeCast _ (extractStridedSlice S16384x1024 ![0, 0] a0 slices_S16384x1536_S16384x1024_0_0) shapeCasts_S16384x1024_S8x2048x8x128) (shapeCast _ (extractStridedSlice S16384x1024 ![0, 0] a0 slices_S16384x1536_S16384x1024_0_0) shapeCasts_S16384x1024_S8x2048x8x128)) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x358637BD#32)))))) (broadcastInDim S8x2048x8x128 ![0, 1, 2, 3] bcast_S1x1x1x128_S8x2048x8x128_0_1_2_3 (broadcastInDim S1x1x1x128 ![3] bcast_S128_S1x1x1x128_3 a1)))

/-- The normed keys by head. -/
def nk (a0 : FVec Ideal S16384x1536 .f32) (a2 : FVec Ideal S128 .f32) : FVec Ideal S8x2048x2x128 .f32 :=
  (mulf (mulf (shapeCast _ (extractStridedSlice S16384x256 ![0, 1024] a0 slices_S16384x1536_S16384x256_0_1024) shapeCasts_S16384x256_S8x2048x2x128) (broadcastInDim S8x2048x2x128 ![0, 1, 2, 3] bcast_S8x2048x2x1_S8x2048x2x128_0_1_2_3 (Host.rsqrt (addf (Host.divf (broadcastInDim S8x2048x2x1 ![0, 1, 2] bcast_S8x2048x2_S8x2048x2x1_0_1_2 (Host.reduceAdd (mulf (shapeCast _ (extractStridedSlice S16384x256 ![0, 1024] a0 slices_S16384x1536_S16384x256_0_1024) shapeCasts_S16384x256_S8x2048x2x128) (shapeCast _ (extractStridedSlice S16384x256 ![0, 1024] a0 slices_S16384x1536_S16384x256_0_1024) shapeCasts_S16384x256_S8x2048x2x128)) (constant S_ .f32 0x00000000#32) reducesTo_S8x2048x2x128_S8x2048x2_d3 h_S_)) (broadcastInDim S8x2048x2x1 ![] bcast_S_S8x2048x2x1 (constant S_ .f32 0x43000000#32))) (broadcastInDim S8x2048x2x1 ![] bcast_S_S8x2048x2x1 (constant S_ .f32 0x358637BD#32)))))) (broadcastInDim S8x2048x2x128 ![0, 1, 2, 3] bcast_S1x1x1x128_S8x2048x2x128_0_1_2_3 (broadcastInDim S1x1x1x128 ![3] bcast_S128_S1x1x1x128_3 a2)))

/-- The queries turned by the angles of their positions. -/
def turnq (Y : FVec Ideal S8x2048x8x128 .f32) (CO SI : FVec Ideal S2048x64 .f32) : FVec Ideal S16384x1024 .f32 :=
  (shapeCast _ (shapeCast _ (concatenate S8x2048x8x64x2 4 [⟨S8x2048x8x64x1, (broadcastInDim S8x2048x8x64x1 ![0, 1, 2, 3] bcast_S8x2048x8x64_S8x2048x8x64x1_0_1_2_3 (subf (mulf (shapeCast _ (extractStridedSlice S8x2048x8x64x1 ![0, 0, 0, 0, 0] (shapeCast _ Y shapeCasts_S8x2048x8x128_S8x2048x8x64x2) slices_S8x2048x8x64x2_S8x2048x8x64x1_0_0_0_0_0) shapeCasts_S8x2048x8x64x1_S8x2048x8x64) (broadcastInDim S8x2048x8x64 ![0, 1, 2, 3] bcast_S1x2048x1x64_S8x2048x8x64_0_1_2_3 (broadcastInDim S1x2048x1x64 ![1, 3] bcast_S2048x64_S1x2048x1x64_1_3 CO))) (mulf (shapeCast _ (extractStridedSlice S8x2048x8x64x1 ![0, 0, 0, 0, 1] (shapeCast _ Y shapeCasts_S8x2048x8x128_S8x2048x8x64x2) slices_S8x2048x8x64x2_S8x2048x8x64x1_0_0_0_0_1) shapeCasts_S8x2048x8x64x1_S8x2048x8x64) (broadcastInDim S8x2048x8x64 ![0, 1, 2, 3] bcast_S1x2048x1x64_S8x2048x8x64_0_1_2_3 (broadcastInDim S1x2048x1x64 ![1, 3] bcast_S2048x64_S1x2048x1x64_1_3 SI)))))⟩, ⟨S8x2048x8x64x1, (broadcastInDim S8x2048x8x64x1 ![0, 1, 2, 3] bcast_S8x2048x8x64_S8x2048x8x64x1_0_1_2_3 (addf (mulf (shapeCast _ (extractStridedSlice S8x2048x8x64x1 ![0, 0, 0, 0, 0] (shapeCast _ Y shapeCasts_S8x2048x8x128_S8x2048x8x64x2) slices_S8x2048x8x64x2_S8x2048x8x64x1_0_0_0_0_0) shapeCasts_S8x2048x8x64x1_S8x2048x8x64) (broadcastInDim S8x2048x8x64 ![0, 1, 2, 3] bcast_S1x2048x1x64_S8x2048x8x64_0_1_2_3 (broadcastInDim S1x2048x1x64 ![1, 3] bcast_S2048x64_S1x2048x1x64_1_3 SI))) (mulf (shapeCast _ (extractStridedSlice S8x2048x8x64x1 ![0, 0, 0, 0, 1] (shapeCast _ Y shapeCasts_S8x2048x8x128_S8x2048x8x64x2) slices_S8x2048x8x64x2_S8x2048x8x64x1_0_0_0_0_1) shapeCasts_S8x2048x8x64x1_S8x2048x8x64) (broadcastInDim S8x2048x8x64 ![0, 1, 2, 3] bcast_S1x2048x1x64_S8x2048x8x64_0_1_2_3 (broadcastInDim S1x2048x1x64 ![1, 3] bcast_S2048x64_S1x2048x1x64_1_3 CO)))))⟩] concatenates_S8x2048x8x64x1_S8x2048x8x64x1_S8x2048x8x64x2_d4) shapeCasts_S8x2048x8x64x2_S8x2048x8x128) shapeCasts_S8x2048x8x128_S16384x1024)

/-- The keys turned by the angles of their positions. -/
def turnk (Z : FVec Ideal S8x2048x2x128 .f32) (CO SI : FVec Ideal S2048x64 .f32) : FVec Ideal S16384x256 .f32 :=
  (shapeCast _ (shapeCast _ (concatenate S8x2048x2x64x2 4 [⟨S8x2048x2x64x1, (broadcastInDim S8x2048x2x64x1 ![0, 1, 2, 3] bcast_S8x2048x2x64_S8x2048x2x64x1_0_1_2_3 (subf (mulf (shapeCast _ (extractStridedSlice S8x2048x2x64x1 ![0, 0, 0, 0, 0] (shapeCast _ Z shapeCasts_S8x2048x2x128_S8x2048x2x64x2) slices_S8x2048x2x64x2_S8x2048x2x64x1_0_0_0_0_0) shapeCasts_S8x2048x2x64x1_S8x2048x2x64) (broadcastInDim S8x2048x2x64 ![0, 1, 2, 3] bcast_S1x2048x1x64_S8x2048x2x64_0_1_2_3 (broadcastInDim S1x2048x1x64 ![1, 3] bcast_S2048x64_S1x2048x1x64_1_3 CO))) (mulf (shapeCast _ (extractStridedSlice S8x2048x2x64x1 ![0, 0, 0, 0, 1] (shapeCast _ Z shapeCasts_S8x2048x2x128_S8x2048x2x64x2) slices_S8x2048x2x64x2_S8x2048x2x64x1_0_0_0_0_1) shapeCasts_S8x2048x2x64x1_S8x2048x2x64) (broadcastInDim S8x2048x2x64 ![0, 1, 2, 3] bcast_S1x2048x1x64_S8x2048x2x64_0_1_2_3 (broadcastInDim S1x2048x1x64 ![1, 3] bcast_S2048x64_S1x2048x1x64_1_3 SI)))))⟩, ⟨S8x2048x2x64x1, (broadcastInDim S8x2048x2x64x1 ![0, 1, 2, 3] bcast_S8x2048x2x64_S8x2048x2x64x1_0_1_2_3 (addf (mulf (shapeCast _ (extractStridedSlice S8x2048x2x64x1 ![0, 0, 0, 0, 0] (shapeCast _ Z shapeCasts_S8x2048x2x128_S8x2048x2x64x2) slices_S8x2048x2x64x2_S8x2048x2x64x1_0_0_0_0_0) shapeCasts_S8x2048x2x64x1_S8x2048x2x64) (broadcastInDim S8x2048x2x64 ![0, 1, 2, 3] bcast_S1x2048x1x64_S8x2048x2x64_0_1_2_3 (broadcastInDim S1x2048x1x64 ![1, 3] bcast_S2048x64_S1x2048x1x64_1_3 SI))) (mulf (shapeCast _ (extractStridedSlice S8x2048x2x64x1 ![0, 0, 0, 0, 1] (shapeCast _ Z shapeCasts_S8x2048x2x128_S8x2048x2x64x2) slices_S8x2048x2x64x2_S8x2048x2x64x1_0_0_0_0_1) shapeCasts_S8x2048x2x64x1_S8x2048x2x64) (broadcastInDim S8x2048x2x64 ![0, 1, 2, 3] bcast_S1x2048x1x64_S8x2048x2x64_0_1_2_3 (broadcastInDim S1x2048x1x64 ![1, 3] bcast_S2048x64_S1x2048x1x64_1_3 CO)))))⟩] concatenates_S8x2048x2x64x1_S8x2048x2x64x1_S8x2048x2x64x2_d4) shapeCasts_S8x2048x2x64x2_S8x2048x2x128) shapeCasts_S8x2048x2x128_S16384x256)

/-- The whole reference. -/
def REF (a0 : FVec Ideal S16384x1536 .f32) (a1 a2 : FVec Ideal S128 .f32) : FVec Ideal S16384x1280 .f32 :=
  concatenate S16384x1280 1 [⟨S16384x1024, (turnq (nq a0 a1) (Host.cos ang) (Host.sin ang))⟩, ⟨S16384x256, (turnk (nk a0 a2) (Host.cos ang) (Host.sin ang))⟩] concatenates_S16384x1024_S16384x256_S16384x1280_d1

theorem nq_at (a0 : FVec Ideal S16384x1536 .f32) (a1 : FVec Ideal S128 .f32) (b : Fin 8) (s : Fin 2048) (h : Fin 8) (k : Fin 128) :
    nq a0 a1 (ix4 b s h k) = rmsh (fun e => a0 (ix2 (⟨b.val * 2048 + s.val, by omega⟩ : Fin 16384) (⟨h.val * 128 + e.val, by omega⟩ : Fin 1536))) (fun e => a1 (ix1 e)) k := by
  pointwise [nq]
  simp only [rmsh]

theorem nk_at (a0 : FVec Ideal S16384x1536 .f32) (a2 : FVec Ideal S128 .f32) (b : Fin 8) (s : Fin 2048) (h : Fin 2) (k : Fin 128) :
    nk a0 a2 (ix4 b s h k) = rmsh (fun e => a0 (ix2 (⟨b.val * 2048 + s.val, by omega⟩ : Fin 16384) (⟨1024 + (h.val * 128 + e.val), by omega⟩ : Fin 1536))) (fun e => a2 (ix1 e)) k := by
  pointwise [nk]
  simp only [rmsh]

theorem turnq_at (Y : FVec Ideal S8x2048x8x128 .f32) (CO SI : FVec Ideal S2048x64 .f32) (r : Fin 16384) (j : Fin 1024) :
    turnq Y CO SI (ix2 r j) = turn (fun e => Y (ix4 (⟨r.val / 2048, by omega⟩ : Fin 8) (⟨r.val % 2048, by omega⟩ : Fin 2048) (⟨j.val / 128, by omega⟩ : Fin 8) e))
      (fun i => CO (ix2 (⟨r.val % 2048, by omega⟩ : Fin 2048) i)) (fun i => SI (ix2 (⟨r.val % 2048, by omega⟩ : Fin 2048) i)) ⟨j.val % 128, by omega⟩ := by
  pointwise [turnq]
  exact turn_pair (fun e => Y (ix4 (⟨r.val / 2048, by omega⟩ : Fin 8) (⟨r.val % 2048, by omega⟩ : Fin 2048) (⟨j.val / 128, by omega⟩ : Fin 8) e))
    (fun i => CO (ix2 (⟨r.val % 2048, by omega⟩ : Fin 2048) i)) (fun i => SI (ix2 (⟨r.val % 2048, by omega⟩ : Fin 2048) i)) ⟨j.val % 128, by omega⟩
    ⟨j.val / 2 % 64 * 2, by omega⟩ ⟨j.val / 2 % 64 * 2 + 1, by omega⟩ ⟨j.val / 2 % 64, by omega⟩ (j.val % 2 < 1)
    (by show j.val / 2 % 64 * 2 = j.val % 128 / 2 * 2; omega) (by show j.val / 2 % 64 * 2 + 1 = j.val % 128 / 2 * 2 + 1; omega)
    (by show j.val / 2 % 64 = j.val % 128 / 2; omega) (by show j.val % 2 < 1 ↔ j.val % 128 % 2 = 0; omega)

theorem turnk_at (Y : FVec Ideal S8x2048x2x128 .f32) (CO SI : FVec Ideal S2048x64 .f32) (r : Fin 16384) (j : Fin 256) :
    turnk Y CO SI (ix2 r j) = turn (fun e => Y (ix4 (⟨r.val / 2048, by omega⟩ : Fin 8) (⟨r.val % 2048, by omega⟩ : Fin 2048) (⟨j.val / 128, by omega⟩ : Fin 2) e))
      (fun i => CO (ix2 (⟨r.val % 2048, by omega⟩ : Fin 2048) i)) (fun i => SI (ix2 (⟨r.val % 2048, by omega⟩ : Fin 2048) i)) ⟨j.val % 128, by omega⟩ := by
  pointwise [turnk]
  exact turn_pair (fun e => Y (ix4 (⟨r.val / 2048, by omega⟩ : Fin 8) (⟨r.val % 2048, by omega⟩ : Fin 2048) (⟨j.val / 128, by omega⟩ : Fin 2) e))
    (fun i => CO (ix2 (⟨r.val % 2048, by omega⟩ : Fin 2048) i)) (fun i => SI (ix2 (⟨r.val % 2048, by omega⟩ : Fin 2048) i)) ⟨j.val % 128, by omega⟩
    ⟨j.val / 2 % 64 * 2, by omega⟩ ⟨j.val / 2 % 64 * 2 + 1, by omega⟩ ⟨j.val / 2 % 64, by omega⟩ (j.val % 2 < 1)
    (by show j.val / 2 % 64 * 2 = j.val % 128 / 2 * 2; omega) (by show j.val / 2 % 64 * 2 + 1 = j.val % 128 / 2 * 2 + 1; omega)
    (by show j.val / 2 % 64 = j.val % 128 / 2; omega) (by show j.val % 2 < 1 ↔ j.val % 128 % 2 = 0; omega)

/-- The reference at an index. -/
theorem ref_at (a0 : FVec Ideal S16384x1536 .f32) (a1 a2 : FVec Ideal S128 .f32) (r : Fin 16384) (j : Fin 1280) :
    REF a0 a1 a2 (ix2 r j) = turn (fun k => rmsh (fun e => a0 (ix2 r (⟨j.val / 128 * 128 + e.val, by omega⟩ : Fin 1536)))
        (fun e => if j.val < 1024 then a1 (ix1 e) else a2 (ix1 e)) k)
      (fun i => Host.cos ang (ix2 (⟨r.val % 2048, by omega⟩ : Fin 2048) i)) (fun i => Host.sin ang (ix2 (⟨r.val % 2048, by omega⟩ : Fin 2048) i)) ⟨j.val % 128, by omega⟩ := by
  have hr : (⟨r.val / 2048 * 2048 + r.val % 2048, by omega⟩ : Fin 16384) = r := Fin.ext (by show r.val / 2048 * 2048 + r.val % 2048 = r.val; omega)
  have e0 : REF a0 a1 a2 (ix2 r j) = if h : j.val < 1024 then turnq (nq a0 a1) (Host.cos ang) (Host.sin ang) (ix2 r ⟨j.val, h⟩)
      else turnk (nk a0 a2) (Host.cos ang) (Host.sin ang) (ix2 r ⟨j.val - 1024, by omega⟩) := by
    pointwise [REF]
  rw [e0]
  split
  · rename_i h
    refine (turnq_at _ _ _ r _).trans (turn_congr (fun k => (nq_at _ _ _ _ _ k).trans ?_) (fun _ => rfl) (fun _ => rfl) rfl)
    simp only [h, if_true, hr]
  · rename_i h
    refine (turnk_at _ _ _ r _).trans (turn_congr (fun k => (nk_at _ _ _ _ _ k).trans ?_) (fun _ => rfl) (fun _ => rfl) ?_)
    · simp only [h, if_false, hr]
      have he : ∀ e : Fin 128, (⟨1024 + ((j.val - 1024) / 128 * 128 + e.val), by omega⟩ : Fin 1536) = ⟨j.val / 128 * 128 + e.val, by omega⟩ :=
        fun e => Fin.ext (by show 1024 + ((j.val - 1024) / 128 * 128 + e.val) = j.val / 128 * 128 + e.val; omega)
      simp only [he]
    · show (j.val - 1024) % 128 = j.val % 128
      omega

/-- What the reference's run leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v100) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  exact (θ_run _ _ _).mono (fun r h c => h c) (Cert.QkSRefIdeal.Value.run (F := Ideal) m ρ)

end Cert.QkSRefIdeal.At

end
-- ==== Proof.QkSFin.lean ====
/- The kernel's normed and turned queries and keys of the denoising step: what its output array holds, index by index. -/
module

public import proofs.«01_k».proof.Proof.QkSRef
public import proofs.«01_k».proof.Proof.Gen.QkSIdeal.Value

@[expose] public section

set_option maxRecDepth 16384

noncomputable section

namespace Cert.QkSIdeal.Fin

open Cert.QkSIdeal Cert.QkSIdeal.Gen Idealize.ShloMosaic Idealize.ShloMosaic.TcCoe Cert.Lin

variable (m : (ℓ : Loc nD τ sig) → Buf (Elt Ideal) ℓ)

/-- The first head. -/
theorem h0_at (X : Vec Ideal S256x128 .f32) (G : Vec Ideal S1x128 .f32) (C S : Vec Ideal S256x128 .f32) (r : Fin 256) (k : Fin 128) :
    k0_pay2 (F := Ideal) X G C S (ix2 r k) = shifted (rmsh (fun e => X (ix2 r e)) (fun e => G (ix2 0 e))) (fun e => C (ix2 r e)) (fun e => S (ix2 r e)) k := by
  pointwise [k0_pay2]
  rfl

/-- The second head. -/
theorem h1_at (X : Vec Ideal S256x128 .f32) (G : Vec Ideal S1x128 .f32) (C S : Vec Ideal S256x128 .f32) (r : Fin 256) (k : Fin 128) :
    k0_pay4 (F := Ideal) X (k0_pay3 X) G C S (ix2 r k) = shifted (rmsh (fun e => X (ix2 r e)) (fun e => G (ix2 0 e))) (fun e => C (ix2 r e)) (fun e => S (ix2 r e)) k := by
  pointwise [k0_pay4, k0_pay3]
  rfl

/-- The third head. -/
theorem h2_at (X : Vec Ideal S256x128 .f32) (G : Vec Ideal S1x128 .f32) (C S : Vec Ideal S256x128 .f32) (r : Fin 256) (k : Fin 128) :
    k0_pay7 (F := Ideal) (k0_pay5 X) (k0_pay6 G) C S (ix2 r k) = shifted (rmsh (fun e => X (ix2 r e)) (fun e => G (ix2 0 e))) (fun e => C (ix2 r e)) (fun e => S (ix2 r e)) k := by
  pointwise [k0_pay7, k0_pay5, k0_pay6]
  rfl

/-- The fourth head. -/
theorem h3_at (X : Vec Ideal S256x128 .f32) (G : Vec Ideal S1x128 .f32) (C S : Vec Ideal S256x128 .f32) (r : Fin 256) (k : Fin 128) :
    k0_pay11 (F := Ideal) (k0_pay8 X G) (k0_pay9 C) (k0_pay10 S) (iota .tc S256x128 32 [1] iota_S256x128_d1_w32) 1#32 (ix2 r k) = shifted (rmsh (fun e => X (ix2 r e)) (fun e => G (ix2 0 e))) (fun e => C (ix2 r e)) (fun e => S (ix2 r e)) k := by
  pointwise [k0_pay11, k0_pay8, k0_pay9, k0_pay10]
  rfl

/-- The fifth head. -/
theorem h4_at (X : Vec Ideal S256x128 .f32) (G : Vec Ideal S1x128 .f32) (C S : Vec Ideal S256x128 .f32) (r : Fin 256) (k : Fin 128) :
    k0_pay16 (F := Ideal) (k0_pay13 S) (k0_pay14 X G) (k0_pay15 X G C) (ix2 r k) = shifted (rmsh (fun e => X (ix2 r e)) (fun e => G (ix2 0 e))) (fun e => C (ix2 r e)) (fun e => S (ix2 r e)) k := by
  pointwise [k0_pay16, k0_pay13, k0_pay14, k0_pay15, k0_pay12]
  rfl

/-- The sixth head. -/
theorem h5_at (X : Vec Ideal S256x128 .f32) (G : Vec Ideal S1x128 .f32) (C S : Vec Ideal S256x128 .f32) (r : Fin 256) (k : Fin 128) :
    k0_pay17 (F := Ideal) X G C S (ix2 r k) = shifted (rmsh (fun e => X (ix2 r e)) (fun e => G (ix2 0 e))) (fun e => C (ix2 r e)) (fun e => S (ix2 r e)) k := by
  pointwise [k0_pay17]
  rfl

/-- The seventh head. -/
theorem h6_at (X : Vec Ideal S256x128 .f32) (G : Vec Ideal S1x128 .f32) (C S : Vec Ideal S256x128 .f32) (r : Fin 256) (k : Fin 128) :
    k0_pay19 (F := Ideal) X (k0_pay18 X) G C S (ix2 r k) = shifted (rmsh (fun e => X (ix2 r e)) (fun e => G (ix2 0 e))) (fun e => C (ix2 r e)) (fun e => S (ix2 r e)) k := by
  pointwise [k0_pay19, k0_pay18]
  rfl

/-- The eighth head. -/
theorem h7_at (X : Vec Ideal S256x128 .f32) (G : Vec Ideal S1x128 .f32) (C S : Vec Ideal S256x128 .f32) (r : Fin 256) (k : Fin 128) :
    k0_pay21 (F := Ideal) (k0_pay20 X) G C S (ix2 r k) = shifted (rmsh (fun e => X (ix2 r e)) (fun e => G (ix2 0 e))) (fun e => C (ix2 r e)) (fun e => S (ix2 r e)) k := by
  pointwise [k0_pay21, k0_pay20]
  rfl

/-- The ninth head. -/
theorem h8_at (X : Vec Ideal S256x128 .f32) (G : Vec Ideal S1x128 .f32) (C S : Vec Ideal S256x128 .f32) (r : Fin 256) (k : Fin 128) :
    k0_pay24 (F := Ideal) (k0_pay22 X G) (k0_pay23 C) S (ix2 r k) = shifted (rmsh (fun e => X (ix2 r e)) (fun e => G (ix2 0 e))) (fun e => C (ix2 r e)) (fun e => S (ix2 r e)) k := by
  pointwise [k0_pay24, k0_pay22, k0_pay23]
  rfl

/-- The tenth head. -/
theorem h9_at (X : Vec Ideal S256x128 .f32) (G : Vec Ideal S1x128 .f32) (C S : Vec Ideal S256x128 .f32) (r : Fin 256) (k : Fin 128) :
    k0_pay1 (F := Ideal) (k0_pay25 X G) (k0_pay26 C) (k0_pay27 S) k0_pay28 127#32 (ix2 r k) = shifted (rmsh (fun e => X (ix2 r e)) (fun e => G (ix2 0 e))) (fun e => C (ix2 r e)) (fun e => S (ix2 r e)) k := by
  pointwise [k0_pay1, k0_pay25, k0_pay26, k0_pay27, k0_pay28]
  rfl

theorem rmsh_congr {x x' g g' : Fin 128 → EReal} {k k' : Fin 128} (hx : ∀ e, x e = x' e) (hg : ∀ e, g e = g' e) (hk : k.val = k'.val) :
    rmsh x g k = rmsh x' g' k' := by
  rw [funext hx, funext hg, Fin.ext hk]

/-- The windows' block indices at a grid point. -/
theorem idx : ∀ t : Fin cfg0.N, win0_0.index t = ![t.val, 0]
    ∧ win0_1.index t = ![0, 0]
    ∧ win0_2.index t = ![t.val % 8, 0]
    ∧ win0_3.index t = ![t.val % 8, 0]
    ∧ win0_4.index t = ![t.val, 0] :=
  (by decide +kernel : ∀ t : Fin grid0.N, _)

theorem t_lt (t : Fin cfg0.N) : t.val < 64 := lt_of_lt_of_eq t.isLt N_0

/-- The block of rows a grid point reads. -/
theorem x_at (c : Dev nD) (t : Fin cfg0.N) (r : Fin 256) (k : Fin 1280) :
    X0_0 m c t (ix2 r k) = m ((c.tc : Thread nD τ).loc main_arg0)
      (ix2 (⟨t.val * 256 + r.val, by have := t_lt t; omega⟩ : Fin 16384) (⟨k.val, by omega⟩ : Fin 1536)) := by
  have := t_lt t
  obtain ⟨e0, e1, e2, e3, e4⟩ := idx t
  unfold X0_0 Pipeline.Window.fill
  rw [dif_pos (moved0_0 t _)]
  blk_ext [iblk, V, e0]

/-- The gains of all heads, made on the host. -/
theorem v43_at (c : Dev nD) (i : Fin 1) (k : Fin 1280) :
    V m c main_v43 (ix2 i k) = if k.val < 1024 then m ((c.tc : Thread nD τ).loc main_arg1) (ix1 ⟨k.val % 128, by omega⟩)
      else m ((c.tc : Thread nD τ).loc main_arg2) (ix1 ⟨k.val % 128, by omega⟩) := by
  entry_read
  pointwise
  (repeat' split) <;> first | (exfalso; omega) | blk_ext []

/-- The gains a grid point reads. -/
theorem g_at (c : Dev nD) (t : Fin cfg0.N) (k : Fin 1280) :
    iblk m c 1 t (ix2 (0 : Fin 1) k) = if k.val < 1024 then m ((c.tc : Thread nD τ).loc main_arg1) (ix1 ⟨k.val % 128, by omega⟩)
      else m ((c.tc : Thread nD τ).loc main_arg2) (ix1 ⟨k.val % 128, by omega⟩) := by
  obtain ⟨e0, e1, e2, e3, e4⟩ := idx t
  have h : iblk m c 1 t (ix2 (0 : Fin 1) k) = V m c main_v43 (ix2 (0 : Fin 1) k) := by
    blk_ext [iblk, e1]
  exact h.trans (v43_at m c _ k)

/-- Each entry of an angle table twice, side by side. -/
def twice (A : FVec Ideal S2048x64 .f32) : FVec Ideal S2048x128 .f32 :=
  shapeCast _ (broadcastInDim S2048x64x2 ![0, 1] bcast_S2048x64_S2048x64x2_0_1 A) shapeCasts_S2048x64x2_S2048x128

theorem twice_at (A : FVec Ideal S2048x64 .f32) (s : Fin 2048) (k : Fin 128) : twice A (ix2 s k) = A (ix2 s (⟨k.val / 2, by omega⟩ : Fin 64)) := by
  pointwise [twice]

/-- The signs minus one and one in turn. -/
def signs : FVec Ideal S2048x128 .f32 :=
  broadcastInDim S2048x128 ![0, 1] bcast_S1x128_S2048x128_0_1 (broadcastInDim S1x128 ![1] bcast_S128_S1x128_1 (shapeCast _ (broadcastInDim S64x2 ![0, 1] bcast_S1x2_S64x2_0_1
    (shapeCast _ (fun i => FloatOps.ofBits .f32 (lit0 (S2.rowMajor i)) : FVec Ideal S2 .f32) shapeCasts_S2_S1x2)) shapeCasts_S64x2_S128))

theorem signs_at (s : Fin 2048) (k : Fin 128) : signs (ix2 s k) = if k.val % 2 = 0 then (-1 : EReal) else 1 := by
  pointwise [signs]
  rcases Nat.mod_two_eq_zero_or_one k.val with h | h
  · have e : (⟨k.val % 2, by omega⟩ : Fin 2) = 0 := Fin.ext h
    rw [e, if_pos h]
    exact minus_one
  · have e : (⟨k.val % 2, by omega⟩ : Fin 2) = 1 := Fin.ext h
    rw [e, if_neg (by omega)]
    show Ideal.ofBits .f32 0x3F800000#32 = 1
    simp

/-- The cosine table, made on the host. -/
theorem v33_eq (c : Dev nD) : V m c main_v33 = twice (Host.cos Cert.QkSRefIdeal.At.ang) := by
  show StableHlo.after hostOps0 (fun b => m (c, b)) main_v33 = _
  unfold hostOps0
  after_results_simp
  rfl

/-- The table of signed sines, made on the host. -/
theorem v42_eq (c : Dev nD) : V m c main_v42 = mulf (twice (Host.sin Cert.QkSRefIdeal.At.ang)) signs := by
  show StableHlo.after hostOps0 (fun b => m (c, b)) main_v42 = _
  unfold hostOps0
  after_results_simp
  rfl

/-- The cosines a grid point reads. -/
theorem c_at (c : Dev nD) (t : Fin cfg0.N) (r : Fin 256) (k : Fin 128) :
    iblk m c 2 t (ix2 r k) = Host.cos Cert.QkSRefIdeal.At.ang (ix2 (⟨t.val % 8 * 256 + r.val, by omega⟩ : Fin 2048) (⟨k.val / 2, by omega⟩ : Fin 64)) := by
  obtain ⟨e0, e1, e2, e3, e4⟩ := idx t
  have h : iblk m c 2 t (ix2 r k) = V m c main_v33 (ix2 (⟨t.val % 8 * 256 + r.val, by omega⟩ : Fin 2048) k) := by
    blk_ext [iblk, e2]
  rw [h, v33_eq]
  exact twice_at _ _ _

/-- The signed sines a grid point reads. -/
theorem s_at (c : Dev nD) (t : Fin cfg0.N) (r : Fin 256) (k : Fin 128) :
    iblk m c 3 t (ix2 r k) = (Host.sin Cert.QkSRefIdeal.At.ang (ix2 (⟨t.val % 8 * 256 + r.val, by omega⟩ : Fin 2048) (⟨k.val / 2, by omega⟩ : Fin 64)) : EReal)
      * (if k.val % 2 = 0 then -1 else 1) := by
  obtain ⟨e0, e1, e2, e3, e4⟩ := idx t
  have h : iblk m c 3 t (ix2 r k) = V m c main_v42 (ix2 (⟨t.val % 8 * 256 + r.val, by omega⟩ : Fin 2048) k) := by
    blk_ext [iblk, e3]
  rw [h, v42_eq]
  exact congrArg₂ (fun a b : EReal => a * b) (twice_at _ _ _) (signs_at _ _)

set_option maxHeartbeats 2000000 in
/-- What a grid point leaves at an index of its output block. -/
theorem out_at (c : Dev nD) (t : Fin cfg0.N) (y : S256x1280.Idx) (y0 : Fin 256) (y1 : Fin 1280) (hy0 : y0.val = (y 0).val) (hy1 : y1.val = (y 1).val) :
    outsAt0 m c t y = shifted (rmsh (fun e : Fin 128 => X0_0 m c t (ix2 y0 (⟨y1.val / 128 * 128 + e.val, by omega⟩ : Fin 1280)))
      (fun e : Fin 128 => iblk m c 1 t (ix2 0 (⟨y1.val / 128 * 128 + e.val, by omega⟩ : Fin 1280))))
      (fun e => iblk m c 2 t (ix2 y0 e)) (fun e => iblk m c 3 t (ix2 y0 e)) ⟨y1.val % 128, by omega⟩ := by
  unfold outsAt0; frame_out
  canon_tiles x h
  case piece0 =>
    obtain ⟨a, b, rfl⟩ : ∃ (a : Fin 256) (b : Fin 128), x = ix2 a b := ⟨x 0, x 1, by blk_ext []⟩
    have h0 : (y 0).val = a.val := h0
    have h1 : (y 1).val = 1152 + b.val := h1
    refine (h9_at _ _ _ _ a b).trans (shifted_congr (fun k => rmsh_congr ?_ ?_ rfl) ?_ ?_ ?_)
    · intro e; pointwise; blk_ext []
    · intro e; pointwise; blk_ext []
    · intro e; pointwise; blk_ext []
    · intro e; pointwise; blk_ext []
    · show b.val = y1.val % 128; omega
  case piece1 =>
    obtain ⟨a, b, rfl⟩ : ∃ (a : Fin 256) (b : Fin 128), x = ix2 a b := ⟨x 0, x 1, by blk_ext []⟩
    have h0 : (y 0).val = a.val := h0
    have h1 : (y 1).val = 1024 + b.val := h1
    refine (h8_at _ _ _ _ a b).trans (shifted_congr (fun k => rmsh_congr ?_ ?_ rfl) ?_ ?_ ?_)
    · intro e; pointwise; blk_ext []
    · intro e; pointwise; blk_ext []
    · intro e; pointwise; blk_ext []
    · intro e; pointwise; blk_ext []
    · show b.val = y1.val % 128; omega
  case piece2 =>
    obtain ⟨a, b, rfl⟩ : ∃ (a : Fin 256) (b : Fin 128), x = ix2 a b := ⟨x 0, x 1, by blk_ext []⟩
    have h0 : (y 0).val = a.val := h0
    have h1 : (y 1).val = 896 + b.val := h1
    refine (h7_at _ _ _ _ a b).trans (shifted_congr (fun k => rmsh_congr ?_ ?_ rfl) ?_ ?_ ?_)
    · intro e; pointwise; blk_ext []
    · intro e; pointwise; blk_ext []
    · intro e; pointwise; blk_ext []
    · intro e; pointwise; blk_ext []
    · show b.val = y1.val % 128; omega
  case piece3 =>
    obtain ⟨a, b, rfl⟩ : ∃ (a : Fin 256) (b : Fin 128), x = ix2 a b := ⟨x 0, x 1, by blk_ext []⟩
    have h0 : (y 0).val = a.val := h0
    have h1 : (y 1).val = 768 + b.val := h1
    refine (h6_at _ _ _ _ a b).trans (shifted_congr (fun k => rmsh_congr ?_ ?_ rfl) ?_ ?_ ?_)
    · intro e; pointwise; blk_ext []
    · intro e; pointwise; blk_ext []
    · intro e; pointwise; blk_ext []
    · intro e; pointwise; blk_ext []
    · show b.val = y1.val % 128; omega
  case piece4 =>
    obtain ⟨a, b, rfl⟩ : ∃ (a : Fin 256) (b : Fin 128), x = ix2 a b := ⟨x 0, x 1, by blk_ext []⟩
    have h0 : (y 0).val = a.val := h0
    have h1 : (y 1).val = 640 + b.val := h1
    refine (h5_at _ _ _ _ a b).trans (shifted_congr (fun k => rmsh_congr ?_ ?_ rfl) ?_ ?_ ?_)
    · intro e; pointwise; blk_ext []
    · intro e; pointwise; blk_ext []
    · intro e; pointwise; blk_ext []
    · intro e; pointwise; blk_ext []
    · show b.val = y1.val % 128; omega
  case piece5 =>
    obtain ⟨a, b, rfl⟩ : ∃ (a : Fin 256) (b : Fin 128), x = ix2 a b := ⟨x 0, x 1, by blk_ext []⟩
    have h0 : (y 0).val = a.val := h0
    have h1 : (y 1).val = 512 + b.val := h1
    refine (h4_at _ _ _ _ a b).trans (shifted_congr (fun k => rmsh_congr ?_ ?_ rfl) ?_ ?_ ?_)
    · intro e; pointwise; blk_ext []
    · intro e; pointwise; blk_ext []
    · intro e; pointwise; blk_ext []
    · intro e; pointwise; blk_ext []
    · show b.val = y1.val % 128; omega
  case piece6 =>
    obtain ⟨a, b, rfl⟩ : ∃ (a : Fin 256) (b : Fin 128), x = ix2 a b := ⟨x 0, x 1, by blk_ext []⟩
    have h0 : (y 0).val = a.val := h0
    have h1 : (y 1).val = 384 + b.val := h1
    refine (h3_at _ _ _ _ a b).trans (shifted_congr (fun k => rmsh_congr ?_ ?_ rfl) ?_ ?_ ?_)
    · intro e; pointwise; blk_ext []
    · intro e; pointwise; blk_ext []
    · intro e; pointwise; blk_ext []
    · intro e; pointwise; blk_ext []
    · show b.val = y1.val % 128; omega
  case piece7 =>
    obtain ⟨a, b, rfl⟩ : ∃ (a : Fin 256) (b : Fin 128), x = ix2 a b := ⟨x 0, x 1, by blk_ext []⟩
    have h0 : (y 0).val = a.val := h0
    have h1 : (y 1).val = 256 + b.val := h1
    refine (h2_at _ _ _ _ a b).trans (shifted_congr (fun k => rmsh_congr ?_ ?_ rfl) ?_ ?_ ?_)
    · intro e; pointwise; blk_ext []
    · intro e; pointwise; blk_ext []
    · intro e; pointwise; blk_ext []
    · intro e; pointwise; blk_ext []
    · show b.val = y1.val % 128; omega
  case piece8 =>
    obtain ⟨a, b, rfl⟩ : ∃ (a : Fin 256) (b : Fin 128), x = ix2 a b := ⟨x 0, x 1, by blk_ext []⟩
    have h0 : (y 0).val = a.val := h0
    have h1 : (y 1).val = 128 + b.val := h1
    refine (h1_at _ _ _ _ a b).trans (shifted_congr (fun k => rmsh_congr ?_ ?_ rfl) ?_ ?_ ?_)
    · intro e; pointwise; blk_ext []
    · intro e; pointwise; blk_ext []
    · intro e; pointwise; blk_ext []
    · intro e; pointwise; blk_ext []
    · show b.val = y1.val % 128; omega
  case piece9 =>
    obtain ⟨a, b, rfl⟩ : ∃ (a : Fin 256) (b : Fin 128), x = ix2 a b := ⟨x 0, x 1, by blk_ext []⟩
    have h0 : (y 0).val = a.val := h0
    have h1 : (y 1).val = b.val := h1
    refine (h0_at _ _ _ _ a b).trans (shifted_congr (fun k => rmsh_congr ?_ ?_ rfl) ?_ ?_ ?_)
    · intro e; pointwise; blk_ext []
    · intro e; pointwise; blk_ext []
    · intro e; pointwise; blk_ext []
    · intro e; pointwise; blk_ext []
    · show b.val = y1.val % 128; omega

/-- The same, at the index's two coordinates. -/
theorem out_at2 (c : Dev nD) (t : Fin cfg0.N) (a : Fin 256) (b : Fin 1280) :
    outsAt0 m c t (ix2 a b) = shifted (rmsh (fun e : Fin 128 => X0_0 m c t (ix2 a (⟨b.val / 128 * 128 + e.val, by omega⟩ : Fin 1280)))
      (fun e : Fin 128 => iblk m c 1 t (ix2 0 (⟨b.val / 128 * 128 + e.val, by omega⟩ : Fin 1280))))
      (fun e => iblk m c 2 t (ix2 a e)) (fun e => iblk m c 3 t (ix2 a e)) ⟨b.val % 128, by omega⟩ :=
  out_at m c t (ix2 a b) a b rfl rfl

/-- THE OUTPUT ARRAY after the run is the reference's term. -/
theorem final (c : Dev nD) :
    (dats m 0 c).arrAt 4 cfg0.N = Cert.QkSRefIdeal.At.REF (m ((c.tc : Thread nD τ).loc main_arg0)) (m ((c.tc : Thread nD τ).loc main_arg1))
      (m ((c.tc : Thread nD τ).loc main_arg2)) := by
  refine (dats m 0 c).arrAt_eq_of_covers 4 _ (by decide +kernel) fun t hf y => ?_
  have ht := t_lt t
  obtain ⟨e0, e1, e2, e3, e4⟩ := idx t
  obtain ⟨a, b, rfl⟩ : ∃ (a : Fin 256) (b : Fin 1280), y = ix2 a b := ⟨y 0, y 1, by blk_ext []⟩
  have hemb : ((cfg0.win 4).blk t).view.emb (ix2 a b) = ix2 (⟨t.val * 256 + a.val, by omega⟩ : Fin 16384) b := by
    blk_ext [e4]
  have hrow : (⟨t.val % 8 * 256 + a.val, by omega⟩ : Fin 2048) = ⟨(t.val * 256 + a.val) % 2048, by omega⟩ :=
    Fin.ext (by show t.val % 8 * 256 + a.val = (t.val * 256 + a.val) % 2048; omega)
  blk_simp
  rw [after0_4, hemb, Cert.QkSRefIdeal.At.ref_at]
  refine (out_at2 m c t a b).trans ((shifted_turn _ _ _ (fun i => Host.cos Cert.QkSRefIdeal.At.ang (ix2 (⟨t.val % 8 * 256 + a.val, by omega⟩ : Fin 2048) i))
    (fun i => Host.sin Cert.QkSRefIdeal.At.ang (ix2 (⟨t.val % 8 * 256 + a.val, by omega⟩ : Fin 2048) i)) _ (c_at m c t a _) (s_at m c t a _)).trans
    (turn_congr (fun k => rmsh_congr (fun e => x_at m c t a _) (fun e => (g_at m c t _).trans ?_) rfl) (fun i => ?_) (fun i => ?_) rfl))
  · have hc : (b.val / 128 * 128 + e.val < 1024) ↔ b.val < 1024 := by omega
    have he : (b.val / 128 * 128 + e.val) % 128 = e.val := by omega
    simp only [hc, he]
  · exact congrArg (fun s => Host.cos Cert.QkSRefIdeal.At.ang (ix2 s i)) hrow
  · exact congrArg (fun s => Host.sin Cert.QkSRefIdeal.At.ang (ix2 s i)) hrow

end Cert.QkSIdeal.Fin

end
-- ==== Proof.QkSMain.lean ====
/- The normed and turned queries and keys: the kernel's program and the reference's end with the same result. -/
module

public import proofs.«01_k».proof.Defs
public import proofs.«01_k».proof.Proof.QkSFin
public import proofs.«01_k».proof.Proof.QkSRef

@[expose] public section

set_option maxRecDepth 16384

noncomputable section

namespace Cert.Proof

open Idealize.ShloMosaic Idealize.SL.Sem

/-- The kernel's normed and turned queries and keys and the reference's end with the same array. -/
theorem algebraic_qks : Cert.algebraic_QkSIdeal_QkSRefIdeal := by
  pair_intro
  · run_from Cert.QkSIdeal.Value.run_blocks m g
  · run_from Cert.QkSRefIdeal.At.run m' g'
    exact (Cert.QkSIdeal.Fin.final m c).symm

end Cert.Proof

end
-- ==== Proof.MlaQkRef.lean ====
/- The reference's turned queries and key of the latent mixer, read at an index. -/
module

public import proofs.«01_k».proof.Proof.Turn
public import proofs.«01_k».proof.Proof.Gen.MlaQkRefIdeal.Run

@[expose] public section

set_option maxRecDepth 16384

noncomputable section

namespace Cert.Lin

open Idealize.ShloMosaic

/-- A head whose first 64 entries are turned pair by pair and whose others pass. -/
def half (y : Fin 128 → EReal) (c s : Fin 32 → EReal) (k : Fin 128) : EReal :=
  if h : k.val < 64 then
    (if k.val % 2 = 0 then y k * c ⟨k.val / 2, by omega⟩ - y ⟨(k.val + 1) % 128, by omega⟩ * s ⟨k.val / 2, by omega⟩
    else y ⟨k.val - 1, by omega⟩ * s ⟨k.val / 2, by omega⟩ + y k * c ⟨k.val / 2, by omega⟩)
  else y k

theorem half_congr {y y' : Fin 128 → EReal} {c c' s s' : Fin 32 → EReal} {k k' : Fin 128} (hy : ∀ e, y e = y' e) (hc : ∀ e, c e = c' e)
    (hs : ∀ e, s e = s' e) (hk : k.val = k'.val) : half y c s k = half y' c' s' k' := by
  rw [funext hy, funext hc, funext hs, Fin.ext hk]

/-- A turned pair's two entries, each at its place. -/
theorem half_pair (y : Fin 128 → EReal) (c s : Fin 32 → EReal) (k a b : Fin 128) (i : Fin 32) (p : Prop) [Decidable p] (h64 : k.val < 64)
    (ha : a.val = k.val / 2 * 2) (hb : b.val = k.val / 2 * 2 + 1) (hi : i.val = k.val / 2) (hp : p ↔ k.val % 2 = 0) :
    (if h : p then y a * c i - y b * s i else y a * s i + y b * c i) = half y c s k := by
  have ei : i = ⟨k.val / 2, by omega⟩ := Fin.ext hi
  rw [half, dif_pos h64]
  by_cases h : p
  · have h' := hp.1 h
    have ea : a = k := Fin.ext (by omega)
    have eb : b = ⟨(k.val + 1) % 128, by omega⟩ := Fin.ext (by show b.val = (k.val + 1) % 128; omega)
    rw [dif_pos h, if_pos h', ea, eb, ← ei]
  · have h' : ¬ k.val % 2 = 0 := fun e => h (hp.2 e)
    have ea : a = ⟨k.val - 1, by omega⟩ := Fin.ext (by show a.val = k.val - 1; omega)
    have eb : b = k := Fin.ext (by omega)
    rw [dif_neg h, if_neg h', ea, eb, ← ei]

/-- An entry that passes. -/
theorem half_pass (y : Fin 128 → EReal) (c s : Fin 32 → EReal) (k a : Fin 128) (h64 : ¬ k.val < 64) (ha : a.val = k.val) : y a = half y c s k := by
  rw [half, dif_neg h64, Fin.ext ha]

/-- The shifted form agrees when the sine rows carry the sign of the pair's entry, and past the turned entries the cosine is one and the sine zero. -/
theorem shifted_half (y c s : Fin 128 → EReal) (C S : Fin 32 → EReal) (k : Fin 128) (hc : c k = if h : k.val < 64 then C ⟨k.val / 2, by omega⟩ else 1)
    (hs : s k = if h : k.val < 64 then S ⟨k.val / 2, by omega⟩ * (if k.val % 2 = 0 then -1 else 1) else 0) : shifted y c s k = half y C S k := by
  by_cases h64 : k.val < 64
  · rw [dif_pos h64] at hc hs
    unfold shifted half
    rw [even_lane, hc, hs, dif_pos h64]
    split
    · have e : (⟨(k.val + 128 - 127) % 128, by omega⟩ : Fin 128) = ⟨(k.val + 1) % 128, by omega⟩ := Fin.ext (by show (k.val + 128 - 127) % 128 = (k.val + 1) % 128; omega)
      rw [e, mul_neg_one, mul_neg, sub_eq_add_neg]
      rfl
    · have e : (⟨(k.val + 128 - 1) % 128, by omega⟩ : Fin 128) = ⟨k.val - 1, by omega⟩ := Fin.ext (by show (k.val + 128 - 1) % 128 = k.val - 1; omega)
      rw [e, mul_one, add_comm]
      rfl
  · rw [dif_neg h64] at hc hs
    unfold shifted half
    rw [hc, hs, dif_neg h64, mul_one, mul_zero, add_zero]

end Cert.Lin

namespace Cert.MlaQkRefIdeal.At

open Cert.MlaQkRefIdeal Cert.MlaQkRefIdeal.Gen Idealize.ShloMosaic Idealize.ShloMosaic.TcCoe Idealize.SL.Sem Cert.Lin

/-- The angles: by position and pair, the row's in the first half and the column's in the second. -/
def ang : FVec Ideal S2048x32 .f32 :=
  (concatenate S2048x32 1 [⟨S2048x16, (mulf (broadcastInDim S2048x16 ![0, 1] bcast_S2048x1_S2048x16_0_1 (broadcastInDim S2048x1 ![0] bcast_S2048_S2048x1_0 (shapeCast _ (broadcastInDim S32x64 ![0] bcast_S32_S32x64_0 (sitofp .f32 (iotaInDim S32 32 0))) shapeCasts_S32x64_S2048))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))⟩, ⟨S2048x16, (mulf (broadcastInDim S2048x16 ![0, 1] bcast_S2048x1_S2048x16_0_1 (broadcastInDim S2048x1 ![0] bcast_S2048_S2048x1_0 (shapeCast _ (broadcastInDim S32x64 ![0, 1] bcast_S1x64_S32x64_0_1 (shapeCast _ (sitofp .f32 (iotaInDim S64 32 0)) shapeCasts_S64_S1x64)) shapeCasts_S32x64_S2048))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))))))⟩] concatenates_S2048x16_S2048x16_S2048x32_d1)

/-- The queries and the key by head. -/
def heads (a0 : FVec Ideal S16384x3072 .f32) : FVec Ideal S8x2048x9x128 .f32 :=
  (shapeCast _ (extractStridedSlice S16384x1152 ![0, 0] a0 slices_S16384x3072_S16384x1152_0_0) shapeCasts_S16384x1152_S8x2048x9x128)

/-- The heads with their first halves turned by the angles of their positions. -/
def turned (Y : FVec Ideal S8x2048x9x128 .f32) (CO SI : FVec Ideal S2048x32 .f32) : FVec Ideal S16384x1152 .f32 :=
  shapeCast _ (concatenate S8x2048x9x128 3 [⟨S8x2048x9x64, (shapeCast _ (concatenate S8x2048x9x32x2 4 [⟨S8x2048x9x32x1, (broadcastInDim S8x2048x9x32x1 ![0, 1, 2, 3] bcast_S8x2048x9x32_S8x2048x9x32x1_0_1_2_3 (subf (mulf (shapeCast _ (extractStridedSlice S8x2048x9x32x1 ![0, 0, 0, 0, 0] (shapeCast _ (extractStridedSlice S8x2048x9x64 ![0, 0, 0, 0] Y slices_S8x2048x9x128_S8x2048x9x64_0_0_0_0) shapeCasts_S8x2048x9x64_S8x2048x9x32x2) slices_S8x2048x9x32x2_S8x2048x9x32x1_0_0_0_0_0) shapeCasts_S8x2048x9x32x1_S8x2048x9x32) (broadcastInDim S8x2048x9x32 ![0, 1, 2, 3] bcast_S1x2048x1x32_S8x2048x9x32_0_1_2_3 (broadcastInDim S1x2048x1x32 ![1, 3] bcast_S2048x32_S1x2048x1x32_1_3 CO))) (mulf (shapeCast _ (extractStridedSlice S8x2048x9x32x1 ![0, 0, 0, 0, 1] (shapeCast _ (extractStridedSlice S8x2048x9x64 ![0, 0, 0, 0] Y slices_S8x2048x9x128_S8x2048x9x64_0_0_0_0) shapeCasts_S8x2048x9x64_S8x2048x9x32x2) slices_S8x2048x9x32x2_S8x2048x9x32x1_0_0_0_0_1) shapeCasts_S8x2048x9x32x1_S8x2048x9x32) (broadcastInDim S8x2048x9x32 ![0, 1, 2, 3] bcast_S1x2048x1x32_S8x2048x9x32_0_1_2_3 (broadcastInDim S1x2048x1x32 ![1, 3] bcast_S2048x32_S1x2048x1x32_1_3 SI)))))⟩, ⟨S8x2048x9x32x1, (broadcastInDim S8x2048x9x32x1 ![0, 1, 2, 3] bcast_S8x2048x9x32_S8x2048x9x32x1_0_1_2_3 (addf (mulf (shapeCast _ (extractStridedSlice S8x2048x9x32x1 ![0, 0, 0, 0, 0] (shapeCast _ (extractStridedSlice S8x2048x9x64 ![0, 0, 0, 0] Y slices_S8x2048x9x128_S8x2048x9x64_0_0_0_0) shapeCasts_S8x2048x9x64_S8x2048x9x32x2) slices_S8x2048x9x32x2_S8x2048x9x32x1_0_0_0_0_0) shapeCasts_S8x2048x9x32x1_S8x2048x9x32) (broadcastInDim S8x2048x9x32 ![0, 1, 2, 3] bcast_S1x2048x1x32_S8x2048x9x32_0_1_2_3 (broadcastInDim S1x2048x1x32 ![1, 3] bcast_S2048x32_S1x2048x1x32_1_3 SI))) (mulf (shapeCast _ (extractStridedSlice S8x2048x9x32x1 ![0, 0, 0, 0, 1] (shapeCast _ (extractStridedSlice S8x2048x9x64 ![0, 0, 0, 0] Y slices_S8x2048x9x128_S8x2048x9x64_0_0_0_0) shapeCasts_S8x2048x9x64_S8x2048x9x32x2) slices_S8x2048x9x32x2_S8x2048x9x32x1_0_0_0_0_1) shapeCasts_S8x2048x9x32x1_S8x2048x9x32) (broadcastInDim S8x2048x9x32 ![0, 1, 2, 3] bcast_S1x2048x1x32_S8x2048x9x32_0_1_2_3 (broadcastInDim S1x2048x1x32 ![1, 3] bcast_S2048x32_S1x2048x1x32_1_3 CO)))))⟩] concatenates_S8x2048x9x32x1_S8x2048x9x32x1_S8x2048x9x32x2_d4) shapeCasts_S8x2048x9x32x2_S8x2048x9x64)⟩, ⟨S8x2048x9x64, (extractStridedSlice S8x2048x9x64 ![0, 0, 0, 64] Y slices_S8x2048x9x128_S8x2048x9x64_0_0_0_64)⟩] concatenates_S8x2048x9x64_S8x2048x9x64_S8x2048x9x128_d3) shapeCasts_S8x2048x9x128_S16384x1152

/-- The whole reference. -/
def REF (a0 : FVec Ideal S16384x3072 .f32) : FVec Ideal S16384x1152 .f32 := turned (heads a0) (Host.cos ang) (Host.sin ang)

theorem heads_at (a0 : FVec Ideal S16384x3072 .f32) (b : Fin 8) (s : Fin 2048) (h : Fin 9) (k : Fin 128) :
    heads a0 (ix4 b s h k) = a0 (ix2 (⟨b.val * 2048 + s.val, by omega⟩ : Fin 16384) (⟨h.val * 128 + k.val, by omega⟩ : Fin 3072)) := by
  pointwise [heads]

theorem turned_at (Y : FVec Ideal S8x2048x9x128 .f32) (CO SI : FVec Ideal S2048x32 .f32) (r : Fin 16384) (j : Fin 1152) :
    turned Y CO SI (ix2 r j) = half (fun e => Y (ix4 (⟨r.val / 2048, by omega⟩ : Fin 8) (⟨r.val % 2048, by omega⟩ : Fin 2048) (⟨j.val / 128, by omega⟩ : Fin 9) e))
      (fun i => CO (ix2 (⟨r.val % 2048, by omega⟩ : Fin 2048) i)) (fun i => SI (ix2 (⟨r.val % 2048, by omega⟩ : Fin 2048) i)) ⟨j.val % 128, by omega⟩ := by
  pointwise [turned]
  split
  · rename_i h
    exact half_pair (fun e => Y (ix4 (⟨r.val / 2048, by omega⟩ : Fin 8) (⟨r.val % 2048, by omega⟩ : Fin 2048) (⟨j.val / 128, by omega⟩ : Fin 9) e))
      (fun i => CO (ix2 (⟨r.val % 2048, by omega⟩ : Fin 2048) i)) (fun i => SI (ix2 (⟨r.val % 2048, by omega⟩ : Fin 2048) i)) ⟨j.val % 128, by omega⟩
      ⟨j.val % 128 / 2 * 2, by omega⟩ ⟨j.val % 128 / 2 * 2 + 1, by omega⟩ ⟨j.val % 128 / 2, by omega⟩ (j.val % 128 % 2 < 1) h
      rfl rfl rfl (by show j.val % 128 % 2 < 1 ↔ j.val % 128 % 2 = 0; omega)
  · rename_i h
    exact half_pass (fun e => Y (ix4 (⟨r.val / 2048, by omega⟩ : Fin 8) (⟨r.val % 2048, by omega⟩ : Fin 2048) (⟨j.val / 128, by omega⟩ : Fin 9) e))
      (fun i => CO (ix2 (⟨r.val % 2048, by omega⟩ : Fin 2048) i)) (fun i => SI (ix2 (⟨r.val % 2048, by omega⟩ : Fin 2048) i)) ⟨j.val % 128, by omega⟩ ⟨64 + (j.val % 128 - 64), by omega⟩ h
      (by show 64 + (j.val % 128 - 64) = j.val % 128; omega)

/-- The reference at an index. -/
theorem ref_at (a0 : FVec Ideal S16384x3072 .f32) (r : Fin 16384) (j : Fin 1152) :
    REF a0 (ix2 r j) = half (fun k => a0 (ix2 r (⟨j.val / 128 * 128 + k.val, by omega⟩ : Fin 3072)))
      (fun i => Host.cos ang (ix2 (⟨r.val % 2048, by omega⟩ : Fin 2048) i)) (fun i => Host.sin ang (ix2 (⟨r.val % 2048, by omega⟩ : Fin 2048) i)) ⟨j.val % 128, by omega⟩ := by
  have hr : (⟨r.val / 2048 * 2048 + r.val % 2048, by omega⟩ : Fin 16384) = r := Fin.ext (by show r.val / 2048 * 2048 + r.val % 2048 = r.val; omega)
  refine (turned_at _ _ _ r j).trans (half_congr (fun k => (heads_at _ _ _ _ k).trans ?_) (fun _ => rfl) (fun _ => rfl) rfl)
  simp only [hr]

/-- What the reference's run leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52) = REF (m ((c.tc : Thread nD τ).loc main_arg0))
      ∧ r.2.mem ((c.tc : Thread nD τ).loc main_arg0) = m ((c.tc : Thread nD τ).loc main_arg0) := by
  exact (θ_run _ _ _).mono (fun r h c => h c) (Cert.MlaQkRefIdeal.Value.run (F := Ideal) m ρ)

end Cert.MlaQkRefIdeal.At

end
-- ==== Proof.MlaQkFin.lean ====
/- The kernel's turned queries and key of the latent mixer: what its output array holds, index by index. -/
module

public import proofs.«01_k».proof.Proof.MlaQkRef
public import proofs.«01_k».proof.Proof.Gen.MlaQkIdeal.Value

@[expose] public section

set_option maxRecDepth 16384

noncomputable section

namespace Cert.MlaQkIdeal.Fin

open Cert.MlaQkIdeal Cert.MlaQkIdeal.Gen Idealize.ShloMosaic Idealize.ShloMosaic.TcCoe Cert.Lin

variable (m : (ℓ : Loc nD τ sig) → Buf (Elt Ideal) ℓ)

/-- The first head. -/
theorem h0_at (X C S : Vec Ideal S256x128 .f32) (r : Fin 256) (k : Fin 128) :
    k0_pay2 (F := Ideal) X C S (ix2 r k) = shifted (fun e => X (ix2 r e)) (fun e => C (ix2 r e)) (fun e => S (ix2 r e)) k := by
  pointwise [k0_pay2]
  rfl

/-- The second head. -/
theorem h1_at (X C S : Vec Ideal S256x128 .f32) (r : Fin 256) (k : Fin 128) :
    k0_pay3 (F := Ideal) X C S (ix2 r k) = shifted (fun e => X (ix2 r e)) (fun e => C (ix2 r e)) (fun e => S (ix2 r e)) k := by
  pointwise [k0_pay3]
  rfl

/-- The third head. -/
theorem h2_at (X C S : Vec Ideal S256x128 .f32) (r : Fin 256) (k : Fin 128) :
    k0_pay4 (F := Ideal) X C S (ix2 r k) = shifted (fun e => X (ix2 r e)) (fun e => C (ix2 r e)) (fun e => S (ix2 r e)) k := by
  pointwise [k0_pay4]
  rfl

/-- The fourth head. -/
theorem h3_at (X C S : Vec Ideal S256x128 .f32) (r : Fin 256) (k : Fin 128) :
    k0_pay5 (F := Ideal) X C S (ix2 r k) = shifted (fun e => X (ix2 r e)) (fun e => C (ix2 r e)) (fun e => S (ix2 r e)) k := by
  pointwise [k0_pay5]
  rfl

/-- The fifth head. -/
theorem h4_at (X C S : Vec Ideal S256x128 .f32) (r : Fin 256) (k : Fin 128) :
    k0_pay6 (F := Ideal) X C S (ix2 r k) = shifted (fun e => X (ix2 r e)) (fun e => C (ix2 r e)) (fun e => S (ix2 r e)) k := by
  pointwise [k0_pay6]
  rfl

/-- The sixth head. -/
theorem h5_at (X C S : Vec Ideal S256x128 .f32) (r : Fin 256) (k : Fin 128) :
    k0_pay7 (F := Ideal) X C S (ix2 r k) = shifted (fun e => X (ix2 r e)) (fun e => C (ix2 r e)) (fun e => S (ix2 r e)) k := by
  pointwise [k0_pay7]
  rfl

/-- The seventh head. -/
theorem h6_at (X C S : Vec Ideal S256x128 .f32) (r : Fin 256) (k : Fin 128) :
    k0_pay8 (F := Ideal) X C S (ix2 r k) = shifted (fun e => X (ix2 r e)) (fun e => C (ix2 r e)) (fun e => S (ix2 r e)) k := by
  pointwise [k0_pay8]
  rfl

/-- The eighth head. -/
theorem h7_at (X C S : Vec Ideal S256x128 .f32) (r : Fin 256) (k : Fin 128) :
    k0_pay9 (F := Ideal) X C S (ix2 r k) = shifted (fun e => X (ix2 r e)) (fun e => C (ix2 r e)) (fun e => S (ix2 r e)) k := by
  pointwise [k0_pay9]
  rfl

/-- The ninth head. -/
theorem h8_at (X C S : Vec Ideal S256x128 .f32) (r : Fin 256) (k : Fin 128) :
    k0_pay1 (F := Ideal) X C S (ix2 r k) = shifted (fun e => X (ix2 r e)) (fun e => C (ix2 r e)) (fun e => S (ix2 r e)) k := by
  pointwise [k0_pay1]
  rfl

/-- The windows' block indices at a grid point. -/
theorem idx : ∀ t : Fin cfg0.N, win0_0.index t = ![t.val, 0]
    ∧ win0_1.index t = ![t.val % 8, 0]
    ∧ win0_2.index t = ![t.val % 8, 0]
    ∧ win0_3.index t = ![t.val, 0] :=
  (by decide +kernel : ∀ t : Fin grid0.N, _)

theorem t_lt (t : Fin cfg0.N) : t.val < 64 := lt_of_lt_of_eq t.isLt N_0

/-- The block of rows a grid point reads. -/
theorem x_at (c : Dev nD) (t : Fin cfg0.N) (r : Fin 256) (k : Fin 1152) :
    X0_0 m c t (ix2 r k) = m ((c.tc : Thread nD τ).loc main_arg0)
      (ix2 (⟨t.val * 256 + r.val, by have := t_lt t; omega⟩ : Fin 16384) (⟨k.val, by omega⟩ : Fin 3072)) := by
  have := t_lt t
  obtain ⟨e0, e1, e2, e3⟩ := idx t
  unfold X0_0 Pipeline.Window.fill
  rw [dif_pos (moved0_0 t _)]
  blk_ext [iblk, V, e0]

/-- Each entry of an angle table twice, side by side. -/
def twice (A : FVec Ideal S2048x32 .f32) : FVec Ideal S2048x64 .f32 :=
  shapeCast _ (broadcastInDim S2048x32x2 ![0, 1] bcast_S2048x32_S2048x32x2_0_1 A) shapeCasts_S2048x32x2_S2048x64

theorem twice_at (A : FVec Ideal S2048x32 .f32) (s : Fin 2048) (k : Fin 64) : twice A (ix2 s k) = A (ix2 s (⟨k.val / 2, by omega⟩ : Fin 32)) := by
  pointwise [twice]

/-- The signs minus one and one in turn. -/
def signs : FVec Ideal S2048x64 .f32 :=
  broadcastInDim S2048x64 ![0, 1] bcast_S1x64_S2048x64_0_1 (broadcastInDim S1x64 ![1] bcast_S64_S1x64_1 (shapeCast _ (broadcastInDim S32x2 ![0, 1] bcast_S1x2_S32x2_0_1
    (shapeCast _ (fun i => FloatOps.ofBits .f32 (lit0 (S2.rowMajor i)) : FVec Ideal S2 .f32) shapeCasts_S2_S1x2)) shapeCasts_S32x2_S64))

theorem signs_at (s : Fin 2048) (k : Fin 64) : signs (ix2 s k) = if k.val % 2 = 0 then (-1 : EReal) else 1 := by
  pointwise [signs]
  rcases Nat.mod_two_eq_zero_or_one k.val with h | h
  · have e : (⟨k.val % 2, by omega⟩ : Fin 2) = 0 := Fin.ext h
    rw [e, if_pos h]
    exact minus_one
  · have e : (⟨k.val % 2, by omega⟩ : Fin 2) = 1 := Fin.ext h
    rw [e, if_neg (by omega)]
    show Ideal.ofBits .f32 0x3F800000#32 = 1
    simp

/-- A table with as many columns again, all of one constant. -/
def padded (A : FVec Ideal S2048x64 .f32) (w : BitVec 32) : FVec Ideal S2048x128 .f32 :=
  concatenate S2048x128 1 [⟨S2048x64, A⟩, ⟨S2048x64, broadcastInDim S2048x64 ![] bcast_S_S2048x64 (constant S_ .f32 w)⟩] concatenates_S2048x64_S2048x64_S2048x128_d1

theorem padded_at (A : FVec Ideal S2048x64 .f32) (w : BitVec 32) (s : Fin 2048) (k : Fin 128) :
    padded A w (ix2 s k) = if h : k.val < 64 then A (ix2 s (⟨k.val, h⟩ : Fin 64)) else Ideal.ofBits .f32 w := by
  pointwise [padded]

/-- The cosine table, made on the host. -/
theorem v37_eq (c : Dev nD) : V m c main_v37 = padded (twice (Host.cos Cert.MlaQkRefIdeal.At.ang)) 0x3F800000#32 := by
  show StableHlo.after hostOps0 (fun b => m (c, b)) main_v37 = _
  unfold hostOps0
  after_results_simp
  rfl

/-- The table of signed sines, made on the host. -/
theorem v39_eq (c : Dev nD) : V m c main_v39 = padded (mulf (twice (Host.sin Cert.MlaQkRefIdeal.At.ang)) signs) 0x00000000#32 := by
  show StableHlo.after hostOps0 (fun b => m (c, b)) main_v39 = _
  unfold hostOps0
  after_results_simp
  rfl

/-- The cosines a grid point reads. -/
theorem c_at (c : Dev nD) (t : Fin cfg0.N) (r : Fin 256) (k : Fin 128) :
    iblk m c 1 t (ix2 r k) = if h : k.val < 64 then Host.cos Cert.MlaQkRefIdeal.At.ang (ix2 (⟨t.val % 8 * 256 + r.val, by omega⟩ : Fin 2048) (⟨k.val / 2, by omega⟩ : Fin 32)) else (1 : EReal) := by
  obtain ⟨e0, e1, e2, e3⟩ := idx t
  have h : iblk m c 1 t (ix2 r k) = V m c main_v37 (ix2 (⟨t.val % 8 * 256 + r.val, by omega⟩ : Fin 2048) k) := by
    blk_ext [iblk, e1]
  rw [h, v37_eq]
  refine (padded_at _ _ _ _).trans ?_
  split
  · exact twice_at _ _ _
  · simp

/-- The signed sines a grid point reads. -/
theorem s_at (c : Dev nD) (t : Fin cfg0.N) (r : Fin 256) (k : Fin 128) :
    iblk m c 2 t (ix2 r k) = if h : k.val < 64 then (Host.sin Cert.MlaQkRefIdeal.At.ang (ix2 (⟨t.val % 8 * 256 + r.val, by omega⟩ : Fin 2048) (⟨k.val / 2, by omega⟩ : Fin 32)) : EReal)
      * (if k.val % 2 = 0 then -1 else 1) else (0 : EReal) := by
  obtain ⟨e0, e1, e2, e3⟩ := idx t
  have h : iblk m c 2 t (ix2 r k) = V m c main_v39 (ix2 (⟨t.val % 8 * 256 + r.val, by omega⟩ : Fin 2048) k) := by
    blk_ext [iblk, e2]
  rw [h, v39_eq]
  refine (padded_at _ _ _ _).trans ?_
  split
  · exact congrArg₂ (fun a b : EReal => a * b) (twice_at _ _ _) (signs_at _ _)
  · simp

set_option maxHeartbeats 2000000 in
/-- What a grid point leaves at an index of its output block. -/
theorem out_at (c : Dev nD) (t : Fin cfg0.N) (y : S256x1152.Idx) (y0 : Fin 256) (y1 : Fin 1152) (hy0 : y0.val = (y 0).val) (hy1 : y1.val = (y 1).val) :
    outsAt0 m c t y = shifted (fun e : Fin 128 => X0_0 m c t (ix2 y0 (⟨y1.val / 128 * 128 + e.val, by omega⟩ : Fin 1152)))
      (fun e => iblk m c 1 t (ix2 y0 e)) (fun e => iblk m c 2 t (ix2 y0 e)) ⟨y1.val % 128, by omega⟩ := by
  unfold outsAt0; frame_out
  canon_tiles x h
  case piece0 =>
    obtain ⟨a, b, rfl⟩ : ∃ (a : Fin 256) (b : Fin 128), x = ix2 a b := ⟨x 0, x 1, by blk_ext []⟩
    have h0 : (y 0).val = a.val := h0
    have h1 : (y 1).val = 1024 + b.val := h1
    refine (h8_at _ _ _ a b).trans (shifted_congr ?_ ?_ ?_ ?_)
    · intro e; pointwise; blk_ext []
    · intro e; pointwise; blk_ext []
    · intro e; pointwise; blk_ext []
    · show b.val = y1.val % 128; omega
  case piece1 =>
    obtain ⟨a, b, rfl⟩ : ∃ (a : Fin 256) (b : Fin 128), x = ix2 a b := ⟨x 0, x 1, by blk_ext []⟩
    have h0 : (y 0).val = a.val := h0
    have h1 : (y 1).val = 896 + b.val := h1
    refine (h7_at _ _ _ a b).trans (shifted_congr ?_ ?_ ?_ ?_)
    · intro e; pointwise; blk_ext []
    · intro e; pointwise; blk_ext []
    · intro e; pointwise; blk_ext []
    · show b.val = y1.val % 128; omega
  case piece2 =>
    obtain ⟨a, b, rfl⟩ : ∃ (a : Fin 256) (b : Fin 128), x = ix2 a b := ⟨x 0, x 1, by blk_ext []⟩
    have h0 : (y 0).val = a.val := h0
    have h1 : (y 1).val = 768 + b.val := h1
    refine (h6_at _ _ _ a b).trans (shifted_congr ?_ ?_ ?_ ?_)
    · intro e; pointwise; blk_ext []
    · intro e; pointwise; blk_ext []
    · intro e; pointwise; blk_ext []
    · show b.val = y1.val % 128; omega
  case piece3 =>
    obtain ⟨a, b, rfl⟩ : ∃ (a : Fin 256) (b : Fin 128), x = ix2 a b := ⟨x 0, x 1, by blk_ext []⟩
    have h0 : (y 0).val = a.val := h0
    have h1 : (y 1).val = 640 + b.val := h1
    refine (h5_at _ _ _ a b).trans (shifted_congr ?_ ?_ ?_ ?_)
    · intro e; pointwise; blk_ext []
    · intro e; pointwise; blk_ext []
    · intro e; pointwise; blk_ext []
    · show b.val = y1.val % 128; omega
  case piece4 =>
    obtain ⟨a, b, rfl⟩ : ∃ (a : Fin 256) (b : Fin 128), x = ix2 a b := ⟨x 0, x 1, by blk_ext []⟩
    have h0 : (y 0).val = a.val := h0
    have h1 : (y 1).val = 512 + b.val := h1
    refine (h4_at _ _ _ a b).trans (shifted_congr ?_ ?_ ?_ ?_)
    · intro e; pointwise; blk_ext []
    · intro e; pointwise; blk_ext []
    · intro e; pointwise; blk_ext []
    · show b.val = y1.val % 128; omega
  case piece5 =>
    obtain ⟨a, b, rfl⟩ : ∃ (a : Fin 256) (b : Fin 128), x = ix2 a b := ⟨x 0, x 1, by blk_ext []⟩
    have h0 : (y 0).val = a.val := h0
    have h1 : (y 1).val = 384 + b.val := h1
    refine (h3_at _ _ _ a b).trans (shifted_congr ?_ ?_ ?_ ?_)
    · intro e; pointwise; blk_ext []
    · intro e; pointwise; blk_ext []
    · intro e; pointwise; blk_ext []
    · show b.val = y1.val % 128; omega
  case piece6 =>
    obtain ⟨a, b, rfl⟩ : ∃ (a : Fin 256) (b : Fin 128), x = ix2 a b := ⟨x 0, x 1, by blk_ext []⟩
    have h0 : (y 0).val = a.val := h0
    have h1 : (y 1).val = 256 + b.val := h1
    refine (h2_at _ _ _ a b).trans (shifted_congr ?_ ?_ ?_ ?_)
    · intro e; pointwise; blk_ext []
    · intro e; pointwise; blk_ext []
    · intro e; pointwise; blk_ext []
    · show b.val = y1.val % 128; omega
  case piece7 =>
    obtain ⟨a, b, rfl⟩ : ∃ (a : Fin 256) (b : Fin 128), x = ix2 a b := ⟨x 0, x 1, by blk_ext []⟩
    have h0 : (y 0).val = a.val := h0
    have h1 : (y 1).val = 128 + b.val := h1
    refine (h1_at _ _ _ a b).trans (shifted_congr ?_ ?_ ?_ ?_)
    · intro e; pointwise; blk_ext []
    · intro e; pointwise; blk_ext []
    · intro e; pointwise; blk_ext []
    · show b.val = y1.val % 128; omega
  case piece8 =>
    obtain ⟨a, b, rfl⟩ : ∃ (a : Fin 256) (b : Fin 128), x = ix2 a b := ⟨x 0, x 1, by blk_ext []⟩
    have h0 : (y 0).val = a.val := h0
    have h1 : (y 1).val = b.val := h1
    refine (h0_at _ _ _ a b).trans (shifted_congr ?_ ?_ ?_ ?_)
    · intro e; pointwise; blk_ext []
    · intro e; pointwise; blk_ext []
    · intro e; pointwise; blk_ext []
    · show b.val = y1.val % 128; omega

/-- The same, at the index's two coordinates. -/
theorem out_at2 (c : Dev nD) (t : Fin cfg0.N) (a : Fin 256) (b : Fin 1152) :
    outsAt0 m c t (ix2 a b) = shifted (fun e : Fin 128 => X0_0 m c t (ix2 a (⟨b.val / 128 * 128 + e.val, by omega⟩ : Fin 1152)))
      (fun e => iblk m c 1 t (ix2 a e)) (fun e => iblk m c 2 t (ix2 a e)) ⟨b.val % 128, by omega⟩ :=
  out_at m c t (ix2 a b) a b rfl rfl

/-- THE OUTPUT ARRAY after the run is the reference's term. -/
theorem final (c : Dev nD) :
    (dats m 0 c).arrAt 3 cfg0.N = Cert.MlaQkRefIdeal.At.REF (m ((c.tc : Thread nD τ).loc main_arg0)) := by
  refine (dats m 0 c).arrAt_eq_of_covers 3 _ (by decide +kernel) fun t hf y => ?_
  have ht := t_lt t
  obtain ⟨e0, e1, e2, e3⟩ := idx t
  obtain ⟨a, b, rfl⟩ : ∃ (a : Fin 256) (b : Fin 1152), y = ix2 a b := ⟨y 0, y 1, by blk_ext []⟩
  have hemb : ((cfg0.win 3).blk t).view.emb (ix2 a b) = ix2 (⟨t.val * 256 + a.val, by omega⟩ : Fin 16384) b := by
    blk_ext [e3]
  have hrow : (⟨t.val % 8 * 256 + a.val, by omega⟩ : Fin 2048) = ⟨(t.val * 256 + a.val) % 2048, by omega⟩ :=
    Fin.ext (by show t.val % 8 * 256 + a.val = (t.val * 256 + a.val) % 2048; omega)
  blk_simp
  rw [after0_3, hemb, Cert.MlaQkRefIdeal.At.ref_at]
  refine (out_at2 m c t a b).trans ((shifted_half _ _ _ (fun i => Host.cos Cert.MlaQkRefIdeal.At.ang (ix2 (⟨t.val % 8 * 256 + a.val, by omega⟩ : Fin 2048) i))
    (fun i => Host.sin Cert.MlaQkRefIdeal.At.ang (ix2 (⟨t.val % 8 * 256 + a.val, by omega⟩ : Fin 2048) i)) _ (c_at m c t a _) (s_at m c t a _)).trans
    (half_congr (fun k => x_at m c t a _) (fun i => ?_) (fun i => ?_) rfl))
  · exact congrArg (fun s => Host.cos Cert.MlaQkRefIdeal.At.ang (ix2 s i)) hrow
  · exact congrArg (fun s => Host.sin Cert.MlaQkRefIdeal.At.ang (ix2 s i)) hrow

end Cert.MlaQkIdeal.Fin

end
-- ==== Proof.MlaQkMain.lean ====
/- The turned queries and key of the latent mixer: the kernel's program and the reference's end with the same result. -/
module

public import proofs.«01_k».proof.Defs
public import proofs.«01_k».proof.Proof.MlaQkFin
public import proofs.«01_k».proof.Proof.MlaQkRef

@[expose] public section

set_option maxRecDepth 16384

noncomputable section

namespace Cert.Proof

open Idealize.ShloMosaic Idealize.SL.Sem

/-- The kernel's turned queries and key of the latent mixer and the reference's end with the same array. -/
theorem algebraic_mlaqk : Cert.algebraic_MlaQkIdeal_MlaQkRefIdeal := by
  pair_intro
  · run_from Cert.MlaQkIdeal.Value.run_blocks m g
  · run_from Cert.MlaQkRefIdeal.At.run m' g'
    exact (Cert.MlaQkIdeal.Fin.final m c).symm

end Cert.Proof

end
-- ==== Proof.lean ====
/- The certificate: the frames, the preservations and the value claims, put together. -/
module

public import proofs.«01_k».proof.Defs
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaRefIdeal
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.InA
public import proofs.«01_k».proof.Proof.Gen.InA.Skeleton
public import proofs.«01_k».proof.Proof.Gen.InA.Launch
public import proofs.«01_k».proof.Proof.Gen.InA.Points
public import proofs.«01_k».proof.Proof.Gen.InA.Frame
public import proofs.«01_k».proof.Proof.Gen.InAIdeal
public import proofs.«01_k».proof.Proof.Gen.InAIdeal.Skeleton
public import proofs.«01_k».proof.Proof.Gen.InAIdeal.Launch
public import proofs.«01_k».proof.Proof.Gen.InAIdeal.Points
public import proofs.«01_k».proof.Proof.Gen.InAIdeal.Frame
public import proofs.«01_k».proof.Proof.Gen.InARefIdeal
public import proofs.«01_k».proof.Proof.Gen.InB
public import proofs.«01_k».proof.Proof.Gen.InB.Skeleton
public import proofs.«01_k».proof.Proof.Gen.InB.Launch
public import proofs.«01_k».proof.Proof.Gen.InB.Points
public import proofs.«01_k».proof.Proof.Gen.InB.Frame
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.InBRefIdeal
public import proofs.«01_k».proof.Proof.Gen.InC
public import proofs.«01_k».proof.Proof.Gen.InC.Skeleton
public import proofs.«01_k».proof.Proof.Gen.InC.Launch
public import proofs.«01_k».proof.Proof.Gen.InC.Points
public import proofs.«01_k».proof.Proof.Gen.InC.Frame
public import proofs.«01_k».proof.Proof.Gen.InCIdeal
public import proofs.«01_k».proof.Proof.Gen.InCIdeal.Skeleton
public import proofs.«01_k».proof.Proof.Gen.InCIdeal.Launch
public import proofs.«01_k».proof.Proof.Gen.InCIdeal.Points
public import proofs.«01_k».proof.Proof.Gen.InCIdeal.Frame
public import proofs.«01_k».proof.Proof.Gen.InCRefIdeal
public import proofs.«01_k».proof.Proof.Gen.InD
public import proofs.«01_k».proof.Proof.Gen.InD.Skeleton
public import proofs.«01_k».proof.Proof.Gen.InD.Launch
public import proofs.«01_k».proof.Proof.Gen.InD.Points
public import proofs.«01_k».proof.Proof.Gen.InD.Frame
public import proofs.«01_k».proof.Proof.Gen.InDIdeal
public import proofs.«01_k».proof.Proof.Gen.InDIdeal.Skeleton
public import proofs.«01_k».proof.Proof.Gen.InDIdeal.Launch
public import proofs.«01_k».proof.Proof.Gen.InDIdeal.Points
public import proofs.«01_k».proof.Proof.Gen.InDIdeal.Frame
public import proofs.«01_k».proof.Proof.Gen.InDRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Kvb
public import proofs.«01_k».proof.Proof.Gen.Kvb.Skeleton
public import proofs.«01_k».proof.Proof.Gen.Kvb.Launch
public import proofs.«01_k».proof.Proof.Gen.Kvb.Points
public import proofs.«01_k».proof.Proof.Gen.Kvb.Frame
public import proofs.«01_k».proof.Proof.Gen.KvbIdeal
public import proofs.«01_k».proof.Proof.Gen.KvbIdeal.Skeleton
public import proofs.«01_k».proof.Proof.Gen.KvbIdeal.Launch
public import proofs.«01_k».proof.Proof.Gen.KvbIdeal.Points
public import proofs.«01_k».proof.Proof.Gen.KvbIdeal.Frame
public import proofs.«01_k».proof.Proof.Gen.KvbRefIdeal
public import proofs.«01_k».proof.Proof.Gen.KvCtx
public import proofs.«01_k».proof.Proof.Gen.KvCtx.Skeleton
public import proofs.«01_k».proof.Proof.Gen.KvCtx.Launch
public import proofs.«01_k».proof.Proof.Gen.KvCtx.Points
public import proofs.«01_k».proof.Proof.Gen.KvCtx.Frame
public import proofs.«01_k».proof.Proof.Gen.KvCtxIdeal
public import proofs.«01_k».proof.Proof.Gen.KvCtxIdeal.Skeleton
public import proofs.«01_k».proof.Proof.Gen.KvCtxIdeal.Launch
public import proofs.«01_k».proof.Proof.Gen.KvCtxIdeal.Points
public import proofs.«01_k».proof.Proof.Gen.KvCtxIdeal.Frame
public import proofs.«01_k».proof.Proof.Gen.KvCtxRefIdeal
public import proofs.«01_k».proof.Proof.Gen.GdnPrep
public import proofs.«01_k».proof.Proof.Gen.GdnPrep.Skeleton
public import proofs.«01_k».proof.Proof.Gen.GdnPrep.Launch
public import proofs.«01_k».proof.Proof.Gen.GdnPrep.Points
public import proofs.«01_k».proof.Proof.Gen.GdnPrep.Frame
public import proofs.«01_k».proof.Proof.Gen.GdnPrepIdeal
public import proofs.«01_k».proof.Proof.Gen.GdnPrepIdeal.Skeleton
public import proofs.«01_k».proof.Proof.Gen.GdnPrepIdeal.Launch
public import proofs.«01_k».proof.Proof.Gen.GdnPrepIdeal.Points
public import proofs.«01_k».proof.Proof.Gen.GdnPrepIdeal.Frame
public import proofs.«01_k».proof.Proof.Gen.GdnPrepRefIdeal
public import proofs.«01_k».proof.Proof.Gen.GdnPost
public import proofs.«01_k».proof.Proof.Gen.GdnPost.Skeleton
public import proofs.«01_k».proof.Proof.Gen.GdnPost.Launch
public import proofs.«01_k».proof.Proof.Gen.GdnPost.Points
public import proofs.«01_k».proof.Proof.Gen.GdnPost.Frame
public import proofs.«01_k».proof.Proof.Gen.GdnPostIdeal
public import proofs.«01_k».proof.Proof.Gen.GdnPostIdeal.Skeleton
public import proofs.«01_k».proof.Proof.Gen.GdnPostIdeal.Launch
public import proofs.«01_k».proof.Proof.Gen.GdnPostIdeal.Points
public import proofs.«01_k».proof.Proof.Gen.GdnPostIdeal.Frame
public import proofs.«01_k».proof.Proof.Gen.GdnPostRefIdeal
public import proofs.«01_k».proof.Proof.Gen.GdnBg
public import proofs.«01_k».proof.Proof.Gen.GdnBg.Skeleton
public import proofs.«01_k».proof.Proof.Gen.GdnBg.Launch
public import proofs.«01_k».proof.Proof.Gen.GdnBg.Points
public import proofs.«01_k».proof.Proof.Gen.GdnBg.Frame
public import proofs.«01_k».proof.Proof.Gen.GdnBgIdeal
public import proofs.«01_k».proof.Proof.Gen.GdnBgIdeal.Skeleton
public import proofs.«01_k».proof.Proof.Gen.GdnBgIdeal.Launch
public import proofs.«01_k».proof.Proof.Gen.GdnBgIdeal.Points
public import proofs.«01_k».proof.Proof.Gen.GdnBgIdeal.Frame
public import proofs.«01_k».proof.Proof.Gen.GdnBgRefIdeal
public import proofs.«01_k».proof.Proof.Gen.QkS
public import proofs.«01_k».proof.Proof.Gen.QkS.Skeleton
public import proofs.«01_k».proof.Proof.Gen.QkS.Launch
public import proofs.«01_k».proof.Proof.Gen.QkS.Points
public import proofs.«01_k».proof.Proof.Gen.QkS.Frame
public import proofs.«01_k».proof.Proof.Gen.QkSIdeal
public import proofs.«01_k».proof.Proof.Gen.QkSIdeal.Skeleton
public import proofs.«01_k».proof.Proof.Gen.QkSIdeal.Launch
public import proofs.«01_k».proof.Proof.Gen.QkSIdeal.Points
public import proofs.«01_k».proof.Proof.Gen.QkSIdeal.Frame
public import proofs.«01_k».proof.Proof.Gen.QkSRefIdeal
public import proofs.«01_k».proof.Proof.Gen.MlaQk
public import proofs.«01_k».proof.Proof.Gen.MlaQk.Skeleton
public import proofs.«01_k».proof.Proof.Gen.MlaQk.Launch
public import proofs.«01_k».proof.Proof.Gen.MlaQk.Points
public import proofs.«01_k».proof.Proof.Gen.MlaQk.Frame
public import proofs.«01_k».proof.Proof.Gen.MlaQkIdeal
public import proofs.«01_k».proof.Proof.Gen.MlaQkIdeal.Skeleton
public import proofs.«01_k».proof.Proof.Gen.MlaQkIdeal.Launch
public import proofs.«01_k».proof.Proof.Gen.MlaQkIdeal.Points
public import proofs.«01_k».proof.Proof.Gen.MlaQkIdeal.Frame
public import proofs.«01_k».proof.Proof.Gen.MlaQkRefIdeal
public import proofs.«01_k».proof.Proof.Gen.PeerQ
public import proofs.«01_k».proof.Proof.Gen.PeerQ.Skeleton
public import proofs.«01_k».proof.Proof.Gen.PeerQ.Launch
public import proofs.«01_k».proof.Proof.Gen.PeerQ.Points
public import proofs.«01_k».proof.Proof.Gen.PeerQ.Frame
public import proofs.«01_k».proof.Proof.Gen.PeerQIdeal
public import proofs.«01_k».proof.Proof.Gen.PeerQIdeal.Skeleton
public import proofs.«01_k».proof.Proof.Gen.PeerQIdeal.Launch
public import proofs.«01_k».proof.Proof.Gen.PeerQIdeal.Points
public import proofs.«01_k».proof.Proof.Gen.PeerQIdeal.Frame
public import proofs.«01_k».proof.Proof.Gen.PeerQRefIdeal
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.FinalP
public import proofs.«01_k».proof.Proof.Gen.FinalP.Skeleton
public import proofs.«01_k».proof.Proof.Gen.FinalP.Launch
public import proofs.«01_k».proof.Proof.Gen.FinalP.Points
public import proofs.«01_k».proof.Proof.Gen.FinalP.Frame
public import proofs.«01_k».proof.Proof.Gen.FinalPIdeal
public import proofs.«01_k».proof.Proof.Gen.FinalPIdeal.Skeleton
public import proofs.«01_k».proof.Proof.Gen.FinalPIdeal.Launch
public import proofs.«01_k».proof.Proof.Gen.FinalPIdeal.Points
public import proofs.«01_k».proof.Proof.Gen.FinalPIdeal.Frame
public import proofs.«01_k».proof.Proof.Gen.FinalPRefIdeal
public import proofs.«01_k».proof.Proof.Gen.Qk
public import proofs.«01_k».proof.Proof.Gen.Qk.Skeleton
public import proofs.«01_k».proof.Proof.Gen.Qk.Launch
public import proofs.«01_k».proof.Proof.Gen.Qk.Points
public import proofs.«01_k».proof.Proof.Gen.Qk.Frame
public import proofs.«01_k».proof.Proof.Gen.QkIdeal
public import proofs.«01_k».proof.Proof.Gen.QkIdeal.Skeleton
public import proofs.«01_k».proof.Proof.Gen.QkIdeal.Launch
public import proofs.«01_k».proof.Proof.Gen.QkIdeal.Points
public import proofs.«01_k».proof.Proof.Gen.QkIdeal.Frame
public import proofs.«01_k».proof.Proof.Gen.QkRefIdeal
public import proofs.«01_k».proof.Proof.Gen.Pre_gqa_finite
public import proofs.«01_k».proof.Proof.Gen.Pre_mla_finite
public import proofs.«01_k».proof.Proof.Gen.Pre_peerq_finite
public import proofs.«01_k».proof.Proof.Gen.GqaIdeal.Value
public import proofs.«01_k».proof.Proof.Gen.GqaRefIdeal.Run
public import proofs.«01_k».proof.Proof.Gen.MlaIdeal.Value
public import proofs.«01_k».proof.Proof.Gen.MlaRefIdeal.Run
public import proofs.«01_k».proof.Proof.Gen.InAIdeal.Value
public import proofs.«01_k».proof.Proof.Gen.InARefIdeal.Run
public import proofs.«01_k».proof.Proof.Gen.InBIdeal.Value
public import proofs.«01_k».proof.Proof.Gen.InBRefIdeal.Run
public import proofs.«01_k».proof.Proof.Gen.InCIdeal.Value
public import proofs.«01_k».proof.Proof.Gen.InCRefIdeal.Run
public import proofs.«01_k».proof.Proof.Gen.InDIdeal.Value
public import proofs.«01_k».proof.Proof.Gen.InDRefIdeal.Run
public import proofs.«01_k».proof.Proof.Gen.OutIdeal.Value
public import proofs.«01_k».proof.Proof.Gen.OutRefIdeal.Run
public import proofs.«01_k».proof.Proof.Gen.KvbRefIdeal.Run
public import proofs.«01_k».proof.Proof.Gen.KvCtxIdeal.Value
public import proofs.«01_k».proof.Proof.Gen.KvCtxRefIdeal.Run
public import proofs.«01_k».proof.Proof.Gen.GdnPrepIdeal.Value
public import proofs.«01_k».proof.Proof.Gen.GdnPrepRefIdeal.Run
public import proofs.«01_k».proof.Proof.Gen.GdnPostIdeal.Value
public import proofs.«01_k».proof.Proof.Gen.GdnPostRefIdeal.Run
public import proofs.«01_k».proof.Proof.Gen.GdnBgIdeal.Value
public import proofs.«01_k».proof.Proof.Gen.GdnBgRefIdeal.Run
public import proofs.«01_k».proof.Proof.Gen.QkSIdeal.Value
public import proofs.«01_k».proof.Proof.Gen.QkSRefIdeal.Run
public import proofs.«01_k».proof.Proof.Gen.MlaQkIdeal.Value
public import proofs.«01_k».proof.Proof.Gen.MlaQkRefIdeal.Run
public import proofs.«01_k».proof.Proof.Gen.PeerQIdeal.Value
public import proofs.«01_k».proof.Proof.Gen.PeerQRefIdeal.Run
public import proofs.«01_k».proof.Proof.Gen.FinalIdeal.Value
public import proofs.«01_k».proof.Proof.Gen.FinalRefIdeal.Run
public import proofs.«01_k».proof.Proof.Gen.FinalPIdeal.Value
public import proofs.«01_k».proof.Proof.Gen.FinalPRefIdeal.Run
public import proofs.«01_k».proof.Proof.Gen.QkIdeal.Value
public import proofs.«01_k».proof.Proof.Gen.QkRefIdeal.Run
public import proofs.«01_k».proof.Proof.GqaMain
public import proofs.«01_k».proof.Proof.MlaMain
public import proofs.«01_k».proof.Proof.InAMain
public import proofs.«01_k».proof.Proof.InBMain
public import proofs.«01_k».proof.Proof.InCMain
public import proofs.«01_k».proof.Proof.InDMain
public import proofs.«01_k».proof.Proof.OutMain
public import proofs.«01_k».proof.Proof.FinalMain
public import proofs.«01_k».proof.Proof.FinalPMain
public import proofs.«01_k».proof.Proof.QkMain
public import proofs.«01_k».proof.Proof.PeerQMain
public import proofs.«01_k».proof.Proof.KvbRun
public import proofs.«01_k».proof.Proof.KvbMain
public import proofs.«01_k».proof.Proof.KvCtxMain
public import proofs.«01_k».proof.Proof.GdnPostMain
public import proofs.«01_k».proof.Proof.GdnPrepMain
public import proofs.«01_k».proof.Proof.GdnBgMain
public import proofs.«01_k».proof.Proof.QkSMain
public import proofs.«01_k».proof.Proof.MlaQkMain
public import Idealize.ShloMosaic.Adequacy
public import Idealize.ShloMosaic.Init

@[expose] public section

noncomputable section

namespace Cert.Proof

open Idealize.ShloMosaic Idealize.SL.Sem Cert.Gqa

/-- Every claim of the certificate. -/
theorem claim : Cert.Claim := ⟨Cert.Gqa.Gen.facts, Cert.GqaIdeal.Gen.facts, Cert.GqaRefIdeal.Gen.facts, Cert.Mla.Gen.facts, Cert.MlaIdeal.Gen.facts, Cert.MlaRefIdeal.Gen.facts, Cert.InA.Gen.facts, Cert.InAIdeal.Gen.facts, Cert.InARefIdeal.Gen.facts, Cert.InB.Gen.facts, Cert.InBIdeal.Gen.facts, Cert.InBRefIdeal.Gen.facts, Cert.InC.Gen.facts, Cert.InCIdeal.Gen.facts, Cert.InCRefIdeal.Gen.facts, Cert.InD.Gen.facts, Cert.InDIdeal.Gen.facts, Cert.InDRefIdeal.Gen.facts, Cert.Out.Gen.facts, Cert.OutIdeal.Gen.facts, Cert.OutRefIdeal.Gen.facts, Cert.Kvb.Gen.facts, Cert.KvbIdeal.Gen.facts, Cert.KvbRefIdeal.Gen.facts, Cert.KvCtx.Gen.facts, Cert.KvCtxIdeal.Gen.facts, Cert.KvCtxRefIdeal.Gen.facts, Cert.GdnPrep.Gen.facts, Cert.GdnPrepIdeal.Gen.facts, Cert.GdnPrepRefIdeal.Gen.facts, Cert.GdnPost.Gen.facts, Cert.GdnPostIdeal.Gen.facts, Cert.GdnPostRefIdeal.Gen.facts, Cert.GdnBg.Gen.facts, Cert.GdnBgIdeal.Gen.facts, Cert.GdnBgRefIdeal.Gen.facts, Cert.QkS.Gen.facts, Cert.QkSIdeal.Gen.facts, Cert.QkSRefIdeal.Gen.facts, Cert.MlaQk.Gen.facts, Cert.MlaQkIdeal.Gen.facts, Cert.MlaQkRefIdeal.Gen.facts, Cert.PeerQ.Gen.facts, Cert.PeerQIdeal.Gen.facts, Cert.PeerQRefIdeal.Gen.facts, Cert.Final.Gen.facts, Cert.FinalIdeal.Gen.facts, Cert.FinalRefIdeal.Gen.facts, Cert.FinalP.Gen.facts, Cert.FinalPIdeal.Gen.facts, Cert.FinalPRefIdeal.Gen.facts, Cert.Qk.Gen.facts, Cert.QkIdeal.Gen.facts, Cert.QkRefIdeal.Gen.facts, Cert.Pre_gqa_finite.Gen.facts, Cert.Pre_mla_finite.Gen.facts, Cert.Pre_peerq_finite.Gen.facts,
  fun m ρ _ => Cert.Gqa.Gen.frame m ρ,
  fun m ρ _ => Cert.GqaIdeal.Gen.frame m ρ,
  fun m ρ _ => Cert.GqaIdeal.Gen.frame m ρ,
  fun m ρ _ => (θ_run _ _ _).mono (fun r h => ⟨fun c => (h c).2, sem_eq_zero_of_no_sems (by decide) r.2⟩) (Cert.GqaRefIdeal.Value.run m ρ),
  fun m ρ _ => (θ_run _ _ _).mono (fun r h => ⟨fun c => (h c).2, sem_eq_zero_of_no_sems (by decide) r.2⟩) (Cert.GqaRefIdeal.Value.run m ρ),
  fun m ρ _ => Cert.Mla.Gen.frame m ρ,
  fun m ρ _ => Cert.MlaIdeal.Gen.frame m ρ,
  fun m ρ _ => Cert.MlaIdeal.Gen.frame m ρ,
  fun m ρ _ => (θ_run _ _ _).mono (fun r h => ⟨fun c => (h c).2, sem_eq_zero_of_no_sems (by decide) r.2⟩) (Cert.MlaRefIdeal.Value.run m ρ),
  fun m ρ _ => (θ_run _ _ _).mono (fun r h => ⟨fun c => (h c).2, sem_eq_zero_of_no_sems (by decide) r.2⟩) (Cert.MlaRefIdeal.Value.run m ρ),
  fun m ρ _ => Cert.InA.Gen.frame m ρ,
  fun m ρ _ => Cert.InAIdeal.Gen.frame m ρ,
  fun m ρ _ => (θ_run _ _ _).mono (fun r h => ⟨fun c => (h c).2, sem_eq_zero_of_no_sems (by decide) r.2⟩) (Cert.InARefIdeal.Value.run m ρ),
  fun m ρ _ => Cert.InB.Gen.frame m ρ,
  fun m ρ _ => Cert.InBIdeal.Gen.frame m ρ,
  fun m ρ _ => (θ_run _ _ _).mono (fun r h => ⟨fun c => (h c).2, sem_eq_zero_of_no_sems (by decide) r.2⟩) (Cert.InBRefIdeal.Value.run m ρ),
  fun m ρ _ => Cert.InC.Gen.frame m ρ,
  fun m ρ _ => Cert.InCIdeal.Gen.frame m ρ,
  fun m ρ _ => (θ_run _ _ _).mono (fun r h => ⟨fun c => (h c).2, sem_eq_zero_of_no_sems (by decide) r.2⟩) (Cert.InCRefIdeal.Value.run m ρ),
  fun m ρ _ => Cert.InD.Gen.frame m ρ,
  fun m ρ _ => Cert.InDIdeal.Gen.frame m ρ,
  fun m ρ _ => (θ_run _ _ _).mono (fun r h => ⟨fun c => (h c).2, sem_eq_zero_of_no_sems (by decide) r.2⟩) (Cert.InDRefIdeal.Value.run m ρ),
  fun m ρ _ => Cert.Out.Gen.frame m ρ,
  fun m ρ _ => Cert.OutIdeal.Gen.frame m ρ,
  fun m ρ _ => (θ_run _ _ _).mono (fun r h => ⟨fun c => (h c).2, sem_eq_zero_of_no_sems (by decide) r.2⟩) (Cert.OutRefIdeal.Value.run m ρ),
  fun m ρ _ => Cert.Kvb.Hand.frame m ρ,
  fun m ρ _ => Cert.KvbIdeal.Hand.frame m ρ,
  fun m ρ _ => (θ_run _ _ _).mono (fun r h => ⟨fun c => (h c).2.2, sem_eq_zero_of_no_sems (by decide) r.2⟩) (Cert.KvbRefIdeal.Value.run m ρ),
  fun m ρ _ => Cert.KvCtx.Gen.frame m ρ,
  fun m ρ _ => Cert.KvCtxIdeal.Gen.frame m ρ,
  fun m ρ _ => (θ_run _ _ _).mono (fun r h => ⟨fun c => (h c).2, sem_eq_zero_of_no_sems (by decide) r.2⟩) (Cert.KvCtxRefIdeal.Value.run m ρ),
  fun m ρ _ => Cert.GdnPrep.Gen.frame m ρ,
  fun m ρ _ => Cert.GdnPrepIdeal.Gen.frame m ρ,
  fun m ρ _ => (θ_run _ _ _).mono (fun r h => ⟨fun c => (h c).2, sem_eq_zero_of_no_sems (by decide) r.2⟩) (Cert.GdnPrepRefIdeal.Value.run m ρ),
  fun m ρ _ => Cert.GdnPost.Gen.frame m ρ,
  fun m ρ _ => Cert.GdnPostIdeal.Gen.frame m ρ,
  fun m ρ _ => (θ_run _ _ _).mono (fun r h => ⟨fun c => (h c).2, sem_eq_zero_of_no_sems (by decide) r.2⟩) (Cert.GdnPostRefIdeal.Value.run m ρ),
  fun m ρ _ => Cert.GdnBg.Gen.frame m ρ,
  fun m ρ _ => Cert.GdnBgIdeal.Gen.frame m ρ,
  fun m ρ _ => (θ_run _ _ _).mono (fun r h => ⟨fun c => (h c).2, sem_eq_zero_of_no_sems (by decide) r.2⟩) (Cert.GdnBgRefIdeal.Value.run m ρ),
  fun m ρ _ => Cert.QkS.Gen.frame m ρ,
  fun m ρ _ => Cert.QkSIdeal.Gen.frame m ρ,
  fun m ρ _ => (θ_run _ _ _).mono (fun r h => ⟨fun c => (h c).2, sem_eq_zero_of_no_sems (by decide) r.2⟩) (Cert.QkSRefIdeal.Value.run m ρ),
  fun m ρ _ => Cert.MlaQk.Gen.frame m ρ,
  fun m ρ _ => Cert.MlaQkIdeal.Gen.frame m ρ,
  fun m ρ _ => (θ_run _ _ _).mono (fun r h => ⟨fun c => (h c).2, sem_eq_zero_of_no_sems (by decide) r.2⟩) (Cert.MlaQkRefIdeal.Value.run m ρ),
  fun m ρ _ => Cert.PeerQ.Gen.frame m ρ,
  fun m ρ _ => Cert.PeerQIdeal.Gen.frame m ρ,
  fun m ρ _ => Cert.PeerQIdeal.Gen.frame m ρ,
  fun m ρ _ => (θ_run _ _ _).mono (fun r h => ⟨fun c => (h c).2.2, sem_eq_zero_of_no_sems (by decide) r.2⟩) (Cert.PeerQRefIdeal.Value.run m ρ),
  fun m ρ _ => (θ_run _ _ _).mono (fun r h => ⟨fun c => (h c).2.2, sem_eq_zero_of_no_sems (by decide) r.2⟩) (Cert.PeerQRefIdeal.Value.run m ρ),
  fun m ρ _ => Cert.Final.Gen.frame m ρ,
  fun m ρ _ => Cert.FinalIdeal.Gen.frame m ρ,
  fun m ρ _ => (θ_run _ _ _).mono (fun r h => ⟨fun c => (h c).2, sem_eq_zero_of_no_sems (by decide) r.2⟩) (Cert.FinalRefIdeal.Value.run m ρ),
  fun m ρ _ => Cert.FinalP.Gen.frame m ρ,
  fun m ρ _ => Cert.FinalPIdeal.Gen.frame m ρ,
  fun m ρ _ => (θ_run _ _ _).mono (fun r h => ⟨fun c => (h c).2, sem_eq_zero_of_no_sems (by decide) r.2⟩) (Cert.FinalPRefIdeal.Value.run m ρ),
  fun m ρ _ => Cert.Qk.Gen.frame m ρ,
  fun m ρ _ => Cert.QkIdeal.Gen.frame m ρ,
  fun m ρ _ => (θ_run _ _ _).mono (fun r h => ⟨fun c => (h c).2, sem_eq_zero_of_no_sems (by decide) r.2⟩) (Cert.QkRefIdeal.Value.run m ρ),
  trivial,
  algebraic_gqa,
  trivial,
  algebraic_mla,
  trivial,
  algebraic_ina,
  trivial,
  algebraic_inb,
  trivial,
  algebraic_inc,
  trivial,
  algebraic_ind,
  trivial,
  algebraic_out,
  trivial,
  algebraic_kvb,
  trivial,
  algebraic_kvctx,
  trivial,
  algebraic_gdnprep,
  trivial,
  algebraic_gdnpost,
  trivial,
  algebraic_gdnbg,
  trivial,
  algebraic_qks,
  trivial,
  algebraic_mlaqk,
  trivial,
  algebraic_peerq,
  trivial,
  algebraic_final,
  trivial,
  algebraic_finalp,
  trivial,
  algebraic_qk⟩

end Cert.Proof

end
